-- ==== Defs.lean ====
def Pre_GateLayout (m : (ℓ : Loc Cert.GateLayout.nD Cert.GateLayout.τ Cert.GateLayout.sig) → Buf (Elt Bits) ℓ) : Prop :=
  True

def Pre_GateLayoutIdeal (m : (ℓ : Loc Cert.GateLayoutIdeal.nD Cert.GateLayoutIdeal.τ Cert.GateLayoutIdeal.sig) → Buf (Elt Ideal) ℓ) : Prop :=
  True

def Pre_GateLayoutRefIdeal (m : (ℓ : Loc Cert.GateLayoutRefIdeal.nD Cert.GateLayoutRefIdeal.τ Cert.GateLayoutRefIdeal.sig) → Buf (Elt Ideal) ℓ) : Prop :=
  True

def Pre_GateLayoutRef (m : (ℓ : Loc Cert.GateLayoutRef.nD Cert.GateLayoutRef.τ Cert.GateLayoutRef.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_SgSample (m : (ℓ : Loc Cert.SgSample.nD Cert.SgSample.τ Cert.SgSample.sig) → Buf (Elt Bits) ℓ) : Prop :=
  True

def Pre_SgSampleIdeal (m : (ℓ : Loc Cert.SgSampleIdeal.nD Cert.SgSampleIdeal.τ Cert.SgSampleIdeal.sig) → Buf (Elt Ideal) ℓ) : Prop :=
  True

def Pre_SgSampleRefIdeal (m : (ℓ : Loc Cert.SgSampleRefIdeal.nD Cert.SgSampleRefIdeal.τ Cert.SgSampleRefIdeal.sig) → Buf (Elt Ideal) ℓ) : Prop :=
  True

def Pre_SsmSample (m : (ℓ : Loc Cert.SsmSample.nD Cert.SsmSample.τ Cert.SsmSample.sig) → Buf (Elt Bits) ℓ) : Prop :=
  True

def Pre_SsmSampleIdeal (m : (ℓ : Loc Cert.SsmSampleIdeal.nD Cert.SsmSampleIdeal.τ Cert.SsmSampleIdeal.sig) → Buf (Elt Ideal) ℓ) : Prop :=
  True

def Pre_SsmSampleRefIdeal (m : (ℓ : Loc Cert.SsmSampleRefIdeal.nD Cert.SsmSampleRefIdeal.τ Cert.SsmSampleRefIdeal.sig) → Buf (Elt Ideal) ℓ) : Prop :=
  True

def Pre_DnSample (m : (ℓ : Loc Cert.DnSample.nD Cert.DnSample.τ Cert.DnSample.sig) → Buf (Elt Bits) ℓ) : Prop :=
  True

def Pre_DnSampleIdeal (m : (ℓ : Loc Cert.DnSampleIdeal.nD Cert.DnSampleIdeal.τ Cert.DnSampleIdeal.sig) → Buf (Elt Ideal) ℓ) : Prop :=
  True

def Pre_DnSampleRefIdeal (m : (ℓ : Loc Cert.DnSampleRefIdeal.nD Cert.DnSampleRefIdeal.τ Cert.DnSampleRefIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite_k [hPre_finite_k : Cert.Pre_finite_k.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite_k.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5))) = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_finite_k [hPre_finite_k : Cert.Pre_finite_k.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_finite_k.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5))) = (fun _ => 1#1)

def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptRefIdeal (m : (ℓ : Loc Cert.AttnPromptRefIdeal.nD Cert.AttnPromptRefIdeal.τ Cert.AttnPromptRefIdeal.sig) → Buf (Elt Ideal) ℓ) : Prop :=
  True

def Pre_DnPrompt (m : (ℓ : Loc Cert.DnPrompt.nD Cert.DnPrompt.τ Cert.DnPrompt.sig) → Buf (Elt Bits) ℓ) : Prop :=
  True

def Pre_DnPromptIdeal (m : (ℓ : Loc Cert.DnPromptIdeal.nD Cert.DnPromptIdeal.τ Cert.DnPromptIdeal.sig) → Buf (Elt Ideal) ℓ) : Prop :=
  True

def Pre_DnPromptRefIdeal (m : (ℓ : Loc Cert.DnPromptRefIdeal.nD Cert.DnPromptRefIdeal.τ Cert.DnPromptRefIdeal.sig) → Buf (Elt Ideal) ℓ) : Prop :=
  True

def quiescent_GateLayout [hGateLayout : Cert.GateLayout.Facts] : Prop :=
  ∀ (m : (ℓ : Loc Cert.GateLayout.nD Cert.GateLayout.τ Cert.GateLayout.sig) → Buf (Elt Bits) ℓ) (g : Dev Cert.GateLayout.nD → PrngReg), Pre_GateLayout m →
    θ_run (Cert.GateLayout.defs (F := Bits)) (onTc (τ := Cert.GateLayout.τ) (Cert.GateLayout.main (F := Bits))) ⟨m, fun _ => 0, g⟩ (fun r => (∀ c : Dev Cert.GateLayout.nD,
      r.2.mem ((c.tc : Thread Cert.GateLayout.nD Cert.GateLayout.τ).loc Cert.GateLayout.main_arg0) = m ((c.tc : Thread Cert.GateLayout.nD Cert.GateLayout.τ).loc Cert.GateLayout.main_arg0)
      ∧ r.2.mem ((c.tc : Thread Cert.GateLayout.nD Cert.GateLayout.τ).loc Cert.GateLayout.main_arg1) = m ((c.tc : Thread Cert.GateLayout.nD Cert.GateLayout.τ).loc Cert.GateLayout.main_arg1))
      ∧ r.2.sem = fun _ => 0)

def quiescent_GateLayoutIdeal [hGateLayoutIdeal : Cert.GateLayoutIdeal.Facts] : Prop :=
  ∀ (m : (ℓ : Loc Cert.GateLayoutIdeal.nD Cert.GateLayoutIdeal.τ Cert.GateLayoutIdeal.sig) → Buf (Elt Ideal) ℓ) (g : Dev Cert.GateLayoutIdeal.nD → PrngReg), Pre_GateLayoutIdeal m →
    θ_run (Cert.GateLayoutIdeal.defs (F := Ideal)) (onTc (τ := Cert.GateLayoutIdeal.τ) (Cert.GateLayoutIdeal.main (F := Ideal))) ⟨m, fun _ => 0, g⟩ (fun r => (∀ c : Dev Cert.GateLayoutIdeal.nD,
      r.2.mem ((c.tc : Thread Cert.GateLayoutIdeal.nD Cert.GateLayoutIdeal.τ).loc Cert.GateLayoutIdeal.main_arg0) = m ((c.tc : Thread Cert.GateLayoutIdeal.nD Cert.GateLayoutIdeal.τ).loc Cert.GateLayoutIdeal.main_arg0)
      ∧ r.2.mem ((c.tc : Thread Cert.GateLayoutIdeal.nD Cert.GateLayoutIdeal.τ).loc Cert.GateLayoutIdeal.main_arg1) = m ((c.tc : Thread Cert.GateLayoutIdeal.nD Cert.GateLayoutIdeal.τ).loc Cert.GateLayoutIdeal.main_arg1))
      ∧ r.2.sem = fun _ => 0)

def quiescent_GateLayoutRefIdeal [hGateLayoutRefIdeal : Cert.GateLayoutRefIdeal.Facts] : Prop :=
  ∀ (m : (ℓ : Loc Cert.GateLayoutRefIdeal.nD Cert.GateLayoutRefIdeal.τ Cert.GateLayoutRefIdeal.sig) → Buf (Elt Ideal) ℓ) (g : Dev Cert.GateLayoutRefIdeal.nD → PrngReg), Pre_GateLayoutRefIdeal m →
    θ_run (Cert.GateLayoutRefIdeal.defs (F := Ideal)) (onTc (τ := Cert.GateLayoutRefIdeal.τ) (Cert.GateLayoutRefIdeal.main (F := Ideal))) ⟨m, fun _ => 0, g⟩ (fun r => (∀ c : Dev Cert.GateLayoutRefIdeal.nD,
      r.2.mem ((c.tc : Thread Cert.GateLayoutRefIdeal.nD Cert.GateLayoutRefIdeal.τ).loc Cert.GateLayoutRefIdeal.main_arg0) = m ((c.tc : Thread Cert.GateLayoutRefIdeal.nD Cert.GateLayoutRefIdeal.τ).loc Cert.GateLayoutRefIdeal.main_arg0)
      ∧ r.2.mem ((c.tc : Thread Cert.GateLayoutRefIdeal.nD Cert.GateLayoutRefIdeal.τ).loc Cert.GateLayoutRefIdeal.main_arg1) = m ((c.tc : Thread Cert.GateLayoutRefIdeal.nD Cert.GateLayoutRefIdeal.τ).loc Cert.GateLayoutRefIdeal.main_arg1))
      ∧ r.2.sem = fun _ => 0)

def quiescent_GateLayoutRef [hGateLayoutRef : Cert.GateLayoutRef.Facts] : Prop :=
  ∀ (m : (ℓ : Loc Cert.GateLayoutRef.nD Cert.GateLayoutRef.τ Cert.GateLayoutRef.sig) → Buf (Elt Bits) ℓ) (g : Dev Cert.GateLayoutRef.nD → PrngReg), Pre_GateLayoutRef m →
    θ_run (Cert.GateLayoutRef.defs (F := Bits)) (onTc (τ := Cert.GateLayoutRef.τ) (Cert.GateLayoutRef.main (F := Bits))) ⟨m, fun _ => 0, g⟩ (fun r => (∀ c : Dev Cert.GateLayoutRef.nD,
      r.2.mem ((c.tc : Thread Cert.GateLayoutRef.nD Cert.GateLayoutRef.τ).loc Cert.GateLayoutRef.main_arg0) = m ((c.tc : Thread Cert.GateLayoutRef.nD Cert.GateLayoutRef.τ).loc Cert.GateLayoutRef.main_arg0)
      ∧ r.2.mem ((c.tc : Thread Cert.GateLayoutRef.nD Cert.GateLayoutRef.τ).loc Cert.GateLayoutRef.main_arg1) = m ((c.tc : Thread Cert.GateLayoutRef.nD Cert.GateLayoutRef.τ).loc Cert.GateLayoutRef.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_SgSample [hSgSample : Cert.SgSample.Facts] : Prop :=
  ∀ (m : (ℓ : Loc Cert.SgSample.nD Cert.SgSample.τ Cert.SgSample.sig) → Buf (Elt Bits) ℓ) (g : Dev Cert.SgSample.nD → PrngReg), Pre_SgSample m →
    θ_run (Cert.SgSample.defs (F := Bits)) (onTc (τ := Cert.SgSample.τ) (Cert.SgSample.main (F := Bits))) ⟨m, fun _ => 0, g⟩ (fun r => (∀ c : Dev Cert.SgSample.nD,
      r.2.mem ((c.tc : Thread Cert.SgSample.nD Cert.SgSample.τ).loc Cert.SgSample.main_arg0) = m ((c.tc : Thread Cert.SgSample.nD Cert.SgSample.τ).loc Cert.SgSample.main_arg0)
      ∧ r.2.mem ((c.tc : Thread Cert.SgSample.nD Cert.SgSample.τ).loc Cert.SgSample.main_arg1) = m ((c.tc : Thread Cert.SgSample.nD Cert.SgSample.τ).loc Cert.SgSample.main_arg1)
      ∧ r.2.mem ((c.tc : Thread Cert.SgSample.nD Cert.SgSample.τ).loc Cert.SgSample.main_arg2) = m ((c.tc : Thread Cert.SgSample.nD Cert.SgSample.τ).loc Cert.SgSample.main_arg2)
      ∧ r.2.mem ((c.tc : Thread Cert.SgSample.nD Cert.SgSample.τ).loc Cert.SgSample.main_arg3) = m ((c.tc : Thread Cert.SgSample.nD Cert.SgSample.τ).loc Cert.SgSample.main_arg3))
      ∧ r.2.sem = fun _ => 0)

def quiescent_SgSampleIdeal [hSgSampleIdeal : Cert.SgSampleIdeal.Facts] : Prop :=
  ∀ (m : (ℓ : Loc Cert.SgSampleIdeal.nD Cert.SgSampleIdeal.τ Cert.SgSampleIdeal.sig) → Buf (Elt Ideal) ℓ) (g : Dev Cert.SgSampleIdeal.nD → PrngReg), Pre_SgSampleIdeal m →
    θ_run (Cert.SgSampleIdeal.defs (F := Ideal)) (onTc (τ := Cert.SgSampleIdeal.τ) (Cert.SgSampleIdeal.main (F := Ideal))) ⟨m, fun _ => 0, g⟩ (fun r => (∀ c : Dev Cert.SgSampleIdeal.nD,
      r.2.mem ((c.tc : Thread Cert.SgSampleIdeal.nD Cert.SgSampleIdeal.τ).loc Cert.SgSampleIdeal.main_arg0) = m ((c.tc : Thread Cert.SgSampleIdeal.nD Cert.SgSampleIdeal.τ).loc Cert.SgSampleIdeal.main_arg0)
      ∧ r.2.mem ((c.tc : Thread Cert.SgSampleIdeal.nD Cert.SgSampleIdeal.τ).loc Cert.SgSampleIdeal.main_arg1) = m ((c.tc : Thread Cert.SgSampleIdeal.nD Cert.SgSampleIdeal.τ).loc Cert.SgSampleIdeal.main_arg1)
      ∧ r.2.mem ((c.tc : Thread Cert.SgSampleIdeal.nD Cert.SgSampleIdeal.τ).loc Cert.SgSampleIdeal.main_arg2) = m ((c.tc : Thread Cert.SgSampleIdeal.nD Cert.SgSampleIdeal.τ).loc Cert.SgSampleIdeal.main_arg2)
      ∧ r.2.mem ((c.tc : Thread Cert.SgSampleIdeal.nD Cert.SgSampleIdeal.τ).loc Cert.SgSampleIdeal.main_arg3) = m ((c.tc : Thread Cert.SgSampleIdeal.nD Cert.SgSampleIdeal.τ).loc Cert.SgSampleIdeal.main_arg3))
      ∧ r.2.sem = fun _ => 0)

def quiescent_SgSampleRefIdeal [hSgSampleRefIdeal : Cert.SgSampleRefIdeal.Facts] : Prop :=
  ∀ (m : (ℓ : Loc Cert.SgSampleRefIdeal.nD Cert.SgSampleRefIdeal.τ Cert.SgSampleRefIdeal.sig) → Buf (Elt Ideal) ℓ) (g : Dev Cert.SgSampleRefIdeal.nD → PrngReg), Pre_SgSampleRefIdeal m →
    θ_run (Cert.SgSampleRefIdeal.defs (F := Ideal)) (onTc (τ := Cert.SgSampleRefIdeal.τ) (Cert.SgSampleRefIdeal.main (F := Ideal))) ⟨m, fun _ => 0, g⟩ (fun r => (∀ c : Dev Cert.SgSampleRefIdeal.nD,
      r.2.mem ((c.tc : Thread Cert.SgSampleRefIdeal.nD Cert.SgSampleRefIdeal.τ).loc Cert.SgSampleRefIdeal.main_arg0) = m ((c.tc : Thread Cert.SgSampleRefIdeal.nD Cert.SgSampleRefIdeal.τ).loc Cert.SgSampleRefIdeal.main_arg0)
      ∧ r.2.mem ((c.tc : Thread Cert.SgSampleRefIdeal.nD Cert.SgSampleRefIdeal.τ).loc Cert.SgSampleRefIdeal.main_arg1) = m ((c.tc : Thread Cert.SgSampleRefIdeal.nD Cert.SgSampleRefIdeal.τ).loc Cert.SgSampleRefIdeal.main_arg1)
      ∧ r.2.mem ((c.tc : Thread Cert.SgSampleRefIdeal.nD Cert.SgSampleRefIdeal.τ).loc Cert.SgSampleRefIdeal.main_arg2) = m ((c.tc : Thread Cert.SgSampleRefIdeal.nD Cert.SgSampleRefIdeal.τ).loc Cert.SgSampleRefIdeal.main_arg2)
      ∧ r.2.mem ((c.tc : Thread Cert.SgSampleRefIdeal.nD Cert.SgSampleRefIdeal.τ).loc Cert.SgSampleRefIdeal.main_arg3) = m ((c.tc : Thread Cert.SgSampleRefIdeal.nD Cert.SgSampleRefIdeal.τ).loc Cert.SgSampleRefIdeal.main_arg3))
      ∧ r.2.sem = fun _ => 0)

def quiescent_SsmSample [hSsmSample : Cert.SsmSample.Facts] : Prop :=
  ∀ (m : (ℓ : Loc Cert.SsmSample.nD Cert.SsmSample.τ Cert.SsmSample.sig) → Buf (Elt Bits) ℓ) (g : Dev Cert.SsmSample.nD → PrngReg), Pre_SsmSample m →
    θ_run (Cert.SsmSample.defs (F := Bits)) (onTc (τ := Cert.SsmSample.τ) (Cert.SsmSample.main (F := Bits))) ⟨m, fun _ => 0, g⟩ (fun r => (∀ c : Dev Cert.SsmSample.nD,
      r.2.mem ((c.tc : Thread Cert.SsmSample.nD Cert.SsmSample.τ).loc Cert.SsmSample.main_arg0) = m ((c.tc : Thread Cert.SsmSample.nD Cert.SsmSample.τ).loc Cert.SsmSample.main_arg0)
      ∧ r.2.mem ((c.tc : Thread Cert.SsmSample.nD Cert.SsmSample.τ).loc Cert.SsmSample.main_arg1) = m ((c.tc : Thread Cert.SsmSample.nD Cert.SsmSample.τ).loc Cert.SsmSample.main_arg1)
      ∧ r.2.mem ((c.tc : Thread Cert.SsmSample.nD Cert.SsmSample.τ).loc Cert.SsmSample.main_arg2) = m ((c.tc : Thread Cert.SsmSample.nD Cert.SsmSample.τ).loc Cert.SsmSample.main_arg2)
      ∧ r.2.mem ((c.tc : Thread Cert.SsmSample.nD Cert.SsmSample.τ).loc Cert.SsmSample.main_arg3) = m ((c.tc : Thread Cert.SsmSample.nD Cert.SsmSample.τ).loc Cert.SsmSample.main_arg3)
      ∧ r.2.mem ((c.tc : Thread Cert.SsmSample.nD Cert.SsmSample.τ).loc Cert.SsmSample.main_arg4) = m ((c.tc : Thread Cert.SsmSample.nD Cert.SsmSample.τ).loc Cert.SsmSample.main_arg4)
      ∧ r.2.mem ((c.tc : Thread Cert.SsmSample.nD Cert.SsmSample.τ).loc Cert.SsmSample.main_arg5) = m ((c.tc : Thread Cert.SsmSample.nD Cert.SsmSample.τ).loc Cert.SsmSample.main_arg5)
      ∧ r.2.mem ((c.tc : Thread Cert.SsmSample.nD Cert.SsmSample.τ).loc Cert.SsmSample.main_arg6) = m ((c.tc : Thread Cert.SsmSample.nD Cert.SsmSample.τ).loc Cert.SsmSample.main_arg6)
      ∧ r.2.mem ((c.tc : Thread Cert.SsmSample.nD Cert.SsmSample.τ).loc Cert.SsmSample.main_arg7) = m ((c.tc : Thread Cert.SsmSample.nD Cert.SsmSample.τ).loc Cert.SsmSample.main_arg7)
      ∧ r.2.mem ((c.tc : Thread Cert.SsmSample.nD Cert.SsmSample.τ).loc Cert.SsmSample.main_arg8) = m ((c.tc : Thread Cert.SsmSample.nD Cert.SsmSample.τ).loc Cert.SsmSample.main_arg8)
      ∧ r.2.mem ((c.tc : Thread Cert.SsmSample.nD Cert.SsmSample.τ).loc Cert.SsmSample.main_arg9) = m ((c.tc : Thread Cert.SsmSample.nD Cert.SsmSample.τ).loc Cert.SsmSample.main_arg9)
      ∧ r.2.mem ((c.tc : Thread Cert.SsmSample.nD Cert.SsmSample.τ).loc Cert.SsmSample.main_arg10) = m ((c.tc : Thread Cert.SsmSample.nD Cert.SsmSample.τ).loc Cert.SsmSample.main_arg10)
      ∧ r.2.mem ((c.tc : Thread Cert.SsmSample.nD Cert.SsmSample.τ).loc Cert.SsmSample.main_arg11) = m ((c.tc : Thread Cert.SsmSample.nD Cert.SsmSample.τ).loc Cert.SsmSample.main_arg11)
      ∧ r.2.mem ((c.tc : Thread Cert.SsmSample.nD Cert.SsmSample.τ).loc Cert.SsmSample.main_arg12) = m ((c.tc : Thread Cert.SsmSample.nD Cert.SsmSample.τ).loc Cert.SsmSample.main_arg12))
      ∧ r.2.sem = fun _ => 0)

def quiescent_SsmSampleIdeal [hSsmSampleIdeal : Cert.SsmSampleIdeal.Facts] : Prop :=
  ∀ (m : (ℓ : Loc Cert.SsmSampleIdeal.nD Cert.SsmSampleIdeal.τ Cert.SsmSampleIdeal.sig) → Buf (Elt Ideal) ℓ) (g : Dev Cert.SsmSampleIdeal.nD → PrngReg), Pre_SsmSampleIdeal m →
    θ_run (Cert.SsmSampleIdeal.defs (F := Ideal)) (onTc (τ := Cert.SsmSampleIdeal.τ) (Cert.SsmSampleIdeal.main (F := Ideal))) ⟨m, fun _ => 0, g⟩ (fun r => (∀ c : Dev Cert.SsmSampleIdeal.nD,
      r.2.mem ((c.tc : Thread Cert.SsmSampleIdeal.nD Cert.SsmSampleIdeal.τ).loc Cert.SsmSampleIdeal.main_arg0) = m ((c.tc : Thread Cert.SsmSampleIdeal.nD Cert.SsmSampleIdeal.τ).loc Cert.SsmSampleIdeal.main_arg0)
      ∧ r.2.mem ((c.tc : Thread Cert.SsmSampleIdeal.nD Cert.SsmSampleIdeal.τ).loc Cert.SsmSampleIdeal.main_arg1) = m ((c.tc : Thread Cert.SsmSampleIdeal.nD Cert.SsmSampleIdeal.τ).loc Cert.SsmSampleIdeal.main_arg1)
      ∧ r.2.mem ((c.tc : Thread Cert.SsmSampleIdeal.nD Cert.SsmSampleIdeal.τ).loc Cert.SsmSampleIdeal.main_arg2) = m ((c.tc : Thread Cert.SsmSampleIdeal.nD Cert.SsmSampleIdeal.τ).loc Cert.SsmSampleIdeal.main_arg2)
      ∧ r.2.mem ((c.tc : Thread Cert.SsmSampleIdeal.nD Cert.SsmSampleIdeal.τ).loc Cert.SsmSampleIdeal.main_arg3) = m ((c.tc : Thread Cert.SsmSampleIdeal.nD Cert.SsmSampleIdeal.τ).loc Cert.SsmSampleIdeal.main_arg3)
      ∧ r.2.mem ((c.tc : Thread Cert.SsmSampleIdeal.nD Cert.SsmSampleIdeal.τ).loc Cert.SsmSampleIdeal.main_arg4) = m ((c.tc : Thread Cert.SsmSampleIdeal.nD Cert.SsmSampleIdeal.τ).loc Cert.SsmSampleIdeal.main_arg4)
      ∧ r.2.mem ((c.tc : Thread Cert.SsmSampleIdeal.nD Cert.SsmSampleIdeal.τ).loc Cert.SsmSampleIdeal.main_arg5) = m ((c.tc : Thread Cert.SsmSampleIdeal.nD Cert.SsmSampleIdeal.τ).loc Cert.SsmSampleIdeal.main_arg5)
      ∧ r.2.mem ((c.tc : Thread Cert.SsmSampleIdeal.nD Cert.SsmSampleIdeal.τ).loc Cert.SsmSampleIdeal.main_arg6) = m ((c.tc : Thread Cert.SsmSampleIdeal.nD Cert.SsmSampleIdeal.τ).loc Cert.SsmSampleIdeal.main_arg6)
      ∧ r.2.mem ((c.tc : Thread Cert.SsmSampleIdeal.nD Cert.SsmSampleIdeal.τ).loc Cert.SsmSampleIdeal.main_arg7) = m ((c.tc : Thread Cert.SsmSampleIdeal.nD Cert.SsmSampleIdeal.τ).loc Cert.SsmSampleIdeal.main_arg7)
      ∧ r.2.mem ((c.tc : Thread Cert.SsmSampleIdeal.nD Cert.SsmSampleIdeal.τ).loc Cert.SsmSampleIdeal.main_arg8) = m ((c.tc : Thread Cert.SsmSampleIdeal.nD Cert.SsmSampleIdeal.τ).loc Cert.SsmSampleIdeal.main_arg8)
      ∧ r.2.mem ((c.tc : Thread Cert.SsmSampleIdeal.nD Cert.SsmSampleIdeal.τ).loc Cert.SsmSampleIdeal.main_arg9) = m ((c.tc : Thread Cert.SsmSampleIdeal.nD Cert.SsmSampleIdeal.τ).loc Cert.SsmSampleIdeal.main_arg9)
      ∧ r.2.mem ((c.tc : Thread Cert.SsmSampleIdeal.nD Cert.SsmSampleIdeal.τ).loc Cert.SsmSampleIdeal.main_arg10) = m ((c.tc : Thread Cert.SsmSampleIdeal.nD Cert.SsmSampleIdeal.τ).loc Cert.SsmSampleIdeal.main_arg10)
      ∧ r.2.mem ((c.tc : Thread Cert.SsmSampleIdeal.nD Cert.SsmSampleIdeal.τ).loc Cert.SsmSampleIdeal.main_arg11) = m ((c.tc : Thread Cert.SsmSampleIdeal.nD Cert.SsmSampleIdeal.τ).loc Cert.SsmSampleIdeal.main_arg11)
      ∧ r.2.mem ((c.tc : Thread Cert.SsmSampleIdeal.nD Cert.SsmSampleIdeal.τ).loc Cert.SsmSampleIdeal.main_arg12) = m ((c.tc : Thread Cert.SsmSampleIdeal.nD Cert.SsmSampleIdeal.τ).loc Cert.SsmSampleIdeal.main_arg12))
      ∧ r.2.sem = fun _ => 0)

def quiescent_SsmSampleRefIdeal [hSsmSampleRefIdeal : Cert.SsmSampleRefIdeal.Facts] : Prop :=
  ∀ (m : (ℓ : Loc Cert.SsmSampleRefIdeal.nD Cert.SsmSampleRefIdeal.τ Cert.SsmSampleRefIdeal.sig) → Buf (Elt Ideal) ℓ) (g : Dev Cert.SsmSampleRefIdeal.nD → PrngReg), Pre_SsmSampleRefIdeal m →
    θ_run (Cert.SsmSampleRefIdeal.defs (F := Ideal)) (onTc (τ := Cert.SsmSampleRefIdeal.τ) (Cert.SsmSampleRefIdeal.main (F := Ideal))) ⟨m, fun _ => 0, g⟩ (fun r => (∀ c : Dev Cert.SsmSampleRefIdeal.nD,
      r.2.mem ((c.tc : Thread Cert.SsmSampleRefIdeal.nD Cert.SsmSampleRefIdeal.τ).loc Cert.SsmSampleRefIdeal.main_arg0) = m ((c.tc : Thread Cert.SsmSampleRefIdeal.nD Cert.SsmSampleRefIdeal.τ).loc Cert.SsmSampleRefIdeal.main_arg0)
      ∧ r.2.mem ((c.tc : Thread Cert.SsmSampleRefIdeal.nD Cert.SsmSampleRefIdeal.τ).loc Cert.SsmSampleRefIdeal.main_arg1) = m ((c.tc : Thread Cert.SsmSampleRefIdeal.nD Cert.SsmSampleRefIdeal.τ).loc Cert.SsmSampleRefIdeal.main_arg1)
      ∧ r.2.mem ((c.tc : Thread Cert.SsmSampleRefIdeal.nD Cert.SsmSampleRefIdeal.τ).loc Cert.SsmSampleRefIdeal.main_arg2) = m ((c.tc : Thread Cert.SsmSampleRefIdeal.nD Cert.SsmSampleRefIdeal.τ).loc Cert.SsmSampleRefIdeal.main_arg2)
      ∧ r.2.mem ((c.tc : Thread Cert.SsmSampleRefIdeal.nD Cert.SsmSampleRefIdeal.τ).loc Cert.SsmSampleRefIdeal.main_arg3) = m ((c.tc : Thread Cert.SsmSampleRefIdeal.nD Cert.SsmSampleRefIdeal.τ).loc Cert.SsmSampleRefIdeal.main_arg3)
      ∧ r.2.mem ((c.tc : Thread Cert.SsmSampleRefIdeal.nD Cert.SsmSampleRefIdeal.τ).loc Cert.SsmSampleRefIdeal.main_arg4) = m ((c.tc : Thread Cert.SsmSampleRefIdeal.nD Cert.SsmSampleRefIdeal.τ).loc Cert.SsmSampleRefIdeal.main_arg4)
      ∧ r.2.mem ((c.tc : Thread Cert.SsmSampleRefIdeal.nD Cert.SsmSampleRefIdeal.τ).loc Cert.SsmSampleRefIdeal.main_arg5) = m ((c.tc : Thread Cert.SsmSampleRefIdeal.nD Cert.SsmSampleRefIdeal.τ).loc Cert.SsmSampleRefIdeal.main_arg5)
      ∧ r.2.mem ((c.tc : Thread Cert.SsmSampleRefIdeal.nD Cert.SsmSampleRefIdeal.τ).loc Cert.SsmSampleRefIdeal.main_arg6) = m ((c.tc : Thread Cert.SsmSampleRefIdeal.nD Cert.SsmSampleRefIdeal.τ).loc Cert.SsmSampleRefIdeal.main_arg6)
      ∧ r.2.mem ((c.tc : Thread Cert.SsmSampleRefIdeal.nD Cert.SsmSampleRefIdeal.τ).loc Cert.SsmSampleRefIdeal.main_arg7) = m ((c.tc : Thread Cert.SsmSampleRefIdeal.nD Cert.SsmSampleRefIdeal.τ).loc Cert.SsmSampleRefIdeal.main_arg7)
      ∧ r.2.mem ((c.tc : Thread Cert.SsmSampleRefIdeal.nD Cert.SsmSampleRefIdeal.τ).loc Cert.SsmSampleRefIdeal.main_arg8) = m ((c.tc : Thread Cert.SsmSampleRefIdeal.nD Cert.SsmSampleRefIdeal.τ).loc Cert.SsmSampleRefIdeal.main_arg8)
      ∧ r.2.mem ((c.tc : Thread Cert.SsmSampleRefIdeal.nD Cert.SsmSampleRefIdeal.τ).loc Cert.SsmSampleRefIdeal.main_arg9) = m ((c.tc : Thread Cert.SsmSampleRefIdeal.nD Cert.SsmSampleRefIdeal.τ).loc Cert.SsmSampleRefIdeal.main_arg9)
      ∧ r.2.mem ((c.tc : Thread Cert.SsmSampleRefIdeal.nD Cert.SsmSampleRefIdeal.τ).loc Cert.SsmSampleRefIdeal.main_arg10) = m ((c.tc : Thread Cert.SsmSampleRefIdeal.nD Cert.SsmSampleRefIdeal.τ).loc Cert.SsmSampleRefIdeal.main_arg10)
      ∧ r.2.mem ((c.tc : Thread Cert.SsmSampleRefIdeal.nD Cert.SsmSampleRefIdeal.τ).loc Cert.SsmSampleRefIdeal.main_arg11) = m ((c.tc : Thread Cert.SsmSampleRefIdeal.nD Cert.SsmSampleRefIdeal.τ).loc Cert.SsmSampleRefIdeal.main_arg11)
      ∧ r.2.mem ((c.tc : Thread Cert.SsmSampleRefIdeal.nD Cert.SsmSampleRefIdeal.τ).loc Cert.SsmSampleRefIdeal.main_arg12) = m ((c.tc : Thread Cert.SsmSampleRefIdeal.nD Cert.SsmSampleRefIdeal.τ).loc Cert.SsmSampleRefIdeal.main_arg12))
      ∧ r.2.sem = fun _ => 0)

def quiescent_DnSample [hDnSample : Cert.DnSample.Facts] : Prop :=
  ∀ (m : (ℓ : Loc Cert.DnSample.nD Cert.DnSample.τ Cert.DnSample.sig) → Buf (Elt Bits) ℓ) (g : Dev Cert.DnSample.nD → PrngReg), Pre_DnSample m →
    θ_run (Cert.DnSample.defs (F := Bits)) (onTc (τ := Cert.DnSample.τ) (Cert.DnSample.main (F := Bits))) ⟨m, fun _ => 0, g⟩ (fun r => (∀ c : Dev Cert.DnSample.nD,
      r.2.mem ((c.tc : Thread Cert.DnSample.nD Cert.DnSample.τ).loc Cert.DnSample.main_arg0) = m ((c.tc : Thread Cert.DnSample.nD Cert.DnSample.τ).loc Cert.DnSample.main_arg0)
      ∧ r.2.mem ((c.tc : Thread Cert.DnSample.nD Cert.DnSample.τ).loc Cert.DnSample.main_arg1) = m ((c.tc : Thread Cert.DnSample.nD Cert.DnSample.τ).loc Cert.DnSample.main_arg1)
      ∧ r.2.mem ((c.tc : Thread Cert.DnSample.nD Cert.DnSample.τ).loc Cert.DnSample.main_arg2) = m ((c.tc : Thread Cert.DnSample.nD Cert.DnSample.τ).loc Cert.DnSample.main_arg2)
      ∧ r.2.mem ((c.tc : Thread Cert.DnSample.nD Cert.DnSample.τ).loc Cert.DnSample.main_arg3) = m ((c.tc : Thread Cert.DnSample.nD Cert.DnSample.τ).loc Cert.DnSample.main_arg3)
      ∧ r.2.mem ((c.tc : Thread Cert.DnSample.nD Cert.DnSample.τ).loc Cert.DnSample.main_arg4) = m ((c.tc : Thread Cert.DnSample.nD Cert.DnSample.τ).loc Cert.DnSample.main_arg4)
      ∧ r.2.mem ((c.tc : Thread Cert.DnSample.nD Cert.DnSample.τ).loc Cert.DnSample.main_arg5) = m ((c.tc : Thread Cert.DnSample.nD Cert.DnSample.τ).loc Cert.DnSample.main_arg5)
      ∧ r.2.mem ((c.tc : Thread Cert.DnSample.nD Cert.DnSample.τ).loc Cert.DnSample.main_arg6) = m ((c.tc : Thread Cert.DnSample.nD Cert.DnSample.τ).loc Cert.DnSample.main_arg6)
      ∧ r.2.mem ((c.tc : Thread Cert.DnSample.nD Cert.DnSample.τ).loc Cert.DnSample.main_arg7) = m ((c.tc : Thread Cert.DnSample.nD Cert.DnSample.τ).loc Cert.DnSample.main_arg7))
      ∧ r.2.sem = fun _ => 0)

def quiescent_DnSampleIdeal [hDnSampleIdeal : Cert.DnSampleIdeal.Facts] : Prop :=
  ∀ (m : (ℓ : Loc Cert.DnSampleIdeal.nD Cert.DnSampleIdeal.τ Cert.DnSampleIdeal.sig) → Buf (Elt Ideal) ℓ) (g : Dev Cert.DnSampleIdeal.nD → PrngReg), Pre_DnSampleIdeal m →
    θ_run (Cert.DnSampleIdeal.defs (F := Ideal)) (onTc (τ := Cert.DnSampleIdeal.τ) (Cert.DnSampleIdeal.main (F := Ideal))) ⟨m, fun _ => 0, g⟩ (fun r => (∀ c : Dev Cert.DnSampleIdeal.nD,
      r.2.mem ((c.tc : Thread Cert.DnSampleIdeal.nD Cert.DnSampleIdeal.τ).loc Cert.DnSampleIdeal.main_arg0) = m ((c.tc : Thread Cert.DnSampleIdeal.nD Cert.DnSampleIdeal.τ).loc Cert.DnSampleIdeal.main_arg0)
      ∧ r.2.mem ((c.tc : Thread Cert.DnSampleIdeal.nD Cert.DnSampleIdeal.τ).loc Cert.DnSampleIdeal.main_arg1) = m ((c.tc : Thread Cert.DnSampleIdeal.nD Cert.DnSampleIdeal.τ).loc Cert.DnSampleIdeal.main_arg1)
      ∧ r.2.mem ((c.tc : Thread Cert.DnSampleIdeal.nD Cert.DnSampleIdeal.τ).loc Cert.DnSampleIdeal.main_arg2) = m ((c.tc : Thread Cert.DnSampleIdeal.nD Cert.DnSampleIdeal.τ).loc Cert.DnSampleIdeal.main_arg2)
      ∧ r.2.mem ((c.tc : Thread Cert.DnSampleIdeal.nD Cert.DnSampleIdeal.τ).loc Cert.DnSampleIdeal.main_arg3) = m ((c.tc : Thread Cert.DnSampleIdeal.nD Cert.DnSampleIdeal.τ).loc Cert.DnSampleIdeal.main_arg3)
      ∧ r.2.mem ((c.tc : Thread Cert.DnSampleIdeal.nD Cert.DnSampleIdeal.τ).loc Cert.DnSampleIdeal.main_arg4) = m ((c.tc : Thread Cert.DnSampleIdeal.nD Cert.DnSampleIdeal.τ).loc Cert.DnSampleIdeal.main_arg4)
      ∧ r.2.mem ((c.tc : Thread Cert.DnSampleIdeal.nD Cert.DnSampleIdeal.τ).loc Cert.DnSampleIdeal.main_arg5) = m ((c.tc : Thread Cert.DnSampleIdeal.nD Cert.DnSampleIdeal.τ).loc Cert.DnSampleIdeal.main_arg5)
      ∧ r.2.mem ((c.tc : Thread Cert.DnSampleIdeal.nD Cert.DnSampleIdeal.τ).loc Cert.DnSampleIdeal.main_arg6) = m ((c.tc : Thread Cert.DnSampleIdeal.nD Cert.DnSampleIdeal.τ).loc Cert.DnSampleIdeal.main_arg6)
      ∧ r.2.mem ((c.tc : Thread Cert.DnSampleIdeal.nD Cert.DnSampleIdeal.τ).loc Cert.DnSampleIdeal.main_arg7) = m ((c.tc : Thread Cert.DnSampleIdeal.nD Cert.DnSampleIdeal.τ).loc Cert.DnSampleIdeal.main_arg7))
      ∧ r.2.sem = fun _ => 0)

def quiescent_DnSampleRefIdeal [hDnSampleRefIdeal : Cert.DnSampleRefIdeal.Facts] : Prop :=
  ∀ (m : (ℓ : Loc Cert.DnSampleRefIdeal.nD Cert.DnSampleRefIdeal.τ Cert.DnSampleRefIdeal.sig) → Buf (Elt Ideal) ℓ) (g : Dev Cert.DnSampleRefIdeal.nD → PrngReg), Pre_DnSampleRefIdeal m →
    θ_run (Cert.DnSampleRefIdeal.defs (F := Ideal)) (onTc (τ := Cert.DnSampleRefIdeal.τ) (Cert.DnSampleRefIdeal.main (F := Ideal))) ⟨m, fun _ => 0, g⟩ (fun r => (∀ c : Dev Cert.DnSampleRefIdeal.nD,
      r.2.mem ((c.tc : Thread Cert.DnSampleRefIdeal.nD Cert.DnSampleRefIdeal.τ).loc Cert.DnSampleRefIdeal.main_arg0) = m ((c.tc : Thread Cert.DnSampleRefIdeal.nD Cert.DnSampleRefIdeal.τ).loc Cert.DnSampleRefIdeal.main_arg0)
      ∧ r.2.mem ((c.tc : Thread Cert.DnSampleRefIdeal.nD Cert.DnSampleRefIdeal.τ).loc Cert.DnSampleRefIdeal.main_arg1) = m ((c.tc : Thread Cert.DnSampleRefIdeal.nD Cert.DnSampleRefIdeal.τ).loc Cert.DnSampleRefIdeal.main_arg1)
      ∧ r.2.mem ((c.tc : Thread Cert.DnSampleRefIdeal.nD Cert.DnSampleRefIdeal.τ).loc Cert.DnSampleRefIdeal.main_arg2) = m ((c.tc : Thread Cert.DnSampleRefIdeal.nD Cert.DnSampleRefIdeal.τ).loc Cert.DnSampleRefIdeal.main_arg2)
      ∧ r.2.mem ((c.tc : Thread Cert.DnSampleRefIdeal.nD Cert.DnSampleRefIdeal.τ).loc Cert.DnSampleRefIdeal.main_arg3) = m ((c.tc : Thread Cert.DnSampleRefIdeal.nD Cert.DnSampleRefIdeal.τ).loc Cert.DnSampleRefIdeal.main_arg3)
      ∧ r.2.mem ((c.tc : Thread Cert.DnSampleRefIdeal.nD Cert.DnSampleRefIdeal.τ).loc Cert.DnSampleRefIdeal.main_arg4) = m ((c.tc : Thread Cert.DnSampleRefIdeal.nD Cert.DnSampleRefIdeal.τ).loc Cert.DnSampleRefIdeal.main_arg4)
      ∧ r.2.mem ((c.tc : Thread Cert.DnSampleRefIdeal.nD Cert.DnSampleRefIdeal.τ).loc Cert.DnSampleRefIdeal.main_arg5) = m ((c.tc : Thread Cert.DnSampleRefIdeal.nD Cert.DnSampleRefIdeal.τ).loc Cert.DnSampleRefIdeal.main_arg5)
      ∧ r.2.mem ((c.tc : Thread Cert.DnSampleRefIdeal.nD Cert.DnSampleRefIdeal.τ).loc Cert.DnSampleRefIdeal.main_arg6) = m ((c.tc : Thread Cert.DnSampleRefIdeal.nD Cert.DnSampleRefIdeal.τ).loc Cert.DnSampleRefIdeal.main_arg6)
      ∧ r.2.mem ((c.tc : Thread Cert.DnSampleRefIdeal.nD Cert.DnSampleRefIdeal.τ).loc Cert.DnSampleRefIdeal.main_arg7) = m ((c.tc : Thread Cert.DnSampleRefIdeal.nD Cert.DnSampleRefIdeal.τ).loc Cert.DnSampleRefIdeal.main_arg7))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleIdeal_pre_finite_k [hAttnSampleIdeal : Cert.AttnSampleIdeal.Facts] [hPre_finite_k : Cert.Pre_finite_k.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite_k m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_AttnSampleRefIdeal_pre_finite_k [hAttnSampleRefIdeal : Cert.AttnSampleRefIdeal.Facts] [hPre_finite_k : Cert.Pre_finite_k.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_finite_k m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5))
      ∧ r.2.sem = fun _ => 0)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2)
      ∧ r.2.mem ((c.tc : Thread Cert.AttnPrompt.nD Cert.AttnPrompt.τ).loc Cert.AttnPrompt.main_arg3) = m ((c.tc : Thread Cert.AttnPrompt.nD Cert.AttnPrompt.τ).loc Cert.AttnPrompt.main_arg3)
      ∧ r.2.mem ((c.tc : Thread Cert.AttnPrompt.nD Cert.AttnPrompt.τ).loc Cert.AttnPrompt.main_arg4) = m ((c.tc : Thread Cert.AttnPrompt.nD Cert.AttnPrompt.τ).loc Cert.AttnPrompt.main_arg4))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4))
      ∧ r.2.sem = fun _ => 0)

def quiescent_DnPrompt [hDnPrompt : Cert.DnPrompt.Facts] : Prop :=
  ∀ (m : (ℓ : Loc Cert.DnPrompt.nD Cert.DnPrompt.τ Cert.DnPrompt.sig) → Buf (Elt Bits) ℓ) (g : Dev Cert.DnPrompt.nD → PrngReg), Pre_DnPrompt m →
    θ_run (Cert.DnPrompt.defs (F := Bits)) (onTc (τ := Cert.DnPrompt.τ) (Cert.DnPrompt.main (F := Bits))) ⟨m, fun _ => 0, g⟩ (fun r => (∀ c : Dev Cert.DnPrompt.nD,
      r.2.mem ((c.tc : Thread Cert.DnPrompt.nD Cert.DnPrompt.τ).loc Cert.DnPrompt.main_arg0) = m ((c.tc : Thread Cert.DnPrompt.nD Cert.DnPrompt.τ).loc Cert.DnPrompt.main_arg0)
      ∧ r.2.mem ((c.tc : Thread Cert.DnPrompt.nD Cert.DnPrompt.τ).loc Cert.DnPrompt.main_arg1) = m ((c.tc : Thread Cert.DnPrompt.nD Cert.DnPrompt.τ).loc Cert.DnPrompt.main_arg1)
      ∧ r.2.mem ((c.tc : Thread Cert.DnPrompt.nD Cert.DnPrompt.τ).loc Cert.DnPrompt.main_arg2) = m ((c.tc : Thread Cert.DnPrompt.nD Cert.DnPrompt.τ).loc Cert.DnPrompt.main_arg2)
      ∧ r.2.mem ((c.tc : Thread Cert.DnPrompt.nD Cert.DnPrompt.τ).loc Cert.DnPrompt.main_arg3) = m ((c.tc : Thread Cert.DnPrompt.nD Cert.DnPrompt.τ).loc Cert.DnPrompt.main_arg3)
      ∧ r.2.mem ((c.tc : Thread Cert.DnPrompt.nD Cert.DnPrompt.τ).loc Cert.DnPrompt.main_arg4) = m ((c.tc : Thread Cert.DnPrompt.nD Cert.DnPrompt.τ).loc Cert.DnPrompt.main_arg4)
      ∧ r.2.mem ((c.tc : Thread Cert.DnPrompt.nD Cert.DnPrompt.τ).loc Cert.DnPrompt.main_arg5) = m ((c.tc : Thread Cert.DnPrompt.nD Cert.DnPrompt.τ).loc Cert.DnPrompt.main_arg5))
      ∧ r.2.sem = fun _ => 0)

def quiescent_DnPromptIdeal [hDnPromptIdeal : Cert.DnPromptIdeal.Facts] : Prop :=
  ∀ (m : (ℓ : Loc Cert.DnPromptIdeal.nD Cert.DnPromptIdeal.τ Cert.DnPromptIdeal.sig) → Buf (Elt Ideal) ℓ) (g : Dev Cert.DnPromptIdeal.nD → PrngReg), Pre_DnPromptIdeal m →
    θ_run (Cert.DnPromptIdeal.defs (F := Ideal)) (onTc (τ := Cert.DnPromptIdeal.τ) (Cert.DnPromptIdeal.main (F := Ideal))) ⟨m, fun _ => 0, g⟩ (fun r => (∀ c : Dev Cert.DnPromptIdeal.nD,
      r.2.mem ((c.tc : Thread Cert.DnPromptIdeal.nD Cert.DnPromptIdeal.τ).loc Cert.DnPromptIdeal.main_arg0) = m ((c.tc : Thread Cert.DnPromptIdeal.nD Cert.DnPromptIdeal.τ).loc Cert.DnPromptIdeal.main_arg0)
      ∧ r.2.mem ((c.tc : Thread Cert.DnPromptIdeal.nD Cert.DnPromptIdeal.τ).loc Cert.DnPromptIdeal.main_arg1) = m ((c.tc : Thread Cert.DnPromptIdeal.nD Cert.DnPromptIdeal.τ).loc Cert.DnPromptIdeal.main_arg1)
      ∧ r.2.mem ((c.tc : Thread Cert.DnPromptIdeal.nD Cert.DnPromptIdeal.τ).loc Cert.DnPromptIdeal.main_arg2) = m ((c.tc : Thread Cert.DnPromptIdeal.nD Cert.DnPromptIdeal.τ).loc Cert.DnPromptIdeal.main_arg2)
      ∧ r.2.mem ((c.tc : Thread Cert.DnPromptIdeal.nD Cert.DnPromptIdeal.τ).loc Cert.DnPromptIdeal.main_arg3) = m ((c.tc : Thread Cert.DnPromptIdeal.nD Cert.DnPromptIdeal.τ).loc Cert.DnPromptIdeal.main_arg3)
      ∧ r.2.mem ((c.tc : Thread Cert.DnPromptIdeal.nD Cert.DnPromptIdeal.τ).loc Cert.DnPromptIdeal.main_arg4) = m ((c.tc : Thread Cert.DnPromptIdeal.nD Cert.DnPromptIdeal.τ).loc Cert.DnPromptIdeal.main_arg4)
      ∧ r.2.mem ((c.tc : Thread Cert.DnPromptIdeal.nD Cert.DnPromptIdeal.τ).loc Cert.DnPromptIdeal.main_arg5) = m ((c.tc : Thread Cert.DnPromptIdeal.nD Cert.DnPromptIdeal.τ).loc Cert.DnPromptIdeal.main_arg5))
      ∧ r.2.sem = fun _ => 0)

def quiescent_DnPromptRefIdeal [hDnPromptRefIdeal : Cert.DnPromptRefIdeal.Facts] : Prop :=
  ∀ (m : (ℓ : Loc Cert.DnPromptRefIdeal.nD Cert.DnPromptRefIdeal.τ Cert.DnPromptRefIdeal.sig) → Buf (Elt Ideal) ℓ) (g : Dev Cert.DnPromptRefIdeal.nD → PrngReg), Pre_DnPromptRefIdeal m →
    θ_run (Cert.DnPromptRefIdeal.defs (F := Ideal)) (onTc (τ := Cert.DnPromptRefIdeal.τ) (Cert.DnPromptRefIdeal.main (F := Ideal))) ⟨m, fun _ => 0, g⟩ (fun r => (∀ c : Dev Cert.DnPromptRefIdeal.nD,
      r.2.mem ((c.tc : Thread Cert.DnPromptRefIdeal.nD Cert.DnPromptRefIdeal.τ).loc Cert.DnPromptRefIdeal.main_arg0) = m ((c.tc : Thread Cert.DnPromptRefIdeal.nD Cert.DnPromptRefIdeal.τ).loc Cert.DnPromptRefIdeal.main_arg0)
      ∧ r.2.mem ((c.tc : Thread Cert.DnPromptRefIdeal.nD Cert.DnPromptRefIdeal.τ).loc Cert.DnPromptRefIdeal.main_arg1) = m ((c.tc : Thread Cert.DnPromptRefIdeal.nD Cert.DnPromptRefIdeal.τ).loc Cert.DnPromptRefIdeal.main_arg1)
      ∧ r.2.mem ((c.tc : Thread Cert.DnPromptRefIdeal.nD Cert.DnPromptRefIdeal.τ).loc Cert.DnPromptRefIdeal.main_arg2) = m ((c.tc : Thread Cert.DnPromptRefIdeal.nD Cert.DnPromptRefIdeal.τ).loc Cert.DnPromptRefIdeal.main_arg2)
      ∧ r.2.mem ((c.tc : Thread Cert.DnPromptRefIdeal.nD Cert.DnPromptRefIdeal.τ).loc Cert.DnPromptRefIdeal.main_arg3) = m ((c.tc : Thread Cert.DnPromptRefIdeal.nD Cert.DnPromptRefIdeal.τ).loc Cert.DnPromptRefIdeal.main_arg3)
      ∧ r.2.mem ((c.tc : Thread Cert.DnPromptRefIdeal.nD Cert.DnPromptRefIdeal.τ).loc Cert.DnPromptRefIdeal.main_arg4) = m ((c.tc : Thread Cert.DnPromptRefIdeal.nD Cert.DnPromptRefIdeal.τ).loc Cert.DnPromptRefIdeal.main_arg4)
      ∧ r.2.mem ((c.tc : Thread Cert.DnPromptRefIdeal.nD Cert.DnPromptRefIdeal.τ).loc Cert.DnPromptRefIdeal.main_arg5) = m ((c.tc : Thread Cert.DnPromptRefIdeal.nD Cert.DnPromptRefIdeal.τ).loc Cert.DnPromptRefIdeal.main_arg5))
      ∧ r.2.sem = fun _ => 0)

def preserves_GateLayout_GateLayoutIdeal : Prop :=
  True

def bitexact_GateLayout_GateLayoutRef [hGateLayout : Cert.GateLayout.Facts] [hGateLayoutRef : Cert.GateLayoutRef.Facts] : Prop :=
  ∀ (m : (ℓ : Loc Cert.GateLayout.nD Cert.GateLayout.τ Cert.GateLayout.sig) → Buf (Elt Bits) ℓ) (g : Dev Cert.GateLayout.nD → PrngReg)
    (m' : (ℓ : Loc Cert.GateLayoutRef.nD Cert.GateLayoutRef.τ Cert.GateLayoutRef.sig) → Buf (Elt Bits) ℓ) (g' : Dev Cert.GateLayoutRef.nD → PrngReg), Pre_GateLayout m →
    (∀ c : Dev Cert.GateLayout.nD,
      m' ((c.tc : Thread Cert.GateLayoutRef.nD Cert.GateLayoutRef.τ).loc Cert.GateLayoutRef.main_arg0) = m ((c.tc : Thread Cert.GateLayout.nD Cert.GateLayout.τ).loc Cert.GateLayout.main_arg0)
      ∧ m' ((c.tc : Thread Cert.GateLayoutRef.nD Cert.GateLayoutRef.τ).loc Cert.GateLayoutRef.main_arg1) = m ((c.tc : Thread Cert.GateLayout.nD Cert.GateLayout.τ).loc Cert.GateLayout.main_arg1)) →
    ∃ (v0 : (c : Dev Cert.GateLayout.nD) → Buf (Elt Bits) ((c.tc : Thread Cert.GateLayout.nD Cert.GateLayout.τ).loc Cert.GateLayout.main_v1)),
      θ_run (Cert.GateLayout.defs (F := Bits)) (onTc (τ := Cert.GateLayout.τ) (Cert.GateLayout.main (F := Bits))) ⟨m, fun _ => 0, g⟩ (fun r => ∀ c : Dev Cert.GateLayout.nD,
          r.2.mem ((c.tc : Thread Cert.GateLayout.nD Cert.GateLayout.τ).loc Cert.GateLayout.main_v1) = v0 c
          ∧ r.2.mem ((c.tc : Thread Cert.GateLayout.nD Cert.GateLayout.τ).loc Cert.GateLayout.main_arg0) = m ((c.tc : Thread Cert.GateLayout.nD Cert.GateLayout.τ).loc Cert.GateLayout.main_arg0)
          ∧ r.2.mem ((c.tc : Thread Cert.GateLayout.nD Cert.GateLayout.τ).loc Cert.GateLayout.main_arg1) = m ((c.tc : Thread Cert.GateLayout.nD Cert.GateLayout.τ).loc Cert.GateLayout.main_arg1))
      ∧ θ_run (Cert.GateLayoutRef.defs (F := Bits)) (onTc (τ := Cert.GateLayoutRef.τ) (Cert.GateLayoutRef.main (F := Bits))) ⟨m', fun _ => 0, g'⟩ (fun r => ∀ c : Dev Cert.GateLayoutRef.nD,
          r.2.mem ((c.tc : Thread Cert.GateLayoutRef.nD Cert.GateLayoutRef.τ).loc Cert.GateLayoutRef.main_v4) = v0 c
          ∧ r.2.mem ((c.tc : Thread Cert.GateLayoutRef.nD Cert.GateLayoutRef.τ).loc Cert.GateLayoutRef.main_arg0) = m' ((c.tc : Thread Cert.GateLayoutRef.nD Cert.GateLayoutRef.τ).loc Cert.GateLayoutRef.main_arg0)
          ∧ r.2.mem ((c.tc : Thread Cert.GateLayoutRef.nD Cert.GateLayoutRef.τ).loc Cert.GateLayoutRef.main_arg1) = m' ((c.tc : Thread Cert.GateLayoutRef.nD Cert.GateLayoutRef.τ).loc Cert.GateLayoutRef.main_arg1))

def algebraic_GateLayoutIdeal_GateLayoutRefIdeal [hGateLayoutIdeal : Cert.GateLayoutIdeal.Facts] [hGateLayoutRefIdeal : Cert.GateLayoutRefIdeal.Facts] : Prop :=
  ∀ (m : (ℓ : Loc Cert.GateLayoutIdeal.nD Cert.GateLayoutIdeal.τ Cert.GateLayoutIdeal.sig) → Buf (Elt Ideal) ℓ) (g : Dev Cert.GateLayoutIdeal.nD → PrngReg)
    (m' : (ℓ : Loc Cert.GateLayoutRefIdeal.nD Cert.GateLayoutRefIdeal.τ Cert.GateLayoutRefIdeal.sig) → Buf (Elt Ideal) ℓ) (g' : Dev Cert.GateLayoutRefIdeal.nD → PrngReg), Pre_GateLayoutIdeal m →
    (∀ c : Dev Cert.GateLayoutIdeal.nD,
      m' ((c.tc : Thread Cert.GateLayoutRefIdeal.nD Cert.GateLayoutRefIdeal.τ).loc Cert.GateLayoutRefIdeal.main_arg0) = m ((c.tc : Thread Cert.GateLayoutIdeal.nD Cert.GateLayoutIdeal.τ).loc Cert.GateLayoutIdeal.main_arg0)
      ∧ m' ((c.tc : Thread Cert.GateLayoutRefIdeal.nD Cert.GateLayoutRefIdeal.τ).loc Cert.GateLayoutRefIdeal.main_arg1) = m ((c.tc : Thread Cert.GateLayoutIdeal.nD Cert.GateLayoutIdeal.τ).loc Cert.GateLayoutIdeal.main_arg1)) →
    ∃ (v0 : (c : Dev Cert.GateLayoutIdeal.nD) → Buf (Elt Ideal) ((c.tc : Thread Cert.GateLayoutIdeal.nD Cert.GateLayoutIdeal.τ).loc Cert.GateLayoutIdeal.main_v1)),
      θ_run (Cert.GateLayoutIdeal.defs (F := Ideal)) (onTc (τ := Cert.GateLayoutIdeal.τ) (Cert.GateLayoutIdeal.main (F := Ideal))) ⟨m, fun _ => 0, g⟩ (fun r => ∀ c : Dev Cert.GateLayoutIdeal.nD,
          r.2.mem ((c.tc : Thread Cert.GateLayoutIdeal.nD Cert.GateLayoutIdeal.τ).loc Cert.GateLayoutIdeal.main_v1) = v0 c
          ∧ r.2.mem ((c.tc : Thread Cert.GateLayoutIdeal.nD Cert.GateLayoutIdeal.τ).loc Cert.GateLayoutIdeal.main_arg0) = m ((c.tc : Thread Cert.GateLayoutIdeal.nD Cert.GateLayoutIdeal.τ).loc Cert.GateLayoutIdeal.main_arg0)
          ∧ r.2.mem ((c.tc : Thread Cert.GateLayoutIdeal.nD Cert.GateLayoutIdeal.τ).loc Cert.GateLayoutIdeal.main_arg1) = m ((c.tc : Thread Cert.GateLayoutIdeal.nD Cert.GateLayoutIdeal.τ).loc Cert.GateLayoutIdeal.main_arg1))
      ∧ θ_run (Cert.GateLayoutRefIdeal.defs (F := Ideal)) (onTc (τ := Cert.GateLayoutRefIdeal.τ) (Cert.GateLayoutRefIdeal.main (F := Ideal))) ⟨m', fun _ => 0, g'⟩ (fun r => ∀ c : Dev Cert.GateLayoutRefIdeal.nD,
          r.2.mem ((c.tc : Thread Cert.GateLayoutRefIdeal.nD Cert.GateLayoutRefIdeal.τ).loc Cert.GateLayoutRefIdeal.main_v4) = v0 c
          ∧ r.2.mem ((c.tc : Thread Cert.GateLayoutRefIdeal.nD Cert.GateLayoutRefIdeal.τ).loc Cert.GateLayoutRefIdeal.main_arg0) = m' ((c.tc : Thread Cert.GateLayoutRefIdeal.nD Cert.GateLayoutRefIdeal.τ).loc Cert.GateLayoutRefIdeal.main_arg0)
          ∧ r.2.mem ((c.tc : Thread Cert.GateLayoutRefIdeal.nD Cert.GateLayoutRefIdeal.τ).loc Cert.GateLayoutRefIdeal.main_arg1) = m' ((c.tc : Thread Cert.GateLayoutRefIdeal.nD Cert.GateLayoutRefIdeal.τ).loc Cert.GateLayoutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_v22) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)) →
    ∃ (v0 : (c : Dev Cert.FfnSampleIdeal.nD) → Buf (Elt Ideal) ((c.tc : Thread Cert.FfnSampleIdeal.nD Cert.FfnSampleIdeal.τ).loc Cert.FfnSampleIdeal.main_v2_0)) (v1 : (c : Dev Cert.FfnSampleIdeal.nD) → Buf (Elt Ideal) ((c.tc : Thread Cert.FfnSampleIdeal.nD Cert.FfnSampleIdeal.τ).loc Cert.FfnSampleIdeal.main_v2_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v2_0) = v0 c
          ∧ r.2.mem ((c.tc : Thread Cert.FfnSampleIdeal.nD Cert.FfnSampleIdeal.τ).loc Cert.FfnSampleIdeal.main_v2_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v9) = v0 c
          ∧ r.2.mem ((c.tc : Thread Cert.FfnSampleRefIdeal.nD Cert.FfnSampleRefIdeal.τ).loc Cert.FfnSampleRefIdeal.main_v22) = v1 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v10_0)) (v1 : (c : Dev Cert.InProjIdeal.nD) → Buf (Elt Ideal) ((c.tc : Thread Cert.InProjIdeal.nD Cert.InProjIdeal.τ).loc Cert.InProjIdeal.main_v10_1)) (v2 : (c : Dev Cert.InProjIdeal.nD) → Buf (Elt Ideal) ((c.tc : Thread Cert.InProjIdeal.nD Cert.InProjIdeal.τ).loc Cert.InProjIdeal.main_v10_2)) (v3 : (c : Dev Cert.InProjIdeal.nD) → Buf (Elt Ideal) ((c.tc : Thread Cert.InProjIdeal.nD Cert.InProjIdeal.τ).loc Cert.InProjIdeal.main_v12)) (v4 : (c : Dev Cert.InProjIdeal.nD) → Buf (Elt Ideal) ((c.tc : Thread Cert.InProjIdeal.nD Cert.InProjIdeal.τ).loc Cert.InProjIdeal.main_v10_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10_0) = v0 c
          ∧ r.2.mem ((c.tc : Thread Cert.InProjIdeal.nD Cert.InProjIdeal.τ).loc Cert.InProjIdeal.main_v10_1) = v1 c
          ∧ r.2.mem ((c.tc : Thread Cert.InProjIdeal.nD Cert.InProjIdeal.τ).loc Cert.InProjIdeal.main_v10_2) = v2 c
          ∧ r.2.mem ((c.tc : Thread Cert.InProjIdeal.nD Cert.InProjIdeal.τ).loc Cert.InProjIdeal.main_v12) = v3 c
          ∧ r.2.mem ((c.tc : Thread Cert.InProjIdeal.nD Cert.InProjIdeal.τ).loc Cert.InProjIdeal.main_v10_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v51) = v0 c
          ∧ r.2.mem ((c.tc : Thread Cert.InProjRefIdeal.nD Cert.InProjRefIdeal.τ).loc Cert.InProjRefIdeal.main_v52) = v1 c
          ∧ r.2.mem ((c.tc : Thread Cert.InProjRefIdeal.nD Cert.InProjRefIdeal.τ).loc Cert.InProjRefIdeal.main_v53) = v2 c
          ∧ r.2.mem ((c.tc : Thread Cert.InProjRefIdeal.nD Cert.InProjRefIdeal.τ).loc Cert.InProjRefIdeal.main_v54) = v3 c
          ∧ r.2.mem ((c.tc : Thread Cert.InProjRefIdeal.nD Cert.InProjRefIdeal.τ).loc Cert.InProjRefIdeal.main_v56) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_SgSample_SgSampleIdeal : Prop :=
  True

def algebraic_SgSampleIdeal_SgSampleRefIdeal [hSgSampleIdeal : Cert.SgSampleIdeal.Facts] [hSgSampleRefIdeal : Cert.SgSampleRefIdeal.Facts] : Prop :=
  ∀ (m : (ℓ : Loc Cert.SgSampleIdeal.nD Cert.SgSampleIdeal.τ Cert.SgSampleIdeal.sig) → Buf (Elt Ideal) ℓ) (g : Dev Cert.SgSampleIdeal.nD → PrngReg)
    (m' : (ℓ : Loc Cert.SgSampleRefIdeal.nD Cert.SgSampleRefIdeal.τ Cert.SgSampleRefIdeal.sig) → Buf (Elt Ideal) ℓ) (g' : Dev Cert.SgSampleRefIdeal.nD → PrngReg), Pre_SgSampleIdeal m →
    (∀ c : Dev Cert.SgSampleIdeal.nD,
      m' ((c.tc : Thread Cert.SgSampleRefIdeal.nD Cert.SgSampleRefIdeal.τ).loc Cert.SgSampleRefIdeal.main_arg0) = m ((c.tc : Thread Cert.SgSampleIdeal.nD Cert.SgSampleIdeal.τ).loc Cert.SgSampleIdeal.main_arg0)
      ∧ m' ((c.tc : Thread Cert.SgSampleRefIdeal.nD Cert.SgSampleRefIdeal.τ).loc Cert.SgSampleRefIdeal.main_arg1) = m ((c.tc : Thread Cert.SgSampleIdeal.nD Cert.SgSampleIdeal.τ).loc Cert.SgSampleIdeal.main_arg1)
      ∧ m' ((c.tc : Thread Cert.SgSampleRefIdeal.nD Cert.SgSampleRefIdeal.τ).loc Cert.SgSampleRefIdeal.main_arg2) = m ((c.tc : Thread Cert.SgSampleIdeal.nD Cert.SgSampleIdeal.τ).loc Cert.SgSampleIdeal.main_arg2)
      ∧ m' ((c.tc : Thread Cert.SgSampleRefIdeal.nD Cert.SgSampleRefIdeal.τ).loc Cert.SgSampleRefIdeal.main_arg3) = m ((c.tc : Thread Cert.SgSampleIdeal.nD Cert.SgSampleIdeal.τ).loc Cert.SgSampleIdeal.main_arg3)) →
    ∃ (v0 : (c : Dev Cert.SgSampleIdeal.nD) → Buf (Elt Ideal) ((c.tc : Thread Cert.SgSampleIdeal.nD Cert.SgSampleIdeal.τ).loc Cert.SgSampleIdeal.main_v15_0)) (v1 : (c : Dev Cert.SgSampleIdeal.nD) → Buf (Elt Ideal) ((c.tc : Thread Cert.SgSampleIdeal.nD Cert.SgSampleIdeal.τ).loc Cert.SgSampleIdeal.main_v15_1)),
      θ_run (Cert.SgSampleIdeal.defs (F := Ideal)) (onTc (τ := Cert.SgSampleIdeal.τ) (Cert.SgSampleIdeal.main (F := Ideal))) ⟨m, fun _ => 0, g⟩ (fun r => ∀ c : Dev Cert.SgSampleIdeal.nD,
          r.2.mem ((c.tc : Thread Cert.SgSampleIdeal.nD Cert.SgSampleIdeal.τ).loc Cert.SgSampleIdeal.main_v15_0) = v0 c
          ∧ r.2.mem ((c.tc : Thread Cert.SgSampleIdeal.nD Cert.SgSampleIdeal.τ).loc Cert.SgSampleIdeal.main_v15_1) = v1 c
          ∧ r.2.mem ((c.tc : Thread Cert.SgSampleIdeal.nD Cert.SgSampleIdeal.τ).loc Cert.SgSampleIdeal.main_arg0) = m ((c.tc : Thread Cert.SgSampleIdeal.nD Cert.SgSampleIdeal.τ).loc Cert.SgSampleIdeal.main_arg0)
          ∧ r.2.mem ((c.tc : Thread Cert.SgSampleIdeal.nD Cert.SgSampleIdeal.τ).loc Cert.SgSampleIdeal.main_arg1) = m ((c.tc : Thread Cert.SgSampleIdeal.nD Cert.SgSampleIdeal.τ).loc Cert.SgSampleIdeal.main_arg1)
          ∧ r.2.mem ((c.tc : Thread Cert.SgSampleIdeal.nD Cert.SgSampleIdeal.τ).loc Cert.SgSampleIdeal.main_arg2) = m ((c.tc : Thread Cert.SgSampleIdeal.nD Cert.SgSampleIdeal.τ).loc Cert.SgSampleIdeal.main_arg2)
          ∧ r.2.mem ((c.tc : Thread Cert.SgSampleIdeal.nD Cert.SgSampleIdeal.τ).loc Cert.SgSampleIdeal.main_arg3) = m ((c.tc : Thread Cert.SgSampleIdeal.nD Cert.SgSampleIdeal.τ).loc Cert.SgSampleIdeal.main_arg3))
      ∧ θ_run (Cert.SgSampleRefIdeal.defs (F := Ideal)) (onTc (τ := Cert.SgSampleRefIdeal.τ) (Cert.SgSampleRefIdeal.main (F := Ideal))) ⟨m', fun _ => 0, g'⟩ (fun r => ∀ c : Dev Cert.SgSampleRefIdeal.nD,
          r.2.mem ((c.tc : Thread Cert.SgSampleRefIdeal.nD Cert.SgSampleRefIdeal.τ).loc Cert.SgSampleRefIdeal.main_v47) = v0 c
          ∧ r.2.mem ((c.tc : Thread Cert.SgSampleRefIdeal.nD Cert.SgSampleRefIdeal.τ).loc Cert.SgSampleRefIdeal.main_v29) = v1 c
          ∧ r.2.mem ((c.tc : Thread Cert.SgSampleRefIdeal.nD Cert.SgSampleRefIdeal.τ).loc Cert.SgSampleRefIdeal.main_arg0) = m' ((c.tc : Thread Cert.SgSampleRefIdeal.nD Cert.SgSampleRefIdeal.τ).loc Cert.SgSampleRefIdeal.main_arg0)
          ∧ r.2.mem ((c.tc : Thread Cert.SgSampleRefIdeal.nD Cert.SgSampleRefIdeal.τ).loc Cert.SgSampleRefIdeal.main_arg1) = m' ((c.tc : Thread Cert.SgSampleRefIdeal.nD Cert.SgSampleRefIdeal.τ).loc Cert.SgSampleRefIdeal.main_arg1)
          ∧ r.2.mem ((c.tc : Thread Cert.SgSampleRefIdeal.nD Cert.SgSampleRefIdeal.τ).loc Cert.SgSampleRefIdeal.main_arg2) = m' ((c.tc : Thread Cert.SgSampleRefIdeal.nD Cert.SgSampleRefIdeal.τ).loc Cert.SgSampleRefIdeal.main_arg2)
          ∧ r.2.mem ((c.tc : Thread Cert.SgSampleRefIdeal.nD Cert.SgSampleRefIdeal.τ).loc Cert.SgSampleRefIdeal.main_arg3) = m' ((c.tc : Thread Cert.SgSampleRefIdeal.nD Cert.SgSampleRefIdeal.τ).loc Cert.SgSampleRefIdeal.main_arg3))

def preserves_SsmSample_SsmSampleIdeal : Prop :=
  True

def algebraic_SsmSampleIdeal_SsmSampleRefIdeal [hSsmSampleIdeal : Cert.SsmSampleIdeal.Facts] [hSsmSampleRefIdeal : Cert.SsmSampleRefIdeal.Facts] : Prop :=
  ∀ (m : (ℓ : Loc Cert.SsmSampleIdeal.nD Cert.SsmSampleIdeal.τ Cert.SsmSampleIdeal.sig) → Buf (Elt Ideal) ℓ) (g : Dev Cert.SsmSampleIdeal.nD → PrngReg)
    (m' : (ℓ : Loc Cert.SsmSampleRefIdeal.nD Cert.SsmSampleRefIdeal.τ Cert.SsmSampleRefIdeal.sig) → Buf (Elt Ideal) ℓ) (g' : Dev Cert.SsmSampleRefIdeal.nD → PrngReg), Pre_SsmSampleIdeal m →
    (∀ c : Dev Cert.SsmSampleIdeal.nD,
      m' ((c.tc : Thread Cert.SsmSampleRefIdeal.nD Cert.SsmSampleRefIdeal.τ).loc Cert.SsmSampleRefIdeal.main_arg0) = m ((c.tc : Thread Cert.SsmSampleIdeal.nD Cert.SsmSampleIdeal.τ).loc Cert.SsmSampleIdeal.main_arg0)
      ∧ m' ((c.tc : Thread Cert.SsmSampleRefIdeal.nD Cert.SsmSampleRefIdeal.τ).loc Cert.SsmSampleRefIdeal.main_arg1) = m ((c.tc : Thread Cert.SsmSampleIdeal.nD Cert.SsmSampleIdeal.τ).loc Cert.SsmSampleIdeal.main_arg1)
      ∧ m' ((c.tc : Thread Cert.SsmSampleRefIdeal.nD Cert.SsmSampleRefIdeal.τ).loc Cert.SsmSampleRefIdeal.main_arg2) = m ((c.tc : Thread Cert.SsmSampleIdeal.nD Cert.SsmSampleIdeal.τ).loc Cert.SsmSampleIdeal.main_arg2)
      ∧ m' ((c.tc : Thread Cert.SsmSampleRefIdeal.nD Cert.SsmSampleRefIdeal.τ).loc Cert.SsmSampleRefIdeal.main_arg3) = m ((c.tc : Thread Cert.SsmSampleIdeal.nD Cert.SsmSampleIdeal.τ).loc Cert.SsmSampleIdeal.main_arg3)
      ∧ m' ((c.tc : Thread Cert.SsmSampleRefIdeal.nD Cert.SsmSampleRefIdeal.τ).loc Cert.SsmSampleRefIdeal.main_arg4) = m ((c.tc : Thread Cert.SsmSampleIdeal.nD Cert.SsmSampleIdeal.τ).loc Cert.SsmSampleIdeal.main_arg4)
      ∧ m' ((c.tc : Thread Cert.SsmSampleRefIdeal.nD Cert.SsmSampleRefIdeal.τ).loc Cert.SsmSampleRefIdeal.main_arg5) = m ((c.tc : Thread Cert.SsmSampleIdeal.nD Cert.SsmSampleIdeal.τ).loc Cert.SsmSampleIdeal.main_arg5)
      ∧ m' ((c.tc : Thread Cert.SsmSampleRefIdeal.nD Cert.SsmSampleRefIdeal.τ).loc Cert.SsmSampleRefIdeal.main_arg6) = m ((c.tc : Thread Cert.SsmSampleIdeal.nD Cert.SsmSampleIdeal.τ).loc Cert.SsmSampleIdeal.main_arg6)
      ∧ m' ((c.tc : Thread Cert.SsmSampleRefIdeal.nD Cert.SsmSampleRefIdeal.τ).loc Cert.SsmSampleRefIdeal.main_arg7) = m ((c.tc : Thread Cert.SsmSampleIdeal.nD Cert.SsmSampleIdeal.τ).loc Cert.SsmSampleIdeal.main_arg7)
      ∧ m' ((c.tc : Thread Cert.SsmSampleRefIdeal.nD Cert.SsmSampleRefIdeal.τ).loc Cert.SsmSampleRefIdeal.main_arg8) = m ((c.tc : Thread Cert.SsmSampleIdeal.nD Cert.SsmSampleIdeal.τ).loc Cert.SsmSampleIdeal.main_arg8)
      ∧ m' ((c.tc : Thread Cert.SsmSampleRefIdeal.nD Cert.SsmSampleRefIdeal.τ).loc Cert.SsmSampleRefIdeal.main_arg9) = m ((c.tc : Thread Cert.SsmSampleIdeal.nD Cert.SsmSampleIdeal.τ).loc Cert.SsmSampleIdeal.main_arg9)
      ∧ m' ((c.tc : Thread Cert.SsmSampleRefIdeal.nD Cert.SsmSampleRefIdeal.τ).loc Cert.SsmSampleRefIdeal.main_arg10) = m ((c.tc : Thread Cert.SsmSampleIdeal.nD Cert.SsmSampleIdeal.τ).loc Cert.SsmSampleIdeal.main_arg10)
      ∧ m' ((c.tc : Thread Cert.SsmSampleRefIdeal.nD Cert.SsmSampleRefIdeal.τ).loc Cert.SsmSampleRefIdeal.main_arg11) = m ((c.tc : Thread Cert.SsmSampleIdeal.nD Cert.SsmSampleIdeal.τ).loc Cert.SsmSampleIdeal.main_arg11)
      ∧ m' ((c.tc : Thread Cert.SsmSampleRefIdeal.nD Cert.SsmSampleRefIdeal.τ).loc Cert.SsmSampleRefIdeal.main_arg12) = m ((c.tc : Thread Cert.SsmSampleIdeal.nD Cert.SsmSampleIdeal.τ).loc Cert.SsmSampleIdeal.main_arg12)) →
    ∃ (v0 : (c : Dev Cert.SsmSampleIdeal.nD) → Buf (Elt Ideal) ((c.tc : Thread Cert.SsmSampleIdeal.nD Cert.SsmSampleIdeal.τ).loc Cert.SsmSampleIdeal.main_v110_0)) (v1 : (c : Dev Cert.SsmSampleIdeal.nD) → Buf (Elt Ideal) ((c.tc : Thread Cert.SsmSampleIdeal.nD Cert.SsmSampleIdeal.τ).loc Cert.SsmSampleIdeal.main_v110_1)) (v2 : (c : Dev Cert.SsmSampleIdeal.nD) → Buf (Elt Ideal) ((c.tc : Thread Cert.SsmSampleIdeal.nD Cert.SsmSampleIdeal.τ).loc Cert.SsmSampleIdeal.main_v110_2)),
      θ_run (Cert.SsmSampleIdeal.defs (F := Ideal)) (onTc (τ := Cert.SsmSampleIdeal.τ) (Cert.SsmSampleIdeal.main (F := Ideal))) ⟨m, fun _ => 0, g⟩ (fun r => ∀ c : Dev Cert.SsmSampleIdeal.nD,
          r.2.mem ((c.tc : Thread Cert.SsmSampleIdeal.nD Cert.SsmSampleIdeal.τ).loc Cert.SsmSampleIdeal.main_v110_0) = v0 c
          ∧ r.2.mem ((c.tc : Thread Cert.SsmSampleIdeal.nD Cert.SsmSampleIdeal.τ).loc Cert.SsmSampleIdeal.main_v110_1) = v1 c
          ∧ r.2.mem ((c.tc : Thread Cert.SsmSampleIdeal.nD Cert.SsmSampleIdeal.τ).loc Cert.SsmSampleIdeal.main_v110_2) = v2 c
          ∧ r.2.mem ((c.tc : Thread Cert.SsmSampleIdeal.nD Cert.SsmSampleIdeal.τ).loc Cert.SsmSampleIdeal.main_arg0) = m ((c.tc : Thread Cert.SsmSampleIdeal.nD Cert.SsmSampleIdeal.τ).loc Cert.SsmSampleIdeal.main_arg0)
          ∧ r.2.mem ((c.tc : Thread Cert.SsmSampleIdeal.nD Cert.SsmSampleIdeal.τ).loc Cert.SsmSampleIdeal.main_arg1) = m ((c.tc : Thread Cert.SsmSampleIdeal.nD Cert.SsmSampleIdeal.τ).loc Cert.SsmSampleIdeal.main_arg1)
          ∧ r.2.mem ((c.tc : Thread Cert.SsmSampleIdeal.nD Cert.SsmSampleIdeal.τ).loc Cert.SsmSampleIdeal.main_arg2) = m ((c.tc : Thread Cert.SsmSampleIdeal.nD Cert.SsmSampleIdeal.τ).loc Cert.SsmSampleIdeal.main_arg2)
          ∧ r.2.mem ((c.tc : Thread Cert.SsmSampleIdeal.nD Cert.SsmSampleIdeal.τ).loc Cert.SsmSampleIdeal.main_arg3) = m ((c.tc : Thread Cert.SsmSampleIdeal.nD Cert.SsmSampleIdeal.τ).loc Cert.SsmSampleIdeal.main_arg3)
          ∧ r.2.mem ((c.tc : Thread Cert.SsmSampleIdeal.nD Cert.SsmSampleIdeal.τ).loc Cert.SsmSampleIdeal.main_arg4) = m ((c.tc : Thread Cert.SsmSampleIdeal.nD Cert.SsmSampleIdeal.τ).loc Cert.SsmSampleIdeal.main_arg4)
          ∧ r.2.mem ((c.tc : Thread Cert.SsmSampleIdeal.nD Cert.SsmSampleIdeal.τ).loc Cert.SsmSampleIdeal.main_arg5) = m ((c.tc : Thread Cert.SsmSampleIdeal.nD Cert.SsmSampleIdeal.τ).loc Cert.SsmSampleIdeal.main_arg5)
          ∧ r.2.mem ((c.tc : Thread Cert.SsmSampleIdeal.nD Cert.SsmSampleIdeal.τ).loc Cert.SsmSampleIdeal.main_arg6) = m ((c.tc : Thread Cert.SsmSampleIdeal.nD Cert.SsmSampleIdeal.τ).loc Cert.SsmSampleIdeal.main_arg6)
          ∧ r.2.mem ((c.tc : Thread Cert.SsmSampleIdeal.nD Cert.SsmSampleIdeal.τ).loc Cert.SsmSampleIdeal.main_arg7) = m ((c.tc : Thread Cert.SsmSampleIdeal.nD Cert.SsmSampleIdeal.τ).loc Cert.SsmSampleIdeal.main_arg7)
          ∧ r.2.mem ((c.tc : Thread Cert.SsmSampleIdeal.nD Cert.SsmSampleIdeal.τ).loc Cert.SsmSampleIdeal.main_arg8) = m ((c.tc : Thread Cert.SsmSampleIdeal.nD Cert.SsmSampleIdeal.τ).loc Cert.SsmSampleIdeal.main_arg8)
          ∧ r.2.mem ((c.tc : Thread Cert.SsmSampleIdeal.nD Cert.SsmSampleIdeal.τ).loc Cert.SsmSampleIdeal.main_arg9) = m ((c.tc : Thread Cert.SsmSampleIdeal.nD Cert.SsmSampleIdeal.τ).loc Cert.SsmSampleIdeal.main_arg9)
          ∧ r.2.mem ((c.tc : Thread Cert.SsmSampleIdeal.nD Cert.SsmSampleIdeal.τ).loc Cert.SsmSampleIdeal.main_arg10) = m ((c.tc : Thread Cert.SsmSampleIdeal.nD Cert.SsmSampleIdeal.τ).loc Cert.SsmSampleIdeal.main_arg10)
          ∧ r.2.mem ((c.tc : Thread Cert.SsmSampleIdeal.nD Cert.SsmSampleIdeal.τ).loc Cert.SsmSampleIdeal.main_arg11) = m ((c.tc : Thread Cert.SsmSampleIdeal.nD Cert.SsmSampleIdeal.τ).loc Cert.SsmSampleIdeal.main_arg11)
          ∧ r.2.mem ((c.tc : Thread Cert.SsmSampleIdeal.nD Cert.SsmSampleIdeal.τ).loc Cert.SsmSampleIdeal.main_arg12) = m ((c.tc : Thread Cert.SsmSampleIdeal.nD Cert.SsmSampleIdeal.τ).loc Cert.SsmSampleIdeal.main_arg12))
      ∧ θ_run (Cert.SsmSampleRefIdeal.defs (F := Ideal)) (onTc (τ := Cert.SsmSampleRefIdeal.τ) (Cert.SsmSampleRefIdeal.main (F := Ideal))) ⟨m', fun _ => 0, g'⟩ (fun r => ∀ c : Dev Cert.SsmSampleRefIdeal.nD,
          r.2.mem ((c.tc : Thread Cert.SsmSampleRefIdeal.nD Cert.SsmSampleRefIdeal.τ).loc Cert.SsmSampleRefIdeal.main_v129) = v0 c
          ∧ r.2.mem ((c.tc : Thread Cert.SsmSampleRefIdeal.nD Cert.SsmSampleRefIdeal.τ).loc Cert.SsmSampleRefIdeal.main_v130) = v1 c
          ∧ r.2.mem ((c.tc : Thread Cert.SsmSampleRefIdeal.nD Cert.SsmSampleRefIdeal.τ).loc Cert.SsmSampleRefIdeal.main_v131) = v2 c
          ∧ r.2.mem ((c.tc : Thread Cert.SsmSampleRefIdeal.nD Cert.SsmSampleRefIdeal.τ).loc Cert.SsmSampleRefIdeal.main_arg0) = m' ((c.tc : Thread Cert.SsmSampleRefIdeal.nD Cert.SsmSampleRefIdeal.τ).loc Cert.SsmSampleRefIdeal.main_arg0)
          ∧ r.2.mem ((c.tc : Thread Cert.SsmSampleRefIdeal.nD Cert.SsmSampleRefIdeal.τ).loc Cert.SsmSampleRefIdeal.main_arg1) = m' ((c.tc : Thread Cert.SsmSampleRefIdeal.nD Cert.SsmSampleRefIdeal.τ).loc Cert.SsmSampleRefIdeal.main_arg1)
          ∧ r.2.mem ((c.tc : Thread Cert.SsmSampleRefIdeal.nD Cert.SsmSampleRefIdeal.τ).loc Cert.SsmSampleRefIdeal.main_arg2) = m' ((c.tc : Thread Cert.SsmSampleRefIdeal.nD Cert.SsmSampleRefIdeal.τ).loc Cert.SsmSampleRefIdeal.main_arg2)
          ∧ r.2.mem ((c.tc : Thread Cert.SsmSampleRefIdeal.nD Cert.SsmSampleRefIdeal.τ).loc Cert.SsmSampleRefIdeal.main_arg3) = m' ((c.tc : Thread Cert.SsmSampleRefIdeal.nD Cert.SsmSampleRefIdeal.τ).loc Cert.SsmSampleRefIdeal.main_arg3)
          ∧ r.2.mem ((c.tc : Thread Cert.SsmSampleRefIdeal.nD Cert.SsmSampleRefIdeal.τ).loc Cert.SsmSampleRefIdeal.main_arg4) = m' ((c.tc : Thread Cert.SsmSampleRefIdeal.nD Cert.SsmSampleRefIdeal.τ).loc Cert.SsmSampleRefIdeal.main_arg4)
          ∧ r.2.mem ((c.tc : Thread Cert.SsmSampleRefIdeal.nD Cert.SsmSampleRefIdeal.τ).loc Cert.SsmSampleRefIdeal.main_arg5) = m' ((c.tc : Thread Cert.SsmSampleRefIdeal.nD Cert.SsmSampleRefIdeal.τ).loc Cert.SsmSampleRefIdeal.main_arg5)
          ∧ r.2.mem ((c.tc : Thread Cert.SsmSampleRefIdeal.nD Cert.SsmSampleRefIdeal.τ).loc Cert.SsmSampleRefIdeal.main_arg6) = m' ((c.tc : Thread Cert.SsmSampleRefIdeal.nD Cert.SsmSampleRefIdeal.τ).loc Cert.SsmSampleRefIdeal.main_arg6)
          ∧ r.2.mem ((c.tc : Thread Cert.SsmSampleRefIdeal.nD Cert.SsmSampleRefIdeal.τ).loc Cert.SsmSampleRefIdeal.main_arg7) = m' ((c.tc : Thread Cert.SsmSampleRefIdeal.nD Cert.SsmSampleRefIdeal.τ).loc Cert.SsmSampleRefIdeal.main_arg7)
          ∧ r.2.mem ((c.tc : Thread Cert.SsmSampleRefIdeal.nD Cert.SsmSampleRefIdeal.τ).loc Cert.SsmSampleRefIdeal.main_arg8) = m' ((c.tc : Thread Cert.SsmSampleRefIdeal.nD Cert.SsmSampleRefIdeal.τ).loc Cert.SsmSampleRefIdeal.main_arg8)
          ∧ r.2.mem ((c.tc : Thread Cert.SsmSampleRefIdeal.nD Cert.SsmSampleRefIdeal.τ).loc Cert.SsmSampleRefIdeal.main_arg9) = m' ((c.tc : Thread Cert.SsmSampleRefIdeal.nD Cert.SsmSampleRefIdeal.τ).loc Cert.SsmSampleRefIdeal.main_arg9)
          ∧ r.2.mem ((c.tc : Thread Cert.SsmSampleRefIdeal.nD Cert.SsmSampleRefIdeal.τ).loc Cert.SsmSampleRefIdeal.main_arg10) = m' ((c.tc : Thread Cert.SsmSampleRefIdeal.nD Cert.SsmSampleRefIdeal.τ).loc Cert.SsmSampleRefIdeal.main_arg10)
          ∧ r.2.mem ((c.tc : Thread Cert.SsmSampleRefIdeal.nD Cert.SsmSampleRefIdeal.τ).loc Cert.SsmSampleRefIdeal.main_arg11) = m' ((c.tc : Thread Cert.SsmSampleRefIdeal.nD Cert.SsmSampleRefIdeal.τ).loc Cert.SsmSampleRefIdeal.main_arg11)
          ∧ r.2.mem ((c.tc : Thread Cert.SsmSampleRefIdeal.nD Cert.SsmSampleRefIdeal.τ).loc Cert.SsmSampleRefIdeal.main_arg12) = m' ((c.tc : Thread Cert.SsmSampleRefIdeal.nD Cert.SsmSampleRefIdeal.τ).loc Cert.SsmSampleRefIdeal.main_arg12))

def preserves_DnSample_DnSampleIdeal : Prop :=
  True

def algebraic_DnSampleIdeal_DnSampleRefIdeal [hDnSampleIdeal : Cert.DnSampleIdeal.Facts] [hDnSampleRefIdeal : Cert.DnSampleRefIdeal.Facts] : Prop :=
  ∀ (m : (ℓ : Loc Cert.DnSampleIdeal.nD Cert.DnSampleIdeal.τ Cert.DnSampleIdeal.sig) → Buf (Elt Ideal) ℓ) (g : Dev Cert.DnSampleIdeal.nD → PrngReg)
    (m' : (ℓ : Loc Cert.DnSampleRefIdeal.nD Cert.DnSampleRefIdeal.τ Cert.DnSampleRefIdeal.sig) → Buf (Elt Ideal) ℓ) (g' : Dev Cert.DnSampleRefIdeal.nD → PrngReg), Pre_DnSampleIdeal m →
    (∀ c : Dev Cert.DnSampleIdeal.nD,
      m' ((c.tc : Thread Cert.DnSampleRefIdeal.nD Cert.DnSampleRefIdeal.τ).loc Cert.DnSampleRefIdeal.main_arg0) = m ((c.tc : Thread Cert.DnSampleIdeal.nD Cert.DnSampleIdeal.τ).loc Cert.DnSampleIdeal.main_arg0)
      ∧ m' ((c.tc : Thread Cert.DnSampleRefIdeal.nD Cert.DnSampleRefIdeal.τ).loc Cert.DnSampleRefIdeal.main_arg1) = m ((c.tc : Thread Cert.DnSampleIdeal.nD Cert.DnSampleIdeal.τ).loc Cert.DnSampleIdeal.main_arg1)
      ∧ m' ((c.tc : Thread Cert.DnSampleRefIdeal.nD Cert.DnSampleRefIdeal.τ).loc Cert.DnSampleRefIdeal.main_arg2) = m ((c.tc : Thread Cert.DnSampleIdeal.nD Cert.DnSampleIdeal.τ).loc Cert.DnSampleIdeal.main_arg2)
      ∧ m' ((c.tc : Thread Cert.DnSampleRefIdeal.nD Cert.DnSampleRefIdeal.τ).loc Cert.DnSampleRefIdeal.main_arg3) = m ((c.tc : Thread Cert.DnSampleIdeal.nD Cert.DnSampleIdeal.τ).loc Cert.DnSampleIdeal.main_arg3)
      ∧ m' ((c.tc : Thread Cert.DnSampleRefIdeal.nD Cert.DnSampleRefIdeal.τ).loc Cert.DnSampleRefIdeal.main_arg4) = m ((c.tc : Thread Cert.DnSampleIdeal.nD Cert.DnSampleIdeal.τ).loc Cert.DnSampleIdeal.main_arg4)
      ∧ m' ((c.tc : Thread Cert.DnSampleRefIdeal.nD Cert.DnSampleRefIdeal.τ).loc Cert.DnSampleRefIdeal.main_arg5) = m ((c.tc : Thread Cert.DnSampleIdeal.nD Cert.DnSampleIdeal.τ).loc Cert.DnSampleIdeal.main_arg5)
      ∧ m' ((c.tc : Thread Cert.DnSampleRefIdeal.nD Cert.DnSampleRefIdeal.τ).loc Cert.DnSampleRefIdeal.main_arg6) = m ((c.tc : Thread Cert.DnSampleIdeal.nD Cert.DnSampleIdeal.τ).loc Cert.DnSampleIdeal.main_arg6)
      ∧ m' ((c.tc : Thread Cert.DnSampleRefIdeal.nD Cert.DnSampleRefIdeal.τ).loc Cert.DnSampleRefIdeal.main_arg7) = m ((c.tc : Thread Cert.DnSampleIdeal.nD Cert.DnSampleIdeal.τ).loc Cert.DnSampleIdeal.main_arg7)) →
    ∃ (v0 : (c : Dev Cert.DnSampleIdeal.nD) → Buf (Elt Ideal) ((c.tc : Thread Cert.DnSampleIdeal.nD Cert.DnSampleIdeal.τ).loc Cert.DnSampleIdeal.main_v15_0)) (v1 : (c : Dev Cert.DnSampleIdeal.nD) → Buf (Elt Ideal) ((c.tc : Thread Cert.DnSampleIdeal.nD Cert.DnSampleIdeal.τ).loc Cert.DnSampleIdeal.main_v15_1)) (v2 : (c : Dev Cert.DnSampleIdeal.nD) → Buf (Elt Ideal) ((c.tc : Thread Cert.DnSampleIdeal.nD Cert.DnSampleIdeal.τ).loc Cert.DnSampleIdeal.main_v15_2)),
      θ_run (Cert.DnSampleIdeal.defs (F := Ideal)) (onTc (τ := Cert.DnSampleIdeal.τ) (Cert.DnSampleIdeal.main (F := Ideal))) ⟨m, fun _ => 0, g⟩ (fun r => ∀ c : Dev Cert.DnSampleIdeal.nD,
          r.2.mem ((c.tc : Thread Cert.DnSampleIdeal.nD Cert.DnSampleIdeal.τ).loc Cert.DnSampleIdeal.main_v15_0) = v0 c
          ∧ r.2.mem ((c.tc : Thread Cert.DnSampleIdeal.nD Cert.DnSampleIdeal.τ).loc Cert.DnSampleIdeal.main_v15_1) = v1 c
          ∧ r.2.mem ((c.tc : Thread Cert.DnSampleIdeal.nD Cert.DnSampleIdeal.τ).loc Cert.DnSampleIdeal.main_v15_2) = v2 c
          ∧ r.2.mem ((c.tc : Thread Cert.DnSampleIdeal.nD Cert.DnSampleIdeal.τ).loc Cert.DnSampleIdeal.main_arg0) = m ((c.tc : Thread Cert.DnSampleIdeal.nD Cert.DnSampleIdeal.τ).loc Cert.DnSampleIdeal.main_arg0)
          ∧ r.2.mem ((c.tc : Thread Cert.DnSampleIdeal.nD Cert.DnSampleIdeal.τ).loc Cert.DnSampleIdeal.main_arg1) = m ((c.tc : Thread Cert.DnSampleIdeal.nD Cert.DnSampleIdeal.τ).loc Cert.DnSampleIdeal.main_arg1)
          ∧ r.2.mem ((c.tc : Thread Cert.DnSampleIdeal.nD Cert.DnSampleIdeal.τ).loc Cert.DnSampleIdeal.main_arg2) = m ((c.tc : Thread Cert.DnSampleIdeal.nD Cert.DnSampleIdeal.τ).loc Cert.DnSampleIdeal.main_arg2)
          ∧ r.2.mem ((c.tc : Thread Cert.DnSampleIdeal.nD Cert.DnSampleIdeal.τ).loc Cert.DnSampleIdeal.main_arg3) = m ((c.tc : Thread Cert.DnSampleIdeal.nD Cert.DnSampleIdeal.τ).loc Cert.DnSampleIdeal.main_arg3)
          ∧ r.2.mem ((c.tc : Thread Cert.DnSampleIdeal.nD Cert.DnSampleIdeal.τ).loc Cert.DnSampleIdeal.main_arg4) = m ((c.tc : Thread Cert.DnSampleIdeal.nD Cert.DnSampleIdeal.τ).loc Cert.DnSampleIdeal.main_arg4)
          ∧ r.2.mem ((c.tc : Thread Cert.DnSampleIdeal.nD Cert.DnSampleIdeal.τ).loc Cert.DnSampleIdeal.main_arg5) = m ((c.tc : Thread Cert.DnSampleIdeal.nD Cert.DnSampleIdeal.τ).loc Cert.DnSampleIdeal.main_arg5)
          ∧ r.2.mem ((c.tc : Thread Cert.DnSampleIdeal.nD Cert.DnSampleIdeal.τ).loc Cert.DnSampleIdeal.main_arg6) = m ((c.tc : Thread Cert.DnSampleIdeal.nD Cert.DnSampleIdeal.τ).loc Cert.DnSampleIdeal.main_arg6)
          ∧ r.2.mem ((c.tc : Thread Cert.DnSampleIdeal.nD Cert.DnSampleIdeal.τ).loc Cert.DnSampleIdeal.main_arg7) = m ((c.tc : Thread Cert.DnSampleIdeal.nD Cert.DnSampleIdeal.τ).loc Cert.DnSampleIdeal.main_arg7))
      ∧ θ_run (Cert.DnSampleRefIdeal.defs (F := Ideal)) (onTc (τ := Cert.DnSampleRefIdeal.τ) (Cert.DnSampleRefIdeal.main (F := Ideal))) ⟨m', fun _ => 0, g'⟩ (fun r => ∀ c : Dev Cert.DnSampleRefIdeal.nD,
          r.2.mem ((c.tc : Thread Cert.DnSampleRefIdeal.nD Cert.DnSampleRefIdeal.τ).loc Cert.DnSampleRefIdeal.main_v133) = v0 c
          ∧ r.2.mem ((c.tc : Thread Cert.DnSampleRefIdeal.nD Cert.DnSampleRefIdeal.τ).loc Cert.DnSampleRefIdeal.main_v137) = v1 c
          ∧ r.2.mem ((c.tc : Thread Cert.DnSampleRefIdeal.nD Cert.DnSampleRefIdeal.τ).loc Cert.DnSampleRefIdeal.main_v141) = v2 c
          ∧ r.2.mem ((c.tc : Thread Cert.DnSampleRefIdeal.nD Cert.DnSampleRefIdeal.τ).loc Cert.DnSampleRefIdeal.main_arg0) = m' ((c.tc : Thread Cert.DnSampleRefIdeal.nD Cert.DnSampleRefIdeal.τ).loc Cert.DnSampleRefIdeal.main_arg0)
          ∧ r.2.mem ((c.tc : Thread Cert.DnSampleRefIdeal.nD Cert.DnSampleRefIdeal.τ).loc Cert.DnSampleRefIdeal.main_arg1) = m' ((c.tc : Thread Cert.DnSampleRefIdeal.nD Cert.DnSampleRefIdeal.τ).loc Cert.DnSampleRefIdeal.main_arg1)
          ∧ r.2.mem ((c.tc : Thread Cert.DnSampleRefIdeal.nD Cert.DnSampleRefIdeal.τ).loc Cert.DnSampleRefIdeal.main_arg2) = m' ((c.tc : Thread Cert.DnSampleRefIdeal.nD Cert.DnSampleRefIdeal.τ).loc Cert.DnSampleRefIdeal.main_arg2)
          ∧ r.2.mem ((c.tc : Thread Cert.DnSampleRefIdeal.nD Cert.DnSampleRefIdeal.τ).loc Cert.DnSampleRefIdeal.main_arg3) = m' ((c.tc : Thread Cert.DnSampleRefIdeal.nD Cert.DnSampleRefIdeal.τ).loc Cert.DnSampleRefIdeal.main_arg3)
          ∧ r.2.mem ((c.tc : Thread Cert.DnSampleRefIdeal.nD Cert.DnSampleRefIdeal.τ).loc Cert.DnSampleRefIdeal.main_arg4) = m' ((c.tc : Thread Cert.DnSampleRefIdeal.nD Cert.DnSampleRefIdeal.τ).loc Cert.DnSampleRefIdeal.main_arg4)
          ∧ r.2.mem ((c.tc : Thread Cert.DnSampleRefIdeal.nD Cert.DnSampleRefIdeal.τ).loc Cert.DnSampleRefIdeal.main_arg5) = m' ((c.tc : Thread Cert.DnSampleRefIdeal.nD Cert.DnSampleRefIdeal.τ).loc Cert.DnSampleRefIdeal.main_arg5)
          ∧ r.2.mem ((c.tc : Thread Cert.DnSampleRefIdeal.nD Cert.DnSampleRefIdeal.τ).loc Cert.DnSampleRefIdeal.main_arg6) = m' ((c.tc : Thread Cert.DnSampleRefIdeal.nD Cert.DnSampleRefIdeal.τ).loc Cert.DnSampleRefIdeal.main_arg6)
          ∧ r.2.mem ((c.tc : Thread Cert.DnSampleRefIdeal.nD Cert.DnSampleRefIdeal.τ).loc Cert.DnSampleRefIdeal.main_arg7) = m' ((c.tc : Thread Cert.DnSampleRefIdeal.nD Cert.DnSampleRefIdeal.τ).loc Cert.DnSampleRefIdeal.main_arg7))

def preserves_AttnSample_AttnSampleIdeal : Prop :=
  True

def algebraic_AttnSampleIdeal_AttnSampleRefIdeal_pre_finite_k [hAttnSampleIdeal : Cert.AttnSampleIdeal.Facts] [hAttnSampleRefIdeal : Cert.AttnSampleRefIdeal.Facts] [hPre_finite_k : Cert.Pre_finite_k.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_finite_k m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)
      ∧ m' ((c.tc : Thread Cert.AttnSampleRefIdeal.nD Cert.AttnSampleRefIdeal.τ).loc Cert.AttnSampleRefIdeal.main_arg5) = m ((c.tc : Thread Cert.AttnSampleIdeal.nD Cert.AttnSampleIdeal.τ).loc Cert.AttnSampleIdeal.main_arg5)) →
    ∃ (v0 : (c : Dev Cert.AttnSampleIdeal.nD) → Buf (Elt Ideal) ((c.tc : Thread Cert.AttnSampleIdeal.nD Cert.AttnSampleIdeal.τ).loc Cert.AttnSampleIdeal.main_v55_1)) (v1 : (c : Dev Cert.AttnSampleIdeal.nD) → Buf (Elt Ideal) ((c.tc : Thread Cert.AttnSampleIdeal.nD Cert.AttnSampleIdeal.τ).loc Cert.AttnSampleIdeal.main_v55_2)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v55_1) = v0 c
          ∧ r.2.mem ((c.tc : Thread Cert.AttnSampleIdeal.nD Cert.AttnSampleIdeal.τ).loc Cert.AttnSampleIdeal.main_v55_2) = v1 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v58) = v0 c
          ∧ r.2.mem ((c.tc : Thread Cert.AttnSampleRefIdeal.nD Cert.AttnSampleRefIdeal.τ).loc Cert.AttnSampleRefIdeal.main_v59) = v1 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4)
          ∧ r.2.mem ((c.tc : Thread Cert.AttnSampleRefIdeal.nD Cert.AttnSampleRefIdeal.τ).loc Cert.AttnSampleRefIdeal.main_arg5) = m' ((c.tc : Thread Cert.AttnSampleRefIdeal.nD Cert.AttnSampleRefIdeal.τ).loc Cert.AttnSampleRefIdeal.main_arg5))

def preserves_AttnPrompt_AttnPromptIdeal : Prop :=
  True

def algebraic_AttnPromptIdeal_AttnPromptRefIdeal [hAttnPromptIdeal : Cert.AttnPromptIdeal.Facts] [hAttnPromptRefIdeal : Cert.AttnPromptRefIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)
      ∧ m' ((c.tc : Thread Cert.AttnPromptRefIdeal.nD Cert.AttnPromptRefIdeal.τ).loc Cert.AttnPromptRefIdeal.main_arg3) = m ((c.tc : Thread Cert.AttnPromptIdeal.nD Cert.AttnPromptIdeal.τ).loc Cert.AttnPromptIdeal.main_arg3)
      ∧ m' ((c.tc : Thread Cert.AttnPromptRefIdeal.nD Cert.AttnPromptRefIdeal.τ).loc Cert.AttnPromptRefIdeal.main_arg4) = m ((c.tc : Thread Cert.AttnPromptIdeal.nD Cert.AttnPromptIdeal.τ).loc Cert.AttnPromptIdeal.main_arg4)) →
    ∃ (v0 : (c : Dev Cert.AttnPromptIdeal.nD) → Buf (Elt Ideal) ((c.tc : Thread Cert.AttnPromptIdeal.nD Cert.AttnPromptIdeal.τ).loc Cert.AttnPromptIdeal.main_v48_2)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v48_2) = v0 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
          ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
          ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v2) = v0 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2)
          ∧ r.2.mem ((c.tc : Thread Cert.AttnPromptRefIdeal.nD Cert.AttnPromptRefIdeal.τ).loc Cert.AttnPromptRefIdeal.main_arg3) = m' ((c.tc : Thread Cert.AttnPromptRefIdeal.nD Cert.AttnPromptRefIdeal.τ).loc Cert.AttnPromptRefIdeal.main_arg3)
          ∧ r.2.mem ((c.tc : Thread Cert.AttnPromptRefIdeal.nD Cert.AttnPromptRefIdeal.τ).loc Cert.AttnPromptRefIdeal.main_arg4) = m' ((c.tc : Thread Cert.AttnPromptRefIdeal.nD Cert.AttnPromptRefIdeal.τ).loc Cert.AttnPromptRefIdeal.main_arg4))

def preserves_DnPrompt_DnPromptIdeal : Prop :=
  True

def algebraic_DnPromptIdeal_DnPromptRefIdeal [hDnPromptIdeal : Cert.DnPromptIdeal.Facts] [hDnPromptRefIdeal : Cert.DnPromptRefIdeal.Facts] : Prop :=
  ∀ (m : (ℓ : Loc Cert.DnPromptIdeal.nD Cert.DnPromptIdeal.τ Cert.DnPromptIdeal.sig) → Buf (Elt Ideal) ℓ) (g : Dev Cert.DnPromptIdeal.nD → PrngReg)
    (m' : (ℓ : Loc Cert.DnPromptRefIdeal.nD Cert.DnPromptRefIdeal.τ Cert.DnPromptRefIdeal.sig) → Buf (Elt Ideal) ℓ) (g' : Dev Cert.DnPromptRefIdeal.nD → PrngReg), Pre_DnPromptIdeal m →
    (∀ c : Dev Cert.DnPromptIdeal.nD,
      m' ((c.tc : Thread Cert.DnPromptRefIdeal.nD Cert.DnPromptRefIdeal.τ).loc Cert.DnPromptRefIdeal.main_arg0) = m ((c.tc : Thread Cert.DnPromptIdeal.nD Cert.DnPromptIdeal.τ).loc Cert.DnPromptIdeal.main_arg0)
      ∧ m' ((c.tc : Thread Cert.DnPromptRefIdeal.nD Cert.DnPromptRefIdeal.τ).loc Cert.DnPromptRefIdeal.main_arg1) = m ((c.tc : Thread Cert.DnPromptIdeal.nD Cert.DnPromptIdeal.τ).loc Cert.DnPromptIdeal.main_arg1)
      ∧ m' ((c.tc : Thread Cert.DnPromptRefIdeal.nD Cert.DnPromptRefIdeal.τ).loc Cert.DnPromptRefIdeal.main_arg2) = m ((c.tc : Thread Cert.DnPromptIdeal.nD Cert.DnPromptIdeal.τ).loc Cert.DnPromptIdeal.main_arg2)
      ∧ m' ((c.tc : Thread Cert.DnPromptRefIdeal.nD Cert.DnPromptRefIdeal.τ).loc Cert.DnPromptRefIdeal.main_arg3) = m ((c.tc : Thread Cert.DnPromptIdeal.nD Cert.DnPromptIdeal.τ).loc Cert.DnPromptIdeal.main_arg3)
      ∧ m' ((c.tc : Thread Cert.DnPromptRefIdeal.nD Cert.DnPromptRefIdeal.τ).loc Cert.DnPromptRefIdeal.main_arg4) = m ((c.tc : Thread Cert.DnPromptIdeal.nD Cert.DnPromptIdeal.τ).loc Cert.DnPromptIdeal.main_arg4)
      ∧ m' ((c.tc : Thread Cert.DnPromptRefIdeal.nD Cert.DnPromptRefIdeal.τ).loc Cert.DnPromptRefIdeal.main_arg5) = m ((c.tc : Thread Cert.DnPromptIdeal.nD Cert.DnPromptIdeal.τ).loc Cert.DnPromptIdeal.main_arg5)) →
    ∃ (v0 : (c : Dev Cert.DnPromptIdeal.nD) → Buf (Elt Ideal) ((c.tc : Thread Cert.DnPromptIdeal.nD Cert.DnPromptIdeal.τ).loc Cert.DnPromptIdeal.main_v15_2)),
      θ_run (Cert.DnPromptIdeal.defs (F := Ideal)) (onTc (τ := Cert.DnPromptIdeal.τ) (Cert.DnPromptIdeal.main (F := Ideal))) ⟨m, fun _ => 0, g⟩ (fun r => ∀ c : Dev Cert.DnPromptIdeal.nD,
          r.2.mem ((c.tc : Thread Cert.DnPromptIdeal.nD Cert.DnPromptIdeal.τ).loc Cert.DnPromptIdeal.main_v15_2) = v0 c
          ∧ r.2.mem ((c.tc : Thread Cert.DnPromptIdeal.nD Cert.DnPromptIdeal.τ).loc Cert.DnPromptIdeal.main_arg0) = m ((c.tc : Thread Cert.DnPromptIdeal.nD Cert.DnPromptIdeal.τ).loc Cert.DnPromptIdeal.main_arg0)
          ∧ r.2.mem ((c.tc : Thread Cert.DnPromptIdeal.nD Cert.DnPromptIdeal.τ).loc Cert.DnPromptIdeal.main_arg1) = m ((c.tc : Thread Cert.DnPromptIdeal.nD Cert.DnPromptIdeal.τ).loc Cert.DnPromptIdeal.main_arg1)
          ∧ r.2.mem ((c.tc : Thread Cert.DnPromptIdeal.nD Cert.DnPromptIdeal.τ).loc Cert.DnPromptIdeal.main_arg2) = m ((c.tc : Thread Cert.DnPromptIdeal.nD Cert.DnPromptIdeal.τ).loc Cert.DnPromptIdeal.main_arg2)
          ∧ r.2.mem ((c.tc : Thread Cert.DnPromptIdeal.nD Cert.DnPromptIdeal.τ).loc Cert.DnPromptIdeal.main_arg3) = m ((c.tc : Thread Cert.DnPromptIdeal.nD Cert.DnPromptIdeal.τ).loc Cert.DnPromptIdeal.main_arg3)
          ∧ r.2.mem ((c.tc : Thread Cert.DnPromptIdeal.nD Cert.DnPromptIdeal.τ).loc Cert.DnPromptIdeal.main_arg4) = m ((c.tc : Thread Cert.DnPromptIdeal.nD Cert.DnPromptIdeal.τ).loc Cert.DnPromptIdeal.main_arg4)
          ∧ r.2.mem ((c.tc : Thread Cert.DnPromptIdeal.nD Cert.DnPromptIdeal.τ).loc Cert.DnPromptIdeal.main_arg5) = m ((c.tc : Thread Cert.DnPromptIdeal.nD Cert.DnPromptIdeal.τ).loc Cert.DnPromptIdeal.main_arg5))
      ∧ θ_run (Cert.DnPromptRefIdeal.defs (F := Ideal)) (onTc (τ := Cert.DnPromptRefIdeal.τ) (Cert.DnPromptRefIdeal.main (F := Ideal))) ⟨m', fun _ => 0, g'⟩ (fun r => ∀ c : Dev Cert.DnPromptRefIdeal.nD,
          r.2.mem ((c.tc : Thread Cert.DnPromptRefIdeal.nD Cert.DnPromptRefIdeal.τ).loc Cert.DnPromptRefIdeal.main_v2) = v0 c
          ∧ r.2.mem ((c.tc : Thread Cert.DnPromptRefIdeal.nD Cert.DnPromptRefIdeal.τ).loc Cert.DnPromptRefIdeal.main_arg0) = m' ((c.tc : Thread Cert.DnPromptRefIdeal.nD Cert.DnPromptRefIdeal.τ).loc Cert.DnPromptRefIdeal.main_arg0)
          ∧ r.2.mem ((c.tc : Thread Cert.DnPromptRefIdeal.nD Cert.DnPromptRefIdeal.τ).loc Cert.DnPromptRefIdeal.main_arg1) = m' ((c.tc : Thread Cert.DnPromptRefIdeal.nD Cert.DnPromptRefIdeal.τ).loc Cert.DnPromptRefIdeal.main_arg1)
          ∧ r.2.mem ((c.tc : Thread Cert.DnPromptRefIdeal.nD Cert.DnPromptRefIdeal.τ).loc Cert.DnPromptRefIdeal.main_arg2) = m' ((c.tc : Thread Cert.DnPromptRefIdeal.nD Cert.DnPromptRefIdeal.τ).loc Cert.DnPromptRefIdeal.main_arg2)
          ∧ r.2.mem ((c.tc : Thread Cert.DnPromptRefIdeal.nD Cert.DnPromptRefIdeal.τ).loc Cert.DnPromptRefIdeal.main_arg3) = m' ((c.tc : Thread Cert.DnPromptRefIdeal.nD Cert.DnPromptRefIdeal.τ).loc Cert.DnPromptRefIdeal.main_arg3)
          ∧ r.2.mem ((c.tc : Thread Cert.DnPromptRefIdeal.nD Cert.DnPromptRefIdeal.τ).loc Cert.DnPromptRefIdeal.main_arg4) = m' ((c.tc : Thread Cert.DnPromptRefIdeal.nD Cert.DnPromptRefIdeal.τ).loc Cert.DnPromptRefIdeal.main_arg4)
          ∧ r.2.mem ((c.tc : Thread Cert.DnPromptRefIdeal.nD Cert.DnPromptRefIdeal.τ).loc Cert.DnPromptRefIdeal.main_arg5) = m' ((c.tc : Thread Cert.DnPromptRefIdeal.nD Cert.DnPromptRefIdeal.τ).loc Cert.DnPromptRefIdeal.main_arg5))

def Claim : Prop :=
  ∃ (hGateLayout : Cert.GateLayout.Facts) (hGateLayoutIdeal : Cert.GateLayoutIdeal.Facts) (hGateLayoutRefIdeal : Cert.GateLayoutRefIdeal.Facts) (hGateLayoutRef : Cert.GateLayoutRef.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hFfnSample : Cert.FfnSample.Facts) (hFfnSampleIdeal : Cert.FfnSampleIdeal.Facts) (hFfnSampleRefIdeal : Cert.FfnSampleRefIdeal.Facts) (hInProj : Cert.InProj.Facts) (hInProjIdeal : Cert.InProjIdeal.Facts) (hInProjRefIdeal : Cert.InProjRefIdeal.Facts) (hSgSample : Cert.SgSample.Facts) (hSgSampleIdeal : Cert.SgSampleIdeal.Facts) (hSgSampleRefIdeal : Cert.SgSampleRefIdeal.Facts) (hSsmSample : Cert.SsmSample.Facts) (hSsmSampleIdeal : Cert.SsmSampleIdeal.Facts) (hSsmSampleRefIdeal : Cert.SsmSampleRefIdeal.Facts) (hDnSample : Cert.DnSample.Facts) (hDnSampleIdeal : Cert.DnSampleIdeal.Facts) (hDnSampleRefIdeal : Cert.DnSampleRefIdeal.Facts) (hAttnSample : Cert.AttnSample.Facts) (hAttnSampleIdeal : Cert.AttnSampleIdeal.Facts) (hAttnSampleRefIdeal : Cert.AttnSampleRefIdeal.Facts) (hAttnPrompt : Cert.AttnPrompt.Facts) (hAttnPromptIdeal : Cert.AttnPromptIdeal.Facts) (hAttnPromptRefIdeal : Cert.AttnPromptRefIdeal.Facts) (hDnPrompt : Cert.DnPrompt.Facts) (hDnPromptIdeal : Cert.DnPromptIdeal.Facts) (hDnPromptRefIdeal : Cert.DnPromptRefIdeal.Facts) (hPre_finite_k : Cert.Pre_finite_k.Facts),
    quiescent_GateLayout (hGateLayout := hGateLayout)
    ∧ quiescent_GateLayoutIdeal (hGateLayoutIdeal := hGateLayoutIdeal)
    ∧ quiescent_GateLayoutRefIdeal (hGateLayoutRefIdeal := hGateLayoutRefIdeal)
    ∧ quiescent_GateLayoutRef (hGateLayoutRef := hGateLayoutRef)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_InProj (hInProj := hInProj)
    ∧ quiescent_InProjIdeal (hInProjIdeal := hInProjIdeal)
    ∧ quiescent_InProjRefIdeal (hInProjRefIdeal := hInProjRefIdeal)
    ∧ quiescent_SgSample (hSgSample := hSgSample)
    ∧ quiescent_SgSampleIdeal (hSgSampleIdeal := hSgSampleIdeal)
    ∧ quiescent_SgSampleRefIdeal (hSgSampleRefIdeal := hSgSampleRefIdeal)
    ∧ quiescent_SsmSample (hSsmSample := hSsmSample)
    ∧ quiescent_SsmSampleIdeal (hSsmSampleIdeal := hSsmSampleIdeal)
    ∧ quiescent_SsmSampleRefIdeal (hSsmSampleRefIdeal := hSsmSampleRefIdeal)
    ∧ quiescent_DnSample (hDnSample := hDnSample)
    ∧ quiescent_DnSampleIdeal (hDnSampleIdeal := hDnSampleIdeal)
    ∧ quiescent_DnSampleRefIdeal (hDnSampleRefIdeal := hDnSampleRefIdeal)
    ∧ quiescent_AttnSample (hAttnSample := hAttnSample)
    ∧ quiescent_AttnSampleIdeal (hAttnSampleIdeal := hAttnSampleIdeal)
    ∧ quiescent_AttnSampleIdeal_pre_finite_k (hAttnSampleIdeal := hAttnSampleIdeal) (hPre_finite_k := hPre_finite_k)
    ∧ quiescent_AttnSampleRefIdeal (hAttnSampleRefIdeal := hAttnSampleRefIdeal)
    ∧ quiescent_AttnSampleRefIdeal_pre_finite_k (hAttnSampleRefIdeal := hAttnSampleRefIdeal) (hPre_finite_k := hPre_finite_k)
    ∧ quiescent_AttnPrompt (hAttnPrompt := hAttnPrompt)
    ∧ quiescent_AttnPromptIdeal (hAttnPromptIdeal := hAttnPromptIdeal)
    ∧ quiescent_AttnPromptRefIdeal (hAttnPromptRefIdeal := hAttnPromptRefIdeal)
    ∧ quiescent_DnPrompt (hDnPrompt := hDnPrompt)
    ∧ quiescent_DnPromptIdeal (hDnPromptIdeal := hDnPromptIdeal)
    ∧ quiescent_DnPromptRefIdeal (hDnPromptRefIdeal := hDnPromptRefIdeal)
    ∧ preserves_GateLayout_GateLayoutIdeal
    ∧ bitexact_GateLayout_GateLayoutRef (hGateLayout := hGateLayout) (hGateLayoutRef := hGateLayoutRef)
    ∧ algebraic_GateLayoutIdeal_GateLayoutRefIdeal (hGateLayoutIdeal := hGateLayoutIdeal) (hGateLayoutRefIdeal := hGateLayoutRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_InProj_InProjIdeal
    ∧ algebraic_InProjIdeal_InProjRefIdeal (hInProjIdeal := hInProjIdeal) (hInProjRefIdeal := hInProjRefIdeal)
    ∧ preserves_SgSample_SgSampleIdeal
    ∧ algebraic_SgSampleIdeal_SgSampleRefIdeal (hSgSampleIdeal := hSgSampleIdeal) (hSgSampleRefIdeal := hSgSampleRefIdeal)
    ∧ preserves_SsmSample_SsmSampleIdeal
    ∧ algebraic_SsmSampleIdeal_SsmSampleRefIdeal (hSsmSampleIdeal := hSsmSampleIdeal) (hSsmSampleRefIdeal := hSsmSampleRefIdeal)
    ∧ preserves_DnSample_DnSampleIdeal
    ∧ algebraic_DnSampleIdeal_DnSampleRefIdeal (hDnSampleIdeal := hDnSampleIdeal) (hDnSampleRefIdeal := hDnSampleRefIdeal)
    ∧ preserves_AttnSample_AttnSampleIdeal
    ∧ algebraic_AttnSampleIdeal_AttnSampleRefIdeal_pre_finite_k (hAttnSampleIdeal := hAttnSampleIdeal) (hAttnSampleRefIdeal := hAttnSampleRefIdeal) (hPre_finite_k := hPre_finite_k)
    ∧ preserves_AttnPrompt_AttnPromptIdeal
    ∧ algebraic_AttnPromptIdeal_AttnPromptRefIdeal (hAttnPromptIdeal := hAttnPromptIdeal) (hAttnPromptRefIdeal := hAttnPromptRefIdeal)
    ∧ preserves_DnPrompt_DnPromptIdeal
    ∧ algebraic_DnPromptIdeal_DnPromptRefIdeal (hDnPromptIdeal := hDnPromptIdeal) (hDnPromptRefIdeal := hDnPromptRefIdeal)
-- ==== Pre_finite_k.lean ====
abbrev S32x768 : Shape := ⟨2, ![32, 768]⟩
abbrev S4x32x128x2x64 : Shape := ⟨5, ![4, 32, 128, 2, 64]⟩
abbrev S4x64 : Shape := ⟨2, ![4, 64]⟩
abbrev S4x8 : Shape := ⟨2, ![4, 8]⟩
abbrev S32x128 : Shape := ⟨2, ![32, 128]⟩
abbrev S_ : Shape := ⟨0, ![]⟩

class Facts : Prop where
  slices_S32x768_S32x128_0_512 : S32x768.Slices ![0, 512] S32x128
  bcast_S_S32x128 : S_.BroadcastsInDim S32x128 (![] : Fin 0 → Fin S32x128.rank)

variable [Facts]

def fn {F : FTy → Type} [FloatOps F] (main_arg0 : FVec F S32x768 .f32) (main_arg1 : FVec F S4x32x128x2x64 .f32) (main_arg2 : FVec F S4x32x128x2x64 .f32) (main_arg3 : FVec F S4x64 .f32) (main_arg4 : FVec F S4x64 .f32) (main_arg5 : FVec F S4x8 .f32) : IVec S32x128 1 :=
  let main_v0 : FVec F S32x128 .f32 := (extractStridedSlice S32x128 ![0, 512] · slices_S32x768_S32x128_0_512) main_arg0
  let main_v1 : FVec F S32x128 .f32 := Host.absf main_v0
  let main_cst : FVec F S_ .f32 := constant S_ .f32 0x7F800000#32
  let main_v2 : FVec F S32x128 .f32 := broadcastInDim S32x128 ![] bcast_S_S32x128 main_cst
  let main_v3 : IVec S32x128 1 := cmpf .olt main_v1 main_v2
  main_v3
-- ==== GateLayout.lean ====
abbrev S4x2048x12552 : Shape := ⟨3, ![4, 2048, 12552]⟩
abbrev S4x14336x2048 : Shape := ⟨3, ![4, 14336, 2048]⟩
abbrev S4x12552x2048 : Shape := ⟨3, ![4, 12552, 2048]⟩
abbrev S1x512x2048 : Shape := ⟨3, ![1, 512, 2048]⟩
abbrev S512x2048 : Shape := ⟨2, ![512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S4x2048x12552, .f32⟩
  | .hbm, ⟨1, _⟩ => ⟨S4x14336x2048, .bf16⟩
  | .hbm, ⟨2, _⟩ => ⟨S4x12552x2048, .f32⟩
  | .hbm, ⟨3, _⟩ => ⟨S4x14336x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | _, _ => ⟨S4x2048x12552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4360_i32 : BitVec 32 := 4360#32
  let arg1 : BitVec 32 := BitVec.ofNat 32 (i 1).val
  let c512_i32 : BitVec 32 := 512#32
  let v0 : BitVec 32 := Scalar.muli arg1 c512_i32
  let v1 : BitVec 32 := Scalar.addi c4360_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4360_i32 : BitVec 32 := 4360#32
  let v1 : BitVec 32 := Scalar.addi c4360_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, v0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== GateLayoutRef.lean ====
abbrev S4x2048x12552 : Shape := ⟨3, ![4, 2048, 12552]⟩
abbrev S4x14336x2048 : Shape := ⟨3, ![4, 14336, 2048]⟩
abbrev S4x2048x8192 : Shape := ⟨3, ![4, 2048, 8192]⟩
abbrev S4x8192x2048 : Shape := ⟨3, ![4, 8192, 2048]⟩
abbrev S4x6144x2048 : Shape := ⟨3, ![4, 6144, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x12552, .f32⟩
  | .hbm, ⟨1, _⟩ => ⟨S4x14336x2048, .bf16⟩
  | .hbm, ⟨2, _⟩ => ⟨S4x2048x8192, .f32⟩
  | .hbm, ⟨3, _⟩ => ⟨S4x8192x2048, .f32⟩
  | .hbm, ⟨4, _⟩ => ⟨S4x8192x2048, .bf16⟩
  | .hbm, ⟨5, _⟩ => ⟨S4x6144x2048, .bf16⟩
  | .hbm, ⟨6, _⟩ => ⟨S4x14336x2048, .bf16⟩
  | _, _ => ⟨S4x2048x12552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S8192x2048 : Shape := ⟨2, ![8192, 2048]⟩
abbrev S4x8192x512 : Shape := ⟨3, ![4, 8192, 512]⟩
abbrev S4x14336x2048 : Shape := ⟨3, ![4, 14336, 2048]⟩
abbrev S4x4x512x2048 : Shape := ⟨4, ![4, 4, 512, 2048]⟩
abbrev S512x2048 : Shape := ⟨2, ![512, 2048]⟩
abbrev S1x512x512 : Shape := ⟨3, ![1, 512, 512]⟩
abbrev S1x2048x2048 : Shape := ⟨3, ![1, 2048, 2048]⟩
abbrev S1x1x512x2048 : Shape := ⟨4, ![1, 1, 512, 2048]⟩
abbrev S2048x2048 : Shape := ⟨2, ![2048, 2048]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x8192x512, .bf16⟩
  | .hbm, ⟨2, _⟩ => ⟨S4x14336x2048, .bf16⟩
  | .hbm, ⟨3, _⟩ => ⟨S4x4x512x2048, .f32⟩
  | .hbm, ⟨4, _⟩ => ⟨S4x4x512x2048, .bf16⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x512x512, .bf16⟩
  | .local _ .vmem, ⟨3, _⟩ => ⟨S1x512x512, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MergeRefIdeal.lean ====
abbrev S8192x2048 : Shape := ⟨2, ![8192, 2048]⟩
abbrev S4x8192x512 : Shape := ⟨3, ![4, 8192, 512]⟩
abbrev S4x14336x2048 : Shape := ⟨3, ![4, 14336, 2048]⟩
abbrev S4x4x512x2048 : Shape := ⟨4, ![4, 4, 512, 2048]⟩
abbrev S1x8192x2048 : Shape := ⟨3, ![1, 8192, 2048]⟩
abbrev S2048x8192 : Shape := ⟨2, ![2048, 8192]⟩
abbrev S8192x8192 : Shape := ⟨2, ![8192, 8192]⟩
abbrev S8192x4x2048 : Shape := ⟨3, ![8192, 4, 2048]⟩
abbrev S_ : Shape := ⟨0, ![]⟩
abbrev S1x4x512x2048 : Shape := ⟨4, ![1, 4, 512, 2048]⟩
abbrev S4x512x2048 : Shape := ⟨3, ![4, 512, 2048]⟩
abbrev S4x2048x8192 : Shape := ⟨3, ![4, 2048, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x512, .bf16⟩
  | .hbm, ⟨2, _⟩ => ⟨S4x14336x2048, .bf16⟩
  | .hbm, ⟨3, _⟩ => ⟨S4x4x512x2048, .f32⟩
  | .hbm, ⟨4, _⟩ => ⟨S8192x2048, .f32⟩
  | .hbm, ⟨5, _⟩ => ⟨S1x8192x2048, .bf16⟩
  | .hbm, ⟨6, _⟩ => ⟨S8192x2048, .bf16⟩
  | .hbm, ⟨7, _⟩ => ⟨S8192x2048, .f32⟩
  | .hbm, ⟨8, _⟩ => ⟨S2048x8192, .f32⟩
  | .hbm, ⟨9, _⟩ => ⟨S8192x8192, .f32⟩
  | .hbm, ⟨10, _⟩ => ⟨S8192x4x2048, .f32⟩
  | .hbm, ⟨11, _⟩ => ⟨S8192x4x2048, .f32⟩
  | .hbm, ⟨12, _⟩ => ⟨S8192x4x2048, .f32⟩
  | .hbm, ⟨13, _⟩ => ⟨S_, .f32⟩
  | .hbm, ⟨14, _⟩ => ⟨S8192x4x2048, .f32⟩
  | .hbm, ⟨15, _⟩ => ⟨S8192x4x2048, .f32⟩
  | .hbm, ⟨16, _⟩ => ⟨S_, .f32⟩
  | .hbm, ⟨17, _⟩ => ⟨S8192x4x2048, .f32⟩
  | .hbm, ⟨18, _⟩ => ⟨S8192x4x2048, .f32⟩
  | .hbm, ⟨19, _⟩ => ⟨S4x8192x512, .f32⟩
  | .hbm, ⟨20, _⟩ => ⟨S1x4x512x2048, .f32⟩
  | .hbm, ⟨21, _⟩ => ⟨S4x512x2048, .f32⟩
  | .hbm, ⟨22, _⟩ => ⟨S4x2048x8192, .f32⟩
  | .hbm, ⟨23, _⟩ => ⟨S8192x4x2048, .f32⟩
  | .hbm, ⟨24, _⟩ => ⟨S8192x4x2048, .f32⟩
  | .hbm, ⟨25, _⟩ => ⟨S_, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048, .f32⟩
  | .hbm, ⟨4, _⟩ => ⟨S4x2048x2048, .bf16⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x2048 : Shape := ⟨2, ![8192, 2048]⟩
abbrev S4x2048x2048 : Shape := ⟨3, ![4, 2048, 2048]⟩
abbrev S1x2048 : Shape := ⟨2, ![1, 2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Ffn.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S4x8192x2048, .f32⟩
  | .hbm, ⟨3, _⟩ => ⟨S8192x2048, .f32⟩
  | .hbm, ⟨4, _⟩ => ⟨S1x2048, .f32⟩
  | .hbm, ⟨5, _⟩ => ⟨S4x2048x8192, .bf16⟩
  | .hbm, ⟨6, _⟩ => ⟨S4x8192x2048, .bf16⟩
  | .hbm, ⟨7, _⟩ => ⟨S8192x2048, .f32⟩
  | .hbm, ⟨8, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x8192, .f32⟩
  | .hbm, ⟨2, _⟩ => ⟨S4x8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048x8192, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== FfnSample.lean ====
abbrev S32x2048 : Shape := ⟨2, ![32, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S32x1024 : Shape := ⟨2, ![32, 1024]⟩
abbrev S1024x2048 : Shape := ⟨2, ![1024, 2048]⟩
abbrev S32 : Shape := ⟨1, ![32]⟩
abbrev S32x1 : Shape := ⟨2, ![32, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x2048, .bf16⟩
  | .hbm, ⟨1, _⟩ => ⟨S4x2048x8192, .f32⟩
  | .hbm, ⟨2, _⟩ => ⟨S4x8192x2048, .f32⟩
  | .hbm, ⟨3, _⟩ => ⟨S32x2048, .f32⟩
  | .hbm, ⟨4, _⟩ => ⟨S1x2048, .f32⟩
  | .hbm, ⟨5, _⟩ => ⟨S4x2048x8192, .bf16⟩
  | .hbm, ⟨6, _⟩ => ⟨S4x8192x2048, .bf16⟩
  | .hbm, ⟨7, _⟩ => ⟨S32x2048, .f32⟩
  | .hbm, ⟨8, _⟩ => ⟨S32x2048, .bf16⟩
  | .local _ .vmem, ⟨0, _⟩ => ⟨S32x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S32x2048, .f32⟩
  | .local _ .vmem, ⟨6, _⟩ => ⟨S1x2048, .f32⟩
  | .local _ .vmem, ⟨7, _⟩ => ⟨S32x2048, .f32⟩
  | .local _ .vmem, ⟨8, _⟩ => ⟨S32x2048, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleRefIdeal.lean ====
abbrev S32x2048 : Shape := ⟨2, ![32, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1x2048x8192 : Shape := ⟨3, ![1, 2048, 8192]⟩
abbrev S2048x8192 : Shape := ⟨2, ![2048, 8192]⟩
abbrev S32x8192 : Shape := ⟨2, ![32, 8192]⟩
abbrev S_ : Shape := ⟨0, ![]⟩
abbrev S1x8192x2048 : Shape := ⟨3, ![1, 8192, 2048]⟩
abbrev S8192x2048 : Shape := ⟨2, ![8192, 2048]⟩
abbrev S32 : Shape := ⟨1, ![32]⟩
abbrev S32x1 : Shape := ⟨2, ![32, 1]⟩

abbrev nBuf : Space → Nat
  | .hbm => 33
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S4x2048x8192, .f32⟩
  | .hbm, ⟨2, _⟩ => ⟨S4x8192x2048, .f32⟩
  | .hbm, ⟨3, _⟩ => ⟨S32x2048, .f32⟩
  | .hbm, ⟨4, _⟩ => ⟨S1x2048, .f32⟩
  | .hbm, ⟨5, _⟩ => ⟨S32x2048, .f32⟩
  | .hbm, ⟨6, _⟩ => ⟨S1x2048x8192, .f32⟩
  | .hbm, ⟨7, _⟩ => ⟨S2048x8192, .f32⟩
  | .hbm, ⟨8, _⟩ => ⟨S32x8192, .f32⟩
  | .hbm, ⟨9, _⟩ => ⟨S_, .f32⟩
  | .hbm, ⟨10, _⟩ => ⟨S32x8192, .f32⟩
  | .hbm, ⟨11, _⟩ => ⟨S32x8192, .f32⟩
  | .hbm, ⟨12, _⟩ => ⟨S32x8192, .f32⟩
  | .hbm, ⟨13, _⟩ => ⟨S1x8192x2048, .f32⟩
  | .hbm, ⟨14, _⟩ => ⟨S8192x2048, .f32⟩
  | .hbm, ⟨15, _⟩ => ⟨S32x2048, .f32⟩
  | .hbm, ⟨16, _⟩ => ⟨S32x2048, .f32⟩
  | .hbm, ⟨17, _⟩ => ⟨S32x2048, .f32⟩
  | .hbm, ⟨18, _⟩ => ⟨S_, .f32⟩
  | .hbm, ⟨19, _⟩ => ⟨S32, .f32⟩
  | .hbm, ⟨20, _⟩ => ⟨S32x1, .f32⟩
  | .hbm, ⟨21, _⟩ => ⟨S_, .f32⟩
  | .hbm, ⟨22, _⟩ => ⟨S32x1, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S32x1, .f32⟩
  | .hbm, ⟨28, _⟩ => ⟨S32x2048, .f32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S32x2048, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== InProj.lean ====
abbrev S8192x2048 : Shape := ⟨2, ![8192, 2048]⟩
abbrev S4x14336x2048 : Shape := ⟨3, ![4, 14336, 2048]⟩
abbrev S4x512 : Shape := ⟨2, ![4, 512]⟩
abbrev S4x4x128x128 : Shape := ⟨4, ![4, 4, 128, 128]⟩
abbrev S4x4x128 : Shape := ⟨3, ![4, 4, 128]⟩
abbrev S4x128x4 : Shape := ⟨3, ![4, 128, 4]⟩
abbrev S4x128x4x128 : Shape := ⟨4, ![4, 128, 4, 128]⟩
abbrev S4x128x512 : Shape := ⟨3, ![4, 128, 512]⟩
abbrev S4x1x512 : Shape := ⟨3, ![4, 1, 512]⟩
abbrev S1x1x512 : Shape := ⟨3, ![1, 1, 512]⟩
abbrev S1x512 : Shape := ⟨2, ![1, 512]⟩
abbrev S1x4x128x128 : Shape := ⟨4, ![1, 4, 128, 128]⟩
abbrev S4x128x128 : Shape := ⟨3, ![4, 128, 128]⟩
abbrev S1x128x512 : Shape := ⟨3, ![1, 128, 512]⟩
abbrev S128x512 : Shape := ⟨2, ![128, 512]⟩
abbrev S8192x768 : Shape := ⟨2, ![8192, 768]⟩
abbrev S8192x512 : Shape := ⟨2, ![8192, 512]⟩
abbrev S8192x2176 : Shape := ⟨2, ![8192, 2176]⟩
abbrev S4x8192x512 : Shape := ⟨3, ![4, 8192, 512]⟩
abbrev S2x128x512 : Shape := ⟨3, ![2, 128, 512]⟩
abbrev S512x2048 : Shape := ⟨2, ![512, 2048]⟩
abbrev S1x4480x2048 : Shape := ⟨3, ![1, 4480, 2048]⟩
abbrev S512x768 : Shape := ⟨2, ![512, 768]⟩
abbrev S512x512 : Shape := ⟨2, ![512, 512]⟩
abbrev S512x2176 : Shape := ⟨2, ![512, 2176]⟩
abbrev S1x512x512 : Shape := ⟨3, ![1, 512, 512]⟩
abbrev S1x768x2048 : Shape := ⟨3, ![1, 768, 2048]⟩
abbrev S768x2048 : Shape := ⟨2, ![768, 2048]⟩
abbrev S1x512x2048 : Shape := ⟨3, ![1, 512, 2048]⟩
abbrev S1x2176x2048 : Shape := ⟨3, ![1, 2176, 2048]⟩
abbrev S2176x2048 : Shape := ⟨2, ![2176, 2048]⟩
abbrev S1x1024x2048 : Shape := ⟨3, ![1, 1024, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x8192x512 : Shape := ⟨3, ![1, 8192, 512]⟩

abbrev nBuf : Space → Nat
  | .hbm => 22
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S4x14336x2048, .bf16⟩
  | .hbm, ⟨2, _⟩ => ⟨S4x512, .f32⟩
  | .hbm, ⟨3, _⟩ => ⟨S4x4x128x128, .f32⟩
  | .hbm, ⟨4, _⟩ => ⟨S4x4x128, .f32⟩
  | .hbm, ⟨5, _⟩ => ⟨S4x128x4, .f32⟩
  | .hbm, ⟨6, _⟩ => ⟨S4x128x4x128, .f32⟩
  | .hbm, ⟨7, _⟩ => ⟨S4x128x512, .f32⟩
  | .hbm, ⟨8, _⟩ => ⟨S4x1x512, .f32⟩
  | .hbm, ⟨9, _⟩ => ⟨S1x1x512, .f32⟩
  | .hbm, ⟨10, _⟩ => ⟨S1x512, .f32⟩
  | .hbm, ⟨11, _⟩ => ⟨S1x4x128x128, .f32⟩
  | .hbm, ⟨12, _⟩ => ⟨S4x128x128, .f32⟩
  | .hbm, ⟨13, _⟩ => ⟨S1x128x512, .f32⟩
  | .hbm, ⟨14, _⟩ => ⟨S128x512, .f32⟩
  | .hbm, ⟨15, _⟩ => ⟨S8192x768, .f32⟩
  | .hbm, ⟨16, _⟩ => ⟨S8192x512, .f32⟩
  | .hbm, ⟨17, _⟩ => ⟨S8192x2176, .f32⟩
  | .hbm, ⟨18, _⟩ => ⟨S4x8192x512, .bf16⟩
  | .hbm, ⟨19, _⟩ => ⟨S2x128x512, .f32⟩
  | .hbm, ⟨20, _⟩ => ⟨S1x8192x512, .bf16⟩
  | .hbm, ⟨21, _⟩ => ⟨S8192x512, .bf16⟩
  | .local _ .vmem, ⟨0, _⟩ => ⟨S512x2048, .bf16⟩
  | .local _ .vmem, ⟨1, _⟩ => ⟨S512x2048, .bf16⟩
  | .local _ .vmem, ⟨2, _⟩ => ⟨S1x4480x2048, .bf16⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S512x768, .f32⟩
  | .local _ .vmem, ⟨7, _⟩ => ⟨S512x768, .f32⟩
  | .local _ .vmem, ⟨8, _⟩ => ⟨S512x512, .f32⟩
  | .local _ .vmem, ⟨9, _⟩ => ⟨S512x512, .f32⟩
  | .local _ .vmem, ⟨10, _⟩ => ⟨S512x2176, .f32⟩
  | .local _ .vmem, ⟨11, _⟩ => ⟨S512x2176, .f32⟩
  | .local _ .vmem, ⟨12, _⟩ => ⟨S1x512x512, .bf16⟩
  | .local _ .vmem, ⟨13, _⟩ => ⟨S1x512x512, .bf16⟩
  | .local _ .vmem, ⟨14, _⟩ => ⟨S1x128x512, .f32⟩
  | .local _ .vmem, ⟨15, _⟩ => ⟨S1x128x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4480x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S8192x2048 : Shape := ⟨2, ![8192, 2048]⟩
abbrev S4x14336x2048 : Shape := ⟨3, ![4, 14336, 2048]⟩
abbrev S4x512 : Shape := ⟨2, ![4, 512]⟩
abbrev S4x4x128x128 : Shape := ⟨4, ![4, 4, 128, 128]⟩
abbrev S4x4x128 : Shape := ⟨3, ![4, 4, 128]⟩
abbrev S1x4480x2048 : Shape := ⟨3, ![1, 4480, 2048]⟩
abbrev S4480x2048 : Shape := ⟨2, ![4480, 2048]⟩
abbrev S2048x4480 : Shape := ⟨2, ![2048, 4480]⟩
abbrev S8192x4480 : Shape := ⟨2, ![8192, 4480]⟩
abbrev S8192x1024 : Shape := ⟨2, ![8192, 1024]⟩
abbrev S_ : Shape := ⟨0, ![]⟩
abbrev S8192x512 : Shape := ⟨2, ![8192, 512]⟩
abbrev S1x512 : Shape := ⟨2, ![1, 512]⟩
abbrev S512 : Shape := ⟨1, ![512]⟩
abbrev S8192 : Shape := ⟨1, ![8192]⟩
abbrev S8192x1 : Shape := ⟨2, ![8192, 1]⟩
abbrev S1x4x128x128 : Shape := ⟨4, ![1, 4, 128, 128]⟩
abbrev S4x128x128 : Shape := ⟨3, ![4, 128, 128]⟩
abbrev S128x128 : Shape := ⟨2, ![128, 128]⟩
abbrev S64x128x4x128 : Shape := ⟨4, ![64, 128, 4, 128]⟩
abbrev S4x64x128x128 : Shape := ⟨4, ![4, 64, 128, 128]⟩
abbrev S1x4x128 : Shape := ⟨3, ![1, 4, 128]⟩
abbrev S4x128 : Shape := ⟨2, ![4, 128]⟩
abbrev S128x4 : Shape := ⟨2, ![128, 4]⟩
abbrev S1x128x4x1 : Shape := ⟨4, ![1, 128, 4, 1]⟩
abbrev S8192x768 : Shape := ⟨2, ![8192, 768]⟩
abbrev S8192x2176 : Shape := ⟨2, ![8192, 2176]⟩
abbrev S2x4096x512 : Shape := ⟨3, ![2, 4096, 512]⟩
abbrev S2x128x512 : Shape := ⟨3, ![2, 128, 512]⟩

abbrev nBuf : Space → Nat
  | .hbm => 78
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x14336x2048, .bf16⟩
  | .hbm, ⟨2, _⟩ => ⟨S4x512, .f32⟩
  | .hbm, ⟨3, _⟩ => ⟨S4x4x128x128, .f32⟩
  | .hbm, ⟨4, _⟩ => ⟨S4x4x128, .f32⟩
  | .hbm, ⟨5, _⟩ => ⟨S8192x2048, .f32⟩
  | .hbm, ⟨6, _⟩ => ⟨S1x4480x2048, .bf16⟩
  | .hbm, ⟨7, _⟩ => ⟨S4480x2048, .bf16⟩
  | .hbm, ⟨8, _⟩ => ⟨S4480x2048, .f32⟩
  | .hbm, ⟨9, _⟩ => ⟨S2048x4480, .f32⟩
  | .hbm, ⟨10, _⟩ => ⟨S8192x4480, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x512, .f32⟩
  | .hbm, ⟨30, _⟩ => ⟨S8192x512, .f32⟩
  | .hbm, ⟨31, _⟩ => ⟨S1x512, .f32⟩
  | .hbm, ⟨32, _⟩ => ⟨S512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x512, .f32⟩
  | .hbm, ⟨45, _⟩ => ⟨S8192x512, .f32⟩
  | .hbm, ⟨46, _⟩ => ⟨S1x512, .f32⟩
  | .hbm, ⟨47, _⟩ => ⟨S8192x512, .f32⟩
  | .hbm, ⟨48, _⟩ => ⟨S8192x512, .f32⟩
  | .hbm, ⟨49, _⟩ => ⟨S1x4x128x128, .f32⟩
  | .hbm, ⟨50, _⟩ => ⟨S4x128x128, .f32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S4x128x128, .i1⟩
  | .hbm, ⟨58, _⟩ => ⟨S_, .f32⟩
  | .hbm, ⟨59, _⟩ => ⟨S4x128x128, .f32⟩
  | .hbm, ⟨60, _⟩ => ⟨S4x128x128, .f32⟩
  | .hbm, ⟨61, _⟩ => ⟨S64x128x4x128, .f32⟩
  | .hbm, ⟨62, _⟩ => ⟨S4x64x128x128, .f32⟩
  | .hbm, ⟨63, _⟩ => ⟨S64x128x4x128, .f32⟩
  | .hbm, ⟨64, _⟩ => ⟨S1x4x128, .f32⟩
  | .hbm, ⟨65, _⟩ => ⟨S4x128, .f32⟩
  | .hbm, ⟨66, _⟩ => ⟨S128x4, .f32⟩
  | .hbm, ⟨67, _⟩ => ⟨S1x128x4x1, .f32⟩
  | .hbm, ⟨68, _⟩ => ⟨S64x128x4x128, .f32⟩
  | .hbm, ⟨69, _⟩ => ⟨S64x128x4x128, .f32⟩
  | .hbm, ⟨70, _⟩ => ⟨S8192x512, .f32⟩
  | .hbm, ⟨71, _⟩ => ⟨S8192x512, .f32⟩
  | .hbm, ⟨72, _⟩ => ⟨S8192x768, .f32⟩
  | .hbm, ⟨73, _⟩ => ⟨S8192x512, .f32⟩
  | .hbm, ⟨74, _⟩ => ⟨S8192x2176, .f32⟩
  | .hbm, ⟨75, _⟩ => ⟨S8192x512, .bf16⟩
  | .hbm, ⟨76, _⟩ => ⟨S2x4096x512, .f32⟩
  | .hbm, ⟨77, _⟩ => ⟨S2x128x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_cst : Ref sig .tc := ⟨.hbm, 58, rfl⟩
abbrev main_call0_v6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== SgSample.lean ====
abbrev S32x1024 : Shape := ⟨2, ![32, 1024]⟩
abbrev S4x512 : Shape := ⟨2, ![4, 512]⟩
abbrev S4x4x128x128 : Shape := ⟨4, ![4, 4, 128, 128]⟩
abbrev S4x4x128 : Shape := ⟨3, ![4, 4, 128]⟩
abbrev S4x4x1x1 : Shape := ⟨4, ![4, 4, 1, 1]⟩
abbrev S4x4 : Shape := ⟨2, ![4, 4]⟩
abbrev S4x1x512 : Shape := ⟨3, ![4, 1, 512]⟩
abbrev S4x128x4 : Shape := ⟨3, ![4, 128, 4]⟩
abbrev S4x128x4x128 : Shape := ⟨4, ![4, 128, 4, 128]⟩
abbrev S4x128x512 : Shape := ⟨3, ![4, 128, 512]⟩
abbrev S1x1x512 : Shape := ⟨3, ![1, 1, 512]⟩
abbrev S1x512 : Shape := ⟨2, ![1, 512]⟩
abbrev S1x128x512 : Shape := ⟨3, ![1, 128, 512]⟩
abbrev S128x512 : Shape := ⟨2, ![128, 512]⟩
abbrev S32x512 : Shape := ⟨2, ![32, 512]⟩
abbrev S32 : Shape := ⟨1, ![32]⟩
abbrev S32x1 : Shape := ⟨2, ![32, 1]⟩

abbrev nBuf : Space → Nat
  | .hbm => 21
  | .vmem => 6
  | .smem => 0
  | _ => 0

abbrev bufTy : (tb : Table) → Fin (tcTables nBuf tb) → BufTy
  | .hbm, ⟨0, _⟩ => ⟨S32x1024, .f32⟩
  | .hbm, ⟨1, _⟩ => ⟨S4x512, .f32⟩
  | .hbm, ⟨2, _⟩ => ⟨S4x4x128x128, .f32⟩
  | .hbm, ⟨3, _⟩ => ⟨S4x4x128, .f32⟩
  | .hbm, ⟨4, _⟩ => ⟨S4x4x1x1, .f32⟩
  | .hbm, ⟨5, _⟩ => ⟨S4x4, .f32⟩
  | .hbm, ⟨6, _⟩ => ⟨S4x4x128, .f32⟩
  | .hbm, ⟨7, _⟩ => ⟨S4x512, .f32⟩
  | .hbm, ⟨8, _⟩ => ⟨S4x1x512, .f32⟩
  | .hbm, ⟨9, _⟩ => ⟨S4x128x4, .f32⟩
  | .hbm, ⟨10, _⟩ => ⟨S4x128x4x128, .f32⟩
  | .hbm, ⟨11, _⟩ => ⟨S4x128x512, .f32⟩
  | .hbm, ⟨12, _⟩ => ⟨S4x1x512, .f32⟩
  | .hbm, ⟨13, _⟩ => ⟨S1x1x512, .f32⟩
  | .hbm, ⟨14, _⟩ => ⟨S1x512, .f32⟩
  | .hbm, ⟨15, _⟩ => ⟨S1x1x512, .f32⟩
  | .hbm, ⟨16, _⟩ => ⟨S1x512, .f32⟩
  | .hbm, ⟨17, _⟩ => ⟨S1x128x512, .f32⟩
  | .hbm, ⟨18, _⟩ => ⟨S128x512, .f32⟩
  | .hbm, ⟨19, _⟩ => ⟨S32x512, .f32⟩
  | .hbm, ⟨20, _⟩ => ⟨S32x512, .f32⟩
  | .local _ .vmem, ⟨0, _⟩ => ⟨S32x1024, .f32⟩
  | .local _ .vmem, ⟨1, _⟩ => ⟨S1x512, .f32⟩
  | .local _ .vmem, ⟨2, _⟩ => ⟨S1x512, .f32⟩
  | .local _ .vmem, ⟨3, _⟩ => ⟨S128x512, .f32⟩
  | .local _ .vmem, ⟨4, _⟩ => ⟨S32x512, .f32⟩
  | .local _ .vmem, ⟨5, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== SgSampleRefIdeal.lean ====
abbrev S32x1024 : Shape := ⟨2, ![32, 1024]⟩
abbrev S4x512 : Shape := ⟨2, ![4, 512]⟩
abbrev S4x4x128x128 : Shape := ⟨4, ![4, 4, 128, 128]⟩
abbrev S4x4x128 : Shape := ⟨3, ![4, 4, 128]⟩
abbrev S_ : Shape := ⟨0, ![]⟩
abbrev S32x512 : Shape := ⟨2, ![32, 512]⟩
abbrev S1x512 : Shape := ⟨2, ![1, 512]⟩
abbrev S512 : Shape := ⟨1, ![512]⟩
abbrev S32 : Shape := ⟨1, ![32]⟩
abbrev S32x1 : Shape := ⟨2, ![32, 1]⟩
abbrev S32x1x512 : Shape := ⟨3, ![32, 1, 512]⟩
abbrev S32x128x512 : Shape := ⟨3, ![32, 128, 512]⟩
abbrev S32x128x4x128 : Shape := ⟨4, ![32, 128, 4, 128]⟩
abbrev S1x4x128x128 : Shape := ⟨4, ![1, 4, 128, 128]⟩
abbrev S4x128x128 : Shape := ⟨3, ![4, 128, 128]⟩
abbrev S128x128 : Shape := ⟨2, ![128, 128]⟩
abbrev S4x32x128x128 : Shape := ⟨4, ![4, 32, 128, 128]⟩
abbrev S1x4x128 : Shape := ⟨3, ![1, 4, 128]⟩
abbrev S4x128 : Shape := ⟨2, ![4, 128]⟩
abbrev S128x4 : Shape := ⟨2, ![128, 4]⟩
abbrev S1x128x4x1 : Shape := ⟨4, ![1, 128, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S4x512, .f32⟩
  | .hbm, ⟨2, _⟩ => ⟨S4x4x128x128, .f32⟩
  | .hbm, ⟨3, _⟩ => ⟨S4x4x128, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S_, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x512, .f32⟩
  | .hbm, ⟨22, _⟩ => ⟨S32x512, .f32⟩
  | .hbm, ⟨23, _⟩ => ⟨S1x512, .f32⟩
  | .hbm, ⟨24, _⟩ => ⟨S512, .f32⟩
  | .hbm, ⟨25, _⟩ => ⟨S32x512, .f32⟩
  | .hbm, ⟨26, _⟩ => ⟨S_, .f32⟩
  | .hbm, ⟨27, _⟩ => ⟨S32, .f32⟩
  | .hbm, ⟨28, _⟩ => ⟨S32x1, .f32⟩
  | .hbm, ⟨29, _⟩ => ⟨S_, .f32⟩
  | .hbm, ⟨30, _⟩ => ⟨S32x1, .f32⟩
  | .hbm, ⟨31, _⟩ => ⟨S32x1, .f32⟩
  | .hbm, ⟨32, _⟩ => ⟨S_, .f32⟩
  | .hbm, ⟨33, _⟩ => ⟨S32x1, .f32⟩
  | .hbm, ⟨34, _⟩ => ⟨S32x1, .f32⟩
  | .hbm, ⟨35, _⟩ => ⟨S32x1, .f32⟩
  | .hbm, ⟨36, _⟩ => ⟨S32x512, .f32⟩
  | .hbm, ⟨37, _⟩ => ⟨S32x512, .f32⟩
  | .hbm, ⟨38, _⟩ => ⟨S1x512, .f32⟩
  | .hbm, ⟨39, _⟩ => ⟨S32x512, .f32⟩
  | .hbm, ⟨40, _⟩ => ⟨S32x512, .f32⟩
  | .hbm, ⟨41, _⟩ => ⟨S32x1x512, .f32⟩
  | .hbm, ⟨42, _⟩ => ⟨S_, .i32⟩
  | .hbm, ⟨43, _⟩ => ⟨S_, .f32⟩
  | .hbm, ⟨44, _⟩ => ⟨S32x128x512, .f32⟩
  | .hbm, ⟨45, _⟩ => ⟨S32x128x4x128, .f32⟩
  | .hbm, ⟨46, _⟩ => ⟨S1x4x128x128, .f32⟩
  | .hbm, ⟨47, _⟩ => ⟨S4x128x128, .f32⟩
  | .hbm, ⟨48, _⟩ => ⟨S128x128, .i32⟩
  | .hbm, ⟨49, _⟩ => ⟨S_, .i32⟩
  | .hbm, ⟨50, _⟩ => ⟨S128x128, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S4x128x128, .i1⟩
  | .hbm, ⟨55, _⟩ => ⟨S_, .f32⟩
  | .hbm, ⟨56, _⟩ => ⟨S4x128x128, .f32⟩
  | .hbm, ⟨57, _⟩ => ⟨S4x128x128, .f32⟩
  | .hbm, ⟨58, _⟩ => ⟨S4x32x128x128, .f32⟩
  | .hbm, ⟨59, _⟩ => ⟨S32x128x4x128, .f32⟩
  | .hbm, ⟨60, _⟩ => ⟨S1x4x128, .f32⟩
  | .hbm, ⟨61, _⟩ => ⟨S4x128, .f32⟩
  | .hbm, ⟨62, _⟩ => ⟨S128x4, .f32⟩
  | .hbm, ⟨63, _⟩ => ⟨S1x128x4x1, .f32⟩
  | .hbm, ⟨64, _⟩ => ⟨S32x128x4x128, .f32⟩
  | .hbm, ⟨65, _⟩ => ⟨S32x128x4x128, .f32⟩
  | .hbm, ⟨66, _⟩ => ⟨S32x128x512, .f32⟩
  | .hbm, ⟨67, _⟩ => ⟨S32x1x512, .f32⟩
  | .hbm, ⟨68, _⟩ => ⟨S32x512, .f32⟩
  | .hbm, ⟨69, _⟩ => ⟨S32x512, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_cst : Ref sig .tc := ⟨.hbm, 55, rfl⟩
abbrev main_call1_v6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== SsmSample.lean ====
abbrev S32x512 : Shape := ⟨2, ![32, 512]⟩
abbrev S4x32x32x64 : Shape := ⟨4, ![4, 32, 32, 64]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x512x512 : Shape := ⟨3, ![4, 512, 512]⟩
abbrev S4x32x1 : Shape := ⟨3, ![4, 32, 1]⟩
abbrev S_ : Shape := ⟨0, ![]⟩
abbrev S4x32x64x1 : Shape := ⟨4, ![4, 32, 64, 1]⟩
abbrev S8x8 : Shape := ⟨2, ![8, 8]⟩
abbrev S4x4x8x64x16 : Shape := ⟨5, ![4, 4, 8, 64, 16]⟩
abbrev S4x4x8x64x16x1 : Shape := ⟨6, ![4, 4, 8, 64, 16, 1]⟩
abbrev S1x8x1x1x8 : Shape := ⟨5, ![1, 8, 1, 1, 8]⟩
abbrev S1x1x8x1x1x8 : Shape := ⟨6, ![1, 1, 8, 1, 1, 8]⟩
abbrev S4x4x8x64x16x8 : Shape := ⟨6, ![4, 4, 8, 64, 16, 8]⟩
abbrev S4x4x8x16x8x64 : Shape := ⟨6, ![4, 4, 8, 16, 8, 64]⟩
abbrev S4x512x1024 : Shape := ⟨3, ![4, 512, 1024]⟩
abbrev S4x4x8x16x64 : Shape := ⟨5, ![4, 4, 8, 16, 64]⟩
abbrev S4x4x8x16x64x1 : Shape := ⟨6, ![4, 4, 8, 16, 64, 1]⟩
abbrev S4x4x8x16x64x8 : Shape := ⟨6, ![4, 4, 8, 16, 64, 8]⟩
abbrev S4x4x8x64x8x16 : Shape := ⟨6, ![4, 4, 8, 64, 8, 16]⟩
abbrev S4x2048x128 : Shape := ⟨3, ![4, 2048, 128]⟩
abbrev S4x4096x128 : Shape := ⟨3, ![4, 4096, 128]⟩
abbrev S4x2048 : Shape := ⟨2, ![4, 2048]⟩
abbrev S1x4x2048 : Shape := ⟨3, ![1, 4, 2048]⟩
abbrev S2x4x2048 : Shape := ⟨3, ![2, 4, 2048]⟩
abbrev S4x2x2048 : Shape := ⟨3, ![4, 2, 2048]⟩
abbrev S4x32x2048 : Shape := ⟨3, ![4, 32, 2048]⟩
abbrev S1x32x2048 : Shape := ⟨3, ![1, 32, 2048]⟩
abbrev S32x2048 : Shape := ⟨2, ![32, 2048]⟩
abbrev S1x2x2048 : Shape := ⟨3, ![1, 2, 2048]⟩
abbrev S2x2048 : Shape := ⟨2, ![2, 2048]⟩
abbrev S4x1x512 : Shape := ⟨3, ![4, 1, 512]⟩
abbrev S1x1x512 : Shape := ⟨3, ![1, 1, 512]⟩
abbrev S1x512 : Shape := ⟨2, ![1, 512]⟩
abbrev S1x512x1024 : Shape := ⟨3, ![1, 512, 1024]⟩
abbrev S1x4096x128 : Shape := ⟨3, ![1, 4096, 128]⟩
abbrev S1x512x512 : Shape := ⟨3, ![1, 512, 512]⟩
abbrev S32x128 : Shape := ⟨2, ![32, 128]⟩
abbrev S1x128x1024 : Shape := ⟨3, ![1, 128, 1024]⟩
abbrev S128x1024 : Shape := ⟨2, ![128, 1024]⟩
abbrev S32x1024 : Shape := ⟨2, ![32, 1024]⟩
abbrev S1x512x128 : Shape := ⟨3, ![1, 512, 128]⟩
abbrev S512x128 : Shape := ⟨2, ![512, 128]⟩
abbrev S512x512 : Shape := ⟨2, ![512, 512]⟩

abbrev nBuf : Space → Nat
  | .hbm => 129
  | .vmem => 12
  | .smem => 0
  | _ => 0

abbrev hbmTy0_0 (i : Nat) : BufTy := match i % 128 with
  | 0 => ⟨S32x512, .f32⟩
  | 1 => ⟨S4x32x32x64, .f32⟩
  | 2 => ⟨S4x32x32x64, .f32⟩
  | 3 => ⟨S4x32x64, .f32⟩
  | 4 => ⟨S4x32x64, .f32⟩
  | 5 => ⟨S4x32, .f32⟩
  | 6 => ⟨S4x32x64x16, .f32⟩
  | 7 => ⟨S4x32x64x16, .f32⟩
  | 8 => ⟨S4x32x16x64, .f32⟩
  | 9 => ⟨S4x32x16x64, .f32⟩
  | 10 => ⟨S4x512, .f32⟩
  | 11 => ⟨S4x512x512, .f32⟩
  | 12 => ⟨S4x512, .f32⟩
  | 13 => ⟨S4x32, .f32⟩
  | 14 => ⟨S4x32x1, .f32⟩
  | 15 => ⟨S4x32x64, .f32⟩
  | 16 => ⟨S4x32x64, .f32⟩
  | 17 => ⟨S4x32x64, .f32⟩
  | 18 => ⟨S4x32x64, .f32⟩
  | 19 => ⟨S4x32x64, .f32⟩
  | 20 => ⟨S4x32x64, .f32⟩
  | 21 => ⟨S4x32x64, .f32⟩
  | 22 => ⟨S4x32x64, .f32⟩
  | 23 => ⟨S4x32x64, .f32⟩
  | 24 => ⟨S4x32x64, .f32⟩
  | 25 => ⟨S4x32x64, .f32⟩
  | 26 => ⟨S4x32x64, .f32⟩
  | 27 => ⟨S4x32x64, .f32⟩
  | 28 => ⟨S4x32x64, .f32⟩
  | 29 => ⟨S_, .f32⟩
  | 30 => ⟨S4x32x64, .f32⟩
  | 31 => ⟨S4x32x64, .f32⟩
  | 32 => ⟨S4x32x64, .f32⟩
  | 33 => ⟨S4x32x64, .f32⟩
  | 34 => ⟨S4x32x64, .f32⟩
  | 35 => ⟨S4x32x64, .f32⟩
  | 36 => ⟨S4x32x64, .f32⟩
  | 37 => ⟨S_, .f32⟩
  | 38 => ⟨S4x32x64, .f32⟩
  | 39 => ⟨S4x32x64, .f32⟩
  | 40 => ⟨S4x32x64, .f32⟩
  | 41 => ⟨S4x32x64, .f32⟩
  | 42 => ⟨S4x32x64, .f32⟩
  | 43 => ⟨S4x32x64x1, .f32⟩
  | 44 => ⟨S4x32x64x16, .f32⟩
  | 45 => ⟨S4x32x64x16, .f32⟩
  | 46 => ⟨S4x32x64x1, .f32⟩
  | 47 => ⟨S4x32x64x16, .f32⟩
  | 48 => ⟨S4x32x64x16, .f32⟩
  | 49 => ⟨S4x32x64x16, .f32⟩
  | 50 => ⟨S4x32x64x1, .f32⟩
  | 51 => ⟨S4x32x64x16, .f32⟩
  | 52 => ⟨S4x32x64x16, .f32⟩
  | 53 => ⟨S4x32x64x1, .f32⟩
  | 54 => ⟨S4x32x64x16, .f32⟩
  | 55 => ⟨S4x32x64x16, .f32⟩
  | 56 => ⟨S4x32x64x16, .f32⟩
  | 57 => ⟨S8x8, .i32⟩
  | 58 => ⟨S8x8, .i32⟩
  | 59 => ⟨S_, .i32⟩
  | 60 => ⟨S8x8, .i32⟩
  | 61 => ⟨S8x8, .i32⟩
  | 62 => ⟨S8x8, .i1⟩
  | 63 => ⟨S8x8, .f32⟩
  | 64 => ⟨S4x4x8x64x16, .f32⟩
  | 65 => ⟨S4x4x8x64x16x1, .f32⟩
  | 66 => ⟨S1x8x1x1x8, .f32⟩
  | 67 => ⟨S1x1x8x1x1x8, .f32⟩
  | 68 => ⟨S4x4x8x64x16x8, .f32⟩
  | 69 => ⟨S4x4x8x64x16x8, .f32⟩
  | 70 => ⟨S4x4x8x64x16x8, .f32⟩
  | 71 => ⟨S4x4x8x16x8x64, .f32⟩
  | 72 => ⟨S4x512x512, .f32⟩
  | 73 => ⟨S4x4x8x64x16, .f32⟩
  | 74 => ⟨S4x4x8x64x16x1, .f32⟩
  | 75 => ⟨S1x8x1x1x8, .f32⟩
  | 76 => ⟨S1x1x8x1x1x8, .f32⟩
  | 77 => ⟨S4x4x8x64x16x8, .f32⟩
  | 78 => ⟨S4x4x8x64x16x8, .f32⟩
  | 79 => ⟨S4x4x8x64x16x8, .f32⟩
  | 80 => ⟨S4x4x8x16x8x64, .f32⟩
  | 81 => ⟨S4x512x512, .f32⟩
  | 82 => ⟨S4x512x1024, .f32⟩
  | 83 => ⟨S4x512x1024, .bf16⟩
  | 84 => ⟨S4x4x8x16x64, .f32⟩
  | 85 => ⟨S4x4x8x16x64x1, .f32⟩
  | 86 => ⟨S1x8x1x1x8, .f32⟩
  | 87 => ⟨S1x1x8x1x1x8, .f32⟩
  | 88 => ⟨S4x4x8x16x64x8, .f32⟩
  | 89 => ⟨S4x4x8x16x64x8, .f32⟩
  | 90 => ⟨S4x4x8x16x64x8, .f32⟩
  | 91 => ⟨S4x4x8x64x8x16, .f32⟩
  | 92 => ⟨S4x2048x128, .f32⟩
  | 93 => ⟨S4x32x16x64, .f32⟩
  | 94 => ⟨S4x4x8x16x64, .f32⟩
  | 95 => ⟨S4x4x8x16x64x1, .f32⟩
  | 96 => ⟨S1x8x1x1x8, .f32⟩
  | 97 => ⟨S1x1x8x1x1x8, .f32⟩
  | 98 => ⟨S4x4x8x16x64x8, .f32⟩
  | 99 => ⟨S4x4x8x16x64x8, .f32⟩
  | 100 => ⟨S4x4x8x16x64x8, .f32⟩
  | 101 => ⟨S4x4x8x64x8x16, .f32⟩
  | 102 => ⟨S4x2048x128, .f32⟩
  | 103 => ⟨S4x4096x128, .f32⟩
  | 104 => ⟨S4x4096x128, .bf16⟩
  | 105 => ⟨S4x2048, .f32⟩
  | 106 => ⟨S4x2048, .f32⟩
  | 107 => ⟨S1x4x2048, .f32⟩
  | 108 => ⟨S1x4x2048, .f32⟩
  | 109 => ⟨S2x4x2048, .f32⟩
  | 110 => ⟨S4x2x2048, .f32⟩
  | 111 => ⟨S4x32x2048, .f32⟩
  | 112 => ⟨S1x32x2048, .f32⟩
  | 113 => ⟨S32x2048, .f32⟩
  | 114 => ⟨S4x32x2048, .f32⟩
  | 115 => ⟨S1x32x2048, .f32⟩
  | 116 => ⟨S32x2048, .f32⟩
  | 117 => ⟨S1x2x2048, .f32⟩
  | 118 => ⟨S2x2048, .f32⟩
  | 119 => ⟨S4x1x512, .f32⟩
  | 120 => ⟨S1x1x512, .f32⟩
  | 121 => ⟨S1x512, .f32⟩
  | 122 => ⟨S4x512x512, .bf16⟩
  | 123 => ⟨S4x1x512, .f32⟩
  | 124 => ⟨S1x1x512, .f32⟩
  | 125 => ⟨S1x512, .f32⟩
  | 126 => ⟨S32x512, .f32⟩
  | 127 => ⟨S32x2048, .f32⟩
  | _ => ⟨S32x512, .f32⟩

abbrev hbmTy0_1 (i : Nat) : BufTy := match i % 128 with
  | 0 => ⟨S32x2048, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | .local _ .vmem, ⟨0, _⟩ => ⟨S32x512, .f32⟩
  | .local _ .vmem, ⟨1, _⟩ => ⟨S32x2048, .f32⟩
  | .local _ .vmem, ⟨2, _⟩ => ⟨S32x2048, .f32⟩
  | .local _ .vmem, ⟨3, _⟩ => ⟨S1x512x1024, .bf16⟩
  | .local _ .vmem, ⟨4, _⟩ => ⟨S1x4096x128, .bf16⟩
  | .local _ .vmem, ⟨5, _⟩ => ⟨S2x2048, .f32⟩
  | .local _ .vmem, ⟨6, _⟩ => ⟨S1x512, .f32⟩
  | .local _ .vmem, ⟨7, _⟩ => ⟨S1x512x512, .bf16⟩
  | .local _ .vmem, ⟨8, _⟩ => ⟨S1x512, .f32⟩
  | .local _ .vmem, ⟨9, _⟩ => ⟨S32x512, .f32⟩
  | .local _ .vmem, ⟨10, _⟩ => ⟨S32x2048, .f32⟩
  | .local _ .vmem, ⟨11, _⟩ => ⟨S32x2048, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110_0 : Ref sig .tc := ⟨.hbm, 126, rfl⟩
abbrev main_v110_1 : Ref sig .tc := ⟨.hbm, 127, rfl⟩
abbrev main_v110_2 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SsmSampleRefIdeal.lean ====
abbrev S32x512 : Shape := ⟨2, ![32, 512]⟩
abbrev S4x32x32x64 : Shape := ⟨4, ![4, 32, 32, 64]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x512 : Shape := ⟨2, ![4, 512]⟩
abbrev S4x512x512 : Shape := ⟨3, ![4, 512, 512]⟩
abbrev S32x32x16 : Shape := ⟨3, ![32, 32, 16]⟩
abbrev S1x32x64 : Shape := ⟨3, ![1, 32, 64]⟩
abbrev S32x64 : Shape := ⟨2, ![32, 64]⟩
abbrev S1x32 : Shape := ⟨2, ![1, 32]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S1x32x64x16 : Shape := ⟨4, ![1, 32, 64, 16]⟩
abbrev S32x64x16 : Shape := ⟨3, ![32, 64, 16]⟩
abbrev S1x32x32x64 : Shape := ⟨4, ![1, 32, 32, 64]⟩
abbrev S32x32x64 : Shape := ⟨3, ![32, 32, 64]⟩
abbrev S1x32x16x64 : Shape := ⟨4, ![1, 32, 16, 64]⟩
abbrev S32x16x64 : Shape := ⟨3, ![32, 16, 64]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S32x2048 : Shape := ⟨2, ![32, 2048]⟩

abbrev nBuf : Space → Nat
  | .hbm => 153
  | .vmem => 0
  | .smem => 0
  | _ => 0

abbrev hbmTy0_0 (i : Nat) : BufTy := match i % 128 with
  | 0 => ⟨S32x512, .f32⟩
  | 1 => ⟨S4x32x32x64, .f32⟩
  | 2 => ⟨S4x32x32x64, .f32⟩
  | 3 => ⟨S4x32x64, .f32⟩
  | 4 => ⟨S4x32x64, .f32⟩
  | 5 => ⟨S4x32, .f32⟩
  | 6 => ⟨S4x32x64x16, .f32⟩
  | 7 => ⟨S4x32x64x16, .f32⟩
  | 8 => ⟨S4x32x16x64, .f32⟩
  | 9 => ⟨S4x32x16x64, .f32⟩
  | 10 => ⟨S4x512, .f32⟩
  | 11 => ⟨S4x512x512, .f32⟩
  | 12 => ⟨S4x512, .f32⟩
  | 13 => ⟨S32x32x16, .f32⟩
  | 14 => ⟨S1x32x64, .f32⟩
  | 15 => ⟨S32x64, .f32⟩
  | 16 => ⟨S1x32x64, .f32⟩
  | 17 => ⟨S32x64, .f32⟩
  | 18 => ⟨S1x32, .f32⟩
  | 19 => ⟨S32, .f32⟩
  | 20 => ⟨S32, .f32⟩
  | 21 => ⟨S32x1, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S_, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S_, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64x1, .f32⟩
  | 51 => ⟨S1x32x64x16, .f32⟩
  | 52 => ⟨S32x64x16, .f32⟩
  | 53 => ⟨S32x64x16, .f32⟩
  | 54 => ⟨S32x64x16, .f32⟩
  | 55 => ⟨S32x64x1, .f32⟩
  | 56 => ⟨S1x32x64x16, .f32⟩
  | 57 => ⟨S32x64x16, .f32⟩
  | 58 => ⟨S32x64x16, .f32⟩
  | 59 => ⟨S32x64x16, .f32⟩
  | 60 => ⟨S32x64x16, .f32⟩
  | 61 => ⟨S32x64x1, .f32⟩
  | 62 => ⟨S1x32x64x16, .f32⟩
  | 63 => ⟨S32x64x16, .f32⟩
  | 64 => ⟨S32x64x16, .f32⟩
  | 65 => ⟨S32x64x16, .f32⟩
  | 66 => ⟨S32x64x1, .f32⟩
  | 67 => ⟨S1x32x64x16, .f32⟩
  | 68 => ⟨S32x64x16, .f32⟩
  | 69 => ⟨S32x64x16, .f32⟩
  | 70 => ⟨S32x64x16, .f32⟩
  | 71 => ⟨S32x64x16, .f32⟩
  | 72 => ⟨S1x32x32x64, .f32⟩
  | 73 => ⟨S32x32x64, .f32⟩
  | 74 => ⟨S1x32x64, .f32⟩
  | 75 => ⟨S32x32x64, .f32⟩
  | 76 => ⟨S32x32x64, .f32⟩
  | 77 => ⟨S1x32x32x64, .f32⟩
  | 78 => ⟨S32x32x64, .f32⟩
  | 79 => ⟨S1x32x64, .f32⟩
  | 80 => ⟨S32x32x64, .f32⟩
  | 81 => ⟨S32x32x64, .f32⟩
  | 82 => ⟨S32x32x64, .f32⟩
  | 83 => ⟨S32x32x64, .f32⟩
  | 84 => ⟨S32x32x64, .f32⟩
  | 85 => ⟨S32x32x64, .f32⟩
  | 86 => ⟨S1x32x32x64, .f32⟩
  | 87 => ⟨S32x32x64, .f32⟩
  | 88 => ⟨S1x32x64, .f32⟩
  | 89 => ⟨S32x32x64, .f32⟩
  | 90 => ⟨S32x32x64, .f32⟩
  | 91 => ⟨S1x32x32x64, .f32⟩
  | 92 => ⟨S32x32x64, .f32⟩
  | 93 => ⟨S1x32x64, .f32⟩
  | 94 => ⟨S32x32x64, .f32⟩
  | 95 => ⟨S32x32x64, .f32⟩
  | 96 => ⟨S32x32x64, .f32⟩
  | 97 => ⟨S32x32x64, .f32⟩
  | 98 => ⟨S32x32x64, .f32⟩
  | 99 => ⟨S32x32x64, .f32⟩
  | 100 => ⟨S1x32x16x64, .f32⟩
  | 101 => ⟨S32x16x64, .f32⟩
  | 102 => ⟨S32x32x16, .f32⟩
  | 103 => ⟨S32x32x16, .f32⟩
  | 104 => ⟨S1x32x16x64, .f32⟩
  | 105 => ⟨S32x16x64, .f32⟩
  | 106 => ⟨S32x16x64, .f32⟩
  | 107 => ⟨S32x32x16, .f32⟩
  | 108 => ⟨S32x32x16, .f32⟩
  | 109 => ⟨S32x32x16, .f32⟩
  | 110 => ⟨S32x512, .f32⟩
  | 111 => ⟨S1x512, .f32⟩
  | 112 => ⟨S512, .f32⟩
  | 113 => ⟨S1x512, .f32⟩
  | 114 => ⟨S32x512, .f32⟩
  | 115 => ⟨S32x512, .f32⟩
  | 116 => ⟨S32x512, .f32⟩
  | 117 => ⟨S32x512, .f32⟩
  | 118 => ⟨S32x512, .f32⟩
  | 119 => ⟨S_, .f32⟩
  | 120 => ⟨S32x512, .f32⟩
  | 121 => ⟨S32x512, .f32⟩
  | 122 => ⟨S32x512, .f32⟩
  | 123 => ⟨S_, .f32⟩
  | 124 => ⟨S32x512, .f32⟩
  | 125 => ⟨S32x512, .f32⟩
  | 126 => ⟨S32x512, .f32⟩
  | 127 => ⟨S_, .f32⟩
  | _ => ⟨S32x512, .f32⟩

abbrev hbmTy0_1 (i : Nat) : BufTy := match i % 128 with
  | 0 => ⟨S32x512, .f32⟩
  | 1 => ⟨S32x512, .f32⟩
  | 2 => ⟨S_, .f32⟩
  | 3 => ⟨S32x512, .f32⟩
  | 4 => ⟨S32x512, .f32⟩
  | 5 => ⟨S32x512, .f32⟩
  | 6 => ⟨S1x512x512, .f32⟩
  | 7 => ⟨S512x512, .f32⟩
  | 8 => ⟨S32x512, .f32⟩
  | 9 => ⟨S1x512, .f32⟩
  | 10 => ⟨S512, .f32⟩
  | 11 => ⟨S1x512, .f32⟩
  | 12 => ⟨S32x512, .f32⟩
  | 13 => ⟨S32x512, .f32⟩
  | 14 => ⟨S32x512, .f32⟩
  | 15 => ⟨S32x512, .f32⟩
  | 16 => ⟨S_, .f32⟩
  | 17 => ⟨S32x512, .f32⟩
  | 18 => ⟨S32x512, .f32⟩
  | 19 => ⟨S_, .f32⟩
  | 20 => ⟨S32x512, .f32⟩
  | 21 => ⟨S32x512, .f32⟩
  | 22 => ⟨S32x512, .f32⟩
  | 23 => ⟨S32x2048, .f32⟩
  | 24 => ⟨S32x2048, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_1 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_2 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_cst_3 : Ref sig .tc := ⟨.hbm, 127, rfl⟩
abbrev main_v110 : Ref sig .tc := ⟨.hbm, 128, rfl⟩
abbrev main_v111 : Ref sig .tc := ⟨.hbm, 129, rfl⟩
abbrev main_cst_4 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_cst_5 : Ref sig .tc := ⟨.hbm, 144, rfl⟩
abbrev main_v125 : Ref sig .tc := ⟨.hbm, 145, rfl⟩
abbrev main_v126 : Ref sig .tc := ⟨.hbm, 146, rfl⟩
abbrev main_cst_6 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩

abbrev nD : Nat := 1
abbrev τ : Topo := Topo.v7x

variable {F : FTy → Type} [FloatOps F]
-- ==== DnSample.lean ====
abbrev S32x2176 : Shape := ⟨2, ![32, 2176]⟩
abbrev S4x32x3x1536 : Shape := ⟨4, ![4, 32, 3, 1536]⟩
abbrev S4x32x4x128x128 : Shape := ⟨5, ![4, 32, 4, 128, 128]⟩
abbrev S4x4x1536 : Shape := ⟨3, ![4, 4, 1536]⟩
abbrev S4x4 : Shape := ⟨2, ![4, 4]⟩
abbrev S4x128 : Shape := ⟨2, ![4, 128]⟩
abbrev S1x32x3x1536 : Shape := ⟨4, ![1, 32, 3, 1536]⟩
abbrev S32x3x1536 : Shape := ⟨3, ![32, 3, 1536]⟩
abbrev S1x4x1536 : Shape := ⟨3, ![1, 4, 1536]⟩
abbrev S4x1536 : Shape := ⟨2, ![4, 1536]⟩
abbrev S_ : Shape := ⟨0, ![]⟩
abbrev S4x1x128 : Shape := ⟨3, ![4, 1, 128]⟩
abbrev S1x1x128 : Shape := ⟨3, ![1, 1, 128]⟩
abbrev S1x128 : Shape := ⟨2, ![1, 128]⟩
abbrev S32x512 : Shape := ⟨2, ![32, 512]⟩
abbrev S8x1536 : Shape := ⟨2, ![8, 1536]⟩
abbrev S8x512 : Shape := ⟨2, ![8, 512]⟩
abbrev S8x128 : Shape := ⟨2, ![8, 128]⟩
abbrev S8x3x1536 : Shape := ⟨3, ![8, 3, 1536]⟩
abbrev S1x8x4x128x128 : Shape := ⟨5, ![1, 8, 4, 128, 128]⟩
abbrev S1x1536 : Shape := ⟨2, ![1, 1536]⟩
abbrev S8x1x1536 : Shape := ⟨3, ![8, 1, 1536]⟩
abbrev S1x2x1536 : Shape := ⟨3, ![1, 2, 1536]⟩
abbrev S2x1536 : Shape := ⟨2, ![2, 1536]⟩
abbrev S1x1x1536 : Shape := ⟨3, ![1, 1, 1536]⟩
abbrev S8 : Shape := ⟨1, ![8]⟩
abbrev S8x1 : Shape := ⟨2, ![8, 1]⟩
abbrev S1x1x1x128x128 : Shape := ⟨5, ![1, 1, 1, 128, 128]⟩
abbrev S128x128 : Shape := ⟨2, ![128, 128]⟩
abbrev S1x1 : Shape := ⟨2, ![1, 1]⟩
abbrev S128x8 : Shape := ⟨2, ![128, 8]⟩
abbrev S128x1 : Shape := ⟨2, ![128, 1]⟩

abbrev nBuf : Space → Nat
  | .hbm => 30
  | .vmem => 20
  | .smem => 0
  | _ => 0

abbrev bufTy : (tb : Table) → Fin (tcTables nBuf tb) → BufTy
  | .hbm, ⟨0, _⟩ => ⟨S32x2176, .f32⟩
  | .hbm, ⟨1, _⟩ => ⟨S4x32x3x1536, .f32⟩
  | .hbm, ⟨2, _⟩ => ⟨S4x32x4x128x128, .f32⟩
  | .hbm, ⟨3, _⟩ => ⟨S4x32x4x128x128, .f32⟩
  | .hbm, ⟨4, _⟩ => ⟨S4x4x1536, .f32⟩
  | .hbm, ⟨5, _⟩ => ⟨S4x4, .f32⟩
  | .hbm, ⟨6, _⟩ => ⟨S4x4, .f32⟩
  | .hbm, ⟨7, _⟩ => ⟨S4x128, .f32⟩
  | .hbm, ⟨8, _⟩ => ⟨S1x32x3x1536, .f32⟩
  | .hbm, ⟨9, _⟩ => ⟨S32x3x1536, .f32⟩
  | .hbm, ⟨10, _⟩ => ⟨S1x4x1536, .f32⟩
  | .hbm, ⟨11, _⟩ => ⟨S4x1536, .f32⟩
  | .hbm, ⟨12, _⟩ => ⟨S_, .i32⟩
  | .hbm, ⟨13, _⟩ => ⟨S_, .f32⟩
  | .hbm, ⟨14, _⟩ => ⟨S4x128, .f32⟩
  | .hbm, ⟨15, _⟩ => ⟨S4x1x128, .f32⟩
  | .hbm, ⟨16, _⟩ => ⟨S1x1x128, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S4x128, .f32⟩
  | .hbm, ⟨21, _⟩ => ⟨S4x1x128, .f32⟩
  | .hbm, ⟨22, _⟩ => ⟨S1x1x128, .f32⟩
  | .hbm, ⟨23, _⟩ => ⟨S1x128, .f32⟩
  | .hbm, ⟨24, _⟩ => ⟨S4x1x128, .f32⟩
  | .hbm, ⟨25, _⟩ => ⟨S1x1x128, .f32⟩
  | .hbm, ⟨26, _⟩ => ⟨S1x128, .f32⟩
  | .hbm, ⟨27, _⟩ => ⟨S32x512, .f32⟩
  | .hbm, ⟨28, _⟩ => ⟨S4x32x4x128x128, .f32⟩
  | .hbm, ⟨29, _⟩ => ⟨S32x3x1536, .f32⟩
  | .local _ .vmem, ⟨0, _⟩ => ⟨S8x1536, .f32⟩
  | .local _ .vmem, ⟨1, _⟩ => ⟨S8x1536, .f32⟩
  | .local _ .vmem, ⟨2, _⟩ => ⟨S8x512, .f32⟩
  | .local _ .vmem, ⟨3, _⟩ => ⟨S8x512, .f32⟩
  | .local _ .vmem, ⟨4, _⟩ => ⟨S8x128, .f32⟩
  | .local _ .vmem, ⟨5, _⟩ => ⟨S8x128, .f32⟩
  | .local _ .vmem, ⟨6, _⟩ => ⟨S8x3x1536, .f32⟩
  | .local _ .vmem, ⟨7, _⟩ => ⟨S8x3x1536, .f32⟩
  | .local _ .vmem, ⟨8, _⟩ => ⟨S1x8x4x128x128, .f32⟩
  | .local _ .vmem, ⟨9, _⟩ => ⟨S1x8x4x128x128, .f32⟩
  | .local _ .vmem, ⟨10, _⟩ => ⟨S4x1536, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S8x512, .f32⟩
  | .local _ .vmem, ⟨15, _⟩ => ⟨S8x512, .f32⟩
  | .local _ .vmem, ⟨16, _⟩ => ⟨S1x8x4x128x128, .f32⟩
  | .local _ .vmem, ⟨17, _⟩ => ⟨S1x8x4x128x128, .f32⟩
  | .local _ .vmem, ⟨18, _⟩ => ⟨S8x3x1536, .f32⟩
  | .local _ .vmem, ⟨19, _⟩ => ⟨S8x3x1536, .f32⟩
  | _, _ => ⟨S32x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x3x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x3x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DnSampleRefIdeal.lean ====
abbrev S32x2176 : Shape := ⟨2, ![32, 2176]⟩
abbrev S4x32x3x1536 : Shape := ⟨4, ![4, 32, 3, 1536]⟩
abbrev S4x32x4x128x128 : Shape := ⟨5, ![4, 32, 4, 128, 128]⟩
abbrev S4x4x1536 : Shape := ⟨3, ![4, 4, 1536]⟩
abbrev S4x4 : Shape := ⟨2, ![4, 4]⟩
abbrev S4x128 : Shape := ⟨2, ![4, 128]⟩
abbrev S32x1536 : Shape := ⟨2, ![32, 1536]⟩
abbrev S1x4x1536 : Shape := ⟨3, ![1, 4, 1536]⟩
abbrev S4x1536 : Shape := ⟨2, ![4, 1536]⟩
abbrev S1x1536 : Shape := ⟨2, ![1, 1536]⟩
abbrev S1536 : Shape := ⟨1, ![1536]⟩
abbrev S1x32x1x1536 : Shape := ⟨4, ![1, 32, 1, 1536]⟩
abbrev S_ : Shape := ⟨0, ![]⟩
abbrev S32x3x4x128 : Shape := ⟨4, ![32, 3, 4, 128]⟩
abbrev S32x1x4x128 : Shape := ⟨4, ![32, 1, 4, 128]⟩
abbrev S32x4x128 : Shape := ⟨3, ![32, 4, 128]⟩
abbrev S32x4 : Shape := ⟨2, ![32, 4]⟩
abbrev S32x4x1 : Shape := ⟨3, ![32, 4, 1]⟩
abbrev S1x4 : Shape := ⟨2, ![1, 4]⟩
abbrev S4 : Shape := ⟨1, ![4]⟩
abbrev S1x32x4x128x128 : Shape := ⟨5, ![1, 32, 4, 128, 128]⟩
abbrev S32x4x128x128 : Shape := ⟨4, ![32, 4, 128, 128]⟩
abbrev S32x4x1x1 : Shape := ⟨4, ![32, 4, 1, 1]⟩
abbrev S32x4x128x1 : Shape := ⟨4, ![32, 4, 128, 1]⟩
abbrev S32x4x1x128 : Shape := ⟨4, ![32, 4, 1, 128]⟩
abbrev S1x128 : Shape := ⟨2, ![1, 128]⟩
abbrev S128 : Shape := ⟨1, ![128]⟩
abbrev S1x1x128 : Shape := ⟨3, ![1, 1, 128]⟩
abbrev S32x512 : Shape := ⟨2, ![32, 512]⟩
abbrev S2x32x4x128x128 : Shape := ⟨5, ![2, 32, 4, 128, 128]⟩
abbrev S1x32x2x1536 : Shape := ⟨4, ![1, 32, 2, 1536]⟩
abbrev S32x2x1536 : Shape := ⟨3, ![32, 2, 1536]⟩
abbrev S32x1x1536 : Shape := ⟨3, ![32, 1, 1536]⟩
abbrev S32x3x1536 : Shape := ⟨3, ![32, 3, 1536]⟩

abbrev nBuf : Space → Nat
  | .hbm => 190
  | .vmem => 0
  | .smem => 0
  | _ => 0

abbrev hbmTy0_0 (i : Nat) : BufTy := match i % 128 with
  | 0 => ⟨S32x2176, .f32⟩
  | 1 => ⟨S4x32x3x1536, .f32⟩
  | 2 => ⟨S4x32x4x128x128, .f32⟩
  | 3 => ⟨S4x32x4x128x128, .f32⟩
  | 4 => ⟨S4x4x1536, .f32⟩
  | 5 => ⟨S4x4, .f32⟩
  | 6 => ⟨S4x4, .f32⟩
  | 7 => ⟨S4x128, .f32⟩
  | 8 => ⟨S32x1536, .f32⟩
  | 9 => ⟨S1x4x1536, .f32⟩
  | 10 => ⟨S4x1536, .f32⟩
  | 11 => ⟨S1x1536, .f32⟩
  | 12 => ⟨S1536, .f32⟩
  | 13 => ⟨S1x32x1x1536, .f32⟩
  | 14 => ⟨S32x1536, .f32⟩
  | 15 => ⟨S1x1536, .f32⟩
  | 16 => ⟨S32x1536, .f32⟩
  | 17 => ⟨S32x1536, .f32⟩
  | 18 => ⟨S1x1536, .f32⟩
  | 19 => ⟨S1536, .f32⟩
  | 20 => ⟨S1x32x1x1536, .f32⟩
  | 21 => ⟨S32x1536, .f32⟩
  | 22 => ⟨S1x1536, .f32⟩
  | 23 => ⟨S32x1536, .f32⟩
  | 24 => ⟨S32x1536, .f32⟩
  | 25 => ⟨S32x1536, .f32⟩
  | 26 => ⟨S1x1536, .f32⟩
  | 27 => ⟨S1536, .f32⟩
  | 28 => ⟨S1x32x1x1536, .f32⟩
  | 29 => ⟨S32x1536, .f32⟩
  | 30 => ⟨S1x1536, .f32⟩
  | 31 => ⟨S32x1536, .f32⟩
  | 32 => ⟨S32x1536, .f32⟩
  | 33 => ⟨S32x1536, .f32⟩
  | 34 => ⟨S1x1536, .f32⟩
  | 35 => ⟨S1536, .f32⟩
  | 36 => ⟨S1x1536, .f32⟩
  | 37 => ⟨S32x1536, .f32⟩
  | 38 => ⟨S32x1536, .f32⟩
  | 39 => ⟨S32x1536, .f32⟩
  | 40 => ⟨S32x1536, .f32⟩
  | 41 => ⟨S32x1536, .f32⟩
  | 42 => ⟨S_, .f32⟩
  | 43 => ⟨S32x1536, .f32⟩
  | 44 => ⟨S32x1536, .f32⟩
  | 45 => ⟨S_, .f32⟩
  | 46 => ⟨S32x1536, .f32⟩
  | 47 => ⟨S32x1536, .f32⟩
  | 48 => ⟨S32x1536, .f32⟩
  | 49 => ⟨S32x3x4x128, .f32⟩
  | 50 => ⟨S32x1x4x128, .f32⟩
  | 51 => ⟨S32x4x128, .f32⟩
  | 52 => ⟨S32x4x128, .f32⟩
  | 53 => ⟨S_, .f32⟩
  | 54 => ⟨S32x4, .f32⟩
  | 55 => ⟨S32x4x1, .f32⟩
  | 56 => ⟨S_, .f32⟩
  | 57 => ⟨S32x4x1, .f32⟩
  | 58 => ⟨S32x4x1, .f32⟩
  | 59 => ⟨S32x4x1, .f32⟩
  | 60 => ⟨S32x4x128, .f32⟩
  | 61 => ⟨S32x4x128, .f32⟩
  | 62 => ⟨S_, .f32⟩
  | 63 => ⟨S32x4x128, .f32⟩
  | 64 => ⟨S32x4x128, .f32⟩
  | 65 => ⟨S32x1x4x128, .f32⟩
  | 66 => ⟨S32x4x128, .f32⟩
  | 67 => ⟨S32x4x128, .f32⟩
  | 68 => ⟨S_, .f32⟩
  | 69 => ⟨S32x4, .f32⟩
  | 70 => ⟨S32x4x1, .f32⟩
  | 71 => ⟨S_, .f32⟩
  | 72 => ⟨S32x4x1, .f32⟩
  | 73 => ⟨S32x4x1, .f32⟩
  | 74 => ⟨S32x4x1, .f32⟩
  | 75 => ⟨S32x4x128, .f32⟩
  | 76 => ⟨S32x4x128, .f32⟩
  | 77 => ⟨S32x1x4x128, .f32⟩
  | 78 => ⟨S32x4x128, .f32⟩
  | 79 => ⟨S1x4, .f32⟩
  | 80 => ⟨S4, .f32⟩
  | 81 => ⟨S4, .f32⟩
  | 82 => ⟨S4, .f32⟩
  | 83 => ⟨S32x4, .f32⟩
  | 84 => ⟨S1x4, .f32⟩
  | 85 => ⟨S4, .f32⟩
  | 86 => ⟨S1x4, .f32⟩
  | 87 => ⟨S32x4, .f32⟩
  | 88 => ⟨S32x4, .f32⟩
  | 89 => ⟨S_, .f32⟩
  | 90 => ⟨S32x4, .f32⟩
  | 91 => ⟨S32x4, .f32⟩
  | 92 => ⟨S32x4, .f32⟩
  | 93 => ⟨S32x4, .f32⟩
  | 94 => ⟨S32x4, .i1⟩
  | 95 => ⟨S32x4, .f32⟩
  | 96 => ⟨S32x4, .f32⟩
  | 97 => ⟨S32x4, .f32⟩
  | 98 => ⟨S32x4, .f32⟩
  | 99 => ⟨S32x4, .f32⟩
  | 100 => ⟨S32x4, .f32⟩
  | 101 => ⟨S32x4, .f32⟩
  | 102 => ⟨S32x4, .f32⟩
  | 103 => ⟨S1x4, .f32⟩
  | 104 => ⟨S32x4, .f32⟩
  | 105 => ⟨S32x4, .f32⟩
  | 106 => ⟨S32x4, .f32⟩
  | 107 => ⟨S32x4, .f32⟩
  | 108 => ⟨S32x4, .f32⟩
  | 109 => ⟨S32x4, .f32⟩
  | 110 => ⟨S_, .f32⟩
  | 111 => ⟨S32x4, .f32⟩
  | 112 => ⟨S32x4, .f32⟩
  | 113 => ⟨S_, .f32⟩
  | 114 => ⟨S32x4, .f32⟩
  | 115 => ⟨S32x4, .f32⟩
  | 116 => ⟨S32x4x1, .f32⟩
  | 117 => ⟨S32x4x128, .f32⟩
  | 118 => ⟨S32x4x128, .f32⟩
  | 119 => ⟨S32x4, .f32⟩
  | 120 => ⟨S32x4x1, .f32⟩
  | 121 => ⟨S32x4x128, .f32⟩
  | 122 => ⟨S32x4x128, .f32⟩
  | 123 => ⟨S1x32x4x128x128, .f32⟩
  | 124 => ⟨S32x4x128x128, .f32⟩
  | 125 => ⟨S32x4x128, .f32⟩
  | 126 => ⟨S32x4x128, .f32⟩
  | 127 => ⟨S32x4x1, .f32⟩
  | _ => ⟨S32x2176, .f32⟩

abbrev hbmTy0_1 (i : Nat) : BufTy := match i % 128 with
  | 0 => ⟨S32x4x128, .f32⟩
  | 1 => ⟨S32x4x128, .f32⟩
  | 2 => ⟨S1x32x4x128x128, .f32⟩
  | 3 => ⟨S32x4x128x128, .f32⟩
  | 4 => ⟨S32x4x128, .f32⟩
  | 5 => ⟨S32x4x128, .f32⟩
  | 6 => ⟨S_, .f32⟩
  | 7 => ⟨S32x4, .f32⟩
  | 8 => ⟨S32x4x1, .f32⟩
  | 9 => ⟨S32x4x128, .f32⟩
  | 10 => ⟨S32x4x128, .f32⟩
  | 11 => ⟨S32x4x128, .f32⟩
  | 12 => ⟨S32x4x1x1, .f32⟩
  | 13 => ⟨S1x32x4x128x128, .f32⟩
  | 14 => ⟨S32x4x128x128, .f32⟩
  | 15 => ⟨S32x4x128x128, .f32⟩
  | 16 => ⟨S32x4x128x128, .f32⟩
  | 17 => ⟨S32x4x128x1, .f32⟩
  | 18 => ⟨S32x4x1x128, .f32⟩
  | 19 => ⟨S32x4x128x128, .f32⟩
  | 20 => ⟨S32x4x128x128, .f32⟩
  | 21 => ⟨S32x4x128x128, .f32⟩
  | 22 => ⟨S32x4x128x128, .f32⟩
  | 23 => ⟨S1x128, .f32⟩
  | 24 => ⟨S128, .f32⟩
  | 25 => ⟨S32x4x128, .f32⟩
  | 26 => ⟨S_, .f32⟩
  | 27 => ⟨S32x4, .f32⟩
  | 28 => ⟨S32x4x1, .f32⟩
  | 29 => ⟨S_, .f32⟩
  | 30 => ⟨S32x4x1, .f32⟩
  | 31 => ⟨S32x4x1, .f32⟩
  | 32 => ⟨S_, .f32⟩
  | 33 => ⟨S32x4x1, .f32⟩
  | 34 => ⟨S32x4x1, .f32⟩
  | 35 => ⟨S32x4x1, .f32⟩
  | 36 => ⟨S32x4x128, .f32⟩
  | 37 => ⟨S32x4x128, .f32⟩
  | 38 => ⟨S1x1x128, .f32⟩
  | 39 => ⟨S32x4x128, .f32⟩
  | 40 => ⟨S32x4x128, .f32⟩
  | 41 => ⟨S32x512, .f32⟩
  | 42 => ⟨S32x4x128, .f32⟩
  | 43 => ⟨S32x4x128, .f32⟩
  | 44 => ⟨S32x4x128, .f32⟩
  | 45 => ⟨S_, .f32⟩
  | 46 => ⟨S32x4x128, .f32⟩
  | 47 => ⟨S32x4x128, .f32⟩
  | 48 => ⟨S_, .f32⟩
  | 49 => ⟨S32x4x128, .f32⟩
  | 50 => ⟨S32x4x128, .f32⟩
  | 51 => ⟨S32x4x128, .f32⟩
  | 52 => ⟨S32x4x128, .f32⟩
  | 53 => ⟨S32x512, .f32⟩
  | 54 => ⟨S1x32x4x128x128, .f32⟩
  | 55 => ⟨S1x32x4x128x128, .f32⟩
  | 56 => ⟨S2x32x4x128x128, .f32⟩
  | 57 => ⟨S4x32x4x128x128, .f32⟩
  | 58 => ⟨S1x32x2x1536, .f32⟩
  | 59 => ⟨S32x2x1536, .f32⟩
  | 60 => ⟨S32x1x1536, .f32⟩
  | 61 => ⟨S32x3x1536, .f32⟩
  | _ => ⟨S32x2176, .f32⟩

abbrev hbmTy (i : Nat) : BufTy := match i / 128 with
  | 0 => hbmTy0_0 i
  | 1 => hbmTy0_1 i
  | _ => ⟨S32x2176, .f32⟩

abbrev bufTy : (tb : Table) → Fin (tcTables nBuf tb) → BufTy
  | .hbm, ⟨i, _⟩ => hbmTy i
  | _, _ => ⟨S32x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_2 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_4 : Ref sig .tc := ⟨.hbm, 110, rfl⟩
abbrev main_v76 : Ref sig .tc := ⟨.hbm, 111, rfl⟩
abbrev main_v77 : Ref sig .tc := ⟨.hbm, 112, rfl⟩
abbrev main_cst_5 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_6 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_7 : Ref sig .tc := ⟨.hbm, 154, rfl⟩
abbrev main_v117 : Ref sig .tc := ⟨.hbm, 155, rfl⟩
abbrev main_v118 : Ref sig .tc := ⟨.hbm, 156, rfl⟩
abbrev main_cst_8 : Ref sig .tc := ⟨.hbm, 157, rfl⟩
abbrev main_v119 : Ref sig .tc := ⟨.hbm, 158, rfl⟩
abbrev main_v120 : Ref sig .tc := ⟨.hbm, 159, rfl⟩
abbrev main_cst_9 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_call2_v0 : Ref sig .tc := ⟨.hbm, 171, rfl⟩
abbrev main_call2_v1 : Ref sig .tc := ⟨.hbm, 172, rfl⟩
abbrev main_call2_cst : Ref sig .tc := ⟨.hbm, 173, rfl⟩
abbrev main_call2_v2 : Ref sig .tc := ⟨.hbm, 174, rfl⟩
abbrev main_call2_v3 : Ref sig .tc := ⟨.hbm, 175, rfl⟩
abbrev main_call2_cst_0 : Ref sig .tc := ⟨.hbm, 176, rfl⟩
abbrev main_call2_v4 : Ref sig .tc := ⟨.hbm, 177, rfl⟩
abbrev main_call2_v5 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩

abbrev nD : Nat := 1
abbrev τ : Topo := Topo.v7x

variable {F : FTy → Type} [FloatOps F]
-- ==== AttnSample.lean ====
abbrev S32x768 : Shape := ⟨2, ![32, 768]⟩
abbrev S4x32x128x2x64 : Shape := ⟨5, ![4, 32, 128, 2, 64]⟩
abbrev S4x64 : Shape := ⟨2, ![4, 64]⟩
abbrev S4x8 : Shape := ⟨2, ![4, 8]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S4x32x128x128 : Shape := ⟨4, ![4, 32, 128, 128]⟩
abbrev S1x32x128x128 : Shape := ⟨4, ![1, 32, 128, 128]⟩
abbrev S32x128x128 : Shape := ⟨3, ![32, 128, 128]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x1x512 : Shape := ⟨3, ![1, 1, 512]⟩
abbrev S1x4x2x64 : Shape := ⟨4, ![1, 4, 2, 64]⟩
abbrev S4x128 : Shape := ⟨2, ![4, 128]⟩
abbrev S4x1x128 : Shape := ⟨3, ![4, 1, 128]⟩
abbrev S1x1x128 : Shape := ⟨3, ![1, 1, 128]⟩
abbrev S4x8x1 : Shape := ⟨3, ![4, 8, 1]⟩
abbrev S4x8x128 : Shape := ⟨3, ![4, 8, 128]⟩
abbrev S1x8x128 : Shape := ⟨3, ![1, 8, 128]⟩
abbrev S8x128 : Shape := ⟨2, ![8, 128]⟩
abbrev S32x512 : Shape := ⟨2, ![32, 512]⟩
abbrev S8x768 : Shape := ⟨2, ![8, 768]⟩
abbrev S8x128x128 : Shape := ⟨3, ![8, 128, 128]⟩
abbrev S8x512 : Shape := ⟨2, ![8, 512]⟩
abbrev S128x128 : Shape := ⟨2, ![128, 128]⟩
abbrev S8x1 : Shape := ⟨2, ![8, 1]⟩
abbrev S1x127x128 : Shape := ⟨3, ![1, 127, 128]⟩
abbrev S127x128 : Shape := ⟨2, ![127, 128]⟩
abbrev S1x128x128 : Shape := ⟨3, ![1, 128, 128]⟩
abbrev S8 : Shape := ⟨1, ![8]⟩

abbrev nBuf : Space → Nat
  | .hbm => 84
  | .vmem => 18
  | .smem => 0
  | _ => 0

abbrev bufTy : (tb : Table) → Fin (tcTables nBuf tb) → BufTy
  | .hbm, ⟨0, _⟩ => ⟨S32x768, .f32⟩
  | .hbm, ⟨1, _⟩ => ⟨S4x32x128x2x64, .f32⟩
  | .hbm, ⟨2, _⟩ => ⟨S4x32x128x2x64, .f32⟩
  | .hbm, ⟨3, _⟩ => ⟨S4x64, .f32⟩
  | .hbm, ⟨4, _⟩ => ⟨S4x64, .f32⟩
  | .hbm, ⟨5, _⟩ => ⟨S4x8, .f32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1, .f32⟩
  | .hbm, ⟨19, _⟩ => ⟨S1x1, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x64, .f32⟩
  | .hbm, ⟨26, _⟩ => ⟨S1x1x1x64, .f32⟩
  | .hbm, ⟨27, _⟩ => ⟨S1x1x2x64, .f32⟩
  | .hbm, ⟨28, _⟩ => ⟨S1x128, .f32⟩
  | .hbm, ⟨29, _⟩ => ⟨S1x32, .f32⟩
  | .hbm, ⟨30, _⟩ => ⟨S1x64, .f32⟩
  | .hbm, ⟨31, _⟩ => ⟨S1x1x1x64, .f32⟩
  | .hbm, ⟨32, _⟩ => ⟨S1x1x2x64, .f32⟩
  | .hbm, ⟨33, _⟩ => ⟨S1x128, .f32⟩
  | .hbm, ⟨34, _⟩ => ⟨S512, .i32⟩
  | .hbm, ⟨35, _⟩ => ⟨S_, .i32⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S_, .i32⟩
  | .hbm, ⟨41, _⟩ => ⟨S512, .i32⟩
  | .hbm, ⟨42, _⟩ => ⟨S512, .i1⟩
  | .hbm, ⟨43, _⟩ => ⟨S512, .i32⟩
  | .hbm, ⟨44, _⟩ => ⟨S512, .i32⟩
  | .hbm, ⟨45, _⟩ => ⟨S_, .i32⟩
  | .hbm, ⟨46, _⟩ => ⟨S512, .i32⟩
  | .hbm, ⟨47, _⟩ => ⟨S512, .i1⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S1x512, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S512x512, .bf16⟩
  | .hbm, ⟨59, _⟩ => ⟨S4x32x128x128, .f32⟩
  | .hbm, ⟨60, _⟩ => ⟨S1x32x128x128, .f32⟩
  | .hbm, ⟨61, _⟩ => ⟨S32x128x128, .f32⟩
  | .hbm, ⟨62, _⟩ => ⟨S4x32x128x128, .f32⟩
  | .hbm, ⟨63, _⟩ => ⟨S1x32x128x128, .f32⟩
  | .hbm, ⟨64, _⟩ => ⟨S32x128x128, .f32⟩
  | .hbm, ⟨65, _⟩ => ⟨S1x4x1x64, .f32⟩
  | .hbm, ⟨66, _⟩ => ⟨S1x4x8x64, .f32⟩
  | .hbm, ⟨67, _⟩ => ⟨S4x512, .f32⟩
  | .hbm, ⟨68, _⟩ => ⟨S4x1x512, .f32⟩
  | .hbm, ⟨69, _⟩ => ⟨S1x1x512, .f32⟩
  | .hbm, ⟨70, _⟩ => ⟨S1x512, .f32⟩
  | .hbm, ⟨71, _⟩ => ⟨S1x4x1x64, .f32⟩
  | .hbm, ⟨72, _⟩ => ⟨S1x4x2x64, .f32⟩
  | .hbm, ⟨73, _⟩ => ⟨S4x128, .f32⟩
  | .hbm, ⟨74, _⟩ => ⟨S4x1x128, .f32⟩
  | .hbm, ⟨75, _⟩ => ⟨S1x1x128, .f32⟩
  | .hbm, ⟨76, _⟩ => ⟨S1x128, .f32⟩
  | .hbm, ⟨77, _⟩ => ⟨S4x8x1, .f32⟩
  | .hbm, ⟨78, _⟩ => ⟨S4x8x128, .f32⟩
  | .hbm, ⟨79, _⟩ => ⟨S1x8x128, .f32⟩
  | .hbm, ⟨80, _⟩ => ⟨S8x128, .f32⟩
  | .hbm, ⟨81, _⟩ => ⟨S32x512, .f32⟩
  | .hbm, ⟨82, _⟩ => ⟨S32x128x128, .f32⟩
  | .hbm, ⟨83, _⟩ => ⟨S32x128x128, .f32⟩
  | .local _ .vmem, ⟨0, _⟩ => ⟨S8x768, .f32⟩
  | .local _ .vmem, ⟨1, _⟩ => ⟨S8x768, .f32⟩
  | .local _ .vmem, ⟨2, _⟩ => ⟨S8x128x128, .f32⟩
  | .local _ .vmem, ⟨3, _⟩ => ⟨S8x128x128, .f32⟩
  | .local _ .vmem, ⟨4, _⟩ => ⟨S8x128x128, .f32⟩
  | .local _ .vmem, ⟨5, _⟩ => ⟨S8x128x128, .f32⟩
  | .local _ .vmem, ⟨6, _⟩ => ⟨S1x128, .f32⟩
  | .local _ .vmem, ⟨7, _⟩ => ⟨S1x128, .f32⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S8x128, .f32⟩
  | .local _ .vmem, ⟨12, _⟩ => ⟨S8x512, .f32⟩
  | .local _ .vmem, ⟨13, _⟩ => ⟨S8x512, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | .local _ .vmem, ⟨17, _⟩ => ⟨S8x128x128, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55_0 : Ref sig .tc := ⟨.hbm, 81, rfl⟩
abbrev main_v55_1 : Ref sig .tc := ⟨.hbm, 82, rfl⟩
abbrev main_v55_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnSampleRefIdeal.lean ====
abbrev S32x768 : Shape := ⟨2, ![32, 768]⟩
abbrev S4x32x128x2x64 : Shape := ⟨5, ![4, 32, 128, 2, 64]⟩
abbrev S4x64 : Shape := ⟨2, ![4, 64]⟩
abbrev S4x8 : Shape := ⟨2, ![4, 8]⟩
abbrev S32x128 : Shape := ⟨2, ![32, 128]⟩
abbrev S32x2x64 : Shape := ⟨3, ![32, 2, 64]⟩
abbrev S1x64 : Shape := ⟨2, ![1, 64]⟩
abbrev S64 : Shape := ⟨1, ![64]⟩
abbrev S_ : Shape := ⟨0, ![]⟩
abbrev S32x2 : Shape := ⟨2, ![32, 2]⟩
abbrev S32x2x1 : Shape := ⟨3, ![32, 2, 1]⟩
abbrev S1x1x64 : Shape := ⟨3, ![1, 1, 64]⟩
abbrev S1 : Shape := ⟨1, ![1]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S32x2x32 : Shape := ⟨3, ![32, 2, 32]⟩
abbrev S1x32x127x2x64 : Shape := ⟨5, ![1, 32, 127, 2, 64]⟩
abbrev S32x127x2x64 : Shape := ⟨4, ![32, 127, 2, 64]⟩
abbrev S32x1x2x64 : Shape := ⟨4, ![32, 1, 2, 64]⟩
abbrev S32x128x2x64 : Shape := ⟨4, ![32, 128, 2, 64]⟩
abbrev S32x128x128 : Shape := ⟨3, ![32, 128, 128]⟩

abbrev nBuf : Space → Nat
  | .hbm => 72
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S4x32x128x2x64, .f32⟩
  | .hbm, ⟨2, _⟩ => ⟨S4x32x128x2x64, .f32⟩
  | .hbm, ⟨3, _⟩ => ⟨S4x64, .f32⟩
  | .hbm, ⟨4, _⟩ => ⟨S4x64, .f32⟩
  | .hbm, ⟨5, _⟩ => ⟨S4x8, .f32⟩
  | .hbm, ⟨6, _⟩ => ⟨S32x128, .f32⟩
  | .hbm, ⟨7, _⟩ => ⟨S32x2x64, .f32⟩
  | .hbm, ⟨8, _⟩ => ⟨S1x64, .f32⟩
  | .hbm, ⟨9, _⟩ => ⟨S64, .f32⟩
  | .hbm, ⟨10, _⟩ => ⟨S32x2x64, .f32⟩
  | .hbm, ⟨11, _⟩ => ⟨S_, .f32⟩
  | .hbm, ⟨12, _⟩ => ⟨S32x2, .f32⟩
  | .hbm, ⟨13, _⟩ => ⟨S32x2x1, .f32⟩
  | .hbm, ⟨14, _⟩ => ⟨S_, .f32⟩
  | .hbm, ⟨15, _⟩ => ⟨S32x2x1, .f32⟩
  | .hbm, ⟨16, _⟩ => ⟨S32x2x1, .f32⟩
  | .hbm, ⟨17, _⟩ => ⟨S_, .f32⟩
  | .hbm, ⟨18, _⟩ => ⟨S32x2x1, .f32⟩
  | .hbm, ⟨19, _⟩ => ⟨S32x2x1, .f32⟩
  | .hbm, ⟨20, _⟩ => ⟨S32x2x1, .f32⟩
  | .hbm, ⟨21, _⟩ => ⟨S32x2x64, .f32⟩
  | .hbm, ⟨22, _⟩ => ⟨S32x2x64, .f32⟩
  | .hbm, ⟨23, _⟩ => ⟨S1x1x64, .f32⟩
  | .hbm, ⟨24, _⟩ => ⟨S32x2x64, .f32⟩
  | .hbm, ⟨25, _⟩ => ⟨S32x2x64, .f32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S1, .f32⟩
  | .hbm, ⟨39, _⟩ => ⟨S1x1, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S1x32, .f32⟩
  | .hbm, ⟨44, _⟩ => ⟨S1x1x32, .f32⟩
  | .hbm, ⟨45, _⟩ => ⟨S1x32, .f32⟩
  | .hbm, ⟨46, _⟩ => ⟨S1x1x32, .f32⟩
  | .hbm, ⟨47, _⟩ => ⟨S32x2x32, .f32⟩
  | .hbm, ⟨48, _⟩ => ⟨S32x2x32, .f32⟩
  | .hbm, ⟨49, _⟩ => ⟨S32x2x32, .f32⟩
  | .hbm, ⟨50, _⟩ => ⟨S32x2x32, .f32⟩
  | .hbm, ⟨51, _⟩ => ⟨S32x2x32, .f32⟩
  | .hbm, ⟨52, _⟩ => ⟨S32x2x32, .f32⟩
  | .hbm, ⟨53, _⟩ => ⟨S32x2x32, .f32⟩
  | .hbm, ⟨54, _⟩ => ⟨S32x2x32, .f32⟩
  | .hbm, ⟨55, _⟩ => ⟨S32x2x32, .f32⟩
  | .hbm, ⟨56, _⟩ => ⟨S32x2x32, .f32⟩
  | .hbm, ⟨57, _⟩ => ⟨S32x2x32, .f32⟩
  | .hbm, ⟨58, _⟩ => ⟨S32x2x32, .f32⟩
  | .hbm, ⟨59, _⟩ => ⟨S32x2x64, .f32⟩
  | .hbm, ⟨60, _⟩ => ⟨S32x128, .f32⟩
  | .hbm, ⟨61, _⟩ => ⟨S32x2x64, .f32⟩
  | .hbm, ⟨62, _⟩ => ⟨S1x32x127x2x64, .f32⟩
  | .hbm, ⟨63, _⟩ => ⟨S32x127x2x64, .f32⟩
  | .hbm, ⟨64, _⟩ => ⟨S32x1x2x64, .f32⟩
  | .hbm, ⟨65, _⟩ => ⟨S32x128x2x64, .f32⟩
  | .hbm, ⟨66, _⟩ => ⟨S1x32x127x2x64, .f32⟩
  | .hbm, ⟨67, _⟩ => ⟨S32x127x2x64, .f32⟩
  | .hbm, ⟨68, _⟩ => ⟨S32x1x2x64, .f32⟩
  | .hbm, ⟨69, _⟩ => ⟨S32x128x2x64, .f32⟩
  | .hbm, ⟨70, _⟩ => ⟨S32x128x128, .f32⟩
  | .hbm, ⟨71, _⟩ => ⟨S32x128x128, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩

abbrev nD : Nat := 1
abbrev τ : Topo := Topo.v7x

variable {F : FTy → Type} [FloatOps F]
-- ==== AttnPrompt.lean ====
abbrev S8192x768 : Shape := ⟨2, ![8192, 768]⟩
abbrev S4x64 : Shape := ⟨2, ![4, 64]⟩
abbrev S4x8 : Shape := ⟨2, ![4, 8]⟩
abbrev S4x8192x512 : Shape := ⟨3, ![4, 8192, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S1x1x512 : Shape := ⟨3, ![1, 1, 512]⟩
abbrev S1x4x2x64 : Shape := ⟨4, ![1, 4, 2, 64]⟩
abbrev S4x128 : Shape := ⟨2, ![4, 128]⟩
abbrev S4x1x128 : Shape := ⟨3, ![4, 1, 128]⟩
abbrev S1x1x128 : Shape := ⟨3, ![1, 1, 128]⟩
abbrev S1x128 : Shape := ⟨2, ![1, 128]⟩
abbrev S1x8 : Shape := ⟨2, ![1, 8]⟩
abbrev S8 : Shape := ⟨1, ![8]⟩
abbrev S2x4096x768 : Shape := ⟨3, ![2, 4096, 768]⟩
abbrev S4x2x4096x512 : Shape := ⟨4, ![4, 2, 4096, 512]⟩
abbrev S2x128x128 : Shape := ⟨3, ![2, 128, 128]⟩
abbrev S2x128x768 : Shape := ⟨3, ![2, 128, 768]⟩
abbrev S128x128 : Shape := ⟨2, ![128, 128]⟩
abbrev S1x2x128x512 : Shape := ⟨4, ![1, 2, 128, 512]⟩
abbrev S256x128 : Shape := ⟨2, ![256, 128]⟩
abbrev S1x128x768 : Shape := ⟨3, ![1, 128, 768]⟩
abbrev S128x768 : Shape := ⟨2, ![128, 768]⟩
abbrev S256x768 : Shape := ⟨2, ![256, 768]⟩
abbrev S256x512 : Shape := ⟨2, ![256, 512]⟩
abbrev S1x128x128 : Shape := ⟨3, ![1, 128, 128]⟩
abbrev S256x256 : Shape := ⟨2, ![256, 256]⟩
abbrev S256x1 : Shape := ⟨2, ![256, 1]⟩
abbrev S1 : Shape := ⟨1, ![1]⟩
abbrev S256 : Shape := ⟨1, ![256]⟩
abbrev S128x512 : Shape := ⟨2, ![128, 512]⟩
abbrev S1x1x128x512 : Shape := ⟨4, ![1, 1, 128, 512]⟩

abbrev nBuf : Space → Nat
  | .hbm => 76
  | .vmem => 15
  | .smem => 1
  | _ => 0

abbrev bufTy : (tb : Table) → Fin (tcTables nBuf tb) → BufTy
  | .hbm, ⟨0, _⟩ => ⟨S8192x768, .f32⟩
  | .hbm, ⟨1, _⟩ => ⟨S4x64, .f32⟩
  | .hbm, ⟨2, _⟩ => ⟨S4x64, .f32⟩
  | .hbm, ⟨3, _⟩ => ⟨S4x8, .f32⟩
  | .hbm, ⟨4, _⟩ => ⟨S4x8192x512, .bf16⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x64, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S4096x32, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S512, .i32⟩
  | .hbm, ⟨32, _⟩ => ⟨S_, .i32⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S_, .i32⟩
  | .hbm, ⟨38, _⟩ => ⟨S512, .i32⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S512x512, .bf16⟩
  | .hbm, ⟨56, _⟩ => ⟨S1x4x1x64, .f32⟩
  | .hbm, ⟨57, _⟩ => ⟨S1x4x8x64, .f32⟩
  | .hbm, ⟨58, _⟩ => ⟨S4x512, .f32⟩
  | .hbm, ⟨59, _⟩ => ⟨S4x1x512, .f32⟩
  | .hbm, ⟨60, _⟩ => ⟨S1x1x512, .f32⟩
  | .hbm, ⟨61, _⟩ => ⟨S1x512, .f32⟩
  | .hbm, ⟨62, _⟩ => ⟨S1x4x1x64, .f32⟩
  | .hbm, ⟨63, _⟩ => ⟨S1x4x2x64, .f32⟩
  | .hbm, ⟨64, _⟩ => ⟨S4x128, .f32⟩
  | .hbm, ⟨65, _⟩ => ⟨S4x1x128, .f32⟩
  | .hbm, ⟨66, _⟩ => ⟨S1x1x128, .f32⟩
  | .hbm, ⟨67, _⟩ => ⟨S1x128, .f32⟩
  | .hbm, ⟨68, _⟩ => ⟨S1x8, .f32⟩
  | .hbm, ⟨69, _⟩ => ⟨S8, .f32⟩
  | .hbm, ⟨70, _⟩ => ⟨S2x4096x768, .f32⟩
  | .hbm, ⟨71, _⟩ => ⟨S4x2x4096x512, .bf16⟩
  | .hbm, ⟨72, _⟩ => ⟨S4x2x4096x512, .bf16⟩
  | .hbm, ⟨73, _⟩ => ⟨S2x128x128, .f32⟩
  | .hbm, ⟨74, _⟩ => ⟨S2x128x128, .f32⟩
  | .hbm, ⟨75, _⟩ => ⟨S4x8192x512, .bf16⟩
  | .local _ .vmem, ⟨0, _⟩ => ⟨S2x128x768, .f32⟩
  | .local _ .vmem, ⟨1, _⟩ => ⟨S2x128x768, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S1x2x128x512, .bf16⟩
  | .local _ .vmem, ⟨10, _⟩ => ⟨S1x2x128x512, .bf16⟩
  | .local _ .vmem, ⟨11, _⟩ => ⟨S2x128x128, .f32⟩
  | .local _ .vmem, ⟨12, _⟩ => ⟨S2x128x128, .f32⟩
  | .local _ .vmem, ⟨13, _⟩ => ⟨S2x128x128, .f32⟩
  | .local _ .vmem, ⟨14, _⟩ => ⟨S2x128x128, .f32⟩
  | .local _ .smem, ⟨0, _⟩ => ⟨S8, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev main_v48_2 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnPromptRefIdeal.lean ====
abbrev S8192x768 : Shape := ⟨2, ![8192, 768]⟩
abbrev S4x64 : Shape := ⟨2, ![4, 64]⟩
abbrev S4x8 : Shape := ⟨2, ![4, 8]⟩
abbrev S4x8192x512 : Shape := ⟨3, ![4, 8192, 512]⟩
abbrev S8192x128 : Shape := ⟨2, ![8192, 128]⟩
abbrev S2x4096x128 : Shape := ⟨3, ![2, 4096, 128]⟩
abbrev S2x128x128 : Shape := ⟨3, ![2, 128, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S4x64, .f32⟩
  | .hbm, ⟨2, _⟩ => ⟨S4x64, .f32⟩
  | .hbm, ⟨3, _⟩ => ⟨S4x8, .f32⟩
  | .hbm, ⟨4, _⟩ => ⟨S4x8192x512, .bf16⟩
  | .hbm, ⟨5, _⟩ => ⟨S8192x128, .f32⟩
  | .hbm, ⟨6, _⟩ => ⟨S2x4096x128, .f32⟩
  | .hbm, ⟨7, _⟩ => ⟨S2x128x128, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== DnPrompt.lean ====
abbrev S8192x2176 : Shape := ⟨2, ![8192, 2176]⟩
abbrev S4x4x1536 : Shape := ⟨3, ![4, 4, 1536]⟩
abbrev S4x4 : Shape := ⟨2, ![4, 4]⟩
abbrev S4x128 : Shape := ⟨2, ![4, 128]⟩
abbrev S4x8192x512 : Shape := ⟨3, ![4, 8192, 512]⟩
abbrev S1x4x1536 : Shape := ⟨3, ![1, 4, 1536]⟩
abbrev S4x1536 : Shape := ⟨2, ![4, 1536]⟩
abbrev S_ : Shape := ⟨0, ![]⟩
abbrev S4x1x128 : Shape := ⟨3, ![4, 1, 128]⟩
abbrev S1x1x128 : Shape := ⟨3, ![1, 1, 128]⟩
abbrev S1x128 : Shape := ⟨2, ![1, 128]⟩
abbrev S2x4096x2176 : Shape := ⟨3, ![2, 4096, 2176]⟩
abbrev S4x2x4096x512 : Shape := ⟨4, ![4, 2, 4096, 512]⟩
abbrev S2x512x128 : Shape := ⟨3, ![2, 512, 128]⟩
abbrev S2x3x1536 : Shape := ⟨3, ![2, 3, 1536]⟩
abbrev S2x128x1536 : Shape := ⟨3, ![2, 128, 1536]⟩
abbrev S2x128x512 : Shape := ⟨3, ![2, 128, 512]⟩
abbrev S2x128x128 : Shape := ⟨3, ![2, 128, 128]⟩
abbrev S1x2x128x512 : Shape := ⟨4, ![1, 2, 128, 512]⟩
abbrev S2x136x1536 : Shape := ⟨3, ![2, 136, 1536]⟩
abbrev S2x8x1536 : Shape := ⟨3, ![2, 8, 1536]⟩
abbrev S1x128x1536 : Shape := ⟨3, ![1, 128, 1536]⟩
abbrev S128x1536 : Shape := ⟨2, ![128, 1536]⟩
abbrev S1x3x1536 : Shape := ⟨3, ![1, 3, 1536]⟩
abbrev S3x1536 : Shape := ⟨2, ![3, 1536]⟩
abbrev S1x1536 : Shape := ⟨2, ![1, 1536]⟩
abbrev S1x128x128 : Shape := ⟨3, ![1, 128, 128]⟩
abbrev S128x128 : Shape := ⟨2, ![128, 128]⟩
abbrev S1x128x512 : Shape := ⟨3, ![1, 128, 512]⟩
abbrev S128x512 : Shape := ⟨2, ![128, 512]⟩
abbrev S64x128 : Shape := ⟨2, ![64, 128]⟩
abbrev S256x128 : Shape := ⟨2, ![256, 128]⟩
abbrev S256 : Shape := ⟨1, ![256]⟩
abbrev S256x1 : Shape := ⟨2, ![256, 1]⟩
abbrev S64x64 : Shape := ⟨2, ![64, 64]⟩
abbrev S64x1 : Shape := ⟨2, ![64, 1]⟩
abbrev S1x1 : Shape := ⟨2, ![1, 1]⟩
abbrev S256x256 : Shape := ⟨2, ![256, 256]⟩
abbrev S256x512 : Shape := ⟨2, ![256, 512]⟩
abbrev S512x512 : Shape := ⟨2, ![512, 512]⟩
abbrev S512x256 : Shape := ⟨2, ![512, 256]⟩
abbrev S128x1 : Shape := ⟨2, ![128, 1]⟩
abbrev S512x1 : Shape := ⟨2, ![512, 1]⟩
abbrev S1x512x128 : Shape := ⟨3, ![1, 512, 128]⟩
abbrev S512x128 : Shape := ⟨2, ![512, 128]⟩
abbrev S64x512 : Shape := ⟨2, ![64, 512]⟩
abbrev S1x1x64x512 : Shape := ⟨4, ![1, 1, 64, 512]⟩
abbrev S2x4x128x128 : Shape := ⟨4, ![2, 4, 128, 128]⟩

abbrev nBuf : Space → Nat
  | .hbm => 30
  | .vmem => 16
  | .smem => 0
  | _ => 0

abbrev bufTy : (tb : Table) → Fin (tcTables nBuf tb) → BufTy
  | .hbm, ⟨0, _⟩ => ⟨S8192x2176, .f32⟩
  | .hbm, ⟨1, _⟩ => ⟨S4x4x1536, .f32⟩
  | .hbm, ⟨2, _⟩ => ⟨S4x4, .f32⟩
  | .hbm, ⟨3, _⟩ => ⟨S4x4, .f32⟩
  | .hbm, ⟨4, _⟩ => ⟨S4x128, .f32⟩
  | .hbm, ⟨5, _⟩ => ⟨S4x8192x512, .bf16⟩
  | .hbm, ⟨6, _⟩ => ⟨S1x4x1536, .f32⟩
  | .hbm, ⟨7, _⟩ => ⟨S4x1536, .f32⟩
  | .hbm, ⟨8, _⟩ => ⟨S_, .i32⟩
  | .hbm, ⟨9, _⟩ => ⟨S_, .f32⟩
  | .hbm, ⟨10, _⟩ => ⟨S4x128, .f32⟩
  | .hbm, ⟨11, _⟩ => ⟨S4x1x128, .f32⟩
  | .hbm, ⟨12, _⟩ => ⟨S1x1x128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S4x128, .f32⟩
  | .hbm, ⟨17, _⟩ => ⟨S4x1x128, .f32⟩
  | .hbm, ⟨18, _⟩ => ⟨S1x1x128, .f32⟩
  | .hbm, ⟨19, _⟩ => ⟨S1x128, .f32⟩
  | .hbm, ⟨20, _⟩ => ⟨S4x1x128, .f32⟩
  | .hbm, ⟨21, _⟩ => ⟨S1x1x128, .f32⟩
  | .hbm, ⟨22, _⟩ => ⟨S1x128, .f32⟩
  | .hbm, ⟨23, _⟩ => ⟨S2x4096x2176, .f32⟩
  | .hbm, ⟨24, _⟩ => ⟨S4x2x4096x512, .bf16⟩
  | .hbm, ⟨25, _⟩ => ⟨S4x2x4096x512, .bf16⟩
  | .hbm, ⟨26, _⟩ => ⟨S2x512x128, .f32⟩
  | .hbm, ⟨27, _⟩ => ⟨S2x3x1536, .f32⟩
  | .hbm, ⟨28, _⟩ => ⟨S4x8192x512, .bf16⟩
  | .hbm, ⟨29, _⟩ => ⟨S2x4x128x128, .f32⟩
  | .local _ .vmem, ⟨0, _⟩ => ⟨S2x128x1536, .f32⟩
  | .local _ .vmem, ⟨1, _⟩ => ⟨S2x128x1536, .f32⟩
  | .local _ .vmem, ⟨2, _⟩ => ⟨S2x128x512, .f32⟩
  | .local _ .vmem, ⟨3, _⟩ => ⟨S2x128x512, .f32⟩
  | .local _ .vmem, ⟨4, _⟩ => ⟨S2x128x128, .f32⟩
  | .local _ .vmem, ⟨5, _⟩ => ⟨S2x128x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x2x128x512, .bf16⟩
  | .local _ .vmem, ⟨11, _⟩ => ⟨S1x2x128x512, .bf16⟩
  | .local _ .vmem, ⟨12, _⟩ => ⟨S2x512x128, .f32⟩
  | .local _ .vmem, ⟨13, _⟩ => ⟨S2x3x1536, .f32⟩
  | .local _ .vmem, ⟨14, _⟩ => ⟨S2x136x1536, .f32⟩
  | .local _ .vmem, ⟨15, _⟩ => ⟨S2x512x128, .f32⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v2480 : BitVec 1 := Scalar.cmpi .eq arg0 c31_i32
  let v2481 : BitVec 32 := Scalar.extui v2480
  let c0_i32_710 : BitVec 32 := 0#32
  let v2482 : BitVec 1 := Scalar.cmpi .ne v2481 c0_i32_710
  v2482

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_2 (i : grid0.Coords) : Fin 3 → Nat :=
  let arg0 : BitVec 32 := BitVec.ofNat 32 (i 0).val
  let c0_i32 : BitVec 32 := 0#32
  let c16_i32 : BitVec 32 := 16#32
  let c0_i32_0 : BitVec 32 := 0#32
  ![c0_i32.toNat, arg0.toNat, c16_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x3x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DnPromptRefIdeal.lean ====
abbrev S8192x2176 : Shape := ⟨2, ![8192, 2176]⟩
abbrev S4x4x1536 : Shape := ⟨3, ![4, 4, 1536]⟩
abbrev S4x4 : Shape := ⟨2, ![4, 4]⟩
abbrev S4x128 : Shape := ⟨2, ![4, 128]⟩
abbrev S4x8192x512 : Shape := ⟨3, ![4, 8192, 512]⟩
abbrev S8192x1536 : Shape := ⟨2, ![8192, 1536]⟩
abbrev S2x4096x1536 : Shape := ⟨3, ![2, 4096, 1536]⟩
abbrev S2x3x1536 : Shape := ⟨3, ![2, 3, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x2176, .f32⟩
  | .hbm, ⟨1, _⟩ => ⟨S4x4x1536, .f32⟩
  | .hbm, ⟨2, _⟩ => ⟨S4x4, .f32⟩
  | .hbm, ⟨3, _⟩ => ⟨S4x4, .f32⟩
  | .hbm, ⟨4, _⟩ => ⟨S4x128, .f32⟩
  | .hbm, ⟨5, _⟩ => ⟨S4x8192x512, .bf16⟩
  | .hbm, ⟨6, _⟩ => ⟨S8192x1536, .f32⟩
  | .hbm, ⟨7, _⟩ => ⟨S2x4096x1536, .f32⟩
  | .hbm, ⟨8, _⟩ => ⟨S2x3x1536, .f32⟩
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩

abbrev nD : Nat := 1
abbrev τ : Topo := Topo.v7x

variable {F : FTy → Type} [FloatOps F]
-- ==== Proof.GateLayout.lean ====
/-
  The gate rows of the weight layout. `GateLayoutIdeal`'s one call copies columns 4360 … 12551 of `w_in` into rows
  6144 … 14335 of a buffer, transposed and rounded to bf16, and leaves the rows above as they were. Its input window is
  read at element offsets (4360 is no multiple of the block's 512 rows); the output is block-indexed.
  Here: what the result array holds after the run, index by index, at any float instance, and that the reference's
  concatenation of the old rows with the transposed, rounded columns is the same array.
-/
module

public import proofs.«01_k».proof.Defs
public import proofs.«01_k».proof.Proof.Gen.GateLayout.Frame
public import proofs.«01_k».proof.Proof.Gen.GateLayoutIdeal.Value
public import proofs.«01_k».proof.Proof.Gen.GateLayoutRefIdeal.Run
public import proofs.«01_k».proof.Proof.Gen.GateLayoutRefIdeal.Read

@[expose] public section

noncomputable section

namespace Cert.Proof.GateLayout

open Idealize.ShloMosaic Idealize.ShloMosaic.TcCoe Idealize.SL.Sem
open Cert.GateLayoutIdeal Cert.GateLayoutIdeal.Gen
open Idealize.ShloMosaic.Pipeline (Dat Cfg Window)

variable {F : FTy → Type} [FloatOps F]
variable (m : (ℓ : Loc nD τ sig) → Buf (Elt F) ℓ) (ρ : Dev nD → PrngReg)

/-- Where element `i` of the gate rows comes from in `w_in`: the same layer, the transposed coordinates, column 4360 on. -/
def src (i : S4x14336x2048.Idx) : S4x2048x12552.Idx := fun a => match a with
  | ⟨0, _⟩ => ⟨(i 0).val, (i 0).isLt⟩
  | ⟨1, _⟩ => ⟨(i 2).val, (i 2).isLt⟩
  | ⟨2, _⟩ => ⟨4360 + ((i 1).val - 6144), by
      have h1 : (i 1).val < 14336 := (i 1).isLt; show 4360 + ((i 1).val - 6144) < 12552; omega⟩

/-- The array after the run: the buffer's own rows below 6144, the transposed and rounded columns of `w_in` from there. -/
def laid (w : S4x2048x12552.Idx → F .f32) (b : S4x14336x2048.Idx → F .bf16) : S4x14336x2048.Idx → F .bf16 :=
  fun i => if (i 1).val < 6144 then b i else FloatOps.truncf .bf16 bitsLt_bf16_f32 (w (src i))

theorem hz : (![0, 0, 0] : Fin 3 → Nat) = fun _ => 0 := funext fun a => by fin_cases a <;> rfl

/-- What the body leaves in its output block: its input block, rounded. -/
theorem out_A (c : Dev nD) (i : grid0.Coords) (a1 : Memref sig .tc .vmem S1x512x2048 .f32) (h1 : a1.IsWhole)
    (a2 : Memref sig .tc .vmem S1x512x2048 .bf16) (h2 : a2.IsWhole) (x : Vec F S1x512x2048 .f32) :
    out0_A_1 c i a1 h1 a2 h2 x = fun j => FloatOps.truncf .bf16 bitsLt_bf16_f32 (x j) := by
  unfold out0_A_1
  rw [View.read_writes_eq_canon _ _ _ (cover0_A_1 c i a1 h1 a2 h2 x)]
  unfold kernelRun0_A
  rw [View.canon_unit_zero hz]
  simp only [View.readAt_eq_ld, h1.read_unread, View.ld_unit_zero (S := S1x512x2048) hz]
  unfold k0_pay1
  show truncf .bf16 (shapeCast S1x512x2048 (shapeCast S512x2048 x shapeCasts_S1x512x2048_S512x2048)
    shapeCasts_S512x2048_S1x512x2048) bitsLt_bf16_f32 = _
  rw [shapeCast_shapeCast]
  rfl

/-- The input block begins at the element offsets (layer, 4360 + 512·k, 0), -/
theorem off_in : ∀ t : Fin cfg0.N, win0_0.index t = ![t.val / 16, 4360 + 512 * (t.val % 16), 0] :=
  (by decide +kernel : ∀ t : Fin grid0.N, win0_0.index t = ![t.val / 16, 4360 + 512 * (t.val % 16), 0])

/-- and the output block is number 12 + k of the layer. -/
theorem idx_out : ∀ t : Fin cfg0.N, win0_1.index t = ![t.val / 16, 12 + t.val % 16, 0] :=
  (by decide +kernel : ∀ t : Fin grid0.N, win0_1.index t = ![t.val / 16, 12 + t.val % 16, 0])

/-- When the call begins, its first operand is `w_in` with its last two axes exchanged, -/
theorem V_v0 (c : Dev nD) : V m c main_v0
    = transpose S4x12552x2048 [0, 2, 1] (m ((c : Thread nD τ).loc main_arg0)) transposes_S4x2048x12552_S4x12552x2048_0_2_1 := by
  unfold V; after_results

/-- and its result array is a copy of the buffer. -/
theorem V_v1 (c : Dev nD) : V m c main_v1 = m ((c : Thread nD τ).loc main_arg1) := by
  unfold V; after_results; rfl

/-- What a grid point writes back is its block of `laid`. -/
theorem flushed_eq (c : Dev nD) (t : Fin cfg0.N) (hf : (cfg0.win 1).flush t = true) :
    (dats m 0 c).flushed 1 t = ((cfg0.win 1).blk t).view.read (Elt F)
      (laid (m ((c : Thread nD τ).loc main_arg0)) (m ((c : Thread nD τ).loc main_arg1))) := by
  rw [Value.flushed1_A, out_A]
  funext y
  rw [View.read_apply]
  show FloatOps.truncf .bf16 bitsLt_bf16_f32 (iblk m c 0 t y) = laid _ _ ((win0_1.rect t).emb y)
  have hi := off_in t
  have ho := idx_out t
  have e1 : ((win0_1.rect t).emb y 1 : Nat) = (12 + t.val % 16) * 512 + (y 1).val := by
    rw [Window.rect_emb_val win0_1 t y 1, ho]; rfl
  have e0 : ((win0_1.rect t).emb y 0 : Nat) = t.val / 16 + (y 0).val := by
    rw [Window.rect_emb_val win0_1 t y 0, ho]; show t.val / 16 * 1 + _ = _; omega
  have e2 : ((win0_1.rect t).emb y 2 : Nat) = (y 2).val := by
    rw [Window.rect_emb_val win0_1 t y 2, ho]; show 0 * 2048 + _ = _; omega
  unfold laid
  rw [if_neg (by show ¬ ((win0_1.rect t).emb y 1 : Nat) < 6144; rw [e1]; omega)]
  congr 1
  unfold iblk
  rw [View.read_apply]
  show V m c main_v0 ((win0_0.rect t).emb y) = _
  rw [V_v0]
  refine transpose_apply [0, 2, 1] _ transposes_S4x2048x12552_S4x12552x2048_0_2_1 _ _ (fun b => ?_)
  match b with
  | ⟨0, _⟩ =>
    show ((win0_1.rect t).emb y 0 : Nat) = ((win0_0.rect t).emb y 0 : Nat)
    rw [e0, Window.rect_emb_val_off win0_0 t y 0, hi]; rfl
  | ⟨1, _⟩ =>
    show 4360 + (((win0_1.rect t).emb y 1 : Nat) - 6144) = ((win0_0.rect t).emb y 1 : Nat)
    rw [e1, Window.rect_emb_val_off win0_0 t y 1, hi]
    show _ = 4360 + 512 * (t.val % 16) + (y 1).val
    omega
  | ⟨2, _⟩ =>
    show ((win0_1.rect t).emb y 2 : Nat) = ((win0_0.rect t).emb y 2 : Nat)
    rw [e2, Window.rect_emb_val_off win0_0 t y 2, hi]
    show _ = 0 + (y 2).val
    omega

/-- An index is in the block of grid point `t` when each coordinate is in the block's range. -/
theorem mem_blk (t : Fin cfg0.N) (i : S4x14336x2048.Idx) :
    i ∈ ((cfg0.win 1).blk t).view.set ↔ ∀ a, win0_1.index t a * win0_1.size a ≤ (i a : Nat)
      ∧ (i a : Nat) < win0_1.index t a * win0_1.size a + win0_1.xsize (grid0.coords t) a := by
  show i ∈ ((View.whole main_v1).slice (win0_1.rect t)).set ↔ _
  rw [View.set_slice_whole, Rect.mem_set_unit]

/-- After the run the result array is `laid` of the arguments: a covered element by the block that covers it, any other
    element keeps the buffer's. -/
theorem final (c : Dev nD) : (dats m 0 c).arrAt 1 cfg0.N
    = laid (m ((c : Thread nD τ).loc main_arg0)) (m ((c : Thread nD τ).loc main_arg1)) := by
  funext i
  have h0 : (i 0 : Nat) < 4 := (i 0).isLt
  have h1 : (i 1 : Nat) < 14336 := (i 1).isLt
  have h2 : (i 2 : Nat) < 2048 := (i 2).isLt
  by_cases hlt : (i 1 : Nat) < 6144
  · rw [Value.entry1 m c i (fun t _ hi => by
      rw [mem_blk] at hi
      have := (hi 1).1
      rw [idx_out] at this
      have : (12 + t.val % 16) * 512 ≤ (i 1 : Nat) := this
      omega)]
    show V m c main_v1 i = _
    rw [V_v1]
    unfold laid
    rw [if_pos hlt]
  · have hN : cfg0.N = 64 := by decide
    let t : Fin cfg0.N := ⟨(i 0 : Nat) * 16 + ((i 1 : Nat) - 6144) / 512, by rw [hN]; omega⟩
    refine (dats m 0 c).arrAt_apply_of_mem 1 _ (flushed_eq m c) cfg0.N t i t.isLt (flush0_1 t) ?_
    rw [mem_blk]
    intro a
    rw [idx_out]
    have q0 : t.val / 16 = (i 0 : Nat) := by show ((i 0 : Nat) * 16 + ((i 1 : Nat) - 6144) / 512) / 16 = _; omega
    have q1 : t.val % 16 = ((i 1 : Nat) - 6144) / 512 := by
      show ((i 0 : Nat) * 16 + ((i 1 : Nat) - 6144) / 512) % 16 = _; omega
    match a with
    | ⟨0, _⟩ => show t.val / 16 * 1 ≤ (i 0 : Nat) ∧ (i 0 : Nat) < t.val / 16 * 1 + 1; rw [q0]; omega
    | ⟨1, _⟩ => show (12 + t.val % 16) * 512 ≤ (i 1 : Nat) ∧ (i 1 : Nat) < (12 + t.val % 16) * 512 + 512; rw [q1]; omega
    | ⟨2, _⟩ => show 0 * 2048 ≤ (i 2 : Nat) ∧ (i 2 : Nat) < 0 * 2048 + 2048; omega

/-- The run: the result at `laid` of the arguments, the arguments unchanged. -/
theorem run : θ_run (defs (F := F)) (onTc (τ := τ) (main (F := F))) ⟨m, fun _ => 0, ρ⟩ fun r => ∀ c : Dev nD,
      r.2.mem ((c : Thread nD τ).loc main_v1) = laid (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The same run of the kernel as printed, at the machine's floats: the two programs have one text. -/
theorem run_bits (m : (ℓ : Loc Cert.GateLayout.nD Cert.GateLayout.τ Cert.GateLayout.sig) → Buf (Elt Bits) ℓ)
    (ρ : Dev Cert.GateLayout.nD → PrngReg) :
    θ_run (Cert.GateLayout.defs (F := Bits)) (onTc (τ := Cert.GateLayout.τ) (Cert.GateLayout.main (F := Bits)))
      ⟨m, fun _ => 0, ρ⟩ fun r => ∀ c : Dev Cert.GateLayout.nD,
      r.2.mem ((c.tc : Thread Cert.GateLayout.nD Cert.GateLayout.τ).loc Cert.GateLayout.main_v1)
        = laid (F := Bits) (m ((c.tc : Thread Cert.GateLayout.nD Cert.GateLayout.τ).loc Cert.GateLayout.main_arg0))
            (m ((c.tc : Thread Cert.GateLayout.nD Cert.GateLayout.τ).loc Cert.GateLayout.main_arg1))
      ∧ r.2.mem ((c.tc : Thread Cert.GateLayout.nD Cert.GateLayout.τ).loc Cert.GateLayout.main_arg0)
        = m ((c.tc : Thread Cert.GateLayout.nD Cert.GateLayout.τ).loc Cert.GateLayout.main_arg0)
      ∧ r.2.mem ((c.tc : Thread Cert.GateLayout.nD Cert.GateLayout.τ).loc Cert.GateLayout.main_arg1)
        = m ((c.tc : Thread Cert.GateLayout.nD Cert.GateLayout.τ).loc Cert.GateLayout.main_arg1) := by
  refine Eq.mp ?_ (run (F := Bits) m ρ)
  sl_kernel_rfl

/-- The reference's concatenation is `laid`. -/
theorem ref_eq (w : S4x2048x12552.Idx → F .f32) (b : S4x14336x2048.Idx → F .bf16) :
    Cert.GateLayoutRefIdeal.Read.val_main_v4 (F := F) w b = laid w b := by
  funext i
  unfold Cert.GateLayoutRefIdeal.Read.val_main_v4 laid
  have h1 : (i 1 : Nat) < 14336 := (i 1).isLt
  split
  · rename_i h
    let j : Cert.GateLayoutRefIdeal.S4x6144x2048.Idx := fun a => match a with
      | ⟨0, _⟩ => ⟨(i 0).val, (i 0).isLt⟩
      | ⟨1, _⟩ => ⟨(i 1).val, h⟩
      | ⟨2, _⟩ => ⟨(i 2).val, (i 2).isLt⟩
    rw [concatenate_pair_apply_left (s₁ := Cert.GateLayoutRefIdeal.S4x6144x2048) (s₂ := Cert.GateLayoutRefIdeal.S4x8192x2048)
      1 _ _ _ i rfl j (fun a => match a with | ⟨0, _⟩ => rfl | ⟨1, _⟩ => rfl | ⟨2, _⟩ => rfl),
      Cert.GateLayoutRefIdeal.Read.val_main_v3_apply]
    congr 1
    funext a
    match a with | ⟨0, _⟩ => rfl | ⟨1, _⟩ => rfl | ⟨2, _⟩ => rfl
  · rename_i h
    let j : Cert.GateLayoutRefIdeal.S4x8192x2048.Idx := fun a => match a with
      | ⟨0, _⟩ => ⟨(i 0).val, (i 0).isLt⟩
      | ⟨1, _⟩ => ⟨(i 1).val - 6144, by show (i 1).val - 6144 < 8192; omega⟩
      | ⟨2, _⟩ => ⟨(i 2).val, (i 2).isLt⟩
    rw [concatenate_pair_apply_right (s₁ := Cert.GateLayoutRefIdeal.S4x6144x2048) (s₂ := Cert.GateLayoutRefIdeal.S4x8192x2048)
      1 _ _ _ i rfl rfl j (fun a => match a with | ⟨0, _⟩ => fun _ => rfl | ⟨1, _⟩ => fun h => absurd rfl h | ⟨2, _⟩ => fun _ => rfl)
      (by show ((i 1).val - 6144) + 6144 = (i 1).val; omega),
      Cert.GateLayoutRefIdeal.Read.val_main_v2_apply, Cert.GateLayoutRefIdeal.Read.val_main_v1_apply,
      Cert.GateLayoutRefIdeal.Read.val_main_v0_apply]
    congr 2

end Cert.Proof.GateLayout

end
-- ==== Proof.Merge.lean ====
/-
  The merge: every row block of the result is the sum over the four branches of (sigmoid of the row's gate) times (the
  branch's output projected to the model width). The call walks 16 row blocks by 4 branches, carries the sum in a scratch
  buffer that it clears at the first branch, and rounds it into the output block at the last.
  Here: the scratch after each point as a running sum, the result array index by index, and that the reference's
  products, its sigmoid and its sum over the branches are the same extended reals.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.MatmulPlain
public import Idealize.ShloMosaic.Lib.ValueIdx
public import Idealize.ShloMosaic.Lib.IdealHost

@[expose] public section

noncomputable section

namespace Cert.Proof.Merge

open Idealize.ShloMosaic Idealize.ShloMosaic.TcCoe Idealize.SL.Sem Idealize.ShloMosaic.ValueIdx
open Cert.MergeIdeal Cert.MergeIdeal.Gen
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section Cases

variable {F : FTy → Type} [FloatOps F]
variable (c : Dev nD) (i : grid0.Coords) (a2 : Memref sig .tc .vmem S512x2048 .bf16) (h2 : a2.IsWhole)
  (a3 : Memref sig .tc .vmem S1x512x512 .bf16) (h3 : a3.IsWhole) (a4 : Memref sig .tc .vmem S1x2048x2048 .bf16) (h4 : a4.IsWhole)
  (a5 : Memref sig .tc .vmem S1x1x512x2048 .bf16) (h5 : a5.IsWhole) (a6 : Memref sig .tc .vmem S512x2048 .bf16) (h6 : a6.IsWhole)
  (a7 : Memref sig .tc .vmem S512x2048 .f32) (h7 : a7.IsWhole)
  (x0 : Vec F S512x2048 .bf16) (x1 : Vec F S1x512x512 .bf16) (x2 : Vec F S1x2048x2048 .bf16) (x3 : Vec F S1x1x512x2048 .bf16)
  (xs : Vec F S512x2048 .f32)

/-- The first branch clears the scratch and adds its term to the zeros. -/
theorem sout_A (hc0 : cond0_0 i) (hc1 : ¬cond0_1 i) :
    sout0_A_0 c i a2 h2 a3 h3 a4 h4 a5 h5 a6 h6 a7 h7 hc0 hc1 x0 x1 x2 x3 = k0_pay2 x0 x2 k0_pay1 x1 x3 := by
  unfold sout0_A_0
  rw [View.read_writes_eq_canon _ _ _ (scover0_A_0 c i a2 h2 a3 h3 a4 h4 a5 h5 a6 h6 a7 h7 hc0 hc1 x0 x1 x2 x3)]
  unfold kernelRun0_A
  sl_unfold_words
  rw [View.canon_cons_unit_zero hz2, View.readCov_unit_zero _ hz2]
  simp only [View.readAt_eq_ld, h2.read_unread, h3.read_unread, h4.read_unread, h5.read_unread,
    View.ld_unit_zero (S := S512x2048) hz2, View.ld_unit_zero (S := S1x2048x2048) hz3,
    View.ld_unit_zero (S := S1x512x512) hz3, View.ld_unit_zero (S := S1x1x512x2048) hz4]

/-- A middle branch adds its term to what the scratch held. -/
theorem sout_B (hc0 : ¬cond0_0 i) (hc1 : ¬cond0_1 i) :
    sout0_B_0 c i a2 h2 a3 h3 a4 h4 a5 h5 a6 h6 a7 h7 hc0 hc1 x0 x1 x2 x3 xs = k0_pay2 x0 x2 xs x1 x3 := by
  unfold sout0_B_0
  rw [View.read_writes_eq_canon _ _ _ (scover0_B_0 c i a2 h2 a3 h3 a4 h4 a5 h5 a6 h6 a7 h7 hc0 hc1 x0 x1 x2 x3 xs)]
  unfold kernelRun0_B
  sl_unfold_words
  rw [View.canon_unit_zero hz2]
  simp only [View.readAt_eq_ld, h2.read_unread, h3.read_unread, h4.read_unread, h5.read_unread, h7.read_unread,
    View.ld_unit_zero (S := S512x2048) hz2, View.ld_unit_zero (S := S1x2048x2048) hz3,
    View.ld_unit_zero (S := S1x512x512) hz3, View.ld_unit_zero (S := S1x1x512x2048) hz4]

/-- The last branch rounds the finished sum into the output block. -/
theorem out_C (hc0 : ¬cond0_0 i) (hc1 : cond0_1 i) :
    out0_C_4 c i a2 h2 a3 h3 a4 h4 a5 h5 a6 h6 a7 h7 hc0 hc1 x0 x1 x2 x3 xs = k0_pay3 (k0_pay2 x0 x2 xs x1 x3) := by
  unfold out0_C_4
  rw [View.read_writes_eq_canon _ _ _ (cover0_C_4 c i a2 h2 a3 h3 a4 h4 a5 h5 a6 h6 a7 h7 hc0 hc1 x0 x1 x2 x3 xs)]
  unfold kernelRun0_C
  sl_unfold_words
  rw [View.canon_unit_zero hz2, View.readCov_unit_zero _ hz2]
  simp only [View.readAt_eq_ld, h2.read_unread, h3.read_unread, h4.read_unread, h5.read_unread, h7.read_unread,
    View.ld_unit_zero (S := S512x2048) hz2, View.ld_unit_zero (S := S1x2048x2048) hz3,
    View.ld_unit_zero (S := S1x512x512) hz3, View.ld_unit_zero (S := S1x1x512x2048) hz4]

end Cases

/-! ## One branch's term, at an index -/

/-- The gate and the projected branch of one point, from the point's blocks. -/
def term (x0 : Vec Ideal S512x2048 .bf16) (x1 : Vec Ideal S1x512x512 .bf16) (x2 : Vec Ideal S1x2048x2048 .bf16)
    (x3 : Vec Ideal S1x1x512x2048 .bf16) (r : Fin 512) (d : Fin 2048) : EReal :=
  Ideal.logistic (∑ k : Fin 2048, x0 (ix2 r k) * x2 (ix3 0 d k)) * ∑ w : Fin 512, x1 (ix3 0 r w) * x3 (ix4 0 0 w d)

theorem pay1_apply (j : S512x2048.Idx) : k0_pay1 (F := Ideal) j = 0 := by
  unfold k0_pay1
  show Ideal.ofBits .f32 0x00000000#32 = 0
  exact Ideal.ofBits_zero_f32

theorem pay2_apply (x0 : Vec Ideal S512x2048 .bf16) (x1 : Vec Ideal S1x512x512 .bf16) (x2 : Vec Ideal S1x2048x2048 .bf16)
    (x3 : Vec Ideal S1x1x512x2048 .bf16) (xs : Vec Ideal S512x2048 .f32) (r : Fin 512) (d : Fin 2048) :
    k0_pay2 x0 x2 xs x1 x3 (ix2 r d) = xs (ix2 r d) + term x0 x1 x2 x3 r d := by
  unfold k0_pay2
  show shapeCast S512x2048 _ shapeCasts_S512x2048_S512x2048 (ix2 r d) = _
  rw [shapeCast_self]
  show (xs (ix2 r d) + Ideal.logistic (FloatOps.matmul (F := Ideal) (DotDims.transposedRhs 512 2048 2048) none x0
      (shapeCast S2048x2048 x2 shapeCasts_S1x2048x2048_S2048x2048) (constant S512x2048 .f32 0x00000000#32) (ix2 r d))
    * FloatOps.matmul (F := Ideal) (DotDims.plain 512 512 2048) none (shapeCast S512x512 x1 shapeCasts_S1x512x512_S512x512)
      (shapeCast S512x2048 x3 shapeCasts_S1x1x512x2048_S512x2048) (constant S512x2048 .f32 0x00000000#32) (ix2 r d) : EReal) = _
  rw [Ideal.matmul_transposedRhs_apply, Ideal.matmul_plain_apply, constant_apply, Ideal.ofBits_zero_f32, zero_add, zero_add]
  unfold term
  congr 2
  · congr 1
    refine Finset.sum_congr rfl fun k _ => congrArg (x0 (ix2 r k) * ·) ?_
    refine shapeCast_apply x2 shapeCasts_S1x2048x2048_S2048x2048 _ _ ?_
    rw [Shape.rowMajor_val_two, Shape.rowMajor_val_three]
    show (0 * 2048 + d.val) * 2048 + k.val = d.val * 2048 + k.val
    omega
  · refine Finset.sum_congr rfl fun w _ => congrArg₂ (· * ·) ?_ ?_
    · refine shapeCast_apply x1 shapeCasts_S1x512x512_S512x512 _ _ ?_
      rw [Shape.rowMajor_val_two, Shape.rowMajor_val_three]
      show (0 * 512 + r.val) * 512 + w.val = r.val * 512 + w.val
      omega
    · refine shapeCast_apply x3 shapeCasts_S1x1x512x2048_S512x2048 _ _ ?_
      rw [Shape.rowMajor_val_two, Shape.rowMajor_val_four]
      show ((0 * 1 + 0) * 512 + w.val) * 2048 + d.val = w.val * 2048 + d.val
      omega

/-! ## The blocks the launch hands a point -/

variable (m : (ℓ : Loc nD τ sig) → Buf (Elt Ideal) ℓ) (ρ : Dev nD → PrngReg)

/-- Branch `n`'s part of the merged row `r` at column `d`. -/
def part (h : S8192x2048.Idx → EReal) (ys : S4x8192x512.Idx → EReal) (wa : S4x14336x2048.Idx → EReal)
    (wb : S4x4x512x2048.Idx → EReal) (n : Fin 4) (r : Fin 8192) (d : Fin 2048) : EReal :=
  Ideal.logistic (∑ k : Fin 2048, h (ix2 r k) * wa (ix3 0 ⟨6144 + 2048 * n.val + d.val, by omega⟩ k))
    * ∑ w : Fin 512, ys (ix3 n r w) * wb (ix4 0 n w d)

/-- The merged rows. -/
def merged (h : S8192x2048.Idx → EReal) (ys : S4x8192x512.Idx → EReal) (wa : S4x14336x2048.Idx → EReal)
    (wb : S4x4x512x2048.Idx → EReal) : S8192x2048.Idx → EReal :=
  fun i => ∑ n : Fin 4, part h ys wa wb n (i 0) (i 1)

theorem idx0 : ∀ t : Fin cfg0.N, win0_0.index t = ![t.val / 4, 0] :=
  (by decide +kernel : ∀ t : Fin grid0.N, win0_0.index t = ![t.val / 4, 0])
theorem idx1 : ∀ t : Fin cfg0.N, win0_1.index t = ![t.val % 4, t.val / 4, 0] :=
  (by decide +kernel : ∀ t : Fin grid0.N, win0_1.index t = ![t.val % 4, t.val / 4, 0])
theorem idx2 : ∀ t : Fin cfg0.N, win0_2.index t = ![0, 3 + t.val % 4, 0] :=
  (by decide +kernel : ∀ t : Fin grid0.N, win0_2.index t = ![0, 3 + t.val % 4, 0])
theorem idx3 : ∀ t : Fin cfg0.N, win0_3.index t = ![0, t.val % 4, 0, 0] :=
  (by decide +kernel : ∀ t : Fin grid0.N, win0_3.index t = ![0, t.val % 4, 0, 0])
theorem idx4 : ∀ t : Fin cfg0.N, win0_4.index t = ![t.val / 4, 0] :=
  (by decide +kernel : ∀ t : Fin grid0.N, win0_4.index t = ![t.val / 4, 0])

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
/-- The host rounds the branch weights before the call; over the reals they are unchanged. -/
theorem V_v0 (c : Dev nD) : (V m c main_v0 : S4x4x512x2048.Idx → EReal) = m ((c : Thread nD τ).loc main_arg3) := by
  unfold V; after_results; rfl

theorem row_lt (t : Fin cfg0.N) (r : Fin 512) : t.val / 4 * 512 + r.val < 8192 := by
  have := lt_of_lt_of_eq t.isLt (show cfg0.N = 64 from N_0)
  omega

/-- The row of the whole array that row `r` of point `t`'s blocks is. -/
def row (t : Fin cfg0.N) (r : Fin 512) : Fin 8192 := ⟨t.val / 4 * 512 + r.val, row_lt t r⟩
/-- The branch of point `t`. -/
def br (t : Fin cfg0.N) : Fin 4 := ⟨t.val % 4, Nat.mod_lt _ (by decide)⟩

theorem blk0 (c : Dev nD) (t : Fin cfg0.N) (r : Fin 512) (k : Fin 2048) :
    (iblk m c 0 t : S512x2048.Idx → EReal) (ix2 r k) = (m ((c : Thread nD τ).loc main_arg0) : S8192x2048.Idx → EReal) (ix2 (row t r) k) := by
  unfold iblk
  rw [View.read_apply]
  show V m c main_arg0 ((win0_0.rect t).emb (ix2 r k)) = _
  rw [V_arg0]
  refine congrArg (m ((c : Thread nD τ).loc main_arg0) : S8192x2048.Idx → EReal) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 2048 + k.val = k.val; omega

theorem blk1 (c : Dev nD) (t : Fin cfg0.N) (r : Fin 512) (w : Fin 512) :
    (iblk m c 1 t : S1x512x512.Idx → EReal) (ix3 0 r w) = (m ((c : Thread nD τ).loc main_arg1) : S4x8192x512.Idx → EReal) (ix3 (br t) (row t r) w) := by
  unfold iblk
  rw [View.read_apply]
  show V m c main_arg1 ((win0_1.rect t).emb (ix3 0 r w)) = _
  rw [V_arg1]
  refine congrArg (m ((c : Thread nD τ).loc main_arg1) : S4x8192x512.Idx → EReal) (funext fun a => Fin.ext ?_)
  match a with
  | ⟨0, _⟩ => refine (Window.rect_emb_val win0_1 t _ 0).trans ?_; rw [idx1]; show t.val % 4 * 1 + 0 = t.val % 4; omega
  | ⟨1, _⟩ => refine (Window.rect_emb_val win0_1 t _ 1).trans ?_; rw [idx1]; rfl
  | ⟨2, _⟩ => refine (Window.rect_emb_val win0_1 t _ 2).trans ?_; rw [idx1]; show 0 * 512 + w.val = w.val; omega

theorem blk2 (c : Dev nD) (t : Fin cfg0.N) (d : Fin 2048) (k : Fin 2048) :
    (iblk m c 2 t : S1x2048x2048.Idx → EReal) (ix3 0 d k)
      = (m ((c : Thread nD τ).loc main_arg2) : S4x14336x2048.Idx → EReal) (ix3 0 ⟨6144 + 2048 * (br t).val + d.val, by omega⟩ k) := by
  unfold iblk
  rw [View.read_apply]
  show V m c main_arg2 ((win0_2.rect t).emb (ix3 0 d k)) = _
  rw [V_arg2]
  refine congrArg (m ((c : Thread nD τ).loc main_arg2) : S4x14336x2048.Idx → EReal) (funext fun a => Fin.ext ?_)
  match a with
  | ⟨0, _⟩ => refine (Window.rect_emb_val win0_2 t _ 0).trans ?_; rw [idx2]; rfl
  | ⟨1, _⟩ =>
    refine (Window.rect_emb_val win0_2 t _ 1).trans ?_
    rw [idx2]
    show (3 + t.val % 4) * 2048 + d.val = 6144 + 2048 * (t.val % 4) + d.val
    omega
  | ⟨2, _⟩ => refine (Window.rect_emb_val win0_2 t _ 2).trans ?_; rw [idx2]; show 0 * 2048 + k.val = k.val; omega

theorem blk3 (c : Dev nD) (t : Fin cfg0.N) (w : Fin 512) (d : Fin 2048) :
    (iblk m c 3 t : S1x1x512x2048.Idx → EReal) (ix4 0 0 w d)
      = (m ((c : Thread nD τ).loc main_arg3) : S4x4x512x2048.Idx → EReal) (ix4 0 (br t) w d) := by
  unfold iblk
  rw [View.read_apply]
  show (V m c main_v0 : S4x4x512x2048.Idx → EReal) ((win0_3.rect t).emb (ix4 0 0 w d)) = _
  rw [V_v0]
  refine congrArg (m ((c : Thread nD τ).loc main_arg3) : S4x4x512x2048.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show t.val % 4 * 1 + 0 = t.val % 4; omega
  | ⟨2, _⟩ => refine (Window.rect_emb_val win0_3 t _ 2).trans ?_; rw [idx3]; show 0 * 512 + w.val = w.val; omega
  | ⟨3, _⟩ => refine (Window.rect_emb_val win0_3 t _ 3).trans ?_; rw [idx3]; show 0 * 2048 + d.val = d.val; omega

/-- The part of branch `n` in the memory's own arrays. -/
abbrev partOf (c : Dev nD) (n : Fin 4) (r : Fin 8192) (d : Fin 2048) : EReal :=
  part (m ((c : Thread nD τ).loc main_arg0)) (m ((c : Thread nD τ).loc main_arg1)) (m ((c : Thread nD τ).loc main_arg2))
    (m ((c : Thread nD τ).loc main_arg3)) n r d

/-- A point's term is its branch's part of its rows. -/
theorem term_eq (c : Dev nD) (t : Fin cfg0.N) (r : Fin 512) (d : Fin 2048) :
    term (iblk m c 0 t) (iblk m c 1 t) (iblk m c 2 t) (iblk m c 3 t) r d = partOf m c (br t) (row t r) d := by
  unfold term partOf part
  refine congrArg₂ (· * ·) (congrArg Ideal.logistic (Finset.sum_congr rfl fun k _ => ?_)) (Finset.sum_congr rfl fun w _ => ?_)
  · exact congrArg₂ (· * ·) (blk0 m c t r k) (blk2 m c t d k)
  · exact congrArg₂ (· * ·) (blk1 m c t r w) (blk3 m c t w d)

/-! ## The scratch after each branch, and the block written back -/

theorem scratch_A (c : Dev nD) (t : Fin cfg0.N) (h0 : t.val % 4 = 0) (r : Fin 512) (d : Fin 2048) :
    ((outsAt0 m c t.val t.isLt).2 : S512x2048.Idx → EReal) (ix2 r d) = 0 + partOf m c (br t) (row t r) d := by
  rw [outsAt0_A m c t h0 (by omega)]
  dsimp only
  rw [sout_A]
  refine (pay2_apply _ _ _ _ _ r d).trans ?_
  rw [term_eq, pay1_apply]

theorem scratch_B (c : Dev nD) (t : Fin cfg0.N) (h0 : ¬t.val % 4 = 0) (h1 : ¬t.val % 4 = 3) (r : Fin 512) (d : Fin 2048) :
    ((outsAt0 m c t.val t.isLt).2 : S512x2048.Idx → EReal) (ix2 r d)
      = ((outsAt0 m c (t.val - 1) (Nat.lt_of_le_of_lt (Nat.sub_le _ _) t.isLt)).2 : S512x2048.Idx → EReal) (ix2 r d)
        + partOf m c (br t) (row t r) d := by
  rw [outsAt0_B m c t h0 h1]
  dsimp only
  rw [sout_B]
  refine (pay2_apply _ _ _ _ _ r d).trans ?_
  rw [term_eq]

/-- The last branch's point writes back its block of `merged`. -/
theorem flushed_eq (c : Dev nD) (t : Fin cfg0.N) (hf : (cfg0.win 4).flush t = true) :
    (dats m 0 c).flushed 4 t = ((cfg0.win 4).blk t).view.read (Elt Ideal)
      (merged (m ((c : Thread nD τ).loc main_arg0)) (m ((c : Thread nD τ).loc main_arg1))
        (m ((c : Thread nD τ).loc main_arg2)) (m ((c : Thread nD τ).loc main_arg3))) := by
  have h3 : t.val % 4 = 3 := (flush0_4 t).mp hf
  have hN := lt_of_lt_of_eq t.isLt (show cfg0.N = 64 from N_0)
  rw [Value.flushed4_C m c t (by omega) h3, out_C]
  funext y
  obtain ⟨r, d, rfl⟩ : ∃ (r : Fin 512) (d : Fin 2048), y = ix2 r d := ⟨y 0, y 1, eq_ix2 y⟩
  rw [View.read_apply]
  show (k0_pay2 (iblk m c 0 t) (iblk m c 2 t) _ (iblk m c 1 t) (iblk m c 3 t) : S512x2048.Idx → EReal) (ix2 r d)
    = merged _ _ _ _ ((win0_4.rect t).emb (ix2 r d))
  refine (pay2_apply _ _ _ _ _ r d).trans ?_
  have he : (win0_4.rect t).emb (ix2 r d) = ix2 (row t r) d := funext fun a => Fin.ext (by
    match a with
    | ⟨0, _⟩ => refine (Window.rect_emb_val win0_4 t _ 0).trans ?_; rw [idx4]; rfl
    | ⟨1, _⟩ => refine (Window.rect_emb_val win0_4 t _ 1).trans ?_; rw [idx4]; show 0 * 2048 + d.val = d.val; omega)
  rw [he, term_eq]
  obtain ⟨tv, ht⟩ := t
  obtain ⟨q, rfl⟩ : ∃ q, tv = 4 * q + 3 := ⟨tv / 4, by dsimp only at h3; omega⟩
  have e2 := scratch_B m c ⟨4 * q + 2, by omega⟩ (by dsimp only; omega) (by dsimp only; omega) r d
  have e1 := scratch_B m c ⟨4 * q + 1, by omega⟩ (by dsimp only; omega) (by dsimp only; omega) r d
  have e0 := scratch_A m c ⟨4 * q, by omega⟩ (by dsimp only; omega) r d
  have hr : ∀ (n : ℕ) (hn : 4 * q + n < cfg0.N), n < 4 → row ⟨4 * q + n, hn⟩ r = row ⟨4 * q + 3, ht⟩ r := fun n hn hn4 =>
    Fin.ext (by show (4 * q + n) / 4 * 512 + r.val = (4 * q + 3) / 4 * 512 + r.val; omega)
  have hb : ∀ (n : ℕ) (hn : 4 * q + n < cfg0.N) (hn4 : n < 4), br ⟨4 * q + n, hn⟩ = ⟨n, hn4⟩ := fun n hn hn4 =>
    Fin.ext (by show (4 * q + n) % 4 = n; omega)
  have hN' : 4 * q + 3 < cfg0.N := ht
  rw [hr 2 _ (by decide), hb 2 _ (by decide)] at e2
  rw [hr 1 _ (by decide), hb 1 _ (by decide)] at e1
  rw [show row ⟨4 * q, _⟩ r = _ from hr 0 (by omega) (by decide), show br ⟨4 * q, _⟩ = _ from hb 0 (by omega) (by decide)] at e0
  rw [hb 3 _ (by decide)]
  show (outsAt0 m c (4 * q + 2) _).2 (ix2 r d) + _ = _
  rw [e2]
  show (outsAt0 m c (4 * q + 1) _).2 (ix2 r d) + _ + _ = _
  rw [e1]
  show (outsAt0 m c (4 * q) _).2 (ix2 r d) + _ + _ + _ = _
  rw [e0, zero_add]
  unfold merged
  rw [Fin.sum_univ_four]
  rfl

/-- The result array after the run. -/
theorem final (c : Dev nD) : (dats m 0 c).arrAt 4 cfg0.N
    = merged (m ((c : Thread nD τ).loc main_arg0)) (m ((c : Thread nD τ).loc main_arg1))
        (m ((c : Thread nD τ).loc main_arg2)) (m ((c : Thread nD τ).loc main_arg3)) :=
  (dats m 0 c).arrAt_eq_of_cover 4 _ (flushed_eq m c) fun i =>
    (Value.covered_iff4 i).mpr ⟨Nat.zero_le _, (i 0).isLt, Nat.zero_le _, (i 1).isLt⟩

/-- The run: the result at `merged` of the arguments, the arguments unchanged. -/
theorem run : θ_run (defs (F := Ideal)) (onTc (τ := τ) (main (F := Ideal))) ⟨m, fun _ => 0, ρ⟩ fun r => ∀ c : Dev nD,
      r.2.mem ((c : Thread nD τ).loc main_v1)
        = merged (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

/-! ## The reference -/

section Reference

open Cert.MergeRefIdeal.Read

variable (x0 : S8192x2048.Idx → EReal) (x1 : S4x8192x512.Idx → EReal) (x2 : S4x14336x2048.Idx → EReal) (x3 : S4x4x512x2048.Idx → EReal)

/-- The reference's gates: one product for the four branches, its columns split by branch, then the sigmoid. -/
theorem ref_gate (r : Fin 8192) (n : Fin 4) (d : Fin 2048) :
    (val_main_v12 (F := Ideal) x0 x2 : Cert.MergeRefIdeal.S8192x4x2048.Idx → EReal) (ix3 r n d)
      = Ideal.logistic (∑ k : Fin 2048, x0 (ix2 r k) * x2 (ix3 0 ⟨6144 + 2048 * n.val + d.val, by omega⟩ k)) := by
  have hz : (val_main_v6 (F := Ideal) x0 x2 : Cert.MergeRefIdeal.S8192x4x2048.Idx → EReal) (ix3 r n d)
      = ∑ k : Fin 2048, x0 (ix2 r k) * x2 (ix3 0 ⟨6144 + 2048 * n.val + d.val, by omega⟩ k) := by
    rw [val_main_v6_apply, val_main_v5_apply]
    refine Finset.sum_congr rfl fun k _ => congrArg₂ (· * ·) ?_ ?_
    · refine congrArg x0 (funext fun a => Fin.ext ?_)
      match a with
      | ⟨0, _⟩ => show ((r.val * 4 + n.val) * 2048 + d.val) / 8192 = r.val; omega
      | ⟨1, _⟩ => rfl
    · rw [val_main_v4_apply, val_main_v3_apply, val_main_v2_apply, val_main_v1_apply]
      refine congrArg x2 (funext fun a => Fin.ext ?_)
      match a with
      | ⟨0, _⟩ => rfl
      | ⟨1, _⟩ =>
        show 6144 + (((r.val * 4 + n.val) * 2048 + d.val) % 8192 * 2048 + k.val) / 2048 % 8192 = 6144 + 2048 * n.val + d.val
        omega
      | ⟨2, _⟩ =>
        show (((r.val * 4 + n.val) * 2048 + d.val) % 8192 * 2048 + k.val) % 2048 = k.val
        omega
  rw [val_main_v12_apply, val_main_v11_apply, val_main_v10_apply, val_main_v9_apply, val_main_v8_apply, val_main_v7_apply,
    hz, val_main_cst_apply, val_main_cst_0_apply]
  show Ideal.div (Ideal.ofBits .f32 0x3F800000#32) (Ideal.ofBits .f32 0x3F800000#32 + Ideal.exp (-_)) = _
  rw [Ideal.ofBits_one_f32]
  rfl

/-- The reference's projected branches. -/
theorem ref_branch (r : Fin 8192) (n : Fin 4) (d : Fin 2048) :
    (val_main_v17 (F := Ideal) x1 x3 : Cert.MergeRefIdeal.S8192x4x2048.Idx → EReal) (ix3 r n d)
      = ∑ w : Fin 512, x1 (ix3 n r w) * x3 (ix4 0 n w d) := by
  rw [val_main_v17_apply, val_main_v16_apply]
  refine Finset.sum_congr rfl fun w _ => (mul_comm _ _).trans (congrArg₂ (· * ·) ?_ ?_)
  · refine congrArg x1 (funext fun a => ?_)
    match a with | ⟨0, _⟩ => rfl | ⟨1, _⟩ => rfl | ⟨2, _⟩ => rfl
  · rw [val_main_v15_apply, val_main_v14_apply]
    refine congrArg x3 (funext fun a => Fin.ext ?_)
    match a with
    | ⟨0, _⟩ => rfl
    | ⟨1, _⟩ => show ((n.val * 512 + w.val) * 2048 + d.val) / 1048576 % 4 = n.val; omega
    | ⟨2, _⟩ => show ((n.val * 512 + w.val) * 2048 + d.val) / 2048 % 512 = w.val; omega
    | ⟨3, _⟩ => show ((n.val * 512 + w.val) * 2048 + d.val) % 2048 = d.val; omega

/-- The reference is `merged`. -/
theorem ref_eq : (val_main_v20 (F := Ideal) x0 x1 x2 x3 : S8192x2048.Idx → EReal) = merged x0 x1 x2 x3 := by
  funext i
  obtain ⟨r, d, rfl⟩ : ∃ (r : Fin 8192) (d : Fin 2048), i = ix2 r d := ⟨i 0, i 1, eq_ix2 i⟩
  rw [val_main_v20_apply, val_main_v19_apply, val_main_cst_1_apply]
  show Ideal.ofBits .f32 0x00000000#32 + _ = _
  rw [Ideal.ofBits_zero_f32, zero_add]
  refine Finset.sum_congr rfl fun n _ => ?_
  have hi : (idx_main_v19 (ix2 r d) n : Cert.MergeRefIdeal.S8192x4x2048.Idx) = ix3 r n d :=
    funext fun a => match a with | ⟨0, _⟩ => rfl | ⟨1, _⟩ => rfl | ⟨2, _⟩ => rfl
  rw [hi, val_main_v18_apply]
  exact congrArg₂ (· * ·) (ref_gate x0 x2 r n d) (ref_branch x1 x3 r n d)

end Reference

end Cert.Proof.Merge
-- ==== Proof.Norm.lean ====
/-
  The normalisation of a row, shared by the two calls that end in it: a row over the root of its mean square plus a small
  number, times a weight for every column. The kernels write it as a sum over the columns, a quotient by the width, an
  inverse root and two broadcasts on a block of rows; here that expression is read at one element of the block.
-/
module

public import Idealize.ShloMosaic.Lib.Pipeline.Value
public import Idealize.ShloMosaic.PureOps.Ideal.Laws
public import Idealize.ShloMosaic.Lib.ValueIdx
public import Idealize.ShloMosaic.Lib.IdealHost

@[expose] public section

noncomputable section

namespace Cert.Proof.Norm

open Idealize.ShloMosaic Idealize.ShloMosaic.ValueIdx

/-- The inverse root of the mean square of a row plus the small number; `w` is the width as a float literal. -/
def scale {N : ℕ} (w : BitVec 32) (y : Fin N → EReal) : EReal :=
  Ideal.rsqrt (Ideal.div (∑ k : Fin N, y k * y k) (Ideal.ofBits .f32 w) + Ideal.ofBits .f32 0x358637BD#32)

/-- A row normalised, at column `d`. -/
def normRow {N : ℕ} (w : BitVec 32) (y g : Fin N → EReal) (d : Fin N) : EReal := y d * scale w y * g d

/-- A block's rows. -/
abbrev Sb (R N : ℕ) : Shape := ⟨2, ![R, N]⟩
/-- The weights' shape. -/
abbrev Sg (N : ℕ) : Shape := ⟨2, ![1, N]⟩
/-- One number a row, as a vector and as a column. -/
abbrev Sr (R : ℕ) : Shape := ⟨1, ![R]⟩
abbrev Sc (R : ℕ) : Shape := ⟨2, ![R, 1]⟩

/-- The kernels' expression on a block, at one element. -/
theorem norm_apply {R N : ℕ} (hN : N ≠ 1) (w : BitVec 32) (y : FVec Ideal (Sb R N) .f32) (g : FVec Ideal (Sg N) .f32) (hr : (Sb R N).Reduces [1] (Sr R)) (hφ : FKind.Formats FTy.f32)
    (hacc : (0x00000000#32 : BitVec 32) = FKind.add.neutral .f32 hφ) (hc : (Sr R).ShapeCasts (Sc R)) (hb : (Sc R).Broadcasts (Sb R N))
    (hg : (Sg N).Broadcasts (Sb R N)) (r : Fin R) (d : Fin N) :
    mulf (mulf y (broadcastTo (Sb R N) (rsqrt (addf (divf (shapeCast (Sc R) (multiReduction .add [1] (Sr R) (mulf y y) 0x00000000#32 hr hφ hacc) hc)
        (broadcast (Sc R) (Scalar.ofBits .f32 w))) (broadcast (Sc R) (Scalar.ofBits .f32 0x358637BD#32)))) hb))
      (broadcastTo (Sb R N) g hg) (ix2 r d)
    = normRow w (fun k => y (ix2 r k)) (fun k => g (ix2 0 k)) d := by
  unfold normRow
  show y (ix2 r d) * broadcastTo (Sb R N) _ hb (ix2 r d) * broadcastTo (Sb R N) g hg (ix2 r d) = _
  rw [broadcastTo_apply g hg (ix2 r d) (ix2 0 d) (fun a => match a with | ⟨0, _⟩ => rfl | ⟨1, _⟩ => (if_neg hN).symm),
    broadcastTo_apply _ hb (ix2 r d) (ix2 r 0) (fun a => match a with
      | ⟨0, _⟩ => by
        show r.val = if R = 1 then 0 else r.val
        have := r.isLt
        split <;> omega
      | ⟨1, _⟩ => rfl)]
  refine congrArg (fun z : EReal => y (ix2 r d) * z * g (ix2 0 d)) ?_
  show Ideal.rsqrt (Ideal.div (shapeCast (Sc R) _ hc (ix2 r 0)) (Ideal.ofBits .f32 w) + Ideal.ofBits .f32 0x358637BD#32) = _
  rw [shapeCast_apply _ hc (ix2 r 0) (ix1 r) (by
    rw [Shape.rowMajor_val_two, Shape.rowMajor_val_one]
    show r.val = r.val * 1 + 0
    omega), Ideal.multiReduction_add_single]
  refine congrArg (fun z : EReal => Ideal.rsqrt (Ideal.div z _ + _)) (Finset.sum_congr rfl fun k _ => ?_)
  have hl : hr.lift (ix1 r) k = ix2 r k := funext fun a => Fin.ext (by match a with | ⟨0, _⟩ => rfl | ⟨1, _⟩ => rfl)
  rw [hl]
  rfl

end Cert.Proof.Norm
-- ==== Proof.OutProj.lean ====
/-
  The out-projection: x + mix W and the same rows normalised, one row block a point.
  Here: the blocks each point writes, both result arrays index by index, and that the reference's product, sum and
  normalisation are the same extended reals.
-/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Norm
public import Idealize.ShloMosaic.Lib.MatmulPlain
public import Idealize.ShloMosaic.Lib.ValueIdx
public import Idealize.ShloMosaic.Lib.IdealHost

@[expose] public section

noncomputable section

namespace Cert.Proof.OutProj

open Idealize.ShloMosaic Idealize.ShloMosaic.TcCoe Idealize.SL.Sem Idealize.ShloMosaic.ValueIdx
open Cert.OutProjIdeal Cert.OutProjIdeal.Gen
open Cert.Proof.Norm (normRow scale norm_apply)
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (x0 : Vec F S512x2048 .bf16) (x1 : Vec F S1x2048x2048 .bf16) (x2 : Vec F S512x2048 .f32) (x3 : Vec F S1x2048 .f32)

theorem out4_eq : out0_4 x0 x1 x2 x3 = k0_pay1 x2 x0 x1 := by
  unfold out0_4
  rw [View.canon_unit_zero hz2]
  simp only [View.ld_unit_zero (S := S512x2048) hz2, View.ld_unit_zero (S := S1x2048x2048) hz3]

theorem out5_eq : out0_5 x0 x1 x2 x3 = k0_pay2 x2 x0 x1 x3 := by
  unfold out0_5
  rw [View.canon_unit_zero hz2]
  simp only [View.ld_unit_zero (S := S512x2048) hz2, View.ld_unit_zero (S := S1x2048x2048) hz3, View.ld_unit_zero (S := S1x2048) hz2]

end Cases

/-! ## The two stores at an index -/

theorem pay1_apply (x0 : Vec Ideal S512x2048 .bf16) (x1 : Vec Ideal S1x2048x2048 .bf16) (x2 : Vec Ideal S512x2048 .f32)
    (r : Fin 512) (d : Fin 2048) :
    k0_pay1 x2 x0 x1 (ix2 r d) = x2 (ix2 r d) + ∑ k : Fin 2048, x0 (ix2 r k) * x1 (ix3 0 k d) := by
  unfold k0_pay1
  show (x2 (ix2 r d) + FloatOps.matmul (F := Ideal) (DotDims.plain 512 2048 2048) none x0
      (shapeCast S2048x2048 x1 shapeCasts_S1x2048x2048_S2048x2048) (constant S512x2048 .f32 0x00000000#32) (ix2 r d) : EReal) = _
  rw [Ideal.matmul_plain_apply, constant_apply, Ideal.ofBits_zero_f32, zero_add]
  refine congrArg (x2 (ix2 r d) + ·) (Finset.sum_congr rfl fun k _ => congrArg (x0 (ix2 r k) * ·) ?_)
  refine shapeCast_apply x1 shapeCasts_S1x2048x2048_S2048x2048 _ _ ?_
  rw [Shape.rowMajor_val_two, Shape.rowMajor_val_three]
  show (0 * 2048 + k.val) * 2048 + d.val = k.val * 2048 + d.val
  omega

theorem pay2_apply (x0 : Vec Ideal S512x2048 .bf16) (x1 : Vec Ideal S1x2048x2048 .bf16) (x2 : Vec Ideal S512x2048 .f32)
    (g : Vec Ideal S1x2048 .f32) (r : Fin 512) (d : Fin 2048) :
    k0_pay2 x2 x0 x1 g (ix2 r d) = normRow 0x45000000#32 (fun k => k0_pay1 x2 x0 x1 (ix2 r k)) (fun k => g (ix2 0 k)) d := by
  unfold k0_pay2
  exact norm_apply (by decide) _ (k0_pay1 x2 x0 x1) g _ _ _ _ _ _ r d

/-! ## The results, index by index -/

section Results

variable (h : S8192x2048.Idx → EReal) (w : S4x2048x2048.Idx → EReal) (x : S8192x2048.Idx → EReal) (g : S1x2048.Idx → EReal)

/-- The first result. -/
def mid : S8192x2048.Idx → EReal :=
  fun i => x i + ∑ k : Fin 2048, h (ix2 (i 0) k) * w (ix3 0 k (i 1))

/-- The second result: the rows of the first normalised. -/
def normed : S8192x2048.Idx → EReal :=
  fun i => normRow 0x45000000#32 (fun k => mid h w x (ix2 (i 0) k)) (fun k => g (ix2 0 k)) (i 1)

end Results

/-! ## The blocks the launch hands a point -/

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])

theorem V_arg0 (c : Dev nD) : V m c main_arg0 = m ((c : Thread nD τ).loc main_arg0) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
/-- The host rounds the weights before the call; over the reals they are unchanged. -/
theorem V_v0 (c : Dev nD) : (V m c main_v0 : S4x2048x2048.Idx → EReal) = m ((c : Thread nD τ).loc main_arg1) := by
  unfold V; after_results; rfl

theorem row_lt (t : Fin cfg0.N) (r : Fin 512) : t.val * 512 + r.val < 8192 := by
  have := lt_of_lt_of_eq t.isLt (show cfg0.N = 16 from N_0)
  omega

/-- The row of the whole array that row `r` of point `t`'s blocks is. -/
def row (t : Fin cfg0.N) (r : Fin 512) : Fin 8192 := ⟨t.val * 512 + r.val, row_lt t r⟩

theorem blk0 (c : Dev nD) (t : Fin cfg0.N) (r : Fin 512) (k : Fin 2048) :
    (iblk m c 0 t : S512x2048.Idx → EReal) (ix2 r k) = (m ((c : Thread nD τ).loc main_arg0) : S8192x2048.Idx → EReal) (ix2 (row t r) k) := by
  unfold iblk
  rw [View.read_apply]
  show (V m c main_arg0 : S8192x2048.Idx → EReal) ((win0_0.rect t).emb (ix2 r k)) = _
  rw [V_arg0]
  refine congrArg (m ((c : Thread nD τ).loc main_arg0) : S8192x2048.Idx → EReal) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 2048 + k.val = k.val; omega

theorem blk1 (c : Dev nD) (t : Fin cfg0.N) (k : Fin 2048) (d : Fin 2048) :
    (iblk m c 1 t : S1x2048x2048.Idx → EReal) (ix3 0 k d) = (m ((c : Thread nD τ).loc main_arg1) : S4x2048x2048.Idx → EReal) (ix3 0 k d) := by
  unfold iblk
  rw [View.read_apply]
  show (V m c main_v0 : S4x2048x2048.Idx → EReal) ((win0_1.rect t).emb (ix3 0 k d)) = _
  rw [V_v0]
  refine congrArg (m ((c : Thread nD τ).loc main_arg1) : S4x2048x2048.Idx → EReal) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 0 * 2048 + k.val = k.val; omega
  | ⟨2, _⟩ => refine (Window.rect_emb_val win0_1 t _ 2).trans ?_; rw [idx1]; show 0 * 2048 + d.val = d.val; omega

theorem blk2 (c : Dev nD) (t : Fin cfg0.N) (r : Fin 512) (k : Fin 2048) :
    (iblk m c 2 t : S512x2048.Idx → EReal) (ix2 r k) = (m ((c : Thread nD τ).loc main_arg2) : S8192x2048.Idx → EReal) (ix2 (row t r) k) := by
  unfold iblk
  rw [View.read_apply]
  show (V m c main_arg2 : S8192x2048.Idx → EReal) ((win0_2.rect t).emb (ix2 r k)) = _
  rw [V_arg2]
  refine congrArg (m ((c : Thread nD τ).loc main_arg2) : S8192x2048.Idx → EReal) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; show 0 * 2048 + k.val = k.val; omega

theorem blk3 (c : Dev nD) (t : Fin cfg0.N) (k : Fin 2048) :
    (iblk m c 3 t : S1x2048.Idx → EReal) (ix2 0 k) = (m ((c : Thread nD τ).loc main_arg3) : S1x2048.Idx → EReal) (ix2 0 k) := by
  unfold iblk
  rw [View.read_apply]
  show (V m c main_arg3 : S1x2048.Idx → EReal) ((win0_3.rect t).emb (ix2 0 k)) = _
  rw [V_arg3]
  refine congrArg (m ((c : Thread nD τ).loc main_arg3) : S1x2048.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show 0 * 2048 + k.val = k.val; omega

/-- What a point stores first: rows of the first result. -/
theorem finished (c : Dev nD) (t : Fin cfg0.N) (r : Fin 512) (d : Fin 2048) :
    (k0_pay1 (F := Ideal) (iblk m c 2 t) (iblk m c 0 t) (iblk m c 1 t) : S512x2048.Idx → EReal) (ix2 r d)
      = mid (m ((c : Thread nD τ).loc main_arg0)) (m ((c : Thread nD τ).loc main_arg1)) (m ((c : Thread nD τ).loc main_arg2))
          (ix2 (row t r) d) := by
  refine (pay1_apply _ _ _ r d).trans ?_
  unfold mid
  refine congrArg₂ (fun a b : EReal => a + b) (blk2 m c t r d) (Finset.sum_congr rfl fun k _ => ?_)
  exact congrArg₂ (fun a b : EReal => a * b) (blk0 m c t r k) (blk1 m c t k d)

theorem emb4 (t : Fin cfg0.N) (r : Fin 512) (d : Fin 2048) : (win0_4.rect t).emb (ix2 r d) = ix2 (row t r) d :=
  funext fun a => Fin.ext (by
    match a with
    | ⟨0, _⟩ => refine (Window.rect_emb_val win0_4 t _ 0).trans ?_; rw [idx4]; rfl
    | ⟨1, _⟩ => refine (Window.rect_emb_val win0_4 t _ 1).trans ?_; rw [idx4]; show 0 * 2048 + d.val = d.val; omega)

theorem emb5 (t : Fin cfg0.N) (r : Fin 512) (d : Fin 2048) : (win0_5.rect t).emb (ix2 r d) = ix2 (row t r) d :=
  funext fun a => Fin.ext (by
    match a with
    | ⟨0, _⟩ => refine (Window.rect_emb_val win0_5 t _ 0).trans ?_; rw [idx5]; rfl
    | ⟨1, _⟩ => refine (Window.rect_emb_val win0_5 t _ 1).trans ?_; rw [idx5]; show 0 * 2048 + d.val = d.val; omega)

/-- A point writes back its block of `mid`. -/
theorem flushed4_eq (c : Dev nD) (t : Fin cfg0.N) :
    (dats m 0 c).flushed 4 t = ((cfg0.win 4).blk t).view.read (Elt Ideal)
      (mid (m ((c : Thread nD τ).loc main_arg0)) (m ((c : Thread nD τ).loc main_arg1))
        (m ((c : Thread nD τ).loc main_arg2))) := by
  rw [Value.flushed4 m c t, out4_eq]
  funext y
  obtain ⟨r, d, rfl⟩ : ∃ (r : Fin 512) (d : Fin 2048), y = ix2 r d := ⟨y 0, y 1, eq_ix2 y⟩
  rw [View.read_apply]
  show (k0_pay1 (iblk m c 2 t) (iblk m c 0 t) (iblk m c 1 t) : S512x2048.Idx → EReal) (ix2 r d)
    = mid _ _ _ ((win0_4.rect t).emb (ix2 r d))
  rw [emb4]
  exact finished m c t r d

/-- A point writes back its block of `normed`. -/
theorem flushed5_eq (c : Dev nD) (t : Fin cfg0.N) :
    (dats m 0 c).flushed 5 t = ((cfg0.win 5).blk t).view.read (Elt Ideal)
      (normed (m ((c : Thread nD τ).loc main_arg0)) (m ((c : Thread nD τ).loc main_arg1))
        (m ((c : Thread nD τ).loc main_arg2)) (m ((c : Thread nD τ).loc main_arg3))) := by
  rw [Value.flushed5 m c t, out5_eq]
  funext y
  obtain ⟨r, d, rfl⟩ : ∃ (r : Fin 512) (d : Fin 2048), y = ix2 r d := ⟨y 0, y 1, eq_ix2 y⟩
  rw [View.read_apply]
  show (k0_pay2 (iblk m c 2 t) (iblk m c 0 t) (iblk m c 1 t) (iblk m c 3 t) : S512x2048.Idx → EReal) (ix2 r d)
    = normed _ _ _ _ ((win0_5.rect t).emb (ix2 r d))
  rw [emb5]
  refine (pay2_apply _ _ _ _ r d).trans ?_
  unfold normed
  exact congrArg₂ (fun y g => normRow 0x45000000#32 y g d) (funext fun k => finished m c t r k) (funext fun k => blk3 m c t k)

/-! ## The result arrays -/

/-- The point that writes the block of row `R`. -/
def point (R : Fin 8192) : Fin cfg0.N := ⟨R.val / 512, by rw [show cfg0.N = 16 from N_0]; omega⟩

theorem mem_blk4 (t : Fin cfg0.N) (i : S8192x2048.Idx) :
    i ∈ ((cfg0.win 4).blk t).view.set ↔ ∀ a, win0_4.index t a * win0_4.size a ≤ (i a : Nat)
      ∧ (i a : Nat) < win0_4.index t a * win0_4.size a + win0_4.xsize (grid0.coords t) a := by
  show i ∈ ((View.whole main_v1_0).slice (win0_4.rect t)).set ↔ _
  rw [View.set_slice_whole, Rect.mem_set_unit]

theorem flush4 : ∀ t : Fin cfg0.N, (cfg0.win 4).flush t = true :=
  (by decide +kernel : ∀ t : Fin grid0.N, win0_4.flush t = true)

theorem final4 (c : Dev nD) : (dats m 0 c).arrAt 4 cfg0.N
    = mid (m ((c : Thread nD τ).loc main_arg0)) (m ((c : Thread nD τ).loc main_arg1))
        (m ((c : Thread nD τ).loc main_arg2)) :=
  (dats m 0 c).arrAt_eq_of_cover 4 _ (fun t _ => flushed4_eq m c t) fun (i : S8192x2048.Idx) => by
    have hi0 : (i 0 : Nat) < 8192 := (i 0).isLt
    have hi1 : (i 1 : Nat) < 2048 := (i 1).isLt
    refine ⟨point (i 0), flush4 _, (mem_blk4 (point (i 0)) i).mpr fun a => ?_⟩
    rw [idx4]
    match a with
    | ⟨0, _⟩ => show (i 0 : Nat) / 512 * 512 ≤ (i 0 : Nat) ∧ (i 0 : Nat) < (i 0 : Nat) / 512 * 512 + 512; omega
    | ⟨1, _⟩ => show 0 * 2048 ≤ (i 1 : Nat) ∧ (i 1 : Nat) < 0 * 2048 + 2048; omega

theorem mem_blk5 (t : Fin cfg0.N) (i : S8192x2048.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v1_1).slice (win0_5.rect t)).set ↔ _
  rw [View.set_slice_whole, Rect.mem_set_unit]

theorem flush5 : ∀ t : Fin cfg0.N, (cfg0.win 5).flush t = true :=
  (by decide +kernel : ∀ t : Fin grid0.N, win0_5.flush t = true)

theorem final5 (c : Dev nD) : (dats m 0 c).arrAt 5 cfg0.N
    = normed (m ((c : Thread nD τ).loc main_arg0)) (m ((c : Thread nD τ).loc main_arg1))
        (m ((c : Thread nD τ).loc main_arg2)) (m ((c : Thread nD τ).loc main_arg3)) :=
  (dats m 0 c).arrAt_eq_of_cover 5 _ (fun t _ => flushed5_eq m c t) fun (i : S8192x2048.Idx) => by
    have hi0 : (i 0 : Nat) < 8192 := (i 0).isLt
    have hi1 : (i 1 : Nat) < 2048 := (i 1).isLt
    refine ⟨point (i 0), flush5 _, (mem_blk5 (point (i 0)) i).mpr fun a => ?_⟩
    rw [idx5]
    match a with
    | ⟨0, _⟩ => show (i 0 : Nat) / 512 * 512 ≤ (i 0 : Nat) ∧ (i 0 : Nat) < (i 0 : Nat) / 512 * 512 + 512; omega
    | ⟨1, _⟩ => show 0 * 2048 ≤ (i 1 : Nat) ∧ (i 1 : Nat) < 0 * 2048 + 2048; omega

/-- The run: the results at `mid` and `normed` of the arguments, the arguments unchanged. -/
theorem run : θ_run (defs (F := Ideal)) (onTc (τ := τ) (main (F := Ideal))) ⟨m, fun _ => 0, ρ⟩ fun r => ∀ c : Dev nD,
      r.2.mem ((c : Thread nD τ).loc main_v1_0)
        = mid (m ((c : Thread nD τ).loc main_arg0)) (m ((c : Thread nD τ).loc main_arg1))
        (m ((c : Thread nD τ).loc main_arg2))
      ∧ r.2.mem ((c : Thread nD τ).loc main_v1_1)
        = normed (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-! ## The reference -/

section Reference

open Cert.OutProjRefIdeal.Read

variable (x0 : S8192x2048.Idx → EReal) (x1 : S4x2048x2048.Idx → EReal) (x2 : S8192x2048.Idx → EReal) (x3 : S1x2048.Idx → EReal)

/-- The reference's first result is `mid`. -/
theorem ref_eq : (val_main_v4 (F := Ideal) x0 x1 x2 : S8192x2048.Idx → EReal) = mid x0 x1 x2 := by
  funext i
  obtain ⟨r, d, rfl⟩ : ∃ (r : Fin 8192) (d : Fin 2048), i = ix2 r d := ⟨i 0, i 1, eq_ix2 i⟩
  rw [val_main_v4_apply, val_main_v3_apply]
  refine congrArg (x2 (ix2 r d) + ·) (Finset.sum_congr rfl fun k _ => congrArg₂ (· * ·) ?_ ?_)
  · refine congrArg x0 (funext fun a => ?_)
    match a with | ⟨0, _⟩ => rfl | ⟨1, _⟩ => rfl
  · rw [val_main_v2_apply, val_main_v1_apply]
    refine congrArg x1 (funext fun a => Fin.ext ?_)
    match a with
    | ⟨0, _⟩ => rfl
    | ⟨1, _⟩ => show (k.val * 2048 + d.val) / 2048 % 2048 = k.val; omega
    | ⟨2, _⟩ => show (k.val * 2048 + d.val) % 2048 = d.val; omega

/-- The reference's second result is `normed`. -/
theorem ref_norm_eq : (val_main_v17 (F := Ideal) x0 x1 x2 x3 : S8192x2048.Idx → EReal) = normed x0 x1 x2 x3 := by
  funext i
  obtain ⟨r, d, rfl⟩ : ∃ (r : Fin 8192) (d : Fin 2048), i = ix2 r d := ⟨i 0, i 1, eq_ix2 i⟩
  rw [val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_cst_apply, val_main_cst_0_apply, val_main_cst_1_apply]
  show (val_main_v4 (F := Ideal) x0 x1 x2 (ix2 r d)
      * Ideal.rsqrt (Ideal.div (Ideal.ofBits .f32 0x00000000#32 + ∑ k : Fin 2048, _) (Ideal.ofBits .f32 0x45000000#32)
        + Ideal.ofBits .f32 0x358637BD#32) * x3 _ : EReal) = _
  rw [Ideal.ofBits_zero_f32, zero_add]
  unfold normed normRow scale
  refine congrArg₂ (· * ·) (congrArg₂ (· * ·) (congrFun (ref_eq x0 x1 x2) _)
    (congrArg (fun z : EReal => Ideal.rsqrt (Ideal.div z _ + _)) (Finset.sum_congr rfl fun k _ => ?_))) ?_
  · rw [val_main_v5_apply]
    have hi : (idx_main_v6 (idx_main_v7 (idx_main_v13 (ix2 r d))) k : S8192x2048.Idx) = ix2 r k :=
      funext fun a => match a with | ⟨0, _⟩ => rfl | ⟨1, _⟩ => rfl
    rw [hi]
    exact congrArg₂ (fun a b : EReal => a * b) (congrFun (ref_eq x0 x1 x2) _) (congrFun (ref_eq x0 x1 x2) _)
  · refine congrArg x3 (funext fun a => ?_)
    match a with | ⟨0, _⟩ => rfl | ⟨1, _⟩ => rfl

end Reference

end Cert.Proof.OutProj
-- ==== Proof.Ffn.lean ====
/-
  The feed-forward call: x + (max(h W1, 0))^2 W2 and the same rows normalised. The call walks 16 row blocks by 8 chunks of
  1024 hidden columns. The output block itself carries the sum: the first chunk starts it at the block of x, every chunk adds
  its product, and at the last chunk the finished rows are normalised into the second output.
  Here: the output block after each chunk as a running sum, both result arrays index by index (the sum over 8192 hidden
  columns is the sum over the chunks of the sums within them), and that the reference's products are the same extended reals.
-/
module

public import proofs.«01_k».proof.Defs
public import proofs.«01_k».proof.Proof.Gen.FfnIdeal.Value
public import proofs.«01_k».proof.Proof.Gen.FfnRefIdeal.Run
public import proofs.«01_k».proof.Proof.Gen.FfnRefIdeal.Read
public import proofs.«01_k».proof.Proof.Norm
public import Idealize.ShloMosaic.Lib.MatmulPlain
public import Idealize.ShloMosaic.Lib.ValueIdx
public import Idealize.ShloMosaic.Lib.IdealHost
public import Idealize.ShloMosaic.Lib.Pipeline.ValueKit.Acc

@[expose] public section

noncomputable section

namespace Cert.Proof.Ffn

open Idealize.ShloMosaic Idealize.ShloMosaic.TcCoe Idealize.SL.Sem Idealize.ShloMosaic.ValueIdx
open Cert.FfnIdeal Cert.FfnIdeal.Gen
open Cert.Proof.Norm (normRow scale norm_apply)
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords) (a2 : Memref sig .tc .vmem S512x2048 .bf16) (h2 : a2.IsWhole)
  (a3 : Memref sig .tc .vmem S1x2048x1024 .bf16) (h3 : a3.IsWhole) (a4 : Memref sig .tc .vmem S1x1024x2048 .bf16) (h4 : a4.IsWhole)
  (a5 : Memref sig .tc .vmem S512x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .bf16) (h8 : a8.IsWhole)
  (x0 : Vec F S512x2048 .bf16) (x1 : Vec F S1x2048x1024 .bf16) (x2 : Vec F S1x1024x2048 .bf16) (x3 : Vec F S512x2048 .f32)
  (x4 : Vec F S1x2048 .f32) (xo : Vec F S512x2048 .f32)

/-- The first chunk adds its product to the block of x. -/
theorem out_A (hc0 : cond0_0 i) (hc1 : ¬cond0_1 i) :
    out0_A_5 c i a2 h2 a3 h3 a4 h4 a5 h5 a6 h6 a7 h7 a8 h8 hc0 hc1 x0 x1 x2 x3 x4 = k0_pay1 x0 x1 x3 x2 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  sl_unfold_words
  rw [View.canon_cons_unit_zero hz2, View.readCov_unit_zero _ hz2]
  simp only [View.readAt_eq_ld, h2.read_unread, h3.read_unread, h4.read_unread, h5.read_unread, h6.read_unread, h7.read_unread,
    View.ld_unit_zero (S := S512x2048) hz2, View.ld_unit_zero (S := S1x2048) hz2, View.ld_unit_zero (S := S1x2048x1024) hz3,
    View.ld_unit_zero (S := S1x1024x2048) hz3]

/-- A middle chunk adds its product to what the output block held. -/
theorem out_B (hc0 : ¬cond0_0 i) (hc1 : ¬cond0_1 i) :
    out0_B_5 c i a2 h2 a3 h3 a4 h4 a5 h5 a6 h6 a7 h7 a8 h8 hc0 hc1 x0 x1 x2 x3 x4 xo = k0_pay1 x0 x1 xo x2 := by
  unfold out0_B_5
  rw [View.read_writes_eq_canon _ _ _ (cover0_B_5 c i a2 h2 a3 h3 a4 h4 a5 h5 a6 h6 a7 h7 a8 h8 hc0 hc1 x0 x1 x2 x3 x4 xo)]
  unfold kernelRun0_B
  sl_unfold_words
  rw [View.canon_unit_zero hz2]
  simp only [View.readAt_eq_ld, h2.read_unread, h3.read_unread, h4.read_unread, h5.read_unread, h6.read_unread, h7.read_unread,
    View.ld_unit_zero (S := S512x2048) hz2, View.ld_unit_zero (S := S1x2048) hz2, View.ld_unit_zero (S := S1x2048x1024) hz3,
    View.ld_unit_zero (S := S1x1024x2048) hz3]

/-- So does the last chunk, -/
theorem out_C (hc0 : ¬cond0_0 i) (hc1 : cond0_1 i) :
    out0_C_5 c i a2 h2 a3 h3 a4 h4 a5 h5 a6 h6 a7 h7 a8 h8 hc0 hc1 x0 x1 x2 x3 x4 xo = k0_pay1 x0 x1 xo x2 := by
  unfold out0_C_5
  rw [View.read_writes_eq_canon _ _ _ (cover0_C_5 c i a2 h2 a3 h3 a4 h4 a5 h5 a6 h6 a7 h7 a8 h8 hc0 hc1 x0 x1 x2 x3 x4 xo)]
  unfold kernelRun0_C
  sl_unfold_words
  rw [View.canon_unit_zero hz2]
  simp only [View.readAt_eq_ld, h2.read_unread, h3.read_unread, h4.read_unread, h5.read_unread, h6.read_unread, h7.read_unread,
    View.ld_unit_zero (S := S512x2048) hz2, View.ld_unit_zero (S := S1x2048) hz2, View.ld_unit_zero (S := S1x2048x1024) hz3,
    View.ld_unit_zero (S := S1x1024x2048) hz3]

/-- which then stores the finished rows normalised. -/
theorem out_C_norm (hc0 : ¬cond0_0 i) (hc1 : cond0_1 i) :
    out0_C_6 c i a2 h2 a3 h3 a4 h4 a5 h5 a6 h6 a7 h7 a8 h8 hc0 hc1 x0 x1 x2 x3 x4 xo = k0_pay2 (k0_pay1 x0 x1 xo x2) x4 := by
  unfold out0_C_6
  rw [View.read_writes_eq_canon _ _ _ (cover0_C_6 c i a2 h2 a3 h3 a4 h4 a5 h5 a6 h6 a7 h7 a8 h8 hc0 hc1 x0 x1 x2 x3 x4 xo)]
  unfold kernelRun0_C
  sl_unfold_words
  rw [View.canon_unit_zero hz2, View.readCov_unit_zero _ hz2]
  simp only [View.readAt_eq_ld, h2.read_unread, h3.read_unread, h4.read_unread, h5.read_unread, h6.read_unread, h7.read_unread,
    View.ld_unit_zero (S := S512x2048) hz2, View.ld_unit_zero (S := S1x2048) hz2, View.ld_unit_zero (S := S1x2048x1024) hz3,
    View.ld_unit_zero (S := S1x1024x2048) hz3]

end Cases

/-! ## One chunk's product, and the normalised row, at an index -/

/-- The part below zero cut off, and squared. -/
def act (z : EReal) : EReal := max z 0 * max z 0

/-- One chunk's product, from the point's blocks. -/
def term (x0 : Vec Ideal S512x2048 .bf16) (x1 : Vec Ideal S1x2048x1024 .bf16) (x2 : Vec Ideal S1x1024x2048 .bf16)
    (r : Fin 512) (d : Fin 2048) : EReal :=
  ∑ f : Fin 1024, act (∑ k : Fin 2048, x0 (ix2 r k) * x1 (ix3 0 k f)) * x2 (ix3 0 f d)

theorem pay1_apply (x0 : Vec Ideal S512x2048 .bf16) (x1 : Vec Ideal S1x2048x1024 .bf16) (x2 : Vec Ideal S1x1024x2048 .bf16)
    (xo : Vec Ideal S512x2048 .f32) (r : Fin 512) (d : Fin 2048) :
    k0_pay1 x0 x1 xo x2 (ix2 r d) = xo (ix2 r d) + term x0 x1 x2 r d := by
  unfold k0_pay1
  rw [shapeCast_self]
  show (xo (ix2 r d) + FloatOps.matmul (F := Ideal) (DotDims.plain 512 1024 2048) none _
      (shapeCast S1024x2048 x2 shapeCasts_S1x1024x2048_S1024x2048) (constant S512x2048 .f32 0x00000000#32) (ix2 r d) : EReal) = _
  rw [Ideal.matmul_plain_apply, constant_apply, Ideal.ofBits_zero_f32, zero_add]
  unfold term
  refine congrArg (xo (ix2 r d) + ·) (Finset.sum_congr rfl fun f _ => congrArg₂ (· * ·) ?_ ?_)
  · show (max (FloatOps.matmul (F := Ideal) (DotDims.plain 512 2048 1024) none x0
        (shapeCast S2048x1024 x1 shapeCasts_S1x2048x1024_S2048x1024) (constant S512x1024 .f32 0x00000000#32) (ix2 r f))
          (Ideal.ofBits .f32 0x00000000#32)
      * max (FloatOps.matmul (F := Ideal) (DotDims.plain 512 2048 1024) none x0
        (shapeCast S2048x1024 x1 shapeCasts_S1x2048x1024_S2048x1024) (constant S512x1024 .f32 0x00000000#32) (ix2 r f))
          (Ideal.ofBits .f32 0x00000000#32) : EReal) = _
    rw [Ideal.matmul_plain_apply, constant_apply, Ideal.ofBits_zero_f32, zero_add]
    unfold act
    refine congrArg (fun z : EReal => max z 0 * max z 0) (Finset.sum_congr rfl fun k _ => congrArg (x0 (ix2 r k) * ·) ?_)
    refine shapeCast_apply x1 shapeCasts_S1x2048x1024_S2048x1024 _ _ ?_
    rw [Shape.rowMajor_val_two, Shape.rowMajor_val_three]
    show (0 * 2048 + k.val) * 1024 + f.val = k.val * 1024 + f.val
    omega
  · refine shapeCast_apply x2 shapeCasts_S1x1024x2048_S1024x2048 _ _ ?_
    rw [Shape.rowMajor_val_two, Shape.rowMajor_val_three]
    show (0 * 1024 + f.val) * 2048 + d.val = f.val * 2048 + d.val
    omega

theorem pay2_apply (y : Vec Ideal S512x2048 .f32) (g : Vec Ideal S1x2048 .f32) (r : Fin 512) (d : Fin 2048) :
    k0_pay2 y g (ix2 r d) = normRow 0x45000000#32 (fun k => y (ix2 r k)) (fun k => g (ix2 0 k)) d := by
  unfold k0_pay2
  rw [shapeCast_self]
  exact norm_apply (by decide) _ y g _ _ _ _ _ _ r d

/-! ## The results, index by index -/

section Results

variable (h : S8192x2048.Idx → EReal) (w1 : S4x2048x8192.Idx → EReal) (w2 : S4x8192x2048.Idx → EReal)
  (x : S8192x2048.Idx → EReal) (g : S1x2048.Idx → EReal)

/-- The hidden number of row `r` at hidden column `f`. -/
def hid (r : Fin 8192) (f : Fin 8192) : EReal := act (∑ k : Fin 2048, h (ix2 r k) * w1 (ix3 0 k f))

/-- Chunk `b`'s part of the product. -/
def part (b : Fin 8) (r : Fin 8192) (d : Fin 2048) : EReal :=
  ∑ f : Fin 1024, hid h w1 r ⟨b.val * 1024 + f.val, by omega⟩ * w2 (ix3 0 ⟨b.val * 1024 + f.val, by omega⟩ d)

/-- The first result. -/
def mid : S8192x2048.Idx → EReal :=
  fun i => x i + ∑ f : Fin 8192, hid h w1 (i 0) f * w2 (ix3 0 f (i 1))

/-- The second result: the rows of the first normalised. -/
def normed : S8192x2048.Idx → EReal :=
  fun i => normRow 0x45000000#32 (fun k => mid h w1 w2 x (ix2 (i 0) k)) (fun k => g (ix2 0 k)) (i 1)

/-- The first result as a sum over the chunks. -/
theorem mid_chunks (r : Fin 8192) (d : Fin 2048) :
    mid h w1 w2 x (ix2 r d) = x (ix2 r d) + ∑ b : Fin 8, part h w1 w2 b r d := by
  unfold mid part
  exact congrArg (x (ix2 r d) + ·) (Fin.sum_mul_add_congr fun _ _ _ => rfl).symm

end Results

/-! ## The blocks the launch hands a point -/

variable (m : (ℓ : Loc nD τ sig) → Buf (Elt Ideal) ℓ) (ρ : Dev nD → PrngReg)

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![0, 0, t.val % 8] :=
  (by decide +kernel : ∀ t : Fin grid0.N, win0_1.index t = ![0, 0, t.val % 8])
theorem idx2 : ∀ t : Fin cfg0.N, win0_2.index t = ![0, t.val % 8, 0] :=
  (by decide +kernel : ∀ t : Fin grid0.N, win0_2.index t = ![0, t.val % 8, 0])
theorem idx3 : ∀ t : Fin cfg0.N, win0_3.index t = ![t.val / 8, 0] :=
  (by decide +kernel : ∀ t : Fin grid0.N, win0_3.index t = ![t.val / 8, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 8, 0] :=
  (by decide +kernel : ∀ t : Fin grid0.N, win0_5.index t = ![t.val / 8, 0])
theorem idx6 : ∀ t : Fin cfg0.N, win0_6.index t = ![t.val / 8, 0] :=
  (by decide +kernel : ∀ t : Fin grid0.N, win0_6.index t = ![t.val / 8, 0])

theorem V_arg0 (c : Dev nD) : V m c main_arg0 = m ((c : Thread nD τ).loc main_arg0) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results
/-- The host rounds the weights before the call; over the reals they are unchanged. -/
theorem V_v0 (c : Dev nD) : (V m c main_v0 : S4x2048x8192.Idx → EReal) = m ((c : Thread nD τ).loc main_arg1) := by
  unfold V; after_results; rfl
theorem V_v1 (c : Dev nD) : (V m c main_v1 : S4x8192x2048.Idx → EReal) = m ((c : Thread nD τ).loc main_arg2) := by
  unfold V; after_results; rfl

theorem row_lt (t : Fin cfg0.N) (r : Fin 512) : t.val / 8 * 512 + r.val < 8192 := by
  have := lt_of_lt_of_eq t.isLt (show cfg0.N = 128 from N_0)
  omega

/-- The row of the whole array that row `r` of point `t`'s blocks is. -/
def row (t : Fin cfg0.N) (r : Fin 512) : Fin 8192 := ⟨t.val / 8 * 512 + r.val, row_lt t r⟩
/-- The chunk of point `t`. -/
def ch (t : Fin cfg0.N) : Fin 8 := ⟨t.val % 8, Nat.mod_lt _ (by decide)⟩

theorem blk0 (c : Dev nD) (t : Fin cfg0.N) (r : Fin 512) (k : Fin 2048) :
    (iblk m c 0 t : S512x2048.Idx → EReal) (ix2 r k) = (m ((c : Thread nD τ).loc main_arg0) : S8192x2048.Idx → EReal) (ix2 (row t r) k) := by
  unfold iblk
  rw [View.read_apply]
  show (V m c main_arg0 : S8192x2048.Idx → EReal) ((win0_0.rect t).emb (ix2 r k)) = _
  rw [V_arg0]
  refine congrArg (m ((c : Thread nD τ).loc main_arg0) : S8192x2048.Idx → EReal) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 2048 + k.val = k.val; omega

theorem blk1 (c : Dev nD) (t : Fin cfg0.N) (k : Fin 2048) (f : Fin 1024) :
    (iblk m c 1 t : S1x2048x1024.Idx → EReal) (ix3 0 k f) = (m ((c : Thread nD τ).loc main_arg1) : S4x2048x8192.Idx → EReal) (ix3 0 k ⟨(ch t).val * 1024 + f.val, by omega⟩) := by
  unfold iblk
  rw [View.read_apply]
  show (V m c main_v0 : S4x2048x8192.Idx → EReal) ((win0_1.rect t).emb (ix3 0 k f)) = _
  rw [V_v0]
  refine congrArg (m ((c : Thread nD τ).loc main_arg1) : S4x2048x8192.Idx → EReal) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 0 * 2048 + k.val = k.val; omega
  | ⟨2, _⟩ => refine (Window.rect_emb_val win0_1 t _ 2).trans ?_; rw [idx1]; rfl

theorem blk2 (c : Dev nD) (t : Fin cfg0.N) (f : Fin 1024) (d : Fin 2048) :
    (iblk m c 2 t : S1x1024x2048.Idx → EReal) (ix3 0 f d) = (m ((c : Thread nD τ).loc main_arg2) : S4x8192x2048.Idx → EReal) (ix3 0 ⟨(ch t).val * 1024 + f.val, by omega⟩ d) := by
  unfold iblk
  rw [View.read_apply]
  show (V m c main_v1 : S4x8192x2048.Idx → EReal) ((win0_2.rect t).emb (ix3 0 f d)) = _
  rw [V_v1]
  refine congrArg (m ((c : Thread nD τ).loc main_arg2) : S4x8192x2048.Idx → EReal) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; rfl
  | ⟨2, _⟩ => refine (Window.rect_emb_val win0_2 t _ 2).trans ?_; rw [idx2]; show 0 * 2048 + d.val = d.val; omega

theorem blk3 (c : Dev nD) (t : Fin cfg0.N) (r : Fin 512) (k : Fin 2048) :
    (iblk m c 3 t : S512x2048.Idx → EReal) (ix2 r k) = (m ((c : Thread nD τ).loc main_arg3) : S8192x2048.Idx → EReal) (ix2 (row t r) k) := by
  unfold iblk
  rw [View.read_apply]
  show (V m c main_arg3 : S8192x2048.Idx → EReal) ((win0_3.rect t).emb (ix2 r k)) = _
  rw [V_arg3]
  refine congrArg (m ((c : Thread nD τ).loc main_arg3) : S8192x2048.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show 0 * 2048 + k.val = k.val; omega

theorem blk4 (c : Dev nD) (t : Fin cfg0.N) (k : Fin 2048) :
    (iblk m c 4 t : S1x2048.Idx → EReal) (ix2 0 k) = (m ((c : Thread nD τ).loc main_arg4) : S1x2048.Idx → EReal) (ix2 0 k) := by
  unfold iblk
  rw [View.read_apply]
  show (V m c main_arg4 : S1x2048.Idx → EReal) ((win0_4.rect t).emb (ix2 0 k)) = _
  rw [V_arg4]
  refine congrArg (m ((c : Thread nD τ).loc main_arg4) : S1x2048.Idx → EReal) (funext fun a => Fin.ext ?_)
  match a with
  | ⟨0, _⟩ => refine (Window.rect_emb_val win0_4 t _ 0).trans ?_; rw [idx4]; rfl
  | ⟨1, _⟩ => refine (Window.rect_emb_val win0_4 t _ 1).trans ?_; rw [idx4]; show 0 * 2048 + k.val = k.val; omega

/-- The part of chunk `b` in the memory's own arrays. -/
abbrev partOf (c : Dev nD) (b : Fin 8) (r : Fin 8192) (d : Fin 2048) : EReal :=
  part (m ((c : Thread nD τ).loc main_arg0)) (m ((c : Thread nD τ).loc main_arg1)) (m ((c : Thread nD τ).loc main_arg2)) b r d

/-- The residual stream's number in the memory's own array. -/
abbrev resOf (c : Dev nD) (r : Fin 8192) (d : Fin 2048) : EReal :=
  (m ((c : Thread nD τ).loc main_arg3) : S8192x2048.Idx → EReal) (ix2 r d)

/-- A point's product is its chunk's part of its rows. -/
theorem term_eq (c : Dev nD) (t : Fin cfg0.N) (r : Fin 512) (d : Fin 2048) :
    term (iblk m c 0 t) (iblk m c 1 t) (iblk m c 2 t) r d = partOf m c (ch t) (row t r) d := by
  unfold term partOf part hid
  refine Finset.sum_congr rfl fun f _ => congrArg₂ (· * ·) (congrArg act (Finset.sum_congr rfl fun k _ => ?_)) (blk2 m c t f d)
  exact congrArg₂ (· * ·) (blk0 m c t r k) (blk1 m c t k f)

/-! ## The output block after each chunk -/

theorem out_first (c : Dev nD) (t : Fin cfg0.N) (h0 : t.val % 8 = 0) (r : Fin 512) (d : Fin 2048) :
    ((outsAt0 m c t.val t.isLt).1 : S512x2048.Idx → EReal) (ix2 r d)
      = resOf m c (row t r) d + partOf m c (ch t) (row t r) d := by
  rw [outsAt0_A m c t h0 (by omega)]
  dsimp only
  rw [out_A]
  refine (pay1_apply _ _ _ _ r d).trans ?_
  rw [term_eq]
  exact congrArg (· + _) (blk3 m c t r d)

theorem out_next (c : Dev nD) (t : Fin cfg0.N) (h0 : ¬t.val % 8 = 0) (r : Fin 512) (d : Fin 2048) :
    ((outsAt0 m c t.val t.isLt).1 : S512x2048.Idx → EReal) (ix2 r d)
      = ((outsAt0 m c (t.val - 1) (Nat.lt_of_le_of_lt (Nat.sub_le _ _) t.isLt)).1 : S512x2048.Idx → EReal) (ix2 r d)
        + partOf m c (ch t) (row t r) d := by
  by_cases h1 : t.val % 8 = 7
  · rw [outsAt0_C m c t h0 h1]
    dsimp only
    rw [out_C]
    refine (pay1_apply _ _ _ _ r d).trans ?_
    rw [term_eq]
  · rw [outsAt0_B m c t h0 h1]
    dsimp only
    rw [out_B]
    refine (pay1_apply _ _ _ _ r d).trans ?_
    rw [term_eq]

/-- After chunk `j` of row block `q`: the block of x plus the parts of the chunks so far. -/
theorem running (c : Dev nD) (q : ℕ) (r : Fin 512) (d : Fin 2048) (R : Fin 8192) (hR : R.val = q * 512 + r.val) :
    ∀ (j : ℕ) (hj : j < 8) (ht : 8 * q + j < cfg0.N), ((outsAt0 m c (8 * q + j) ht).1 : S512x2048.Idx → EReal) (ix2 r d)
      = resOf m c R d
        + ∑ b : Fin (j + 1), partOf m c ⟨b.val, by omega⟩ R d := by
  intro j
  induction j with
  | zero =>
    intro hj ht
    refine (out_first m c ⟨8 * q + 0, ht⟩ (by dsimp only; omega) r d).trans ?_
    have e1 : row ⟨8 * q + 0, ht⟩ r = R := Fin.ext (by rw [hR]; show (8 * q + 0) / 8 * 512 + r.val = _; omega)
    have e2 : ch ⟨8 * q + 0, ht⟩ = ⟨0, by decide⟩ := Fin.ext (by show (8 * q + 0) % 8 = 0; omega)
    rw [e1, e2, Fin.sum_univ_one]
    rfl
  | succ j ih =>
    intro hj ht
    refine (out_next m c ⟨8 * q + (j + 1), ht⟩ (by dsimp only; omega) r d).trans ?_
    have e1 : row ⟨8 * q + (j + 1), ht⟩ r = R := Fin.ext (by rw [hR]; show (8 * q + (j + 1)) / 8 * 512 + r.val = _; omega)
    have e2 : ch ⟨8 * q + (j + 1), ht⟩ = ⟨j + 1, hj⟩ := Fin.ext (by show (8 * q + (j + 1)) % 8 = j + 1; omega)
    rw [e1, e2, Fin.sum_univ_castSucc]
    exact (congrArg (· + _) (ih (by omega) (by omega))).trans (add_assoc _ _ _)

/-- The finished block: rows of the first result. -/
theorem finished (c : Dev nD) (t : Fin cfg0.N) (h7 : t.val % 8 = 7) (r : Fin 512) (d : Fin 2048) :
    (k0_pay1 (F := Ideal) (iblk m c 0 t) (iblk m c 1 t) (outsAt0 m c (t.val - 1) (Nat.lt_of_le_of_lt (Nat.sub_le _ _) t.isLt)).1
        (iblk m c 2 t) : S512x2048.Idx → EReal) (ix2 r d)
      = mid (m ((c : Thread nD τ).loc main_arg0)) (m ((c : Thread nD τ).loc main_arg1)) (m ((c : Thread nD τ).loc main_arg2))
          (m ((c : Thread nD τ).loc main_arg3)) (ix2 (row t r) d) := by
  have e : (k0_pay1 (F := Ideal) (iblk m c 0 t) (iblk m c 1 t) (outsAt0 m c (t.val - 1) (Nat.lt_of_le_of_lt (Nat.sub_le _ _) t.isLt)).1
        (iblk m c 2 t) : S512x2048.Idx → EReal) (ix2 r d) = ((outsAt0 m c t.val t.isLt).1 : S512x2048.Idx → EReal) (ix2 r d) := by
    rw [outsAt0_C m c t (by omega) h7]
    dsimp only
    rw [out_C]
  rw [e, mid_chunks]
  obtain ⟨tv, ht⟩ := t
  obtain ⟨q, rfl⟩ : ∃ q, tv = 8 * q + 7 := ⟨tv / 8, by dsimp only at h7; omega⟩
  exact running m c q r d (row ⟨8 * q + 7, ht⟩ r) (by show (8 * q + 7) / 8 * 512 + r.val = _; omega) 7 (by decide) ht

theorem emb5 (t : Fin cfg0.N) (r : Fin 512) (d : Fin 2048) : (win0_5.rect t).emb (ix2 r d) = ix2 (row t r) d :=
  funext fun a => Fin.ext (by
    match a with
    | ⟨0, _⟩ => refine (Window.rect_emb_val win0_5 t _ 0).trans ?_; rw [idx5]; rfl
    | ⟨1, _⟩ => refine (Window.rect_emb_val win0_5 t _ 1).trans ?_; rw [idx5]; show 0 * 2048 + d.val = d.val; omega)

theorem emb6 (t : Fin cfg0.N) (r : Fin 512) (d : Fin 2048) : (win0_6.rect t).emb (ix2 r d) = ix2 (row t r) d :=
  funext fun a => Fin.ext (by
    match a with
    | ⟨0, _⟩ => refine (Window.rect_emb_val win0_6 t _ 0).trans ?_; rw [idx6]; rfl
    | ⟨1, _⟩ => refine (Window.rect_emb_val win0_6 t _ 1).trans ?_; rw [idx6]; show 0 * 2048 + d.val = d.val; omega)

/-- The last chunk's point writes back its block of `mid`, -/
theorem flushed5_eq (c : Dev nD) (t : Fin cfg0.N) (hf : (cfg0.win 5).flush t = true) :
    (dats m 0 c).flushed 5 t = ((cfg0.win 5).blk t).view.read (Elt Ideal)
      (mid (m ((c : Thread nD τ).loc main_arg0)) (m ((c : Thread nD τ).loc main_arg1))
        (m ((c : Thread nD τ).loc main_arg2)) (m ((c : Thread nD τ).loc main_arg3))) := by
  have h7 : t.val % 8 = 7 := (flush0_5 t).mp hf
  rw [Value.flushed5_C m c t (by omega) h7, out_C]
  funext y
  obtain ⟨r, d, rfl⟩ : ∃ (r : Fin 512) (d : Fin 2048), y = ix2 r d := ⟨y 0, y 1, eq_ix2 y⟩
  rw [View.read_apply]
  show (k0_pay1 (iblk m c 0 t) (iblk m c 1 t) _ (iblk m c 2 t) : S512x2048.Idx → EReal) (ix2 r d)
    = mid _ _ _ _ ((win0_5.rect t).emb (ix2 r d))
  rw [emb5]
  exact finished m c t h7 r d

/-- and its block of `normed`. -/
theorem flushed6_eq (c : Dev nD) (t : Fin cfg0.N) (hf : (cfg0.win 6).flush t = true) :
    (dats m 0 c).flushed 6 t = ((cfg0.win 6).blk t).view.read (Elt Ideal)
      (normed (m ((c : Thread nD τ).loc main_arg0)) (m ((c : Thread nD τ).loc main_arg1))
        (m ((c : Thread nD τ).loc main_arg2)) (m ((c : Thread nD τ).loc main_arg3)) (m ((c : Thread nD τ).loc main_arg4))) := by
  have h7 : t.val % 8 = 7 := (flush0_6 t).mp hf
  rw [Value.flushed6_C m c t (by omega) h7, out_C_norm]
  funext y
  obtain ⟨r, d, rfl⟩ : ∃ (r : Fin 512) (d : Fin 2048), y = ix2 r d := ⟨y 0, y 1, eq_ix2 y⟩
  rw [View.read_apply]
  show (k0_pay2 (k0_pay1 (iblk m c 0 t) (iblk m c 1 t) _ (iblk m c 2 t)) (iblk m c 4 t) : S512x2048.Idx → EReal) (ix2 r d)
    = normed _ _ _ _ _ ((win0_6.rect t).emb (ix2 r d))
  rw [emb6]
  refine (pay2_apply _ _ r d).trans ?_
  unfold normed
  exact congrArg₂ (fun y g => normRow 0x45000000#32 y g d) (funext fun k => finished m c t h7 r k) (funext fun k => blk4 m c t k)

/-! ## The result arrays -/

theorem mem_blk5 (t : Fin cfg0.N) (i : S8192x2048.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v2_0).slice (win0_5.rect t)).set ↔ _
  rw [View.set_slice_whole, Rect.mem_set_unit]

theorem mem_blk6 (t : Fin cfg0.N) (i : S8192x2048.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v2_1).slice (win0_6.rect t)).set ↔ _
  rw [View.set_slice_whole, Rect.mem_set_unit]

/-- The point that writes back the block of row `R`. -/
def last (R : Fin 8192) : Fin cfg0.N := ⟨R.val / 512 * 8 + 7, by rw [show cfg0.N = 128 from N_0]; omega⟩

theorem last_mod (R : Fin 8192) : (last R).val % 8 = 7 := by show (R.val / 512 * 8 + 7) % 8 = 7; omega
theorem last_div (R : Fin 8192) : (last R).val / 8 = R.val / 512 := by show (R.val / 512 * 8 + 7) / 8 = _; omega

theorem final5 (c : Dev nD) : (dats m 0 c).arrAt 5 cfg0.N
    = mid (m ((c : Thread nD τ).loc main_arg0)) (m ((c : Thread nD τ).loc main_arg1))
        (m ((c : Thread nD τ).loc main_arg2)) (m ((c : Thread nD τ).loc main_arg3)) :=
  (dats m 0 c).arrAt_eq_of_cover 5 _ (flushed5_eq m c) fun (i : S8192x2048.Idx) => by
    have hi0 : (i 0 : Nat) < 8192 := (i 0).isLt
    have hi1 : (i 1 : Nat) < 2048 := (i 1).isLt
    have q := last_div (i 0)
    refine ⟨last (i 0), (flush0_5 _).mpr (last_mod (i 0)), (mem_blk5 (last (i 0)) i).mpr fun a => ?_⟩
    rw [idx5]
    match a with
    | ⟨0, _⟩ => show (last (i 0)).val / 8 * 512 ≤ (i 0 : Nat) ∧ (i 0 : Nat) < (last (i 0)).val / 8 * 512 + 512; rw [q]; omega
    | ⟨1, _⟩ => show 0 * 2048 ≤ (i 1 : Nat) ∧ (i 1 : Nat) < 0 * 2048 + 2048; omega

theorem final6 (c : Dev nD) : (dats m 0 c).arrAt 6 cfg0.N
    = normed (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 6 _ (flushed6_eq m c) fun (i : S8192x2048.Idx) => by
    have hi0 : (i 0 : Nat) < 8192 := (i 0).isLt
    have hi1 : (i 1 : Nat) < 2048 := (i 1).isLt
    have q := last_div (i 0)
    refine ⟨last (i 0), (flush0_6 _).mpr (last_mod (i 0)), (mem_blk6 (last (i 0)) i).mpr fun a => ?_⟩
    rw [idx6]
    match a with
    | ⟨0, _⟩ => show (last (i 0)).val / 8 * 512 ≤ (i 0 : Nat) ∧ (i 0 : Nat) < (last (i 0)).val / 8 * 512 + 512; rw [q]; omega
    | ⟨1, _⟩ => show 0 * 2048 ≤ (i 1 : Nat) ∧ (i 1 : Nat) < 0 * 2048 + 2048; omega

/-- The run: the results at `mid` and `normed` of the arguments, the arguments unchanged. -/
theorem run : θ_run (defs (F := Ideal)) (onTc (τ := τ) (main (F := Ideal))) ⟨m, fun _ => 0, ρ⟩ fun r => ∀ c : Dev nD,
      r.2.mem ((c : Thread nD τ).loc main_v2_0)
        = mid (m ((c : Thread nD τ).loc main_arg0)) (m ((c : Thread nD τ).loc main_arg1))
            (m ((c : Thread nD τ).loc main_arg2)) (m ((c : Thread nD τ).loc main_arg3))
      ∧ r.2.mem ((c : Thread nD τ).loc main_v2_1)
        = normed (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Value.run_blocks m ρ)

/-! ## The reference -/

section Reference

open Cert.FfnRefIdeal.Read

variable (x0 : S8192x2048.Idx → EReal) (x1 : S4x2048x8192.Idx → EReal) (x2 : S4x8192x2048.Idx → EReal)
  (x3 : S8192x2048.Idx → EReal) (x4 : S1x2048.Idx → EReal)

/-- The reference's hidden numbers. -/
theorem ref_hid (r : Fin 8192) (f : Fin 8192) :
    (val_main_v5 (F := Ideal) x0 x1 : Cert.FfnRefIdeal.S8192x8192.Idx → EReal) (ix2 r f) = hid x0 x1 r f := by
  have hz : (val_main_v3 (F := Ideal) x0 x1 : Cert.FfnRefIdeal.S8192x8192.Idx → EReal) (ix2 r f)
      = ∑ k : Fin 2048, x0 (ix2 r k) * x1 (ix3 0 k f) := by
    rw [val_main_v3_apply]
    refine Finset.sum_congr rfl fun k _ => congrArg₂ (· * ·) ?_ ?_
    · refine congrArg x0 (funext fun a => ?_)
      match a with | ⟨0, _⟩ => rfl | ⟨1, _⟩ => rfl
    · rw [val_main_v2_apply, val_main_v1_apply]
      refine congrArg x1 (funext fun a => Fin.ext ?_)
      match a with
      | ⟨0, _⟩ => rfl
      | ⟨1, _⟩ => show (k.val * 8192 + f.val) / 8192 % 2048 = k.val; omega
      | ⟨2, _⟩ => show (k.val * 8192 + f.val) % 8192 = f.val; omega
  rw [val_main_v5_apply, val_main_v4_apply, hz, val_main_call0_v0_apply, val_main_call0_cst_apply]
  show (max _ (Ideal.ofBits .f32 0x00000000#32) * max _ (Ideal.ofBits .f32 0x00000000#32) : EReal) = _
  rw [Ideal.ofBits_zero_f32]
  rfl

/-- The reference's first result is `mid`. -/
theorem ref_eq : (val_main_v9 (F := Ideal) x0 x1 x2 x3 : S8192x2048.Idx → EReal) = mid x0 x1 x2 x3 := by
  funext i
  obtain ⟨r, d, rfl⟩ : ∃ (r : Fin 8192) (d : Fin 2048), i = ix2 r d := ⟨i 0, i 1, eq_ix2 i⟩
  rw [val_main_v9_apply, val_main_v8_apply]
  refine congrArg (x3 (ix2 r d) + ·) (Finset.sum_congr rfl fun f _ => congrArg₂ (· * ·) ?_ ?_)
  · have hi : (lidx_main_v8 (ix2 r d) f : Cert.FfnRefIdeal.S8192x8192.Idx) = ix2 r f :=
      funext fun a => match a with | ⟨0, _⟩ => rfl | ⟨1, _⟩ => rfl
    rw [hi]
    exact ref_hid x0 x1 r f
  · rw [val_main_v7_apply, val_main_v6_apply]
    refine congrArg x2 (funext fun a => Fin.ext ?_)
    match a with
    | ⟨0, _⟩ => rfl
    | ⟨1, _⟩ => show (f.val * 2048 + d.val) / 2048 % 8192 = f.val; omega
    | ⟨2, _⟩ => show (f.val * 2048 + d.val) % 2048 = d.val; omega

/-- The reference's second result is `normed`. -/
theorem ref_norm_eq : (val_main_v22 (F := Ideal) x0 x1 x2 x3 x4 : S8192x2048.Idx → EReal) = normed x0 x1 x2 x3 x4 := by
  funext i
  obtain ⟨r, d, rfl⟩ : ∃ (r : Fin 8192) (d : Fin 2048), i = ix2 r d := ⟨i 0, i 1, eq_ix2 i⟩
  rw [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_cst_apply, val_main_cst_0_apply, val_main_cst_1_apply]
  show (val_main_v9 (F := Ideal) x0 x1 x2 x3 (ix2 r d)
      * Ideal.rsqrt (Ideal.div (Ideal.ofBits .f32 0x00000000#32 + ∑ k : Fin 2048, _) (Ideal.ofBits .f32 0x45000000#32)
        + Ideal.ofBits .f32 0x358637BD#32) * x4 _ : EReal) = _
  rw [Ideal.ofBits_zero_f32, zero_add]
  unfold normed normRow scale
  refine congrArg₂ (· * ·) (congrArg₂ (· * ·) (congrFun (ref_eq x0 x1 x2 x3) _)
    (congrArg (fun z : EReal => Ideal.rsqrt (Ideal.div z _ + _)) (Finset.sum_congr rfl fun k _ => ?_))) ?_
  · rw [val_main_v10_apply]
    have hi : (idx_main_v11 (idx_main_v12 (idx_main_v18 (ix2 r d))) k : S8192x2048.Idx) = ix2 r k :=
      funext fun a => match a with | ⟨0, _⟩ => rfl | ⟨1, _⟩ => rfl
    rw [hi]
    exact congrArg₂ (fun a b : EReal => a * b) (congrFun (ref_eq x0 x1 x2 x3) _) (congrFun (ref_eq x0 x1 x2 x3) _)
  · refine congrArg x4 (funext fun a => ?_)
    match a with | ⟨0, _⟩ => rfl | ⟨1, _⟩ => rfl

end Reference

end Cert.Proof.Ffn
-- ==== Proof.FfnSample.lean ====
/-
  The feed-forward call on the 32 sample rows: one row block, 8 chunks of 1024 hidden columns. As for the prompt rows the
  output block itself carries the sum: the first chunk starts it at the block of x, every chunk adds its product, and at the
  last chunk the finished rows are normalised into the second output.
  Here: the output block after each chunk as a running sum, both result arrays index by index, and that the reference's
  products are the same extended reals.
-/
module

public import proofs.«01_k».proof.Defs
public import proofs.«01_k».proof.Proof.Gen.FfnSampleIdeal.Value
public import proofs.«01_k».proof.Proof.Gen.FfnSampleRefIdeal.Run
public import proofs.«01_k».proof.Proof.Gen.FfnSampleRefIdeal.Read
public import proofs.«01_k».proof.Proof.Norm
public import Idealize.ShloMosaic.Lib.MatmulPlain
public import Idealize.ShloMosaic.Lib.ValueIdx
public import Idealize.ShloMosaic.Lib.IdealHost
public import Idealize.ShloMosaic.Lib.Pipeline.ValueKit.Acc

@[expose] public section

noncomputable section

namespace Cert.Proof.FfnSample

open Idealize.ShloMosaic Idealize.ShloMosaic.TcCoe Idealize.SL.Sem Idealize.ShloMosaic.ValueIdx
open Cert.FfnSampleIdeal Cert.FfnSampleIdeal.Gen
open Cert.Proof.Norm (normRow scale norm_apply)
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords) (a2 : Memref sig .tc .vmem S32x2048 .bf16) (h2 : a2.IsWhole)
  (a3 : Memref sig .tc .vmem S1x2048x1024 .bf16) (h3 : a3.IsWhole) (a4 : Memref sig .tc .vmem S1x1024x2048 .bf16) (h4 : a4.IsWhole)
  (a5 : Memref sig .tc .vmem S32x2048 .f32) (h5 : a5.IsWhole) (a6 : Memref sig .tc .vmem S1x2048 .f32) (h6 : a6.IsWhole)
  (a7 : Memref sig .tc .vmem S32x2048 .f32) (h7 : a7.IsWhole) (a8 : Memref sig .tc .vmem S32x2048 .bf16) (h8 : a8.IsWhole)
  (x0 : Vec F S32x2048 .bf16) (x1 : Vec F S1x2048x1024 .bf16) (x2 : Vec F S1x1024x2048 .bf16) (x3 : Vec F S32x2048 .f32)
  (x4 : Vec F S1x2048 .f32) (xo : Vec F S32x2048 .f32)

/-- The first chunk adds its product to the block of x. -/
theorem out_A (hc0 : cond0_0 i) (hc1 : ¬cond0_1 i) :
    out0_A_5 c i a2 h2 a3 h3 a4 h4 a5 h5 a6 h6 a7 h7 a8 h8 hc0 hc1 x0 x1 x2 x3 x4 = k0_pay1 x0 x1 x3 x2 := by
  unfold out0_A_5
  rw [View.read_writes_eq_canon _ _ _ (cover0_A_5 c i a2 h2 a3 h3 a4 h4 a5 h5 a6 h6 a7 h7 a8 h8 hc0 hc1 x0 x1 x2 x3 x4)]
  unfold kernelRun0_A
  sl_unfold_words
  rw [View.canon_cons_unit_zero hz2, View.readCov_unit_zero _ hz2]
  simp only [View.readAt_eq_ld, h2.read_unread, h3.read_unread, h4.read_unread, h5.read_unread, h6.read_unread, h7.read_unread,
    View.ld_unit_zero (S := S32x2048) hz2, View.ld_unit_zero (S := S1x2048) hz2, View.ld_unit_zero (S := S1x2048x1024) hz3,
    View.ld_unit_zero (S := S1x1024x2048) hz3]

/-- A middle chunk adds its product to what the output block held. -/
theorem out_B (hc0 : ¬cond0_0 i) (hc1 : ¬cond0_1 i) :
    out0_B_5 c i a2 h2 a3 h3 a4 h4 a5 h5 a6 h6 a7 h7 a8 h8 hc0 hc1 x0 x1 x2 x3 x4 xo = k0_pay1 x0 x1 xo x2 := by
  unfold out0_B_5
  rw [View.read_writes_eq_canon _ _ _ (cover0_B_5 c i a2 h2 a3 h3 a4 h4 a5 h5 a6 h6 a7 h7 a8 h8 hc0 hc1 x0 x1 x2 x3 x4 xo)]
  unfold kernelRun0_B
  sl_unfold_words
  rw [View.canon_unit_zero hz2]
  simp only [View.readAt_eq_ld, h2.read_unread, h3.read_unread, h4.read_unread, h5.read_unread, h6.read_unread, h7.read_unread,
    View.ld_unit_zero (S := S32x2048) hz2, View.ld_unit_zero (S := S1x2048) hz2, View.ld_unit_zero (S := S1x2048x1024) hz3,
    View.ld_unit_zero (S := S1x1024x2048) hz3]

/-- So does the last chunk, -/
theorem out_C (hc0 : ¬cond0_0 i) (hc1 : cond0_1 i) :
    out0_C_5 c i a2 h2 a3 h3 a4 h4 a5 h5 a6 h6 a7 h7 a8 h8 hc0 hc1 x0 x1 x2 x3 x4 xo = k0_pay1 x0 x1 xo x2 := by
  unfold out0_C_5
  rw [View.read_writes_eq_canon _ _ _ (cover0_C_5 c i a2 h2 a3 h3 a4 h4 a5 h5 a6 h6 a7 h7 a8 h8 hc0 hc1 x0 x1 x2 x3 x4 xo)]
  unfold kernelRun0_C
  sl_unfold_words
  rw [View.canon_unit_zero hz2]
  simp only [View.readAt_eq_ld, h2.read_unread, h3.read_unread, h4.read_unread, h5.read_unread, h6.read_unread, h7.read_unread,
    View.ld_unit_zero (S := S32x2048) hz2, View.ld_unit_zero (S := S1x2048) hz2, View.ld_unit_zero (S := S1x2048x1024) hz3,
    View.ld_unit_zero (S := S1x1024x2048) hz3]

/-- which then stores the finished rows normalised. -/
theorem out_C_norm (hc0 : ¬cond0_0 i) (hc1 : cond0_1 i) :
    out0_C_6 c i a2 h2 a3 h3 a4 h4 a5 h5 a6 h6 a7 h7 a8 h8 hc0 hc1 x0 x1 x2 x3 x4 xo = k0_pay2 (k0_pay1 x0 x1 xo x2) x4 := by
  unfold out0_C_6
  rw [View.read_writes_eq_canon _ _ _ (cover0_C_6 c i a2 h2 a3 h3 a4 h4 a5 h5 a6 h6 a7 h7 a8 h8 hc0 hc1 x0 x1 x2 x3 x4 xo)]
  unfold kernelRun0_C
  sl_unfold_words
  rw [View.canon_unit_zero hz2, View.readCov_unit_zero _ hz2]
  simp only [View.readAt_eq_ld, h2.read_unread, h3.read_unread, h4.read_unread, h5.read_unread, h6.read_unread, h7.read_unread,
    View.ld_unit_zero (S := S32x2048) hz2, View.ld_unit_zero (S := S1x2048) hz2, View.ld_unit_zero (S := S1x2048x1024) hz3,
    View.ld_unit_zero (S := S1x1024x2048) hz3]

end Cases

/-! ## One chunk's product, and the normalised row, at an index -/

/-- The part below zero cut off, and squared. -/
def act (z : EReal) : EReal := max z 0 * max z 0

/-- One chunk's product, from the point's blocks. -/
def term (x0 : Vec Ideal S32x2048 .bf16) (x1 : Vec Ideal S1x2048x1024 .bf16) (x2 : Vec Ideal S1x1024x2048 .bf16)
    (r : Fin 32) (d : Fin 2048) : EReal :=
  ∑ f : Fin 1024, act (∑ k : Fin 2048, x0 (ix2 r k) * x1 (ix3 0 k f)) * x2 (ix3 0 f d)

theorem pay1_apply (x0 : Vec Ideal S32x2048 .bf16) (x1 : Vec Ideal S1x2048x1024 .bf16) (x2 : Vec Ideal S1x1024x2048 .bf16)
    (xo : Vec Ideal S32x2048 .f32) (r : Fin 32) (d : Fin 2048) :
    k0_pay1 x0 x1 xo x2 (ix2 r d) = xo (ix2 r d) + term x0 x1 x2 r d := by
  unfold k0_pay1
  rw [shapeCast_self]
  show (xo (ix2 r d) + FloatOps.matmul (F := Ideal) (DotDims.plain 32 1024 2048) none _
      (shapeCast S1024x2048 x2 shapeCasts_S1x1024x2048_S1024x2048) (constant S32x2048 .f32 0x00000000#32) (ix2 r d) : EReal) = _
  rw [Ideal.matmul_plain_apply, constant_apply, Ideal.ofBits_zero_f32, zero_add]
  unfold term
  refine congrArg (xo (ix2 r d) + ·) (Finset.sum_congr rfl fun f _ => congrArg₂ (· * ·) ?_ ?_)
  · show (max (FloatOps.matmul (F := Ideal) (DotDims.plain 32 2048 1024) none x0
        (shapeCast S2048x1024 x1 shapeCasts_S1x2048x1024_S2048x1024) (constant S32x1024 .f32 0x00000000#32) (ix2 r f))
          (Ideal.ofBits .f32 0x00000000#32)
      * max (FloatOps.matmul (F := Ideal) (DotDims.plain 32 2048 1024) none x0
        (shapeCast S2048x1024 x1 shapeCasts_S1x2048x1024_S2048x1024) (constant S32x1024 .f32 0x00000000#32) (ix2 r f))
          (Ideal.ofBits .f32 0x00000000#32) : EReal) = _
    rw [Ideal.matmul_plain_apply, constant_apply, Ideal.ofBits_zero_f32, zero_add]
    unfold act
    refine congrArg (fun z : EReal => max z 0 * max z 0) (Finset.sum_congr rfl fun k _ => congrArg (x0 (ix2 r k) * ·) ?_)
    refine shapeCast_apply x1 shapeCasts_S1x2048x1024_S2048x1024 _ _ ?_
    rw [Shape.rowMajor_val_two, Shape.rowMajor_val_three]
    show (0 * 2048 + k.val) * 1024 + f.val = k.val * 1024 + f.val
    omega
  · refine shapeCast_apply x2 shapeCasts_S1x1024x2048_S1024x2048 _ _ ?_
    rw [Shape.rowMajor_val_two, Shape.rowMajor_val_three]
    show (0 * 1024 + f.val) * 2048 + d.val = f.val * 2048 + d.val
    omega

theorem pay2_apply (y : Vec Ideal S32x2048 .f32) (g : Vec Ideal S1x2048 .f32) (r : Fin 32) (d : Fin 2048) :
    k0_pay2 y g (ix2 r d) = normRow 0x45000000#32 (fun k => y (ix2 r k)) (fun k => g (ix2 0 k)) d := by
  unfold k0_pay2
  rw [shapeCast_self]
  exact norm_apply (by decide) _ y g _ _ _ _ _ _ r d

/-! ## The results, index by index -/

section Results

variable (h : S32x2048.Idx → EReal) (w1 : S4x2048x8192.Idx → EReal) (w2 : S4x8192x2048.Idx → EReal)
  (x : S32x2048.Idx → EReal) (g : S1x2048.Idx → EReal)

/-- The hidden number of row `r` at hidden column `f`. -/
def hid (r : Fin 32) (f : Fin 8192) : EReal := act (∑ k : Fin 2048, h (ix2 r k) * w1 (ix3 0 k f))

/-- Chunk `b`'s part of the product. -/
def part (b : Fin 8) (r : Fin 32) (d : Fin 2048) : EReal :=
  ∑ f : Fin 1024, hid h w1 r ⟨b.val * 1024 + f.val, by omega⟩ * w2 (ix3 0 ⟨b.val * 1024 + f.val, by omega⟩ d)

/-- The first result. -/
def mid : S32x2048.Idx → EReal :=
  fun i => x i + ∑ f : Fin 8192, hid h w1 (i 0) f * w2 (ix3 0 f (i 1))

/-- The second result: the rows of the first normalised. -/
def normed : S32x2048.Idx → EReal :=
  fun i => normRow 0x45000000#32 (fun k => mid h w1 w2 x (ix2 (i 0) k)) (fun k => g (ix2 0 k)) (i 1)

/-- The first result as a sum over the chunks. -/
theorem mid_chunks (r : Fin 32) (d : Fin 2048) :
    mid h w1 w2 x (ix2 r d) = x (ix2 r d) + ∑ b : Fin 8, part h w1 w2 b r d := by
  unfold mid part
  exact congrArg (x (ix2 r d) + ·) (Fin.sum_mul_add_congr fun _ _ _ => rfl).symm

end Results

/-! ## The blocks the launch hands a point -/

variable (m : (ℓ : Loc nD τ sig) → Buf (Elt Ideal) ℓ) (ρ : Dev nD → PrngReg)

theorem idx0 : ∀ t : Fin cfg0.N, win0_0.index t = ![t.val / 8, 0] :=
  (by decide +kernel : ∀ t : Fin grid0.N, win0_0.index t = ![t.val / 8, 0])
theorem idx1 : ∀ t : Fin cfg0.N, win0_1.index t = ![0, 0, t.val % 8] :=
  (by decide +kernel : ∀ t : Fin grid0.N, win0_1.index t = ![0, 0, t.val % 8])
theorem idx2 : ∀ t : Fin cfg0.N, win0_2.index t = ![0, t.val % 8, 0] :=
  (by decide +kernel : ∀ t : Fin grid0.N, win0_2.index t = ![0, t.val % 8, 0])
theorem idx3 : ∀ t : Fin cfg0.N, win0_3.index t = ![t.val / 8, 0] :=
  (by decide +kernel : ∀ t : Fin grid0.N, win0_3.index t = ![t.val / 8, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val / 8, 0] :=
  (by decide +kernel : ∀ t : Fin grid0.N, win0_5.index t = ![t.val / 8, 0])
theorem idx6 : ∀ t : Fin cfg0.N, win0_6.index t = ![t.val / 8, 0] :=
  (by decide +kernel : ∀ t : Fin grid0.N, win0_6.index t = ![t.val / 8, 0])

theorem V_arg0 (c : Dev nD) : V m c main_arg0 = m ((c : Thread nD τ).loc main_arg0) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results
/-- The host rounds the weights before the call; over the reals they are unchanged. -/
theorem V_v0 (c : Dev nD) : (V m c main_v0 : S4x2048x8192.Idx → EReal) = m ((c : Thread nD τ).loc main_arg1) := by
  unfold V; after_results; rfl
theorem V_v1 (c : Dev nD) : (V m c main_v1 : S4x8192x2048.Idx → EReal) = m ((c : Thread nD τ).loc main_arg2) := by
  unfold V; after_results; rfl

theorem row_lt (t : Fin cfg0.N) (r : Fin 32) : t.val / 8 * 32 + r.val < 32 := by
  have := lt_of_lt_of_eq t.isLt (show cfg0.N = 8 from N_0)
  omega

/-- The row of the whole array that row `r` of point `t`'s blocks is. -/
def row (t : Fin cfg0.N) (r : Fin 32) : Fin 32 := ⟨t.val / 8 * 32 + r.val, row_lt t r⟩
/-- The chunk of point `t`. -/
def ch (t : Fin cfg0.N) : Fin 8 := ⟨t.val % 8, Nat.mod_lt _ (by decide)⟩

theorem blk0 (c : Dev nD) (t : Fin cfg0.N) (r : Fin 32) (k : Fin 2048) :
    (iblk m c 0 t : S32x2048.Idx → EReal) (ix2 r k) = (m ((c : Thread nD τ).loc main_arg0) : S32x2048.Idx → EReal) (ix2 (row t r) k) := by
  unfold iblk
  rw [View.read_apply]
  show (V m c main_arg0 : S32x2048.Idx → EReal) ((win0_0.rect t).emb (ix2 r k)) = _
  rw [V_arg0]
  refine congrArg (m ((c : Thread nD τ).loc main_arg0) : S32x2048.Idx → EReal) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 2048 + k.val = k.val; omega

theorem blk1 (c : Dev nD) (t : Fin cfg0.N) (k : Fin 2048) (f : Fin 1024) :
    (iblk m c 1 t : S1x2048x1024.Idx → EReal) (ix3 0 k f) = (m ((c : Thread nD τ).loc main_arg1) : S4x2048x8192.Idx → EReal) (ix3 0 k ⟨(ch t).val * 1024 + f.val, by omega⟩) := by
  unfold iblk
  rw [View.read_apply]
  show (V m c main_v0 : S4x2048x8192.Idx → EReal) ((win0_1.rect t).emb (ix3 0 k f)) = _
  rw [V_v0]
  refine congrArg (m ((c : Thread nD τ).loc main_arg1) : S4x2048x8192.Idx → EReal) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 0 * 2048 + k.val = k.val; omega
  | ⟨2, _⟩ => refine (Window.rect_emb_val win0_1 t _ 2).trans ?_; rw [idx1]; rfl

theorem blk2 (c : Dev nD) (t : Fin cfg0.N) (f : Fin 1024) (d : Fin 2048) :
    (iblk m c 2 t : S1x1024x2048.Idx → EReal) (ix3 0 f d) = (m ((c : Thread nD τ).loc main_arg2) : S4x8192x2048.Idx → EReal) (ix3 0 ⟨(ch t).val * 1024 + f.val, by omega⟩ d) := by
  unfold iblk
  rw [View.read_apply]
  show (V m c main_v1 : S4x8192x2048.Idx → EReal) ((win0_2.rect t).emb (ix3 0 f d)) = _
  rw [V_v1]
  refine congrArg (m ((c : Thread nD τ).loc main_arg2) : S4x8192x2048.Idx → EReal) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; rfl
  | ⟨2, _⟩ => refine (Window.rect_emb_val win0_2 t _ 2).trans ?_; rw [idx2]; show 0 * 2048 + d.val = d.val; omega

theorem blk3 (c : Dev nD) (t : Fin cfg0.N) (r : Fin 32) (k : Fin 2048) :
    (iblk m c 3 t : S32x2048.Idx → EReal) (ix2 r k) = (m ((c : Thread nD τ).loc main_arg3) : S32x2048.Idx → EReal) (ix2 (row t r) k) := by
  unfold iblk
  rw [View.read_apply]
  show (V m c main_arg3 : S32x2048.Idx → EReal) ((win0_3.rect t).emb (ix2 r k)) = _
  rw [V_arg3]
  refine congrArg (m ((c : Thread nD τ).loc main_arg3) : S32x2048.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show 0 * 2048 + k.val = k.val; omega

theorem blk4 (c : Dev nD) (t : Fin cfg0.N) (k : Fin 2048) :
    (iblk m c 4 t : S1x2048.Idx → EReal) (ix2 0 k) = (m ((c : Thread nD τ).loc main_arg4) : S1x2048.Idx → EReal) (ix2 0 k) := by
  unfold iblk
  rw [View.read_apply]
  show (V m c main_arg4 : S1x2048.Idx → EReal) ((win0_4.rect t).emb (ix2 0 k)) = _
  rw [V_arg4]
  refine congrArg (m ((c : Thread nD τ).loc main_arg4) : S1x2048.Idx → EReal) (funext fun a => Fin.ext ?_)
  match a with
  | ⟨0, _⟩ => refine (Window.rect_emb_val win0_4 t _ 0).trans ?_; rw [idx4]; rfl
  | ⟨1, _⟩ => refine (Window.rect_emb_val win0_4 t _ 1).trans ?_; rw [idx4]; show 0 * 2048 + k.val = k.val; omega

/-- The part of chunk `b` in the memory's own arrays. -/
abbrev partOf (c : Dev nD) (b : Fin 8) (r : Fin 32) (d : Fin 2048) : EReal :=
  part (m ((c : Thread nD τ).loc main_arg0)) (m ((c : Thread nD τ).loc main_arg1)) (m ((c : Thread nD τ).loc main_arg2)) b r d

/-- The residual stream's number in the memory's own array. -/
abbrev resOf (c : Dev nD) (r : Fin 32) (d : Fin 2048) : EReal :=
  (m ((c : Thread nD τ).loc main_arg3) : S32x2048.Idx → EReal) (ix2 r d)

/-- A point's product is its chunk's part of its rows. -/
theorem term_eq (c : Dev nD) (t : Fin cfg0.N) (r : Fin 32) (d : Fin 2048) :
    term (iblk m c 0 t) (iblk m c 1 t) (iblk m c 2 t) r d = partOf m c (ch t) (row t r) d := by
  unfold term partOf part hid
  refine Finset.sum_congr rfl fun f _ => congrArg₂ (· * ·) (congrArg act (Finset.sum_congr rfl fun k _ => ?_)) (blk2 m c t f d)
  exact congrArg₂ (· * ·) (blk0 m c t r k) (blk1 m c t k f)

/-! ## The output block after each chunk -/

theorem out_first (c : Dev nD) (t : Fin cfg0.N) (h0 : t.val % 8 = 0) (r : Fin 32) (d : Fin 2048) :
    ((outsAt0 m c t.val t.isLt).1 : S32x2048.Idx → EReal) (ix2 r d)
      = resOf m c (row t r) d + partOf m c (ch t) (row t r) d := by
  rw [outsAt0_A m c t h0 (by omega)]
  dsimp only
  rw [out_A]
  refine (pay1_apply _ _ _ _ r d).trans ?_
  rw [term_eq]
  exact congrArg (· + _) (blk3 m c t r d)

theorem out_next (c : Dev nD) (t : Fin cfg0.N) (h0 : ¬t.val % 8 = 0) (r : Fin 32) (d : Fin 2048) :
    ((outsAt0 m c t.val t.isLt).1 : S32x2048.Idx → EReal) (ix2 r d)
      = ((outsAt0 m c (t.val - 1) (Nat.lt_of_le_of_lt (Nat.sub_le _ _) t.isLt)).1 : S32x2048.Idx → EReal) (ix2 r d)
        + partOf m c (ch t) (row t r) d := by
  by_cases h1 : t.val % 8 = 7
  · rw [outsAt0_C m c t h0 h1]
    dsimp only
    rw [out_C]
    refine (pay1_apply _ _ _ _ r d).trans ?_
    rw [term_eq]
  · rw [outsAt0_B m c t h0 h1]
    dsimp only
    rw [out_B]
    refine (pay1_apply _ _ _ _ r d).trans ?_
    rw [term_eq]

/-- After chunk `j` of row block `q`: the block of x plus the parts of the chunks so far. -/
theorem running (c : Dev nD) (q : ℕ) (r : Fin 32) (d : Fin 2048) (R : Fin 32) (hR : R.val = q * 32 + r.val) :
    ∀ (j : ℕ) (hj : j < 8) (ht : 8 * q + j < cfg0.N), ((outsAt0 m c (8 * q + j) ht).1 : S32x2048.Idx → EReal) (ix2 r d)
      = resOf m c R d
        + ∑ b : Fin (j + 1), partOf m c ⟨b.val, by omega⟩ R d := by
  intro j
  induction j with
  | zero =>
    intro hj ht
    refine (out_first m c ⟨8 * q + 0, ht⟩ (by dsimp only; omega) r d).trans ?_
    have e1 : row ⟨8 * q + 0, ht⟩ r = R := Fin.ext (by rw [hR]; show (8 * q + 0) / 8 * 32 + r.val = _; omega)
    have e2 : ch ⟨8 * q + 0, ht⟩ = ⟨0, by decide⟩ := Fin.ext (by show (8 * q + 0) % 8 = 0; omega)
    rw [e1, e2, Fin.sum_univ_one]
    rfl
  | succ j ih =>
    intro hj ht
    refine (out_next m c ⟨8 * q + (j + 1), ht⟩ (by dsimp only; omega) r d).trans ?_
    have e1 : row ⟨8 * q + (j + 1), ht⟩ r = R := Fin.ext (by rw [hR]; show (8 * q + (j + 1)) / 8 * 32 + r.val = _; omega)
    have e2 : ch ⟨8 * q + (j + 1), ht⟩ = ⟨j + 1, hj⟩ := Fin.ext (by show (8 * q + (j + 1)) % 8 = j + 1; omega)
    rw [e1, e2, Fin.sum_univ_castSucc]
    exact (congrArg (· + _) (ih (by omega) (by omega))).trans (add_assoc _ _ _)

/-- The finished block: rows of the first result. -/
theorem finished (c : Dev nD) (t : Fin cfg0.N) (h7 : t.val % 8 = 7) (r : Fin 32) (d : Fin 2048) :
    (k0_pay1 (F := Ideal) (iblk m c 0 t) (iblk m c 1 t) (outsAt0 m c (t.val - 1) (Nat.lt_of_le_of_lt (Nat.sub_le _ _) t.isLt)).1
        (iblk m c 2 t) : S32x2048.Idx → EReal) (ix2 r d)
      = mid (m ((c : Thread nD τ).loc main_arg0)) (m ((c : Thread nD τ).loc main_arg1)) (m ((c : Thread nD τ).loc main_arg2))
          (m ((c : Thread nD τ).loc main_arg3)) (ix2 (row t r) d) := by
  have e : (k0_pay1 (F := Ideal) (iblk m c 0 t) (iblk m c 1 t) (outsAt0 m c (t.val - 1) (Nat.lt_of_le_of_lt (Nat.sub_le _ _) t.isLt)).1
        (iblk m c 2 t) : S32x2048.Idx → EReal) (ix2 r d) = ((outsAt0 m c t.val t.isLt).1 : S32x2048.Idx → EReal) (ix2 r d) := by
    rw [outsAt0_C m c t (by omega) h7]
    dsimp only
    rw [out_C]
  rw [e, mid_chunks]
  obtain ⟨tv, ht⟩ := t
  obtain ⟨q, rfl⟩ : ∃ q, tv = 8 * q + 7 := ⟨tv / 8, by dsimp only at h7; omega⟩
  exact running m c q r d (row ⟨8 * q + 7, ht⟩ r) (by show (8 * q + 7) / 8 * 32 + r.val = _; omega) 7 (by decide) ht

theorem emb5 (t : Fin cfg0.N) (r : Fin 32) (d : Fin 2048) : (win0_5.rect t).emb (ix2 r d) = ix2 (row t r) d :=
  funext fun a => Fin.ext (by
    match a with
    | ⟨0, _⟩ => refine (Window.rect_emb_val win0_5 t _ 0).trans ?_; rw [idx5]; rfl
    | ⟨1, _⟩ => refine (Window.rect_emb_val win0_5 t _ 1).trans ?_; rw [idx5]; show 0 * 2048 + d.val = d.val; omega)

theorem emb6 (t : Fin cfg0.N) (r : Fin 32) (d : Fin 2048) : (win0_6.rect t).emb (ix2 r d) = ix2 (row t r) d :=
  funext fun a => Fin.ext (by
    match a with
    | ⟨0, _⟩ => refine (Window.rect_emb_val win0_6 t _ 0).trans ?_; rw [idx6]; rfl
    | ⟨1, _⟩ => refine (Window.rect_emb_val win0_6 t _ 1).trans ?_; rw [idx6]; show 0 * 2048 + d.val = d.val; omega)

/-- The last chunk's point writes back its block of `mid`, -/
theorem flushed5_eq (c : Dev nD) (t : Fin cfg0.N) (hf : (cfg0.win 5).flush t = true) :
    (dats m 0 c).flushed 5 t = ((cfg0.win 5).blk t).view.read (Elt Ideal)
      (mid (m ((c : Thread nD τ).loc main_arg0)) (m ((c : Thread nD τ).loc main_arg1))
        (m ((c : Thread nD τ).loc main_arg2)) (m ((c : Thread nD τ).loc main_arg3))) := by
  have h7 : t.val % 8 = 7 := (flush0_5 t).mp hf
  rw [Value.flushed5_C m c t (by omega) h7, out_C]
  funext y
  obtain ⟨r, d, rfl⟩ : ∃ (r : Fin 32) (d : Fin 2048), y = ix2 r d := ⟨y 0, y 1, eq_ix2 y⟩
  rw [View.read_apply]
  show (k0_pay1 (iblk m c 0 t) (iblk m c 1 t) _ (iblk m c 2 t) : S32x2048.Idx → EReal) (ix2 r d)
    = mid _ _ _ _ ((win0_5.rect t).emb (ix2 r d))
  rw [emb5]
  exact finished m c t h7 r d

/-- and its block of `normed`. -/
theorem flushed6_eq (c : Dev nD) (t : Fin cfg0.N) (hf : (cfg0.win 6).flush t = true) :
    (dats m 0 c).flushed 6 t = ((cfg0.win 6).blk t).view.read (Elt Ideal)
      (normed (m ((c : Thread nD τ).loc main_arg0)) (m ((c : Thread nD τ).loc main_arg1))
        (m ((c : Thread nD τ).loc main_arg2)) (m ((c : Thread nD τ).loc main_arg3)) (m ((c : Thread nD τ).loc main_arg4))) := by
  have h7 : t.val % 8 = 7 := (flush0_6 t).mp hf
  rw [Value.flushed6_C m c t (by omega) h7, out_C_norm]
  funext y
  obtain ⟨r, d, rfl⟩ : ∃ (r : Fin 32) (d : Fin 2048), y = ix2 r d := ⟨y 0, y 1, eq_ix2 y⟩
  rw [View.read_apply]
  show (k0_pay2 (k0_pay1 (iblk m c 0 t) (iblk m c 1 t) _ (iblk m c 2 t)) (iblk m c 4 t) : S32x2048.Idx → EReal) (ix2 r d)
    = normed _ _ _ _ _ ((win0_6.rect t).emb (ix2 r d))
  rw [emb6]
  refine (pay2_apply _ _ r d).trans ?_
  unfold normed
  exact congrArg₂ (fun y g => normRow 0x45000000#32 y g d) (funext fun k => finished m c t h7 r k) (funext fun k => blk4 m c t k)

/-! ## The result arrays -/

theorem mem_blk5 (t : Fin cfg0.N) (i : S32x2048.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v2_0).slice (win0_5.rect t)).set ↔ _
  rw [View.set_slice_whole, Rect.mem_set_unit]

theorem mem_blk6 (t : Fin cfg0.N) (i : S32x2048.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v2_1).slice (win0_6.rect t)).set ↔ _
  rw [View.set_slice_whole, Rect.mem_set_unit]

/-- The point that writes back the block of row `R`. -/
def last (R : Fin 32) : Fin cfg0.N := ⟨R.val / 32 * 8 + 7, by rw [show cfg0.N = 8 from N_0]; omega⟩

theorem last_mod (R : Fin 32) : (last R).val % 8 = 7 := by show (R.val / 32 * 8 + 7) % 8 = 7; omega
theorem last_div (R : Fin 32) : (last R).val / 8 = R.val / 32 := by show (R.val / 32 * 8 + 7) / 8 = _; omega

theorem final5 (c : Dev nD) : (dats m 0 c).arrAt 5 cfg0.N
    = mid (m ((c : Thread nD τ).loc main_arg0)) (m ((c : Thread nD τ).loc main_arg1))
        (m ((c : Thread nD τ).loc main_arg2)) (m ((c : Thread nD τ).loc main_arg3)) :=
  (dats m 0 c).arrAt_eq_of_cover 5 _ (flushed5_eq m c) fun (i : S32x2048.Idx) => by
    have hi0 : (i 0 : Nat) < 32 := (i 0).isLt
    have hi1 : (i 1 : Nat) < 2048 := (i 1).isLt
    have q := last_div (i 0)
    refine ⟨last (i 0), (flush0_5 _).mpr (last_mod (i 0)), (mem_blk5 (last (i 0)) i).mpr fun a => ?_⟩
    rw [idx5]
    match a with
    | ⟨0, _⟩ => show (last (i 0)).val / 8 * 32 ≤ (i 0 : Nat) ∧ (i 0 : Nat) < (last (i 0)).val / 8 * 32 + 32; rw [q]; omega
    | ⟨1, _⟩ => show 0 * 2048 ≤ (i 1 : Nat) ∧ (i 1 : Nat) < 0 * 2048 + 2048; omega

theorem final6 (c : Dev nD) : (dats m 0 c).arrAt 6 cfg0.N
    = normed (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 6 _ (flushed6_eq m c) fun (i : S32x2048.Idx) => by
    have hi0 : (i 0 : Nat) < 32 := (i 0).isLt
    have hi1 : (i 1 : Nat) < 2048 := (i 1).isLt
    have q := last_div (i 0)
    refine ⟨last (i 0), (flush0_6 _).mpr (last_mod (i 0)), (mem_blk6 (last (i 0)) i).mpr fun a => ?_⟩
    rw [idx6]
    match a with
    | ⟨0, _⟩ => show (last (i 0)).val / 8 * 32 ≤ (i 0 : Nat) ∧ (i 0 : Nat) < (last (i 0)).val / 8 * 32 + 32; rw [q]; omega
    | ⟨1, _⟩ => show 0 * 2048 ≤ (i 1 : Nat) ∧ (i 1 : Nat) < 0 * 2048 + 2048; omega

/-- The run: the results at `mid` and `normed` of the arguments, the arguments unchanged. -/
theorem run : θ_run (defs (F := Ideal)) (onTc (τ := τ) (main (F := Ideal))) ⟨m, fun _ => 0, ρ⟩ fun r => ∀ c : Dev nD,
      r.2.mem ((c : Thread nD τ).loc main_v2_0)
        = mid (m ((c : Thread nD τ).loc main_arg0)) (m ((c : Thread nD τ).loc main_arg1))
            (m ((c : Thread nD τ).loc main_arg2)) (m ((c : Thread nD τ).loc main_arg3))
      ∧ r.2.mem ((c : Thread nD τ).loc main_v2_1)
        = normed (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩) (Value.run_blocks m ρ)

/-! ## The reference -/

section Reference

open Cert.FfnSampleRefIdeal.Read

variable (x0 : S32x2048.Idx → EReal) (x1 : S4x2048x8192.Idx → EReal) (x2 : S4x8192x2048.Idx → EReal)
  (x3 : S32x2048.Idx → EReal) (x4 : S1x2048.Idx → EReal)

/-- The reference's hidden numbers. -/
theorem ref_hid (r : Fin 32) (f : Fin 8192) :
    (val_main_v5 (F := Ideal) x0 x1 : Cert.FfnSampleRefIdeal.S32x8192.Idx → EReal) (ix2 r f) = hid x0 x1 r f := by
  have hz : (val_main_v3 (F := Ideal) x0 x1 : Cert.FfnSampleRefIdeal.S32x8192.Idx → EReal) (ix2 r f)
      = ∑ k : Fin 2048, x0 (ix2 r k) * x1 (ix3 0 k f) := by
    rw [val_main_v3_apply]
    refine Finset.sum_congr rfl fun k _ => congrArg₂ (· * ·) ?_ ?_
    · refine congrArg x0 (funext fun a => ?_)
      match a with | ⟨0, _⟩ => rfl | ⟨1, _⟩ => rfl
    · rw [val_main_v2_apply, val_main_v1_apply]
      refine congrArg x1 (funext fun a => Fin.ext ?_)
      match a with
      | ⟨0, _⟩ => rfl
      | ⟨1, _⟩ => show (k.val * 8192 + f.val) / 8192 % 2048 = k.val; omega
      | ⟨2, _⟩ => show (k.val * 8192 + f.val) % 8192 = f.val; omega
  rw [val_main_v5_apply, val_main_v4_apply, hz, val_main_call0_v0_apply, val_main_call0_cst_apply]
  show (max _ (Ideal.ofBits .f32 0x00000000#32) * max _ (Ideal.ofBits .f32 0x00000000#32) : EReal) = _
  rw [Ideal.ofBits_zero_f32]
  rfl

/-- The reference's first result is `mid`. -/
theorem ref_eq : (val_main_v9 (F := Ideal) x0 x1 x2 x3 : S32x2048.Idx → EReal) = mid x0 x1 x2 x3 := by
  funext i
  obtain ⟨r, d, rfl⟩ : ∃ (r : Fin 32) (d : Fin 2048), i = ix2 r d := ⟨i 0, i 1, eq_ix2 i⟩
  rw [val_main_v9_apply, val_main_v8_apply]
  refine congrArg (x3 (ix2 r d) + ·) (Finset.sum_congr rfl fun f _ => congrArg₂ (· * ·) ?_ ?_)
  · have hi : (lidx_main_v8 (ix2 r d) f : Cert.FfnSampleRefIdeal.S32x8192.Idx) = ix2 r f :=
      funext fun a => match a with | ⟨0, _⟩ => rfl | ⟨1, _⟩ => rfl
    rw [hi]
    exact ref_hid x0 x1 r f
  · rw [val_main_v7_apply, val_main_v6_apply]
    refine congrArg x2 (funext fun a => Fin.ext ?_)
    match a with
    | ⟨0, _⟩ => rfl
    | ⟨1, _⟩ => show (f.val * 2048 + d.val) / 2048 % 8192 = f.val; omega
    | ⟨2, _⟩ => show (f.val * 2048 + d.val) % 2048 = d.val; omega

/-- The reference's second result is `normed`. -/
theorem ref_norm_eq : (val_main_v22 (F := Ideal) x0 x1 x2 x3 x4 : S32x2048.Idx → EReal) = normed x0 x1 x2 x3 x4 := by
  funext i
  obtain ⟨r, d, rfl⟩ : ∃ (r : Fin 32) (d : Fin 2048), i = ix2 r d := ⟨i 0, i 1, eq_ix2 i⟩
  rw [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_cst_apply, val_main_cst_0_apply, val_main_cst_1_apply]
  show (val_main_v9 (F := Ideal) x0 x1 x2 x3 (ix2 r d)
      * Ideal.rsqrt (Ideal.div (Ideal.ofBits .f32 0x00000000#32 + ∑ k : Fin 2048, _) (Ideal.ofBits .f32 0x45000000#32)
        + Ideal.ofBits .f32 0x358637BD#32) * x4 _ : EReal) = _
  rw [Ideal.ofBits_zero_f32, zero_add]
  unfold normed normRow scale
  refine congrArg₂ (· * ·) (congrArg₂ (· * ·) (congrFun (ref_eq x0 x1 x2 x3) _)
    (congrArg (fun z : EReal => Ideal.rsqrt (Ideal.div z _ + _)) (Finset.sum_congr rfl fun k _ => ?_))) ?_
  · rw [val_main_v10_apply]
    have hi : (idx_main_v11 (idx_main_v12 (idx_main_v18 (ix2 r d))) k : S32x2048.Idx) = ix2 r k :=
      funext fun a => match a with | ⟨0, _⟩ => rfl | ⟨1, _⟩ => rfl
    rw [hi]
    exact congrArg₂ (fun a b : EReal => a * b) (congrFun (ref_eq x0 x1 x2 x3) _) (congrFun (ref_eq x0 x1 x2 x3) _)
  · refine congrArg x4 (funext fun a => ?_)
    match a with | ⟨0, _⟩ => rfl | ⟨1, _⟩ => rfl

end Reference

end Cert.Proof.FfnSample
-- ==== Proof.Gating.lean ====
/-
  What the two spatial-gating calls share: the activation they apply to the input projection's columns (the tanh form of
  the Gaussian unit), and the comparison of two positions inside a chunk that keeps the lower triangle of the mixing matrix.
-/
module

public import Idealize.ShloMosaic.PureOps.Ideal
public import Idealize.ShloMosaic.PureOps.Ideal.Laws
public import Idealize.ShloMosaic.Lib.ValueIdx

@[expose] public section

noncomputable section

namespace Cert.Proof.Gating

open Idealize.ShloMosaic Idealize.ShloMosaic.ValueIdx

/-- The activation: a (½ (1 + tanh (√(2/π) (a + 0.044715 a³)))), the numbers as their float literals. -/
def gelu (a : EReal) : EReal :=
  a * (Ideal.ofBits .f32 0x3F000000#32 * (Ideal.ofBits .f32 0x3F800000#32
    + Ideal.tanh (Ideal.ofBits .f32 0x3F4C422A#32 * (a + Ideal.ofBits .f32 0x3D372713#32 * (a * (a * a))))))

/-- The comparison word of two positions of a chunk: one where the second is not after the first. -/
theorem sge_word : ∀ t s : Fin 128, IntOp.cmpi .sge (BitVec.ofNat 32 t.val) (BitVec.ofNat 32 s.val) = BitVec.ofBool (decide (s ≤ t)) := by
  decide +kernel

/-- A select by that word keeps the entries on and below the diagonal. -/
theorem select_sge (t s : Fin 128) (a b : EReal) :
    Scalar.select (IntOp.cmpi .sge (BitVec.ofNat 32 t.val) (BitVec.ofNat 32 s.val)) a b = if s ≤ t then a else b := by
  rw [sge_word]
  by_cases h : s ≤ t
  · rw [if_pos h, decide_eq_true h]; rfl
  · rw [if_neg h, decide_eq_false h]; rfl

end Cert.Proof.Gating
-- ==== Proof.InProj.lean ====
/-
  The input projection of a prompt and the spatial gating of two of its pieces, one block of 512 rows a point.
  Here: the products the points write out as they are, the activation and normalisation of the gating's columns, the
  mixing of a chunk's 128 positions by a lower-triangular matrix for every column group, all five results index by
  index, and that the reference's projection and einsum are the same extended reals.
-/
module

public import proofs.«01_k».proof.Defs
public import proofs.«01_k».proof.Proof.Gen.InProjIdeal.Frame
public import proofs.«01_k».proof.Proof.Gen.InProjRefIdeal.Run
public import proofs.«01_k».proof.Proof.Gen.InProjRefIdeal.Read
public import proofs.«01_k».proof.Proof.Norm
public import proofs.«01_k».proof.Proof.Gating
public import Idealize.ShloMosaic.Lib.MatmulPlain
public import Idealize.ShloMosaic.Lib.ValueIdx
public import Idealize.ShloMosaic.Lib.IdealHost
public import Idealize.ShloMosaic.Lib.Pipeline.ValueKit.Tiles

@[expose] public section

noncomputable section

namespace Cert.Proof.InProj

open Idealize.ShloMosaic Idealize.ShloMosaic.TcCoe Idealize.SL.Sem Idealize.ShloMosaic.ValueIdx
open Cert.InProjIdeal Cert.InProjIdeal.Gen
open Cert.Proof.Norm (normRow scale norm_apply)
open Cert.Proof.Gating (gelu select_sge)
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The stores at an index -/

theorem pay3_apply (h : Vec Ideal S512x2048 .bf16) (w : Vec Ideal S1x768x2048 .bf16) (r : Fin 512) (n : Fin 768) :
    k0_pay3 h w (ix2 r n) = ∑ k : Fin 2048, h (ix2 r k) * w (ix3 0 n k) := by
  unfold k0_pay3
  show (FloatOps.matmul (F := Ideal) (DotDims.transposedRhs 512 2048 768) none h
      (shapeCast S768x2048 w shapeCasts_S1x768x2048_S768x2048) (constant S512x768 .f32 0x00000000#32) (ix2 r n) : EReal) = _
  rw [Ideal.matmul_transposedRhs_apply, constant_apply, Ideal.ofBits_zero_f32, zero_add]
  refine Finset.sum_congr rfl fun k _ => congrArg (h (ix2 r k) * ·) ?_
  refine shapeCast_apply w shapeCasts_S1x768x2048_S768x2048 _ _ ?_
  rw [Shape.rowMajor_val_two, Shape.rowMajor_val_three]
  show (0 * 768 + n.val) * 2048 + k.val = n.val * 2048 + k.val
  omega

theorem pay4_apply (h : Vec Ideal S512x2048 .bf16) (w : Vec Ideal S1x512x2048 .bf16) (r : Fin 512) (n : Fin 512) :
    k0_pay4 h w (ix2 r n) = ∑ k : Fin 2048, h (ix2 r k) * w (ix3 0 n k) := by
  unfold k0_pay4
  show (FloatOps.matmul (F := Ideal) (DotDims.transposedRhs 512 2048 512) none h
      (shapeCast S512x2048 w shapeCasts_S1x512x2048_S512x2048) (constant S512x512 .f32 0x00000000#32) (ix2 r n) : EReal) = _
  rw [Ideal.matmul_transposedRhs_apply, constant_apply, Ideal.ofBits_zero_f32, zero_add]
  refine Finset.sum_congr rfl fun k _ => congrArg (h (ix2 r k) * ·) ?_
  refine shapeCast_apply w shapeCasts_S1x512x2048_S512x2048 _ _ ?_
  rw [Shape.rowMajor_val_two, Shape.rowMajor_val_three]
  show (0 * 512 + n.val) * 2048 + k.val = n.val * 2048 + k.val
  omega

theorem pay5_apply (h : Vec Ideal S512x2048 .bf16) (w : Vec Ideal S1x2176x2048 .bf16) (r : Fin 512) (n : Fin 2176) :
    k0_pay5 h w (ix2 r n) = ∑ k : Fin 2048, h (ix2 r k) * w (ix3 0 n k) := by
  unfold k0_pay5
  show (FloatOps.matmul (F := Ideal) (DotDims.transposedRhs 512 2048 2176) none h
      (shapeCast S2176x2048 w shapeCasts_S1x2176x2048_S2176x2048) (constant S512x2176 .f32 0x00000000#32) (ix2 r n) : EReal) = _
  rw [Ideal.matmul_transposedRhs_apply, constant_apply, Ideal.ofBits_zero_f32, zero_add]
  refine Finset.sum_congr rfl fun k _ => congrArg (h (ix2 r k) * ·) ?_
  refine shapeCast_apply w shapeCasts_S1x2176x2048_S2176x2048 _ _ ?_
  rw [Shape.rowMajor_val_two, Shape.rowMajor_val_three]
  show (0 * 2176 + n.val) * 2048 + k.val = n.val * 2048 + k.val
  omega

theorem pay6_apply (h : Vec Ideal S512x2048 .bf16) (w : Vec Ideal S1x1024x2048 .bf16) (r : Fin 512) (n : Fin 1024) :
    k0_pay6 h w (ix2 r n) = ∑ k : Fin 2048, h (ix2 r k) * w (ix3 0 n k) := by
  unfold k0_pay6
  show (FloatOps.matmul (F := Ideal) (DotDims.transposedRhs 512 2048 1024) none h
      (shapeCast S1024x2048 w shapeCasts_S1x1024x2048_S1024x2048) (constant S512x1024 .f32 0x00000000#32) (ix2 r n) : EReal) = _
  rw [Ideal.matmul_transposedRhs_apply, constant_apply, Ideal.ofBits_zero_f32, zero_add]
  refine Finset.sum_congr rfl fun k _ => congrArg (h (ix2 r k) * ·) ?_
  refine shapeCast_apply w shapeCasts_S1x1024x2048_S1024x2048 _ _ ?_
  rw [Shape.rowMajor_val_two, Shape.rowMajor_val_three]
  show (0 * 1024 + n.val) * 2048 + k.val = n.val * 2048 + k.val
  omega

/-- The gating's columns after the activation. -/
theorem pay8_apply (h : Vec Ideal S512x2048 .bf16) (w : Vec Ideal S1x1024x2048 .bf16) (r : Fin 512) (n : Fin 1024) :
    k0_pay8 (k0_pay6 h w) (k0_pay7 h w) (ix2 r n) = gelu (∑ k : Fin 2048, h (ix2 r k) * w (ix3 0 n k)) := by
  rw [← pay6_apply]
  rfl

theorem pay9_apply (h : Vec Ideal S512x2048 .bf16) (w : Vec Ideal S1x1024x2048 .bf16) (r : Fin 512) (n : Fin 512) :
    k0_pay9 (k0_pay6 h w) (k0_pay7 h w) (ix2 r n)
      = gelu (∑ k : Fin 2048, h (ix2 r k) * w (ix3 0 (⟨n.val, by omega⟩ : Fin 1024) k)) := by
  unfold k0_pay9
  rw [← pay8_apply]
  refine extractStridedSlice_apply (s := S512x1024) (t := S512x512) ![0, 0] _ slices_S512x1024_o0_0_S512x512 _ _ (fun a => ?_)
  match a with
  | ⟨0, _⟩ => show r.val = 0 + r.val; omega
  | ⟨1, _⟩ => show n.val = 0 + n.val; omega

theorem pay10_norm (z e : FVec Ideal S512x1024 .f32) (g : Vec Ideal S1x512 .f32) (r : Fin 512) (n : Fin 512) :
    k0_pay10 z e g (ix2 r n)
      = normRow 0x44000000#32 (fun n' : Fin 512 => extractStridedSlice S512x512 ![0, 512] (k0_pay8 z e) slices_S512x1024_o0_512_S512x512 (ix2 r n'))
          (fun n' => g (ix2 0 n')) n := by
  unfold k0_pay10
  rw [shapeCast_self]
  generalize extractStridedSlice S512x512 ![0, 512] (k0_pay8 z e) slices_S512x1024_o0_512_S512x512 = y
  exact norm_apply (by decide) 0x44000000#32 y g reduces_S512x512_S512 (.inl rfl) rfl shapeCasts_S512_S512x1 broadcasts_S512x1_S512x512
    broadcasts_S1x512_S512x512 r n

theorem pay10_apply (h : Vec Ideal S512x2048 .bf16) (w : Vec Ideal S1x1024x2048 .bf16) (g : Vec Ideal S1x512 .f32) (r : Fin 512) (n : Fin 512) :
    k0_pay10 (k0_pay6 h w) (k0_pay7 h w) g (ix2 r n)
      = normRow 0x44000000#32 (fun n' : Fin 512 => gelu (∑ k : Fin 2048, h (ix2 r k) * w (ix3 0 (⟨512 + n'.val, by omega⟩ : Fin 1024) k)))
          (fun n' => g (ix2 0 n')) n := by
  refine (pay10_norm (k0_pay6 h w) (k0_pay7 h w) g r n).trans ?_
  refine congrArg (fun y : Fin 512 → EReal => normRow 0x44000000#32 y (fun n' => g (ix2 0 n')) n) (funext fun n' => ?_)
  rw [← pay8_apply]
  refine extractStridedSlice_apply (s := S512x1024) (t := S512x512) ![0, 512] _ slices_S512x1024_o0_512_S512x512 _ _ (fun a => ?_)
  match a with
  | ⟨0, _⟩ => show r.val = 0 + r.val; omega
  | ⟨1, _⟩ => rfl

/-- The lower triangle of one group's mixing matrix. -/
theorem lower_apply (w : Vec Ideal S1x128x128 .f32) (t s : Fin 128) :
    (select k0_pay11 (shapeCast S128x128 w shapeCasts_S1x128x128_S128x128) (broadcast S128x128 (Scalar.ofBits (F := Ideal) .f32 0x00000000#32))
      : S128x128.Idx → EReal) (ix2 t s) = if s ≤ t then w (ix3 0 t s) else 0 := by
  unfold k0_pay11
  show Scalar.select (IntOp.cmpi .sge (iota .tc S128x128 32 [0] iota_S128x128_d0_w32 (ix2 t s)) (iota .tc S128x128 32 [1] iota_S128x128_d1_w32 (ix2 t s)))
    (shapeCast S128x128 w shapeCasts_S1x128x128_S128x128 (ix2 t s)) (Ideal.ofBits .f32 0x00000000#32) = _
  rw [iota_single_apply, iota_single_apply]
  show Scalar.select (IntOp.cmpi .sge (BitVec.ofNat 32 t.val) (BitVec.ofNat 32 s.val)) _ _ = _
  rw [select_sge, Ideal.ofBits_zero_f32]
  refine congrArg (fun z : EReal => if s ≤ t then z else 0) ?_
  refine shapeCast_apply w shapeCasts_S1x128x128_S128x128 _ _ ?_
  rw [Shape.rowMajor_val_two, Shape.rowMajor_val_three]
  show (0 * 128 + t.val) * 128 + s.val = t.val * 128 + s.val
  omega

/-- The column group of a column. -/
def grp (c : Fin 512) : Fin 4 := ⟨c.val / 128, by omega⟩

/-- One group's product on the chunk that starts at row o of the block. -/
theorem prod_apply (o p : ℕ) (A : FVec Ideal S128x128 .bf16) (v : FVec Ideal S512x512 .bf16) (hs : S512x512.Slices ![o, p] S128x128)
    (t d : Fin 128) (ho : o + 128 ≤ 512) (hp : p + 128 ≤ 512) :
    (matmul (F := Ideal) (φ₁ := .bf16) (φ₂ := .bf16) dot_S128x128_S128x128_S128x128_1_0_0_1_n_n none A (extractStridedSlice S128x128 ![o, p] v hs)
      (constant (F := Ideal) S128x128 .f32 0x00000000#32) : S128x128.Idx → EReal) (ix2 t d)
      = ∑ s : Fin 128, A (ix2 t s) * v (ix2 (⟨o + s.val, by omega⟩ : Fin 512) (⟨p + d.val, by omega⟩ : Fin 512)) := by
  show (FloatOps.matmul (F := Ideal) (DotDims.plain 128 128 128) none A (extractStridedSlice S128x128 ![o, p] v hs)
      (constant S128x128 .f32 0x00000000#32) (ix2 t d) : EReal) = _
  rw [Ideal.matmul_plain_apply, constant_apply, Ideal.ofBits_zero_f32, zero_add]
  refine Finset.sum_congr rfl fun s _ => congrArg (A (ix2 t s) * ·) ?_
  refine extractStridedSlice_apply ![o, p] v hs _ _ (fun a => ?_)
  match a with
  | ⟨0, _⟩ => rfl
  | ⟨1, _⟩ => rfl

/-- Four blocks side by side, at one element. -/
theorem beside_apply (x0 x1 x2 x3 : S128x128.Idx → EReal) (t : Fin 128) (c : Fin 512) :
    (concatenate S128x512 1 [⟨S128x128, x0⟩, ⟨S128x128, x1⟩, ⟨S128x128, x2⟩, ⟨S128x128, x3⟩]
      concatenates_S128x128_S128x128_S128x128_S128x128_S128x512_d1 : S128x512.Idx → EReal) (ix2 t c)
      = (![x0, x1, x2, x3] (grp c)) (ix2 t ⟨c.val % 128, Nat.mod_lt _ (by decide)⟩) := by
  have hc := c.isLt
  have hcase : c.val / 128 = 0 ∨ c.val / 128 = 1 ∨ c.val / 128 = 2 ∨ c.val / 128 = 3 := by omega
  have hd : c.val % 128 < 128 := Nat.mod_lt _ (by decide)
  have hoff : ∀ b : Fin S128x128.rank, b.cast (rfl : S128x128.rank = S128x512.rank) ≠ 1 →
      ((ix2 t (⟨c.val % 128, hd⟩ : Fin 128) : S128x128.Idx) b).val = ((ix2 t c : S128x512.Idx) (b.cast rfl)).val := fun b =>
    match b with
    | ⟨0, _⟩ => fun _ => rfl
    | ⟨1, _⟩ => fun hb => absurd rfl hb
  rcases hcase with hg | hg | hg | hg
  · rw [show grp c = 0 from Fin.ext hg]
    refine concatenate_apply_piece (t := S128x512) 1 [⟨S128x128, x0⟩, ⟨S128x128, x1⟩, ⟨S128x128, x2⟩, ⟨S128x128, x3⟩]
      concatenates_S128x128_S128x128_S128x128_S128x128_S128x512_d1 (ix2 t c) 0 (by simp) S128x128 x0 rfl rfl 0 rfl _ hoff ?_
    show 0 + c.val % 128 = c.val
    omega
  · rw [show grp c = 1 from Fin.ext hg]
    refine concatenate_apply_piece (t := S128x512) 1 [⟨S128x128, x0⟩, ⟨S128x128, x1⟩, ⟨S128x128, x2⟩, ⟨S128x128, x3⟩]
      concatenates_S128x128_S128x128_S128x128_S128x128_S128x512_d1 (ix2 t c) 1 (by simp) S128x128 x1 rfl rfl 128 rfl _ hoff ?_
    show 128 + c.val % 128 = c.val
    omega
  · rw [show grp c = 2 from Fin.ext hg]
    refine concatenate_apply_piece (t := S128x512) 1 [⟨S128x128, x0⟩, ⟨S128x128, x1⟩, ⟨S128x128, x2⟩, ⟨S128x128, x3⟩]
      concatenates_S128x128_S128x128_S128x128_S128x128_S128x512_d1 (ix2 t c) 2 (by simp) S128x128 x2 rfl rfl 256 rfl _ hoff ?_
    show 256 + c.val % 128 = c.val
    omega
  · rw [show grp c = 3 from Fin.ext hg]
    refine concatenate_apply_piece (t := S128x512) 1 [⟨S128x128, x0⟩, ⟨S128x128, x1⟩, ⟨S128x128, x2⟩, ⟨S128x128, x3⟩]
      concatenates_S128x128_S128x128_S128x128_S128x128_S128x512_d1 (ix2 t c) 3 (by simp) S128x128 x3 rfl rfl 384 rfl _ hoff ?_
    show 384 + c.val % 128 = c.val
    omega

/-- Four blocks one under another, at one element. -/
theorem under_apply (x0 x1 x2 x3 : S128x512.Idx → EReal) (r : Fin 512) (c : Fin 512) :
    (concatenate S512x512 0 [⟨S128x512, x0⟩, ⟨S128x512, x1⟩, ⟨S128x512, x2⟩, ⟨S128x512, x3⟩]
      concatenates_S128x512_S128x512_S128x512_S128x512_S512x512_d0 : S512x512.Idx → EReal) (ix2 r c)
      = (![x0, x1, x2, x3] (grp r)) (ix2 ⟨r.val % 128, Nat.mod_lt _ (by decide)⟩ c) := by
  have hr := r.isLt
  have hcase : r.val / 128 = 0 ∨ r.val / 128 = 1 ∨ r.val / 128 = 2 ∨ r.val / 128 = 3 := by omega
  have hd : r.val % 128 < 128 := Nat.mod_lt _ (by decide)
  have hoff : ∀ b : Fin S128x512.rank, b.cast (rfl : S128x512.rank = S512x512.rank) ≠ 0 →
      ((ix2 (⟨r.val % 128, hd⟩ : Fin 128) c : S128x512.Idx) b).val = ((ix2 r c : S512x512.Idx) (b.cast rfl)).val := fun b =>
    match b with
    | ⟨0, _⟩ => fun hb => absurd rfl hb
    | ⟨1, _⟩ => fun _ => rfl
  rcases hcase with hg | hg | hg | hg
  · rw [show grp r = 0 from Fin.ext hg]
    refine concatenate_apply_piece (t := S512x512) 0 [⟨S128x512, x0⟩, ⟨S128x512, x1⟩, ⟨S128x512, x2⟩, ⟨S128x512, x3⟩]
      concatenates_S128x512_S128x512_S128x512_S128x512_S512x512_d0 (ix2 r c) 0 (by simp) S128x512 x0 rfl rfl 0 rfl _ hoff ?_
    show 0 + r.val % 128 = r.val
    omega
  · rw [show grp r = 1 from Fin.ext hg]
    refine concatenate_apply_piece (t := S512x512) 0 [⟨S128x512, x0⟩, ⟨S128x512, x1⟩, ⟨S128x512, x2⟩, ⟨S128x512, x3⟩]
      concatenates_S128x512_S128x512_S128x512_S128x512_S512x512_d0 (ix2 r c) 1 (by simp) S128x512 x1 rfl rfl 128 rfl _ hoff ?_
    show 128 + r.val % 128 = r.val
    omega
  · rw [show grp r = 2 from Fin.ext hg]
    refine concatenate_apply_piece (t := S512x512) 0 [⟨S128x512, x0⟩, ⟨S128x512, x1⟩, ⟨S128x512, x2⟩, ⟨S128x512, x3⟩]
      concatenates_S128x512_S128x512_S128x512_S128x512_S512x512_d0 (ix2 r c) 2 (by simp) S128x512 x2 rfl rfl 256 rfl _ hoff ?_
    show 256 + r.val % 128 = r.val
    omega
  · rw [show grp r = 3 from Fin.ext hg]
    refine concatenate_apply_piece (t := S512x512) 0 [⟨S128x512, x0⟩, ⟨S128x512, x1⟩, ⟨S128x512, x2⟩, ⟨S128x512, x3⟩]
      concatenates_S128x512_S128x512_S128x512_S128x512_S512x512_d0 (ix2 r c) 3 (by simp) S128x512 x3 rfl rfl 384 rfl _ hoff ?_
    show 384 + r.val % 128 = r.val
    omega

/-- The four groups' products side by side, at one element. -/
theorem mix_apply (o : ℕ) (ho : o + 128 ≤ 512) (A : Fin 4 → FVec Ideal S128x128 .bf16) (v : FVec Ideal S512x512 .bf16)
    (h0 : S512x512.Slices ![o, 0] S128x128) (h1 : S512x512.Slices ![o, 128] S128x128) (h2 : S512x512.Slices ![o, 256] S128x128)
    (h3 : S512x512.Slices ![o, 384] S128x128) (t : Fin 128) (c : Fin 512) :
    (concatenate S128x512 1
      [⟨S128x128, matmul (F := Ideal) (φ₁ := .bf16) (φ₂ := .bf16) dot_S128x128_S128x128_S128x128_1_0_0_1_n_n none (A 0) (extractStridedSlice S128x128 ![o, 0] v h0) (constant (F := Ideal) S128x128 .f32 0x00000000#32)⟩,
       ⟨S128x128, matmul (F := Ideal) (φ₁ := .bf16) (φ₂ := .bf16) dot_S128x128_S128x128_S128x128_1_0_0_1_n_n none (A 1) (extractStridedSlice S128x128 ![o, 128] v h1) (constant (F := Ideal) S128x128 .f32 0x00000000#32)⟩,
       ⟨S128x128, matmul (F := Ideal) (φ₁ := .bf16) (φ₂ := .bf16) dot_S128x128_S128x128_S128x128_1_0_0_1_n_n none (A 2) (extractStridedSlice S128x128 ![o, 256] v h2) (constant (F := Ideal) S128x128 .f32 0x00000000#32)⟩,
       ⟨S128x128, matmul (F := Ideal) (φ₁ := .bf16) (φ₂ := .bf16) dot_S128x128_S128x128_S128x128_1_0_0_1_n_n none (A 3) (extractStridedSlice S128x128 ![o, 384] v h3) (constant (F := Ideal) S128x128 .f32 0x00000000#32)⟩]
      concatenates_S128x128_S128x128_S128x128_S128x128_S128x512_d1 : S128x512.Idx → EReal) (ix2 t c)
      = ∑ s : Fin 128, A (grp c) (ix2 t s) * v (ix2 (⟨o + s.val, by omega⟩ : Fin 512) c) := by
  have hc := c.isLt
  have hcase : c.val / 128 = 0 ∨ c.val / 128 = 1 ∨ c.val / 128 = 2 ∨ c.val / 128 = 3 := by omega
  refine (beside_apply _ _ _ _ t c).trans ?_
  rcases hcase with hg | hg | hg | hg
  · rw [show grp c = 0 from Fin.ext hg]
    refine (prod_apply o 0 (A 0) v h0 t _ ho (by decide)).trans ?_
    refine Finset.sum_congr rfl fun s _ => congrArg (fun z : Fin 512 => A 0 (ix2 t s) * v (ix2 _ z)) (Fin.ext ?_)
    show 0 + c.val % 128 = c.val
    omega
  · rw [show grp c = 1 from Fin.ext hg]
    refine (prod_apply o 128 (A 1) v h1 t _ ho (by decide)).trans ?_
    refine Finset.sum_congr rfl fun s _ => congrArg (fun z : Fin 512 => A 1 (ix2 t s) * v (ix2 _ z)) (Fin.ext ?_)
    show 128 + c.val % 128 = c.val
    omega
  · rw [show grp c = 2 from Fin.ext hg]
    refine (prod_apply o 256 (A 2) v h2 t _ ho (by decide)).trans ?_
    refine Finset.sum_congr rfl fun s _ => congrArg (fun z : Fin 512 => A 2 (ix2 t s) * v (ix2 _ z)) (Fin.ext ?_)
    show 256 + c.val % 128 = c.val
    omega
  · rw [show grp c = 3 from Fin.ext hg]
    refine (prod_apply o 384 (A 3) v h3 t _ ho (by decide)).trans ?_
    refine Finset.sum_congr rfl fun s _ => congrArg (fun z : Fin 512 => A 3 (ix2 t s) * v (ix2 _ z)) (Fin.ext ?_)
    show 384 + c.val % 128 = c.val
    omega

/-- A chunk of the gated rows, at one element. -/
theorem chunk_apply (o : ℕ) (ho : o + 128 ≤ 512) (u : FVec Ideal S512x512 .f32) (M b : FVec Ideal S128x512 .f32) (hs : S512x512.Slices ![o, 0] S128x512)
    (hb : S128x512.ShapeCasts S128x512) (t : Fin 128) (c : Fin 512) :
    mulf (extractStridedSlice S128x512 ![o, 0] u hs) (addf M (shapeCast S128x512 b hb)) (ix2 t c)
      = u (ix2 (⟨o + t.val, by omega⟩ : Fin 512) c) * (M (ix2 t c) + b (ix2 t c)) := by
  rw [shapeCast_self]
  show (extractStridedSlice S128x512 ![o, 0] u hs (ix2 t c) * (M (ix2 t c) + b (ix2 t c)) : EReal) = _
  refine congrArg (fun z : EReal => z * (M (ix2 t c) + b (ix2 t c))) ?_
  refine extractStridedSlice_apply ![o, 0] u hs _ _ (fun a => ?_)
  match a with
  | ⟨0, _⟩ => rfl
  | ⟨1, _⟩ => show c.val = 0 + c.val; omega

/-- What the mixing stores: the gated rows of the block, at one element. -/
theorem pay1_apply (u : FVec Ideal S512x512 .f32) (v : FVec Ideal S512x512 .bf16) (b : Vec Ideal S128x512 .f32)
    (w0 w1 w2 w3 : Vec Ideal S1x128x128 .f32) (r : Fin 512) (c : Fin 512) :
    k0_pay1 u v (k0_pay13 w0) (k0_pay14 w1) (k0_pay15 w2) (k0_pay18 k0_pay11 (k0_pay16 w3) k0_pay17)
      (k0_pay19 u k0_pay11 v (k0_pay13 w0) (k0_pay14 w1) (k0_pay15 w2) (k0_pay16 w3) k0_pay17 b)
      (k0_pay20 u k0_pay11 v (k0_pay13 w0) (k0_pay14 w1) (k0_pay15 w2) (k0_pay16 w3) k0_pay17 b)
      (k0_pay21 k0_pay11 v (k0_pay13 w0) (k0_pay14 w1) (k0_pay15 w2) (k0_pay16 w3) k0_pay17) (k0_pay22 u) (k0_pay23 b) b (ix3 0 r c)
      = u (ix2 r c) * (∑ s : Fin 128, (if s ≤ (⟨r.val % 128, Nat.mod_lt _ (by decide)⟩ : Fin 128)
            then (![w0, w1, w2, w3] (grp c)) (ix3 0 ⟨r.val % 128, Nat.mod_lt _ (by decide)⟩ s) else 0)
              * v (ix2 (⟨r.val / 128 * 128 + s.val, by omega⟩ : Fin 512) c)
          + b (ix2 ⟨r.val % 128, Nat.mod_lt _ (by decide)⟩ c)) := by
  have hr := r.isLt
  have ht : r.val % 128 < 128 := Nat.mod_lt _ (by decide)
  -- the four groups' triangles as one family
  let A : Fin 4 → FVec Ideal S128x128 .bf16 := fun g => ![k0_pay13 w0, k0_pay14 w1, k0_pay15 w2, k0_pay18 k0_pay11 (k0_pay16 w3) k0_pay17] g
  have hA : ∀ (g : Fin 4) (t s : Fin 128), (A g (ix2 t s) : EReal) = if s ≤ t then (![w0, w1, w2, w3] g) (ix3 0 t s) else 0 := by
    intro g t s
    match g with
    | ⟨0, _⟩ => exact lower_apply w0 t s
    | ⟨1, _⟩ => exact lower_apply w1 t s
    | ⟨2, _⟩ => exact lower_apply w2 t s
    | ⟨3, _⟩ => exact lower_apply w3 t s
  have key : ∀ (q : ℕ) (hq : r.val / 128 = q) (hq' : q * 128 + 128 ≤ 512),
      u (ix2 (⟨q * 128 + (r.val % 128), by omega⟩ : Fin 512) c) * ((∑ s : Fin 128, A (grp c) (ix2 ⟨r.val % 128, ht⟩ s)
        * v (ix2 (⟨q * 128 + s.val, by omega⟩ : Fin 512) c)) + b (ix2 ⟨r.val % 128, ht⟩ c))
      = u (ix2 r c) * (∑ s : Fin 128, (if s ≤ (⟨r.val % 128, ht⟩ : Fin 128)
            then (![w0, w1, w2, w3] (grp c)) (ix3 0 ⟨r.val % 128, ht⟩ s) else 0)
              * v (ix2 (⟨r.val / 128 * 128 + s.val, by omega⟩ : Fin 512) c)
          + b (ix2 ⟨r.val % 128, ht⟩ c)) := by
    intro q hq hq'
    subst hq
    refine congrArg₂ (fun x y : EReal => x * (y + b (ix2 ⟨r.val % 128, ht⟩ c))) (congrArg (fun z : Fin 512 => u (ix2 z c)) (Fin.ext ?_))
      (Finset.sum_congr rfl fun s _ => congrArg (fun z : EReal => z * v (ix2 _ c)) (hA _ _ _))
    show r.val / 128 * 128 + r.val % 128 = r.val
    omega
  unfold k0_pay1
  refine (shapeCast_apply (s := S512x512) (t := S1x512x512) _ shapeCasts_S512x512_S1x512x512 (ix3 0 r c) (ix2 r c) ?_).trans ?_
  · rw [Shape.rowMajor_val_two, Shape.rowMajor_val_three]
    show r.val * 512 + c.val = (0 * 512 + r.val) * 512 + c.val
    omega
  have hcase : r.val / 128 = 0 ∨ r.val / 128 = 1 ∨ r.val / 128 = 2 ∨ r.val / 128 = 3 := by omega
  refine (under_apply _ _ _ _ r c).trans ?_
  rcases hcase with hq | hq | hq | hq
  · rw [show grp r = 0 from Fin.ext hq]
    refine (chunk_apply 0 (by decide) u _ b slices_S512x512_o0_0_S128x512 shapeCasts_S128x512_S128x512 ⟨r.val % 128, ht⟩ c).trans ?_
    refine Eq.trans ?_ (key 0 hq (by decide))
    refine congrArg (fun y : EReal => u (ix2 _ c) * (y + b (ix2 ⟨r.val % 128, ht⟩ c))) ?_
    exact mix_apply 0 (by decide) A v _ _ _ _ ⟨r.val % 128, ht⟩ c
  · rw [show grp r = 1 from Fin.ext hq]
    refine (chunk_apply 128 (by decide) u _ b slices_S512x512_o128_0_S128x512 shapeCasts_S128x512_S128x512 ⟨r.val % 128, ht⟩ c).trans ?_
    refine Eq.trans ?_ (key 1 hq (by decide))
    refine congrArg (fun y : EReal => u (ix2 _ c) * (y + b (ix2 ⟨r.val % 128, ht⟩ c))) ?_
    exact mix_apply 128 (by decide) A v _ _ _ _ ⟨r.val % 128, ht⟩ c
  · rw [show grp r = 2 from Fin.ext hq]
    refine (chunk_apply 256 (by decide) u _ b slices_S512x512_o256_0_S128x512 shapeCasts_S128x512_S128x512 ⟨r.val % 128, ht⟩ c).trans ?_
    refine Eq.trans ?_ (key 2 hq (by decide))
    refine congrArg (fun y : EReal => u (ix2 _ c) * (y + b (ix2 ⟨r.val % 128, ht⟩ c))) ?_
    exact mix_apply 256 (by decide) A v _ _ _ _ ⟨r.val % 128, ht⟩ c
  · rw [show grp r = 3 from Fin.ext hq]
    refine (chunk_apply 384 (by decide) u _ b slices_S512x512_o384_0_S128x512 shapeCasts_S128x512_S128x512 ⟨r.val % 128, ht⟩ c).trans ?_
    refine Eq.trans ?_ (key 3 hq (by decide))
    refine congrArg (fun y : EReal => u (ix2 _ c) * (y + b (ix2 ⟨r.val % 128, ht⟩ c))) ?_
    exact mix_apply 384 (by decide) A v _ _ _ _ ⟨r.val % 128, ht⟩ c

/-- The last chunk of the block's normalised rows. -/
theorem pay2_apply (v : FVec Ideal S512x512 .f32) (t : Fin 128) (c : Fin 512) :
    k0_pay2 v (ix3 0 t c) = v (ix2 (⟨384 + t.val, by omega⟩ : Fin 512) c) := by
  unfold k0_pay2
  refine (shapeCast_apply (s := S128x512) (t := S1x128x512) _ shapeCasts_S128x512_S1x128x512 (ix3 0 t c) (ix2 t c) ?_).trans ?_
  · rw [Shape.rowMajor_val_two, Shape.rowMajor_val_three]
    show t.val * 512 + c.val = (0 * 128 + t.val) * 512 + c.val
    omega
  · refine extractStridedSlice_apply ![384, 0] v slices_S512x512_o384_0_S128x512 _ _ (fun a => ?_)
    match a with
    | ⟨0, _⟩ => rfl
    | ⟨1, _⟩ => show c.val = 0 + c.val; omega

/-! ## Loads through a part of a block -/

theorem ldw_apply (X : Vec Ideal S1x4480x2048 .bf16) (o N : ℕ) (hN : o + N ≤ 4480)
    (inb : ∀ a, ![0, o, 0] a + ![1, N, 2048] a ≤ S1x4480x2048.size a) (n : Fin N) (k : Fin 2048) :
    (View.ld X (Rect.unit (s := S1x4480x2048) ![0, o, 0] ![1, N, 2048] inb) (ix3 0 n k) : EReal) = X (ix3 0 (⟨o + n.val, by omega⟩ : Fin 4480) k) := by
  refine View.ld_unit_apply_of X ![0, o, 0] ![1, N, 2048] inb _ _ (fun a => ?_)
  match a with
  | ⟨0, _⟩ => rfl
  | ⟨1, _⟩ => rfl
  | ⟨2, _⟩ => show k.val = 0 + k.val; omega

theorem ldg_apply (X : Vec Ideal S4x128x128 .f32) (g : Fin 4)
    (inb : ∀ a, ![g.val, 0, 0] a + S1x128x128.size a ≤ S4x128x128.size a) (t s : Fin 128) :
    (View.ld X (Rect.unit (s := S4x128x128) ![g.val, 0, 0] S1x128x128.size inb) (ix3 0 t s) : EReal) = X (ix3 g t s) := by
  refine View.ld_unit_apply_of X ![g.val, 0, 0] S1x128x128.size inb _ _ (fun a => ?_)
  match a with
  | ⟨0, _⟩ => rfl
  | ⟨1, _⟩ => show t.val = 0 + t.val; omega
  | ⟨2, _⟩ => show s.val = 0 + s.val; omega

/-! ## What a point leaves in its output blocks -/

section Cases

variable {F : FTy → Type} [FloatOps F]

variable (c : Dev nD) (i : grid0.Coords) (arg1 : Memref sig .tc .vmem S512x2048 .bf16) (harg1 : arg1.IsWhole) (arg2 : Memref sig .tc .vmem S1x4480x2048 .bf16) (harg2 : arg2.IsWhole) (arg3 : Memref sig .tc .vmem S1x512 .f32) (harg3 : arg3.IsWhole) (arg4 : Memref sig .tc .vmem S4x128x128 .f32) (harg4 : arg4.IsWhole) (arg5 : Memref sig .tc .vmem S128x512 .f32) (harg5 : arg5.IsWhole) (arg6 : Memref sig .tc .vmem S512x768 .f32) (harg6 : arg6.IsWhole) (arg7 : Memref sig .tc .vmem S512x512 .f32) (harg7 : arg7.IsWhole) (arg8 : Memref sig .tc .vmem S512x2176 .f32) (harg8 : arg8.IsWhole) (arg9 : Memref sig .tc .vmem S1x512x512 .bf16) (harg9 : arg9.IsWhole) (arg10 : Memref sig .tc .vmem S1x128x512 .f32) (harg10 : arg10.IsWhole)
variable (x0 : Vec F S512x2048 .bf16) (x1 : Vec F S1x4480x2048 .bf16) (x2 : Vec F S1x512 .f32) (x3 : Vec F S4x128x128 .f32) (x4 : Vec F S128x512 .f32)

/-- The rows of the weights one product takes. -/
abbrev rowsAtt (x1 : Vec F S1x4480x2048 .bf16) : Vec F S1x768x2048 .bf16 :=
  View.ld x1 (Rect.unit (s := S1x4480x2048) ![0, 0, 0] S1x768x2048.size inb_S1x4480x2048_S1x768x2048_0_0_0)
abbrev rowsSsm (x1 : Vec F S1x4480x2048 .bf16) : Vec F S1x512x2048 .bf16 :=
  View.ld x1 (Rect.unit (s := S1x4480x2048) ![0, 768, 0] S1x512x2048.size inb_S1x4480x2048_S1x512x2048_0_768_0)
abbrev rowsDn (x1 : Vec F S1x4480x2048 .bf16) : Vec F S1x2176x2048 .bf16 :=
  View.ld x1 (Rect.unit (s := S1x4480x2048) ![0, 2304, 0] S1x2176x2048.size inb_S1x4480x2048_S1x2176x2048_0_2304_0)
abbrev rowsSg (x1 : Vec F S1x4480x2048 .bf16) : Vec F S1x1024x2048 .bf16 :=
  View.ld x1 (Rect.unit (s := S1x4480x2048) ![0, 1280, 0] S1x1024x2048.size inb_S1x4480x2048_S1x1024x2048_0_1280_0)
/-- One group's mixing matrix. -/
abbrev mat0 (x3 : Vec F S4x128x128 .f32) : Vec F S1x128x128 .f32 := View.ld x3 (Rect.unit (s := S4x128x128) ![0, 0, 0] S1x128x128.size inb_S4x128x128_S1x128x128_0_0_0)
abbrev mat1 (x3 : Vec F S4x128x128 .f32) : Vec F S1x128x128 .f32 := View.ld x3 (Rect.unit (s := S4x128x128) ![1, 0, 0] S1x128x128.size inb_S4x128x128_S1x128x128_1_0_0)
abbrev mat2 (x3 : Vec F S4x128x128 .f32) : Vec F S1x128x128 .f32 := View.ld x3 (Rect.unit (s := S4x128x128) ![2, 0, 0] S1x128x128.size inb_S4x128x128_S1x128x128_2_0_0)
abbrev mat3 (x3 : Vec F S4x128x128 .f32) : Vec F S1x128x128 .f32 := View.ld x3 (Rect.unit (s := S4x128x128) ![3, 0, 0] S1x128x128.size inb_S4x128x128_S1x128x128_3_0_0)

/-- The gated rows a point stores, of its blocks. -/
abbrev gated (x0 : Vec F S512x2048 .bf16) (x1 : Vec F S1x4480x2048 .bf16) (x2 : Vec F S1x512 .f32) (x3 : Vec F S4x128x128 .f32) (x4 : Vec F S128x512 .f32) :
    FVec F S1x512x512 .bf16 :=
  let z := k0_pay6 x0 (rowsSg x1)
  let e := k0_pay7 x0 (rowsSg x1)
  let u := k0_pay9 z e
  let v := k0_pay12 z e x2
  k0_pay1 u v (k0_pay13 (mat0 x3)) (k0_pay14 (mat1 x3)) (k0_pay15 (mat2 x3)) (k0_pay18 k0_pay11 (k0_pay16 (mat3 x3)) k0_pay17)
    (k0_pay19 u k0_pay11 v (k0_pay13 (mat0 x3)) (k0_pay14 (mat1 x3)) (k0_pay15 (mat2 x3)) (k0_pay16 (mat3 x3)) k0_pay17 x4)
    (k0_pay20 u k0_pay11 v (k0_pay13 (mat0 x3)) (k0_pay14 (mat1 x3)) (k0_pay15 (mat2 x3)) (k0_pay16 (mat3 x3)) k0_pay17 x4)
    (k0_pay21 k0_pay11 v (k0_pay13 (mat0 x3)) (k0_pay14 (mat1 x3)) (k0_pay15 (mat2 x3)) (k0_pay16 (mat3 x3)) k0_pay17) (k0_pay22 u) (k0_pay23 x4) x4

theorem out5_eq : out0_A_5 c i arg1 harg1 arg2 harg2 arg3 harg3 arg4 harg4 arg5 harg5 arg6 harg6 arg7 harg7 arg8 harg8 arg9 harg9 arg10 harg10 x0 x1 x2 x3 x4 = k0_pay3 x0 (rowsAtt x1) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 x0 x1 x2 x3 x4)]
  unfold kernelRun0_A
  sl_unfold_words
  rw [View.canon_unit_zero hz2]
  simp only [View.readAt_eq_ld, harg1.read_unread, harg2.read_unread, harg3.read_unread, harg4.read_unread, harg5.read_unread,
    View.ld_unit_zero (S := S512x2048) hz2, View.ld_unit_zero (S := S1x512) hz2, View.ld_unit_zero (S := S128x512) hz2]

theorem out6_eq : out0_A_6 c i arg1 harg1 arg2 harg2 arg3 harg3 arg4 harg4 arg5 harg5 arg6 harg6 arg7 harg7 arg8 harg8 arg9 harg9 arg10 harg10 x0 x1 x2 x3 x4 = k0_pay4 x0 (rowsSsm x1) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4)]
  unfold kernelRun0_A
  sl_unfold_words
  rw [View.canon_unit_zero hz2]
  simp only [View.readAt_eq_ld, harg1.read_unread, harg2.read_unread, harg3.read_unread, harg4.read_unread, harg5.read_unread,
    View.ld_unit_zero (S := S512x2048) hz2, View.ld_unit_zero (S := S1x512) hz2, View.ld_unit_zero (S := S128x512) hz2]

theorem out7_eq : out0_A_7 c i arg1 harg1 arg2 harg2 arg3 harg3 arg4 harg4 arg5 harg5 arg6 harg6 arg7 harg7 arg8 harg8 arg9 harg9 arg10 harg10 x0 x1 x2 x3 x4 = k0_pay5 x0 (rowsDn x1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4)]
  unfold kernelRun0_A
  sl_unfold_words
  rw [View.canon_unit_zero hz2]
  simp only [View.readAt_eq_ld, harg1.read_unread, harg2.read_unread, harg3.read_unread, harg4.read_unread, harg5.read_unread,
    View.ld_unit_zero (S := S512x2048) hz2, View.ld_unit_zero (S := S1x512) hz2, View.ld_unit_zero (S := S128x512) hz2]

theorem out8_eq : out0_A_8 c i arg1 harg1 arg2 harg2 arg3 harg3 arg4 harg4 arg5 harg5 arg6 harg6 arg7 harg7 arg8 harg8 arg9 harg9 arg10 harg10 x0 x1 x2 x3 x4 = gated x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4)]
  unfold kernelRun0_A
  sl_unfold_words
  rw [View.canon_unit_zero hz3]
  simp only [View.readAt_eq_ld, harg1.read_unread, harg2.read_unread, harg3.read_unread, harg4.read_unread, harg5.read_unread,
    View.ld_unit_zero (S := S512x2048) hz2, View.ld_unit_zero (S := S1x512) hz2, View.ld_unit_zero (S := S128x512) hz2]

theorem out9_eq : out0_A_9 c i arg1 harg1 arg2 harg2 arg3 harg3 arg4 harg4 arg5 harg5 arg6 harg6 arg7 harg7 arg8 harg8 arg9 harg9 arg10 harg10 x0 x1 x2 x3 x4 = k0_pay2 (k0_pay10 (k0_pay6 x0 (rowsSg x1)) (k0_pay7 x0 (rowsSg x1)) x2) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4)]
  unfold kernelRun0_A
  sl_unfold_words
  rw [View.canon_unit_zero hz3]
  simp only [View.readAt_eq_ld, harg1.read_unread, harg2.read_unread, harg3.read_unread, harg4.read_unread, harg5.read_unread,
    View.ld_unit_zero (S := S512x2048) hz2, View.ld_unit_zero (S := S1x512) hz2, View.ld_unit_zero (S := S128x512) hz2]

end Cases
/-! ## The results, index by index -/

section Results

variable (h : S8192x2048.Idx → EReal) (w : S4x14336x2048.Idx → EReal) (g : S4x512.Idx → EReal) (sw : S4x4x128x128.Idx → EReal)
  (sb : S4x4x128.Idx → EReal)

/-- The input projection: row R against the weights' row n. -/
def proj (R : Fin 8192) (n : Fin 14336) : EReal := ∑ k : Fin 2048, h (ix2 R k) * w (ix3 0 n k)

/-- The attention's columns. -/
def att : S8192x768.Idx → EReal := fun i => proj h w (i 0) ⟨(i 1).val, lt_trans (i 1).isLt (by decide)⟩

/-- The state space's columns. -/
def ssm : S8192x512.Idx → EReal :=
  fun i => proj h w (i 0) ⟨768 + (i 1).val, lt_trans (Nat.add_lt_add_left (i 1).isLt 768) (by decide)⟩

/-- The delta rule's columns. -/
def dn : S8192x2176.Idx → EReal :=
  fun i => proj h w (i 0) ⟨2304 + (i 1).val, lt_trans (Nat.add_lt_add_left (i 1).isLt 2304) (by decide)⟩

/-- The gate's columns after the activation. -/
def gate (R : Fin 8192) (c : Fin 512) : EReal :=
  gelu (proj h w R ⟨1280 + c.val, lt_trans (Nat.add_lt_add_left c.isLt 1280) (by decide)⟩)

/-- The mixed columns after the activation and the normalisation. -/
def vrow (R : Fin 8192) (c : Fin 512) : EReal :=
  normRow 0x44000000#32 (fun n : Fin 512 => gelu (proj h w R ⟨1792 + n.val, lt_trans (Nat.add_lt_add_left n.isLt 1792) (by decide)⟩))
    (fun n => g (ix2 0 n)) c

/-- A row's position in its chunk, and the row at another position of the same chunk. -/
def pos (R : Fin 8192) : Fin 128 := ⟨R.val % 128, Nat.mod_lt _ (by decide)⟩
def mate (R : Fin 8192) (s : Fin 128) : Fin 8192 := ⟨R.val / 128 * 128 + s.val, by omega⟩

/-- The spatial gating: the chunk's earlier rows mixed by their group's lower triangle, a bias for every position, the
    gate. -/
def mixed (R : Fin 8192) (c : Fin 512) : EReal :=
  gate h w R c * (∑ s : Fin 128, (if s ≤ pos R then sw (ix4 0 (grp c) (pos R) s) else 0) * vrow h w g (mate R s) c
    + sb (ix3 0 (grp c) (pos R)))
def gatedRows : S8192x512.Idx → EReal := fun i => mixed h w g sw sb (i 0) (i 1)

/-- The same rows on every plane of the array the mixers' outputs share; the call writes plane two. -/
def planes : S4x8192x512.Idx → EReal := fun i => mixed h w g sw sb (i 1) (i 2)

/-- The last chunk of every sequence. -/
def lastChunk : S2x128x512.Idx → EReal := fun i =>
  vrow h w g ⟨(i 0).val * 4096 + 3968 + (i 1).val, by
    have h0 : (i 0).val < 2 := (i 0).isLt
    have h1 : (i 1).val < 128 := (i 1).isLt
    omega⟩ (i 2)

end Results

/-! ## The blocks the launch hands a point -/

variable (m : (ℓ : Loc nD τ sig) → Buf (Elt Ideal) ℓ) (ρ : Dev nD → PrngReg)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0, 0] :=
  (by decide +kernel : ∀ t : Fin grid0.N, win0_1.index t = ![0, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![2, t.val, 0] :=
  (by decide +kernel : ∀ t : Fin grid0.N, win0_8.index t = ![2, t.val, 0])
theorem idx9 : ∀ t : Fin cfg0.N, win0_9.index t = ![t.val / 8, 0, 0] :=
  (by decide +kernel : ∀ t : Fin grid0.N, win0_9.index t = ![t.val / 8, 0, 0])

theorem V_arg0 (c : Dev nD) : V m c main_arg0 = m ((c : Thread nD τ).loc main_arg0) := V_main_arg0 m c
theorem V_arg1 (c : Dev nD) : V m c main_arg1 = m ((c : Thread nD τ).loc main_arg1) := V_main_arg1 m c

/-- The normalisation's weights of the layer, as the host hands them over. -/
theorem V_v5 (c : Dev nD) (n : Fin 512) :
    (V m c main_v5 : S1x512.Idx → EReal) (ix2 0 n) = (m ((c : Thread nD τ).loc main_arg2) : S4x512.Idx → EReal) (ix2 0 n) := by
  have e : (V m c main_v5 : S1x512.Idx → EReal) = shapeCast S1x512 (extractStridedSlice S1x1x512 ![0, 0, 0]
      (broadcastInDim S4x1x512 ![0, 2] bcast_S4x512_S4x1x512_0_2 (m ((c : Thread nD τ).loc main_arg2) : S4x512.Idx → EReal))
      slices_S4x1x512_S1x1x512_0_0_0) shapeCasts_S1x1x512_S1x512 := by
    unfold V; after_results; rfl
  rw [e]
  refine (shapeCast_apply (s := S1x1x512) (t := S1x512) _ shapeCasts_S1x1x512_S1x512 (ix2 0 n) (ix3 0 0 n) ?_).trans ?_
  · rw [Shape.rowMajor_val_two, Shape.rowMajor_val_three]
    show (0 * 1 + 0) * 512 + n.val = 0 * 512 + n.val
    omega
  refine (extractStridedSlice_apply (s := S4x1x512) (t := S1x1x512) ![0, 0, 0] _ slices_S4x1x512_S1x1x512_0_0_0 (ix3 0 0 n) (ix3 0 0 n) (fun a => ?_)).trans ?_
  · match a with
    | ⟨0, _⟩ => rfl
    | ⟨1, _⟩ => rfl
    | ⟨2, _⟩ => show n.val = 0 + n.val; omega
  refine broadcastInDim_apply (s := S4x512) (t := S4x1x512) ![0, 2] bcast_S4x512_S4x1x512_0_2 _ (ix3 0 0 n) (ix2 0 n) (fun a => ?_)
  match a with
  | ⟨0, _⟩ => rfl
  | ⟨1, _⟩ => rfl

/-- The layer's mixing matrices. -/
theorem V_v7 (c : Dev nD) (q : Fin 4) (t s : Fin 128) :
    (V m c main_v7 : S4x128x128.Idx → EReal) (ix3 q t s) = (m ((c : Thread nD τ).loc main_arg3) : S4x4x128x128.Idx → EReal) (ix4 0 q t s) := by
  have e : (V m c main_v7 : S4x128x128.Idx → EReal) = shapeCast S4x128x128 (extractStridedSlice S1x4x128x128 ![0, 0, 0, 0]
      (m ((c : Thread nD τ).loc main_arg3) : S4x4x128x128.Idx → EReal)
      slices_S4x4x128x128_S1x4x128x128_0_0_0_0) shapeCasts_S1x4x128x128_S4x128x128 := by
    unfold V; rfl
  rw [e]
  refine (shapeCast_apply (s := S1x4x128x128) (t := S4x128x128) _ shapeCasts_S1x4x128x128_S4x128x128 (ix3 q t s) (ix4 0 q t s) ?_).trans ?_
  · rw [Shape.rowMajor_val_three, Shape.rowMajor_val_four]
    show ((0 * 4 + q.val) * 128 + t.val) * 128 + s.val = (q.val * 128 + t.val) * 128 + s.val
    omega
  refine extractStridedSlice_apply (s := S4x4x128x128) (t := S1x4x128x128) ![0, 0, 0, 0] _ slices_S4x4x128x128_S1x4x128x128_0_0_0_0
    (ix4 0 q t s) (ix4 0 q t s) (fun a => ?_)
  match a with
  | ⟨0, _⟩ => rfl
  | ⟨1, _⟩ => show q.val = 0 + q.val; omega
  | ⟨2, _⟩ => show t.val = 0 + t.val; omega
  | ⟨3, _⟩ => show s.val = 0 + s.val; omega

/-- The layer's biases, one for every position and group, repeated over the group's columns. -/
theorem V_v9 (c : Dev nD) (t : Fin 128) (n : Fin 512) :
    (V m c main_v9 : S128x512.Idx → EReal) (ix2 t n) = (m ((c : Thread nD τ).loc main_arg4) : S4x4x128.Idx → EReal) (ix3 0 (grp n) t) := by
  have e : (V m c main_v9 : S128x512.Idx → EReal) = shapeCast S128x512 (extractStridedSlice S1x128x512 ![0, 0, 0]
      (shapeCast S4x128x512 (broadcastInDim S4x128x4x128 ![0, 1, 2] bcast_S4x128x4_S4x128x4x128_0_1_2
        (transpose S4x128x4 [0, 2, 1] (m ((c : Thread nD τ).loc main_arg4) : S4x4x128.Idx → EReal) transposes_S4x4x128_S4x128x4_0_2_1))
        shapeCasts_S4x128x4x128_S4x128x512) slices_S4x128x512_S1x128x512_0_0_0) shapeCasts_S1x128x512_S128x512 := by
    unfold V; after_results; rfl
  rw [e]
  have hn := n.isLt
  refine (shapeCast_apply (s := S1x128x512) (t := S128x512) _ shapeCasts_S1x128x512_S128x512 (ix2 t n) (ix3 0 t n) ?_).trans ?_
  · rw [Shape.rowMajor_val_two, Shape.rowMajor_val_three]
    show (0 * 128 + t.val) * 512 + n.val = t.val * 512 + n.val
    omega
  refine (extractStridedSlice_apply (s := S4x128x512) (t := S1x128x512) ![0, 0, 0] _ slices_S4x128x512_S1x128x512_0_0_0 (ix3 0 t n) (ix3 0 t n) (fun a => ?_)).trans ?_
  · match a with
    | ⟨0, _⟩ => rfl
    | ⟨1, _⟩ => show t.val = 0 + t.val; omega
    | ⟨2, _⟩ => show n.val = 0 + n.val; omega
  refine (shapeCast_apply (s := S4x128x4x128) (t := S4x128x512) _ shapeCasts_S4x128x4x128_S4x128x512 (ix3 0 t n)
    (ix4 0 t (grp n) ⟨n.val % 128, Nat.mod_lt _ (by decide)⟩) ?_).trans ?_
  · rw [Shape.rowMajor_val_three, Shape.rowMajor_val_four]
    show ((0 * 128 + t.val) * 4 + n.val / 128) * 128 + n.val % 128 = (0 * 128 + t.val) * 512 + n.val
    omega
  refine (broadcastInDim_apply (s := S4x128x4) (t := S4x128x4x128) ![0, 1, 2] bcast_S4x128x4_S4x128x4x128_0_1_2 _ _ (ix3 0 t (grp n)) (fun a => ?_)).trans ?_
  · match a with
    | ⟨0, _⟩ => rfl
    | ⟨1, _⟩ => rfl
    | ⟨2, _⟩ => rfl
  refine transpose_apply (s := S4x4x128) (t := S4x128x4) [0, 2, 1] _ transposes_S4x4x128_S4x128x4_0_2_1 (ix3 0 t (grp n)) (ix3 0 (grp n) t) (fun b => ?_)
  match b with
  | ⟨0, _⟩ => rfl
  | ⟨1, _⟩ => rfl
  | ⟨2, _⟩ => rfl

theorem row_lt (t : Fin cfg0.N) (r : Fin 512) : t.val * 512 + r.val < 8192 := by
  have := lt_of_lt_of_eq t.isLt (show cfg0.N = 16 from N_0)
  omega

/-- The row of the whole array that row r of a point's blocks is. -/
def row (t : Fin cfg0.N) (r : Fin 512) : Fin 8192 := ⟨t.val * 512 + r.val, row_lt t r⟩

theorem blk0 (c : Dev nD) (t : Fin cfg0.N) (r : Fin 512) (k : Fin 2048) :
    (iblk m c 0 t : S512x2048.Idx → EReal) (ix2 r k) = (m ((c : Thread nD τ).loc main_arg0) : S8192x2048.Idx → EReal) (ix2 (row t r) k) := by
  unfold iblk
  rw [View.read_apply]
  show (V m c main_arg0 : S8192x2048.Idx → EReal) ((win0_0.rect t).emb (ix2 r k)) = _
  rw [V_arg0]
  refine congrArg (m ((c : Thread nD τ).loc main_arg0) : S8192x2048.Idx → EReal) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 2048 + k.val = k.val; omega

theorem blk1 (c : Dev nD) (t : Fin cfg0.N) (n : Fin 4480) (k : Fin 2048) :
    (X0_1 m c t : S1x4480x2048.Idx → EReal) (ix3 0 n k)
      = (m ((c : Thread nD τ).loc main_arg1) : S4x14336x2048.Idx → EReal) (ix3 0 (⟨n.val, lt_trans n.isLt (by decide)⟩ : Fin 14336) k) := by
  unfold X0_1 Pipeline.Window.fill
  rw [dif_pos (moved0_1 t (ix3 0 n k))]
  unfold iblk
  rw [View.read_apply]
  show (V m c main_arg1 : S4x14336x2048.Idx → EReal) ((win0_1.rect t).emb _) = _
  rw [V_arg1]
  refine congrArg (m ((c : Thread nD τ).loc main_arg1) : S4x14336x2048.Idx → EReal) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 0 * 4480 + n.val = n.val; omega
  | ⟨2, _⟩ => refine (Window.rect_emb_val win0_1 t _ 2).trans ?_; rw [idx1]; show 0 * 2048 + k.val = k.val; omega

theorem blk2 (c : Dev nD) (t : Fin cfg0.N) (n : Fin 512) :
    (iblk m c 2 t : S1x512.Idx → EReal) (ix2 0 n) = (m ((c : Thread nD τ).loc main_arg2) : S4x512.Idx → EReal) (ix2 0 n) := by
  refine Eq.trans ?_ (V_v5 m c n)
  unfold iblk
  rw [View.read_apply]
  show (V m c main_v5 : S1x512.Idx → EReal) ((win0_2.rect t).emb (ix2 0 n)) = _
  refine congrArg (V m c main_v5 : S1x512.Idx → EReal) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; show 0 * 512 + n.val = n.val; omega

theorem blk3 (c : Dev nD) (t : Fin cfg0.N) (q : Fin 4) (p s : Fin 128) :
    (iblk m c 3 t : S4x128x128.Idx → EReal) (ix3 q p s) = (m ((c : Thread nD τ).loc main_arg3) : S4x4x128x128.Idx → EReal) (ix4 0 q p s) := by
  refine Eq.trans ?_ (V_v7 m c q p s)
  unfold iblk
  rw [View.read_apply]
  show (V m c main_v7 : S4x128x128.Idx → EReal) ((win0_3.rect t).emb (ix3 q p s)) = _
  refine congrArg (V m c main_v7 : S4x128x128.Idx → EReal) (funext fun a => Fin.ext ?_)
  match a with
  | ⟨0, _⟩ => refine (Window.rect_emb_val win0_3 t _ 0).trans ?_; rw [idx3]; show 0 * 4 + q.val = q.val; omega
  | ⟨1, _⟩ => refine (Window.rect_emb_val win0_3 t _ 1).trans ?_; rw [idx3]; show 0 * 128 + p.val = p.val; omega
  | ⟨2, _⟩ => refine (Window.rect_emb_val win0_3 t _ 2).trans ?_; rw [idx3]; show 0 * 128 + s.val = s.val; omega

theorem blk4 (c : Dev nD) (t : Fin cfg0.N) (p : Fin 128) (n : Fin 512) :
    (iblk m c 4 t : S128x512.Idx → EReal) (ix2 p n) = (m ((c : Thread nD τ).loc main_arg4) : S4x4x128.Idx → EReal) (ix3 0 (grp n) p) := by
  refine Eq.trans ?_ (V_v9 m c p n)
  unfold iblk
  rw [View.read_apply]
  show (V m c main_v9 : S128x512.Idx → EReal) ((win0_4.rect t).emb (ix2 p n)) = _
  refine congrArg (V m c main_v9 : S128x512.Idx → EReal) (funext fun a => Fin.ext ?_)
  match a with
  | ⟨0, _⟩ => refine (Window.rect_emb_val win0_4 t _ 0).trans ?_; rw [idx4]; show 0 * 128 + p.val = p.val; omega
  | ⟨1, _⟩ => refine (Window.rect_emb_val win0_4 t _ 1).trans ?_; rw [idx4]; show 0 * 512 + n.val = n.val; omega

/-! ## What a point writes back -/

/-- A row of a point's block against a row of the weights. -/
theorem proj_eq (c : Dev nD) (t : Fin cfg0.N) (o N : ℕ) (hN : o + N ≤ 4480) (inb : ∀ a, ![0, o, 0] a + ![1, N, 2048] a ≤ S1x4480x2048.size a)
    (r : Fin 512) (n : Fin N) :
    (∑ k : Fin 2048, @HMul.hMul EReal EReal EReal _ ((iblk m c 0 t : S512x2048.Idx → EReal) (ix2 r k))
      (View.ld (X0_1 m c t : Vec Ideal S1x4480x2048 .bf16) (Rect.unit (s := S1x4480x2048) ![0, o, 0] ![1, N, 2048] inb) (ix3 0 n k)))
      = proj (m ((c : Thread nD τ).loc main_arg0)) (m ((c : Thread nD τ).loc main_arg1)) (row t r) ⟨o + n.val, by omega⟩ := by
  unfold proj
  refine Finset.sum_congr rfl fun k _ => congrArg₂ (fun a b : EReal => a * b) (blk0 m c t r k) ?_
  exact (ldw_apply (X0_1 m c t) o N hN inb n k).trans (blk1 m c t _ k)

theorem stored5 (c : Dev nD) (t : Fin cfg0.N) (r : Fin 512) (n : Fin 768) :
    k0_pay3 (F := Ideal) (iblk m c 0 t) (rowsAtt (X0_1 m c t)) (ix2 r n) = att (m ((c : Thread nD τ).loc main_arg0)) (m ((c : Thread nD τ).loc main_arg1)) (ix2 (row t r) n) := by
  refine (pay3_apply _ _ r n).trans ((proj_eq m c t 0 768 (by decide) _ r n).trans ?_)
  exact congrArg (proj _ _ (row t r)) (Fin.ext (Nat.zero_add _))

theorem stored6 (c : Dev nD) (t : Fin cfg0.N) (r : Fin 512) (n : Fin 512) :
    k0_pay4 (F := Ideal) (iblk m c 0 t) (rowsSsm (X0_1 m c t)) (ix2 r n) = ssm (m ((c : Thread nD τ).loc main_arg0)) (m ((c : Thread nD τ).loc main_arg1)) (ix2 (row t r) n) :=
  (pay4_apply _ _ r n).trans (proj_eq m c t 768 512 (by decide) _ r n)

theorem stored7 (c : Dev nD) (t : Fin cfg0.N) (r : Fin 512) (n : Fin 2176) :
    k0_pay5 (F := Ideal) (iblk m c 0 t) (rowsDn (X0_1 m c t)) (ix2 r n) = dn (m ((c : Thread nD τ).loc main_arg0)) (m ((c : Thread nD τ).loc main_arg1)) (ix2 (row t r) n) :=
  (pay5_apply _ _ r n).trans (proj_eq m c t 2304 2176 (by decide) _ r n)

theorem gate_eq (c : Dev nD) (t : Fin cfg0.N) (r : Fin 512) (n : Fin 512) :
    k0_pay9 (k0_pay6 (F := Ideal) (iblk m c 0 t) (rowsSg (X0_1 m c t))) (k0_pay7 (iblk m c 0 t) (rowsSg (X0_1 m c t))) (ix2 r n)
      = gate (m ((c : Thread nD τ).loc main_arg0)) (m ((c : Thread nD τ).loc main_arg1)) (row t r) n := by
  refine (pay9_apply _ _ r n).trans (congrArg gelu ?_)
  exact proj_eq m c t 1280 1024 (by decide) _ r ⟨n.val, by omega⟩

theorem vrow_eq (c : Dev nD) (t : Fin cfg0.N) (r : Fin 512) (n : Fin 512) :
    k0_pay10 (k0_pay6 (F := Ideal) (iblk m c 0 t) (rowsSg (X0_1 m c t))) (k0_pay7 (iblk m c 0 t) (rowsSg (X0_1 m c t))) (iblk m c 2 t) (ix2 r n)
      = vrow (m ((c : Thread nD τ).loc main_arg0)) (m ((c : Thread nD τ).loc main_arg1)) (m ((c : Thread nD τ).loc main_arg2)) (row t r) n := by
  refine (pay10_apply _ _ _ r n).trans ?_
  unfold vrow
  refine congrArg₂ (fun y g => normRow 0x44000000#32 y g n) (funext fun n' => congrArg gelu ?_) (funext fun n' => blk2 m c t n')
  refine (proj_eq m c t 1280 1024 (by decide) _ r ⟨512 + n'.val, by omega⟩).trans (congrArg (proj _ _ (row t r)) (Fin.ext ?_))
  show 1280 + (512 + n'.val) = 1792 + n'.val
  omega

theorem mats_eq (c : Dev nD) (t : Fin cfg0.N) (q : Fin 4) (p s : Fin 128) :
    (![mat0 (F := Ideal) (iblk m c 3 t), mat1 (iblk m c 3 t), mat2 (iblk m c 3 t), mat3 (iblk m c 3 t)] q) (ix3 0 p s)
      = ((m ((c : Thread nD τ).loc main_arg3)) : S4x4x128x128.Idx → EReal) (ix4 0 q p s) := by
  rw [← blk3 m c t]
  match q with
  | ⟨0, _⟩ => exact ldg_apply (iblk m c 3 t) 0 _ p s
  | ⟨1, _⟩ => exact ldg_apply (iblk m c 3 t) 1 _ p s
  | ⟨2, _⟩ => exact ldg_apply (iblk m c 3 t) 2 _ p s
  | ⟨3, _⟩ => exact ldg_apply (iblk m c 3 t) 3 _ p s

theorem stored8 (c : Dev nD) (t : Fin cfg0.N) (r : Fin 512) (n : Fin 512) :
    gated (F := Ideal) (iblk m c 0 t) (X0_1 m c t) (iblk m c 2 t) (iblk m c 3 t) (iblk m c 4 t) (ix3 0 r n)
      = mixed (m ((c : Thread nD τ).loc main_arg0)) (m ((c : Thread nD τ).loc main_arg1)) (m ((c : Thread nD τ).loc main_arg2)) (m ((c : Thread nD τ).loc main_arg3)) (m ((c : Thread nD τ).loc main_arg4)) (row t r) n := by
  have hr := r.isLt
  refine (pay1_apply _ _ _ _ _ _ _ r n).trans ?_
  have hp : (⟨r.val % 128, Nat.mod_lt _ (by decide)⟩ : Fin 128) = pos (row t r) := Fin.ext (by
    show r.val % 128 = (t.val * 512 + r.val) % 128
    omega)
  rw [hp]
  unfold mixed
  refine congrArg₂ (fun a b : EReal => a * b) (gate_eq m c t r n) (congrArg₂ (fun a b : EReal => a + b)
    (Finset.sum_congr rfl fun s _ => congrArg₂ (fun a b : EReal => a * b) ?_ ?_) (blk4 m c t _ n))
  · exact congrArg (fun z : EReal => if s ≤ pos (row t r) then z else 0) (mats_eq m c t _ _ _)
  · refine (vrow_eq m c t _ n).trans (congrArg (fun R => vrow _ _ _ R n) (Fin.ext ?_))
    show t.val * 512 + (r.val / 128 * 128 + s.val) = (t.val * 512 + r.val) / 128 * 128 + s.val
    omega

/-- The point that writes the block of row R. -/
def point (R : Fin 8192) : Fin cfg0.N := ⟨R.val / 512, by rw [show cfg0.N = 16 from N_0]; omega⟩

theorem emb5 (t : Fin cfg0.N) (r : Fin 512) (d : Fin 768) : (win0_5.rect t).emb (ix2 r d) = ix2 (row t r) d :=
  funext fun a => Fin.ext (by
    match a with
    | ⟨0, _⟩ => refine (Window.rect_emb_val win0_5 t _ 0).trans ?_; rw [idx5]; rfl
    | ⟨1, _⟩ => refine (Window.rect_emb_val win0_5 t _ 1).trans ?_; rw [idx5]; show 0 * 768 + d.val = d.val; omega)

theorem flushed5_eq (c : Dev nD) (t : Fin cfg0.N) :
    (dats m 0 c).flushed 5 t = ((cfg0.win 5).blk t).view.read (Elt Ideal) (att (m ((c : Thread nD τ).loc main_arg0)) (m ((c : Thread nD τ).loc main_arg1))) := by
  show (cfg0.win 5).cut (grid0.coords t) ((dats m 0 c).after 5 t) = _
  rw [after0_5]
  simp only [outsAt0]
  rw [out5_eq]
  funext y
  obtain ⟨r, d, rfl⟩ : ∃ (r : Fin 512) (d : Fin 768), y = ix2 r d := ⟨y 0, y 1, eq_ix2 y⟩
  rw [View.read_apply]
  show _ = att _ _ ((win0_5.rect t).emb (ix2 r d))
  rw [emb5]
  exact stored5 m c t r d

theorem mem_blk5 (t : Fin cfg0.N) (i : S8192x768.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v10_0).slice (win0_5.rect t)).set ↔ _
  rw [View.set_slice_whole, Rect.mem_set_unit]

theorem flush5 : ∀ t : Fin cfg0.N, (cfg0.win 5).flush t = true :=
  (by decide +kernel : ∀ t : Fin grid0.N, win0_5.flush t = true)

theorem final5 (c : Dev nD) : (dats m 0 c).arrAt 5 cfg0.N = att (m ((c : Thread nD τ).loc main_arg0)) (m ((c : Thread nD τ).loc main_arg1)) :=
  (dats m 0 c).arrAt_eq_of_cover 5 _ (fun t _ => flushed5_eq m c t) fun (i : S8192x768.Idx) => by
    have hi0 : (i 0 : Nat) < 8192 := (i 0).isLt
    have hi1 : (i 1 : Nat) < 768 := (i 1).isLt
    refine ⟨point (i 0), flush5 _, (mem_blk5 (point (i 0)) i).mpr fun a => ?_⟩
    rw [idx5]
    match a with
    | ⟨0, _⟩ => show (i 0 : Nat) / 512 * 512 ≤ (i 0 : Nat) ∧ (i 0 : Nat) < (i 0 : Nat) / 512 * 512 + 512; omega
    | ⟨1, _⟩ => show 0 * 768 ≤ (i 1 : Nat) ∧ (i 1 : Nat) < 0 * 768 + 768; omega

theorem emb6 (t : Fin cfg0.N) (r : Fin 512) (d : Fin 512) : (win0_6.rect t).emb (ix2 r d) = ix2 (row t r) d :=
  funext fun a => Fin.ext (by
    match a with
    | ⟨0, _⟩ => refine (Window.rect_emb_val win0_6 t _ 0).trans ?_; rw [idx6]; rfl
    | ⟨1, _⟩ => refine (Window.rect_emb_val win0_6 t _ 1).trans ?_; rw [idx6]; show 0 * 512 + d.val = d.val; omega)

theorem flushed6_eq (c : Dev nD) (t : Fin cfg0.N) :
    (dats m 0 c).flushed 6 t = ((cfg0.win 6).blk t).view.read (Elt Ideal) (ssm (m ((c : Thread nD τ).loc main_arg0)) (m ((c : Thread nD τ).loc main_arg1))) := by
  show (cfg0.win 6).cut (grid0.coords t) ((dats m 0 c).after 6 t) = _
  rw [after0_6]
  simp only [outsAt0]
  rw [out6_eq]
  funext y
  obtain ⟨r, d, rfl⟩ : ∃ (r : Fin 512) (d : Fin 512), y = ix2 r d := ⟨y 0, y 1, eq_ix2 y⟩
  rw [View.read_apply]
  show _ = ssm _ _ ((win0_6.rect t).emb (ix2 r d))
  rw [emb6]
  exact stored6 m c t r d

theorem mem_blk6 (t : Fin cfg0.N) (i : S8192x512.Idx) :
    i ∈ ((cfg0.win 6).blk t).view.set ↔ ∀ a, win0_6.index t a * win0_6.size a ≤ (i a : Nat)
      ∧ (i a : Nat) < win0_6.index t a * win0_6.size a + win0_6.xsize (grid0.coords t) a := by
  show i ∈ ((View.whole main_v10_1).slice (win0_6.rect t)).set ↔ _
  rw [View.set_slice_whole, Rect.mem_set_unit]

theorem flush6 : ∀ t : Fin cfg0.N, (cfg0.win 6).flush t = true :=
  (by decide +kernel : ∀ t : Fin grid0.N, win0_6.flush t = true)

theorem final6 (c : Dev nD) : (dats m 0 c).arrAt 6 cfg0.N = ssm (m ((c : Thread nD τ).loc main_arg0)) (m ((c : Thread nD τ).loc main_arg1)) :=
  (dats m 0 c).arrAt_eq_of_cover 6 _ (fun t _ => flushed6_eq m c t) fun (i : S8192x512.Idx) => by
    have hi0 : (i 0 : Nat) < 8192 := (i 0).isLt
    have hi1 : (i 1 : Nat) < 512 := (i 1).isLt
    refine ⟨point (i 0), flush6 _, (mem_blk6 (point (i 0)) i).mpr fun a => ?_⟩
    rw [idx6]
    match a with
    | ⟨0, _⟩ => show (i 0 : Nat) / 512 * 512 ≤ (i 0 : Nat) ∧ (i 0 : Nat) < (i 0 : Nat) / 512 * 512 + 512; omega
    | ⟨1, _⟩ => show 0 * 512 ≤ (i 1 : Nat) ∧ (i 1 : Nat) < 0 * 512 + 512; omega

theorem emb7 (t : Fin cfg0.N) (r : Fin 512) (d : Fin 2176) : (win0_7.rect t).emb (ix2 r d) = ix2 (row t r) d :=
  funext fun a => Fin.ext (by
    match a with
    | ⟨0, _⟩ => refine (Window.rect_emb_val win0_7 t _ 0).trans ?_; rw [idx7]; rfl
    | ⟨1, _⟩ => refine (Window.rect_emb_val win0_7 t _ 1).trans ?_; rw [idx7]; show 0 * 2176 + d.val = d.val; omega)

theorem flushed7_eq (c : Dev nD) (t : Fin cfg0.N) :
    (dats m 0 c).flushed 7 t = ((cfg0.win 7).blk t).view.read (Elt Ideal) (dn (m ((c : Thread nD τ).loc main_arg0)) (m ((c : Thread nD τ).loc main_arg1))) := by
  show (cfg0.win 7).cut (grid0.coords t) ((dats m 0 c).after 7 t) = _
  rw [after0_7]
  simp only [outsAt0]
  rw [out7_eq]
  funext y
  obtain ⟨r, d, rfl⟩ : ∃ (r : Fin 512) (d : Fin 2176), y = ix2 r d := ⟨y 0, y 1, eq_ix2 y⟩
  rw [View.read_apply]
  show _ = dn _ _ ((win0_7.rect t).emb (ix2 r d))
  rw [emb7]
  exact stored7 m c t r d

theorem mem_blk7 (t : Fin cfg0.N) (i : S8192x2176.Idx) :
    i ∈ ((cfg0.win 7).blk t).view.set ↔ ∀ a, win0_7.index t a * win0_7.size a ≤ (i a : Nat)
      ∧ (i a : Nat) < win0_7.index t a * win0_7.size a + win0_7.xsize (grid0.coords t) a := by
  show i ∈ ((View.whole main_v10_2).slice (win0_7.rect t)).set ↔ _
  rw [View.set_slice_whole, Rect.mem_set_unit]

theorem flush7 : ∀ t : Fin cfg0.N, (cfg0.win 7).flush t = true :=
  (by decide +kernel : ∀ t : Fin grid0.N, win0_7.flush t = true)

theorem final7 (c : Dev nD) : (dats m 0 c).arrAt 7 cfg0.N = dn (m ((c : Thread nD τ).loc main_arg0)) (m ((c : Thread nD τ).loc main_arg1)) :=
  (dats m 0 c).arrAt_eq_of_cover 7 _ (fun t _ => flushed7_eq m c t) fun (i : S8192x2176.Idx) => by
    have hi0 : (i 0 : Nat) < 8192 := (i 0).isLt
    have hi1 : (i 1 : Nat) < 2176 := (i 1).isLt
    refine ⟨point (i 0), flush7 _, (mem_blk7 (point (i 0)) i).mpr fun a => ?_⟩
    rw [idx7]
    match a with
    | ⟨0, _⟩ => show (i 0 : Nat) / 512 * 512 ≤ (i 0 : Nat) ∧ (i 0 : Nat) < (i 0 : Nat) / 512 * 512 + 512; omega
    | ⟨1, _⟩ => show 0 * 2176 ≤ (i 1 : Nat) ∧ (i 1 : Nat) < 0 * 2176 + 2176; omega

theorem emb8 (t : Fin cfg0.N) (r : Fin 512) (d : Fin 512) : (win0_8.rect t).emb (ix3 0 r d) = ix3 2 (row t r) d :=
  funext fun a => Fin.ext (by
    match a with
    | ⟨0, _⟩ => refine (Window.rect_emb_val win0_8 t _ 0).trans ?_; rw [idx8]; rfl
    | ⟨1, _⟩ => refine (Window.rect_emb_val win0_8 t _ 1).trans ?_; rw [idx8]; rfl
    | ⟨2, _⟩ => refine (Window.rect_emb_val win0_8 t _ 2).trans ?_; rw [idx8]; show 0 * 512 + d.val = d.val; omega)

theorem flushed8_eq (c : Dev nD) (t : Fin cfg0.N) :
    (dats m 0 c).flushed 8 t = ((cfg0.win 8).blk t).view.read (Elt Ideal) (planes (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 8).cut (grid0.coords t) ((dats m 0 c).after 8 t) = _
  rw [after0_8]
  simp only [outsAt0]
  rw [out8_eq]
  funext y
  obtain ⟨z, r, d, rfl⟩ : ∃ (z : Fin 1) (r : Fin 512) (d : Fin 512), y = ix3 z r d := ⟨y 0, y 1, y 2, eq_ix3 y⟩
  obtain rfl : z = 0 := Subsingleton.elim _ _
  rw [View.read_apply]
  show _ = planes _ _ _ _ _ ((win0_8.rect t).emb (ix3 0 r d))
  rw [emb8]
  exact stored8 m c t r d

theorem mem_blk8 (t : Fin cfg0.N) (i : S4x8192x512.Idx) :
    i ∈ ((cfg0.win 8).blk t).view.set ↔ ∀ a, win0_8.index t a * win0_8.size a ≤ (i a : Nat)
      ∧ (i a : Nat) < win0_8.index t a * win0_8.size a + win0_8.xsize (grid0.coords t) a := by
  show i ∈ ((View.whole main_v10_3).slice (win0_8.rect t)).set ↔ _
  rw [View.set_slice_whole, Rect.mem_set_unit]

theorem flush8 : ∀ t : Fin cfg0.N, (cfg0.win 8).flush t = true :=
  (by decide +kernel : ∀ t : Fin grid0.N, win0_8.flush t = true)

/-- The plane the call writes, when it ends. -/
theorem final8 (c : Dev nD) (R : Fin 8192) (d : Fin 512) :
    ((dats m 0 c).arrAt 8 cfg0.N : S4x8192x512.Idx → EReal) (ix3 2 R d) = mixed (m ((c : Thread nD τ).loc main_arg0)) (m ((c : Thread nD τ).loc main_arg1)) (m ((c : Thread nD τ).loc main_arg2)) (m ((c : Thread nD τ).loc main_arg3)) (m ((c : Thread nD τ).loc main_arg4)) R d := by
  refine (dats m 0 c).arrAt_apply_of_mem 8 (planes (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed8_eq m c t) cfg0.N (point R) (ix3 2 R d) (point R).isLt (flush8 _)
    ((mem_blk8 (point R) (ix3 2 R d)).mpr fun a => ?_)
  have hR := R.isLt
  have hd := d.isLt
  rw [idx8]
  match a with
  | ⟨0, _⟩ => show 2 * 1 ≤ 2 ∧ 2 < 2 * 1 + 1; omega
  | ⟨1, _⟩ => show R.val / 512 * 512 ≤ R.val ∧ R.val < R.val / 512 * 512 + 512; omega
  | ⟨2, _⟩ => show 0 * 512 ≤ d.val ∧ d.val < 0 * 512 + 512; omega

theorem half_lt (t : Fin cfg0.N) : t.val / 8 < 2 := by
  have := lt_of_lt_of_eq t.isLt (show cfg0.N = 16 from N_0)
  omega

theorem emb9 (t : Fin cfg0.N) (r : Fin 128) (d : Fin 512) : (win0_9.rect t).emb (ix3 0 r d) = ix3 ⟨t.val / 8, half_lt t⟩ r d :=
  funext fun a => Fin.ext (by
    match a with
    | ⟨0, _⟩ => refine (Window.rect_emb_val win0_9 t _ 0).trans ?_; rw [idx9]; show t.val / 8 * 1 + 0 = t.val / 8; omega
    | ⟨1, _⟩ => refine (Window.rect_emb_val win0_9 t _ 1).trans ?_; rw [idx9]; show 0 * 128 + r.val = r.val; omega
    | ⟨2, _⟩ => refine (Window.rect_emb_val win0_9 t _ 2).trans ?_; rw [idx9]; show 0 * 512 + d.val = d.val; omega)

/-- The last points of the two sequences, and only they, write the chunk back. -/
theorem flush9 : ∀ t : Fin cfg0.N, (cfg0.win 9).flush t = decide (t.val % 8 = 7) :=
  (by decide +kernel : ∀ t : Fin grid0.N, win0_9.flush t = decide (t.val % 8 = 7))

theorem flushed9_eq (c : Dev nD) (t : Fin cfg0.N) (ht : t.val % 8 = 7) :
    (dats m 0 c).flushed 9 t = ((cfg0.win 9).blk t).view.read (Elt Ideal) (lastChunk (m ((c : Thread nD τ).loc main_arg0)) (m ((c : Thread nD τ).loc main_arg1)) (m ((c : Thread nD τ).loc main_arg2))) := by
  show (cfg0.win 9).cut (grid0.coords t) ((dats m 0 c).after 9 t) = _
  rw [after0_9]
  simp only [outsAt0]
  rw [out9_eq]
  funext y
  obtain ⟨z, r, d, rfl⟩ : ∃ (z : Fin 1) (r : Fin 128) (d : Fin 512), y = ix3 z r d := ⟨y 0, y 1, y 2, eq_ix3 y⟩
  obtain rfl : z = 0 := Subsingleton.elim _ _
  rw [View.read_apply]
  show _ = lastChunk _ _ _ ((win0_9.rect t).emb (ix3 0 r d))
  rw [emb9]
  refine (pay2_apply _ r d).trans ((vrow_eq m c t _ d).trans ?_)
  show _ = vrow _ _ _ _ d
  refine congrArg (fun R => vrow _ _ _ R d) (Fin.ext ?_)
  show t.val * 512 + (384 + r.val) = t.val / 8 * 4096 + 3968 + r.val
  omega

theorem mem_blk9 (t : Fin cfg0.N) (i : S2x128x512.Idx) :
    i ∈ ((cfg0.win 9).blk t).view.set ↔ ∀ a, win0_9.index t a * win0_9.size a ≤ (i a : Nat)
      ∧ (i a : Nat) < win0_9.index t a * win0_9.size a + win0_9.xsize (grid0.coords t) a := by
  show i ∈ ((View.whole main_v10_4).slice (win0_9.rect t)).set ↔ _
  rw [View.set_slice_whole, Rect.mem_set_unit]

theorem final9 (c : Dev nD) : (dats m 0 c).arrAt 9 cfg0.N = lastChunk (m ((c : Thread nD τ).loc main_arg0)) (m ((c : Thread nD τ).loc main_arg1)) (m ((c : Thread nD τ).loc main_arg2)) :=
  (dats m 0 c).arrAt_eq_of_cover 9 _ (fun t ht => flushed9_eq m c t (of_decide_eq_true ((flush9 t).symm.trans ht))) fun (i : S2x128x512.Idx) => by
    have hi0 : (i 0 : Nat) < 2 := (i 0).isLt
    have hi1 : (i 1 : Nat) < 128 := (i 1).isLt
    have hi2 : (i 2 : Nat) < 512 := (i 2).isLt
    have hp : (i 0 : Nat) * 8 + 7 < cfg0.N := by rw [show cfg0.N = 16 from N_0]; omega
    refine ⟨⟨(i 0 : Nat) * 8 + 7, hp⟩, (flush9 _).trans (decide_eq_true ?_), (mem_blk9 ⟨(i 0 : Nat) * 8 + 7, hp⟩ i).mpr fun a => ?_⟩
    · show ((i 0 : Nat) * 8 + 7) % 8 = 7
      omega
    rw [idx9]
    match a with
    | ⟨0, _⟩ => show ((i 0 : Nat) * 8 + 7) / 8 * 1 ≤ (i 0 : Nat) ∧ (i 0 : Nat) < ((i 0 : Nat) * 8 + 7) / 8 * 1 + 1; omega
    | ⟨1, _⟩ => show 0 * 128 ≤ (i 1 : Nat) ∧ (i 1 : Nat) < 0 * 128 + 128; omega
    | ⟨2, _⟩ => show 0 * 512 ≤ (i 2 : Nat) ∧ (i 2 : Nat) < 0 * 512 + 512; omega

/-- What the host makes of that plane after the call. -/
theorem tail_eq (c : Dev nD) : (Pipeline.afterTail₀ cfgs (dats m) 0 (V0 m) [hostOps1] c main_v12 : S8192x512.Idx → EReal)
    = gatedRows (m ((c : Thread nD τ).loc main_arg0)) (m ((c : Thread nD τ).loc main_arg1)) (m ((c : Thread nD τ).loc main_arg2)) (m ((c : Thread nD τ).loc main_arg3)) (m ((c : Thread nD τ).loc main_arg4)) := by
  have e : (Pipeline.afterTail₀ cfgs (dats m) 0 (V0 m) [hostOps1] c main_v12 : S8192x512.Idx → EReal)
      = shapeCast S8192x512 (extractStridedSlice S1x8192x512 ![2, 0, 0] ((dats m 0 c).arrAt 8 cfg0.N : S4x8192x512.Idx → EReal)
          slices_S4x8192x512_S1x8192x512_2_0_0) shapeCasts_S1x8192x512_S8192x512 := by
    rw [← Pipeline.withArrays_arr spec0 launch0.win.arr_inj c (V0 m c) (fun w => (dats m 0 c).arrAt w cfg0.N) 8]
    unfold Pipeline.afterTail₀
    after_results
    rfl
  rw [e]
  funext i
  obtain ⟨R, d, rfl⟩ : ∃ (R : Fin 8192) (d : Fin 512), i = ix2 R d := ⟨i 0, i 1, eq_ix2 i⟩
  refine (shapeCast_apply (s := S1x8192x512) (t := S8192x512) _ shapeCasts_S1x8192x512_S8192x512 (ix2 R d) (ix3 0 R d) ?_).trans ?_
  · rw [Shape.rowMajor_val_two, Shape.rowMajor_val_three]
    show (0 * 8192 + R.val) * 512 + d.val = R.val * 512 + d.val
    omega
  refine (extractStridedSlice_apply (s := S4x8192x512) (t := S1x8192x512) ![2, 0, 0] _ slices_S4x8192x512_S1x8192x512_2_0_0 (ix3 0 R d) (ix3 2 R d) (fun a => ?_)).trans
    (final8 m c R d)
  match a with
  | ⟨0, _⟩ => rfl
  | ⟨1, _⟩ => show R.val = 0 + R.val; omega
  | ⟨2, _⟩ => show d.val = 0 + d.val; omega

/-- The run: the five results, the arguments unchanged. -/
theorem run : θ_run (defs (F := Ideal)) (onTc (τ := τ) (main (F := Ideal))) ⟨m, fun _ => 0, ρ⟩ fun r => ∀ c : Dev nD,
      r.2.mem ((c : Thread nD τ).loc main_v10_0) = att (m ((c : Thread nD τ).loc main_arg0)) (m ((c : Thread nD τ).loc main_arg1))
      ∧ r.2.mem ((c : Thread nD τ).loc main_v10_1) = ssm (m ((c : Thread nD τ).loc main_arg0)) (m ((c : Thread nD τ).loc main_arg1))
      ∧ r.2.mem ((c : Thread nD τ).loc main_v10_2) = dn (m ((c : Thread nD τ).loc main_arg0)) (m ((c : Thread nD τ).loc main_arg1))
      ∧ r.2.mem ((c : Thread nD τ).loc main_v12) = gatedRows (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v10_4) = lastChunk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c), ((h c).1 6).trans (final6 m c), ((h c).1 7).trans (final7 m c),
      ((h c).2 main_v12 (Pipeline.mem_restRefs_of main_v12 (by decide) (by decide))).trans (tail_eq m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

/-! ## The reference -/

section Reference

open Cert.InProjRefIdeal.Read

variable (x0 : S8192x2048.Idx → EReal) (x1 : S4x14336x2048.Idx → EReal) (x2 : S4x512.Idx → EReal)
  (x3 : S4x4x128x128.Idx → EReal) (x4 : S4x4x128.Idx → EReal)

/-- The reference's projection. -/
theorem ref_proj (R : Fin 8192) (n : Fin 4480) :
    (val_main_v5 (F := Ideal) x0 x1 : Cert.InProjRefIdeal.S8192x4480.Idx → EReal) (ix2 R n)
      = proj x0 x1 R ⟨n.val, lt_trans n.isLt (by decide)⟩ := by
  have hn := n.isLt
  rw [val_main_v5_apply]
  unfold proj
  refine Finset.sum_congr rfl fun k _ => congrArg₂ (fun a b : EReal => a * b) ?_ ?_
  · rw [val_main_v0_apply]
    refine congrArg x0 (funext fun a => ?_)
    match a with | ⟨0, _⟩ => rfl | ⟨1, _⟩ => rfl
  · rw [val_main_v4_apply, val_main_v3_apply, val_main_v2_apply, val_main_v1_apply]
    refine congrArg x1 (funext fun a => Fin.ext ?_)
    match a with
    | ⟨0, _⟩ => rfl
    | ⟨1, _⟩ => show (n.val * 2048 + k.val) / 2048 % 4480 = n.val; omega
    | ⟨2, _⟩ => show (n.val * 2048 + k.val) % 2048 = k.val; omega

theorem ref_att_eq : (val_main_v51 (F := Ideal) x0 x1 : S8192x768.Idx → EReal) = att x0 x1 := by
  funext i
  obtain ⟨R, n, rfl⟩ : ∃ (R : Fin 8192) (n : Fin 768), i = ix2 R n := ⟨i 0, i 1, eq_ix2 i⟩
  rw [val_main_v51_apply]
  refine (congrArg (val_main_v5 (F := Ideal) x0 x1 : Cert.InProjRefIdeal.S8192x4480.Idx → EReal) (funext fun a => ?_)).trans
    (ref_proj x0 x1 R ⟨n.val, by omega⟩)
  match a with | ⟨0, _⟩ => rfl | ⟨1, _⟩ => rfl

theorem ref_ssm_eq : (val_main_v52 (F := Ideal) x0 x1 : S8192x512.Idx → EReal) = ssm x0 x1 := by
  funext i
  obtain ⟨R, n, rfl⟩ : ∃ (R : Fin 8192) (n : Fin 512), i = ix2 R n := ⟨i 0, i 1, eq_ix2 i⟩
  rw [val_main_v52_apply]
  refine (congrArg (val_main_v5 (F := Ideal) x0 x1 : Cert.InProjRefIdeal.S8192x4480.Idx → EReal) (funext fun a => ?_)).trans
    (ref_proj x0 x1 R ⟨768 + n.val, by omega⟩)
  match a with | ⟨0, _⟩ => rfl | ⟨1, _⟩ => rfl

theorem ref_dn_eq : (val_main_v53 (F := Ideal) x0 x1 : S8192x2176.Idx → EReal) = dn x0 x1 := by
  funext i
  obtain ⟨R, n, rfl⟩ : ∃ (R : Fin 8192) (n : Fin 2176), i = ix2 R n := ⟨i 0, i 1, eq_ix2 i⟩
  rw [val_main_v53_apply]
  refine (congrArg (val_main_v5 (F := Ideal) x0 x1 : Cert.InProjRefIdeal.S8192x4480.Idx → EReal) (funext fun a => ?_)).trans
    (ref_proj x0 x1 R ⟨2304 + n.val, by omega⟩)
  match a with | ⟨0, _⟩ => rfl | ⟨1, _⟩ => rfl

/-- The reference's activation of its gating columns. -/
theorem ref_gelu (R : Fin 8192) (n : Fin 1024) :
    (val_main_v19 (F := Ideal) x0 x1 : Cert.InProjRefIdeal.S8192x1024.Idx → EReal) (ix2 R n)
      = gelu (proj x0 x1 R ⟨1280 + n.val, by omega⟩) := by
  have hz : (val_main_v6 (F := Ideal) x0 x1 : Cert.InProjRefIdeal.S8192x1024.Idx → EReal) (ix2 R n)
      = proj x0 x1 R ⟨1280 + n.val, by omega⟩ := by
    rw [val_main_v6_apply]
    refine (congrArg (val_main_v5 (F := Ideal) x0 x1 : Cert.InProjRefIdeal.S8192x4480.Idx → EReal) (funext fun a => ?_)).trans
      (ref_proj x0 x1 R ⟨1280 + n.val, by omega⟩)
    match a with | ⟨0, _⟩ => rfl | ⟨1, _⟩ => rfl
  rw [val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, hz, val_main_cst_apply, val_main_cst_0_apply, val_main_cst_1_apply, val_main_cst_2_apply]
  generalize proj x0 x1 R _ = a
  show (a * (Ideal.ofBits .f32 0x3F000000#32 * (Ideal.ofBits .f32 0x3F800000#32
    + Ideal.tanh (Ideal.ofBits .f32 0x3F4C422A#32 * (a + Ideal.ofBits .f32 0x3D372713#32 * (a * a * a))))) : EReal) = gelu a
  rw [mul_comm (a * a) a]
  rfl

theorem ref_half (R : Fin 8192) (n : Fin 512) :
    (val_main_v21 (F := Ideal) x0 x1 : S8192x512.Idx → EReal) (ix2 R n)
      = gelu (proj x0 x1 R ⟨1792 + n.val, by omega⟩) := by
  rw [val_main_v21_apply]
  refine (congrArg (val_main_v19 (F := Ideal) x0 x1 : Cert.InProjRefIdeal.S8192x1024.Idx → EReal) (funext fun a => ?_)).trans
    ((ref_gelu x0 x1 R ⟨512 + n.val, by omega⟩).trans (congrArg (fun z => gelu (proj x0 x1 R z)) (Fin.ext ?_)))
  · match a with | ⟨0, _⟩ => rfl | ⟨1, _⟩ => rfl
  · show 1280 + (512 + n.val) = 1792 + n.val
    omega

/-- The reference's normalised rows. -/
theorem ref_vrow (R : Fin 8192) (n : Fin 512) :
    (val_main_v36 (F := Ideal) x0 x1 x2 : S8192x512.Idx → EReal) (ix2 R n) = vrow x0 x1 x2 R n := by
  have hn := n.isLt
  rw [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v23_apply, val_main_v22_apply, val_main_cst_3_apply, val_main_cst_4_apply, val_main_cst_5_apply]
  show (val_main_v21 (F := Ideal) x0 x1 (ix2 R n)
      * Ideal.rsqrt (Ideal.div (Ideal.ofBits .f32 0x00000000#32 + ∑ k : Fin 512, _) (Ideal.ofBits .f32 0x44000000#32)
        + Ideal.ofBits .f32 0x358637BD#32) * x2 _ : EReal) = _
  rw [Ideal.ofBits_zero_f32, zero_add]
  unfold vrow normRow scale
  refine congrArg₂ (fun a b : EReal => a * b) (congrArg₂ (fun a b : EReal => a * b) (ref_half x0 x1 R n)
    (congrArg (fun z : EReal => Ideal.rsqrt (Ideal.div z _ + _)) (Finset.sum_congr rfl fun k _ => ?_))) ?_
  · rw [val_main_v24_apply]
    have hi : (idx_main_v25 (idx_main_v26 (idx_main_v32 (ix2 R n))) k : S8192x512.Idx) = ix2 R k :=
      funext fun a => match a with | ⟨0, _⟩ => rfl | ⟨1, _⟩ => rfl
    rw [hi]
    exact congrArg₂ (fun a b : EReal => a * b) (ref_half x0 x1 R k) (ref_half x0 x1 R k)
  · refine congrArg x2 (funext fun a => Fin.ext ?_)
    match a with
    | ⟨0, _⟩ => rfl
    | ⟨1, _⟩ => show n.val % 512 = n.val; omega

/-- The reference's lower triangles. -/
theorem ref_tri (q : Fin 4) (t s : Fin 128) :
    (val_main_v39 (F := Ideal) x3 : Cert.InProjRefIdeal.S4x128x128.Idx → EReal) (ix3 q t s) = if s ≤ t then x3 (ix4 0 q t s) else 0 := by
  have hq := q.isLt
  have ht := t.isLt
  have hs := s.isLt
  rw [val_main_v39_apply, val_main_call0_v5_apply, val_main_call0_v4_apply, val_main_call0_v2_apply, val_main_call0_v1_apply,
    val_main_call0_v0_apply, val_main_call0_v3_apply, val_main_call0_v6_apply, val_main_call0_c_apply, val_main_call0_cst_apply,
    val_main_v38_apply, val_main_v37_apply]
  have hx : idx_main_v37 (idx_main_v38 (ix3 q t s)) = ix4 0 q t s := funext fun a => Fin.ext (by
    match a with
    | ⟨0, _⟩ => rfl
    | ⟨1, _⟩ => show ((q.val * 128 + t.val) * 128 + s.val) / 16384 % 4 = q.val; omega
    | ⟨2, _⟩ => show ((q.val * 128 + t.val) * 128 + s.val) / 128 % 128 = t.val; omega
    | ⟨3, _⟩ => show ((q.val * 128 + t.val) * 128 + s.val) % 128 = s.val; omega)
  rw [hx]
  show Scalar.select (IntOp.cmpi .sge (BitVec.ofNat 32 t.val + 0x00000000#32) (BitVec.ofNat 32 s.val)) (x3 (ix4 0 q t s))
    (Ideal.ofBits .f32 0x00000000#32) = _
  rw [BitVec.add_zero, Ideal.ofBits_zero_f32]
  exact select_sge t s _ _

theorem ref_y_eq : (val_main_v54 (F := Ideal) x0 x1 x2 x3 x4 : S8192x512.Idx → EReal) = gatedRows x0 x1 x2 x3 x4 := by
  funext i
  obtain ⟨R, n, rfl⟩ : ∃ (R : Fin 8192) (n : Fin 512), i = ix2 R n := ⟨i 0, i 1, eq_ix2 i⟩
  have hR := R.isLt
  have hn := n.isLt
  have h49 : idx_main_v49 (ix2 R n) = ix4 (⟨R.val / 128, by omega⟩ : Fin 64) (pos R) (grp n) (⟨n.val % 128, Nat.mod_lt _ (by decide)⟩ : Fin 128) :=
    funext fun a => Fin.ext (by
      match a with
      | ⟨0, _⟩ => show (R.val * 512 + n.val) / 65536 = R.val / 128; omega
      | ⟨1, _⟩ => show (R.val * 512 + n.val) / 512 % 128 = R.val % 128; omega
      | ⟨2, _⟩ => show (R.val * 512 + n.val) / 128 % 4 = n.val / 128; omega
      | ⟨3, _⟩ => show (R.val * 512 + n.val) % 128 = n.val % 128; omega)
  rw [val_main_v54_apply, val_main_v50_apply, val_main_v49_apply, h49, val_main_v48_apply, val_main_v42_apply, val_main_v47_apply,
    val_main_v46_apply, val_main_v45_apply, val_main_v44_apply, val_main_v43_apply, val_main_v20_apply, val_main_v41_apply]
  show (_ * (_ + _) : EReal) = mixed x0 x1 x2 x3 x4 R n
  unfold mixed
  refine congrArg₂ (fun a b : EReal => a * b) ?_ (congrArg₂ (fun a b : EReal => a + b) (Finset.sum_congr rfl fun s _ => ?_) ?_)
  · refine (congrArg (val_main_v19 (F := Ideal) x0 x1 : Cert.InProjRefIdeal.S8192x1024.Idx → EReal) (funext fun a => ?_)).trans
      (ref_gelu x0 x1 R ⟨n.val, by omega⟩)
    match a with | ⟨0, _⟩ => rfl | ⟨1, _⟩ => rfl
  · refine (mul_comm (G := EReal) _ _).trans (congrArg₂ (fun a b : EReal => a * b) ?_ ?_)
    · refine (congrArg (val_main_v39 (F := Ideal) x3 : Cert.InProjRefIdeal.S4x128x128.Idx → EReal) (funext fun a => ?_)).trans
        (ref_tri x3 (grp n) (pos R) s)
      match a with | ⟨0, _⟩ => rfl | ⟨1, _⟩ => rfl | ⟨2, _⟩ => rfl
    · rw [val_main_v40_apply]
      have hs := s.isLt
      refine (congrArg (val_main_v36 (F := Ideal) x0 x1 x2 : S8192x512.Idx → EReal) (funext fun a => Fin.ext ?_)).trans
        (ref_vrow x0 x1 x2 (mate R s) n)
      match a with
      | ⟨0, _⟩ => show (((R.val / 128 * 128 + s.val) * 4 + n.val / 128) * 128 + n.val % 128) / 512 = R.val / 128 * 128 + s.val; omega
      | ⟨1, _⟩ => show (((R.val / 128 * 128 + s.val) * 4 + n.val / 128) * 128 + n.val % 128) % 512 = n.val; omega
  · refine congrArg x4 (funext fun a => Fin.ext ?_)
    match a with
    | ⟨0, _⟩ => rfl
    | ⟨1, _⟩ => show (n.val / 128 * 128 + R.val % 128) / 128 % 4 = n.val / 128; omega
    | ⟨2, _⟩ => show (n.val / 128 * 128 + R.val % 128) % 128 = R.val % 128; omega

theorem ref_v_eq : (val_main_v56 (F := Ideal) x0 x1 x2 : S2x128x512.Idx → EReal) = lastChunk x0 x1 x2 := by
  funext i
  obtain ⟨b, t, n, rfl⟩ : ∃ (b : Fin 2) (t : Fin 128) (n : Fin 512), i = ix3 b t n := ⟨i 0, i 1, i 2, eq_ix3 i⟩
  have hb := b.isLt
  have ht := t.isLt
  have hn := n.isLt
  rw [val_main_v56_apply, val_main_v55_apply]
  refine (congrArg (val_main_v36 (F := Ideal) x0 x1 x2 : S8192x512.Idx → EReal) (funext fun a => Fin.ext ?_)).trans
    (ref_vrow x0 x1 x2 ⟨b.val * 4096 + 3968 + t.val, by omega⟩ n)
  match a with
  | ⟨0, _⟩ => show ((b.val * 4096 + (3968 + t.val)) * 512 + n.val) / 512 = b.val * 4096 + 3968 + t.val; omega
  | ⟨1, _⟩ => show ((b.val * 4096 + (3968 + t.val)) * 512 + n.val) % 512 = n.val; omega

end Reference

end Cert.Proof.InProj
-- ==== Proof.SgSample.lean ====
/-
  The spatial gating of the sample rows: a sample row is the first of its chunk, so its mixing matrix is one number a group.
  Here: both result arrays of the call index by index, and that the reference, which mixes the row's whole chunk and keeps its
  first row, gives the same extended reals: the rows it pads with meet the zeros above the diagonal.
-/
module

public import proofs.«01_k».proof.Defs
public import proofs.«01_k».proof.Proof.Gen.SgSampleIdeal.Value
public import proofs.«01_k».proof.Proof.Gen.SgSampleRefIdeal.Run
public import proofs.«01_k».proof.Proof.Gen.SgSampleRefIdeal.Read
public import proofs.«01_k».proof.Proof.Norm
public import proofs.«01_k».proof.Proof.Gating
public import Idealize.ShloMosaic.Lib.ValueIdx
public import Idealize.ShloMosaic.Lib.IdealHost
public import Idealize.ShloMosaic.Lib.KernelVsHost
public import Idealize.ShloMosaic.Lib.Pipeline.ValueKit.Tiles

@[expose] public section

noncomputable section

namespace Cert.Proof.SgSample

open Idealize.ShloMosaic Idealize.ShloMosaic.TcCoe Idealize.SL.Sem Idealize.ShloMosaic.ValueIdx
open Cert.SgSampleIdeal Cert.SgSampleIdeal.Gen
open Cert.Proof.Norm (normRow scale norm_apply)
open Cert.Proof.Gating (gelu select_sge)
open Idealize.ShloMosaic.Pipeline (Dat Cfg Window)

theorem hz2 : (![0, 0] : Fin 2 → Nat) = fun _ => 0 := funext fun a => by fin_cases a <;> rfl

/-- The group of a column. -/
def grp (c : Fin 512) : Fin 4 := ⟨c.val / 128, by omega⟩

section Cases

variable {F : FTy → Type} [FloatOps F]
variable (x0 : Vec F S32x1024 .f32) (x1 : Vec F S1x512 .f32) (x2 : Vec F S1x512 .f32) (x3 : Vec F S128x512 .f32)

/-- The biases' first row. -/
abbrev top : Vec F S1x512 .f32 := View.ld x3 (Rect.unit (s := S128x512) ![0, 0] S1x512.size inb_S128x512_S1x512_0_0)

theorem out4_eq : out0_4 x0 x1 x2 x3 = k0_pay1 (k0_pay3 x0) (k0_pay5 x0 x1 x2) (k0_pay6 (top x3)) := by
  unfold out0_4
  rw [View.canon_unit_zero hz2]
  simp only [View.ld_unit_zero (S := S32x1024) hz2, View.ld_unit_zero (S := S1x512) hz2]

theorem out5_eq : out0_5 x0 x1 x2 x3 = k0_pay4 x0 x1 := by
  unfold out0_5
  rw [View.canon_unit_zero hz2]
  simp only [View.ld_unit_zero (S := S32x1024) hz2, View.ld_unit_zero (S := S1x512) hz2]

end Cases

/-! ## The two stores at an index -/

variable (z : Vec Ideal S32x1024 .f32) (g : Vec Ideal S1x512 .f32) (w : Vec Ideal S1x512 .f32) (b : Vec Ideal S128x512 .f32)

theorem pay2_apply (i : S32x1024.Idx) : k0_pay2 z i = gelu (z i) := rfl

theorem pay3_apply (r : Fin 32) (n : Fin 512) : k0_pay3 z (ix2 r n) = gelu (z (ix2 r (⟨n.val, by omega⟩ : Fin 1024))) := by
  unfold k0_pay3
  refine (extractStridedSlice_apply (s := S32x1024) (t := S32x512) ![0, 0] _ slices_S32x1024_o0_0_S32x512 (ix2 r n)
    (ix2 r (⟨n.val, by omega⟩ : Fin 1024)) (fun a => ?_)).trans (pay2_apply z _)
  match a with
  | ⟨0, _⟩ => show r.val = 0 + r.val; omega
  | ⟨1, _⟩ => show n.val = 0 + n.val; omega

theorem pay4_norm (r : Fin 32) (n : Fin 512) :
    k0_pay4 z g (ix2 r n)
      = normRow 0x44000000#32 (fun n' : Fin 512 => extractStridedSlice S32x512 ![0, 512] (k0_pay2 z) slices_S32x1024_o0_512_S32x512 (ix2 r n'))
          (fun n' => g (ix2 0 n')) n := by
  unfold k0_pay4
  rw [shapeCast_self]
  generalize extractStridedSlice S32x512 ![0, 512] (k0_pay2 z) slices_S32x1024_o0_512_S32x512 = y
  exact norm_apply (by decide) 0x44000000#32 y g reduces_S32x512_S32 (.inl rfl) rfl shapeCasts_S32_S32x1 broadcasts_S32x1_S32x512
    broadcasts_S1x512_S32x512 r n

theorem pay4_apply (r : Fin 32) (n : Fin 512) :
    k0_pay4 z g (ix2 r n) = normRow 0x44000000#32 (fun n' : Fin 512 => gelu (z (ix2 r (⟨512 + n'.val, by omega⟩ : Fin 1024))))
      (fun n' => g (ix2 0 n')) n := by
  refine (pay4_norm z g r n).trans ?_
  refine congrArg (fun y : Fin 512 → EReal => normRow 0x44000000#32 y (fun n' => g (ix2 0 n')) n) (funext fun n' => ?_)
  refine (extractStridedSlice_apply (s := S32x1024) (t := S32x512) ![0, 512] _ slices_S32x1024_o0_512_S32x512 (ix2 r n')
    (ix2 r (⟨512 + n'.val, by omega⟩ : Fin 1024)) (fun a => ?_)).trans (pay2_apply z _)
  match a with
  | ⟨0, _⟩ => show r.val = 0 + r.val; omega
  | ⟨1, _⟩ => rfl

/-- A row repeated over the sample rows. -/
theorem spread_apply {φ : FTy} (x : FVec Ideal S1x512 φ) (r : Fin 32) (n : Fin 512) :
    broadcastTo S32x512 x broadcasts_S1x512_S32x512 (ix2 r n) = x (ix2 0 n) :=
  broadcastTo_apply x broadcasts_S1x512_S32x512 (ix2 r n) (ix2 0 n) (fun a => match a with | ⟨0, _⟩ => rfl | ⟨1, _⟩ => rfl)

theorem pay5_apply (r : Fin 32) (n : Fin 512) : k0_pay5 z g w (ix2 r n) = w (ix2 0 n) * k0_pay4 z g (ix2 r n) := by
  unfold k0_pay5
  rw [shapeCast_self]
  exact congrArg (fun a : EReal => a * k0_pay4 z g (ix2 r n)) (spread_apply (φ := .f32) w r n)

theorem pay6_apply (r : Fin 32) (n : Fin 512) : k0_pay6 (top b) (ix2 r n) = b (ix2 0 n) := by
  unfold k0_pay6
  rw [shapeCast_self]
  refine (spread_apply (φ := .f32) (top b) r n).trans ?_
  refine View.ld_unit_apply_of b ![0, 0] S1x512.size inb_S128x512_S1x512_0_0 _ _ (fun a => ?_)
  match a with
  | ⟨0, _⟩ => rfl
  | ⟨1, _⟩ => show n.val = 0 + n.val; omega

theorem pay1_apply (r : Fin 32) (n : Fin 512) :
    k0_pay1 (k0_pay3 z) (k0_pay5 z g w) (k0_pay6 (top b)) (ix2 r n)
      = gelu (z (ix2 r (⟨n.val, by omega⟩ : Fin 1024))) * (w (ix2 0 n) * k0_pay4 z g (ix2 r n) + b (ix2 0 n)) := by
  unfold k0_pay1
  exact congrArg₂ (fun a b : EReal => a * b) (pay3_apply z r n)
    (congrArg₂ (fun a b : EReal => a + b) (pay5_apply z g w r n) (pay6_apply b r n))

/-! ## The results, index by index -/

section Results

variable (z : S32x1024.Idx → EReal) (g : S4x512.Idx → EReal) (sw : S4x4x128x128.Idx → EReal) (sb : S4x4x128.Idx → EReal)

/-- The second result: the mixed columns after the activation and the normalisation. -/
def rows : S32x512.Idx → EReal := fun i =>
  normRow 0x44000000#32 (fun n : Fin 512 => gelu (z (ix2 (i 0) (⟨512 + n.val, by omega⟩ : Fin 1024)))) (fun n => g (ix2 0 n)) (i 1)

/-- The first result: the gate against the row scaled by its group's first entry, plus the first bias. -/
def gated : S32x512.Idx → EReal := fun i =>
  gelu (z (ix2 (i 0) (⟨(i 1).val, lt_trans (i 1).isLt (by decide)⟩ : Fin 1024)))
    * (sw (ix4 0 (grp (i 1)) 0 0) * rows z g i + sb (ix3 0 (grp (i 1)) 0))

end Results

/-! ## The blocks the launch hands its one point -/

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

theorem V_arg0 (c : Dev nD) : V m c main_arg0 = m ((c : Thread nD τ).loc main_arg0) := V_main_arg0 m c

/-- The normalisation's weights of the layer, as the host hands them over. -/
theorem V_v10 (c : Dev nD) (n : Fin 512) :
    (V m c main_v10 : S1x512.Idx → EReal) (ix2 0 n) = (m ((c : Thread nD τ).loc main_arg1) : S4x512.Idx → EReal) (ix2 0 n) := by
  have e : (V m c main_v10 : S1x512.Idx → EReal) = shapeCast S1x512 (extractStridedSlice S1x1x512 ![0, 0, 0]
      (broadcastInDim S4x1x512 ![0, 2] bcast_S4x512_S4x1x512_0_2 (m ((c : Thread nD τ).loc main_arg1) : S4x512.Idx → EReal))
      slices_S4x1x512_S1x1x512_0_0_0) shapeCasts_S1x1x512_S1x512 := by
    unfold V; after_results; rfl
  rw [e]
  refine (shapeCast_apply (s := S1x1x512) (t := S1x512) _ shapeCasts_S1x1x512_S1x512 (ix2 0 n) (ix3 0 0 n) ?_).trans ?_
  · rw [Shape.rowMajor_val_two, Shape.rowMajor_val_three]
    show (0 * 1 + 0) * 512 + n.val = 0 * 512 + n.val
    omega
  refine (extractStridedSlice_apply (s := S4x1x512) (t := S1x1x512) ![0, 0, 0] _ slices_S4x1x512_S1x1x512_0_0_0 (ix3 0 0 n) (ix3 0 0 n) (fun a => ?_)).trans ?_
  · match a with
    | ⟨0, _⟩ => rfl
    | ⟨1, _⟩ => rfl
    | ⟨2, _⟩ => show n.val = 0 + n.val; omega
  refine broadcastInDim_apply (s := S4x512) (t := S4x1x512) ![0, 2] bcast_S4x512_S4x1x512_0_2 _ (ix3 0 0 n) (ix2 0 n) (fun a => ?_)
  match a with
  | ⟨0, _⟩ => rfl
  | ⟨1, _⟩ => rfl

/-- The first entries of the layer's mixing matrices, each repeated over its group's columns. -/
theorem V_v12 (c : Dev nD) (n : Fin 512) :
    (V m c main_v12 : S1x512.Idx → EReal) (ix2 0 n) = (m ((c : Thread nD τ).loc main_arg2) : S4x4x128x128.Idx → EReal) (ix4 0 (grp n) 0 0) := by
  have e : (V m c main_v12 : S1x512.Idx → EReal) = shapeCast S1x512 (extractStridedSlice S1x1x512 ![0, 0, 0]
      (broadcastInDim S4x1x512 ![0, 2] bcast_S4x512_S4x1x512_0_2 (shapeCast S4x512 (broadcastInDim S4x4x128 ![0, 1] bcast_S4x4_S4x4x128_0_1
        (shapeCast S4x4 (extractStridedSlice S4x4x1x1 ![0, 0, 0, 0] (m ((c : Thread nD τ).loc main_arg2) : S4x4x128x128.Idx → EReal)
          slices_S4x4x128x128_S4x4x1x1_0_0_0_0) shapeCasts_S4x4x1x1_S4x4)) shapeCasts_S4x4x128_S4x512))
      slices_S4x1x512_S1x1x512_0_0_0) shapeCasts_S1x1x512_S1x512 := by
    unfold V; rfl
  rw [e]
  have hn := n.isLt
  refine (shapeCast_apply (s := S1x1x512) (t := S1x512) _ shapeCasts_S1x1x512_S1x512 (ix2 0 n) (ix3 0 0 n) ?_).trans ?_
  · rw [Shape.rowMajor_val_two, Shape.rowMajor_val_three]
    show (0 * 1 + 0) * 512 + n.val = 0 * 512 + n.val
    omega
  refine (extractStridedSlice_apply (s := S4x1x512) (t := S1x1x512) ![0, 0, 0] _ slices_S4x1x512_S1x1x512_0_0_0 (ix3 0 0 n) (ix3 0 0 n) (fun a => ?_)).trans ?_
  · match a with
    | ⟨0, _⟩ => rfl
    | ⟨1, _⟩ => rfl
    | ⟨2, _⟩ => show n.val = 0 + n.val; omega
  refine (broadcastInDim_apply (s := S4x512) (t := S4x1x512) ![0, 2] bcast_S4x512_S4x1x512_0_2 _ (ix3 0 0 n) (ix2 0 n) (fun a => ?_)).trans ?_
  · match a with
    | ⟨0, _⟩ => rfl
    | ⟨1, _⟩ => rfl
  refine (shapeCast_apply (s := S4x4x128) (t := S4x512) _ shapeCasts_S4x4x128_S4x512 (ix2 0 n) (ix3 0 (grp n) ⟨n.val % 128, Nat.mod_lt _ (by decide)⟩) ?_).trans ?_
  · rw [Shape.rowMajor_val_two, Shape.rowMajor_val_three]
    show (0 * 4 + n.val / 128) * 128 + n.val % 128 = 0 * 512 + n.val
    omega
  refine (broadcastInDim_apply (s := S4x4) (t := S4x4x128) ![0, 1] bcast_S4x4_S4x4x128_0_1 _ _ (ix2 0 (grp n)) (fun a => ?_)).trans ?_
  · match a with
    | ⟨0, _⟩ => rfl
    | ⟨1, _⟩ => rfl
  refine (shapeCast_apply (s := S4x4x1x1) (t := S4x4) _ shapeCasts_S4x4x1x1_S4x4 (ix2 0 (grp n)) (ix4 0 (grp n) 0 0) ?_).trans ?_
  · rw [Shape.rowMajor_val_two, Shape.rowMajor_val_four]
    show ((0 * 4 + n.val / 128) * 1 + 0) * 1 + 0 = 0 * 4 + n.val / 128
    omega
  refine extractStridedSlice_apply (s := S4x4x128x128) (t := S4x4x1x1) ![0, 0, 0, 0] _ slices_S4x4x128x128_S4x4x1x1_0_0_0_0
    (ix4 0 (grp n) 0 0) (ix4 0 (grp n) 0 0) (fun a => ?_)
  match a with
  | ⟨0, _⟩ => rfl
  | ⟨1, _⟩ => show n.val / 128 = 0 + n.val / 128; omega
  | ⟨2, _⟩ => rfl
  | ⟨3, _⟩ => rfl

/-- The layer's biases, one for every position and group, repeated over the group's columns. -/
theorem V_v14 (c : Dev nD) (t : Fin 128) (n : Fin 512) :
    (V m c main_v14 : S128x512.Idx → EReal) (ix2 t n) = (m ((c : Thread nD τ).loc main_arg3) : S4x4x128.Idx → EReal) (ix3 0 (grp n) t) := by
  have e : (V m c main_v14 : S128x512.Idx → EReal) = shapeCast S128x512 (extractStridedSlice S1x128x512 ![0, 0, 0]
      (shapeCast S4x128x512 (broadcastInDim S4x128x4x128 ![0, 1, 2] bcast_S4x128x4_S4x128x4x128_0_1_2
        (transpose S4x128x4 [0, 2, 1] (m ((c : Thread nD τ).loc main_arg3) : S4x4x128.Idx → EReal) transposes_S4x4x128_S4x128x4_0_2_1))
        shapeCasts_S4x128x4x128_S4x128x512) slices_S4x128x512_S1x128x512_0_0_0) shapeCasts_S1x128x512_S128x512 := by
    unfold V; after_results; rfl
  rw [e]
  have hn := n.isLt
  refine (shapeCast_apply (s := S1x128x512) (t := S128x512) _ shapeCasts_S1x128x512_S128x512 (ix2 t n) (ix3 0 t n) ?_).trans ?_
  · rw [Shape.rowMajor_val_two, Shape.rowMajor_val_three]
    show (0 * 128 + t.val) * 512 + n.val = t.val * 512 + n.val
    omega
  refine (extractStridedSlice_apply (s := S4x128x512) (t := S1x128x512) ![0, 0, 0] _ slices_S4x128x512_S1x128x512_0_0_0 (ix3 0 t n) (ix3 0 t n) (fun a => ?_)).trans ?_
  · match a with
    | ⟨0, _⟩ => rfl
    | ⟨1, _⟩ => show t.val = 0 + t.val; omega
    | ⟨2, _⟩ => show n.val = 0 + n.val; omega
  refine (shapeCast_apply (s := S4x128x4x128) (t := S4x128x512) _ shapeCasts_S4x128x4x128_S4x128x512 (ix3 0 t n)
    (ix4 0 t (grp n) ⟨n.val % 128, Nat.mod_lt _ (by decide)⟩) ?_).trans ?_
  · rw [Shape.rowMajor_val_three, Shape.rowMajor_val_four]
    show ((0 * 128 + t.val) * 4 + n.val / 128) * 128 + n.val % 128 = (0 * 128 + t.val) * 512 + n.val
    omega
  refine (broadcastInDim_apply (s := S4x128x4) (t := S4x128x4x128) ![0, 1, 2] bcast_S4x128x4_S4x128x4x128_0_1_2 _ _ (ix3 0 t (grp n)) (fun a => ?_)).trans ?_
  · match a with
    | ⟨0, _⟩ => rfl
    | ⟨1, _⟩ => rfl
    | ⟨2, _⟩ => rfl
  refine transpose_apply (s := S4x4x128) (t := S4x128x4) [0, 2, 1] _ transposes_S4x4x128_S4x128x4_0_2_1 (ix3 0 t (grp n)) (ix3 0 (grp n) t) (fun b => ?_)
  match b with
  | ⟨0, _⟩ => rfl
  | ⟨1, _⟩ => rfl
  | ⟨2, _⟩ => rfl

theorem blk0 (c : Dev nD) (t : Fin cfg0.N) (r : Fin 32) (n : Fin 1024) :
    (iblk m c 0 t : S32x1024.Idx → EReal) (ix2 r n) = (m ((c : Thread nD τ).loc main_arg0) : S32x1024.Idx → EReal) (ix2 r n) := by
  refine Eq.trans ?_ (congrFun (V_arg0 m c) _)
  unfold iblk
  rw [View.read_apply]
  show (V m c main_arg0 : S32x1024.Idx → EReal) ((win0_0.rect t).emb (ix2 r n)) = _
  refine congrArg (V m c main_arg0 : S32x1024.Idx → EReal) (funext fun a => Fin.ext ?_)
  match a with
  | ⟨0, _⟩ => refine (Window.rect_emb_val win0_0 t _ 0).trans ?_; rw [idx0]; show 0 * 32 + r.val = r.val; omega
  | ⟨1, _⟩ => refine (Window.rect_emb_val win0_0 t _ 1).trans ?_; rw [idx0]; show 0 * 1024 + n.val = n.val; omega

theorem blk1 (c : Dev nD) (t : Fin cfg0.N) (n : Fin 512) :
    (iblk m c 1 t : S1x512.Idx → EReal) (ix2 0 n) = (m ((c : Thread nD τ).loc main_arg1) : S4x512.Idx → EReal) (ix2 0 n) := by
  refine Eq.trans ?_ (V_v10 m c n)
  unfold iblk
  rw [View.read_apply]
  show (V m c main_v10 : S1x512.Idx → EReal) ((win0_1.rect t).emb (ix2 0 n)) = _
  refine congrArg (V m c main_v10 : S1x512.Idx → EReal) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 0 * 512 + n.val = n.val; omega

theorem blk2 (c : Dev nD) (t : Fin cfg0.N) (n : Fin 512) :
    (iblk m c 2 t : S1x512.Idx → EReal) (ix2 0 n) = (m ((c : Thread nD τ).loc main_arg2) : S4x4x128x128.Idx → EReal) (ix4 0 (grp n) 0 0) := by
  refine Eq.trans ?_ (V_v12 m c n)
  unfold iblk
  rw [View.read_apply]
  show (V m c main_v12 : S1x512.Idx → EReal) ((win0_2.rect t).emb (ix2 0 n)) = _
  refine congrArg (V m c main_v12 : S1x512.Idx → EReal) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; show 0 * 512 + n.val = n.val; omega

theorem blk3 (c : Dev nD) (t : Fin cfg0.N) (t' : Fin 128) (n : Fin 512) :
    (iblk m c 3 t : S128x512.Idx → EReal) (ix2 t' n) = (m ((c : Thread nD τ).loc main_arg3) : S4x4x128.Idx → EReal) (ix3 0 (grp n) t') := by
  refine Eq.trans ?_ (V_v14 m c t' n)
  unfold iblk
  rw [View.read_apply]
  show (V m c main_v14 : S128x512.Idx → EReal) ((win0_3.rect t).emb (ix2 t' n)) = _
  refine congrArg (V m c main_v14 : S128x512.Idx → EReal) (funext fun a => Fin.ext ?_)
  match a with
  | ⟨0, _⟩ => refine (Window.rect_emb_val win0_3 t _ 0).trans ?_; rw [idx3]; show 0 * 128 + t'.val = t'.val; omega
  | ⟨1, _⟩ => refine (Window.rect_emb_val win0_3 t _ 1).trans ?_; rw [idx3]; show 0 * 512 + n.val = n.val; omega

/-! ## What the point writes back -/

theorem stored5 (c : Dev nD) (t : Fin cfg0.N) (r : Fin 32) (n : Fin 512) :
    k0_pay4 (F := Ideal) (iblk m c 0 t) (iblk m c 1 t) (ix2 r n) = rows (m ((c : Thread nD τ).loc main_arg0)) (m ((c : Thread nD τ).loc main_arg1)) (ix2 r n) := by
  refine (pay4_apply _ _ r n).trans ?_
  exact congrArg₂ (fun y g => normRow 0x44000000#32 y g n) (funext fun n' => congrArg gelu (blk0 m c t r _)) (funext fun n' => blk1 m c t n')

theorem stored4 (c : Dev nD) (t : Fin cfg0.N) (r : Fin 32) (n : Fin 512) :
    k0_pay1 (F := Ideal) (k0_pay3 (iblk m c 0 t)) (k0_pay5 (iblk m c 0 t) (iblk m c 1 t) (iblk m c 2 t)) (k0_pay6 (top (iblk m c 3 t))) (ix2 r n)
      = gated (m ((c : Thread nD τ).loc main_arg0)) (m ((c : Thread nD τ).loc main_arg1)) (m ((c : Thread nD τ).loc main_arg2)) (m ((c : Thread nD τ).loc main_arg3)) (ix2 r n) := by
  refine (pay1_apply _ _ _ _ r n).trans ?_
  unfold gated
  exact congrArg₂ (fun a b : EReal => a * b) (congrArg gelu (blk0 m c t r _)) (congrArg₂ (fun a b : EReal => a + b)
    (congrArg₂ (fun a b : EReal => a * b) (blk2 m c t n) (stored5 m c t r n)) (blk3 m c t 0 n))

theorem emb4 (t : Fin cfg0.N) (r : Fin 32) (d : Fin 512) : (win0_4.rect t).emb (ix2 r d) = ix2 r d :=
  funext fun a => Fin.ext (by
    match a with
    | ⟨0, _⟩ => refine (Window.rect_emb_val win0_4 t _ 0).trans ?_; rw [idx4]; show 0 * 32 + r.val = r.val; omega
    | ⟨1, _⟩ => refine (Window.rect_emb_val win0_4 t _ 1).trans ?_; rw [idx4]; show 0 * 512 + d.val = d.val; omega)

theorem flushed4_eq (c : Dev nD) (t : Fin cfg0.N) :
    (dats m 0 c).flushed 4 t = ((cfg0.win 4).blk t).view.read (Elt Ideal) (gated (m ((c : Thread nD τ).loc main_arg0)) (m ((c : Thread nD τ).loc main_arg1)) (m ((c : Thread nD τ).loc main_arg2)) (m ((c : Thread nD τ).loc main_arg3))) := by
  rw [Value.flushed4 m c t, out4_eq]
  funext y
  obtain ⟨r, d, rfl⟩ : ∃ (r : Fin 32) (d : Fin 512), y = ix2 r d := ⟨y 0, y 1, eq_ix2 y⟩
  rw [View.read_apply]
  show _ = gated _ _ _ _ ((win0_4.rect t).emb (ix2 r d))
  rw [emb4]
  exact stored4 m c t r d

theorem mem_blk4 (t : Fin cfg0.N) (i : S32x512.Idx) :
    i ∈ ((cfg0.win 4).blk t).view.set ↔ ∀ a, win0_4.index t a * win0_4.size a ≤ (i a : Nat)
      ∧ (i a : Nat) < win0_4.index t a * win0_4.size a + win0_4.xsize (grid0.coords t) a := by
  show i ∈ ((View.whole main_v15_0).slice (win0_4.rect t)).set ↔ _
  rw [View.set_slice_whole, Rect.mem_set_unit]

theorem flush4 : ∀ t : Fin cfg0.N, (cfg0.win 4).flush t = true :=
  (by decide +kernel : ∀ t : Fin grid0.N, win0_4.flush t = true)

theorem final4 (c : Dev nD) : (dats m 0 c).arrAt 4 cfg0.N = gated (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) fun (i : S32x512.Idx) => by
    have hi0 : (i 0 : Nat) < 32 := (i 0).isLt
    have hi1 : (i 1 : Nat) < 512 := (i 1).isLt
    refine ⟨⟨0, by rw [show cfg0.N = 1 from N_0]; omega⟩, flush4 _, (mem_blk4 _ i).mpr fun a => ?_⟩
    rw [idx4]
    match a with
    | ⟨0, _⟩ => show 0 * 32 ≤ (i 0 : Nat) ∧ (i 0 : Nat) < 0 * 32 + 32; omega
    | ⟨1, _⟩ => show 0 * 512 ≤ (i 1 : Nat) ∧ (i 1 : Nat) < 0 * 512 + 512; omega

theorem emb5 (t : Fin cfg0.N) (r : Fin 32) (d : Fin 512) : (win0_5.rect t).emb (ix2 r d) = ix2 r d :=
  funext fun a => Fin.ext (by
    match a with
    | ⟨0, _⟩ => refine (Window.rect_emb_val win0_5 t _ 0).trans ?_; rw [idx5]; show 0 * 32 + r.val = r.val; omega
    | ⟨1, _⟩ => refine (Window.rect_emb_val win0_5 t _ 1).trans ?_; rw [idx5]; show 0 * 512 + d.val = d.val; omega)

theorem flushed5_eq (c : Dev nD) (t : Fin cfg0.N) :
    (dats m 0 c).flushed 5 t = ((cfg0.win 5).blk t).view.read (Elt Ideal) (rows (m ((c : Thread nD τ).loc main_arg0)) (m ((c : Thread nD τ).loc main_arg1))) := by
  rw [Value.flushed5 m c t, out5_eq]
  funext y
  obtain ⟨r, d, rfl⟩ : ∃ (r : Fin 32) (d : Fin 512), y = ix2 r d := ⟨y 0, y 1, eq_ix2 y⟩
  rw [View.read_apply]
  show _ = rows _ _ ((win0_5.rect t).emb (ix2 r d))
  rw [emb5]
  exact stored5 m c t r d

theorem mem_blk5 (t : Fin cfg0.N) (i : S32x512.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v15_1).slice (win0_5.rect t)).set ↔ _
  rw [View.set_slice_whole, Rect.mem_set_unit]

theorem flush5 : ∀ t : Fin cfg0.N, (cfg0.win 5).flush t = true :=
  (by decide +kernel : ∀ t : Fin grid0.N, win0_5.flush t = true)

theorem final5 (c : Dev nD) : (dats m 0 c).arrAt 5 cfg0.N = rows (m ((c : Thread nD τ).loc main_arg0)) (m ((c : Thread nD τ).loc main_arg1)) :=
  (dats m 0 c).arrAt_eq_of_cover 5 _ (fun t _ => flushed5_eq m c t) fun (i : S32x512.Idx) => by
    have hi0 : (i 0 : Nat) < 32 := (i 0).isLt
    have hi1 : (i 1 : Nat) < 512 := (i 1).isLt
    refine ⟨⟨0, by rw [show cfg0.N = 1 from N_0]; omega⟩, flush5 _, (mem_blk5 _ i).mpr fun a => ?_⟩
    rw [idx5]
    match a with
    | ⟨0, _⟩ => show 0 * 32 ≤ (i 0 : Nat) ∧ (i 0 : Nat) < 0 * 32 + 32; omega
    | ⟨1, _⟩ => show 0 * 512 ≤ (i 1 : Nat) ∧ (i 1 : Nat) < 0 * 512 + 512; omega

/-- The run: both results, the arguments unchanged. -/
theorem run : θ_run (defs (F := Ideal)) (onTc (τ := τ) (main (F := Ideal))) ⟨m, fun _ => 0, ρ⟩ fun r => ∀ c : Dev nD,
      r.2.mem ((c : Thread nD τ).loc main_v15_0) = gated (m ((c : Thread nD τ).loc main_arg0)) (m ((c : Thread nD τ).loc main_arg1)) (m ((c : Thread nD τ).loc main_arg2)) (m ((c : Thread nD τ).loc main_arg3))
      ∧ r.2.mem ((c : Thread nD τ).loc main_v15_1) = rows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

/-! ## The reference -/

section Reference

open Cert.SgSampleRefIdeal.Read

variable (x0 : S32x1024.Idx → EReal) (x1 : S4x512.Idx → EReal) (x2 : S4x4x128x128.Idx → EReal) (x3 : S4x4x128.Idx → EReal)

theorem ref_gelu (i : S32x1024.Idx) : (val_main_v12 (F := Ideal) x0 : S32x1024.Idx → EReal) i = gelu (x0 i) := by
  rw [val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply, val_main_cst_2_apply]
  generalize x0 i = a
  show (a * (Ideal.ofBits .f32 0x3F000000#32 * (Ideal.ofBits .f32 0x3F800000#32
    + Ideal.tanh (Ideal.ofBits .f32 0x3F4C422A#32 * (a + Ideal.ofBits .f32 0x3D372713#32 * (a * a * a))))) : EReal) = gelu a
  rw [mul_comm (a * a) a]
  rfl

theorem ref_half (r : Fin 32) (n : Fin 512) :
    (val_main_v14 (F := Ideal) x0 : S32x512.Idx → EReal) (ix2 r n) = gelu (x0 (ix2 r (⟨512 + n.val, by omega⟩ : Fin 1024))) := by
  rw [val_main_v14_apply]
  refine (ref_gelu x0 _).trans (congrArg (fun i => gelu (x0 i)) (funext fun a => ?_))
  match a with | ⟨0, _⟩ => rfl | ⟨1, _⟩ => rfl

/-- The reference's second result. -/
theorem ref_v_eq : (val_main_v29 (F := Ideal) x0 x1 : S32x512.Idx → EReal) = rows x0 x1 := by
  funext i
  obtain ⟨r, n, rfl⟩ : ∃ (r : Fin 32) (n : Fin 512), i = ix2 r n := ⟨i 0, i 1, eq_ix2 i⟩
  have hn := n.isLt
  rw [val_main_v29_apply, val_main_v28_apply, val_main_v27_apply, val_main_v26_apply, val_main_v25_apply, val_main_v24_apply,
    val_main_v23_apply, val_main_v22_apply, val_main_v21_apply, val_main_v20_apply, val_main_v19_apply, val_main_v18_apply,
    val_main_v16_apply, val_main_v15_apply, val_main_cst_3_apply, val_main_cst_4_apply, val_main_cst_5_apply]
  show (val_main_v14 (F := Ideal) x0 (ix2 r n)
      * Ideal.rsqrt (Ideal.div (Ideal.ofBits .f32 0x00000000#32 + ∑ k : Fin 512, _) (Ideal.ofBits .f32 0x44000000#32)
        + Ideal.ofBits .f32 0x358637BD#32) * x1 _ : EReal) = _
  rw [Ideal.ofBits_zero_f32, zero_add]
  unfold rows normRow scale
  refine congrArg₂ (fun a b : EReal => a * b) (congrArg₂ (fun a b : EReal => a * b) (ref_half x0 r n)
    (congrArg (fun z : EReal => Ideal.rsqrt (Ideal.div z _ + _)) (Finset.sum_congr rfl fun k _ => ?_))) ?_
  · rw [val_main_v17_apply]
    have hi : (idx_main_v18 (idx_main_v19 (idx_main_v25 (ix2 r n))) k : S32x512.Idx) = ix2 r k :=
      funext fun a => match a with | ⟨0, _⟩ => rfl | ⟨1, _⟩ => rfl
    rw [hi]
    exact congrArg₂ (fun a b : EReal => a * b) (ref_half x0 r k) (ref_half x0 r k)
  · refine congrArg x1 (funext fun a => Fin.ext ?_)
    match a with
    | ⟨0, _⟩ => rfl
    | ⟨1, _⟩ => show n.val % 512 = n.val; omega

/-- The reference's lower triangles, their first rows. -/
theorem ref_tri (q : Fin 4) (s : Fin 128) :
    (val_main_v35 (F := Ideal) x2 : Cert.SgSampleRefIdeal.S4x128x128.Idx → EReal) (ix3 q 0 s) = if s ≤ 0 then x2 (ix4 0 q 0 s) else 0 := by
  have hq := q.isLt
  have hs := s.isLt
  rw [val_main_v35_apply, val_main_call1_v5_apply, val_main_call1_v4_apply, val_main_call1_v2_apply, val_main_call1_v1_apply,
    val_main_call1_v0_apply, val_main_call1_v3_apply, val_main_call1_v6_apply, val_main_call1_c_apply, val_main_call1_cst_apply,
    val_main_v34_apply, val_main_v33_apply]
  have hx : idx_main_v33 (idx_main_v34 (ix3 q 0 s)) = ix4 0 q 0 s := funext fun a => Fin.ext (by
    match a with
    | ⟨0, _⟩ => rfl
    | ⟨1, _⟩ => show ((q.val * 128 + 0) * 128 + s.val) / 16384 % 4 = q.val; omega
    | ⟨2, _⟩ => show ((q.val * 128 + 0) * 128 + s.val) / 128 % 128 = 0; omega
    | ⟨3, _⟩ => show ((q.val * 128 + 0) * 128 + s.val) % 128 = s.val; omega)
  rw [hx]
  show Scalar.select (IntOp.cmpi .sge (BitVec.ofNat 32 (0 : Fin 128).val + 0x00000000#32) (BitVec.ofNat 32 s.val)) (x2 (ix4 0 q 0 s))
    (Ideal.ofBits .f32 0x00000000#32) = _
  rw [BitVec.add_zero, Ideal.ofBits_zero_f32]
  exact select_sge 0 s _ _

/-- The padded chunk's first row is the sample row. -/
theorem ref_pad (r : Fin 32) (n : Fin 512) :
    (val_main_v31 (F := Ideal) x0 x1 : Cert.SgSampleRefIdeal.S32x128x512.Idx → EReal) (ix3 r 0 n) = rows x0 x1 (ix2 r n) := by
  unfold val_main_v31
  refine (pad_apply_of_inside (s := Cert.SgSampleRefIdeal.S32x1x512) (t := Cert.SgSampleRefIdeal.S32x128x512) ![0, 0, 0] ![0, 127, 0] ![0, 0, 0] _ _ _ _ (ix3 r 0 n) (ix3 r 0 n) (fun a => ?_)).trans ?_
  · match a with
    | ⟨0, _⟩ => show r.val = 0 + r.val * (0 + 1); omega
    | ⟨1, _⟩ => rfl
    | ⟨2, _⟩ => show n.val = 0 + n.val * (0 + 1); omega
  rw [val_main_v30_apply]
  refine (congrArg (val_main_v29 (F := Ideal) x0 x1 : S32x512.Idx → EReal) (funext fun a => ?_)).trans (congrFun (ref_v_eq x0 x1) (ix2 r n))
  match a with | ⟨0, _⟩ => rfl | ⟨1, _⟩ => rfl

/-- The reference's first result. -/
theorem ref_eq : (val_main_v47 (F := Ideal) x0 x1 x2 x3 : S32x512.Idx → EReal) = gated x0 x1 x2 x3 := by
  funext i
  obtain ⟨r, n, rfl⟩ : ∃ (r : Fin 32) (n : Fin 512), i = ix2 r n := ⟨i 0, i 1, eq_ix2 i⟩
  have hr := r.isLt
  have hn := n.isLt
  have h44 : idx_main_v44 (idx_main_v45 (idx_main_v46 (ix2 r n))) = ix4 r (0 : Fin 128) (grp n) (⟨n.val % 128, Nat.mod_lt _ (by decide)⟩ : Fin 128) :=
    funext fun a => Fin.ext (by
      match a with
      | ⟨0, _⟩ => show (((r.val * 512 + n.val) / 512 * 128 + 0) * 512 + (r.val * 512 + n.val) % 512) / 65536 = r.val; omega
      | ⟨1, _⟩ => show (((r.val * 512 + n.val) / 512 * 128 + 0) * 512 + (r.val * 512 + n.val) % 512) / 512 % 128 = 0; omega
      | ⟨2, _⟩ => show (((r.val * 512 + n.val) / 512 * 128 + 0) * 512 + (r.val * 512 + n.val) % 512) / 128 % 4 = n.val / 128; omega
      | ⟨3, _⟩ => show (((r.val * 512 + n.val) / 512 * 128 + 0) * 512 + (r.val * 512 + n.val) % 512) % 128 = n.val % 128; omega)
  rw [val_main_v47_apply, val_main_v46_apply, val_main_v45_apply, val_main_v44_apply, h44, val_main_v43_apply, val_main_v42_apply,
    val_main_v41_apply, val_main_v40_apply, val_main_v39_apply, val_main_v38_apply, val_main_v37_apply, val_main_v13_apply, val_main_v36_apply]
  show (_ * (_ + _) : EReal) = _
  unfold gated
  have hr0 : ∀ s : Fin 128, (ridx_main_v36 (idx_main_v37 (ix4 r (0 : Fin 128) (grp n) (⟨n.val % 128, Nat.mod_lt _ (by decide)⟩ : Fin 128))) s
      : Cert.SgSampleRefIdeal.S4x128x128.Idx) = ix3 (grp n) 0 s := fun s => funext fun a => match a with | ⟨0, _⟩ => rfl | ⟨1, _⟩ => rfl | ⟨2, _⟩ => rfl
  refine congrArg₂ (fun a b : EReal => a * b) ?_ (congrArg₂ (fun a b : EReal => a + b) ?_ ?_)
  · refine (ref_gelu x0 _).trans (congrArg (fun i => gelu (x0 i)) (funext fun a => ?_))
    match a with | ⟨0, _⟩ => rfl | ⟨1, _⟩ => rfl
  · refine (Finset.sum_eq_single (0 : Fin 128) (fun s _ hs => ?_) (fun h => absurd (Finset.mem_univ _) h)).trans ?_
    · rw [hr0, ref_tri, if_neg (fun h => hs (le_antisymm h (Fin.zero_le s)))]
      exact mul_zero (M₀ := EReal) _
    · refine (mul_comm (G := EReal) _ _).trans (congrArg₂ (fun a b : EReal => a * b) ?_ ?_)
      · rw [hr0, ref_tri, if_pos le_rfl]
      · rw [val_main_v32_apply]
        refine (congrArg (val_main_v31 (F := Ideal) x0 x1 : Cert.SgSampleRefIdeal.S32x128x512.Idx → EReal) (funext fun a => Fin.ext ?_)).trans
          (ref_pad x0 x1 r n)
        match a with
        | ⟨0, _⟩ => show (((r.val * 128 + 0) * 4 + n.val / 128) * 128 + n.val % 128) / 65536 = r.val; omega
        | ⟨1, _⟩ => show (((r.val * 128 + 0) * 4 + n.val / 128) * 128 + n.val % 128) / 512 % 128 = 0; omega
        | ⟨2, _⟩ => show (((r.val * 128 + 0) * 4 + n.val / 128) * 128 + n.val % 128) % 512 = n.val; omega
  · refine congrArg x3 (funext fun a => Fin.ext ?_)
    match a with
    | ⟨0, _⟩ => rfl
    | ⟨1, _⟩ => show (n.val / 128 * 128 + 0) / 128 % 4 = n.val / 128; omega
    | ⟨2, _⟩ => show (n.val / 128 * 128 + 0) % 128 = 0; omega

end Reference

end Cert.Proof.SgSample
-- ==== Proof.SsmBody.lean ====
/-
  One step of the state-space branch on the sample rows, the call's arithmetic: its three result blocks index by index, as
  functions of the nine blocks it reads. The call works through four parts of the channels; every result column lies in one.
-/
module

public import proofs.«01_k».proof.Defs
public import proofs.«01_k».proof.Proof.Gen.SsmSampleIdeal.Value
public import proofs.«01_k».proof.Proof.Gating
public import Idealize.ShloMosaic.Lib.ValueIdx
public import Idealize.ShloMosaic.Lib.IdealHost
public import Idealize.ShloMosaic.Lib.MatmulPlain
public import Idealize.ShloMosaic.Lib.Pipeline.ValueKit.Tiles

@[expose] public section

noncomputable section

namespace Cert.Proof.SsmBody

open Idealize.ShloMosaic Idealize.ShloMosaic.TcCoe Idealize.SL.Sem Idealize.ShloMosaic.ValueIdx
open Cert.SsmSampleIdeal Cert.SsmSampleIdeal.Gen
open Cert.Proof.Gating (gelu)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One part's arithmetic -/

/-- A part's channels through its input matrix. -/
def inDot (ub : FVec Ideal S32x128 .bf16) (w : Vec Ideal S1x128x1024 .bf16) : FVec Ideal S32x1024 .f32 :=
  matmul dot_S32x128_S128x1024_S32x1024_1_0_0_1_n_n none ub (shapeCast S128x1024 w shapeCasts_S1x128x1024_S128x1024 : FVec Ideal S128x1024 .bf16)
    (constant S32x1024 .f32 0x00000000#32)

/-- The step's real part. -/
def newRe (bu : FVec Ideal S32x1024 .f32) (a b : Vec Ideal S1x512 .f32) (sr si : Vec Ideal S32x512 .f32) : FVec Ideal S32x512 .f32 :=
  addf (subf (mulf (broadcastTo S32x512 (shapeCast S1x512 a shapeCasts_S1x512_S1x512) broadcasts_S1x512_S32x512)
      (shapeCast S32x512 sr shapeCasts_S32x512_S32x512))
    (mulf (broadcastTo S32x512 (shapeCast S1x512 b shapeCasts_S1x512_S1x512) broadcasts_S1x512_S32x512)
      (shapeCast S32x512 si shapeCasts_S32x512_S32x512)))
    (extractStridedSlice S32x512 ![0, 0] bu slices_S32x1024_o0_0_S32x512)

/-- The step's imaginary part. -/
def newIm (bu : FVec Ideal S32x1024 .f32) (a b : Vec Ideal S1x512 .f32) (sr si : Vec Ideal S32x512 .f32) : FVec Ideal S32x512 .f32 :=
  addf (addf (mulf (broadcastTo S32x512 (shapeCast S1x512 a shapeCasts_S1x512_S1x512) broadcasts_S1x512_S32x512)
      (shapeCast S32x512 si shapeCasts_S32x512_S32x512))
    (mulf (broadcastTo S32x512 (shapeCast S1x512 b shapeCasts_S1x512_S1x512) broadcasts_S1x512_S32x512)
      (shapeCast S32x512 sr shapeCasts_S32x512_S32x512)))
    (extractStridedSlice S32x512 ![0, 512] bu slices_S32x1024_o0_512_S32x512)

/-- One of a part's two products with its output matrix. -/
def half (s : FVec Ideal S32x512 .f32) (c : Vec Ideal S1x512x128 .bf16) : FVec Ideal S32x128 .f32 :=
  matmul dot_S32x512_S512x128_S32x128_1_0_0_1_n_n none (truncf .bf16 s bitsLt_bf16_f32)
    (shapeCast S512x128 c shapeCasts_S1x512x128_S512x128 : FVec Ideal S512x128 .bf16) (constant S32x128 .f32 0x00000000#32)

/-- A part's outputs from its two states. -/
def outDot (sr si : FVec Ideal S32x512 .f32) (cr ci : Vec Ideal S1x512x128 .bf16) : FVec Ideal S32x128 .f32 :=
  addf (half sr cr) (half si ci)

theorem inDot_apply (ub : FVec Ideal S32x128 .bf16) (w : Vec Ideal S1x128x1024 .bf16) (r : Fin 32) (n : Fin 1024) :
    (inDot ub w (ix2 r n) : EReal) = ∑ k : Fin 128, ub (ix2 r k) * w (ix3 0 k n) := by
  unfold inDot
  show (FloatOps.matmul (F := Ideal) (DotDims.plain 32 128 1024) none ub (shapeCast S128x1024 w shapeCasts_S1x128x1024_S128x1024 : FVec Ideal S128x1024 .bf16)
    (constant S32x1024 .f32 0x00000000#32) (ix2 r n) : EReal) = _
  rw [Ideal.matmul_plain_apply, constant_apply, Ideal.ofBits_zero_f32, zero_add]
  refine Finset.sum_congr rfl fun k _ => congrArg (ub (ix2 r k) * ·) ?_
  refine shapeCast_apply w shapeCasts_S1x128x1024_S128x1024 _ _ ?_
  rw [Shape.rowMajor_val_two, Shape.rowMajor_val_three]
  show (0 * 128 + k.val) * 1024 + n.val = k.val * 1024 + n.val
  omega

theorem half_apply (s : FVec Ideal S32x512 .f32) (c : Vec Ideal S1x512x128 .bf16) (r : Fin 32) (q : Fin 128) :
    (half s c (ix2 r q) : EReal) = ∑ n : Fin 512, s (ix2 r n) * c (ix3 0 n q) := by
  unfold half
  show (FloatOps.matmul (F := Ideal) (DotDims.plain 32 512 128) none s (shapeCast S512x128 c shapeCasts_S1x512x128_S512x128)
    (constant S32x128 .f32 0x00000000#32) (ix2 r q) : EReal) = _
  rw [Ideal.matmul_plain_apply, constant_apply, Ideal.ofBits_zero_f32, zero_add]
  refine Finset.sum_congr rfl fun k _ => congrArg (s (ix2 r k) * ·) ?_
  refine shapeCast_apply c shapeCasts_S1x512x128_S512x128 _ _ ?_
  rw [Shape.rowMajor_val_two, Shape.rowMajor_val_three]
  show (0 * 512 + k.val) * 128 + q.val = k.val * 128 + q.val
  omega

/-- A row repeated over the sample rows. -/
theorem spread_apply (x : Vec Ideal S1x512 .f32) (r : Fin 32) (n : Fin 512) :
    (broadcastTo S32x512 (shapeCast S1x512 x shapeCasts_S1x512_S1x512) broadcasts_S1x512_S32x512 (ix2 r n) : EReal) = x (ix2 0 n) := by
  rw [shapeCast_self]
  exact broadcastTo_apply x broadcasts_S1x512_S32x512 (ix2 r n) (ix2 0 n) (fun a => match a with | ⟨0, _⟩ => rfl | ⟨1, _⟩ => rfl)

theorem newRe_apply (bu : FVec Ideal S32x1024 .f32) (a b : Vec Ideal S1x512 .f32) (sr si : Vec Ideal S32x512 .f32) (r : Fin 32) (n : Fin 512) :
    (newRe bu a b sr si (ix2 r n) : EReal)
      = (@HMul.hMul EReal EReal EReal _ (a (ix2 0 n)) (sr (ix2 r n)) - @HMul.hMul EReal EReal EReal _ (b (ix2 0 n)) (si (ix2 r n)))
        + bu (ix2 r (⟨n.val, by omega⟩ : Fin 1024)) := by
  unfold newRe
  rw [shapeCast_self sr, shapeCast_self si]
  refine congrArg₂ (fun a b : EReal => a + b) (congrArg₂ (fun a b : EReal => a - b)
    (congrArg (fun z : EReal => z * sr (ix2 r n)) (spread_apply a r n)) (congrArg (fun z : EReal => z * si (ix2 r n)) (spread_apply b r n))) ?_
  refine extractStridedSlice_apply (s := S32x1024) (t := S32x512) ![0, 0] bu slices_S32x1024_o0_0_S32x512 (ix2 r n) _ (fun a => ?_)
  match a with
  | ⟨0, _⟩ => show r.val = 0 + r.val; omega
  | ⟨1, _⟩ => show n.val = 0 + n.val; omega

theorem newIm_apply (bu : FVec Ideal S32x1024 .f32) (a b : Vec Ideal S1x512 .f32) (sr si : Vec Ideal S32x512 .f32) (r : Fin 32) (n : Fin 512) :
    (newIm bu a b sr si (ix2 r n) : EReal)
      = (@HMul.hMul EReal EReal EReal _ (a (ix2 0 n)) (si (ix2 r n)) + @HMul.hMul EReal EReal EReal _ (b (ix2 0 n)) (sr (ix2 r n)))
        + bu (ix2 r (⟨512 + n.val, by omega⟩ : Fin 1024)) := by
  unfold newIm
  rw [shapeCast_self sr, shapeCast_self si]
  refine congrArg₂ (fun a b : EReal => a + b) (congrArg₂ (fun a b : EReal => a + b)
    (congrArg (fun z : EReal => z * si (ix2 r n)) (spread_apply a r n)) (congrArg (fun z : EReal => z * sr (ix2 r n)) (spread_apply b r n))) ?_
  refine extractStridedSlice_apply (s := S32x1024) (t := S32x512) ![0, 512] bu slices_S32x1024_o0_512_S32x512 (ix2 r n) _ (fun a => ?_)
  match a with
  | ⟨0, _⟩ => show r.val = 0 + r.val; omega
  | ⟨1, _⟩ => rfl

/-! ## The results, index by index, from the blocks the call reads -/

section Results

variable (x0 : S32x512.Idx → EReal) (x1 x2 : S32x2048.Idx → EReal) (x3 : S1x512x1024.Idx → EReal) (x4 : S1x4096x128.Idx → EReal)
  (x5 : S2x2048.Idx → EReal) (x6 : S1x512.Idx → EReal) (x7 : S1x512x512.Idx → EReal) (x8 : S1x512.Idx → EReal)

/-- A channel of the part a state column lies in. -/
def chan (n : Fin 2048) (k : Fin 128) : Fin 512 := ⟨128 * (n.val / 512) + k.val, by omega⟩

/-- The new state's real part, one column. -/
def stRe (r : Fin 32) (n : Fin 2048) : EReal :=
  (x5 (ix2 0 n) * x1 (ix2 r n) - x5 (ix2 1 n) * x2 (ix2 r n))
    + ∑ k : Fin 128, x0 (ix2 r (chan n k)) * x3 (ix3 0 (chan n k) (⟨n.val % 512, by omega⟩ : Fin 1024))

/-- The new state's imaginary part, one column. -/
def stIm (r : Fin 32) (n : Fin 2048) : EReal :=
  (x5 (ix2 0 n) * x2 (ix2 r n) + x5 (ix2 1 n) * x1 (ix2 r n))
    + ∑ k : Fin 128, x0 (ix2 r (chan n k)) * x3 (ix3 0 (chan n k) (⟨512 + n.val % 512, by omega⟩ : Fin 1024))

/-- A state column of the part a channel lies in. -/
def col (c : Fin 512) (n : Fin 512) : Fin 2048 := ⟨512 * (c.val / 128) + n.val, by omega⟩

/-- The states read out at one channel. -/
def read (r : Fin 32) (c : Fin 512) : EReal :=
  (∑ n : Fin 512, stRe x0 x1 x2 x3 x5 r (col c n) * x4 (ix3 0 (⟨(col c n).val, by omega⟩ : Fin 4096) (⟨c.val % 128, by omega⟩ : Fin 128)))
    + ∑ n : Fin 512, stIm x0 x1 x2 x3 x5 r (col c n) * x4 (ix3 0 (⟨2048 + (col c n).val, by omega⟩ : Fin 4096) (⟨c.val % 128, by omega⟩ : Fin 128))

/-- The activation of one channel. -/
def act (r : Fin 32) (c : Fin 512) : EReal := gelu (read x0 x1 x2 x3 x4 x5 r c + x6 (ix2 0 c) * x0 (ix2 r c))

/-- The branch's output at one channel: the activation gated by its own projection. -/
def outv (r : Fin 32) (c : Fin 512) : EReal :=
  act x0 x1 x2 x3 x4 x5 x6 r c
    * Ideal.logistic ((∑ k : Fin 512, act x0 x1 x2 x3 x4 x5 x6 r k * x7 (ix3 0 k c)) + x8 (ix2 0 c))

end Results

section Parts

variable (x0 : Vec Ideal S32x512 .f32) (x1 x2 : Vec Ideal S32x2048 .f32) (x3 : Vec Ideal S1x512x1024 .bf16) (x4 : Vec Ideal S1x4096x128 .bf16)
  (x5 : Vec Ideal S2x2048 .f32) (x6 : Vec Ideal S1x512 .f32) (x7 : Vec Ideal S1x512x512 .bf16) (x8 : Vec Ideal S1x512 .f32)

/-! ### The loads of a part -/

theorem ld_w (o : Nat) (inb) (k : Fin 128) (n : Fin 1024) (h : o + k.val < 512) :
    (View.ld x3 (Rect.unit (s := S1x512x1024) ![0, o, 0] S1x128x1024.size inb) (ix3 0 k n) : EReal) = x3 (ix3 0 ⟨o + k.val, h⟩ n) := by
  refine View.ld_unit_apply_of x3 ![0, o, 0] S1x128x1024.size inb _ _ (fun a => ?_)
  match a with
  | ⟨0, _⟩ => rfl
  | ⟨1, _⟩ => rfl
  | ⟨2, _⟩ => show n.val = 0 + n.val; omega

theorem ld_c (o : Nat) (inb) (k : Fin 512) (n : Fin 128) (h : o + k.val < 4096) :
    (View.ld x4 (Rect.unit (s := S1x4096x128) ![0, o, 0] S1x512x128.size inb) (ix3 0 k n) : EReal) = x4 (ix3 0 ⟨o + k.val, h⟩ n) := by
  refine View.ld_unit_apply_of x4 ![0, o, 0] S1x512x128.size inb _ _ (fun a => ?_)
  match a with
  | ⟨0, _⟩ => rfl
  | ⟨1, _⟩ => rfl
  | ⟨2, _⟩ => show n.val = 0 + n.val; omega

theorem ld_a (i : Fin 2) (o : Nat) (inb) (n : Fin 512) (h : o + n.val < 2048) :
    (View.ld x5 (Rect.unit (s := S2x2048) ![i.val, o] S1x512.size inb) (ix2 0 n) : EReal) = x5 (ix2 i ⟨o + n.val, h⟩) := by
  refine View.ld_unit_apply_of x5 ![i.val, o] S1x512.size inb _ _ (fun a => ?_)
  match a with
  | ⟨0, _⟩ => rfl
  | ⟨1, _⟩ => rfl

theorem ld_s (x : Vec Ideal S32x2048 .f32) (o : Nat) (inb) (r : Fin 32) (n : Fin 512) (h : o + n.val < 2048) :
    (View.ld x (Rect.unit (s := S32x2048) ![0, o] S32x512.size inb) (ix2 r n) : EReal) = x (ix2 r ⟨o + n.val, h⟩) := by
  refine View.ld_unit_apply_of x ![0, o] S32x512.size inb _ _ (fun a => ?_)
  match a with
  | ⟨0, _⟩ => show r.val = 0 + r.val; omega
  | ⟨1, _⟩ => rfl

theorem cut_u (o : Nat) (h : S32x512.Slices ![0, o] S32x128) (r : Fin 32) (k : Fin 128) (hk : o + k.val < 512) :
    (extractStridedSlice S32x128 ![0, o] (k0_pay1 x0) h (ix2 r k) : EReal) = x0 (ix2 r ⟨o + k.val, hk⟩) := by
  refine (extractStridedSlice_apply (s := S32x512) (t := S32x128) ![0, o] (k0_pay1 x0) h (ix2 r k) (ix2 r ⟨o + k.val, hk⟩) (fun a => ?_)).trans rfl
  match a with
  | ⟨0, _⟩ => show r.val = 0 + r.val; omega
  | ⟨1, _⟩ => rfl

/-! ### A part's states and outputs -/

theorem part_re (j : Fin 4) (ub : FVec Ideal S32x128 .bf16) (w : Vec Ideal S1x128x1024 .bf16) (a b : Vec Ideal S1x512 .f32)
    (sr si : Vec Ideal S32x512 .f32)
    (hu : ∀ r (k : Fin 128), (ub (ix2 r k) : EReal) = x0 (ix2 r ⟨128 * j.val + k.val, by omega⟩))
    (hw : ∀ (k : Fin 128) n, (w (ix3 0 k n) : EReal) = x3 (ix3 0 ⟨128 * j.val + k.val, by omega⟩ n))
    (ha : ∀ n : Fin 512, (a (ix2 0 n) : EReal) = x5 (ix2 0 ⟨512 * j.val + n.val, by omega⟩))
    (hb : ∀ n : Fin 512, (b (ix2 0 n) : EReal) = x5 (ix2 1 ⟨512 * j.val + n.val, by omega⟩))
    (hr : ∀ r (n : Fin 512), (sr (ix2 r n) : EReal) = x1 (ix2 r ⟨512 * j.val + n.val, by omega⟩))
    (hi : ∀ r (n : Fin 512), (si (ix2 r n) : EReal) = x2 (ix2 r ⟨512 * j.val + n.val, by omega⟩))
    (r : Fin 32) (n : Fin 512) :
    (newRe (inDot ub w) a b sr si (ix2 r n) : EReal) = stRe x0 x1 x2 x3 x5 r ⟨512 * j.val + n.val, by omega⟩ := by
  refine (newRe_apply _ a b sr si r n).trans ?_
  unfold stRe
  rw [ha, hb, hr, hi]
  refine congrArg₂ (fun a b : EReal => a + b) rfl ((inDot_apply ub w r _).trans (Finset.sum_congr rfl fun k _ => ?_))
  have hc : chan ⟨512 * j.val + n.val, by omega⟩ k = ⟨128 * j.val + k.val, by omega⟩ := Fin.ext (by
    show 128 * ((512 * j.val + n.val) / 512) + k.val = 128 * j.val + k.val; omega)
  rw [hc, hu, hw]
  refine congrArg (fun z => _ * x3 (ix3 0 _ z)) (Fin.ext ?_)
  show n.val = (512 * j.val + n.val) % 512
  omega

theorem part_im (j : Fin 4) (ub : FVec Ideal S32x128 .bf16) (w : Vec Ideal S1x128x1024 .bf16) (a b : Vec Ideal S1x512 .f32)
    (sr si : Vec Ideal S32x512 .f32)
    (hu : ∀ r (k : Fin 128), (ub (ix2 r k) : EReal) = x0 (ix2 r ⟨128 * j.val + k.val, by omega⟩))
    (hw : ∀ (k : Fin 128) n, (w (ix3 0 k n) : EReal) = x3 (ix3 0 ⟨128 * j.val + k.val, by omega⟩ n))
    (ha : ∀ n : Fin 512, (a (ix2 0 n) : EReal) = x5 (ix2 0 ⟨512 * j.val + n.val, by omega⟩))
    (hb : ∀ n : Fin 512, (b (ix2 0 n) : EReal) = x5 (ix2 1 ⟨512 * j.val + n.val, by omega⟩))
    (hr : ∀ r (n : Fin 512), (sr (ix2 r n) : EReal) = x1 (ix2 r ⟨512 * j.val + n.val, by omega⟩))
    (hi : ∀ r (n : Fin 512), (si (ix2 r n) : EReal) = x2 (ix2 r ⟨512 * j.val + n.val, by omega⟩))
    (r : Fin 32) (n : Fin 512) :
    (newIm (inDot ub w) a b sr si (ix2 r n) : EReal) = stIm x0 x1 x2 x3 x5 r ⟨512 * j.val + n.val, by omega⟩ := by
  refine (newIm_apply _ a b sr si r n).trans ?_
  unfold stIm
  rw [ha, hb, hr, hi]
  refine congrArg₂ (fun a b : EReal => a + b) rfl ((inDot_apply ub w r _).trans (Finset.sum_congr rfl fun k _ => ?_))
  have hc : chan ⟨512 * j.val + n.val, by omega⟩ k = ⟨128 * j.val + k.val, by omega⟩ := Fin.ext (by
    show 128 * ((512 * j.val + n.val) / 512) + k.val = 128 * j.val + k.val; omega)
  rw [hc, hu, hw]
  refine congrArg (fun z => _ * x3 (ix3 0 _ z)) (Fin.ext ?_)
  show 512 + n.val = 512 + (512 * j.val + n.val) % 512
  omega

/-- A part's outputs, its states given column by column. -/
theorem part_out (j : Fin 4) (sr si : FVec Ideal S32x512 .f32) (cr ci : Vec Ideal S1x512x128 .bf16)
    (hr : ∀ r (n : Fin 512), (sr (ix2 r n) : EReal) = stRe x0 x1 x2 x3 x5 r ⟨512 * j.val + n.val, by omega⟩)
    (hi : ∀ r (n : Fin 512), (si (ix2 r n) : EReal) = stIm x0 x1 x2 x3 x5 r ⟨512 * j.val + n.val, by omega⟩)
    (hcr : ∀ (n : Fin 512) q, (cr (ix3 0 n q) : EReal) = x4 (ix3 0 ⟨512 * j.val + n.val, by omega⟩ q))
    (hci : ∀ (n : Fin 512) q, (ci (ix3 0 n q) : EReal) = x4 (ix3 0 ⟨2048 + 512 * j.val + n.val, by omega⟩ q))
    (r : Fin 32) (q : Fin 128) :
    (outDot sr si cr ci (ix2 r q) : EReal) = read x0 x1 x2 x3 x4 x5 r ⟨128 * j.val + q.val, by omega⟩ := by
  unfold outDot read
  have hc : ∀ n : Fin 512, col ⟨128 * j.val + q.val, by omega⟩ n = ⟨512 * j.val + n.val, by omega⟩ := fun n => Fin.ext (by
    show 512 * ((128 * j.val + q.val) / 128) + n.val = 512 * j.val + n.val; omega)
  have hq : (⟨(128 * j.val + q.val) % 128, by omega⟩ : Fin 128) = q := Fin.ext (by show (128 * j.val + q.val) % 128 = q.val; omega)
  refine congrArg₂ (fun a b : EReal => a + b) ((half_apply sr cr r q).trans (Finset.sum_congr rfl fun n _ => ?_))
    ((half_apply si ci r q).trans (Finset.sum_congr rfl fun n _ => ?_))
  · rw [hr, hcr]
    exact congrArg₂ (fun a b : EReal => a * b) (congrArg (stRe x0 x1 x2 x3 x5 r) (hc n).symm)
      (congrArg₂ (fun u v => x4 (ix3 0 u v)) (Fin.ext (congrArg (fun z : Fin 2048 => z.val) (hc n).symm)) hq.symm)
  · rw [hi, hci]
    exact congrArg₂ (fun a b : EReal => a * b) (congrArg (stIm x0 x1 x2 x3 x5 r) (hc n).symm)
      (congrArg₂ (fun u v => x4 (ix3 0 u v)) (Fin.ext ((Nat.add_assoc 2048 (512 * j.val) n.val).trans
        (congrArg (fun z : Fin 2048 => 2048 + z.val) (hc n).symm))) hq.symm)

theorem re0 (r : Fin 32) (n : Fin 512) :
    (k0_pay7 x0 (View.ld x3 r0_1) (View.ld x5 r0_2) (View.ld x5 r0_3) (View.ld x1 r0_4) (View.ld x2 r0_4) (ix2 r n) : EReal)
      = stRe x0 x1 x2 x3 x5 r ⟨512 * 0 + n.val, by omega⟩ := by
  show (newRe (inDot (extractStridedSlice S32x128 ![0, 0] (k0_pay1 x0) slices_S32x512_o0_0_S32x128) (View.ld x3 r0_1)) (View.ld x5 r0_2)
    (View.ld x5 r0_3) (View.ld x1 r0_4) (View.ld x2 r0_4) (ix2 r n) : EReal) = _
  exact part_re x0 x1 x2 x3 x5 0 _ _ _ _ _ _ (fun r k => cut_u x0 0 _ r k _) (fun k n => ld_w x3 0 _ k n _)
    (fun n => ld_a x5 0 0 _ n _) (fun n => ld_a x5 1 0 _ n _) (fun r n => ld_s x1 0 _ r n _) (fun r n => ld_s x2 0 _ r n _) r n

theorem im0 (r : Fin 32) (n : Fin 512) :
    (k0_pay8 x0 (View.ld x3 r0_1) (View.ld x5 r0_2) (View.ld x5 r0_3) (View.ld x1 r0_4) (View.ld x2 r0_4) (ix2 r n) : EReal)
      = stIm x0 x1 x2 x3 x5 r ⟨512 * 0 + n.val, by omega⟩ := by
  show (newIm (inDot (extractStridedSlice S32x128 ![0, 0] (k0_pay1 x0) slices_S32x512_o0_0_S32x128) (View.ld x3 r0_1)) (View.ld x5 r0_2)
    (View.ld x5 r0_3) (View.ld x1 r0_4) (View.ld x2 r0_4) (ix2 r n) : EReal) = _
  exact part_im x0 x1 x2 x3 x5 0 _ _ _ _ _ _ (fun r k => cut_u x0 0 _ r k _) (fun k n => ld_w x3 0 _ k n _)
    (fun n => ld_a x5 0 0 _ n _) (fun n => ld_a x5 1 0 _ n _) (fun r n => ld_s x1 0 _ r n _) (fun r n => ld_s x2 0 _ r n _) r n

theorem re1 (r : Fin 32) (n : Fin 512) :
    (k0_pay17 (k0_pay1 x0) (View.ld x3 r0_7) (View.ld x5 r0_8) (View.ld x5 r0_9) (View.ld x1 r0_10) (View.ld x2 r0_10) (ix2 r n) : EReal)
      = stRe x0 x1 x2 x3 x5 r ⟨512 * 1 + n.val, by omega⟩ := by
  show (newRe (inDot (extractStridedSlice S32x128 ![0, 128] (k0_pay1 x0) slices_S32x512_o0_128_S32x128) (View.ld x3 r0_7)) (View.ld x5 r0_8)
    (View.ld x5 r0_9) (View.ld x1 r0_10) (View.ld x2 r0_10) (ix2 r n) : EReal) = _
  exact part_re x0 x1 x2 x3 x5 1 _ _ _ _ _ _ (fun r k => cut_u x0 128 _ r k _) (fun k n => ld_w x3 128 _ k n _)
    (fun n => ld_a x5 0 512 _ n _) (fun n => ld_a x5 1 512 _ n _) (fun r n => ld_s x1 512 _ r n _) (fun r n => ld_s x2 512 _ r n _) r n

theorem im1 (r : Fin 32) (n : Fin 512) :
    (k0_pay18 (k0_pay1 x0) (View.ld x3 r0_7) (View.ld x5 r0_8) (View.ld x5 r0_9) (View.ld x1 r0_10) (View.ld x2 r0_10) (ix2 r n) : EReal)
      = stIm x0 x1 x2 x3 x5 r ⟨512 * 1 + n.val, by omega⟩ := by
  show (newIm (inDot (extractStridedSlice S32x128 ![0, 128] (k0_pay1 x0) slices_S32x512_o0_128_S32x128) (View.ld x3 r0_7)) (View.ld x5 r0_8)
    (View.ld x5 r0_9) (View.ld x1 r0_10) (View.ld x2 r0_10) (ix2 r n) : EReal) = _
  exact part_im x0 x1 x2 x3 x5 1 _ _ _ _ _ _ (fun r k => cut_u x0 128 _ r k _) (fun k n => ld_w x3 128 _ k n _)
    (fun n => ld_a x5 0 512 _ n _) (fun n => ld_a x5 1 512 _ n _) (fun r n => ld_s x1 512 _ r n _) (fun r n => ld_s x2 512 _ r n _) r n

theorem re2 (r : Fin 32) (n : Fin 512) :
    (k0_pay27 (k0_pay1 x0) (View.ld x3 r0_13) (View.ld x5 r0_14) (View.ld x5 r0_15) (View.ld x1 r0_16) (View.ld x2 r0_16) (ix2 r n) : EReal)
      = stRe x0 x1 x2 x3 x5 r ⟨512 * 2 + n.val, by omega⟩ := by
  show (newRe (inDot (extractStridedSlice S32x128 ![0, 256] (k0_pay1 x0) slices_S32x512_o0_256_S32x128) (View.ld x3 r0_13)) (View.ld x5 r0_14)
    (View.ld x5 r0_15) (View.ld x1 r0_16) (View.ld x2 r0_16) (ix2 r n) : EReal) = _
  exact part_re x0 x1 x2 x3 x5 2 _ _ _ _ _ _ (fun r k => cut_u x0 256 _ r k _) (fun k n => ld_w x3 256 _ k n _)
    (fun n => ld_a x5 0 1024 _ n _) (fun n => ld_a x5 1 1024 _ n _) (fun r n => ld_s x1 1024 _ r n _) (fun r n => ld_s x2 1024 _ r n _) r n

theorem im2 (r : Fin 32) (n : Fin 512) :
    (k0_pay28 (k0_pay1 x0) (View.ld x3 r0_13) (View.ld x5 r0_14) (View.ld x5 r0_15) (View.ld x1 r0_16) (View.ld x2 r0_16) (ix2 r n) : EReal)
      = stIm x0 x1 x2 x3 x5 r ⟨512 * 2 + n.val, by omega⟩ := by
  show (newIm (inDot (extractStridedSlice S32x128 ![0, 256] (k0_pay1 x0) slices_S32x512_o0_256_S32x128) (View.ld x3 r0_13)) (View.ld x5 r0_14)
    (View.ld x5 r0_15) (View.ld x1 r0_16) (View.ld x2 r0_16) (ix2 r n) : EReal) = _
  exact part_im x0 x1 x2 x3 x5 2 _ _ _ _ _ _ (fun r k => cut_u x0 256 _ r k _) (fun k n => ld_w x3 256 _ k n _)
    (fun n => ld_a x5 0 1024 _ n _) (fun n => ld_a x5 1 1024 _ n _) (fun r n => ld_s x1 1024 _ r n _) (fun r n => ld_s x2 1024 _ r n _) r n

theorem re3 (r : Fin 32) (n : Fin 512) :
    (k0_pay36 (k0_pay1 x0) (View.ld x3 r0_19) (View.ld x5 r0_20) (View.ld x5 r0_21) (View.ld x1 r0_22) (View.ld x2 r0_22) (ix2 r n) : EReal)
      = stRe x0 x1 x2 x3 x5 r ⟨512 * 3 + n.val, by omega⟩ := by
  show (newRe (inDot (extractStridedSlice S32x128 ![0, 384] (k0_pay1 x0) slices_S32x512_o0_384_S32x128) (View.ld x3 r0_19)) (View.ld x5 r0_20)
    (View.ld x5 r0_21) (View.ld x1 r0_22) (View.ld x2 r0_22) (ix2 r n) : EReal) = _
  exact part_re x0 x1 x2 x3 x5 3 _ _ _ _ _ _ (fun r k => cut_u x0 384 _ r k _) (fun k n => ld_w x3 384 _ k n _)
    (fun n => ld_a x5 0 1536 _ n _) (fun n => ld_a x5 1 1536 _ n _) (fun r n => ld_s x1 1536 _ r n _) (fun r n => ld_s x2 1536 _ r n _) r n

theorem im3 (r : Fin 32) (n : Fin 512) :
    (k0_pay37 (k0_pay1 x0) (View.ld x3 r0_19) (View.ld x5 r0_20) (View.ld x5 r0_21) (View.ld x1 r0_22) (View.ld x2 r0_22) (ix2 r n) : EReal)
      = stIm x0 x1 x2 x3 x5 r ⟨512 * 3 + n.val, by omega⟩ := by
  show (newIm (inDot (extractStridedSlice S32x128 ![0, 384] (k0_pay1 x0) slices_S32x512_o0_384_S32x128) (View.ld x3 r0_19)) (View.ld x5 r0_20)
    (View.ld x5 r0_21) (View.ld x1 r0_22) (View.ld x2 r0_22) (ix2 r n) : EReal) = _
  exact part_im x0 x1 x2 x3 x5 3 _ _ _ _ _ _ (fun r k => cut_u x0 384 _ r k _) (fun k n => ld_w x3 384 _ k n _)
    (fun n => ld_a x5 0 1536 _ n _) (fun n => ld_a x5 1 1536 _ n _) (fun r n => ld_s x1 1536 _ r n _) (fun r n => ld_s x2 1536 _ r n _) r n

/-- The new states' real parts, as the call stores them part by part. -/
theorem out10_eq (y : S32x2048.Idx) : (out0_10 x0 x1 x2 x3 x4 x5 x6 x7 x8 y : EReal) = stRe x0 x1 x2 x3 x5 (y 0) (y 1) := by
  unfold_out out0_10
  rw [View.ld_unit_zero (S := S32x512) hz2]
  have hpt : ∀ (j : Nat) (x : S32x512.Idx) (hj : j < 4) (h : ∀ a : Fin 2, (y a : Nat) = (![0, 512 * j] : Fin 2 → Nat) a + x a),
      stRe x0 x1 x2 x3 x5 (x 0) ⟨512 * j + (x 1).val, by have h1 : (x 1).val < 512 := (x 1).isLt; omega⟩ = stRe x0 x1 x2 x3 x5 (y 0) (y 1) := by
    intro j x hj h
    have h0 : (y 0).val = 0 + (x 0).val := h 0
    have h1 : (y 1).val = 512 * j + (x 1).val := h 1
    exact congrArg₂ (stRe x0 x1 x2 x3 x5) (Fin.ext (by omega)) (Fin.ext h1.symm)
  refine View.canon_eq_of_allAt _ y _ (cover0_10 _ _ _ _ y) ?_
  refine View.allAt_cons_unit (S := S32x2048) ![0, 1536] S32x512.size inb_S32x2048_S32x512_0_1536 _ _ (fun x hx => ?_) ?_
  · refine Eq.trans ?_ (hpt 3 x (by decide) hx)
    exact (congrArg _ (eq_ix2 x)).trans (re3 x0 x1 x2 x3 x5 (x 0) (x 1))
  refine View.allAt_cons_unit (S := S32x2048) ![0, 1024] S32x512.size inb_S32x2048_S32x512_0_1024 _ _ (fun x hx => ?_) ?_
  · refine Eq.trans ?_ (hpt 2 x (by decide) hx)
    exact (congrArg _ (eq_ix2 x)).trans (re2 x0 x1 x2 x3 x5 (x 0) (x 1))
  refine View.allAt_cons_unit (S := S32x2048) ![0, 512] S32x512.size inb_S32x2048_S32x512_0_512 _ _ (fun x hx => ?_) ?_
  · refine Eq.trans ?_ (hpt 1 x (by decide) hx)
    exact (congrArg _ (eq_ix2 x)).trans (re1 x0 x1 x2 x3 x5 (x 0) (x 1))
  refine View.allAt_cons_unit (S := S32x2048) ![0, 0] S32x512.size inb_S32x2048_S32x512_0_0 _ _ (fun x hx => ?_) ?_
  · refine Eq.trans ?_ (hpt 0 x (by decide) hx)
    exact (congrArg _ (eq_ix2 x)).trans (re0 x0 x1 x2 x3 x5 (x 0) (x 1))
  exact View.allAt_nil y _

/-- The new states' imaginary parts, as the call stores them part by part. -/
theorem out11_eq (y : S32x2048.Idx) : (out0_11 x0 x1 x2 x3 x4 x5 x6 x7 x8 y : EReal) = stIm x0 x1 x2 x3 x5 (y 0) (y 1) := by
  unfold_out out0_11
  rw [View.ld_unit_zero (S := S32x512) hz2]
  have hpt : ∀ (j : Nat) (x : S32x512.Idx) (hj : j < 4) (h : ∀ a : Fin 2, (y a : Nat) = (![0, 512 * j] : Fin 2 → Nat) a + x a),
      stIm x0 x1 x2 x3 x5 (x 0) ⟨512 * j + (x 1).val, by have h1 : (x 1).val < 512 := (x 1).isLt; omega⟩ = stIm x0 x1 x2 x3 x5 (y 0) (y 1) := by
    intro j x hj h
    have h0 : (y 0).val = 0 + (x 0).val := h 0
    have h1 : (y 1).val = 512 * j + (x 1).val := h 1
    exact congrArg₂ (stIm x0 x1 x2 x3 x5) (Fin.ext (by omega)) (Fin.ext h1.symm)
  refine View.canon_eq_of_allAt _ y _ (cover0_11 _ _ _ _ y) ?_
  refine View.allAt_cons_unit (S := S32x2048) ![0, 1536] S32x512.size inb_S32x2048_S32x512_0_1536 _ _ (fun x hx => ?_) ?_
  · refine Eq.trans ?_ (hpt 3 x (by decide) hx)
    exact (congrArg _ (eq_ix2 x)).trans (im3 x0 x1 x2 x3 x5 (x 0) (x 1))
  refine View.allAt_cons_unit (S := S32x2048) ![0, 1024] S32x512.size inb_S32x2048_S32x512_0_1024 _ _ (fun x hx => ?_) ?_
  · refine Eq.trans ?_ (hpt 2 x (by decide) hx)
    exact (congrArg _ (eq_ix2 x)).trans (im2 x0 x1 x2 x3 x5 (x 0) (x 1))
  refine View.allAt_cons_unit (S := S32x2048) ![0, 512] S32x512.size inb_S32x2048_S32x512_0_512 _ _ (fun x hx => ?_) ?_
  · refine Eq.trans ?_ (hpt 1 x (by decide) hx)
    exact (congrArg _ (eq_ix2 x)).trans (im1 x0 x1 x2 x3 x5 (x 0) (x 1))
  refine View.allAt_cons_unit (S := S32x2048) ![0, 0] S32x512.size inb_S32x2048_S32x512_0_0 _ _ (fun x hx => ?_) ?_
  · refine Eq.trans ?_ (hpt 0 x (by decide) hx)
    exact (congrArg _ (eq_ix2 x)).trans (im0 x0 x1 x2 x3 x5 (x 0) (x 1))
  exact View.allAt_nil y _

/-- The outputs of part 0, as the call forms them. -/
abbrev piece0 : FVec Ideal S32x128 .f32 := (k0_pay11 (k0_pay9 x0 (View.ld x3 r0_1) (View.ld x5 r0_2) (View.ld x5 r0_3) (View.ld x1 r0_4) (View.ld x2 r0_4) (View.ld x4 r0_5)) (k0_pay10 x0 (View.ld x3 r0_1) (View.ld x5 r0_2) (View.ld x5 r0_3) (View.ld x1 r0_4) (View.ld x2 r0_4)) (View.ld x4 r0_6))

theorem piece0_apply (r : Fin 32) (q : Fin 128) :
    (piece0 x0 x1 x2 x3 x4 x5 (ix2 r q) : EReal) = read x0 x1 x2 x3 x4 x5 r ⟨128 * 0 + q.val, by omega⟩ := by
  show (outDot (k0_pay7 x0 (View.ld x3 r0_1) (View.ld x5 r0_2) (View.ld x5 r0_3) (View.ld x1 r0_4) (View.ld x2 r0_4)) (k0_pay8 x0 (View.ld x3 r0_1) (View.ld x5 r0_2) (View.ld x5 r0_3) (View.ld x1 r0_4) (View.ld x2 r0_4)) (View.ld x4 r0_5) (View.ld x4 r0_6) (ix2 r q) : EReal) = _
  exact part_out x0 x1 x2 x3 x4 x5 0 _ _ _ _ (re0 x0 x1 x2 x3 x5) (im0 x0 x1 x2 x3 x5) (fun n q => ld_c x4 0 _ n q _)
    (fun n q => ld_c x4 2048 _ n q _) r q

/-- The outputs of part 1, as the call forms them. -/
abbrev piece1 : FVec Ideal S32x128 .f32 := (k0_pay21 (k0_pay18 (k0_pay1 x0) (View.ld x3 r0_7) (View.ld x5 r0_8) (View.ld x5 r0_9) (View.ld x1 r0_10) (View.ld x2 r0_10)) (k0_pay19 (k0_pay1 x0) (View.ld x3 r0_7) (View.ld x5 r0_8) (View.ld x5 r0_9) (View.ld x1 r0_10) (View.ld x2 r0_10)) (k0_pay20 (View.ld x4 r0_11)) (View.ld x4 r0_12))

theorem piece1_apply (r : Fin 32) (q : Fin 128) :
    (piece1 x0 x1 x2 x3 x4 x5 (ix2 r q) : EReal) = read x0 x1 x2 x3 x4 x5 r ⟨128 * 1 + q.val, by omega⟩ := by
  show (outDot (k0_pay17 (k0_pay1 x0) (View.ld x3 r0_7) (View.ld x5 r0_8) (View.ld x5 r0_9) (View.ld x1 r0_10) (View.ld x2 r0_10)) (k0_pay18 (k0_pay1 x0) (View.ld x3 r0_7) (View.ld x5 r0_8) (View.ld x5 r0_9) (View.ld x1 r0_10) (View.ld x2 r0_10)) (View.ld x4 r0_11) (View.ld x4 r0_12) (ix2 r q) : EReal) = _
  exact part_out x0 x1 x2 x3 x4 x5 1 _ _ _ _ (re1 x0 x1 x2 x3 x5) (im1 x0 x1 x2 x3 x5) (fun n q => ld_c x4 512 _ n q _)
    (fun n q => ld_c x4 2560 _ n q _) r q

/-- The outputs of part 2, as the call forms them. -/
abbrev piece2 : FVec Ideal S32x128 .f32 := (k0_pay30 (k0_pay28 (k0_pay1 x0) (View.ld x3 r0_13) (View.ld x5 r0_14) (View.ld x5 r0_15) (View.ld x1 r0_16) (View.ld x2 r0_16)) (k0_pay29 (k0_pay1 x0) (View.ld x3 r0_13) (View.ld x5 r0_14) (View.ld x5 r0_15) (View.ld x1 r0_16) (View.ld x2 r0_16)) (View.ld x4 r0_17) (View.ld x4 r0_18))

theorem piece2_apply (r : Fin 32) (q : Fin 128) :
    (piece2 x0 x1 x2 x3 x4 x5 (ix2 r q) : EReal) = read x0 x1 x2 x3 x4 x5 r ⟨128 * 2 + q.val, by omega⟩ := by
  show (outDot (k0_pay27 (k0_pay1 x0) (View.ld x3 r0_13) (View.ld x5 r0_14) (View.ld x5 r0_15) (View.ld x1 r0_16) (View.ld x2 r0_16)) (k0_pay28 (k0_pay1 x0) (View.ld x3 r0_13) (View.ld x5 r0_14) (View.ld x5 r0_15) (View.ld x1 r0_16) (View.ld x2 r0_16)) (View.ld x4 r0_17) (View.ld x4 r0_18) (ix2 r q) : EReal) = _
  exact part_out x0 x1 x2 x3 x4 x5 2 _ _ _ _ (re2 x0 x1 x2 x3 x5) (im2 x0 x1 x2 x3 x5) (fun n q => ld_c x4 1024 _ n q _)
    (fun n q => ld_c x4 3072 _ n q _) r q

/-- The outputs of part 3, as the call forms them. -/
abbrev piece3 : FVec Ideal S32x128 .f32 := (outDot (k0_pay36 (k0_pay1 x0) (View.ld x3 r0_19) (View.ld x5 r0_20) (View.ld x5 r0_21) (View.ld x1 r0_22) (View.ld x2 r0_22)) (k0_pay37 (k0_pay1 x0) (View.ld x3 r0_19) (View.ld x5 r0_20) (View.ld x5 r0_21) (View.ld x1 r0_22) (View.ld x2 r0_22)) (View.ld x4 r0_23) (View.ld x4 r0_24))

theorem piece3_apply (r : Fin 32) (q : Fin 128) :
    (piece3 x0 x1 x2 x3 x4 x5 (ix2 r q) : EReal) = read x0 x1 x2 x3 x4 x5 r ⟨128 * 3 + q.val, by omega⟩ := by
  show (outDot (k0_pay36 (k0_pay1 x0) (View.ld x3 r0_19) (View.ld x5 r0_20) (View.ld x5 r0_21) (View.ld x1 r0_22) (View.ld x2 r0_22)) (k0_pay37 (k0_pay1 x0) (View.ld x3 r0_19) (View.ld x5 r0_20) (View.ld x5 r0_21) (View.ld x1 r0_22) (View.ld x2 r0_22)) (View.ld x4 r0_23) (View.ld x4 r0_24) (ix2 r q) : EReal) = _
  exact part_out x0 x1 x2 x3 x4 x5 3 _ _ _ _ (re3 x0 x1 x2 x3 x5) (im3 x0 x1 x2 x3 x5) (fun n q => ld_c x4 1536 _ n q _)
    (fun n q => ld_c x4 3584 _ n q _) r q

/-- The four parts' outputs side by side. -/
def whole : FVec Ideal S32x512 .f32 :=
  concatenate S32x512 1 [⟨S32x128, piece0 x0 x1 x2 x3 x4 x5⟩, ⟨S32x128, piece1 x0 x1 x2 x3 x4 x5⟩, ⟨S32x128, piece2 x0 x1 x2 x3 x4 x5⟩,
    ⟨S32x128, piece3 x0 x1 x2 x3 x4 x5⟩] concatenates_S32x128_S32x128_S32x128_S32x128_S32x512_d1

/-- Four pieces side by side, at one element. -/
theorem beside_apply (p0 p1 p2 p3 : S32x128.Idx → EReal) (r : Fin 32) (c : Fin 512) (v : EReal)
    (h0 : ∀ q : Fin 128, c.val = 0 + q.val → p0 (ix2 r q) = v) (h1 : ∀ q : Fin 128, c.val = 128 + q.val → p1 (ix2 r q) = v)
    (h2 : ∀ q : Fin 128, c.val = 256 + q.val → p2 (ix2 r q) = v) (h3 : ∀ q : Fin 128, c.val = 384 + q.val → p3 (ix2 r q) = v) :
    (concatenate S32x512 1 [⟨S32x128, p0⟩, ⟨S32x128, p1⟩, ⟨S32x128, p2⟩, ⟨S32x128, p3⟩]
      concatenates_S32x128_S32x128_S32x128_S32x128_S32x512_d1 : S32x512.Idx → EReal) (ix2 r c) = v := by
  have hc := c.isLt
  have hoff : ∀ b : Fin S32x128.rank, b.cast (rfl : S32x128.rank = S32x512.rank) ≠ (1 : Fin S32x512.rank) →
      ((ix2 r (⟨c.val % 128, Nat.mod_lt _ (by decide)⟩ : Fin 128) : S32x128.Idx) b).val = ((ix2 r c : S32x512.Idx) (b.cast rfl)).val := fun b => match b with
    | ⟨0, _⟩ => fun _ => rfl
    | ⟨1, _⟩ => fun hb => absurd rfl hb
  have hcase : c.val / 128 = 0 ∨ c.val / 128 = 1 ∨ c.val / 128 = 2 ∨ c.val / 128 = 3 := by omega
  rcases hcase with hg | hg | hg | hg
  · refine (concatenate_apply_piece (t := S32x512) 1 [⟨S32x128, p0⟩, ⟨S32x128, p1⟩, ⟨S32x128, p2⟩, ⟨S32x128, p3⟩]
      concatenates_S32x128_S32x128_S32x128_S32x128_S32x512_d1 (ix2 r c) 0 (by simp) S32x128 p0 rfl rfl 0 rfl _ hoff ?_).trans
      (h0 _ (by show c.val = 0 + c.val % 128; omega))
    show 0 + c.val % 128 = c.val
    omega
  · refine (concatenate_apply_piece (t := S32x512) 1 [⟨S32x128, p0⟩, ⟨S32x128, p1⟩, ⟨S32x128, p2⟩, ⟨S32x128, p3⟩]
      concatenates_S32x128_S32x128_S32x128_S32x128_S32x512_d1 (ix2 r c) 1 (by simp) S32x128 p1 rfl rfl 128 rfl _ hoff ?_).trans
      (h1 _ (by show c.val = 128 + c.val % 128; omega))
    show 128 + c.val % 128 = c.val
    omega
  · refine (concatenate_apply_piece (t := S32x512) 1 [⟨S32x128, p0⟩, ⟨S32x128, p1⟩, ⟨S32x128, p2⟩, ⟨S32x128, p3⟩]
      concatenates_S32x128_S32x128_S32x128_S32x128_S32x512_d1 (ix2 r c) 2 (by simp) S32x128 p2 rfl rfl 256 rfl _ hoff ?_).trans
      (h2 _ (by show c.val = 256 + c.val % 128; omega))
    show 256 + c.val % 128 = c.val
    omega
  · refine (concatenate_apply_piece (t := S32x512) 1 [⟨S32x128, p0⟩, ⟨S32x128, p1⟩, ⟨S32x128, p2⟩, ⟨S32x128, p3⟩]
      concatenates_S32x128_S32x128_S32x128_S32x128_S32x512_d1 (ix2 r c) 3 (by simp) S32x128 p3 rfl rfl 384 rfl _ hoff ?_).trans
      (h3 _ (by show c.val = 384 + c.val % 128; omega))
    show 384 + c.val % 128 = c.val
    omega

theorem whole_apply (r : Fin 32) (c : Fin 512) :
    (whole x0 x1 x2 x3 x4 x5 (ix2 r c) : EReal) = read x0 x1 x2 x3 x4 x5 r c := by
  unfold whole
  refine beside_apply _ _ _ _ r c _ (fun q h => ?_) (fun q h => ?_) (fun q h => ?_) (fun q h => ?_)
  · exact (piece0_apply x0 x1 x2 x3 x4 x5 r q).trans (congrArg (read x0 x1 x2 x3 x4 x5 r) (Fin.ext h.symm))
  · exact (piece1_apply x0 x1 x2 x3 x4 x5 r q).trans (congrArg (read x0 x1 x2 x3 x4 x5 r) (Fin.ext h.symm))
  · exact (piece2_apply x0 x1 x2 x3 x4 x5 r q).trans (congrArg (read x0 x1 x2 x3 x4 x5 r) (Fin.ext h.symm))
  · exact (piece3_apply x0 x1 x2 x3 x4 x5 r q).trans (congrArg (read x0 x1 x2 x3 x4 x5 r) (Fin.ext h.symm))

/-! ### The activation and the gate -/

/-- The skip added and the activation applied. -/
def actv (y x : FVec Ideal S32x512 .f32) (d : Vec Ideal S1x512 .f32) : FVec Ideal S32x512 .f32 :=
  have s : FVec Ideal S32x512 .f32 := addf y (mulf (broadcastTo S32x512 (shapeCast S1x512 d shapeCasts_S1x512_S1x512) broadcasts_S1x512_S32x512) x)
  mulf s (mulf (broadcast S32x512 (Scalar.ofBits .f32 0x3F000000#32)) (addf (broadcast S32x512 (Scalar.ofBits .f32 0x3F800000#32))
    (tanh (mulf (broadcast S32x512 (Scalar.ofBits .f32 0x3F4C422A#32)) (addf s
      (mulf (broadcast S32x512 (Scalar.ofBits .f32 0x3D372713#32)) (mulf s (mulf s s))))))))

theorem actv_apply (y x : FVec Ideal S32x512 .f32) (d : Vec Ideal S1x512 .f32) (r : Fin 32) (c : Fin 512) :
    (actv y x d (ix2 r c) : EReal) = gelu (@HAdd.hAdd EReal EReal EReal _ (y (ix2 r c)) (@HMul.hMul EReal EReal EReal _ (d (ix2 0 c)) (x (ix2 r c)))) := by
  refine Eq.trans (b := gelu (@HAdd.hAdd EReal EReal EReal _ (y (ix2 r c)) (@HMul.hMul EReal EReal EReal _
    (broadcastTo S32x512 (shapeCast S1x512 d shapeCasts_S1x512_S1x512) broadcasts_S1x512_S32x512 (ix2 r c)) (x (ix2 r c))))) rfl ?_
  exact congrArg (fun z : EReal => gelu (@HAdd.hAdd EReal EReal EReal _ (y (ix2 r c)) (@HMul.hMul EReal EReal EReal _ z (x (ix2 r c))))) (spread_apply d r c)

/-- The gate: a projection of the activation through the logistic function, times the activation. -/
def gate (g : FVec Ideal S32x512 .f32) (w : Vec Ideal S1x512x512 .bf16) (b : Vec Ideal S1x512 .f32) : FVec Ideal S32x512 .f32 :=
  mulf g (logistic (addf (matmul dot_S32x512_S512x512_S32x512_1_0_0_1_n_n none (truncf .bf16 g bitsLt_bf16_f32)
      (shapeCast S512x512 w shapeCasts_S1x512x512_S512x512 : FVec Ideal S512x512 .bf16) (constant S32x512 .f32 0x00000000#32))
    (broadcastTo S32x512 (shapeCast S1x512 b shapeCasts_S1x512_S1x512) broadcasts_S1x512_S32x512)))

theorem gate_apply (g : FVec Ideal S32x512 .f32) (w : Vec Ideal S1x512x512 .bf16) (b : Vec Ideal S1x512 .f32) (r : Fin 32) (c : Fin 512) :
    (gate g w b (ix2 r c) : EReal) = @HMul.hMul EReal EReal EReal _ (g (ix2 r c))
      (Ideal.logistic (@HAdd.hAdd EReal EReal EReal _ (∑ k : Fin 512, @HMul.hMul EReal EReal EReal _ (g (ix2 r k)) (w (ix3 0 k c))) (b (ix2 0 c)))) := by
  unfold gate
  refine congrArg (fun z : EReal => @HMul.hMul EReal EReal EReal _ (g (ix2 r c)) (Ideal.logistic z))
    (congrArg₂ (fun a b : EReal => a + b) ?_ (spread_apply b r c))
  show (FloatOps.matmul (F := Ideal) (DotDims.plain 32 512 512) none g (shapeCast S512x512 w shapeCasts_S1x512x512_S512x512)
    (constant S32x512 .f32 0x00000000#32) (ix2 r c) : EReal) = _
  rw [Ideal.matmul_plain_apply, constant_apply, Ideal.ofBits_zero_f32, zero_add]
  refine Finset.sum_congr rfl fun k _ => congrArg (g (ix2 r k) * ·) ?_
  refine shapeCast_apply w shapeCasts_S1x512x512_S512x512 _ _ ?_
  rw [Shape.rowMajor_val_two, Shape.rowMajor_val_three]
  show (0 * 512 + k.val) * 512 + c.val = k.val * 512 + c.val
  omega

/-- The branch's output, as the call stores it. -/
theorem out9_eq (r : Fin 32) (c : Fin 512) :
    (out0_9 x0 x1 x2 x3 x4 x5 x6 x7 x8 (ix2 r c) : EReal) = outv x0 x1 x2 x3 x4 x5 x6 x7 x8 r c := by
  have ha : ∀ k : Fin 512, (actv (whole x0 x1 x2 x3 x4 x5) x0 x6 (ix2 r k) : EReal) = act x0 x1 x2 x3 x4 x5 x6 r k := fun k =>
    (actv_apply _ x0 x6 r k).trans (congrArg (fun z : EReal => gelu (@HAdd.hAdd EReal EReal EReal _ z
      (@HMul.hMul EReal EReal EReal _ (x6 (ix2 0 k)) (x0 (ix2 r k))))) (whole_apply x0 x1 x2 x3 x4 x5 r k))
  unfold_out out0_9
  rw [View.canon_unit_zero hz2]
  simp only [View.ld_unit_zero (S := S32x512) hz2, View.ld_unit_zero (S := S1x512) hz2, View.ld_unit_zero (S := S1x512x512) hz3]
  refine Eq.trans (b := (gate (actv (whole x0 x1 x2 x3 x4 x5) x0 x6) x7 x8 (ix2 r c) : EReal)) rfl ?_
  refine (gate_apply _ x7 x8 r c).trans ?_
  unfold outv
  exact congrArg₂ (fun a b : EReal => a * b) (ha c) (congrArg (fun z : EReal => Ideal.logistic (@HAdd.hAdd EReal EReal EReal _ z (x8 (ix2 0 c))))
    (Finset.sum_congr rfl fun k _ => congrArg (fun z : EReal => @HMul.hMul EReal EReal EReal _ z (x7 (ix3 0 k c))) (ha k)))

end Parts

end Cert.Proof.SsmBody
-- ==== Proof.SsmHost.lean ====
/-
  What the host hands to the sample state-space call: the transition of every state, the input matrices and the output
  matrices laid out as block-diagonal blocks of eight groups, and the states of the layer. The block-diagonal layout puts
  a matrix of a group at the block of that group and zeros at the others, so a product with it is the group's own product.
-/
module

public import proofs.«01_k».proof.Defs
public import proofs.«01_k».proof.Proof.Gen.SsmSampleIdeal.Value
public import Idealize.ShloMosaic.Lib.ValueIdx
public import Idealize.ShloMosaic.Lib.ValueIdxRank6
public import Idealize.ShloMosaic.Lib.IdealHost

@[expose] public section

noncomputable section

namespace Cert.Proof.SsmHost

open Idealize.ShloMosaic Idealize.ShloMosaic.TcCoe Idealize.SL.Sem Idealize.ShloMosaic.ValueIdx
open Cert.SsmSampleIdeal Cert.SsmSampleIdeal.Gen

/-! ## The host's stages -/

section Stages

variable (x3 x4 : FVec Ideal S4x32x64 .f32) (x5 : FVec Ideal S4x32 .f32) (x6 x7 : FVec Ideal S4x32x64x16 .f32)

/-- The step width of every group, spread over the group's states. -/
def dtw : FVec Ideal S4x32x64 .f32 := broadcastInDim S4x32x64 ![0, 1, 2] bcast_S4x32x1_S4x32x64_0_1_2
  (broadcastInDim S4x32x1 ![0, 1] bcast_S4x32_S4x32x1_0_1 (Host.exp x5))

/-- The transition, real part. -/
def aRe : FVec Ideal S4x32x64 .f32 := mulf (Host.exp (mulf x3 (dtw x5))) (Host.cos (mulf x4 (dtw x5)))

/-- The transition, imaginary part. -/
def aIm : FVec Ideal S4x32x64 .f32 := mulf (Host.exp (mulf x3 (dtw x5))) (Host.sin (mulf x4 (dtw x5)))

def ones : FVec Ideal S4x32x64 .f32 := broadcastInDim S4x32x64 ![] bcast_S_S4x32x64 (constant S_ .f32 0x3F800000#32)

/-- The input scale (transition less one, over the eigenvalue), real part. -/
def fRe : FVec Ideal S4x32x64 .f32 :=
  Host.divf (addf (mulf (subf (aRe x3 x4 x5) ones) x3) (mulf (aIm x3 x4 x5) x4)) (addf (mulf x3 x3) (mulf x4 x4))

/-- The input scale, imaginary part. -/
def fIm : FVec Ideal S4x32x64 .f32 :=
  Host.divf (subf (mulf (aIm x3 x4 x5) x3) (mulf (subf (aRe x3 x4 x5) ones) x4)) (addf (mulf x3 x3) (mulf x4 x4))

/-- A value of every state, spread over the state's inputs. -/
def wide (f : FVec Ideal S4x32x64 .f32) : FVec Ideal S4x32x64x16 .f32 :=
  broadcastInDim S4x32x64x16 ![0, 1, 2, 3] bcast_S4x32x64x1_S4x32x64x16_0_1_2_3
    (broadcastInDim S4x32x64x1 ![0, 1, 2] bcast_S4x32x64_S4x32x64x1_0_1_2 f)

/-- The input matrices, real part. -/
def bRe : FVec Ideal S4x32x64x16 .f32 := subf (mulf (wide (fRe x3 x4 x5)) x6) (mulf (wide (fIm x3 x4 x5)) x7)

/-- The input matrices, imaginary part. -/
def bIm : FVec Ideal S4x32x64x16 .f32 := addf (mulf (wide (fRe x3 x4 x5)) x7) (mulf (wide (fIm x3 x4 x5)) x6)

/-- The eight by eight identity. -/
def eye : FVec Ideal S8x8 .f32 := uitofp .f32 (cmpi .eq (addi (iotaInDim S8x8 32 0)
  (broadcastInDim S8x8 ![] bcast_S_S8x8 (constantI S_ 32 0#32))) (iotaInDim S8x8 32 1))

def eye6 : FVec Ideal S1x1x8x1x1x8 .f32 := broadcastInDim S1x1x8x1x1x8 ![1, 2, 3, 4, 5] bcast_S1x8x1x1x8_S1x1x8x1x1x8_1_2_3_4_5
  (broadcastInDim S1x8x1x1x8 ![1, 4] bcast_S8x8_S1x8x1x1x8_1_4 eye)

/-- The input matrices laid out in block-diagonal blocks of eight groups. -/
def spreadIn (b : FVec Ideal S4x32x64x16 .f32) : FVec Ideal S4x512x512 .f32 :=
  shapeCast S4x512x512 (transpose S4x4x8x16x8x64 [0, 1, 2, 4, 5, 3] (mulf
    (broadcastInDim S4x4x8x64x16x8 ![0, 1, 2, 3, 4, 5] bcast_S4x4x8x64x16x1_S4x4x8x64x16x8_0_1_2_3_4_5
      (broadcastInDim S4x4x8x64x16x1 ![0, 1, 2, 3, 4] bcast_S4x4x8x64x16_S4x4x8x64x16x1_0_1_2_3_4
        (shapeCast S4x4x8x64x16 b shapeCasts_S4x32x64x16_S4x4x8x64x16 : FVec Ideal S4x4x8x64x16 .f32)))
    (broadcastInDim S4x4x8x64x16x8 ![0, 1, 2, 3, 4, 5] bcast_S1x1x8x1x1x8_S4x4x8x64x16x8_0_1_2_3_4_5 eye6) : FVec Ideal S4x4x8x64x16x8 .f32)
    transposes_S4x4x8x64x16x8_S4x4x8x16x8x64_0_1_2_4_5_3) shapeCasts_S4x4x8x16x8x64_S4x512x512

/-- The output matrices laid out in block-diagonal blocks of eight groups. -/
def spreadOut (b : FVec Ideal S4x32x16x64 .f32) : FVec Ideal S4x2048x128 .f32 :=
  shapeCast S4x2048x128 (transpose S4x4x8x64x8x16 [0, 1, 2, 4, 5, 3] (mulf
    (broadcastInDim S4x4x8x16x64x8 ![0, 1, 2, 3, 4, 5] bcast_S4x4x8x16x64x1_S4x4x8x16x64x8_0_1_2_3_4_5
      (broadcastInDim S4x4x8x16x64x1 ![0, 1, 2, 3, 4] bcast_S4x4x8x16x64_S4x4x8x16x64x1_0_1_2_3_4
        (shapeCast S4x4x8x16x64 b shapeCasts_S4x32x16x64_S4x4x8x16x64 : FVec Ideal S4x4x8x16x64 .f32)))
    (broadcastInDim S4x4x8x16x64x8 ![0, 1, 2, 3, 4, 5] bcast_S1x1x8x1x1x8_S4x4x8x16x64x8_0_1_2_3_4_5 eye6) : FVec Ideal S4x4x8x16x64x8 .f32)
    transposes_S4x4x8x16x64x8_S4x4x8x64x8x16_0_1_2_4_5_3) shapeCasts_S4x4x8x64x8x16_S4x2048x128

end Stages

/-! ## What the region finds -/

section Found

variable (m : (ℓ : Loc nD τ sig) → Buf (Elt Ideal) ℓ) (c : Dev nD)

abbrev A0 : S32x512.Idx → EReal := m ((c : Thread nD τ).loc main_arg0)
abbrev A1 : S4x32x32x64.Idx → EReal := m ((c : Thread nD τ).loc main_arg1)
abbrev A2 : S4x32x32x64.Idx → EReal := m ((c : Thread nD τ).loc main_arg2)
abbrev A3 : S4x32x64.Idx → EReal := m ((c : Thread nD τ).loc main_arg3)
abbrev A4 : S4x32x64.Idx → EReal := m ((c : Thread nD τ).loc main_arg4)
abbrev A5 : S4x32.Idx → EReal := m ((c : Thread nD τ).loc main_arg5)
abbrev A6 : S4x32x64x16.Idx → EReal := m ((c : Thread nD τ).loc main_arg6)
abbrev A7 : S4x32x64x16.Idx → EReal := m ((c : Thread nD τ).loc main_arg7)
abbrev A8 : S4x32x16x64.Idx → EReal := m ((c : Thread nD τ).loc main_arg8)
abbrev A9 : S4x32x16x64.Idx → EReal := m ((c : Thread nD τ).loc main_arg9)
abbrev A10 : S4x512.Idx → EReal := m ((c : Thread nD τ).loc main_arg10)
abbrev A11 : S4x512x512.Idx → EReal := m ((c : Thread nD τ).loc main_arg11)
abbrev A12 : S4x512.Idx → EReal := m ((c : Thread nD τ).loc main_arg12)

theorem V_v67 : (V m c main_v67 : S4x512x1024.Idx → EReal) = concatenate S4x512x1024 2
      [⟨S4x512x512, spreadIn (bRe (A3 m c) (A4 m c) (A5 m c) (A6 m c) (A7 m c))⟩,
       ⟨S4x512x512, spreadIn (bIm (A3 m c) (A4 m c) (A5 m c) (A6 m c) (A7 m c))⟩]
      concatenates_S4x512x512_S4x512x512_S4x512x1024_d2 := by
  unfold V; after_results; rfl

theorem V_v88 : (V m c main_v88 : S4x4096x128.Idx → EReal) = concatenate S4x4096x128 1
      [⟨S4x2048x128, spreadOut (A8 m c)⟩, ⟨S4x2048x128, spreadOut (Host.negf (A9 m c : FVec Ideal S4x32x16x64 .f32))⟩]
      concatenates_S4x2048x128_S4x2048x128_S4x4096x128_d1 := by
  unfold V; after_results; rfl

theorem V_v102 : (V m c main_v102 : S2x2048.Idx → EReal) = shapeCast S2x2048 (extractStridedSlice S1x2x2048 ![0, 0, 0]
      (transpose S4x2x2048 [1, 0, 2] (concatenate S2x4x2048 0
        [⟨S1x4x2048, broadcastInDim S1x4x2048 ![1, 2] bcast_S4x2048_S1x4x2048_1_2
          (shapeCast S4x2048 (aRe (A3 m c) (A4 m c) (A5 m c)) shapeCasts_S4x32x64_S4x2048 : FVec Ideal S4x2048 .f32)⟩,
         ⟨S1x4x2048, broadcastInDim S1x4x2048 ![1, 2] bcast_S4x2048_S1x4x2048_1_2
          (shapeCast S4x2048 (aIm (A3 m c) (A4 m c) (A5 m c)) shapeCasts_S4x32x64_S4x2048 : FVec Ideal S4x2048 .f32)⟩]
        concatenates_S1x4x2048_S1x4x2048_S2x4x2048_d0) transposes_S2x4x2048_S4x2x2048_1_0_2 : S4x2x2048.Idx → EReal)
      slices_S4x2x2048_S1x2x2048_0_0_0) shapeCasts_S1x2x2048_S2x2048 := by
  unfold V; after_results; rfl

theorem V_v97 : (V m c main_v97 : S32x2048.Idx → EReal) = shapeCast S32x2048 (extractStridedSlice S1x32x2048 ![0, 0, 0]
      (shapeCast S4x32x2048 (A1 m c) shapeCasts_S4x32x32x64_S4x32x2048 : S4x32x2048.Idx → EReal)
      slices_S4x32x2048_S1x32x2048_0_0_0) shapeCasts_S1x32x2048_S32x2048 := by
  unfold V; after_results; rfl

theorem V_v100 : (V m c main_v100 : S32x2048.Idx → EReal) = shapeCast S32x2048 (extractStridedSlice S1x32x2048 ![0, 0, 0]
      (shapeCast S4x32x2048 (A2 m c) shapeCasts_S4x32x32x64_S4x32x2048 : S4x32x2048.Idx → EReal)
      slices_S4x32x2048_S1x32x2048_0_0_0) shapeCasts_S1x32x2048_S32x2048 := by
  unfold V; after_results; rfl

theorem V_v105 : (V m c main_v105 : S1x512.Idx → EReal) = shapeCast S1x512 (extractStridedSlice S1x1x512 ![0, 0, 0]
      (broadcastInDim S4x1x512 ![0, 2] bcast_S4x512_S4x1x512_0_2 (A10 m c)) slices_S4x1x512_S1x1x512_0_0_0) shapeCasts_S1x1x512_S1x512 := by
  unfold V; after_results; rfl

theorem V_v106 : (V m c main_v106 : S4x512x512.Idx → EReal) = A11 m c := by
  unfold V; after_results; rfl

theorem V_v109 : (V m c main_v109 : S1x512.Idx → EReal) = shapeCast S1x512 (extractStridedSlice S1x1x512 ![0, 0, 0]
      (broadcastInDim S4x1x512 ![0, 2] bcast_S4x512_S4x1x512_0_2 (A12 m c)) slices_S4x1x512_S1x1x512_0_0_0) shapeCasts_S1x1x512_S1x512 := by
  unfold V; after_results; rfl

end Found

/-! ## The layer's numbers, one index at a time -/

section Numbers

variable (x3 x4 : S4x32x64.Idx → EReal) (x5 : S4x32.Idx → EReal) (x6 x7 : S4x32x64x16.Idx → EReal)

/-- The step width of a group. -/
def dt (g : Fin 32) : EReal := Ideal.exp (x5 (ix2 0 g))

/-- The transition of a state, real and imaginary part. -/
def ar (g : Fin 32) (p : Fin 64) : EReal := Ideal.exp (x3 (ix3 0 g p) * dt x5 g) * Ideal.cos (x4 (ix3 0 g p) * dt x5 g)
def ai (g : Fin 32) (p : Fin 64) : EReal := Ideal.exp (x3 (ix3 0 g p) * dt x5 g) * Ideal.sin (x4 (ix3 0 g p) * dt x5 g)

/-- The squared modulus of the eigenvalue. -/
def den (g : Fin 32) (p : Fin 64) : EReal := x3 (ix3 0 g p) * x3 (ix3 0 g p) + x4 (ix3 0 g p) * x4 (ix3 0 g p)

/-- The input scale of a state, real and imaginary part. -/
def fr (g : Fin 32) (p : Fin 64) : EReal :=
  Ideal.div ((ar x3 x4 x5 g p - Ideal.ofBits .f32 0x3F800000#32) * x3 (ix3 0 g p) + ai x3 x4 x5 g p * x4 (ix3 0 g p)) (den x3 x4 g p)
def fi (g : Fin 32) (p : Fin 64) : EReal :=
  Ideal.div (ai x3 x4 x5 g p * x3 (ix3 0 g p) - (ar x3 x4 x5 g p - Ideal.ofBits .f32 0x3F800000#32) * x4 (ix3 0 g p)) (den x3 x4 g p)

/-- The input matrix of a group, real and imaginary part. -/
def br (g : Fin 32) (p : Fin 64) (c : Fin 16) : EReal :=
  fr x3 x4 x5 g p * x6 (ix4 0 g p c) - fi x3 x4 x5 g p * x7 (ix4 0 g p c)
def bi (g : Fin 32) (p : Fin 64) (c : Fin 16) : EReal :=
  fr x3 x4 x5 g p * x7 (ix4 0 g p c) + fi x3 x4 x5 g p * x6 (ix4 0 g p c)

end Numbers

/-! ## The stages, one index at a time -/

section StagesAt

variable (x3 x4 : FVec Ideal S4x32x64 .f32) (x5 : FVec Ideal S4x32 .f32) (x6 x7 : FVec Ideal S4x32x64x16 .f32)

theorem dtw_apply (g : Fin 32) (p : Fin 64) : (dtw x5 (ix3 0 g p) : EReal) = dt x5 g := by
  unfold dtw
  refine (broadcastInDim_apply (s := S4x32x1) (t := S4x32x64) ![0, 1, 2] bcast_S4x32x1_S4x32x64_0_1_2 _ (ix3 0 g p) (ix3 0 g 0) (fun a => ?_)).trans ?_
  · match a with | ⟨0, _⟩ => rfl | ⟨1, _⟩ => rfl | ⟨2, _⟩ => rfl
  refine (broadcastInDim_apply (s := S4x32) (t := S4x32x1) ![0, 1] bcast_S4x32_S4x32x1_0_1 _ (ix3 0 g 0) (ix2 0 g) (fun a => ?_)).trans ?_
  · match a with | ⟨0, _⟩ => rfl | ⟨1, _⟩ => rfl
  rfl

theorem aRe_apply (g : Fin 32) (p : Fin 64) : (aRe x3 x4 x5 (ix3 0 g p) : EReal) = ar x3 x4 x5 g p := by
  show (Ideal.exp (x3 (ix3 0 g p) * dtw x5 (ix3 0 g p)) * Ideal.cos (x4 (ix3 0 g p) * dtw x5 (ix3 0 g p)) : EReal) = _
  rw [dtw_apply]
  rfl

theorem aIm_apply (g : Fin 32) (p : Fin 64) : (aIm x3 x4 x5 (ix3 0 g p) : EReal) = ai x3 x4 x5 g p := by
  show (Ideal.exp (x3 (ix3 0 g p) * dtw x5 (ix3 0 g p)) * Ideal.sin (x4 (ix3 0 g p) * dtw x5 (ix3 0 g p)) : EReal) = _
  rw [dtw_apply]
  rfl

theorem fRe_apply (g : Fin 32) (p : Fin 64) : (fRe x3 x4 x5 (ix3 0 g p) : EReal) = fr x3 x4 x5 g p := by
  show (Ideal.div ((aRe x3 x4 x5 (ix3 0 g p) - Ideal.ofBits .f32 0x3F800000#32) * x3 (ix3 0 g p) + aIm x3 x4 x5 (ix3 0 g p) * x4 (ix3 0 g p))
    (den x3 x4 g p) : EReal) = _
  rw [aRe_apply, aIm_apply]
  rfl

theorem fIm_apply (g : Fin 32) (p : Fin 64) : (fIm x3 x4 x5 (ix3 0 g p) : EReal) = fi x3 x4 x5 g p := by
  show (Ideal.div (aIm x3 x4 x5 (ix3 0 g p) * x3 (ix3 0 g p) - (aRe x3 x4 x5 (ix3 0 g p) - Ideal.ofBits .f32 0x3F800000#32) * x4 (ix3 0 g p))
    (den x3 x4 g p) : EReal) = _
  rw [aRe_apply, aIm_apply]
  rfl

theorem wide_apply (f : FVec Ideal S4x32x64 .f32) (g : Fin 32) (p : Fin 64) (c : Fin 16) :
    (wide f (ix4 0 g p c) : EReal) = f (ix3 0 g p) := by
  unfold wide
  refine (broadcastInDim_apply (s := S4x32x64x1) (t := S4x32x64x16) ![0, 1, 2, 3] bcast_S4x32x64x1_S4x32x64x16_0_1_2_3 _ (ix4 0 g p c) (ix4 0 g p 0) (fun a => ?_)).trans ?_
  · match a with | ⟨0, _⟩ => rfl | ⟨1, _⟩ => rfl | ⟨2, _⟩ => rfl | ⟨3, _⟩ => rfl
  refine broadcastInDim_apply (s := S4x32x64) (t := S4x32x64x1) ![0, 1, 2] bcast_S4x32x64_S4x32x64x1_0_1_2 _ (ix4 0 g p 0) (ix3 0 g p) (fun a => ?_)
  match a with | ⟨0, _⟩ => rfl | ⟨1, _⟩ => rfl | ⟨2, _⟩ => rfl

theorem bRe_apply (g : Fin 32) (p : Fin 64) (c : Fin 16) : (bRe x3 x4 x5 x6 x7 (ix4 0 g p c) : EReal) = br x3 x4 x5 x6 x7 g p c := by
  show (wide (fRe x3 x4 x5) (ix4 0 g p c) * x6 (ix4 0 g p c) - wide (fIm x3 x4 x5) (ix4 0 g p c) * x7 (ix4 0 g p c) : EReal) = _
  rw [wide_apply, wide_apply, fRe_apply, fIm_apply]
  rfl

theorem bIm_apply (g : Fin 32) (p : Fin 64) (c : Fin 16) : (bIm x3 x4 x5 x6 x7 (ix4 0 g p c) : EReal) = bi x3 x4 x5 x6 x7 g p c := by
  show (wide (fRe x3 x4 x5) (ix4 0 g p c) * x7 (ix4 0 g p c) + wide (fIm x3 x4 x5) (ix4 0 g p c) * x6 (ix4 0 g p c) : EReal) = _
  rw [wide_apply, wide_apply, fRe_apply, fIm_apply]
  rfl

/-- The comparison word of two groups: one where they are the same. -/
theorem eye_word : ∀ a e : Fin 8, IntOp.cmpi .eq (BitVec.ofNat 32 a.val + 0#32) (BitVec.ofNat 32 e.val) = BitVec.ofBool (decide (a = e)) := by
  decide +kernel

theorem eye_apply (a e : Fin 8) : (eye (ix2 a e) : EReal) = if a = e then 1 else 0 := by
  show (((IntOp.cmpi .eq (BitVec.ofNat 32 a.val + 0#32) (BitVec.ofNat 32 e.val) : BitVec 1).toNat : ℝ) : EReal) = _
  rw [eye_word]
  by_cases h : a = e
  · rw [if_pos h, decide_eq_true h]; exact EReal.coe_eq_coe_iff.mpr Nat.cast_one
  · rw [if_neg h, decide_eq_false h]; exact EReal.coe_eq_coe_iff.mpr Nat.cast_zero

theorem eye6_apply (a e : Fin 8) : (eye6 (ix6 0 0 a 0 0 e) : EReal) = if a = e then 1 else 0 := by
  unfold eye6
  refine (broadcastInDim_apply (s := S1x8x1x1x8) (t := S1x1x8x1x1x8) ![1, 2, 3, 4, 5] bcast_S1x8x1x1x8_S1x1x8x1x1x8_1_2_3_4_5 _ (ix6 0 0 a 0 0 e) (ix5 0 a 0 0 e) (fun b => ?_)).trans ?_
  · match b with | ⟨0, _⟩ => rfl | ⟨1, _⟩ => rfl | ⟨2, _⟩ => rfl | ⟨3, _⟩ => rfl | ⟨4, _⟩ => rfl
  refine (broadcastInDim_apply (s := S8x8) (t := S1x8x1x1x8) ![1, 4] bcast_S8x8_S1x8x1x1x8_1_4 _ (ix5 0 a 0 0 e) (ix2 a e) (fun b => ?_)).trans (eye_apply a e)
  match b with | ⟨0, _⟩ => rfl | ⟨1, _⟩ => rfl

theorem spreadIn_apply (b : FVec Ideal S4x32x64x16 .f32) (k n : Fin 512) :
    (spreadIn b (ix3 0 k n) : EReal) = @HMul.hMul EReal EReal EReal _ (b (ix4 0 (⟨k.val / 16, by omega⟩ : Fin 32) (⟨n.val % 64, by omega⟩ : Fin 64) (⟨k.val % 16, by omega⟩ : Fin 16)))
      (if (⟨k.val % 128 / 16, by omega⟩ : Fin 8) = (⟨n.val / 64, by omega⟩ : Fin 8) then 1 else 0) := by
  have hk := k.isLt
  have hn := n.isLt
  unfold spreadIn
  refine (shapeCast_apply (s := S4x4x8x16x8x64) (t := S4x512x512) _ shapeCasts_S4x4x8x16x8x64_S4x512x512 (ix3 0 k n)
    (ix6 0 (⟨k.val / 128, by omega⟩ : Fin 4) (⟨k.val % 128 / 16, by omega⟩ : Fin 8) (⟨k.val % 16, by omega⟩ : Fin 16) (⟨n.val / 64, by omega⟩ : Fin 8) (⟨n.val % 64, by omega⟩ : Fin 64)) ?_).trans ?_
  · rw [Shape.rowMajor_val_three, Shape.rowMajor_val_six]
    show ((((0 * 4 + k.val / 128) * 8 + k.val % 128 / 16) * 16 + k.val % 16) * 8 + n.val / 64) * 64 + n.val % 64 = (0 * 512 + k.val) * 512 + n.val
    omega
  refine (transpose_apply (s := S4x4x8x64x16x8) (t := S4x4x8x16x8x64) [0, 1, 2, 4, 5, 3] _ transposes_S4x4x8x64x16x8_S4x4x8x16x8x64_0_1_2_4_5_3 _
    (ix6 0 (⟨k.val / 128, by omega⟩ : Fin 4) (⟨k.val % 128 / 16, by omega⟩ : Fin 8) (⟨n.val % 64, by omega⟩ : Fin 64) (⟨k.val % 16, by omega⟩ : Fin 16) (⟨n.val / 64, by omega⟩ : Fin 8))
    (fun b => match b with | ⟨0, _⟩ => rfl | ⟨1, _⟩ => rfl | ⟨2, _⟩ => rfl | ⟨3, _⟩ => rfl | ⟨4, _⟩ => rfl | ⟨5, _⟩ => rfl)).trans ?_
  refine congrArg₂ (fun a b : EReal => a * b) ?_ ?_
  · refine (broadcastInDim_apply (s := S4x4x8x64x16x1) (t := S4x4x8x64x16x8) ![0, 1, 2, 3, 4, 5] bcast_S4x4x8x64x16x1_S4x4x8x64x16x8_0_1_2_3_4_5 _ _
      (ix6 0 (⟨k.val / 128, by omega⟩ : Fin 4) (⟨k.val % 128 / 16, by omega⟩ : Fin 8) (⟨n.val % 64, by omega⟩ : Fin 64) (⟨k.val % 16, by omega⟩ : Fin 16) 0)
      (fun b => match b with | ⟨0, _⟩ => rfl | ⟨1, _⟩ => rfl | ⟨2, _⟩ => rfl | ⟨3, _⟩ => rfl | ⟨4, _⟩ => rfl | ⟨5, _⟩ => rfl)).trans ?_
    refine (broadcastInDim_apply (s := S4x4x8x64x16) (t := S4x4x8x64x16x1) ![0, 1, 2, 3, 4] bcast_S4x4x8x64x16_S4x4x8x64x16x1_0_1_2_3_4 _ _
      (ix5 0 (⟨k.val / 128, by omega⟩ : Fin 4) (⟨k.val % 128 / 16, by omega⟩ : Fin 8) (⟨n.val % 64, by omega⟩ : Fin 64) (⟨k.val % 16, by omega⟩ : Fin 16))
      (fun b => match b with | ⟨0, _⟩ => rfl | ⟨1, _⟩ => rfl | ⟨2, _⟩ => rfl | ⟨3, _⟩ => rfl | ⟨4, _⟩ => rfl)).trans ?_
    refine shapeCast_apply (s := S4x32x64x16) (t := S4x4x8x64x16) b shapeCasts_S4x32x64x16_S4x4x8x64x16 _ _ ?_
    rw [Shape.rowMajor_val_four, Shape.rowMajor_val_five]
    show ((0 * 32 + k.val / 16) * 64 + n.val % 64) * 16 + k.val % 16
      = (((0 * 4 + k.val / 128) * 8 + k.val % 128 / 16) * 64 + n.val % 64) * 16 + k.val % 16
    omega
  · refine (broadcastInDim_apply (s := S1x1x8x1x1x8) (t := S4x4x8x64x16x8) ![0, 1, 2, 3, 4, 5] bcast_S1x1x8x1x1x8_S4x4x8x64x16x8_0_1_2_3_4_5 _ _
      (ix6 0 0 (⟨k.val % 128 / 16, by omega⟩ : Fin 8) 0 0 (⟨n.val / 64, by omega⟩ : Fin 8))
      (fun b => match b with | ⟨0, _⟩ => rfl | ⟨1, _⟩ => rfl | ⟨2, _⟩ => rfl | ⟨3, _⟩ => rfl | ⟨4, _⟩ => rfl | ⟨5, _⟩ => rfl)).trans ?_
    exact eye6_apply _ _

theorem spreadOut_apply (b : FVec Ideal S4x32x16x64 .f32) (n : Fin 2048) (q : Fin 128) :
    (spreadOut b (ix3 0 n q) : EReal) = @HMul.hMul EReal EReal EReal _ (b (ix4 0 (⟨n.val / 64, by omega⟩ : Fin 32) (⟨q.val % 16, by omega⟩ : Fin 16) (⟨n.val % 64, by omega⟩ : Fin 64)))
      (if (⟨n.val % 512 / 64, by omega⟩ : Fin 8) = (⟨q.val / 16, by omega⟩ : Fin 8) then 1 else 0) := by
  have hn := n.isLt
  have hq := q.isLt
  unfold spreadOut
  refine (shapeCast_apply (s := S4x4x8x64x8x16) (t := S4x2048x128) _ shapeCasts_S4x4x8x64x8x16_S4x2048x128 (ix3 0 n q)
    (ix6 0 (⟨n.val / 512, by omega⟩ : Fin 4) (⟨n.val % 512 / 64, by omega⟩ : Fin 8) (⟨n.val % 64, by omega⟩ : Fin 64) (⟨q.val / 16, by omega⟩ : Fin 8) (⟨q.val % 16, by omega⟩ : Fin 16)) ?_).trans ?_
  · rw [Shape.rowMajor_val_three, Shape.rowMajor_val_six]
    show ((((0 * 4 + n.val / 512) * 8 + n.val % 512 / 64) * 64 + n.val % 64) * 8 + q.val / 16) * 16 + q.val % 16 = (0 * 2048 + n.val) * 128 + q.val
    omega
  refine (transpose_apply (s := S4x4x8x16x64x8) (t := S4x4x8x64x8x16) [0, 1, 2, 4, 5, 3] _ transposes_S4x4x8x16x64x8_S4x4x8x64x8x16_0_1_2_4_5_3 _
    (ix6 0 (⟨n.val / 512, by omega⟩ : Fin 4) (⟨n.val % 512 / 64, by omega⟩ : Fin 8) (⟨q.val % 16, by omega⟩ : Fin 16) (⟨n.val % 64, by omega⟩ : Fin 64) (⟨q.val / 16, by omega⟩ : Fin 8))
    (fun b => match b with | ⟨0, _⟩ => rfl | ⟨1, _⟩ => rfl | ⟨2, _⟩ => rfl | ⟨3, _⟩ => rfl | ⟨4, _⟩ => rfl | ⟨5, _⟩ => rfl)).trans ?_
  refine congrArg₂ (fun a b : EReal => a * b) ?_ ?_
  · refine (broadcastInDim_apply (s := S4x4x8x16x64x1) (t := S4x4x8x16x64x8) ![0, 1, 2, 3, 4, 5] bcast_S4x4x8x16x64x1_S4x4x8x16x64x8_0_1_2_3_4_5 _ _
      (ix6 0 (⟨n.val / 512, by omega⟩ : Fin 4) (⟨n.val % 512 / 64, by omega⟩ : Fin 8) (⟨q.val % 16, by omega⟩ : Fin 16) (⟨n.val % 64, by omega⟩ : Fin 64) 0)
      (fun b => match b with | ⟨0, _⟩ => rfl | ⟨1, _⟩ => rfl | ⟨2, _⟩ => rfl | ⟨3, _⟩ => rfl | ⟨4, _⟩ => rfl | ⟨5, _⟩ => rfl)).trans ?_
    refine (broadcastInDim_apply (s := S4x4x8x16x64) (t := S4x4x8x16x64x1) ![0, 1, 2, 3, 4] bcast_S4x4x8x16x64_S4x4x8x16x64x1_0_1_2_3_4 _ _
      (ix5 0 (⟨n.val / 512, by omega⟩ : Fin 4) (⟨n.val % 512 / 64, by omega⟩ : Fin 8) (⟨q.val % 16, by omega⟩ : Fin 16) (⟨n.val % 64, by omega⟩ : Fin 64))
      (fun b => match b with | ⟨0, _⟩ => rfl | ⟨1, _⟩ => rfl | ⟨2, _⟩ => rfl | ⟨3, _⟩ => rfl | ⟨4, _⟩ => rfl)).trans ?_
    refine shapeCast_apply (s := S4x32x16x64) (t := S4x4x8x16x64) b shapeCasts_S4x32x16x64_S4x4x8x16x64 _ _ ?_
    rw [Shape.rowMajor_val_four, Shape.rowMajor_val_five]
    show ((0 * 32 + n.val / 64) * 16 + q.val % 16) * 64 + n.val % 64
      = (((0 * 4 + n.val / 512) * 8 + n.val % 512 / 64) * 16 + q.val % 16) * 64 + n.val % 64
    omega
  · refine (broadcastInDim_apply (s := S1x1x8x1x1x8) (t := S4x4x8x16x64x8) ![0, 1, 2, 3, 4, 5] bcast_S1x1x8x1x1x8_S4x4x8x16x64x8_0_1_2_3_4_5 _ _
      (ix6 0 0 (⟨n.val % 512 / 64, by omega⟩ : Fin 8) 0 0 (⟨q.val / 16, by omega⟩ : Fin 8))
      (fun b => match b with | ⟨0, _⟩ => rfl | ⟨1, _⟩ => rfl | ⟨2, _⟩ => rfl | ⟨3, _⟩ => rfl | ⟨4, _⟩ => rfl | ⟨5, _⟩ => rfl)).trans ?_
    exact eye6_apply _ _

end StagesAt

/-! ## A sum over the columns of a block keeps one group -/

/-- A sum over `A * B` columns whose terms vanish outside group `e` is the sum over the group. -/
theorem sum_group {A B : ℕ} (hB : 0 < B) (f : Fin (A * B) → EReal) (e : Fin A) (h : ∀ c : Fin B, e.val * B + c.val < A * B) :
    (∑ k : Fin (A * B), if k.val / B = e.val then f k else 0) = ∑ c : Fin B, f ⟨e.val * B + c.val, h c⟩ := by
  rw [← Equiv.sum_comp finProdFinEquiv, Fintype.sum_prod_type, Finset.sum_eq_single e]
  · refine Finset.sum_congr rfl fun c _ => ?_
    have hv : (finProdFinEquiv (e, c)).val = e.val * B + c.val := by
      show c.val + B * e.val = _
      rw [Nat.mul_comm, Nat.add_comm]
    rw [if_pos]
    · exact congrArg f (Fin.ext hv)
    · rw [hv, Nat.add_comm, Nat.add_mul_div_right _ _ hB, Nat.div_eq_of_lt c.isLt, Nat.zero_add]
  · intro a _ ha
    refine Finset.sum_eq_zero fun c _ => if_neg fun h => ha (Fin.ext ?_)
    have hv : (finProdFinEquiv (a, c)).val = c.val + B * a.val := rfl
    rw [hv, Nat.add_mul_div_left _ _ hB, Nat.div_eq_of_lt c.isLt, Nat.zero_add] at h
    exact h
  · exact fun h => absurd (Finset.mem_univ _) h

/-- A product with an entry of the identity. -/
theorem mul_eye (u b : EReal) (P : Prop) [Decidable P] : (u * (b * if P then 1 else 0) : EReal) = if P then u * b else 0 := by
  by_cases h : P
  · rw [if_pos h, if_pos h, mul_one]
  · rw [if_neg h, if_neg h, mul_zero, mul_zero]

/-! ## What the region finds, one index at a time -/

section FoundAt

variable (m : (ℓ : Loc nD τ sig) → Buf (Elt Ideal) ℓ) (c : Dev nD)

/-- The input matrices' blocks: the real parts in the first columns. -/
theorem in_re (k n : Fin 512) : (V m c main_v67 : S4x512x1024.Idx → EReal) (ix3 0 k (⟨n.val, by omega⟩ : Fin 1024))
    = br (A3 m c) (A4 m c) (A5 m c) (A6 m c) (A7 m c) (⟨k.val / 16, by omega⟩ : Fin 32) (⟨n.val % 64, by omega⟩ : Fin 64) (⟨k.val % 16, by omega⟩ : Fin 16)
      * (if (⟨k.val % 128 / 16, by omega⟩ : Fin 8) = (⟨n.val / 64, by omega⟩ : Fin 8) then 1 else 0) := by
  rw [V_v67]
  refine (concatenate_pair_apply_left (t := S4x512x1024) (s₁ := S4x512x512) (s₂ := S4x512x512) 2 _ _ _ _ rfl (ix3 0 k n)
    (fun a => match a with | ⟨0, _⟩ => rfl | ⟨1, _⟩ => rfl | ⟨2, _⟩ => rfl)).trans ?_
  rw [spreadIn_apply, bRe_apply]

/-- The input matrices' blocks: the imaginary parts in the last columns. -/
theorem in_im (k n : Fin 512) : (V m c main_v67 : S4x512x1024.Idx → EReal) (ix3 0 k (⟨512 + n.val, by omega⟩ : Fin 1024))
    = bi (A3 m c) (A4 m c) (A5 m c) (A6 m c) (A7 m c) (⟨k.val / 16, by omega⟩ : Fin 32) (⟨n.val % 64, by omega⟩ : Fin 64) (⟨k.val % 16, by omega⟩ : Fin 16)
      * (if (⟨k.val % 128 / 16, by omega⟩ : Fin 8) = (⟨n.val / 64, by omega⟩ : Fin 8) then 1 else 0) := by
  rw [V_v67]
  refine (concatenate_pair_apply_right (t := S4x512x1024) (s₁ := S4x512x512) (s₂ := S4x512x512) 2 _ _ _ _ rfl rfl (ix3 0 k n)
    (fun a => match a with | ⟨0, _⟩ => fun _ => rfl | ⟨1, _⟩ => fun _ => rfl | ⟨2, _⟩ => fun h => absurd rfl h) (by show n.val + 512 = 512 + n.val; omega)).trans ?_
  rw [spreadIn_apply, bIm_apply]

/-- The output matrices' blocks: the real parts in the first rows. -/
theorem out_re (n : Fin 2048) (q : Fin 128) : (V m c main_v88 : S4x4096x128.Idx → EReal) (ix3 0 (⟨n.val, by omega⟩ : Fin 4096) q)
    = A8 m c (ix4 0 (⟨n.val / 64, by omega⟩ : Fin 32) (⟨q.val % 16, by omega⟩ : Fin 16) (⟨n.val % 64, by omega⟩ : Fin 64))
      * (if (⟨n.val % 512 / 64, by omega⟩ : Fin 8) = (⟨q.val / 16, by omega⟩ : Fin 8) then 1 else 0) := by
  rw [V_v88]
  refine (concatenate_pair_apply_left (t := S4x4096x128) (s₁ := S4x2048x128) (s₂ := S4x2048x128) 1 _ _ _ _ rfl (ix3 0 n q)
    (fun a => match a with | ⟨0, _⟩ => rfl | ⟨1, _⟩ => rfl | ⟨2, _⟩ => rfl)).trans ?_
  rw [spreadOut_apply]

/-- The output matrices' blocks: the negated imaginary parts in the last rows. -/
theorem out_im (n : Fin 2048) (q : Fin 128) : (V m c main_v88 : S4x4096x128.Idx → EReal) (ix3 0 (⟨2048 + n.val, by omega⟩ : Fin 4096) q)
    = (-A9 m c (ix4 0 (⟨n.val / 64, by omega⟩ : Fin 32) (⟨q.val % 16, by omega⟩ : Fin 16) (⟨n.val % 64, by omega⟩ : Fin 64)))
      * (if (⟨n.val % 512 / 64, by omega⟩ : Fin 8) = (⟨q.val / 16, by omega⟩ : Fin 8) then 1 else 0) := by
  rw [V_v88]
  refine (concatenate_pair_apply_right (t := S4x4096x128) (s₁ := S4x2048x128) (s₂ := S4x2048x128) 1 _ _ _ _ rfl rfl (ix3 0 n q)
    (fun a => match a with | ⟨0, _⟩ => fun _ => rfl | ⟨1, _⟩ => fun h => absurd rfl h | ⟨2, _⟩ => fun _ => rfl) (by show n.val + 2048 = 2048 + n.val; omega)).trans ?_
  rw [spreadOut_apply]
  rfl

theorem line_apply (f : S4x32x64.Idx → EReal) (n : Fin 2048) :
    (broadcastInDim S1x4x2048 ![1, 2] bcast_S4x2048_S1x4x2048_1_2 (shapeCast S4x2048 f shapeCasts_S4x32x64_S4x2048) : S1x4x2048.Idx → EReal) (ix3 0 0 n)
      = f (ix3 0 (⟨n.val / 64, by omega⟩ : Fin 32) (⟨n.val % 64, by omega⟩ : Fin 64)) := by
  have hn := n.isLt
  refine (broadcastInDim_apply (s := S4x2048) (t := S1x4x2048) ![1, 2] bcast_S4x2048_S1x4x2048_1_2 _ (ix3 0 0 n) (ix2 0 n)
    (fun a => match a with | ⟨0, _⟩ => rfl | ⟨1, _⟩ => rfl)).trans ?_
  refine shapeCast_apply (s := S4x32x64) (t := S4x2048) f shapeCasts_S4x32x64_S4x2048 _ _ ?_
  rw [Shape.rowMajor_val_two, Shape.rowMajor_val_three]
  show (0 * 32 + n.val / 64) * 64 + n.val % 64 = 0 * 2048 + n.val
  omega

theorem lines_at (x : S2x4x2048.Idx → EReal) (i : Fin 2) (n : Fin 2048) :
    (shapeCast S2x2048 (extractStridedSlice S1x2x2048 ![0, 0, 0] (transpose S4x2x2048 [1, 0, 2] x transposes_S2x4x2048_S4x2x2048_1_0_2)
      slices_S4x2x2048_S1x2x2048_0_0_0) shapeCasts_S1x2x2048_S2x2048 : S2x2048.Idx → EReal) (ix2 i n) = x (ix3 i 0 n) := by
  refine (shapeCast_apply (s := S1x2x2048) (t := S2x2048) _ shapeCasts_S1x2x2048_S2x2048 (ix2 i n) (ix3 0 i n) ?_).trans ?_
  · rw [Shape.rowMajor_val_two, Shape.rowMajor_val_three]
    show (0 * 2 + i.val) * 2048 + n.val = i.val * 2048 + n.val
    omega
  refine (extractStridedSlice_apply (s := S4x2x2048) (t := S1x2x2048) ![0, 0, 0] _ slices_S4x2x2048_S1x2x2048_0_0_0 (ix3 0 i n) (ix3 0 i n) (fun a => ?_)).trans ?_
  · match a with
    | ⟨0, _⟩ => rfl
    | ⟨1, _⟩ => show i.val = 0 + i.val; omega
    | ⟨2, _⟩ => show n.val = 0 + n.val; omega
  exact transpose_apply (s := S2x4x2048) (t := S4x2x2048) [1, 0, 2] x transposes_S2x4x2048_S4x2x2048_1_0_2 (ix3 0 i n) (ix3 i 0 n)
    (fun b => match b with | ⟨0, _⟩ => rfl | ⟨1, _⟩ => rfl | ⟨2, _⟩ => rfl)

/-- The transition's rows. -/
theorem tr_re (n : Fin 2048) : (V m c main_v102 : S2x2048.Idx → EReal) (ix2 0 n)
    = ar (A3 m c) (A4 m c) (A5 m c) (⟨n.val / 64, by omega⟩ : Fin 32) (⟨n.val % 64, by omega⟩ : Fin 64) := by
  rw [V_v102]
  refine (lines_at _ 0 n).trans ?_
  refine (concatenate_pair_apply_left (t := S2x4x2048) (s₁ := S1x4x2048) (s₂ := S1x4x2048) 0 _ _ _ _ rfl (ix3 0 0 n)
    (fun a => match a with | ⟨0, _⟩ => rfl | ⟨1, _⟩ => rfl | ⟨2, _⟩ => rfl)).trans ?_
  exact (line_apply _ n).trans (aRe_apply _ _ _ _ _)

theorem tr_im (n : Fin 2048) : (V m c main_v102 : S2x2048.Idx → EReal) (ix2 1 n)
    = ai (A3 m c) (A4 m c) (A5 m c) (⟨n.val / 64, by omega⟩ : Fin 32) (⟨n.val % 64, by omega⟩ : Fin 64) := by
  rw [V_v102]
  refine (lines_at _ 1 n).trans ?_
  refine (concatenate_pair_apply_right (t := S2x4x2048) (s₁ := S1x4x2048) (s₂ := S1x4x2048) 0 _ _ _ _ rfl rfl (ix3 0 0 n)
    (fun a => match a with | ⟨0, _⟩ => fun h => absurd rfl h | ⟨1, _⟩ => fun _ => rfl | ⟨2, _⟩ => fun _ => rfl) rfl).trans ?_
  exact (line_apply _ n).trans (aIm_apply _ _ _ _ _)

theorem layer_state (f : S4x32x32x64.Idx → EReal) (r : Fin 32) (n : Fin 2048) :
    (shapeCast S32x2048 (extractStridedSlice S1x32x2048 ![0, 0, 0] (shapeCast S4x32x2048 f shapeCasts_S4x32x32x64_S4x32x2048 : S4x32x2048.Idx → EReal)
      slices_S4x32x2048_S1x32x2048_0_0_0) shapeCasts_S1x32x2048_S32x2048 : S32x2048.Idx → EReal) (ix2 r n)
      = f (ix4 0 r (⟨n.val / 64, by omega⟩ : Fin 32) (⟨n.val % 64, by omega⟩ : Fin 64)) := by
  have hn := n.isLt
  refine (shapeCast_apply (s := S1x32x2048) (t := S32x2048) _ shapeCasts_S1x32x2048_S32x2048 (ix2 r n) (ix3 0 r n) ?_).trans ?_
  · rw [Shape.rowMajor_val_two, Shape.rowMajor_val_three]
    show (0 * 32 + r.val) * 2048 + n.val = r.val * 2048 + n.val
    omega
  refine (extractStridedSlice_apply (s := S4x32x2048) (t := S1x32x2048) ![0, 0, 0] _ slices_S4x32x2048_S1x32x2048_0_0_0 (ix3 0 r n) (ix3 0 r n) (fun a => ?_)).trans ?_
  · match a with
    | ⟨0, _⟩ => rfl
    | ⟨1, _⟩ => show r.val = 0 + r.val; omega
    | ⟨2, _⟩ => show n.val = 0 + n.val; omega
  refine shapeCast_apply (s := S4x32x32x64) (t := S4x32x2048) f shapeCasts_S4x32x32x64_S4x32x2048 _ _ ?_
  rw [Shape.rowMajor_val_three, Shape.rowMajor_val_four]
  show ((0 * 32 + r.val) * 32 + n.val / 64) * 64 + n.val % 64 = (0 * 32 + r.val) * 2048 + n.val
  omega

theorem st_re (r : Fin 32) (n : Fin 2048) : (V m c main_v97 : S32x2048.Idx → EReal) (ix2 r n)
    = A1 m c (ix4 0 r (⟨n.val / 64, by omega⟩ : Fin 32) (⟨n.val % 64, by omega⟩ : Fin 64)) := by
  rw [V_v97]
  exact layer_state _ r n

theorem st_im (r : Fin 32) (n : Fin 2048) : (V m c main_v100 : S32x2048.Idx → EReal) (ix2 r n)
    = A2 m c (ix4 0 r (⟨n.val / 64, by omega⟩ : Fin 32) (⟨n.val % 64, by omega⟩ : Fin 64)) := by
  rw [V_v100]
  exact layer_state _ r n

theorem layer_line (f : S4x512.Idx → EReal) (n : Fin 512) :
    (shapeCast S1x512 (extractStridedSlice S1x1x512 ![0, 0, 0] (broadcastInDim S4x1x512 ![0, 2] bcast_S4x512_S4x1x512_0_2 f)
      slices_S4x1x512_S1x1x512_0_0_0) shapeCasts_S1x1x512_S1x512 : S1x512.Idx → EReal) (ix2 0 n) = f (ix2 0 n) := by
  refine (shapeCast_apply (s := S1x1x512) (t := S1x512) _ shapeCasts_S1x1x512_S1x512 (ix2 0 n) (ix3 0 0 n) ?_).trans ?_
  · rw [Shape.rowMajor_val_two, Shape.rowMajor_val_three]
    show (0 * 1 + 0) * 512 + n.val = 0 * 512 + n.val
    omega
  refine (extractStridedSlice_apply (s := S4x1x512) (t := S1x1x512) ![0, 0, 0] _ slices_S4x1x512_S1x1x512_0_0_0 (ix3 0 0 n) (ix3 0 0 n) (fun a => ?_)).trans ?_
  · match a with
    | ⟨0, _⟩ => rfl
    | ⟨1, _⟩ => rfl
    | ⟨2, _⟩ => show n.val = 0 + n.val; omega
  exact broadcastInDim_apply (s := S4x512) (t := S4x1x512) ![0, 2] bcast_S4x512_S4x1x512_0_2 f (ix3 0 0 n) (ix2 0 n)
    (fun a => match a with | ⟨0, _⟩ => rfl | ⟨1, _⟩ => rfl)

theorem skip_at (n : Fin 512) : (V m c main_v105 : S1x512.Idx → EReal) (ix2 0 n) = A10 m c (ix2 0 n) := by
  rw [V_v105]
  exact layer_line _ n

theorem bias_at (n : Fin 512) : (V m c main_v109 : S1x512.Idx → EReal) (ix2 0 n) = A12 m c (ix2 0 n) := by
  rw [V_v109]
  exact layer_line _ n

end FoundAt

end Cert.Proof.SsmHost
-- ==== Proof.SsmSample.lean ====
/-
  The sample state-space mixer: every row's state takes one step under its diagonal complex transition with the row's input
  projected in, and the new state read out, skipped, activated and gated gives the branch's output. The call does it in four
  parts of eight groups against block-diagonal matrices.
  Here: the three result arrays index by index as the layer's own sums over one group, and that the reference's products by
  group are the same extended reals.
-/
module

public import proofs.«01_k».proof.Defs
public import proofs.«01_k».proof.Proof.Gen.SsmSampleIdeal.Value
public import proofs.«01_k».proof.Proof.Gen.SsmSampleRefIdeal.Run
public import proofs.«01_k».proof.Proof.Gen.SsmSampleRefIdeal.Read
public import proofs.«01_k».proof.Proof.Gating
public import proofs.«01_k».proof.Proof.SsmBody
public import proofs.«01_k».proof.Proof.SsmHost
public import Idealize.ShloMosaic.Lib.ValueIdx
public import Idealize.ShloMosaic.Lib.IdealHost

@[expose] public section

noncomputable section

namespace Cert.Proof.SsmSample

open Idealize.ShloMosaic Idealize.ShloMosaic.TcCoe Idealize.SL.Sem Idealize.ShloMosaic.ValueIdx
open Cert.SsmSampleIdeal Cert.SsmSampleIdeal.Gen
open Idealize.ShloMosaic.Pipeline (Dat Cfg Window)
open Cert.Proof.Gating (gelu)
open Cert.Proof.SsmHost Cert.Proof.SsmBody

/-! ## The results, index by index -/

section Results

variable (x0 : S32x512.Idx → EReal) (x1 x2 : S4x32x32x64.Idx → EReal) (x3 x4 : S4x32x64.Idx → EReal) (x5 : S4x32.Idx → EReal)
  (x6 x7 : S4x32x64x16.Idx → EReal) (x8 x9 : S4x32x16x64.Idx → EReal) (x10 : S4x512.Idx → EReal) (x11 : S4x512x512.Idx → EReal)
  (x12 : S4x512.Idx → EReal)

/-- The new state of a row, real part: the transition times the old state, plus the group's input projected in. -/
def reS (r : Fin 32) (g : Fin 32) (p : Fin 64) : EReal :=
  (ar x3 x4 x5 g p * x1 (ix4 0 r g p) - ai x3 x4 x5 g p * x2 (ix4 0 r g p))
    + ∑ c : Fin 16, x0 (ix2 r (⟨16 * g.val + c.val, by omega⟩ : Fin 512)) * br x3 x4 x5 x6 x7 g p c

/-- The new state of a row, imaginary part. -/
def imS (r : Fin 32) (g : Fin 32) (p : Fin 64) : EReal :=
  (ar x3 x4 x5 g p * x2 (ix4 0 r g p) + ai x3 x4 x5 g p * x1 (ix4 0 r g p))
    + ∑ c : Fin 16, x0 (ix2 r (⟨16 * g.val + c.val, by omega⟩ : Fin 512)) * bi x3 x4 x5 x6 x7 g p c

/-- The real part of the state read out at one channel. -/
def rdS (r : Fin 32) (c : Fin 512) : EReal :=
  (∑ p : Fin 64, reS x0 x1 x2 x3 x4 x5 x6 x7 r (⟨c.val / 16, by omega⟩ : Fin 32) p
      * x8 (ix4 0 (⟨c.val / 16, by omega⟩ : Fin 32) (⟨c.val % 16, by omega⟩ : Fin 16) p))
    + ∑ p : Fin 64, imS x0 x1 x2 x3 x4 x5 x6 x7 r (⟨c.val / 16, by omega⟩ : Fin 32) p
      * -x9 (ix4 0 (⟨c.val / 16, by omega⟩ : Fin 32) (⟨c.val % 16, by omega⟩ : Fin 16) p)

/-- The read-out with its skip, activated. -/
def acS (r : Fin 32) (c : Fin 512) : EReal :=
  gelu (rdS x0 x1 x2 x3 x4 x5 x6 x7 x8 x9 r c + x10 (ix2 0 c) * x0 (ix2 r c))

/-- The branch's output. -/
def branch : S32x512.Idx → EReal := fun i =>
  acS x0 x1 x2 x3 x4 x5 x6 x7 x8 x9 x10 (i 0) (i 1)
    * Ideal.logistic ((∑ k : Fin 512, acS x0 x1 x2 x3 x4 x5 x6 x7 x8 x9 x10 (i 0) k * x11 (ix3 0 k (i 1))) + x12 (ix2 0 (i 1)))

/-- The new states, their groups side by side. -/
def stateRe : S32x2048.Idx → EReal := fun i =>
  reS x0 x1 x2 x3 x4 x5 x6 x7 (i 0) (⟨(i 1).val / 64, Nat.div_lt_of_lt_mul (i 1).isLt⟩ : Fin 32) (⟨(i 1).val % 64, Nat.mod_lt _ (by decide)⟩ : Fin 64)
def stateIm : S32x2048.Idx → EReal := fun i =>
  imS x0 x1 x2 x3 x4 x5 x6 x7 (i 0) (⟨(i 1).val / 64, Nat.div_lt_of_lt_mul (i 1).isLt⟩ : Fin 32) (⟨(i 1).val % 64, Nat.mod_lt _ (by decide)⟩ : Fin 64)

end Results

/-! ## A block-diagonal product is the group's own product -/

theorem in_sum (u W : Fin 512 → EReal) (n : Fin 2048) (b : Fin 32 → Fin 16 → EReal)
    (hW : ∀ k : Fin 512, W k = b (⟨k.val / 16, by omega⟩ : Fin 32) (⟨k.val % 16, by omega⟩ : Fin 16)
      * (if (⟨k.val % 128 / 16, by omega⟩ : Fin 8) = (⟨n.val % 512 / 64, by omega⟩ : Fin 8) then 1 else 0)) :
    ∑ k : Fin 128, u (chan n k) * W (chan n k)
      = ∑ c : Fin 16, u (⟨16 * (n.val / 64) + c.val, by omega⟩ : Fin 512) * b (⟨n.val / 64, by omega⟩ : Fin 32) c := by
  have hn := n.isLt
  refine (Finset.sum_congr rfl fun k _ => (?_ : _ = if k.val / 16 = (⟨n.val % 512 / 64, by omega⟩ : Fin 8).val
    then u (chan n k) * b (⟨(chan n k).val / 16, by omega⟩ : Fin 32) (⟨(chan n k).val % 16, by omega⟩ : Fin 16) else 0)).trans
    ((sum_group (A := 8) (B := 16) (by decide) (fun k : Fin 128 => u (chan n k) * b (⟨(chan n k).val / 16, by omega⟩ : Fin 32) (⟨(chan n k).val % 16, by omega⟩ : Fin 16))
      (⟨n.val % 512 / 64, by omega⟩ : Fin 8) (fun c => by
        have hc := c.isLt
        show n.val % 512 / 64 * 16 + c.val < 128
        omega)).trans ?_)
  · have hk := k.isLt
    rw [hW, mul_eye]
    refine if_congr ⟨fun h => ?_, fun h => Fin.ext ?_⟩ rfl rfl
    · have h1 : (128 * (n.val / 512) + k.val) % 128 / 16 = n.val % 512 / 64 := congrArg Fin.val h
      show k.val / 16 = n.val % 512 / 64
      omega
    · have h1 : k.val / 16 = n.val % 512 / 64 := h
      show (128 * (n.val / 512) + k.val) % 128 / 16 = n.val % 512 / 64
      omega
  · refine Finset.sum_congr rfl fun c _ => ?_
    have hc := c.isLt
    refine congrArg₂ (fun a b : EReal => a * b) (congrArg u (Fin.ext ?_)) (congrArg₂ b (Fin.ext ?_) (Fin.ext ?_))
    · show 128 * (n.val / 512) + (n.val % 512 / 64 * 16 + c.val) = 16 * (n.val / 64) + c.val
      omega
    · show (128 * (n.val / 512) + (n.val % 512 / 64 * 16 + c.val)) / 16 = n.val / 64
      omega
    · show (128 * (n.val / 512) + (n.val % 512 / 64 * 16 + c.val)) % 16 = c.val
      omega

theorem out_sum (s W : Fin 2048 → EReal) (c : Fin 512) (b : Fin 32 → Fin 64 → EReal)
    (hW : ∀ n : Fin 2048, W n = b (⟨n.val / 64, by omega⟩ : Fin 32) (⟨n.val % 64, by omega⟩ : Fin 64)
      * (if (⟨n.val % 512 / 64, by omega⟩ : Fin 8) = (⟨c.val % 128 / 16, by omega⟩ : Fin 8) then 1 else 0)) :
    ∑ n : Fin 512, s (col c n) * W (col c n)
      = ∑ p : Fin 64, s (⟨64 * (c.val / 16) + p.val, by omega⟩ : Fin 2048) * b (⟨c.val / 16, by omega⟩ : Fin 32) p := by
  have hc := c.isLt
  refine (Finset.sum_congr rfl fun n _ => (?_ : _ = if n.val / 64 = (⟨c.val % 128 / 16, by omega⟩ : Fin 8).val
    then s (col c n) * b (⟨(col c n).val / 64, by omega⟩ : Fin 32) (⟨(col c n).val % 64, by omega⟩ : Fin 64) else 0)).trans
    ((sum_group (A := 8) (B := 64) (by decide) (fun n : Fin 512 => s (col c n) * b (⟨(col c n).val / 64, by omega⟩ : Fin 32) (⟨(col c n).val % 64, by omega⟩ : Fin 64))
      (⟨c.val % 128 / 16, by omega⟩ : Fin 8) (fun p => by
        have hp := p.isLt
        show c.val % 128 / 16 * 64 + p.val < 512
        omega)).trans ?_)
  · have hn := n.isLt
    rw [hW, mul_eye]
    refine if_congr ⟨fun h => ?_, fun h => Fin.ext ?_⟩ rfl rfl
    · have h1 : (512 * (c.val / 128) + n.val) % 512 / 64 = c.val % 128 / 16 := congrArg Fin.val h
      show n.val / 64 = c.val % 128 / 16
      omega
    · have h1 : n.val / 64 = c.val % 128 / 16 := h
      show (512 * (c.val / 128) + n.val) % 512 / 64 = c.val % 128 / 16
      omega
  · refine Finset.sum_congr rfl fun p _ => ?_
    have hp := p.isLt
    refine congrArg₂ (fun a b : EReal => a * b) (congrArg s (Fin.ext ?_)) (congrArg₂ b (Fin.ext ?_) (Fin.ext ?_))
    · show 512 * (c.val / 128) + (c.val % 128 / 16 * 64 + p.val) = 64 * (c.val / 16) + p.val
      omega
    · show (512 * (c.val / 128) + (c.val % 128 / 16 * 64 + p.val)) / 64 = c.val / 16
      omega
    · show (512 * (c.val / 128) + (c.val % 128 / 16 * 64 + p.val)) % 64 = p.val
      omega

/-! ## The blocks the launch hands its one point -/

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0, 0] :=
  (by decide +kernel : ∀ t : Fin grid0.N, win0_7.index t = ![0, 0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])

theorem blk0 (c : Dev nD) (t : Fin cfg0.N) (i : Fin 32) (j : Fin 512) :
    (iblk m c 0 t : S32x512.Idx → EReal) (ix2 i j) = (V m c main_arg0 : S32x512.Idx → EReal) (ix2 i j) := by
  unfold iblk
  rw [View.read_apply]
  show (V m c main_arg0 : S32x512.Idx → EReal) ((win0_0.rect t).emb (ix2 i j)) = _
  refine congrArg (V m c main_arg0 : S32x512.Idx → EReal) (funext fun a => Fin.ext ?_)
  match a with
  | ⟨0, _⟩ => refine (Window.rect_emb_val win0_0 t _ 0).trans ?_; rw [idx0]; show 0 * 32 + i.val = i.val; omega
  | ⟨1, _⟩ => refine (Window.rect_emb_val win0_0 t _ 1).trans ?_; rw [idx0]; show 0 * 512 + j.val = j.val; omega

theorem blk1 (c : Dev nD) (t : Fin cfg0.N) (i : Fin 32) (j : Fin 2048) :
    (iblk m c 1 t : S32x2048.Idx → EReal) (ix2 i j) = (V m c main_v97 : S32x2048.Idx → EReal) (ix2 i j) := by
  unfold iblk
  rw [View.read_apply]
  show (V m c main_v97 : S32x2048.Idx → EReal) ((win0_1.rect t).emb (ix2 i j)) = _
  refine congrArg (V m c main_v97 : S32x2048.Idx → EReal) (funext fun a => Fin.ext ?_)
  match a with
  | ⟨0, _⟩ => refine (Window.rect_emb_val win0_1 t _ 0).trans ?_; rw [idx1]; show 0 * 32 + i.val = i.val; omega
  | ⟨1, _⟩ => refine (Window.rect_emb_val win0_1 t _ 1).trans ?_; rw [idx1]; show 0 * 2048 + j.val = j.val; omega

theorem blk2 (c : Dev nD) (t : Fin cfg0.N) (i : Fin 32) (j : Fin 2048) :
    (iblk m c 2 t : S32x2048.Idx → EReal) (ix2 i j) = (V m c main_v100 : S32x2048.Idx → EReal) (ix2 i j) := by
  unfold iblk
  rw [View.read_apply]
  show (V m c main_v100 : S32x2048.Idx → EReal) ((win0_2.rect t).emb (ix2 i j)) = _
  refine congrArg (V m c main_v100 : S32x2048.Idx → EReal) (funext fun a => Fin.ext ?_)
  match a with
  | ⟨0, _⟩ => refine (Window.rect_emb_val win0_2 t _ 0).trans ?_; rw [idx2]; show 0 * 32 + i.val = i.val; omega
  | ⟨1, _⟩ => refine (Window.rect_emb_val win0_2 t _ 1).trans ?_; rw [idx2]; show 0 * 2048 + j.val = j.val; omega

theorem blk3 (c : Dev nD) (t : Fin cfg0.N) (j : Fin 512) (k : Fin 1024) :
    (iblk m c 3 t : S1x512x1024.Idx → EReal) (ix3 0 j k) = (V m c main_v67 : S4x512x1024.Idx → EReal) (ix3 0 j k) := by
  unfold iblk
  rw [View.read_apply]
  show (V m c main_v67 : S4x512x1024.Idx → EReal) ((win0_3.rect t).emb (ix3 0 j k)) = _
  refine congrArg (V m c main_v67 : S4x512x1024.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show 0 * 512 + j.val = j.val; omega
  | ⟨2, _⟩ => refine (Window.rect_emb_val win0_3 t _ 2).trans ?_; rw [idx3]; show 0 * 1024 + k.val = k.val; omega

theorem blk4 (c : Dev nD) (t : Fin cfg0.N) (j : Fin 4096) (k : Fin 128) :
    (iblk m c 4 t : S1x4096x128.Idx → EReal) (ix3 0 j k) = (V m c main_v88 : S4x4096x128.Idx → EReal) (ix3 0 j k) := by
  unfold iblk
  rw [View.read_apply]
  show (V m c main_v88 : S4x4096x128.Idx → EReal) ((win0_4.rect t).emb (ix3 0 j k)) = _
  refine congrArg (V m c main_v88 : S4x4096x128.Idx → EReal) (funext fun a => Fin.ext ?_)
  match a with
  | ⟨0, _⟩ => refine (Window.rect_emb_val win0_4 t _ 0).trans ?_; rw [idx4]; rfl
  | ⟨1, _⟩ => refine (Window.rect_emb_val win0_4 t _ 1).trans ?_; rw [idx4]; show 0 * 4096 + j.val = j.val; omega
  | ⟨2, _⟩ => refine (Window.rect_emb_val win0_4 t _ 2).trans ?_; rw [idx4]; show 0 * 128 + k.val = k.val; omega

theorem blk5 (c : Dev nD) (t : Fin cfg0.N) (i : Fin 2) (j : Fin 2048) :
    (iblk m c 5 t : S2x2048.Idx → EReal) (ix2 i j) = (V m c main_v102 : S2x2048.Idx → EReal) (ix2 i j) := by
  unfold iblk
  rw [View.read_apply]
  show (V m c main_v102 : S2x2048.Idx → EReal) ((win0_5.rect t).emb (ix2 i j)) = _
  refine congrArg (V m c main_v102 : S2x2048.Idx → EReal) (funext fun a => Fin.ext ?_)
  match a with
  | ⟨0, _⟩ => refine (Window.rect_emb_val win0_5 t _ 0).trans ?_; rw [idx5]; show 0 * 2 + i.val = i.val; omega
  | ⟨1, _⟩ => refine (Window.rect_emb_val win0_5 t _ 1).trans ?_; rw [idx5]; show 0 * 2048 + j.val = j.val; omega

theorem blk6 (c : Dev nD) (t : Fin cfg0.N) (i : Fin 1) (j : Fin 512) :
    (iblk m c 6 t : S1x512.Idx → EReal) (ix2 i j) = (V m c main_v105 : S1x512.Idx → EReal) (ix2 i j) := by
  unfold iblk
  rw [View.read_apply]
  show (V m c main_v105 : S1x512.Idx → EReal) ((win0_6.rect t).emb (ix2 i j)) = _
  refine congrArg (V m c main_v105 : S1x512.Idx → EReal) (funext fun a => Fin.ext ?_)
  match a with
  | ⟨0, _⟩ => refine (Window.rect_emb_val win0_6 t _ 0).trans ?_; rw [idx6]; show 0 * 1 + i.val = i.val; omega
  | ⟨1, _⟩ => refine (Window.rect_emb_val win0_6 t _ 1).trans ?_; rw [idx6]; show 0 * 512 + j.val = j.val; omega

theorem blk7 (c : Dev nD) (t : Fin cfg0.N) (j : Fin 512) (k : Fin 512) :
    (iblk m c 7 t : S1x512x512.Idx → EReal) (ix3 0 j k) = (V m c main_v106 : S4x512x512.Idx → EReal) (ix3 0 j k) := by
  unfold iblk
  rw [View.read_apply]
  show (V m c main_v106 : S4x512x512.Idx → EReal) ((win0_7.rect t).emb (ix3 0 j k)) = _
  refine congrArg (V m c main_v106 : S4x512x512.Idx → EReal) (funext fun a => Fin.ext ?_)
  match a with
  | ⟨0, _⟩ => refine (Window.rect_emb_val win0_7 t _ 0).trans ?_; rw [idx7]; rfl
  | ⟨1, _⟩ => refine (Window.rect_emb_val win0_7 t _ 1).trans ?_; rw [idx7]; show 0 * 512 + j.val = j.val; omega
  | ⟨2, _⟩ => refine (Window.rect_emb_val win0_7 t _ 2).trans ?_; rw [idx7]; show 0 * 512 + k.val = k.val; omega

theorem blk8 (c : Dev nD) (t : Fin cfg0.N) (i : Fin 1) (j : Fin 512) :
    (iblk m c 8 t : S1x512.Idx → EReal) (ix2 i j) = (V m c main_v109 : S1x512.Idx → EReal) (ix2 i j) := by
  unfold iblk
  rw [View.read_apply]
  show (V m c main_v109 : S1x512.Idx → EReal) ((win0_8.rect t).emb (ix2 i j)) = _
  refine congrArg (V m c main_v109 : S1x512.Idx → EReal) (funext fun a => Fin.ext ?_)
  match a with
  | ⟨0, _⟩ => refine (Window.rect_emb_val win0_8 t _ 0).trans ?_; rw [idx8]; show 0 * 1 + i.val = i.val; omega
  | ⟨1, _⟩ => refine (Window.rect_emb_val win0_8 t _ 1).trans ?_; rw [idx8]; show 0 * 512 + j.val = j.val; omega

/-! ## What the point writes back -/

theorem re_found (c : Dev nD) (t : Fin cfg0.N) (r : Fin 32) (n : Fin 2048) :
    stRe (iblk m c 0 t) (iblk m c 1 t) (iblk m c 2 t) (iblk m c 3 t) (iblk m c 5 t) r n
      = reS (A0 m c) (A1 m c) (A2 m c) (A3 m c) (A4 m c) (A5 m c) (A6 m c) (A7 m c) r (⟨n.val / 64, by omega⟩ : Fin 32) (⟨n.val % 64, by omega⟩ : Fin 64) := by
  have hn := n.isLt
  unfold stRe reS
  refine congrArg₂ (fun a b : EReal => a + b) (congrArg₂ (fun a b : EReal => a - b)
    (congrArg₂ (fun a b : EReal => a * b) ((blk5 m c t 0 n).trans (tr_re m c n)) ((blk1 m c t r n).trans (st_re m c r n)))
    (congrArg₂ (fun a b : EReal => a * b) ((blk5 m c t 1 n).trans (tr_im m c n)) ((blk2 m c t r n).trans (st_im m c r n)))) ?_
  refine (in_sum (fun k => (iblk m c 0 t : S32x512.Idx → EReal) (ix2 r k)) (fun k => (iblk m c 3 t : S1x512x1024.Idx → EReal) (ix3 0 k (⟨n.val % 512, by omega⟩ : Fin 1024))) n
    (fun g k => br (A3 m c) (A4 m c) (A5 m c) (A6 m c) (A7 m c) g (⟨n.val % 64, by omega⟩ : Fin 64) k) (fun k => ?_)).trans ?_
  · refine ((blk3 m c t k _).trans (in_re m c k (⟨n.val % 512, by omega⟩ : Fin 512))).trans ?_
    refine congrArg (fun p : Fin 64 => br (A3 m c) (A4 m c) (A5 m c) (A6 m c) (A7 m c) (⟨k.val / 16, by omega⟩ : Fin 32) p (⟨k.val % 16, by omega⟩ : Fin 16)
      * (if (⟨k.val % 128 / 16, by omega⟩ : Fin 8) = (⟨n.val % 512 / 64, by omega⟩ : Fin 8) then 1 else 0)) (Fin.ext ?_)
    show n.val % 512 % 64 = n.val % 64
    omega
  · refine Finset.sum_congr rfl fun k _ => congrArg₂ (fun a b : EReal => a * b) ?_ rfl
    exact (blk0 m c t r _).trans (congrFun (V_main_arg0 m c) _)

theorem im_found (c : Dev nD) (t : Fin cfg0.N) (r : Fin 32) (n : Fin 2048) :
    stIm (iblk m c 0 t) (iblk m c 1 t) (iblk m c 2 t) (iblk m c 3 t) (iblk m c 5 t) r n
      = imS (A0 m c) (A1 m c) (A2 m c) (A3 m c) (A4 m c) (A5 m c) (A6 m c) (A7 m c) r (⟨n.val / 64, by omega⟩ : Fin 32) (⟨n.val % 64, by omega⟩ : Fin 64) := by
  have hn := n.isLt
  unfold stIm imS
  refine congrArg₂ (fun a b : EReal => a + b) (congrArg₂ (fun a b : EReal => a + b)
    (congrArg₂ (fun a b : EReal => a * b) ((blk5 m c t 0 n).trans (tr_re m c n)) ((blk2 m c t r n).trans (st_im m c r n)))
    (congrArg₂ (fun a b : EReal => a * b) ((blk5 m c t 1 n).trans (tr_im m c n)) ((blk1 m c t r n).trans (st_re m c r n)))) ?_
  refine (in_sum (fun k => (iblk m c 0 t : S32x512.Idx → EReal) (ix2 r k)) (fun k => (iblk m c 3 t : S1x512x1024.Idx → EReal) (ix3 0 k (⟨512 + n.val % 512, by omega⟩ : Fin 1024))) n
    (fun g k => bi (A3 m c) (A4 m c) (A5 m c) (A6 m c) (A7 m c) g (⟨n.val % 64, by omega⟩ : Fin 64) k) (fun k => ?_)).trans ?_
  · refine ((blk3 m c t k _).trans (in_im m c k (⟨n.val % 512, by omega⟩ : Fin 512))).trans ?_
    refine congrArg (fun p : Fin 64 => bi (A3 m c) (A4 m c) (A5 m c) (A6 m c) (A7 m c) (⟨k.val / 16, by omega⟩ : Fin 32) p (⟨k.val % 16, by omega⟩ : Fin 16)
      * (if (⟨k.val % 128 / 16, by omega⟩ : Fin 8) = (⟨n.val % 512 / 64, by omega⟩ : Fin 8) then 1 else 0)) (Fin.ext ?_)
    show n.val % 512 % 64 = n.val % 64
    omega
  · refine Finset.sum_congr rfl fun k _ => congrArg₂ (fun a b : EReal => a * b) ?_ rfl
    exact (blk0 m c t r _).trans (congrFun (V_main_arg0 m c) _)

theorem read_found (c : Dev nD) (t : Fin cfg0.N) (r : Fin 32) (q : Fin 512) :
    SsmBody.read (iblk m c 0 t) (iblk m c 1 t) (iblk m c 2 t) (iblk m c 3 t) (iblk m c 4 t) (iblk m c 5 t) r q = rdS (A0 m c) (A1 m c) (A2 m c) (A3 m c) (A4 m c) (A5 m c) (A6 m c) (A7 m c) (A8 m c) (A9 m c) r q := by
  have hq := q.isLt
  unfold SsmBody.read rdS
  have hm : (⟨q.val % 128 % 16, by omega⟩ : Fin 16) = ⟨q.val % 16, by omega⟩ := Fin.ext (by show q.val % 128 % 16 = q.val % 16; omega)
  refine congrArg₂ (fun a b : EReal => a + b) ?_ ?_
  · refine (out_sum (fun n => stRe (iblk m c 0 t) (iblk m c 1 t) (iblk m c 2 t) (iblk m c 3 t) (iblk m c 5 t) r n)
      (fun n => (iblk m c 4 t : S1x4096x128.Idx → EReal) (ix3 0 (⟨n.val, by omega⟩ : Fin 4096) (⟨q.val % 128, by omega⟩ : Fin 128))) q
      (fun g p => A8 m c (ix4 0 g (⟨q.val % 16, by omega⟩ : Fin 16) p)) (fun n => ?_)).trans ?_
    · refine ((blk4 m c t _ _).trans (out_re m c n (⟨q.val % 128, by omega⟩ : Fin 128))).trans ?_
      exact congrArg (fun k : Fin 16 => A8 m c (ix4 0 (⟨n.val / 64, by omega⟩ : Fin 32) k (⟨n.val % 64, by omega⟩ : Fin 64))
        * (if (⟨n.val % 512 / 64, by omega⟩ : Fin 8) = (⟨q.val % 128 / 16, by omega⟩ : Fin 8) then 1 else 0)) hm
    · refine Finset.sum_congr rfl fun p _ => congrArg₂ (fun a b : EReal => a * b) ((re_found m c t r _).trans ?_) rfl
      have hp := p.isLt
      exact congrArg₂ (reS (A0 m c) (A1 m c) (A2 m c) (A3 m c) (A4 m c) (A5 m c) (A6 m c) (A7 m c) r) (Fin.ext (by show (64 * (q.val / 16) + p.val) / 64 = q.val / 16; omega))
        (Fin.ext (by show (64 * (q.val / 16) + p.val) % 64 = p.val; omega))
  · refine (out_sum (fun n => stIm (iblk m c 0 t) (iblk m c 1 t) (iblk m c 2 t) (iblk m c 3 t) (iblk m c 5 t) r n)
      (fun n => (iblk m c 4 t : S1x4096x128.Idx → EReal) (ix3 0 (⟨2048 + n.val, by omega⟩ : Fin 4096) (⟨q.val % 128, by omega⟩ : Fin 128))) q
      (fun g p => -A9 m c (ix4 0 g (⟨q.val % 16, by omega⟩ : Fin 16) p)) (fun n => ?_)).trans ?_
    · refine ((blk4 m c t _ _).trans (out_im m c n (⟨q.val % 128, by omega⟩ : Fin 128))).trans ?_
      exact congrArg (fun k : Fin 16 => -A9 m c (ix4 0 (⟨n.val / 64, by omega⟩ : Fin 32) k (⟨n.val % 64, by omega⟩ : Fin 64))
        * (if (⟨n.val % 512 / 64, by omega⟩ : Fin 8) = (⟨q.val % 128 / 16, by omega⟩ : Fin 8) then 1 else 0)) hm
    · refine Finset.sum_congr rfl fun p _ => congrArg₂ (fun a b : EReal => a * b) ((im_found m c t r _).trans ?_) rfl
      have hp := p.isLt
      exact congrArg₂ (imS (A0 m c) (A1 m c) (A2 m c) (A3 m c) (A4 m c) (A5 m c) (A6 m c) (A7 m c) r) (Fin.ext (by show (64 * (q.val / 16) + p.val) / 64 = q.val / 16; omega))
        (Fin.ext (by show (64 * (q.val / 16) + p.val) % 64 = p.val; omega))

theorem act_found (c : Dev nD) (t : Fin cfg0.N) (r : Fin 32) (q : Fin 512) :
    SsmBody.act (iblk m c 0 t) (iblk m c 1 t) (iblk m c 2 t) (iblk m c 3 t) (iblk m c 4 t) (iblk m c 5 t) (iblk m c 6 t) r q = acS (A0 m c) (A1 m c) (A2 m c) (A3 m c) (A4 m c) (A5 m c) (A6 m c) (A7 m c) (A8 m c) (A9 m c) (A10 m c) r q := by
  unfold SsmBody.act acS
  exact congrArg gelu (congrArg₂ (fun a b : EReal => a + b) (read_found m c t r q) (congrArg₂ (fun a b : EReal => a * b)
    ((blk6 m c t 0 q).trans (skip_at m c q)) ((blk0 m c t r q).trans (congrFun (V_main_arg0 m c) _))))

theorem stored9 (c : Dev nD) (t : Fin cfg0.N) (r : Fin 32) (q : Fin 512) :
    (out0_9 (iblk m c 0 t) (iblk m c 1 t) (iblk m c 2 t) (iblk m c 3 t) (iblk m c 4 t) (iblk m c 5 t) (iblk m c 6 t) (iblk m c 7 t) (iblk m c 8 t) (ix2 r q) : EReal) = branch (A0 m c) (A1 m c) (A2 m c) (A3 m c) (A4 m c) (A5 m c) (A6 m c) (A7 m c) (A8 m c) (A9 m c) (A10 m c) (A11 m c) (A12 m c) (ix2 r q) := by
  refine (out9_eq (iblk m c 0 t) (iblk m c 1 t) (iblk m c 2 t) (iblk m c 3 t) (iblk m c 4 t) (iblk m c 5 t) (iblk m c 6 t) (iblk m c 7 t) (iblk m c 8 t) r q).trans ?_
  unfold SsmBody.outv branch
  exact congrArg₂ (fun a b : EReal => a * b) (act_found m c t r q) (congrArg Ideal.logistic (congrArg₂ (fun a b : EReal => a + b)
    (Finset.sum_congr rfl fun k _ => congrArg₂ (fun a b : EReal => a * b) (act_found m c t r k)
      ((blk7 m c t k q).trans (congrFun (V_v106 m c) _))) ((blk8 m c t 0 q).trans (bias_at m c q))))

theorem stored10 (c : Dev nD) (t : Fin cfg0.N) (r : Fin 32) (n : Fin 2048) :
    (out0_10 (iblk m c 0 t) (iblk m c 1 t) (iblk m c 2 t) (iblk m c 3 t) (iblk m c 4 t) (iblk m c 5 t) (iblk m c 6 t) (iblk m c 7 t) (iblk m c 8 t) (ix2 r n) : EReal) = stateRe (A0 m c) (A1 m c) (A2 m c) (A3 m c) (A4 m c) (A5 m c) (A6 m c) (A7 m c) (ix2 r n) :=
  (out10_eq (iblk m c 0 t) (iblk m c 1 t) (iblk m c 2 t) (iblk m c 3 t) (iblk m c 4 t) (iblk m c 5 t) (iblk m c 6 t) (iblk m c 7 t) (iblk m c 8 t) (ix2 r n)).trans (re_found m c t r n)

theorem stored11 (c : Dev nD) (t : Fin cfg0.N) (r : Fin 32) (n : Fin 2048) :
    (out0_11 (iblk m c 0 t) (iblk m c 1 t) (iblk m c 2 t) (iblk m c 3 t) (iblk m c 4 t) (iblk m c 5 t) (iblk m c 6 t) (iblk m c 7 t) (iblk m c 8 t) (ix2 r n) : EReal) = stateIm (A0 m c) (A1 m c) (A2 m c) (A3 m c) (A4 m c) (A5 m c) (A6 m c) (A7 m c) (ix2 r n) :=
  (out11_eq (iblk m c 0 t) (iblk m c 1 t) (iblk m c 2 t) (iblk m c 3 t) (iblk m c 4 t) (iblk m c 5 t) (iblk m c 6 t) (iblk m c 7 t) (iblk m c 8 t) (ix2 r n)).trans (im_found m c t r n)

theorem emb9 (t : Fin cfg0.N) (r : Fin 32) (d : Fin 512) : (win0_9.rect t).emb (ix2 r d) = ix2 r d :=
  funext fun a => Fin.ext (by
    match a with
    | ⟨0, _⟩ => refine (Window.rect_emb_val win0_9 t _ 0).trans ?_; rw [idx9]; show 0 * 32 + r.val = r.val; omega
    | ⟨1, _⟩ => refine (Window.rect_emb_val win0_9 t _ 1).trans ?_; rw [idx9]; show 0 * 512 + d.val = d.val; omega)

theorem flushed9_eq (c : Dev nD) (t : Fin cfg0.N) :
    (dats m 0 c).flushed 9 t = ((cfg0.win 9).blk t).view.read (Elt Ideal) (branch (A0 m c) (A1 m c) (A2 m c) (A3 m c) (A4 m c) (A5 m c) (A6 m c) (A7 m c) (A8 m c) (A9 m c) (A10 m c) (A11 m c) (A12 m c)) := by
  rw [Value.flushed9 m c t]
  funext y
  obtain ⟨r, d, rfl⟩ : ∃ (r : Fin 32) (d : Fin 512), y = ix2 r d := ⟨y 0, y 1, eq_ix2 y⟩
  rw [View.read_apply]
  show _ = branch _ _ _ _ _ _ _ _ _ _ _ _ _ ((win0_9.rect t).emb (ix2 r d))
  rw [emb9]
  exact stored9 m c t r d

theorem mem_blk9 (t : Fin cfg0.N) (i : S32x512.Idx) :
    i ∈ ((cfg0.win 9).blk t).view.set ↔ ∀ a, win0_9.index t a * win0_9.size a ≤ (i a : Nat)
      ∧ (i a : Nat) < win0_9.index t a * win0_9.size a + win0_9.xsize (grid0.coords t) a := by
  show i ∈ ((View.whole main_v110_0).slice (win0_9.rect t)).set ↔ _
  rw [View.set_slice_whole, Rect.mem_set_unit]

theorem flush9 : ∀ t : Fin cfg0.N, (cfg0.win 9).flush t = true :=
  (by decide +kernel : ∀ t : Fin grid0.N, win0_9.flush t = true)

theorem final9 (c : Dev nD) : (dats m 0 c).arrAt 9 cfg0.N = (branch (A0 m c) (A1 m c) (A2 m c) (A3 m c) (A4 m c) (A5 m c) (A6 m c) (A7 m c) (A8 m c) (A9 m c) (A10 m c) (A11 m c) (A12 m c)) :=
  (dats m 0 c).arrAt_eq_of_cover 9 _ (fun t _ => flushed9_eq m c t) fun (i : S32x512.Idx) => by
    have hi0 : (i 0 : Nat) < 32 := (i 0).isLt
    have hi1 : (i 1 : Nat) < 512 := (i 1).isLt
    refine ⟨⟨0, by rw [show cfg0.N = 1 from N_0]; omega⟩, flush9 _, (mem_blk9 _ i).mpr fun a => ?_⟩
    rw [idx9]
    match a with
    | ⟨0, _⟩ => show 0 * 32 ≤ (i 0 : Nat) ∧ (i 0 : Nat) < 0 * 32 + 32; omega
    | ⟨1, _⟩ => show 0 * 512 ≤ (i 1 : Nat) ∧ (i 1 : Nat) < 0 * 512 + 512; omega

theorem emb10 (t : Fin cfg0.N) (r : Fin 32) (d : Fin 2048) : (win0_10.rect t).emb (ix2 r d) = ix2 r d :=
  funext fun a => Fin.ext (by
    match a with
    | ⟨0, _⟩ => refine (Window.rect_emb_val win0_10 t _ 0).trans ?_; rw [idx10]; show 0 * 32 + r.val = r.val; omega
    | ⟨1, _⟩ => refine (Window.rect_emb_val win0_10 t _ 1).trans ?_; rw [idx10]; show 0 * 2048 + d.val = d.val; omega)

theorem flushed10_eq (c : Dev nD) (t : Fin cfg0.N) :
    (dats m 0 c).flushed 10 t = ((cfg0.win 10).blk t).view.read (Elt Ideal) (stateRe (A0 m c) (A1 m c) (A2 m c) (A3 m c) (A4 m c) (A5 m c) (A6 m c) (A7 m c)) := by
  rw [Value.flushed10 m c t]
  funext y
  obtain ⟨r, d, rfl⟩ : ∃ (r : Fin 32) (d : Fin 2048), y = ix2 r d := ⟨y 0, y 1, eq_ix2 y⟩
  rw [View.read_apply]
  show _ = stateRe _ _ _ _ _ _ _ _ ((win0_10.rect t).emb (ix2 r d))
  rw [emb10]
  exact stored10 m c t r d

theorem mem_blk10 (t : Fin cfg0.N) (i : S32x2048.Idx) :
    i ∈ ((cfg0.win 10).blk t).view.set ↔ ∀ a, win0_10.index t a * win0_10.size a ≤ (i a : Nat)
      ∧ (i a : Nat) < win0_10.index t a * win0_10.size a + win0_10.xsize (grid0.coords t) a := by
  show i ∈ ((View.whole main_v110_1).slice (win0_10.rect t)).set ↔ _
  rw [View.set_slice_whole, Rect.mem_set_unit]

theorem flush10 : ∀ t : Fin cfg0.N, (cfg0.win 10).flush t = true :=
  (by decide +kernel : ∀ t : Fin grid0.N, win0_10.flush t = true)

theorem final10 (c : Dev nD) : (dats m 0 c).arrAt 10 cfg0.N = (stateRe (A0 m c) (A1 m c) (A2 m c) (A3 m c) (A4 m c) (A5 m c) (A6 m c) (A7 m c)) :=
  (dats m 0 c).arrAt_eq_of_cover 10 _ (fun t _ => flushed10_eq m c t) fun (i : S32x2048.Idx) => by
    have hi0 : (i 0 : Nat) < 32 := (i 0).isLt
    have hi1 : (i 1 : Nat) < 2048 := (i 1).isLt
    refine ⟨⟨0, by rw [show cfg0.N = 1 from N_0]; omega⟩, flush10 _, (mem_blk10 _ i).mpr fun a => ?_⟩
    rw [idx10]
    match a with
    | ⟨0, _⟩ => show 0 * 32 ≤ (i 0 : Nat) ∧ (i 0 : Nat) < 0 * 32 + 32; omega
    | ⟨1, _⟩ => show 0 * 2048 ≤ (i 1 : Nat) ∧ (i 1 : Nat) < 0 * 2048 + 2048; omega

theorem emb11 (t : Fin cfg0.N) (r : Fin 32) (d : Fin 2048) : (win0_11.rect t).emb (ix2 r d) = ix2 r d :=
  funext fun a => Fin.ext (by
    match a with
    | ⟨0, _⟩ => refine (Window.rect_emb_val win0_11 t _ 0).trans ?_; rw [idx11]; show 0 * 32 + r.val = r.val; omega
    | ⟨1, _⟩ => refine (Window.rect_emb_val win0_11 t _ 1).trans ?_; rw [idx11]; show 0 * 2048 + d.val = d.val; omega)

theorem flushed11_eq (c : Dev nD) (t : Fin cfg0.N) :
    (dats m 0 c).flushed 11 t = ((cfg0.win 11).blk t).view.read (Elt Ideal) (stateIm (A0 m c) (A1 m c) (A2 m c) (A3 m c) (A4 m c) (A5 m c) (A6 m c) (A7 m c)) := by
  rw [Value.flushed11 m c t]
  funext y
  obtain ⟨r, d, rfl⟩ : ∃ (r : Fin 32) (d : Fin 2048), y = ix2 r d := ⟨y 0, y 1, eq_ix2 y⟩
  rw [View.read_apply]
  show _ = stateIm _ _ _ _ _ _ _ _ ((win0_11.rect t).emb (ix2 r d))
  rw [emb11]
  exact stored11 m c t r d

theorem mem_blk11 (t : Fin cfg0.N) (i : S32x2048.Idx) :
    i ∈ ((cfg0.win 11).blk t).view.set ↔ ∀ a, win0_11.index t a * win0_11.size a ≤ (i a : Nat)
      ∧ (i a : Nat) < win0_11.index t a * win0_11.size a + win0_11.xsize (grid0.coords t) a := by
  show i ∈ ((View.whole main_v110_2).slice (win0_11.rect t)).set ↔ _
  rw [View.set_slice_whole, Rect.mem_set_unit]

theorem flush11 : ∀ t : Fin cfg0.N, (cfg0.win 11).flush t = true :=
  (by decide +kernel : ∀ t : Fin grid0.N, win0_11.flush t = true)

theorem final11 (c : Dev nD) : (dats m 0 c).arrAt 11 cfg0.N = (stateIm (A0 m c) (A1 m c) (A2 m c) (A3 m c) (A4 m c) (A5 m c) (A6 m c) (A7 m c)) :=
  (dats m 0 c).arrAt_eq_of_cover 11 _ (fun t _ => flushed11_eq m c t) fun (i : S32x2048.Idx) => by
    have hi0 : (i 0 : Nat) < 32 := (i 0).isLt
    have hi1 : (i 1 : Nat) < 2048 := (i 1).isLt
    refine ⟨⟨0, by rw [show cfg0.N = 1 from N_0]; omega⟩, flush11 _, (mem_blk11 _ i).mpr fun a => ?_⟩
    rw [idx11]
    match a with
    | ⟨0, _⟩ => show 0 * 32 ≤ (i 0 : Nat) ∧ (i 0 : Nat) < 0 * 32 + 32; omega
    | ⟨1, _⟩ => show 0 * 2048 ≤ (i 1 : Nat) ∧ (i 1 : Nat) < 0 * 2048 + 2048; omega

/-- The run: the three results, the arguments unchanged. -/
theorem run : θ_run (defs (F := Ideal)) (onTc (τ := τ) (main (F := Ideal))) ⟨m, fun _ => 0, ρ⟩ fun r => ∀ c : Dev nD,
      r.2.mem ((c : Thread nD τ).loc main_v110_0) = branch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_v110_1) = stateRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v110_2) = stateIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun _ h c => ⟨(h c).1.trans (final9 m c), (h c).2.1.trans (final10 m c), (h c).2.2.1.trans (final11 m c),
    (h c).2.2.2⟩) (Value.run_blocks m ρ)

/-! ## The reference -/

section Reference

open Cert.SsmSampleRefIdeal.Read

variable (x0 : S32x512.Idx → EReal) (x1 x2 : S4x32x32x64.Idx → EReal) (x3 x4 : S4x32x64.Idx → EReal) (x5 : S4x32.Idx → EReal)
  (x6 x7 : S4x32x64x16.Idx → EReal) (x8 x9 : S4x32x16x64.Idx → EReal) (x10 : S4x512.Idx → EReal) (x11 : S4x512x512.Idx → EReal)
  (x12 : S4x512.Idx → EReal)

theorem ref_x3 (g : Fin 32) (p : Fin 64) : (val_main_v2 (F := Ideal) x3 : Cert.SsmSampleRefIdeal.S32x64.Idx → EReal) (ix2 g p) = x3 (ix3 0 g p) := by
  rw [val_main_v2_apply, val_main_v1_apply]
  refine congrArg x3 (funext fun a => Fin.ext (by
      match a with
      | ⟨0, _⟩ => rfl
      | ⟨1, _⟩ => show (g.val * 64 + p.val) / 64 % 32 = g.val; omega
      | ⟨2, _⟩ => show (g.val * 64 + p.val) % 64 = p.val; omega))

theorem ref_x4 (g : Fin 32) (p : Fin 64) : (val_main_v4 (F := Ideal) x4 : Cert.SsmSampleRefIdeal.S32x64.Idx → EReal) (ix2 g p) = x4 (ix3 0 g p) := by
  rw [val_main_v4_apply, val_main_v3_apply]
  refine congrArg x4 (funext fun a => Fin.ext (by
      match a with
      | ⟨0, _⟩ => rfl
      | ⟨1, _⟩ => show (g.val * 64 + p.val) / 64 % 32 = g.val; omega
      | ⟨2, _⟩ => show (g.val * 64 + p.val) % 64 = p.val; omega))

theorem ref_dt9 (g : Fin 32) (p : Fin 64) : (val_main_v9 (F := Ideal) x5 : Cert.SsmSampleRefIdeal.S32x64.Idx → EReal) (ix2 g p) = dt x5 g := by
  rw [val_main_v9_apply, val_main_v8_apply, val_main_v7_apply, val_main_v6_apply, val_main_v5_apply]
  show Ideal.exp _ = _
  unfold dt
  refine congrArg (fun i => Ideal.exp (x5 i)) (funext fun a => Fin.ext (by
      match a with
      | ⟨0, _⟩ => rfl
      | ⟨1, _⟩ => show g.val % 32 = g.val; omega))

theorem ref_dt12 (g : Fin 32) (p : Fin 64) : (val_main_v12 (F := Ideal) x5 : Cert.SsmSampleRefIdeal.S32x64.Idx → EReal) (ix2 g p) = dt x5 g := by
  rw [val_main_v12_apply, val_main_v8_apply, val_main_v7_apply, val_main_v6_apply, val_main_v5_apply]
  show Ideal.exp _ = _
  unfold dt
  refine congrArg (fun i => Ideal.exp (x5 i)) (funext fun a => Fin.ext (by
      match a with
      | ⟨0, _⟩ => rfl
      | ⟨1, _⟩ => show g.val % 32 = g.val; omega))

theorem ref_dt16 (g : Fin 32) (p : Fin 64) : (val_main_v16 (F := Ideal) x5 : Cert.SsmSampleRefIdeal.S32x64.Idx → EReal) (ix2 g p) = dt x5 g := by
  rw [val_main_v16_apply, val_main_v8_apply, val_main_v7_apply, val_main_v6_apply, val_main_v5_apply]
  show Ideal.exp _ = _
  unfold dt
  refine congrArg (fun i => Ideal.exp (x5 i)) (funext fun a => Fin.ext (by
      match a with
      | ⟨0, _⟩ => rfl
      | ⟨1, _⟩ => show g.val % 32 = g.val; omega))

theorem ref_ar (g : Fin 32) (p : Fin 64) : (val_main_v15 (F := Ideal) x3 x4 x5 : Cert.SsmSampleRefIdeal.S32x64.Idx → EReal) (ix2 g p) = ar x3 x4 x5 g p := by
  rw [val_main_v15_apply, val_main_v11_apply, val_main_v10_apply, val_main_v14_apply, val_main_v13_apply]
  show (Ideal.exp (val_main_v2 (F := Ideal) x3 (ix2 g p) * val_main_v9 (F := Ideal) x5 (ix2 g p)) * Ideal.cos (val_main_v4 (F := Ideal) x4 (ix2 g p) * val_main_v12 (F := Ideal) x5 (ix2 g p)) : EReal) = _
  rw [ref_x3, ref_x4, ref_dt9, ref_dt12]
  rfl

theorem ref_ai (g : Fin 32) (p : Fin 64) : (val_main_v19 (F := Ideal) x3 x4 x5 : Cert.SsmSampleRefIdeal.S32x64.Idx → EReal) (ix2 g p) = ai x3 x4 x5 g p := by
  rw [val_main_v19_apply, val_main_v11_apply, val_main_v10_apply, val_main_v18_apply, val_main_v17_apply]
  show (Ideal.exp (val_main_v2 (F := Ideal) x3 (ix2 g p) * val_main_v9 (F := Ideal) x5 (ix2 g p)) * Ideal.sin (val_main_v4 (F := Ideal) x4 (ix2 g p) * val_main_v16 (F := Ideal) x5 (ix2 g p)) : EReal) = _
  rw [ref_x3, ref_x4, ref_dt9, ref_dt16]
  rfl

theorem ref_den (g : Fin 32) (p : Fin 64) : (val_main_v22 (F := Ideal) x3 x4 : Cert.SsmSampleRefIdeal.S32x64.Idx → EReal) (ix2 g p) = den x3 x4 g p := by
  rw [val_main_v22_apply, val_main_v20_apply, val_main_v21_apply]
  show (val_main_v2 (F := Ideal) x3 (ix2 g p) * val_main_v2 (F := Ideal) x3 (ix2 g p) + val_main_v4 (F := Ideal) x4 (ix2 g p) * val_main_v4 (F := Ideal) x4 (ix2 g p) : EReal) = _
  rw [ref_x3, ref_x4]
  rfl

theorem ref_fr (g : Fin 32) (p : Fin 64) : (val_main_v28 (F := Ideal) x3 x4 x5 : Cert.SsmSampleRefIdeal.S32x64.Idx → EReal) (ix2 g p) = fr x3 x4 x5 g p := by
  rw [val_main_v28_apply, val_main_v27_apply, val_main_v25_apply, val_main_v24_apply, val_main_v23_apply, val_main_cst_apply, val_main_v26_apply]
  show (Ideal.div ((val_main_v15 (F := Ideal) x3 x4 x5 (ix2 g p) - Ideal.ofBits .f32 0x3F800000#32) * val_main_v2 (F := Ideal) x3 (ix2 g p)
    + val_main_v19 (F := Ideal) x3 x4 x5 (ix2 g p) * val_main_v4 (F := Ideal) x4 (ix2 g p)) (val_main_v22 (F := Ideal) x3 x4 (ix2 g p)) : EReal) = _
  rw [ref_ar, ref_ai, ref_x3, ref_x4, ref_den]
  rfl

theorem ref_fi (g : Fin 32) (p : Fin 64) : (val_main_v34 (F := Ideal) x3 x4 x5 : Cert.SsmSampleRefIdeal.S32x64.Idx → EReal) (ix2 g p) = fi x3 x4 x5 g p := by
  rw [val_main_v34_apply, val_main_v33_apply, val_main_v29_apply, val_main_v32_apply, val_main_v31_apply, val_main_v30_apply, val_main_cst_0_apply]
  show (Ideal.div (val_main_v19 (F := Ideal) x3 x4 x5 (ix2 g p) * val_main_v2 (F := Ideal) x3 (ix2 g p)
    - (val_main_v15 (F := Ideal) x3 x4 x5 (ix2 g p) - Ideal.ofBits .f32 0x3F800000#32) * val_main_v4 (F := Ideal) x4 (ix2 g p)) (val_main_v22 (F := Ideal) x3 x4 (ix2 g p)) : EReal) = _
  rw [ref_ar, ref_ai, ref_x3, ref_x4, ref_den]
  rfl

theorem ref_br (g : Fin 32) (p : Fin 64) (k : Fin 16) :
    (val_main_v45 (F := Ideal) x3 x4 x5 x6 x7 : Cert.SsmSampleRefIdeal.S32x64x16.Idx → EReal) (ix3 g p k) = br x3 x4 x5 x6 x7 g p k := by
  rw [val_main_v45_apply, val_main_v39_apply, val_main_v38_apply, val_main_v35_apply, val_main_v37_apply, val_main_v36_apply, val_main_v44_apply, val_main_v43_apply, val_main_v40_apply, val_main_v42_apply, val_main_v41_apply]
  unfold br
  refine congrArg₂ (fun a b : EReal => a - b) (congrArg₂ (fun a b : EReal => a * b) ?_ ?_) (congrArg₂ (fun a b : EReal => a * b) ?_ ?_)
  · refine (congrArg (val_main_v28 (F := Ideal) x3 x4 x5 : Cert.SsmSampleRefIdeal.S32x64.Idx → EReal) (?_ : _ = ix2 g p)).trans (ref_fr x3 x4 x5 g p)
    exact funext fun a => match a with | ⟨0, _⟩ => rfl | ⟨1, _⟩ => rfl
  · exact congrArg x6 (funext fun a => Fin.ext (by
      match a with
      | ⟨0, _⟩ => rfl
      | ⟨1, _⟩ => show ((g.val * 64 + p.val) * 16 + k.val) / 1024 % 32 = g.val; omega
      | ⟨2, _⟩ => show ((g.val * 64 + p.val) * 16 + k.val) / 16 % 64 = p.val; omega
      | ⟨3, _⟩ => show ((g.val * 64 + p.val) * 16 + k.val) % 16 = k.val; omega))
  · refine (congrArg (val_main_v34 (F := Ideal) x3 x4 x5 : Cert.SsmSampleRefIdeal.S32x64.Idx → EReal) (?_ : _ = ix2 g p)).trans (ref_fi x3 x4 x5 g p)
    exact funext fun a => match a with | ⟨0, _⟩ => rfl | ⟨1, _⟩ => rfl
  · exact congrArg x7 (funext fun a => Fin.ext (by
      match a with
      | ⟨0, _⟩ => rfl
      | ⟨1, _⟩ => show ((g.val * 64 + p.val) * 16 + k.val) / 1024 % 32 = g.val; omega
      | ⟨2, _⟩ => show ((g.val * 64 + p.val) * 16 + k.val) / 16 % 64 = p.val; omega
      | ⟨3, _⟩ => show ((g.val * 64 + p.val) * 16 + k.val) % 16 = k.val; omega))

theorem ref_bi (g : Fin 32) (p : Fin 64) (k : Fin 16) :
    (val_main_v56 (F := Ideal) x3 x4 x5 x6 x7 : Cert.SsmSampleRefIdeal.S32x64x16.Idx → EReal) (ix3 g p k) = bi x3 x4 x5 x6 x7 g p k := by
  rw [val_main_v56_apply, val_main_v50_apply, val_main_v49_apply, val_main_v46_apply, val_main_v48_apply, val_main_v47_apply, val_main_v55_apply, val_main_v54_apply, val_main_v51_apply, val_main_v53_apply, val_main_v52_apply]
  unfold bi
  refine congrArg₂ (fun a b : EReal => a + b) (congrArg₂ (fun a b : EReal => a * b) ?_ ?_) (congrArg₂ (fun a b : EReal => a * b) ?_ ?_)
  · refine (congrArg (val_main_v28 (F := Ideal) x3 x4 x5 : Cert.SsmSampleRefIdeal.S32x64.Idx → EReal) (?_ : _ = ix2 g p)).trans (ref_fr x3 x4 x5 g p)
    exact funext fun a => match a with | ⟨0, _⟩ => rfl | ⟨1, _⟩ => rfl
  · exact congrArg x7 (funext fun a => Fin.ext (by
      match a with
      | ⟨0, _⟩ => rfl
      | ⟨1, _⟩ => show ((g.val * 64 + p.val) * 16 + k.val) / 1024 % 32 = g.val; omega
      | ⟨2, _⟩ => show ((g.val * 64 + p.val) * 16 + k.val) / 16 % 64 = p.val; omega
      | ⟨3, _⟩ => show ((g.val * 64 + p.val) * 16 + k.val) % 16 = k.val; omega))
  · refine (congrArg (val_main_v34 (F := Ideal) x3 x4 x5 : Cert.SsmSampleRefIdeal.S32x64.Idx → EReal) (?_ : _ = ix2 g p)).trans (ref_fi x3 x4 x5 g p)
    exact funext fun a => match a with | ⟨0, _⟩ => rfl | ⟨1, _⟩ => rfl
  · exact congrArg x6 (funext fun a => Fin.ext (by
      match a with
      | ⟨0, _⟩ => rfl
      | ⟨1, _⟩ => show ((g.val * 64 + p.val) * 16 + k.val) / 1024 % 32 = g.val; omega
      | ⟨2, _⟩ => show ((g.val * 64 + p.val) * 16 + k.val) / 16 % 64 = p.val; omega
      | ⟨3, _⟩ => show ((g.val * 64 + p.val) * 16 + k.val) % 16 = k.val; omega))

theorem ref_reS (r : Fin 32) (g : Fin 32) (p : Fin 64) :
    (val_main_v70 (F := Ideal) x0 x1 x2 x3 x4 x5 x6 x7 : Cert.SsmSampleRefIdeal.S32x32x64.Idx → EReal) (ix3 r g p) = reS x0 x1 x2 x3 x4 x5 x6 x7 r g p := by
  rw [val_main_v70_apply, val_main_v67_apply, val_main_v61_apply, val_main_v60_apply, val_main_v59_apply, val_main_v58_apply, val_main_v57_apply, val_main_v66_apply, val_main_v65_apply, val_main_v64_apply, val_main_v63_apply, val_main_v62_apply, val_main_v69_apply, val_main_v68_apply]
  unfold reS
  refine congrArg₂ (fun a b : EReal => a + b) (congrArg₂ (fun a b : EReal => a - b) (congrArg₂ (fun a b : EReal => a * b) ?_ ?_)
    (congrArg₂ (fun a b : EReal => a * b) ?_ ?_)) (Finset.sum_congr rfl fun k _ => congrArg₂ (fun a b : EReal => a * b) ?_ ?_)
  · refine (congrArg (val_main_v15 (F := Ideal) x3 x4 x5 : Cert.SsmSampleRefIdeal.S32x64.Idx → EReal) (?_ : _ = ix2 g p)).trans (ref_ar x3 x4 x5 g p)
    exact funext fun a => match a with | ⟨0, _⟩ => rfl | ⟨1, _⟩ => rfl
  · exact congrArg x1 (funext fun a => Fin.ext (by
      match a with
      | ⟨0, _⟩ => rfl
      | ⟨1, _⟩ => show ((r.val * 32 + g.val) * 64 + p.val) / 2048 % 32 = r.val; omega
      | ⟨2, _⟩ => show ((r.val * 32 + g.val) * 64 + p.val) / 64 % 32 = g.val; omega
      | ⟨3, _⟩ => show ((r.val * 32 + g.val) * 64 + p.val) % 64 = p.val; omega))
  · refine (congrArg (val_main_v19 (F := Ideal) x3 x4 x5 : Cert.SsmSampleRefIdeal.S32x64.Idx → EReal) (?_ : _ = ix2 g p)).trans (ref_ai x3 x4 x5 g p)
    exact funext fun a => match a with | ⟨0, _⟩ => rfl | ⟨1, _⟩ => rfl
  · exact congrArg x2 (funext fun a => Fin.ext (by
      match a with
      | ⟨0, _⟩ => rfl
      | ⟨1, _⟩ => show ((r.val * 32 + g.val) * 64 + p.val) / 2048 % 32 = r.val; omega
      | ⟨2, _⟩ => show ((r.val * 32 + g.val) * 64 + p.val) / 64 % 32 = g.val; omega
      | ⟨3, _⟩ => show ((r.val * 32 + g.val) * 64 + p.val) % 64 = p.val; omega))
  · rw [val_main_v0_apply]
    exact congrArg x0 (funext fun a => Fin.ext (by
      match a with
      | ⟨0, _⟩ => show ((r.val * 32 + g.val) * 16 + k.val) / 512 = r.val; omega
      | ⟨1, _⟩ => show ((r.val * 32 + g.val) * 16 + k.val) % 512 = 16 * g.val + k.val; omega))
  · refine (congrArg (val_main_v45 (F := Ideal) x3 x4 x5 x6 x7 : Cert.SsmSampleRefIdeal.S32x64x16.Idx → EReal) (?_ : _ = ix3 g p k)).trans (ref_br x3 x4 x5 x6 x7 g p k)
    exact funext fun a => match a with | ⟨0, _⟩ => rfl | ⟨1, _⟩ => rfl | ⟨2, _⟩ => rfl

theorem ref_imS (r : Fin 32) (g : Fin 32) (p : Fin 64) :
    (val_main_v84 (F := Ideal) x0 x1 x2 x3 x4 x5 x6 x7 : Cert.SsmSampleRefIdeal.S32x32x64.Idx → EReal) (ix3 r g p) = imS x0 x1 x2 x3 x4 x5 x6 x7 r g p := by
  rw [val_main_v84_apply, val_main_v81_apply, val_main_v75_apply, val_main_v74_apply, val_main_v73_apply, val_main_v72_apply, val_main_v71_apply, val_main_v80_apply, val_main_v79_apply, val_main_v78_apply, val_main_v77_apply, val_main_v76_apply, val_main_v83_apply, val_main_v82_apply]
  unfold imS
  refine congrArg₂ (fun a b : EReal => a + b) (congrArg₂ (fun a b : EReal => a + b) (congrArg₂ (fun a b : EReal => a * b) ?_ ?_)
    (congrArg₂ (fun a b : EReal => a * b) ?_ ?_)) (Finset.sum_congr rfl fun k _ => congrArg₂ (fun a b : EReal => a * b) ?_ ?_)
  · refine (congrArg (val_main_v15 (F := Ideal) x3 x4 x5 : Cert.SsmSampleRefIdeal.S32x64.Idx → EReal) (?_ : _ = ix2 g p)).trans (ref_ar x3 x4 x5 g p)
    exact funext fun a => match a with | ⟨0, _⟩ => rfl | ⟨1, _⟩ => rfl
  · exact congrArg x2 (funext fun a => Fin.ext (by
      match a with
      | ⟨0, _⟩ => rfl
      | ⟨1, _⟩ => show ((r.val * 32 + g.val) * 64 + p.val) / 2048 % 32 = r.val; omega
      | ⟨2, _⟩ => show ((r.val * 32 + g.val) * 64 + p.val) / 64 % 32 = g.val; omega
      | ⟨3, _⟩ => show ((r.val * 32 + g.val) * 64 + p.val) % 64 = p.val; omega))
  · refine (congrArg (val_main_v19 (F := Ideal) x3 x4 x5 : Cert.SsmSampleRefIdeal.S32x64.Idx → EReal) (?_ : _ = ix2 g p)).trans (ref_ai x3 x4 x5 g p)
    exact funext fun a => match a with | ⟨0, _⟩ => rfl | ⟨1, _⟩ => rfl
  · exact congrArg x1 (funext fun a => Fin.ext (by
      match a with
      | ⟨0, _⟩ => rfl
      | ⟨1, _⟩ => show ((r.val * 32 + g.val) * 64 + p.val) / 2048 % 32 = r.val; omega
      | ⟨2, _⟩ => show ((r.val * 32 + g.val) * 64 + p.val) / 64 % 32 = g.val; omega
      | ⟨3, _⟩ => show ((r.val * 32 + g.val) * 64 + p.val) % 64 = p.val; omega))
  · rw [val_main_v0_apply]
    exact congrArg x0 (funext fun a => Fin.ext (by
      match a with
      | ⟨0, _⟩ => show ((r.val * 32 + g.val) * 16 + k.val) / 512 = r.val; omega
      | ⟨1, _⟩ => show ((r.val * 32 + g.val) * 16 + k.val) % 512 = 16 * g.val + k.val; omega))
  · refine (congrArg (val_main_v56 (F := Ideal) x3 x4 x5 x6 x7 : Cert.SsmSampleRefIdeal.S32x64x16.Idx → EReal) (?_ : _ = ix3 g p k)).trans (ref_bi x3 x4 x5 x6 x7 g p k)
    exact funext fun a => match a with | ⟨0, _⟩ => rfl | ⟨1, _⟩ => rfl | ⟨2, _⟩ => rfl

/-- The reference's new state, real part. -/
theorem ref_re_eq : (val_main_v130 (F := Ideal) x0 x1 x2 x3 x4 x5 x6 x7 : Cert.SsmSampleRefIdeal.S32x2048.Idx → EReal) = stateRe x0 x1 x2 x3 x4 x5 x6 x7 := by
  funext i
  obtain ⟨r, n, rfl⟩ : ∃ (r : Fin 32) (n : Fin 2048), i = ix2 r n := ⟨i 0, i 1, eq_ix2 i⟩
  have hr := r.isLt
  have hn := n.isLt
  rw [val_main_v130_apply]
  refine (congrArg (val_main_v70 (F := Ideal) x0 x1 x2 x3 x4 x5 x6 x7 : Cert.SsmSampleRefIdeal.S32x32x64.Idx → EReal) (?_ : _ = ix3 r (⟨n.val / 64, by omega⟩ : Fin 32) (⟨n.val % 64, by omega⟩ : Fin 64))).trans
    (ref_reS x0 x1 x2 x3 x4 x5 x6 x7 r _ _)
  exact funext fun a => Fin.ext (by
      match a with
      | ⟨0, _⟩ => show (r.val * 2048 + n.val) / 2048 = r.val; omega
      | ⟨1, _⟩ => show (r.val * 2048 + n.val) / 64 % 32 = n.val / 64; omega
      | ⟨2, _⟩ => show (r.val * 2048 + n.val) % 64 = n.val % 64; omega)

/-- The reference's new state, imaginary part. -/
theorem ref_im_eq : (val_main_v131 (F := Ideal) x0 x1 x2 x3 x4 x5 x6 x7 : Cert.SsmSampleRefIdeal.S32x2048.Idx → EReal) = stateIm x0 x1 x2 x3 x4 x5 x6 x7 := by
  funext i
  obtain ⟨r, n, rfl⟩ : ∃ (r : Fin 32) (n : Fin 2048), i = ix2 r n := ⟨i 0, i 1, eq_ix2 i⟩
  have hr := r.isLt
  have hn := n.isLt
  rw [val_main_v131_apply]
  refine (congrArg (val_main_v84 (F := Ideal) x0 x1 x2 x3 x4 x5 x6 x7 : Cert.SsmSampleRefIdeal.S32x32x64.Idx → EReal) (?_ : _ = ix3 r (⟨n.val / 64, by omega⟩ : Fin 32) (⟨n.val % 64, by omega⟩ : Fin 64))).trans
    (ref_imS x0 x1 x2 x3 x4 x5 x6 x7 r _ _)
  exact funext fun a => Fin.ext (by
      match a with
      | ⟨0, _⟩ => show (r.val * 2048 + n.val) / 2048 = r.val; omega
      | ⟨1, _⟩ => show (r.val * 2048 + n.val) / 64 % 32 = n.val / 64; omega
      | ⟨2, _⟩ => show (r.val * 2048 + n.val) % 64 = n.val % 64; omega)

theorem ref_rd (r : Fin 32) (q : Fin 512) : (val_main_v95 (F := Ideal) x0 x1 x2 x3 x4 x5 x6 x7 x8 x9 : Cert.SsmSampleRefIdeal.S32x512.Idx → EReal) (ix2 r q) = rdS x0 x1 x2 x3 x4 x5 x6 x7 x8 x9 r q := by
  have hr := r.isLt
  have hq := q.isLt
  have hx : idx_main_v95 (ix2 r q) = ix3 r (⟨q.val / 16, by omega⟩ : Fin 32) (⟨q.val % 16, by omega⟩ : Fin 16) := funext fun a => Fin.ext (by
      match a with
      | ⟨0, _⟩ => show (r.val * 512 + q.val) / 512 = r.val; omega
      | ⟨1, _⟩ => show (r.val * 512 + q.val) / 16 % 32 = q.val / 16; omega
      | ⟨2, _⟩ => show (r.val * 512 + q.val) % 16 = q.val % 16; omega)
  rw [val_main_v95_apply, hx]
  rw [val_main_v94_apply, val_main_v88_apply, val_main_v87_apply, val_main_v93_apply, val_main_v92_apply]
  unfold rdS
  refine congrArg₂ (fun a b : EReal => a + b) (Finset.sum_congr rfl fun p _ => congrArg₂ (fun a b : EReal => a * b) ?_ ?_)
    (Finset.sum_congr rfl fun p _ => congrArg₂ (fun a b : EReal => a * b) ?_ ?_)
  · refine (congrArg (val_main_v70 (F := Ideal) x0 x1 x2 x3 x4 x5 x6 x7 : Cert.SsmSampleRefIdeal.S32x32x64.Idx → EReal) (?_ : _ = ix3 r (⟨q.val / 16, by omega⟩ : Fin 32) p)).trans (ref_reS x0 x1 x2 x3 x4 x5 x6 x7 r (⟨q.val / 16, by omega⟩ : Fin 32) p)
    exact funext fun a => match a with | ⟨0, _⟩ => rfl | ⟨1, _⟩ => rfl | ⟨2, _⟩ => rfl
  · rw [val_main_v86_apply, val_main_v85_apply]
    exact congrArg x8 (funext fun a => Fin.ext (by
      match a with
      | ⟨0, _⟩ => rfl
      | ⟨1, _⟩ => show ((q.val / 16 * 16 + q.val % 16) * 64 + p.val) / 1024 % 32 = q.val / 16; omega
      | ⟨2, _⟩ => show ((q.val / 16 * 16 + q.val % 16) * 64 + p.val) / 64 % 16 = q.val % 16; omega
      | ⟨3, _⟩ => show ((q.val / 16 * 16 + q.val % 16) * 64 + p.val) % 64 = p.val; omega))
  · refine (congrArg (val_main_v84 (F := Ideal) x0 x1 x2 x3 x4 x5 x6 x7 : Cert.SsmSampleRefIdeal.S32x32x64.Idx → EReal) (?_ : _ = ix3 r (⟨q.val / 16, by omega⟩ : Fin 32) p)).trans (ref_imS x0 x1 x2 x3 x4 x5 x6 x7 r (⟨q.val / 16, by omega⟩ : Fin 32) p)
    exact funext fun a => match a with | ⟨0, _⟩ => rfl | ⟨1, _⟩ => rfl | ⟨2, _⟩ => rfl
  · rw [val_main_v91_apply, val_main_v90_apply, val_main_v89_apply]
    exact congrArg (fun i => -x9 i) (funext fun a => Fin.ext (by
      match a with
      | ⟨0, _⟩ => rfl
      | ⟨1, _⟩ => show ((q.val / 16 * 16 + q.val % 16) * 64 + p.val) / 1024 % 32 = q.val / 16; omega
      | ⟨2, _⟩ => show ((q.val / 16 * 16 + q.val % 16) * 64 + p.val) / 64 % 16 = q.val % 16; omega
      | ⟨3, _⟩ => show ((q.val / 16 * 16 + q.val % 16) * 64 + p.val) % 64 = p.val; omega))

theorem ref_ac (r : Fin 32) (q : Fin 512) : (val_main_v114 (F := Ideal) x0 x1 x2 x3 x4 x5 x6 x7 x8 x9 x10 : Cert.SsmSampleRefIdeal.S32x512.Idx → EReal) (ix2 r q) = acS x0 x1 x2 x3 x4 x5 x6 x7 x8 x9 x10 r q := by
  have hq := q.isLt
  have hs : (val_main_v101 (F := Ideal) x0 x1 x2 x3 x4 x5 x6 x7 x8 x9 x10 : Cert.SsmSampleRefIdeal.S32x512.Idx → EReal) (ix2 r q) = rdS x0 x1 x2 x3 x4 x5 x6 x7 x8 x9 r q + x10 (ix2 0 q) * x0 (ix2 r q) := by
    rw [val_main_v101_apply, val_main_v100_apply, val_main_v99_apply, val_main_v98_apply, val_main_v97_apply, val_main_v96_apply]
    refine congrArg₂ (fun a b : EReal => a + b) (ref_rd x0 x1 x2 x3 x4 x5 x6 x7 x8 x9 r q) (congrArg (fun i => x10 i * x0 (ix2 r q)) ?_)
    exact funext fun a => Fin.ext (by
      match a with
      | ⟨0, _⟩ => rfl
      | ⟨1, _⟩ => show q.val % 512 = q.val; omega)
  rw [val_main_v114_apply, val_main_v113_apply, val_main_v112_apply, val_main_v111_apply, val_main_v110_apply, val_main_v109_apply, val_main_v108_apply, val_main_v107_apply, val_main_v106_apply, val_main_v105_apply, val_main_v104_apply, val_main_v103_apply, val_main_v102_apply, val_main_cst_1_apply, val_main_cst_2_apply, val_main_cst_3_apply, val_main_cst_4_apply]
  rw [hs]
  unfold acS
  generalize rdS x0 x1 x2 x3 x4 x5 x6 x7 x8 x9 r q + x10 (ix2 0 q) * x0 (ix2 r q) = a
  show (a * (Ideal.ofBits .f32 0x3F000000#32 * (Ideal.ofBits .f32 0x3F800000#32
    + Ideal.tanh (Ideal.ofBits .f32 0x3F4C422A#32 * (a + Ideal.ofBits .f32 0x3D372713#32 * (a * a * a))))) : EReal) = gelu a
  rw [mul_comm (a * a) a]
  rfl

/-- The reference's branch output. -/
theorem ref_y_eq : (val_main_v129 (F := Ideal) x0 x1 x2 x3 x4 x5 x6 x7 x8 x9 x10 x11 x12 : Cert.SsmSampleRefIdeal.S32x512.Idx → EReal) = branch x0 x1 x2 x3 x4 x5 x6 x7 x8 x9 x10 x11 x12 := by
  funext i
  obtain ⟨r, q, rfl⟩ : ∃ (r : Fin 32) (q : Fin 512), i = ix2 r q := ⟨i 0, i 1, eq_ix2 i⟩
  have hq := q.isLt
  have hz : (val_main_v122 (F := Ideal) x0 x1 x2 x3 x4 x5 x6 x7 x8 x9 x10 x11 x12 : Cert.SsmSampleRefIdeal.S32x512.Idx → EReal) (ix2 r q) = (∑ k : Fin 512, acS x0 x1 x2 x3 x4 x5 x6 x7 x8 x9 x10 r k * x11 (ix3 0 k q)) + x12 (ix2 0 q) := by
    rw [val_main_v122_apply, val_main_v117_apply, val_main_v121_apply, val_main_v120_apply, val_main_v119_apply, val_main_v118_apply]
    refine congrArg₂ (fun a b : EReal => a + b) (Finset.sum_congr rfl fun k _ => congrArg₂ (fun a b : EReal => a * b) ?_ ?_) (congrArg x12 ?_)
    · refine (congrArg (val_main_v114 (F := Ideal) x0 x1 x2 x3 x4 x5 x6 x7 x8 x9 x10 : Cert.SsmSampleRefIdeal.S32x512.Idx → EReal) (?_ : _ = ix2 r k)).trans (ref_ac x0 x1 x2 x3 x4 x5 x6 x7 x8 x9 x10 r k)
      exact funext fun a => match a with | ⟨0, _⟩ => rfl | ⟨1, _⟩ => rfl
    · have hk := k.isLt
      rw [val_main_v116_apply, val_main_v115_apply]
      exact congrArg x11 (funext fun a => Fin.ext (by
      match a with
      | ⟨0, _⟩ => rfl
      | ⟨1, _⟩ => show (k.val * 512 + q.val) / 512 % 512 = k.val; omega
      | ⟨2, _⟩ => show (k.val * 512 + q.val) % 512 = q.val; omega))
    · exact funext fun a => Fin.ext (by
      match a with
      | ⟨0, _⟩ => rfl
      | ⟨1, _⟩ => show q.val % 512 = q.val; omega)
  rw [val_main_v129_apply, val_main_v128_apply, val_main_v127_apply, val_main_v126_apply, val_main_v125_apply, val_main_v124_apply, val_main_v123_apply, val_main_cst_5_apply, val_main_cst_6_apply]
  rw [hz, ref_ac]
  show (_ * Ideal.div (Ideal.ofBits .f32 0x3F800000#32) (Ideal.ofBits .f32 0x3F800000#32 + Ideal.exp (-_)) : EReal) = _
  rw [Ideal.ofBits_one_f32]
  rfl

end Reference

end Cert.Proof.SsmSample
-- ==== Proof.DnRow.lean ====
/-
  One token of the gated delta rule with its convolution state, as numbers: what a single row of the batch computes from its own
  projections, its own state and the layer's weights. The call works on blocks of eight rows and the reference on whole arrays;
  both are shown to compute these expressions row by row.
-/
module

public import proofs.«01_k».proof.Defs
public import Idealize.ShloMosaic.Lib.ValueIdx
public import Idealize.ShloMosaic.Lib.IdealHost

@[expose] public section

noncomputable section

namespace Cert.Proof.DnRow

open Idealize.ShloMosaic

/-- The number added under the square roots. -/
abbrev eps : EReal := Ideal.ofBits .f32 0x358637BD#32
/-- The scale of the queries. -/
abbrev qscale : EReal := Ideal.ofBits .f32 0x3DB504F3#32
/-- The width of a head. -/
abbrev width : EReal := Ideal.ofBits .f32 0x43000000#32

/-- What one row reads. -/
structure Row where
  /-- the projections the convolution reads -/
  x : Fin 1536 → EReal
  /-- the convolution's state, three earlier tokens -/
  cv : Fin 3 → Fin 1536 → EReal
  /-- the convolution's weights -/
  w : Fin 4 → Fin 1536 → EReal
  /-- the decay's projection -/
  za : Fin 4 → EReal
  /-- the writing strength's projection -/
  zb : Fin 4 → EReal
  /-- the decay's weight -/
  al : Fin 4 → EReal
  /-- the decay's shift -/
  db : Fin 4 → EReal
  /-- the state of each head -/
  s : Fin 4 → Fin 128 → Fin 128 → EReal
  /-- the gate's projection -/
  zg : Fin 512 → EReal
  /-- the output norm's weight -/
  ng : Fin 128 → EReal

/-- A vector scaled to unit length. -/
def unit (f : Fin 128 → EReal) (d : Fin 128) : EReal := f d * Ideal.rsqrt ((∑ k : Fin 128, f k * f k) + eps)

/-- The soft ramp. -/
def ramp (t : EReal) : EReal := max t 0 + Ideal.log1p (Ideal.exp (-max (t - 0) (-(t - 0))))

namespace Row

variable (R : Row)

/-- The convolution at one channel. -/
def tap (c : Fin 1536) : EReal := ((R.w 0 c * R.cv 0 c + R.w 1 c * R.cv 1 c) + R.w 2 c * R.cv 2 c) + R.w 3 c * R.x c
/-- The channel activated. -/
def act (c : Fin 1536) : EReal := R.tap c * Ideal.logistic (R.tap c)
/-- The query of a head. -/
def q (h : Fin 4) (d : Fin 128) : EReal := unit (fun k => R.act ⟨128 * h.val + k.val, by omega⟩) d * qscale
/-- The key of a head. -/
def k (h : Fin 4) (d : Fin 128) : EReal := unit (fun k => R.act ⟨512 + 128 * h.val + k.val, by omega⟩) d
/-- The value of a head. -/
def v (h : Fin 4) (d : Fin 128) : EReal := R.act ⟨1024 + 128 * h.val + d.val, by omega⟩
/-- The decay of a head. -/
def decay (h : Fin 4) : EReal := Ideal.exp (-Ideal.exp (R.al h) * ramp (R.za h + R.db h))
/-- The writing strength of a head. -/
def beta (h : Fin 4) : EReal := Ideal.logistic (R.zb h)
/-- What is written along the key. -/
def upd (h : Fin 4) (d : Fin 128) : EReal := R.beta h * R.v h d - ∑ k : Fin 128, R.beta h * R.decay h * R.k h k * R.s h k d
/-- What is read along the query. -/
def out (h : Fin 4) (d : Fin 128) : EReal :=
  (∑ k : Fin 128, R.q h k * R.decay h * R.s h k d) + (∑ k : Fin 128, R.q h k * R.k h k) * R.upd h d
/-- The state after the token. -/
def new (h : Fin 4) (k d : Fin 128) : EReal := R.decay h * R.s h k d + R.k h k * R.upd h d
/-- The row's result: what is read, normalised over its head and gated. -/
def y (h : Fin 4) (d : Fin 128) : EReal :=
  R.out h d * Ideal.rsqrt (Ideal.div (∑ k : Fin 128, R.out h k * R.out h k) width + eps) * R.ng d
    * (R.zg ⟨128 * h.val + d.val, by omega⟩ * Ideal.logistic (R.zg ⟨128 * h.val + d.val, by omega⟩))

/-- The convolution's state after the token: the tokens move up by one. -/
def shift (j : Fin 3) (c : Fin 1536) : EReal := if h : j.val < 2 then R.cv ⟨j.val + 1, by omega⟩ c else R.x c

end Row

end Cert.Proof.DnRow
-- ==== Proof.DnBlock.lean ====
/-
  One step of the delta rule on a block of eight rows, the call's arithmetic: the operations it applies for a head and a row of
  the block, and their values index by index.
-/
module

public import proofs.«01_k».proof.Defs
public import proofs.«01_k».proof.Proof.Gen.DnSampleIdeal.Value
public import proofs.«01_k».proof.Proof.DnRow
public import Idealize.ShloMosaic.Lib.ValueIdx
public import Idealize.ShloMosaic.Lib.IdealHost
public import Idealize.ShloMosaic.Lib.MatmulPlain
public import Idealize.ShloMosaic.Lib.Pipeline.ValueKit.Tiles

@[expose] public section

noncomputable section

namespace Cert.Proof.DnBlock

open Idealize.ShloMosaic Idealize.ShloMosaic.TcCoe Idealize.SL.Sem Idealize.ShloMosaic.ValueIdx
open Cert.DnSampleIdeal Cert.DnSampleIdeal.Gen
open Cert.Proof.DnRow (Row)

/-! ## Rows, columns and sums of a block -/

theorem lane_slices (h : Fin 8) : S8x128.Slices ![0, h.val] S8x1 := ⟨rfl, fun a => match a with
  | ⟨0, _⟩ => by show 0 + 8 ≤ 8; omega
  | ⟨1, _⟩ => by show h.val + 1 ≤ 128; omega⟩
theorem row_slices (i : Fin 8) : S8x128.Slices ![i.val, 0] S1x128 := ⟨rfl, fun a => match a with
  | ⟨0, _⟩ => by show i.val + 1 ≤ 8; omega
  | ⟨1, _⟩ => by show 0 + 128 ≤ 128; omega⟩
theorem cell_slices (i : Fin 8) : S8x1.Slices ![i.val, 0] S1x1 := ⟨rfl, fun a => match a with
  | ⟨0, _⟩ => by show i.val + 1 ≤ 8; omega
  | ⟨1, _⟩ => by show 0 + 1 ≤ 1; omega⟩
theorem col_slices (h : Fin 4) : S128x8.Slices ![0, h.val] S128x1 := ⟨rfl, fun a => match a with
  | ⟨0, _⟩ => by show 0 + 128 ≤ 128; omega
  | ⟨1, _⟩ => by show h.val + 1 ≤ 8; omega⟩
theorem q_slices (h : Fin 4) : S8x1536.Slices ![0, 128 * h.val] S8x128 := ⟨rfl, fun a => match a with
  | ⟨0, _⟩ => by show 0 + 8 ≤ 8; omega
  | ⟨1, _⟩ => by show 128 * h.val + 128 ≤ 1536; omega⟩
theorem k_slices (h : Fin 4) : S8x1536.Slices ![0, 512 + 128 * h.val] S8x128 := ⟨rfl, fun a => match a with
  | ⟨0, _⟩ => by show 0 + 8 ≤ 8; omega
  | ⟨1, _⟩ => by show 512 + 128 * h.val + 128 ≤ 1536; omega⟩
theorem v_slices (h : Fin 4) : S8x1536.Slices ![0, 1024 + 128 * h.val] S8x128 := ⟨rfl, fun a => match a with
  | ⟨0, _⟩ => by show 0 + 8 ≤ 8; omega
  | ⟨1, _⟩ => by show 1024 + 128 * h.val + 128 ≤ 1536; omega⟩
theorem g_slices (h : Fin 4) : S8x512.Slices ![0, 128 * h.val] S8x128 := ⟨rfl, fun a => match a with
  | ⟨0, _⟩ => by show 0 + 8 ≤ 8; omega
  | ⟨1, _⟩ => by show 128 * h.val + 128 ≤ 512; omega⟩
theorem x_slices (i : Fin 8) : S8x1536.Slices ![i.val, 0] S1x1536 := ⟨rfl, fun a => match a with
  | ⟨0, _⟩ => by show i.val + 1 ≤ 8; omega
  | ⟨1, _⟩ => by show 0 + 1536 ≤ 1536; omega⟩

/-- One number a row. -/
def lane (h : Fin 8) (G : FVec Ideal S8x128 .f32) : FVec Ideal S8x1 .f32 := extractStridedSlice S8x1 ![0, h.val] G (lane_slices h)
/-- One row of a block. -/
def row (i : Fin 8) (x : FVec Ideal S8x128 .f32) : FVec Ideal S1x128 .f32 := extractStridedSlice S1x128 ![i.val, 0] x (row_slices i)
/-- A row's number. -/
def cell (i : Fin 8) (x : FVec Ideal S8x1 .f32) : FVec Ideal S1x1 .f32 := extractStridedSlice S1x1 ![i.val, 0] x (cell_slices i)
/-- Each row's number over its row. -/
def spread (x : FVec Ideal S8x1 .f32) : FVec Ideal S8x128 .f32 := broadcastTo S8x128 x broadcasts_S8x1_S8x128
/-- One row over all rows. -/
def over (x : FVec Ideal S1x128 .f32) : FVec Ideal S8x128 .f32 := broadcastTo S8x128 x broadcasts_S1x128_S8x128
/-- Each row's sum. -/
def sums (x : FVec Ideal S8x128 .f32) : FVec Ideal S8x1 .f32 :=
  shapeCast S8x1 (multiReduction .add [1] S8 x 0x00000000#32 reduces_S8x128_S8 (.inl rfl) rfl : FVec Ideal S8 .f32) shapeCasts_S8_S8x1

theorem lane_apply (h : Fin 8) (G : FVec Ideal S8x128 .f32) (r : Fin 8) : (lane h G (ix2 r 0) : EReal) = G (ix2 r ⟨h.val, by omega⟩) :=
  extractStridedSlice_apply (s := S8x128) (t := S8x1) ![0, h.val] G (lane_slices h) (ix2 r 0) _ (fun a => match a with
    | ⟨0, _⟩ => by show r.val = 0 + r.val; omega
    | ⟨1, _⟩ => rfl)
theorem row_apply (i : Fin 8) (x : FVec Ideal S8x128 .f32) (d : Fin 128) : (row i x (ix2 0 d) : EReal) = x (ix2 i d) :=
  extractStridedSlice_apply (s := S8x128) (t := S1x128) ![i.val, 0] x (row_slices i) (ix2 0 d) _ (fun a => match a with
    | ⟨0, _⟩ => rfl
    | ⟨1, _⟩ => by show d.val = 0 + d.val; omega)
theorem cell_apply (i : Fin 8) (x : FVec Ideal S8x1 .f32) : (cell i x (ix2 0 0) : EReal) = x (ix2 i 0) :=
  extractStridedSlice_apply (s := S8x1) (t := S1x1) ![i.val, 0] x (cell_slices i) (ix2 0 0) _ (fun a => match a with
    | ⟨0, _⟩ => rfl
    | ⟨1, _⟩ => rfl)
theorem spread_apply (x : FVec Ideal S8x1 .f32) (r : Fin 8) (d : Fin 128) : (spread x (ix2 r d) : EReal) = x (ix2 r 0) :=
  broadcastTo_apply x broadcasts_S8x1_S8x128 (ix2 r d) (ix2 r 0) (fun a => match a with | ⟨0, _⟩ => rfl | ⟨1, _⟩ => rfl)
theorem over_apply (x : FVec Ideal S1x128 .f32) (r : Fin 8) (d : Fin 128) : (over x (ix2 r d) : EReal) = x (ix2 0 d) :=
  broadcastTo_apply x broadcasts_S1x128_S8x128 (ix2 r d) (ix2 0 d) (fun a => match a with | ⟨0, _⟩ => rfl | ⟨1, _⟩ => rfl)

theorem sums_apply (x : FVec Ideal S8x128 .f32) (r : Fin 8) : (sums x (ix2 r 0) : EReal) = ∑ k : Fin 128, x (ix2 r k) := by
  unfold sums
  rw [shapeCast_apply _ shapeCasts_S8_S8x1 (ix2 r 0) (ix1 r) (by
    rw [Shape.rowMajor_val_two, Shape.rowMajor_val_one]
    show r.val = r.val * 1 + 0
    omega)]
  refine (Ideal.multiReduction_add_single (s := S8x128) (t := S8) (a := 1) x _ reduces_S8x128_S8 (.inl rfl) rfl (ix1 r)).trans ?_
  refine Finset.sum_congr rfl fun k _ => ?_
  have hl : reduces_S8x128_S8.lift (ix1 r) k = ix2 r k := funext fun a => Fin.ext (by match a with | ⟨0, _⟩ => rfl | ⟨1, _⟩ => rfl)
  rw [hl]
  rfl

/-! ## The convolution and the gates -/

/-- A row of the convolution's weights over all rows. -/
def wrow (x : FVec Ideal S1x1536 .f32) : FVec Ideal S8x1536 .f32 :=
  broadcastTo S8x1536 (shapeCast S1x1536 x shapeCasts_S1x1536_S1x1536 : FVec Ideal S1x1536 .f32) broadcasts_S1x1536_S8x1536
/-- A token of the convolution's state. -/
def past (x : Vec Ideal S8x1x1536 .f32) : FVec Ideal S8x1536 .f32 := shapeCast S8x1536 x shapeCasts_S8x1x1536_S8x1536

theorem wrow_apply (x : FVec Ideal S1x1536 .f32) (r : Fin 8) (c : Fin 1536) : (wrow x (ix2 r c) : EReal) = x (ix2 0 c) := by
  unfold wrow
  rw [shapeCast_self]
  exact broadcastTo_apply x broadcasts_S1x1536_S8x1536 (ix2 r c) (ix2 0 c) (fun a => match a with | ⟨0, _⟩ => rfl | ⟨1, _⟩ => rfl)
theorem past_apply (x : Vec Ideal S8x1x1536 .f32) (r : Fin 8) (c : Fin 1536) : (past x (ix2 r c) : EReal) = x (ix3 r 0 c) := by
  refine shapeCast_apply x shapeCasts_S8x1x1536_S8x1536 _ _ ?_
  rw [Shape.rowMajor_val_two, Shape.rowMajor_val_three]
  show (r.val * 1 + 0) * 1536 + c.val = r.val * 1536 + c.val
  omega

/-- The convolution. -/
def taps (x : Vec Ideal S8x1536 .f32) (w0 w1 w2 w3 : Vec Ideal S1x1536 .f32) (c0 c1 c2 : Vec Ideal S8x1x1536 .f32) : FVec Ideal S8x1536 .f32 :=
  addf (addf (addf (mulf (wrow w3) x) (mulf (wrow w0) (past c0))) (mulf (wrow w1) (past c1))) (mulf (wrow w2) (past c2))
/-- The channels activated. -/
def acts (x : Vec Ideal S8x1536 .f32) (w0 w1 w2 w3 : Vec Ideal S1x1536 .f32) (c0 c1 c2 : Vec Ideal S8x1x1536 .f32) : FVec Ideal S8x1536 .f32 :=
  mulf (taps x w0 w1 w2 w3 c0 c1 c2) (logistic (taps x w0 w1 w2 w3 c0 c1 c2))

theorem taps_apply (x : Vec Ideal S8x1536 .f32) (w0 w1 w2 w3 : Vec Ideal S1x1536 .f32) (c0 c1 c2 : Vec Ideal S8x1x1536 .f32) (r : Fin 8) (c : Fin 1536) :
    (taps x w0 w1 w2 w3 c0 c1 c2 (ix2 r c) : EReal)
      = ((@HMul.hMul EReal EReal EReal _ (w0 (ix2 0 c)) (c0 (ix3 r 0 c)) + @HMul.hMul EReal EReal EReal _ (w1 (ix2 0 c)) (c1 (ix3 r 0 c)))
          + @HMul.hMul EReal EReal EReal _ (w2 (ix2 0 c)) (c2 (ix3 r 0 c)))
        + @HMul.hMul EReal EReal EReal _ (w3 (ix2 0 c)) (x (ix2 r c)) := by
  show ((@HMul.hMul EReal EReal EReal _ (wrow w3 (ix2 r c)) (x (ix2 r c)) + @HMul.hMul EReal EReal EReal _ (wrow w0 (ix2 r c)) (past c0 (ix2 r c)))
    + @HMul.hMul EReal EReal EReal _ (wrow w1 (ix2 r c)) (past c1 (ix2 r c))) + @HMul.hMul EReal EReal EReal _ (wrow w2 (ix2 r c)) (past c2 (ix2 r c)) = _
  rw [wrow_apply, wrow_apply, wrow_apply, wrow_apply, past_apply, past_apply, past_apply, add_assoc, add_assoc, add_comm, ← add_assoc]

/-- The shifted decay projection. -/
def shifted (z : Vec Ideal S8x128 .f32) (db : Vec Ideal S1x128 .f32) : FVec Ideal S8x128 .f32 :=
  addf z (over (shapeCast S1x128 db shapeCasts_S1x128_S1x128 : FVec Ideal S1x128 .f32))
/-- A block of zeros. -/
abbrev zeros : FVec Ideal S8x128 .f32 := broadcast S8x128 (Scalar.ofBits (F := Ideal) .f32 0x00000000#32)
/-- The soft ramp on a block. -/
def ramps (t : FVec Ideal S8x128 .f32) : FVec Ideal S8x128 .f32 :=
  select (cmpf .one (subf t zeros) (subf t zeros)) (addf t zeros)
    (addf (maximumf t zeros) (log1p (exp (subf zeros (absf (subf t zeros))))))
/-- The decays' exponents. -/
def gates (z : Vec Ideal S8x128 .f32) (al db : Vec Ideal S1x128 .f32) : FVec Ideal S8x128 .f32 :=
  mulf (over (subf (broadcast S1x128 (Scalar.ofBits (F := Ideal) .f32 0x00000000#32)) (exp (shapeCast S1x128 al shapeCasts_S1x128_S1x128 : FVec Ideal S1x128 .f32))))
    (ramps (shifted z db))

theorem ramps_apply (t : FVec Ideal S8x128 .f32) (j : S8x128.Idx) : (ramps t j : EReal) = DnRow.ramp (t j) := by
  show Scalar.select (Ideal.cmp .one (t j - Ideal.ofBits .f32 0x00000000#32) (t j - Ideal.ofBits .f32 0x00000000#32)) (t j + Ideal.ofBits .f32 0x00000000#32)
    (max (t j) (Ideal.ofBits .f32 0x00000000#32) + Ideal.log1p (Ideal.exp (Ideal.ofBits .f32 0x00000000#32 - max (t j - Ideal.ofBits .f32 0x00000000#32) (-(t j - Ideal.ofBits .f32 0x00000000#32))))) = _
  rw [Ideal.ofBits_zero_f32, show Ideal.cmp .one (t j - 0) (t j - 0) = 0#1 by simp [Ideal.cmp], zero_sub]
  rfl

theorem gates_apply (z : Vec Ideal S8x128 .f32) (al db : Vec Ideal S1x128 .f32) (r : Fin 8) (d : Fin 128) :
    (gates z al db (ix2 r d) : EReal) = -Ideal.exp (al (ix2 0 d)) * DnRow.ramp (z (ix2 r d) + db (ix2 0 d)) := by
  show @HMul.hMul EReal EReal EReal _ (over _ (ix2 r d)) (ramps _ (ix2 r d)) = _
  rw [over_apply, ramps_apply, shapeCast_self]
  refine congrArg₂ (fun a b : EReal => a * b) ?_ (congrArg DnRow.ramp ?_)
  · show Ideal.ofBits .f32 0x00000000#32 - Ideal.exp (al (ix2 0 d)) = _
    rw [Ideal.ofBits_zero_f32, zero_sub]
  · show z (ix2 r d) + over _ (ix2 r d) = _
    rw [over_apply, shapeCast_self]

/-! ## A head's vectors -/

/-- Vectors scaled to unit length. -/
def units (s : FVec Ideal S8x128 .f32) : FVec Ideal S8x128 .f32 :=
  mulf s (spread (rsqrt (addf (sums (mulf s s)) (broadcast S8x1 (Scalar.ofBits .f32 0x358637BD#32)))))

theorem units_apply (s : FVec Ideal S8x128 .f32) (r : Fin 8) (d : Fin 128) : (units s (ix2 r d) : EReal) = DnRow.unit (fun k => s (ix2 r k)) d := by
  show @HMul.hMul EReal EReal EReal _ (s (ix2 r d)) (spread _ (ix2 r d)) = _
  rw [spread_apply]
  refine congrArg (fun z : EReal => s (ix2 r d) * z) ?_
  show Ideal.rsqrt (sums (mulf s s) (ix2 r 0) + Ideal.ofBits .f32 0x358637BD#32) = _
  rw [sums_apply]
  rfl

section Head

variable (Q : FVec Ideal S8x1536 .f32) (G B : FVec Ideal S8x128 .f32) (h : Fin 4)

/-- A head's queries. -/
def qs : FVec Ideal S8x128 .f32 :=
  mulf (units (extractStridedSlice S8x128 ![0, 128 * h.val] Q (q_slices h))) (broadcast S8x128 (Scalar.ofBits .f32 0x3DB504F3#32))
/-- A head's keys. -/
def ks : FVec Ideal S8x128 .f32 := units (extractStridedSlice S8x128 ![0, 512 + 128 * h.val] Q (k_slices h))
/-- A head's values. -/
def vs : FVec Ideal S8x128 .f32 := extractStridedSlice S8x128 ![0, 1024 + 128 * h.val] Q (v_slices h)
/-- A head's decays. -/
def decays : FVec Ideal S8x1 .f32 := exp (lane ⟨h.val, by omega⟩ G)
/-- A head's writing strengths. -/
def betas : FVec Ideal S8x1 .f32 := lane ⟨4 + h.val, by omega⟩ B
/-- The keys the state is read along before writing. -/
def wks : FVec Ideal S8x128 .f32 := mulf (spread (mulf (betas B h) (decays G h))) (ks Q h)
/-- The decayed queries. -/
def qgs : FVec Ideal S8x128 .f32 := mulf (qs Q h) (spread (decays G h))
/-- The values times their writing strengths. -/
def bvs : FVec Ideal S8x128 .f32 := mulf (spread (betas B h)) (vs Q h)
/-- Query against key. -/
def qks : FVec Ideal S8x1 .f32 :=
  sums (mulf (extf .f32 (truncf .bf16 (qs Q h) bitsLt_bf16_f32 : FVec Ideal S8x128 .bf16) bitsLt_bf16_f32)
    (extf .f32 (truncf .bf16 (ks Q h) bitsLt_bf16_f32 : FVec Ideal S8x128 .bf16) bitsLt_bf16_f32))

/-- The rows' numbers. -/
abbrev rows : IVec S8x128 32 := iota .tc S8x128 32 [0] iota_S8x128_d0_w32

/-- A row placed at a row of a block. -/
def place (n : BitVec 32) (a : FVec Ideal S1x128 .f32) (b : FVec Ideal S8x128 .f32) : FVec Ideal S8x128 .f32 :=
  select (cmpi .eq rows (broadcast S8x128 n)) (over a) b

theorem word_eq : ∀ (r : Fin 8) (n : Fin 8), IntOp.cmpi .eq (BitVec.ofNat 32 r.val) (BitVec.ofNat 32 n.val) = BitVec.ofBool (decide (r = n)) := by
  decide +kernel

theorem place_apply (n : Fin 8) (a : FVec Ideal S1x128 .f32) (b : FVec Ideal S8x128 .f32) (r : Fin 8) (d : Fin 128) :
    (place (BitVec.ofNat 32 n.val) a b (ix2 r d) : EReal) = if r = n then a (ix2 0 d) else b (ix2 r d) := by
  have e : rows (ix2 r d) = BitVec.ofNat 32 r.val := by
    show BitVec.ofNat 32 (0 * 8 + r.val) = _
    rw [Nat.zero_mul, Nat.zero_add]
  show Scalar.select (IntOp.cmpi .eq (rows (ix2 r d)) (BitVec.ofNat 32 n.val)) (over a (ix2 r d)) (b (ix2 r d)) = _
  rw [e, word_eq, over_apply]
  by_cases h : r = n
  · rw [if_pos h, decide_eq_true h]; rfl
  · rw [if_neg h, decide_eq_false h]; rfl

variable (i : Fin 8)

/-- A row of a block as the call reads it. -/
def rowc (x : FVec Ideal S8x128 .f32) : FVec Ideal S1x128 .f32 := shapeCast S1x128 (row i x) shapeCasts_S1x128_S1x128

/-- The two vectors a state is read along, as the first rows of a block. -/
def reads : FVec Ideal S8x128 .f32 := place 0#32 (rowc i (wks Q G B h)) (place 1#32 (rowc i (qgs Q G h)) zeros)

/-- A state as a matrix. -/
def mat (s : Vec Ideal S1x1x1x128x128 .f32) : FVec Ideal S128x128 .f32 := shapeCast S128x128 s shapeCasts_S1x1x1x128x128_S128x128

variable (s : Vec Ideal S1x1x1x128x128 .f32)

/-- The state read along both vectors. -/
def prods : FVec Ideal S8x128 .f32 :=
  matmul dot_S8x128_S128x128_S8x128_1_0_0_1_n_n none (truncf .bf16 (reads Q G B h i) bitsLt_bf16_f32 : FVec Ideal S8x128 .bf16)
    (truncf .bf16 (mat s) bitsLt_bf16_f32 : FVec Ideal S128x128 .bf16) (constant S8x128 .f32 0x00000000#32)
/-- What is written. -/
def upds : FVec Ideal S1x128 .f32 := subf (row i (bvs Q B h)) (row 0 (prods Q G B h i s))
/-- What is read. -/
def outs : FVec Ideal S1x128 .f32 :=
  addf (row 1 (prods Q G B h i s)) (mulf (broadcastTo S1x128 (cell i (qks Q h)) broadcasts_S1x1_S1x128) (upds Q G B h i s))
/-- The keys of a row's heads, as columns. -/
def kcols : FVec Ideal S128x8 .f32 :=
  transpose S128x8 [1, 0] (place 3#32 (rowc i (ks Q 3)) (place 2#32 (rowc i (ks Q 2)) (place 1#32 (rowc i (ks Q 1)) (place 0#32 (rowc i (ks Q 0)) zeros))))
    transposes_S8x128_p1_0_S128x8
/-- The state after the token. -/
def news : FVec Ideal S1x1x1x128x128 .f32 :=
  shapeCast S1x1x1x128x128
    (addf (mulf (broadcastTo S128x128 (cell i (decays G h)) broadcasts_S1x1_S128x128) (mat s))
      (mulf (broadcastTo S128x128 (extractStridedSlice S128x1 ![0, h.val] (kcols Q i) (col_slices h)) broadcasts_S128x1_S128x128)
        (broadcastTo S128x128 (upds Q G B h i s) broadcasts_S1x128_S128x128)) : FVec Ideal S128x128 .f32)
    shapeCasts_S128x128_S1x1x1x128x128

end Head

/-- A head's result, normalised and gated. -/
def ys (h : Fin 4) (o : FVec Ideal S8x128 .f32) (g : Vec Ideal S8x512 .f32) (ng : Vec Ideal S1x128 .f32) : FVec Ideal S8x128 .f32 :=
  mulf (mulf (mulf o (spread (rsqrt (addf (divf (sums (mulf o o)) (broadcast S8x1 (Scalar.ofBits .f32 0x43000000#32))) (broadcast S8x1 (Scalar.ofBits .f32 0x358637BD#32))))))
      (over (shapeCast S1x128 ng shapeCasts_S1x128_S1x128 : FVec Ideal S1x128 .f32)))
    (mulf (extractStridedSlice S8x128 ![0, 128 * h.val] g (g_slices h)) (logistic (extractStridedSlice S8x128 ![0, 128 * h.val] g (g_slices h) : FVec Ideal S8x128 .f32)))

/-! ## Their values, row by row -/

section Values

variable (Q : FVec Ideal S8x1536 .f32) (G B : FVec Ideal S8x128 .f32) (R : Row) (r : Fin 8)

theorem qs_eq (hQ : ∀ c, (Q (ix2 r c) : EReal) = R.act c) (h : Fin 4) (d : Fin 128) : (qs Q h (ix2 r d) : EReal) = R.q h d := by
  show @HMul.hMul EReal EReal EReal _ (units _ (ix2 r d)) (Ideal.ofBits .f32 0x3DB504F3#32) = _
  rw [units_apply]
  refine congrArg (fun f => DnRow.unit f d * DnRow.qscale) (funext fun k => ?_)
  rw [← hQ]
  exact extractStridedSlice_apply (s := S8x1536) (t := S8x128) ![0, 128 * h.val] Q (q_slices h) (ix2 r k) _ (fun a => match a with
    | ⟨0, _⟩ => by show r.val = 0 + r.val; omega
    | ⟨1, _⟩ => rfl)

theorem ks_eq (hQ : ∀ c, (Q (ix2 r c) : EReal) = R.act c) (h : Fin 4) (d : Fin 128) : (ks Q h (ix2 r d) : EReal) = R.k h d := by
  unfold ks
  rw [units_apply]
  refine congrArg (fun f => DnRow.unit f d) (funext fun k => ?_)
  rw [← hQ]
  exact extractStridedSlice_apply (s := S8x1536) (t := S8x128) ![0, 512 + 128 * h.val] Q (k_slices h) (ix2 r k) _ (fun a => match a with
    | ⟨0, _⟩ => by show r.val = 0 + r.val; omega
    | ⟨1, _⟩ => rfl)

theorem vs_eq (hQ : ∀ c, (Q (ix2 r c) : EReal) = R.act c) (h : Fin 4) (d : Fin 128) : (vs Q h (ix2 r d) : EReal) = R.v h d := by
  unfold Row.v
  rw [← hQ]
  exact extractStridedSlice_apply (s := S8x1536) (t := S8x128) ![0, 1024 + 128 * h.val] Q (v_slices h) (ix2 r d) _ (fun a => match a with
    | ⟨0, _⟩ => by show r.val = 0 + r.val; omega
    | ⟨1, _⟩ => rfl)

theorem decays_eq (hG : ∀ h : Fin 4, Ideal.exp (G (ix2 r ⟨h.val, by omega⟩)) = R.decay h) (h : Fin 4) : (decays G h (ix2 r 0) : EReal) = R.decay h := by
  show Ideal.exp (lane _ G (ix2 r 0)) = _
  rw [lane_apply]
  exact hG h

theorem betas_eq (hB : ∀ h : Fin 4, (B (ix2 r ⟨4 + h.val, by omega⟩) : EReal) = R.beta h) (h : Fin 4) : (betas B h (ix2 r 0) : EReal) = R.beta h :=
  (lane_apply _ B r).trans (hB h)

variable (hQ : ∀ c, (Q (ix2 r c) : EReal) = R.act c) (hG : ∀ h : Fin 4, Ideal.exp (G (ix2 r ⟨h.val, by omega⟩)) = R.decay h)
  (hB : ∀ h : Fin 4, (B (ix2 r ⟨4 + h.val, by omega⟩) : EReal) = R.beta h)
include hQ hG hB

theorem wks_eq (h : Fin 4) (d : Fin 128) : (wks Q G B h (ix2 r d) : EReal) = R.beta h * R.decay h * R.k h d := by
  show @HMul.hMul EReal EReal EReal _ (spread _ (ix2 r d)) (ks Q h (ix2 r d)) = _
  rw [spread_apply, ks_eq Q R r hQ, ← decays_eq G R r hG, ← betas_eq B R r hB]
  rfl

theorem qgs_eq (h : Fin 4) (d : Fin 128) : (qgs Q G h (ix2 r d) : EReal) = R.q h d * R.decay h := by
  show @HMul.hMul EReal EReal EReal _ (qs Q h (ix2 r d)) (spread _ (ix2 r d)) = _
  rw [spread_apply, qs_eq Q R r hQ, decays_eq G R r hG]

theorem bvs_eq (h : Fin 4) (d : Fin 128) : (bvs Q B h (ix2 r d) : EReal) = R.beta h * R.v h d := by
  show @HMul.hMul EReal EReal EReal _ (spread _ (ix2 r d)) (vs Q h (ix2 r d)) = _
  rw [spread_apply, vs_eq Q R r hQ, betas_eq B R r hB]

theorem qks_eq (h : Fin 4) : (qks Q h (ix2 r 0) : EReal) = ∑ k : Fin 128, R.q h k * R.k h k := by
  unfold qks
  rw [sums_apply]
  refine Finset.sum_congr rfl fun k _ => ?_
  show @HMul.hMul EReal EReal EReal _ (qs Q h (ix2 r k)) (ks Q h (ix2 r k)) = _
  rw [qs_eq Q R r hQ, ks_eq Q R r hQ]

omit hQ hG hB in
theorem rowc_apply (x : FVec Ideal S8x128 .f32) (d : Fin 128) : (rowc r x (ix2 0 d) : EReal) = x (ix2 r d) := by
  unfold rowc
  rw [shapeCast_self, row_apply]

theorem reads_zero (h : Fin 4) (d : Fin 128) : (reads Q G B h r (ix2 0 d) : EReal) = R.beta h * R.decay h * R.k h d := by
  refine (place_apply 0 _ _ 0 d).trans ?_
  rw [if_pos rfl, rowc_apply, wks_eq Q G B R r hQ hG hB]

theorem reads_one (h : Fin 4) (d : Fin 128) : (reads Q G B h r (ix2 1 d) : EReal) = R.q h d * R.decay h := by
  refine (place_apply 0 _ _ 1 d).trans ?_
  rw [if_neg (by decide)]
  refine (place_apply 1 _ _ 1 d).trans ?_
  rw [if_pos rfl, rowc_apply, qgs_eq Q G B R r hQ hG hB]

variable (h : Fin 4) (s : Vec Ideal S1x1x1x128x128 .f32) (hs : ∀ k d : Fin 128, (s (ix5 0 0 0 k d) : EReal) = R.s h k d)
include hs

omit hQ hG hB in
theorem mat_eq (k d : Fin 128) : (mat s (ix2 k d) : EReal) = R.s h k d := by
  rw [← hs]
  refine shapeCast_apply s shapeCasts_S1x1x1x128x128_S128x128 _ _ ?_
  rw [Shape.rowMajor_val_two, Shape.rowMajor_val_five]
  show (((0 * 1 + 0) * 1 + 0) * 128 + k.val) * 128 + d.val = k.val * 128 + d.val
  omega

omit hQ hG hB in
theorem prods_apply (n : Fin 8) (d : Fin 128) : (prods Q G B h r s (ix2 n d) : EReal) = ∑ k : Fin 128, reads Q G B h r (ix2 n k) * R.s h k d := by
  unfold prods
  show (FloatOps.matmul (F := Ideal) (DotDims.plain 8 128 128) none (truncf .bf16 (reads Q G B h r) bitsLt_bf16_f32 : FVec Ideal S8x128 .bf16)
    (truncf .bf16 (mat s) bitsLt_bf16_f32 : FVec Ideal S128x128 .bf16) (constant S8x128 .f32 0x00000000#32) (ix2 n d) : EReal) = _
  rw [Ideal.matmul_plain_apply, constant_apply, Ideal.ofBits_zero_f32, zero_add]
  exact Finset.sum_congr rfl fun k _ => congrArg (fun z : EReal => reads Q G B h r (ix2 n k) * z) (mat_eq R h s hs k d)

theorem upds_eq (d : Fin 128) : (upds Q G B h r s (ix2 0 d) : EReal) = R.upd h d := by
  show @HSub.hSub EReal EReal EReal _ (row r (bvs Q B h) (ix2 0 d)) (row 0 (prods Q G B h r s) (ix2 0 d)) = _
  rw [row_apply, row_apply, bvs_eq Q G B R r hQ hG hB, prods_apply Q G B R r h s hs]
  exact congrArg (fun z : EReal => R.beta h * R.v h d - z) (Finset.sum_congr rfl fun k _ => by rw [reads_zero Q G B R r hQ hG hB])

theorem outs_eq (d : Fin 128) : (outs Q G B h r s (ix2 0 d) : EReal) = R.out h d := by
  show @HAdd.hAdd EReal EReal EReal _ (row 1 (prods Q G B h r s) (ix2 0 d))
    (@HMul.hMul EReal EReal EReal _ (broadcastTo S1x128 (cell r (qks Q h)) broadcasts_S1x1_S1x128 (ix2 0 d)) (upds Q G B h r s (ix2 0 d))) = _
  rw [row_apply, prods_apply Q G B R r h s hs, upds_eq Q G B R r hQ hG hB h s hs,
    broadcastTo_apply (cell r (qks Q h)) broadcasts_S1x1_S1x128 (ix2 0 d) (ix2 0 0) (fun a => match a with | ⟨0, _⟩ => rfl | ⟨1, _⟩ => rfl),
    cell_apply, qks_eq Q G B R r hQ hG hB]
  exact congrArg (fun z : EReal => z + (∑ k : Fin 128, R.q h k * R.k h k) * R.upd h d) (Finset.sum_congr rfl fun k _ => by rw [reads_one Q G B R r hQ hG hB])

omit hs hG hB in
theorem kcols_eq (k : Fin 128) : (kcols Q r (ix2 k ⟨h.val, by omega⟩) : EReal) = R.k h k := by
  refine (transpose_apply [1, 0] _ transposes_S8x128_p1_0_S128x8 (ix2 k (⟨h.val, by omega⟩ : Fin 8)) (ix2 (⟨h.val, by omega⟩ : Fin 8) k) (fun b => match b with
    | ⟨0, _⟩ => rfl
    | ⟨1, _⟩ => rfl)).trans ?_
  refine (place_apply 3 _ _ _ k).trans ?_
  rw [← ks_eq Q R r hQ]
  match h with
  | ⟨3, _⟩ =>
    refine (if_pos (Fin.ext rfl)).trans ?_
    rw [rowc_apply]; rfl
  | ⟨2, _⟩ =>
    refine (if_neg (fun e => absurd (show (2 : ℕ) = 3 from congrArg Fin.val e) (by decide))).trans ?_
    refine (place_apply 2 _ _ _ k).trans ?_
    refine (if_pos (Fin.ext rfl)).trans ?_
    rw [rowc_apply]; rfl
  | ⟨1, _⟩ =>
    refine (if_neg (fun e => absurd (show (1 : ℕ) = 3 from congrArg Fin.val e) (by decide))).trans ?_
    refine (place_apply 2 _ _ _ k).trans ?_
    refine (if_neg (fun e => absurd (show (1 : ℕ) = 2 from congrArg Fin.val e) (by decide))).trans ?_
    refine (place_apply 1 _ _ _ k).trans ?_
    refine (if_pos (Fin.ext rfl)).trans ?_
    rw [rowc_apply]; rfl
  | ⟨0, _⟩ =>
    refine (if_neg (fun e => absurd (show (0 : ℕ) = 3 from congrArg Fin.val e) (by decide))).trans ?_
    refine (place_apply 2 _ _ _ k).trans ?_
    refine (if_neg (fun e => absurd (show (0 : ℕ) = 2 from congrArg Fin.val e) (by decide))).trans ?_
    refine (place_apply 1 _ _ _ k).trans ?_
    refine (if_neg (fun e => absurd (show (0 : ℕ) = 1 from congrArg Fin.val e) (by decide))).trans ?_
    refine (place_apply 0 _ _ _ k).trans ?_
    refine (if_pos (Fin.ext rfl)).trans ?_
    rw [rowc_apply]; rfl

theorem news_eq (k d : Fin 128) : (news Q G B h r s (ix5 0 0 0 k d) : EReal) = R.new h k d := by
  unfold news
  refine (shapeCast_apply _ shapeCasts_S128x128_S1x1x1x128x128 (ix5 0 0 0 k d) (ix2 k d) (by
    rw [Shape.rowMajor_val_two, Shape.rowMajor_val_five]
    show k.val * 128 + d.val = (((0 * 1 + 0) * 1 + 0) * 128 + k.val) * 128 + d.val
    omega)).trans ?_
  show @HAdd.hAdd EReal EReal EReal _
    (@HMul.hMul EReal EReal EReal _ (broadcastTo S128x128 (cell r (decays G h)) broadcasts_S1x1_S128x128 (ix2 k d)) (mat s (ix2 k d)))
    (@HMul.hMul EReal EReal EReal _
      (broadcastTo S128x128 (extractStridedSlice S128x1 ![0, h.val] (kcols Q r) (col_slices h)) broadcasts_S128x1_S128x128 (ix2 k d))
      (broadcastTo S128x128 (upds Q G B h r s) broadcasts_S1x128_S128x128 (ix2 k d))) = _
  rw [mat_eq R h s hs,
    broadcastTo_apply (cell r (decays G h)) broadcasts_S1x1_S128x128 (ix2 k d) (ix2 0 0) (fun a => match a with | ⟨0, _⟩ => rfl | ⟨1, _⟩ => rfl),
    broadcastTo_apply (extractStridedSlice S128x1 ![0, h.val] (kcols Q r) (col_slices h)) broadcasts_S128x1_S128x128 (ix2 k d) (ix2 k 0)
      (fun a => match a with | ⟨0, _⟩ => rfl | ⟨1, _⟩ => rfl),
    broadcastTo_apply (upds Q G B h r s) broadcasts_S1x128_S128x128 (ix2 k d) (ix2 0 d) (fun a => match a with | ⟨0, _⟩ => rfl | ⟨1, _⟩ => rfl),
    cell_apply, decays_eq G R r hG, upds_eq Q G B R r hQ hG hB h s hs]
  refine congrArg (fun z : EReal => R.decay h * R.s h k d + z * R.upd h d) ?_
  refine (extractStridedSlice_apply (s := S128x8) (t := S128x1) ![0, h.val] (kcols Q r) (col_slices h) (ix2 k 0) (ix2 k ⟨h.val, by omega⟩) (fun a => match a with
    | ⟨0, _⟩ => by show k.val = 0 + k.val; omega
    | ⟨1, _⟩ => rfl)).trans ?_
  exact kcols_eq Q R r hQ h k

end Values

theorem ys_eq (R : Row) (r : Fin 8) (h : Fin 4) (o : FVec Ideal S8x128 .f32) (g : Vec Ideal S8x512 .f32) (ng : Vec Ideal S1x128 .f32)
    (ho : ∀ d, (o (ix2 r d) : EReal) = R.out h d) (hg : ∀ c, (g (ix2 r c) : EReal) = R.zg c) (hn : ∀ d, (ng (ix2 0 d) : EReal) = R.ng d) (d : Fin 128) :
    (ys h o g ng (ix2 r d) : EReal) = R.y h d := by
  have e : (extractStridedSlice S8x128 ![0, 128 * h.val] g (g_slices h) (ix2 r d) : EReal) = R.zg ⟨128 * h.val + d.val, by omega⟩ := by
    rw [← hg]
    exact extractStridedSlice_apply (s := S8x512) (t := S8x128) ![0, 128 * h.val] g (g_slices h) (ix2 r d) _ (fun a => match a with
      | ⟨0, _⟩ => by show r.val = 0 + r.val; omega
      | ⟨1, _⟩ => rfl)
  show @HMul.hMul EReal EReal EReal _ (@HMul.hMul EReal EReal EReal _ (@HMul.hMul EReal EReal EReal _ (o (ix2 r d)) (spread _ (ix2 r d))) (over _ (ix2 r d)))
    (@HMul.hMul EReal EReal EReal _ (extractStridedSlice S8x128 ![0, 128 * h.val] g (g_slices h) (ix2 r d))
      (Ideal.logistic (extractStridedSlice S8x128 ![0, 128 * h.val] g (g_slices h) (ix2 r d)))) = _
  rw [e, spread_apply, over_apply, shapeCast_self, ho, hn]
  refine congrArg (fun z : EReal => R.out h d * z * R.ng d * _) ?_
  show Ideal.rsqrt (Ideal.div (sums (mulf o o) (ix2 r 0)) (Ideal.ofBits .f32 0x43000000#32) + Ideal.ofBits .f32 0x358637BD#32) = _
  rw [sums_apply]
  refine congrArg (fun z : EReal => Ideal.rsqrt (Ideal.div z _ + _)) (Finset.sum_congr rfl fun k _ => ?_)
  show @HMul.hMul EReal EReal EReal _ (o (ix2 r k)) (o (ix2 r k)) = _
  rw [ho]

end Cert.Proof.DnBlock
-- ==== Proof.DnBody.lean ====
/-
  One step of the delta rule on the sample rows, the call's three result blocks as functions of the nine blocks it reads.
-/
module

public import proofs.«01_k».proof.Defs
public import proofs.«01_k».proof.Proof.Gen.DnSampleIdeal.Value
public import proofs.«01_k».proof.Proof.DnBlock

@[expose] public section

noncomputable section

namespace Cert.Proof.DnBody

open Idealize.ShloMosaic Idealize.ShloMosaic.TcCoe Idealize.SL.Sem Idealize.ShloMosaic.ValueIdx
open Cert.DnSampleIdeal Cert.DnSampleIdeal.Gen
open Cert.Proof.DnRow (Row)
open Cert.Proof.DnBlock

theorem state_inb (i : Fin 8) (h : Fin 4) : ∀ a, (![0, i.val, h.val, 0, 0] : Fin 5 → Nat) a + S1x1x1x128x128.size a ≤ S1x8x4x128x128.size a := fun a =>
  match a with
  | ⟨0, _⟩ => by show 0 + 1 ≤ 1; omega
  | ⟨1, _⟩ => by show i.val + 1 ≤ 8; omega
  | ⟨2, _⟩ => by show h.val + 1 ≤ 4; omega
  | ⟨3, _⟩ => by show 0 + 128 ≤ 128; omega
  | ⟨4, _⟩ => by show 0 + 128 ≤ 128; omega

theorem at2 {m n m' n' : ℕ} (p : Fin m) (q : Fin n) (a b : ℕ) (p' : Fin m') (q' : Fin n') (hp : p.val = a + p'.val) (hq : q.val = b + q'.val) :
    ∀ i : Fin 2, ((ix2 p q) i : ℕ) = (![a, b] : Fin 2 → Nat) i + (ix2 p' q') i := fun i => match i with
  | ⟨0, _⟩ => hp
  | ⟨1, _⟩ => hq
theorem at3 {m n l m' n' l' : ℕ} (p : Fin m) (q : Fin n) (u : Fin l) (a b c : ℕ) (p' : Fin m') (q' : Fin n') (u' : Fin l')
    (hp : p.val = a + p'.val) (hq : q.val = b + q'.val) (hu : u.val = c + u'.val) :
    ∀ i : Fin 3, ((ix3 p q u) i : ℕ) = (![a, b, c] : Fin 3 → Nat) i + (ix3 p' q' u') i := fun i => match i with
  | ⟨0, _⟩ => hp
  | ⟨1, _⟩ => hq
  | ⟨2, _⟩ => hu

/-- Eight rows stacked. -/
def stack (f : Fin 8 → FVec Ideal S1x128 .f32) : FVec Ideal S8x128 .f32 :=
  concatenate S8x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩]
    concatenates_S1x128_S1x128_S1x128_S1x128_S1x128_S1x128_S1x128_S1x128_S8x128_d0
/-- Four heads side by side. -/
def join (f : Fin 4 → FVec Ideal S8x128 .f32) : FVec Ideal S8x512 .f32 :=
  concatenate S8x512 1 [⟨S8x128, f 0⟩, ⟨S8x128, f 1⟩, ⟨S8x128, f 2⟩, ⟨S8x128, f 3⟩] concatenates_S8x128_S8x128_S8x128_S8x128_S8x512_d1

theorem stack_apply (f : Fin 8 → FVec Ideal S1x128 .f32) (r : Fin 8) (d : Fin 128) : (stack f (ix2 r d) : EReal) = f r (ix2 0 d) := by
  unfold stack
  match r with
  | ⟨0, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 0 (by show 0 < 8; omega) S1x128 (f 0) rfl rfl 0 rfl
      (ix2 0 d) (fun b hb => match b, hb with
        | ⟨0, _⟩, hb => absurd (Fin.ext rfl) hb
        | ⟨1, _⟩, _ => rfl) rfl
  | ⟨1, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 1 (by show 1 < 8; omega) S1x128 (f 1) rfl rfl 1 rfl
      (ix2 0 d) (fun b hb => match b, hb with
        | ⟨0, _⟩, hb => absurd (Fin.ext rfl) hb
        | ⟨1, _⟩, _ => rfl) rfl
  | ⟨2, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 2 (by show 2 < 8; omega) S1x128 (f 2) rfl rfl 2 rfl
      (ix2 0 d) (fun b hb => match b, hb with
        | ⟨0, _⟩, hb => absurd (Fin.ext rfl) hb
        | ⟨1, _⟩, _ => rfl) rfl
  | ⟨3, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 3 (by show 3 < 8; omega) S1x128 (f 3) rfl rfl 3 rfl
      (ix2 0 d) (fun b hb => match b, hb with
        | ⟨0, _⟩, hb => absurd (Fin.ext rfl) hb
        | ⟨1, _⟩, _ => rfl) rfl
  | ⟨4, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 4 (by show 4 < 8; omega) S1x128 (f 4) rfl rfl 4 rfl
      (ix2 0 d) (fun b hb => match b, hb with
        | ⟨0, _⟩, hb => absurd (Fin.ext rfl) hb
        | ⟨1, _⟩, _ => rfl) rfl
  | ⟨5, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 5 (by show 5 < 8; omega) S1x128 (f 5) rfl rfl 5 rfl
      (ix2 0 d) (fun b hb => match b, hb with
        | ⟨0, _⟩, hb => absurd (Fin.ext rfl) hb
        | ⟨1, _⟩, _ => rfl) rfl
  | ⟨6, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 6 (by show 6 < 8; omega) S1x128 (f 6) rfl rfl 6 rfl
      (ix2 0 d) (fun b hb => match b, hb with
        | ⟨0, _⟩, hb => absurd (Fin.ext rfl) hb
        | ⟨1, _⟩, _ => rfl) rfl
  | ⟨7, _⟩ =>
    exact concatenate_apply_piece (t := S8x128) 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩] _ (ix2 _ d) 7 (by show 7 < 8; omega) S1x128 (f 7) rfl rfl 7 rfl
      (ix2 0 d) (fun b hb => match b, hb with
        | ⟨0, _⟩, hb => absurd (Fin.ext rfl) hb
        | ⟨1, _⟩, _ => rfl) rfl

theorem join_apply (f : Fin 4 → FVec Ideal S8x128 .f32) (r : Fin 8) (h : Fin 4) (d : Fin 128) :
    (join f (ix2 r ⟨128 * h.val + d.val, by omega⟩) : EReal) = f h (ix2 r d) := by
  unfold join
  match h with
  | ⟨0, _⟩ =>
    exact concatenate_apply_piece (t := S8x512) 1 [⟨S8x128, f 0⟩, ⟨S8x128, f 1⟩, ⟨S8x128, f 2⟩, ⟨S8x128, f 3⟩] _ (ix2 r _) 0 (by show 0 < 4; omega) S8x128 (f 0) rfl rfl 0 rfl
      (ix2 r d) (fun b hb => match b, hb with
        | ⟨0, _⟩, _ => rfl
        | ⟨1, _⟩, hb => absurd (Fin.ext rfl) hb) rfl
  | ⟨1, _⟩ =>
    exact concatenate_apply_piece (t := S8x512) 1 [⟨S8x128, f 0⟩, ⟨S8x128, f 1⟩, ⟨S8x128, f 2⟩, ⟨S8x128, f 3⟩] _ (ix2 r _) 1 (by show 1 < 4; omega) S8x128 (f 1) rfl rfl 128 rfl
      (ix2 r d) (fun b hb => match b, hb with
        | ⟨0, _⟩, _ => rfl
        | ⟨1, _⟩, hb => absurd (Fin.ext rfl) hb) rfl
  | ⟨2, _⟩ =>
    exact concatenate_apply_piece (t := S8x512) 1 [⟨S8x128, f 0⟩, ⟨S8x128, f 1⟩, ⟨S8x128, f 2⟩, ⟨S8x128, f 3⟩] _ (ix2 r _) 2 (by show 2 < 4; omega) S8x128 (f 2) rfl rfl 256 rfl
      (ix2 r d) (fun b hb => match b, hb with
        | ⟨0, _⟩, _ => rfl
        | ⟨1, _⟩, hb => absurd (Fin.ext rfl) hb) rfl
  | ⟨3, _⟩ =>
    exact concatenate_apply_piece (t := S8x512) 1 [⟨S8x128, f 0⟩, ⟨S8x128, f 1⟩, ⟨S8x128, f 2⟩, ⟨S8x128, f 3⟩] _ (ix2 r _) 3 (by show 3 < 4; omega) S8x128 (f 3) rfl rfl 384 rfl
      (ix2 r d) (fun b hb => match b, hb with
        | ⟨0, _⟩, _ => rfl
        | ⟨1, _⟩, hb => absurd (Fin.ext rfl) hb) rfl

section Blocks

variable (x0 : Vec Ideal S8x1536 .f32) (x1 : Vec Ideal S8x512 .f32) (x2 : Vec Ideal S8x128 .f32) (x3 : Vec Ideal S8x3x1536 .f32)
  (x4 : Vec Ideal S1x8x4x128x128 .f32) (x5 : Vec Ideal S4x1536 .f32) (x6 x7 x8 : Vec Ideal S1x128 .f32)

/-- The activated channels of the block. -/
def bQ : FVec Ideal S8x1536 .f32 :=
  acts (View.ld x0 (Rect.unit ![0, 0] S8x1536.size inb_S8x1536_S8x1536_0_0))
    (View.ld x5 (Rect.unit ![0, 0] S1x1536.size inb_S4x1536_S1x1536_0_0))
    (View.ld x5 (Rect.unit ![1, 0] S1x1536.size inb_S4x1536_S1x1536_1_0))
    (View.ld x5 (Rect.unit ![2, 0] S1x1536.size inb_S4x1536_S1x1536_2_0))
    (View.ld x5 (Rect.unit ![3, 0] S1x1536.size inb_S4x1536_S1x1536_3_0))
    (View.ld x3 (Rect.unit ![0, 0, 0] S8x1x1536.size inb_S8x3x1536_S8x1x1536_0_0_0))
    (View.ld x3 (Rect.unit ![0, 1, 0] S8x1x1536.size inb_S8x3x1536_S8x1x1536_0_1_0))
    (View.ld x3 (Rect.unit ![0, 2, 0] S8x1x1536.size inb_S8x3x1536_S8x1x1536_0_2_0))
/-- The exponents of the block's decays. -/
def bG : FVec Ideal S8x128 .f32 :=
  gates (View.ld x2 (Rect.unit ![0, 0] S8x128.size inb_S8x128_S8x128_0_0)) (View.ld x6 (Rect.unit ![0, 0] S1x128.size inb_S1x128_S1x128_0_0))
    (View.ld x7 (Rect.unit ![0, 0] S1x128.size inb_S1x128_S1x128_0_0))
/-- The block's writing strengths. -/
def bB : FVec Ideal S8x128 .f32 := logistic (View.ld x2 (Rect.unit ![0, 0] S8x128.size inb_S8x128_S8x128_0_0))
/-- A state of the block. -/
def bS (i : Fin 8) (h : Fin 4) : Vec Ideal S1x1x1x128x128 .f32 := View.ld x4 (Rect.unit ![0, i.val, h.val, 0, 0] S1x1x1x128x128.size (state_inb i h))

/-- A new state of the block. -/
def tile (i : Fin 8) (h : Fin 4) : Vec Ideal S1x1x1x128x128 .f32 := news (bQ x0 x3 x5) (bG x2 x6 x7) (bB x2) h i (bS x4 i h)

/-- What a row of the block reads. -/
def rowOf (r : Fin 8) : Row where
  x c := x0 (ix2 r c)
  cv j c := x3 (ix3 r j c)
  w j c := x5 (ix2 j c)
  za h := x2 (ix2 r ⟨h.val, by omega⟩)
  zb h := x2 (ix2 r ⟨4 + h.val, by omega⟩)
  al h := x6 (ix2 0 ⟨h.val, by omega⟩)
  db h := x7 (ix2 0 ⟨h.val, by omega⟩)
  s h k d := x4 (ix5 0 r h k d)
  zg c := x1 (ix2 r c)
  ng d := x8 (ix2 0 d)

theorem bQ_eq (r : Fin 8) (c : Fin 1536) : (bQ x0 x3 x5 (ix2 r c) : EReal) = (rowOf x0 x1 x2 x3 x4 x5 x6 x7 x8 r).act c := by
  have e : (taps (View.ld x0 (Rect.unit ![0, 0] S8x1536.size inb_S8x1536_S8x1536_0_0))
      (View.ld x5 (Rect.unit ![0, 0] S1x1536.size inb_S4x1536_S1x1536_0_0))
      (View.ld x5 (Rect.unit ![1, 0] S1x1536.size inb_S4x1536_S1x1536_1_0))
      (View.ld x5 (Rect.unit ![2, 0] S1x1536.size inb_S4x1536_S1x1536_2_0))
      (View.ld x5 (Rect.unit ![3, 0] S1x1536.size inb_S4x1536_S1x1536_3_0))
      (View.ld x3 (Rect.unit ![0, 0, 0] S8x1x1536.size inb_S8x3x1536_S8x1x1536_0_0_0))
      (View.ld x3 (Rect.unit ![0, 1, 0] S8x1x1536.size inb_S8x3x1536_S8x1x1536_0_1_0))
      (View.ld x3 (Rect.unit ![0, 2, 0] S8x1x1536.size inb_S8x3x1536_S8x1x1536_0_2_0)) (ix2 r c) : EReal)
      = (rowOf x0 x1 x2 x3 x4 x5 x6 x7 x8 r).tap c := by
    rw [taps_apply,
      View.ld_unit_apply_of x0 ![0, 0] S8x1536.size inb_S8x1536_S8x1536_0_0 (ix2 r c) (ix2 r c) (at2 r c 0 0 _ _ (by omega) (by omega)),
      View.ld_unit_apply_of x5 ![0, 0] S1x1536.size inb_S4x1536_S1x1536_0_0 (ix2 0 c) (ix2 0 c) (at2 0 c 0 0 _ _ rfl (by omega)),
      View.ld_unit_apply_of x5 ![1, 0] S1x1536.size inb_S4x1536_S1x1536_1_0 (ix2 0 c) (ix2 1 c) (at2 1 c 1 0 _ _ rfl (by omega)),
      View.ld_unit_apply_of x5 ![2, 0] S1x1536.size inb_S4x1536_S1x1536_2_0 (ix2 0 c) (ix2 2 c) (at2 2 c 2 0 _ _ rfl (by omega)),
      View.ld_unit_apply_of x5 ![3, 0] S1x1536.size inb_S4x1536_S1x1536_3_0 (ix2 0 c) (ix2 3 c) (at2 3 c 3 0 _ _ rfl (by omega)),
      View.ld_unit_apply_of x3 ![0, 0, 0] S8x1x1536.size inb_S8x3x1536_S8x1x1536_0_0_0 (ix3 r 0 c) (ix3 r 0 c) (at3 r 0 c 0 0 0 _ _ _ (by omega) rfl (by omega)),
      View.ld_unit_apply_of x3 ![0, 1, 0] S8x1x1536.size inb_S8x3x1536_S8x1x1536_0_1_0 (ix3 r 0 c) (ix3 r 1 c) (at3 r 1 c 0 1 0 _ _ _ (by omega) rfl (by omega)),
      View.ld_unit_apply_of x3 ![0, 2, 0] S8x1x1536.size inb_S8x3x1536_S8x1x1536_0_2_0 (ix3 r 0 c) (ix3 r 2 c) (at3 r 2 c 0 2 0 _ _ _ (by omega) rfl (by omega))]
    rfl
  show @HMul.hMul EReal EReal EReal _ (taps _ _ _ _ _ _ _ _ (ix2 r c)) (Ideal.logistic (taps _ _ _ _ _ _ _ _ (ix2 r c))) = _
  rw [e]
  rfl

theorem bG_eq (r : Fin 8) (h : Fin 4) : Ideal.exp (bG x2 x6 x7 (ix2 r ⟨h.val, by omega⟩)) = (rowOf x0 x1 x2 x3 x4 x5 x6 x7 x8 r).decay h := by
  unfold bG
  rw [gates_apply,
    View.ld_unit_apply_of x2 ![0, 0] S8x128.size inb_S8x128_S8x128_0_0 (ix2 r ⟨h.val, by omega⟩) (ix2 r ⟨h.val, by omega⟩) (at2 _ _ 0 0 _ _ (by omega) (by omega)),
    View.ld_unit_apply_of x6 ![0, 0] S1x128.size inb_S1x128_S1x128_0_0 (ix2 0 ⟨h.val, by omega⟩) (ix2 0 ⟨h.val, by omega⟩) (at2 _ _ 0 0 _ _ rfl (by omega)),
    View.ld_unit_apply_of x7 ![0, 0] S1x128.size inb_S1x128_S1x128_0_0 (ix2 0 ⟨h.val, by omega⟩) (ix2 0 ⟨h.val, by omega⟩) (at2 _ _ 0 0 _ _ rfl (by omega))]
  rfl

theorem bB_eq (r : Fin 8) (h : Fin 4) : (bB x2 (ix2 r ⟨4 + h.val, by omega⟩) : EReal) = (rowOf x0 x1 x2 x3 x4 x5 x6 x7 x8 r).beta h :=
  congrArg Ideal.logistic (View.ld_unit_apply_of x2 ![0, 0] S8x128.size inb_S8x128_S8x128_0_0 (ix2 r ⟨4 + h.val, by omega⟩) (ix2 r ⟨4 + h.val, by omega⟩)
    (at2 _ _ 0 0 _ _ (by omega) (by omega)))

theorem bS_eq (r : Fin 8) (h : Fin 4) (k d : Fin 128) : (bS x4 r h (ix5 0 0 0 k d) : EReal) = (rowOf x0 x1 x2 x3 x4 x5 x6 x7 x8 r).s h k d :=
  View.ld_unit_apply_of x4 ![0, r.val, h.val, 0, 0] S1x1x1x128x128.size (state_inb r h) (ix5 0 0 0 k d) (ix5 0 r h k d) (fun a => match a with
    | ⟨0, _⟩ => rfl
    | ⟨1, _⟩ => rfl
    | ⟨2, _⟩ => rfl
    | ⟨3, _⟩ => by show k.val = 0 + k.val; omega
    | ⟨4, _⟩ => by show d.val = 0 + d.val; omega)

theorem tile_eq (r : Fin 8) (h : Fin 4) (x : S1x1x1x128x128.Idx) (y : S1x8x4x128x128.Idx)
    (hx : ∀ a, (y a : ℕ) = (![0, r.val, h.val, 0, 0] : Fin 5 → Nat) a + x a) :
    (tile x0 x2 x3 x4 x5 x6 x7 r h x : EReal) = (rowOf x0 x1 x2 x3 x4 x5 x6 x7 x8 (y 1)).new (y 2) (y 3) (y 4) := by
  have e : x = ix5 0 0 0 (x 3) (x 4) := (eq_ix5 x).trans (by
    rw [show x 0 = (0 : Fin 1) from Subsingleton.elim (α := Fin 1) _ _, show x 1 = (0 : Fin 1) from Subsingleton.elim (α := Fin 1) _ _,
      show x 2 = (0 : Fin 1) from Subsingleton.elim (α := Fin 1) _ _]
    rfl)
  have e1 : (x 1).val = 0 := congrArg Fin.val (show x 1 = (0 : Fin 1) from Subsingleton.elim (α := Fin 1) _ _)
  have e2 : (x 2).val = 0 := congrArg Fin.val (show x 2 = (0 : Fin 1) from Subsingleton.elim (α := Fin 1) _ _)
  have h1 : y 1 = r := Fin.ext ((hx 1).trans (by rw [e1]; rfl))
  have h2 : y 2 = h := Fin.ext ((hx 2).trans (by rw [e2]; rfl))
  have h3 : y 3 = x 3 := Fin.ext ((hx 3).trans (Nat.zero_add _))
  have h4 : y 4 = x 4 := Fin.ext ((hx 4).trans (Nat.zero_add _))
  rw [h1, h2, h3, h4, e]
  exact news_eq _ _ _ _ r (bQ_eq x0 x1 x2 x3 x4 x5 x6 x7 x8 r) (bG_eq x0 x1 x2 x3 x4 x5 x6 x7 x8 r) (bB_eq x0 x1 x2 x3 x4 x5 x6 x7 x8 r) h _
    (bS_eq x0 x1 x2 x3 x4 x5 x6 x7 x8 r h) (x 3) (x 4)

/-- A head's results before the norm, the eight rows of the block. -/
def bO (h : Fin 4) : FVec Ideal S8x128 .f32 :=
  stack fun r => outs (bQ x0 x3 x5) (bG x2 x6 x7) (bB x2) h r (bS x4 r h)

/-- The block of results. -/
def bY : FVec Ideal S8x512 .f32 :=
  join fun h => ys h (bO x0 x2 x3 x4 x5 x6 x7 h) (View.ld x1 (Rect.unit ![0, 0] S8x512.size inb_S8x512_S8x512_0_0))
    (View.ld x8 (Rect.unit ![0, 0] S1x128.size inb_S1x128_S1x128_0_0))

theorem bO_eq (r : Fin 8) (h : Fin 4) (d : Fin 128) : (bO x0 x2 x3 x4 x5 x6 x7 h (ix2 r d) : EReal) = (rowOf x0 x1 x2 x3 x4 x5 x6 x7 x8 r).out h d := by
  rw [← outs_eq _ _ _ _ r (bQ_eq x0 x1 x2 x3 x4 x5 x6 x7 x8 r) (bG_eq x0 x1 x2 x3 x4 x5 x6 x7 x8 r) (bB_eq x0 x1 x2 x3 x4 x5 x6 x7 x8 r) h _
    (bS_eq x0 x1 x2 x3 x4 x5 x6 x7 x8 r h) d]
  exact stack_apply _ r d

theorem bY_eq (r : Fin 8) (h : Fin 4) (d : Fin 128) :
    (bY x0 x1 x2 x3 x4 x5 x6 x7 x8 (ix2 r ⟨128 * h.val + d.val, by omega⟩) : EReal) = (rowOf x0 x1 x2 x3 x4 x5 x6 x7 x8 r).y h d := by
  rw [← ys_eq (rowOf x0 x1 x2 x3 x4 x5 x6 x7 x8 r) r h (bO x0 x2 x3 x4 x5 x6 x7 h) (View.ld x1 (Rect.unit ![0, 0] S8x512.size inb_S8x512_S8x512_0_0))
    (View.ld x8 (Rect.unit ![0, 0] S1x128.size inb_S1x128_S1x128_0_0)) (bO_eq x0 x1 x2 x3 x4 x5 x6 x7 x8 r h)
    (fun c => View.ld_unit_apply_of x1 ![0, 0] S8x512.size inb_S8x512_S8x512_0_0 (ix2 r c) (ix2 r c) (at2 _ _ 0 0 _ _ (by omega) (by omega)))
    (fun k => View.ld_unit_apply_of x8 ![0, 0] S1x128.size inb_S1x128_S1x128_0_0 (ix2 0 k) (ix2 0 k) (at2 _ _ 0 0 _ _ rfl (by omega))) d]
  exact join_apply _ r h d

theorem kept_inb (i : Fin 8) : ∀ a, (![i.val, 1, 0] : Fin 3 → Nat) a + S1x2x1536.size a ≤ S8x3x1536.size a := fun a => match a with
  | ⟨0, _⟩ => by show i.val + 1 ≤ 8; omega
  | ⟨1, _⟩ => by show 1 + 2 ≤ 3; omega
  | ⟨2, _⟩ => by show 0 + 1536 ≤ 1536; omega

/-- The two tokens a row keeps. -/
def kept (i : Fin 8) : Vec Ideal S1x2x1536 .f32 :=
  shapeCast S1x2x1536 (shapeCast S2x1536 (View.ld x3 (Rect.unit ![i.val, 1, 0] S1x2x1536.size (kept_inb i))) shapeCasts_S1x2x1536_S2x1536 : FVec Ideal S2x1536 .f32)
    shapeCasts_S2x1536_S1x2x1536
/-- The token a row adds. -/
def added (i : Fin 8) : Vec Ideal S1x1x1536 .f32 :=
  shapeCast S1x1x1536 (extractStridedSlice (s := S8x1536) S1x1536 ![i.val, 0] (View.ld x0 (Rect.unit ![0, 0] S8x1536.size inb_S8x1536_S8x1536_0_0)) (x_slices i) : FVec Ideal S1x1536 .f32)
    shapeCasts_S1x1536_S1x1x1536

theorem kept_eq (r : Fin 8) (x : S1x2x1536.Idx) (y : S8x3x1536.Idx) (hx : ∀ a, (y a : ℕ) = (![r.val, 0, 0] : Fin 3 → Nat) a + x a) :
    (kept x3 r x : EReal) = (rowOf x0 x1 x2 x3 x4 x5 x6 x7 x8 (y 0)).shift (y 1) (y 2) := by
  have e0 : x 0 = (0 : Fin 1) := Subsingleton.elim (α := Fin 1) _ _
  have e : x = ix3 0 (x 1) (x 2) := (eq_ix3 x).trans (by rw [e0]; rfl)
  have h0 : y 0 = r := Fin.ext ((hx 0).trans (by rw [e0]; rfl))
  have h1 : (y 1).val = (x 1).val := (hx 1).trans (Nat.zero_add _)
  have h2 : (y 2).val = (x 2).val := (hx 2).trans (Nat.zero_add _)
  have l1 : (x 1).val < 2 := (x 1).isLt
  rw [e]
  unfold kept Row.shift
  rw [dif_pos (by omega)]
  refine (shapeCast_apply _ shapeCasts_S2x1536_S1x2x1536 (ix3 0 (x 1) (x 2)) (ix2 (x 1) (x 2)) (by
    rw [Shape.rowMajor_val_two, Shape.rowMajor_val_three]
    show (x 1).val * 1536 + (x 2).val = (0 * 2 + (x 1).val) * 1536 + (x 2).val
    omega)).trans ?_
  refine (shapeCast_apply _ shapeCasts_S1x2x1536_S2x1536 (ix2 (x 1) (x 2)) (ix3 0 (x 1) (x 2)) (by
    rw [Shape.rowMajor_val_two, Shape.rowMajor_val_three]
    show (0 * 2 + (x 1).val) * 1536 + (x 2).val = (x 1).val * 1536 + (x 2).val
    omega)).trans ?_
  exact View.ld_unit_apply_of x3 ![r.val, 1, 0] S1x2x1536.size (kept_inb r) (ix3 0 (x 1) (x 2)) (ix3 (y 0) ⟨(y 1).val + 1, by omega⟩ (y 2))
    (at3 _ _ _ _ _ _ _ _ _ (by rw [h0]; rfl) (by show (y 1).val + 1 = 1 + (x 1).val; omega) (by omega))

theorem added_eq (r : Fin 8) (x : S1x1x1536.Idx) (y : S8x3x1536.Idx) (hx : ∀ a, (y a : ℕ) = (![r.val, 2, 0] : Fin 3 → Nat) a + x a) :
    (added x0 r x : EReal) = (rowOf x0 x1 x2 x3 x4 x5 x6 x7 x8 (y 0)).shift (y 1) (y 2) := by
  have e0 : x 0 = (0 : Fin 1) := Subsingleton.elim (α := Fin 1) _ _
  have e1 : x 1 = (0 : Fin 1) := Subsingleton.elim (α := Fin 1) _ _
  have e : x = ix3 0 0 (x 2) := (eq_ix3 x).trans (by rw [e0, e1]; rfl)
  have h0 : y 0 = r := Fin.ext ((hx 0).trans (by rw [e0]; rfl))
  have h1 : (y 1).val = 2 := (hx 1).trans (by rw [e1]; rfl)
  have h2 : (y 2).val = (x 2).val := (hx 2).trans (Nat.zero_add _)
  rw [e]
  unfold added Row.shift
  rw [dif_neg (by omega)]
  refine (shapeCast_apply _ shapeCasts_S1x1536_S1x1x1536 (ix3 0 0 (x 2)) (ix2 0 (x 2)) (by
    rw [Shape.rowMajor_val_two, Shape.rowMajor_val_three]
    show 0 * 1536 + (x 2).val = (0 * 1 + 0) * 1536 + (x 2).val
    omega)).trans ?_
  refine (extractStridedSlice_apply (s := S8x1536) (t := S1x1536) ![r.val, 0] _ (x_slices r) (ix2 0 (x 2)) (ix2 r (x 2)) (fun a => match a with
    | ⟨0, _⟩ => rfl
    | ⟨1, _⟩ => by show (x 2).val = 0 + (x 2).val; omega)).trans ?_
  exact View.ld_unit_apply_of x0 ![0, 0] S8x1536.size inb_S8x1536_S8x1536_0_0 (ix2 r (x 2)) (ix2 (y 0) (y 2))
    (at2 _ _ _ _ _ _ (by rw [h0]; omega) (by omega))

end Blocks

set_option maxRecDepth 16384

/-! ## The call's blocks -/

/-- The new states, as the call leaves them. -/
theorem out10_eq (c : Dev nD) (i : grid0.Coords) (arg1 : Memref sig .tc .vmem S8x1536 .f32) (harg1 : arg1.IsWhole) (arg2 : Memref sig .tc .vmem S8x512 .f32) (harg2 : arg2.IsWhole) (arg3 : Memref sig .tc .vmem S8x128 .f32) (harg3 : arg3.IsWhole) (arg4 : Memref sig .tc .vmem S8x3x1536 .f32) (harg4 : arg4.IsWhole) (arg5 : Memref sig .tc .vmem S1x8x4x128x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg11 : Memref sig .tc .vmem S8x512 .f32) (harg11 : arg11.IsWhole) (arg12 : Memref sig .tc .vmem S1x8x4x128x128 .f32) (harg12 : arg12.IsWhole) (arg13 : Memref sig .tc .vmem S8x3x1536 .f32) (harg13 : arg13.IsWhole)
   (x0 : Vec Ideal S8x1536 .f32) (x1 : Vec Ideal S8x512 .f32) (x2 : Vec Ideal S8x128 .f32) (x3 : Vec Ideal S8x3x1536 .f32) (x4 : Vec Ideal S1x8x4x128x128 .f32) (x5 : Vec Ideal S4x1536 .f32) (x6 : Vec Ideal S1x128 .f32) (x7 : Vec Ideal S1x128 .f32) (x8 : Vec Ideal S1x128 .f32) (y : S1x8x4x128x128.Idx) :
    (out0_A_10 c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 y : EReal) = (rowOf x0 x1 x2 x3 x4 x5 x6 x7 x8 (y 1)).new (y 2) (y 3) (y 4) := by
  unfold out0_A_10
  rw [View.read_writes_eq_canon _ _ _ (cover0_A_10 c i _ _ _ _ _ _ _ _ _ _ _ _ _ _ _ _ _ _ _ _ _ _ _ _ _ _ _ _ _ _ _ _ _)]
  refine View.canon_eq_of_allAt _ y _ (cover0_A_10 c i _ _ _ _ _ _ _ _ _ _ _ _ _ _ _ _ _ _ _ _ _ _ _ _ _ _ _ _ _ _ _ _ _ y) ?_
  unfold kernelRun0_A
  dsimp only
  have t (r : Fin 8) (h : Fin 4) (x : S1x1x1x128x128.Idx) (hx : ∀ a, (y a : ℕ) = (![0, r.val, h.val, 0, 0] : Fin 5 → Nat) a + x a) :
      (tile (arg1.view.read (Elt Ideal) (harg1.unread x0)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7)) r h x : EReal) = (rowOf x0 x1 x2 x3 x4 x5 x6 x7 x8 (y 1)).new (y 2) (y 3) (y 4) := by
    rw [harg1.read_unread, harg3.read_unread, harg4.read_unread, harg5.read_unread, harg6.read_unread, harg7.read_unread, harg8.read_unread]
    exact tile_eq x0 x1 x2 x3 x4 x5 x6 x7 x8 r h x y hx
  refine View.allAt_cons_unit (S := S1x8x4x128x128) ![0, 7, 3, 0, 0] S1x1x1x128x128.size (by decide) _ _ (fun x hx => Eq.trans (by sl_kernel_rfl) (t 7 3 x hx)) ?_
  refine View.allAt_cons_unit (S := S1x8x4x128x128) ![0, 7, 2, 0, 0] S1x1x1x128x128.size (by decide) _ _ (fun x hx => Eq.trans (by sl_kernel_rfl) (t 7 2 x hx)) ?_
  refine View.allAt_cons_unit (S := S1x8x4x128x128) ![0, 7, 1, 0, 0] S1x1x1x128x128.size (by decide) _ _ (fun x hx => Eq.trans (by sl_kernel_rfl) (t 7 1 x hx)) ?_
  refine View.allAt_cons_unit (S := S1x8x4x128x128) ![0, 7, 0, 0, 0] S1x1x1x128x128.size (by decide) _ _ (fun x hx => Eq.trans (by sl_kernel_rfl) (t 7 0 x hx)) ?_
  refine View.allAt_cons_unit (S := S1x8x4x128x128) ![0, 6, 3, 0, 0] S1x1x1x128x128.size (by decide) _ _ (fun x hx => Eq.trans (by sl_kernel_rfl) (t 6 3 x hx)) ?_
  refine View.allAt_cons_unit (S := S1x8x4x128x128) ![0, 6, 2, 0, 0] S1x1x1x128x128.size (by decide) _ _ (fun x hx => Eq.trans (by sl_kernel_rfl) (t 6 2 x hx)) ?_
  refine View.allAt_cons_unit (S := S1x8x4x128x128) ![0, 6, 1, 0, 0] S1x1x1x128x128.size (by decide) _ _ (fun x hx => Eq.trans (by sl_kernel_rfl) (t 6 1 x hx)) ?_
  refine View.allAt_cons_unit (S := S1x8x4x128x128) ![0, 6, 0, 0, 0] S1x1x1x128x128.size (by decide) _ _ (fun x hx => Eq.trans (by sl_kernel_rfl) (t 6 0 x hx)) ?_
  refine View.allAt_cons_unit (S := S1x8x4x128x128) ![0, 5, 3, 0, 0] S1x1x1x128x128.size (by decide) _ _ (fun x hx => Eq.trans (by sl_kernel_rfl) (t 5 3 x hx)) ?_
  refine View.allAt_cons_unit (S := S1x8x4x128x128) ![0, 5, 2, 0, 0] S1x1x1x128x128.size (by decide) _ _ (fun x hx => Eq.trans (by sl_kernel_rfl) (t 5 2 x hx)) ?_
  refine View.allAt_cons_unit (S := S1x8x4x128x128) ![0, 5, 1, 0, 0] S1x1x1x128x128.size (by decide) _ _ (fun x hx => Eq.trans (by sl_kernel_rfl) (t 5 1 x hx)) ?_
  refine View.allAt_cons_unit (S := S1x8x4x128x128) ![0, 5, 0, 0, 0] S1x1x1x128x128.size (by decide) _ _ (fun x hx => Eq.trans (by sl_kernel_rfl) (t 5 0 x hx)) ?_
  refine View.allAt_cons_unit (S := S1x8x4x128x128) ![0, 4, 3, 0, 0] S1x1x1x128x128.size (by decide) _ _ (fun x hx => Eq.trans (by sl_kernel_rfl) (t 4 3 x hx)) ?_
  refine View.allAt_cons_unit (S := S1x8x4x128x128) ![0, 4, 2, 0, 0] S1x1x1x128x128.size (by decide) _ _ (fun x hx => Eq.trans (by sl_kernel_rfl) (t 4 2 x hx)) ?_
  refine View.allAt_cons_unit (S := S1x8x4x128x128) ![0, 4, 1, 0, 0] S1x1x1x128x128.size (by decide) _ _ (fun x hx => Eq.trans (by sl_kernel_rfl) (t 4 1 x hx)) ?_
  refine View.allAt_cons_unit (S := S1x8x4x128x128) ![0, 4, 0, 0, 0] S1x1x1x128x128.size (by decide) _ _ (fun x hx => Eq.trans (by sl_kernel_rfl) (t 4 0 x hx)) ?_
  refine View.allAt_cons_unit (S := S1x8x4x128x128) ![0, 3, 3, 0, 0] S1x1x1x128x128.size (by decide) _ _ (fun x hx => Eq.trans (by sl_kernel_rfl) (t 3 3 x hx)) ?_
  refine View.allAt_cons_unit (S := S1x8x4x128x128) ![0, 3, 2, 0, 0] S1x1x1x128x128.size (by decide) _ _ (fun x hx => Eq.trans (by sl_kernel_rfl) (t 3 2 x hx)) ?_
  refine View.allAt_cons_unit (S := S1x8x4x128x128) ![0, 3, 1, 0, 0] S1x1x1x128x128.size (by decide) _ _ (fun x hx => Eq.trans (by sl_kernel_rfl) (t 3 1 x hx)) ?_
  refine View.allAt_cons_unit (S := S1x8x4x128x128) ![0, 3, 0, 0, 0] S1x1x1x128x128.size (by decide) _ _ (fun x hx => Eq.trans (by sl_kernel_rfl) (t 3 0 x hx)) ?_
  refine View.allAt_cons_unit (S := S1x8x4x128x128) ![0, 2, 3, 0, 0] S1x1x1x128x128.size (by decide) _ _ (fun x hx => Eq.trans (by sl_kernel_rfl) (t 2 3 x hx)) ?_
  refine View.allAt_cons_unit (S := S1x8x4x128x128) ![0, 2, 2, 0, 0] S1x1x1x128x128.size (by decide) _ _ (fun x hx => Eq.trans (by sl_kernel_rfl) (t 2 2 x hx)) ?_
  refine View.allAt_cons_unit (S := S1x8x4x128x128) ![0, 2, 1, 0, 0] S1x1x1x128x128.size (by decide) _ _ (fun x hx => Eq.trans (by sl_kernel_rfl) (t 2 1 x hx)) ?_
  refine View.allAt_cons_unit (S := S1x8x4x128x128) ![0, 2, 0, 0, 0] S1x1x1x128x128.size (by decide) _ _ (fun x hx => Eq.trans (by sl_kernel_rfl) (t 2 0 x hx)) ?_
  refine View.allAt_cons_unit (S := S1x8x4x128x128) ![0, 1, 3, 0, 0] S1x1x1x128x128.size (by decide) _ _ (fun x hx => Eq.trans (by sl_kernel_rfl) (t 1 3 x hx)) ?_
  refine View.allAt_cons_unit (S := S1x8x4x128x128) ![0, 1, 2, 0, 0] S1x1x1x128x128.size (by decide) _ _ (fun x hx => Eq.trans (by sl_kernel_rfl) (t 1 2 x hx)) ?_
  refine View.allAt_cons_unit (S := S1x8x4x128x128) ![0, 1, 1, 0, 0] S1x1x1x128x128.size (by decide) _ _ (fun x hx => Eq.trans (by sl_kernel_rfl) (t 1 1 x hx)) ?_
  refine View.allAt_cons_unit (S := S1x8x4x128x128) ![0, 1, 0, 0, 0] S1x1x1x128x128.size (by decide) _ _ (fun x hx => Eq.trans (by sl_kernel_rfl) (t 1 0 x hx)) ?_
  refine View.allAt_cons_unit (S := S1x8x4x128x128) ![0, 0, 3, 0, 0] S1x1x1x128x128.size (by decide) _ _ (fun x hx => Eq.trans (by sl_kernel_rfl) (t 0 3 x hx)) ?_
  refine View.allAt_cons_unit (S := S1x8x4x128x128) ![0, 0, 2, 0, 0] S1x1x1x128x128.size (by decide) _ _ (fun x hx => Eq.trans (by sl_kernel_rfl) (t 0 2 x hx)) ?_
  refine View.allAt_cons_unit (S := S1x8x4x128x128) ![0, 0, 1, 0, 0] S1x1x1x128x128.size (by decide) _ _ (fun x hx => Eq.trans (by sl_kernel_rfl) (t 0 1 x hx)) ?_
  refine View.allAt_cons_unit (S := S1x8x4x128x128) ![0, 0, 0, 0, 0] S1x1x1x128x128.size (by decide) _ _ (fun x hx => Eq.trans (by sl_kernel_rfl) (t 0 0 x hx)) ?_
  exact View.allAt_nil _ _

/-- The results, as the call leaves them. -/
theorem out9_eq (c : Dev nD) (i : grid0.Coords) (arg1 : Memref sig .tc .vmem S8x1536 .f32) (harg1 : arg1.IsWhole) (arg2 : Memref sig .tc .vmem S8x512 .f32) (harg2 : arg2.IsWhole) (arg3 : Memref sig .tc .vmem S8x128 .f32) (harg3 : arg3.IsWhole) (arg4 : Memref sig .tc .vmem S8x3x1536 .f32) (harg4 : arg4.IsWhole) (arg5 : Memref sig .tc .vmem S1x8x4x128x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg11 : Memref sig .tc .vmem S8x512 .f32) (harg11 : arg11.IsWhole) (arg12 : Memref sig .tc .vmem S1x8x4x128x128 .f32) (harg12 : arg12.IsWhole) (arg13 : Memref sig .tc .vmem S8x3x1536 .f32) (harg13 : arg13.IsWhole)
   (x0 : Vec Ideal S8x1536 .f32) (x1 : Vec Ideal S8x512 .f32) (x2 : Vec Ideal S8x128 .f32) (x3 : Vec Ideal S8x3x1536 .f32) (x4 : Vec Ideal S1x8x4x128x128 .f32) (x5 : Vec Ideal S4x1536 .f32) (x6 : Vec Ideal S1x128 .f32) (x7 : Vec Ideal S1x128 .f32) (x8 : Vec Ideal S1x128 .f32) (y : S8x512.Idx) :
    (out0_A_9 c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 y : EReal) = bY x0 x1 x2 x3 x4 x5 x6 x7 x8 y := by
  unfold out0_A_9
  rw [View.read_writes_eq_canon _ _ _ (cover0_A_9 c i _ _ _ _ _ _ _ _ _ _ _ _ _ _ _ _ _ _ _ _ _ _ _ _ _ _ _ _ _ _ _ _ _)]
  refine View.canon_eq_of_allAt _ y _ (cover0_A_9 c i _ _ _ _ _ _ _ _ _ _ _ _ _ _ _ _ _ _ _ _ _ _ _ _ _ _ _ _ _ _ _ _ _ y) ?_
  unfold kernelRun0_A
  dsimp only
  refine View.allAt_cons_unit (S := S8x512) ![0, 0] S8x512.size (by decide) _ _ (fun x hx =>
    (Eq.trans (b := (bY (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) x : EReal)) (by sl_kernel_rfl)
      (by rw [harg1.read_unread, harg2.read_unread, harg3.read_unread, harg4.read_unread, harg5.read_unread, harg6.read_unread, harg7.read_unread, harg8.read_unread,
            harg9.read_unread]
          refine congrArg (bY x0 x1 x2 x3 x4 x5 x6 x7 x8) (funext fun a => Fin.ext ?_)
          have := hx a
          match a with
          | ⟨0, _⟩ => exact (this.trans (Nat.zero_add _)).symm
          | ⟨1, _⟩ => exact (this.trans (Nat.zero_add _)).symm))) ?_
  exact View.allAt_nil _ _

/-- The convolution's states, as the call leaves them. -/
theorem out11_eq (c : Dev nD) (i : grid0.Coords) (arg1 : Memref sig .tc .vmem S8x1536 .f32) (harg1 : arg1.IsWhole) (arg2 : Memref sig .tc .vmem S8x512 .f32) (harg2 : arg2.IsWhole) (arg3 : Memref sig .tc .vmem S8x128 .f32) (harg3 : arg3.IsWhole) (arg4 : Memref sig .tc .vmem S8x3x1536 .f32) (harg4 : arg4.IsWhole) (arg5 : Memref sig .tc .vmem S1x8x4x128x128 .f32) (harg5 : arg5.IsWhole) (arg6 : Memref sig .tc .vmem S4x1536 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg11 : Memref sig .tc .vmem S8x512 .f32) (harg11 : arg11.IsWhole) (arg12 : Memref sig .tc .vmem S1x8x4x128x128 .f32) (harg12 : arg12.IsWhole) (arg13 : Memref sig .tc .vmem S8x3x1536 .f32) (harg13 : arg13.IsWhole)
   (x0 : Vec Ideal S8x1536 .f32) (x1 : Vec Ideal S8x512 .f32) (x2 : Vec Ideal S8x128 .f32) (x3 : Vec Ideal S8x3x1536 .f32) (x4 : Vec Ideal S1x8x4x128x128 .f32) (x5 : Vec Ideal S4x1536 .f32) (x6 : Vec Ideal S1x128 .f32) (x7 : Vec Ideal S1x128 .f32) (x8 : Vec Ideal S1x128 .f32) (y : S8x3x1536.Idx) :
    (out0_A_11 c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 y : EReal) = (rowOf x0 x1 x2 x3 x4 x5 x6 x7 x8 (y 0)).shift (y 1) (y 2) := by
  unfold out0_A_11
  rw [View.read_writes_eq_canon _ _ _ (cover0_A_11 c i _ _ _ _ _ _ _ _ _ _ _ _ _ _ _ _ _ _ _ _ _ _ _ _ _ _ _ _ _ _ _ _ _)]
  refine View.canon_eq_of_allAt _ y _ (cover0_A_11 c i _ _ _ _ _ _ _ _ _ _ _ _ _ _ _ _ _ _ _ _ _ _ _ _ _ _ _ _ _ _ _ _ _ y) ?_
  unfold kernelRun0_A
  dsimp only
  have a (r : Fin 8) (x : S1x1x1536.Idx) (hx : ∀ a, (y a : ℕ) = (![r.val, 2, 0] : Fin 3 → Nat) a + x a) :
      (added (arg1.view.read (Elt Ideal) (harg1.unread x0)) r x : EReal) = (rowOf x0 x1 x2 x3 x4 x5 x6 x7 x8 (y 0)).shift (y 1) (y 2) := by
    rw [harg1.read_unread]
    exact added_eq x0 x1 x2 x3 x4 x5 x6 x7 x8 r x y hx
  have k (r : Fin 8) (x : S1x2x1536.Idx) (hx : ∀ a, (y a : ℕ) = (![r.val, 0, 0] : Fin 3 → Nat) a + x a) :
      (kept (arg4.view.read (Elt Ideal) (harg4.unread x3)) r x : EReal) = (rowOf x0 x1 x2 x3 x4 x5 x6 x7 x8 (y 0)).shift (y 1) (y 2) := by
    rw [harg4.read_unread]
    exact kept_eq x0 x1 x2 x3 x4 x5 x6 x7 x8 r x y hx
  refine View.allAt_cons_unit (S := S8x3x1536) ![7, 2, 0] S1x1x1536.size (by decide) _ _ (fun x hx => Eq.trans (by sl_kernel_rfl) (a 7 x hx)) ?_
  refine View.allAt_cons_unit (S := S8x3x1536) ![7, 0, 0] S1x2x1536.size (by decide) _ _ (fun x hx => Eq.trans (by sl_kernel_rfl) (k 7 x hx)) ?_
  refine View.allAt_cons_unit (S := S8x3x1536) ![6, 2, 0] S1x1x1536.size (by decide) _ _ (fun x hx => Eq.trans (by sl_kernel_rfl) (a 6 x hx)) ?_
  refine View.allAt_cons_unit (S := S8x3x1536) ![6, 0, 0] S1x2x1536.size (by decide) _ _ (fun x hx => Eq.trans (by sl_kernel_rfl) (k 6 x hx)) ?_
  refine View.allAt_cons_unit (S := S8x3x1536) ![5, 2, 0] S1x1x1536.size (by decide) _ _ (fun x hx => Eq.trans (by sl_kernel_rfl) (a 5 x hx)) ?_
  refine View.allAt_cons_unit (S := S8x3x1536) ![5, 0, 0] S1x2x1536.size (by decide) _ _ (fun x hx => Eq.trans (by sl_kernel_rfl) (k 5 x hx)) ?_
  refine View.allAt_cons_unit (S := S8x3x1536) ![4, 2, 0] S1x1x1536.size (by decide) _ _ (fun x hx => Eq.trans (by sl_kernel_rfl) (a 4 x hx)) ?_
  refine View.allAt_cons_unit (S := S8x3x1536) ![4, 0, 0] S1x2x1536.size (by decide) _ _ (fun x hx => Eq.trans (by sl_kernel_rfl) (k 4 x hx)) ?_
  refine View.allAt_cons_unit (S := S8x3x1536) ![3, 2, 0] S1x1x1536.size (by decide) _ _ (fun x hx => Eq.trans (by sl_kernel_rfl) (a 3 x hx)) ?_
  refine View.allAt_cons_unit (S := S8x3x1536) ![3, 0, 0] S1x2x1536.size (by decide) _ _ (fun x hx => Eq.trans (by sl_kernel_rfl) (k 3 x hx)) ?_
  refine View.allAt_cons_unit (S := S8x3x1536) ![2, 2, 0] S1x1x1536.size (by decide) _ _ (fun x hx => Eq.trans (by sl_kernel_rfl) (a 2 x hx)) ?_
  refine View.allAt_cons_unit (S := S8x3x1536) ![2, 0, 0] S1x2x1536.size (by decide) _ _ (fun x hx => Eq.trans (by sl_kernel_rfl) (k 2 x hx)) ?_
  refine View.allAt_cons_unit (S := S8x3x1536) ![1, 2, 0] S1x1x1536.size (by decide) _ _ (fun x hx => Eq.trans (by sl_kernel_rfl) (a 1 x hx)) ?_
  refine View.allAt_cons_unit (S := S8x3x1536) ![1, 0, 0] S1x2x1536.size (by decide) _ _ (fun x hx => Eq.trans (by sl_kernel_rfl) (k 1 x hx)) ?_
  refine View.allAt_cons_unit (S := S8x3x1536) ![0, 2, 0] S1x1x1536.size (by decide) _ _ (fun x hx => Eq.trans (by sl_kernel_rfl) (a 0 x hx)) ?_
  refine View.allAt_cons_unit (S := S8x3x1536) ![0, 0, 0] S1x2x1536.size (by decide) _ _ (fun x hx => Eq.trans (by sl_kernel_rfl) (k 0 x hx)) ?_
  exact View.allAt_nil _ _

end Cert.Proof.DnBody
-- ==== Proof.DnSpec.lean ====
/-
  The delta step over the whole batch: the row a token of the batch is, read off the call's eight arguments, and the three result
  arrays, row by row.
-/
module

public import proofs.«01_k».proof.Defs
public import proofs.«01_k».proof.Proof.DnRow

@[expose] public section

noncomputable section

namespace Cert.Proof.DnSpec

open Idealize.ShloMosaic Idealize.ShloMosaic.ValueIdx
open Cert.DnSampleIdeal
open Cert.Proof.DnRow (Row)

variable (x0 : S32x2176.Idx → EReal) (x1 : S4x32x3x1536.Idx → EReal) (x2 x3 : S4x32x4x128x128.Idx → EReal) (x4 : S4x4x1536.Idx → EReal)
  (x5 x6 : S4x4.Idx → EReal) (x7 : S4x128.Idx → EReal)

/-- What row `b` of the batch reads, at the layer the call works on. -/
def Rw (b : Fin 32) : Row where
  x c := x0 (ix2 b ⟨c.val, by omega⟩)
  cv j c := x1 (ix4 1 b j c)
  w j c := x4 (ix3 1 j c)
  za h := x0 (ix2 b ⟨2048 + h.val, by omega⟩)
  zb h := x0 (ix2 b ⟨2052 + h.val, by omega⟩)
  al h := x5 (ix2 1 h)
  db h := x6 (ix2 1 h)
  s h k d := x2 (ix5 1 b h k d)
  zg c := x0 (ix2 b ⟨1536 + c.val, by omega⟩)
  ng d := x7 (ix2 1 d)

/-- The head of a column of the result. -/
def head (i : S32x512.Idx) : Fin 4 := ⟨(i 1).val / 128, by have h : (i 1).val < 512 := (i 1).isLt; omega⟩
/-- Its place in the head. -/
def lane (i : S32x512.Idx) : Fin 128 := ⟨(i 1).val % 128, by omega⟩

/-- The rows' results. -/
def yA : S32x512.Idx → EReal := fun i => (Rw x0 x1 x2 x4 x5 x6 x7 (i 0)).y (head i) (lane i)

/-- The states: those of the layer after the token, the others as they were. -/
def stA : S4x32x4x128x128.Idx → EReal := fun i =>
  if (i 0).val = 1 then (Rw x0 x1 x2 x4 x5 x6 x7 (i 1)).new (i 2) (i 3) (i 4) else x3 i

/-- The convolution's state after the token. -/
def cvA : S32x3x1536.Idx → EReal := fun i => (Rw x0 x1 x2 x4 x5 x6 x7 (i 0)).shift (i 1) (i 2)

end Cert.Proof.DnSpec
-- ==== Proof.DnRef.lean ====
/-
  The delta step's reference, stage by stage: every array it forms, read at an index, is the matching expression of the row.
-/
module

public import proofs.«01_k».proof.Defs
public import proofs.«01_k».proof.Proof.Gen.DnSampleRefIdeal.Read
public import proofs.«01_k».proof.Proof.DnSpec

@[expose] public section

noncomputable section

namespace Cert.Proof.DnRef

open Idealize.ShloMosaic Idealize.ShloMosaic.ValueIdx
open Cert.DnSampleRefIdeal Cert.DnSampleRefIdeal.Read
open Cert.Proof.DnSpec Cert.Proof.DnRow

variable (x0 : S32x2176.Idx → EReal) (x1 : S4x32x3x1536.Idx → EReal) (x2 x3 : S4x32x4x128x128.Idx → EReal) (x4 : S4x4x1536.Idx → EReal)
  (x5 x6 : S4x4.Idx → EReal) (x7 : S4x128.Idx → EReal)

theorem w0 (b : Fin 32) (c : Fin 1536) : (val_main_v8 (F := Ideal) x4 : S32x1536.Idx → EReal) (ix2 b c) = x4 (ix3 1 0 c) := by
  rw [val_main_v8_apply, val_main_v7_apply, val_main_v4_apply, val_main_v3_apply, val_main_v2_apply, val_main_v1_apply]
  exact congrArg x4 (funext fun a => Fin.ext (by
      match a with
      | ⟨0, _⟩ => rfl
      | ⟨1, _⟩ => show (0 * 1536 + c.val % 1536) / 1536 % 4 = 0; omega
      | ⟨2, _⟩ => show (0 * 1536 + c.val % 1536) % 1536 = c.val; omega))

theorem w1 (b : Fin 32) (c : Fin 1536) : (val_main_v15 (F := Ideal) x4 : S32x1536.Idx → EReal) (ix2 b c) = x4 (ix3 1 1 c) := by
  rw [val_main_v15_apply, val_main_v14_apply, val_main_v11_apply, val_main_v10_apply, val_main_v2_apply, val_main_v1_apply]
  exact congrArg x4 (funext fun a => Fin.ext (by
      match a with
      | ⟨0, _⟩ => rfl
      | ⟨1, _⟩ => show (1 * 1536 + c.val % 1536) / 1536 % 4 = 1; omega
      | ⟨2, _⟩ => show (1 * 1536 + c.val % 1536) % 1536 = c.val; omega))

theorem w2 (b : Fin 32) (c : Fin 1536) : (val_main_v23 (F := Ideal) x4 : S32x1536.Idx → EReal) (ix2 b c) = x4 (ix3 1 2 c) := by
  rw [val_main_v23_apply, val_main_v22_apply, val_main_v19_apply, val_main_v18_apply, val_main_v2_apply, val_main_v1_apply]
  exact congrArg x4 (funext fun a => Fin.ext (by
      match a with
      | ⟨0, _⟩ => rfl
      | ⟨1, _⟩ => show (2 * 1536 + c.val % 1536) / 1536 % 4 = 2; omega
      | ⟨2, _⟩ => show (2 * 1536 + c.val % 1536) % 1536 = c.val; omega))

theorem w3 (b : Fin 32) (c : Fin 1536) : (val_main_v29 (F := Ideal) x4 : S32x1536.Idx → EReal) (ix2 b c) = x4 (ix3 1 3 c) := by
  rw [val_main_v29_apply, val_main_v28_apply, val_main_v27_apply, val_main_v26_apply, val_main_v2_apply, val_main_v1_apply]
  exact congrArg x4 (funext fun a => Fin.ext (by
      match a with
      | ⟨0, _⟩ => rfl
      | ⟨1, _⟩ => show (3 * 1536 + c.val % 1536) / 1536 % 4 = 3; omega
      | ⟨2, _⟩ => show (3 * 1536 + c.val % 1536) % 1536 = c.val; omega))

theorem cv0 (b : Fin 32) (c : Fin 1536) : (val_main_v6 (F := Ideal) x1 : S32x1536.Idx → EReal) (ix2 b c) = x1 (ix4 1 b 0 c) := by
  rw [val_main_v6_apply, val_main_v5_apply]
  exact congrArg x1 (funext fun a => Fin.ext (by
      match a with
      | ⟨0, _⟩ => rfl
      | ⟨1, _⟩ => show (b.val * 1536 + c.val) / 1536 % 32 = b.val; omega
      | ⟨2, _⟩ => rfl
      | ⟨3, _⟩ => show (b.val * 1536 + c.val) % 1536 = c.val; omega))

theorem cv1 (b : Fin 32) (c : Fin 1536) : (val_main_v13 (F := Ideal) x1 : S32x1536.Idx → EReal) (ix2 b c) = x1 (ix4 1 b 1 c) := by
  rw [val_main_v13_apply, val_main_v12_apply]
  exact congrArg x1 (funext fun a => Fin.ext (by
      match a with
      | ⟨0, _⟩ => rfl
      | ⟨1, _⟩ => show (b.val * 1536 + c.val) / 1536 % 32 = b.val; omega
      | ⟨2, _⟩ => rfl
      | ⟨3, _⟩ => show (b.val * 1536 + c.val) % 1536 = c.val; omega))

theorem cv2 (b : Fin 32) (c : Fin 1536) : (val_main_v21 (F := Ideal) x1 : S32x1536.Idx → EReal) (ix2 b c) = x1 (ix4 1 b 2 c) := by
  rw [val_main_v21_apply, val_main_v20_apply]
  exact congrArg x1 (funext fun a => Fin.ext (by
      match a with
      | ⟨0, _⟩ => rfl
      | ⟨1, _⟩ => show (b.val * 1536 + c.val) / 1536 % 32 = b.val; omega
      | ⟨2, _⟩ => rfl
      | ⟨3, _⟩ => show (b.val * 1536 + c.val) % 1536 = c.val; omega))

theorem tap_at (b : Fin 32) (c : Fin 1536) : (val_main_v31 (F := Ideal) x0 x1 x4 : S32x1536.Idx → EReal) (ix2 b c) = (Rw x0 x1 x2 x4 x5 x6 x7 b).tap c := by
  show (((val_main_v8 (F := Ideal) x4 : S32x1536.Idx → EReal) (ix2 b c) * (val_main_v6 (F := Ideal) x1 : S32x1536.Idx → EReal) (ix2 b c) + (val_main_v15 (F := Ideal) x4 : S32x1536.Idx → EReal) (ix2 b c) * (val_main_v13 (F := Ideal) x1 : S32x1536.Idx → EReal) (ix2 b c)) + (val_main_v23 (F := Ideal) x4 : S32x1536.Idx → EReal) (ix2 b c) * (val_main_v21 (F := Ideal) x1 : S32x1536.Idx → EReal) (ix2 b c)) + (val_main_v29 (F := Ideal) x4 : S32x1536.Idx → EReal) (ix2 b c) * (val_main_v0 (F := Ideal) x0 : S32x1536.Idx → EReal) (ix2 b c) = _
  rw [w0, w1, w2, w3, cv0, cv1, cv2, val_main_v0_apply]
  refine congrArg (fun z : EReal => ((x4 (ix3 1 0 c) * x1 (ix4 1 b 0 c) + x4 (ix3 1 1 c) * x1 (ix4 1 b 1 c)) + x4 (ix3 1 2 c) * x1 (ix4 1 b 2 c)) + x4 (ix3 1 3 c) * z) ?_
  exact congrArg x0 (funext fun a => match a with | ⟨0, _⟩ => rfl | ⟨1, _⟩ => rfl)

theorem act_at (b : Fin 32) (c : Fin 1536) : (val_main_v32 (F := Ideal) x0 x1 x4 : S32x1536.Idx → EReal) (ix2 b c) = (Rw x0 x1 x2 x4 x5 x6 x7 b).act c := by
  rw [val_main_v32_apply, val_main_call0_v5_apply, val_main_call0_v4_apply, val_main_call0_v3_apply, val_main_call0_v2_apply, val_main_call0_v1_apply, val_main_call0_v0_apply, val_main_call0_cst_apply, val_main_call0_cst_0_apply]
  show (val_main_v31 (F := Ideal) x0 x1 x4 : S32x1536.Idx → EReal) (ix2 b c) * Ideal.div (Ideal.ofBits .f32 0x3F800000#32) (Ideal.ofBits .f32 0x3F800000#32 + Ideal.exp (-(val_main_v31 (F := Ideal) x0 x1 x4 : S32x1536.Idx → EReal) (ix2 b c))) = _
  rw [tap_at x0 x1 x2 x4 x5 x6 x7, Ideal.ofBits_one_f32]
  rfl

theorem qact_at (b : Fin 32) (h : Fin 4) (d : Fin 128) : (val_main_v35 (F := Ideal) x0 x1 x4 : S32x4x128.Idx → EReal) (ix3 b h d) = (Rw x0 x1 x2 x4 x5 x6 x7 b).act ⟨128 * h.val + d.val, by omega⟩ := by
  rw [val_main_v35_apply, val_main_v34_apply, val_main_v33_apply]
  refine (congrArg (val_main_v32 (F := Ideal) x0 x1 x4 : S32x1536.Idx → EReal) (?_ : _ = ix2 b ⟨128 * h.val + d.val, by omega⟩)).trans (act_at x0 x1 x2 x4 x5 x6 x7 b _)
  exact funext fun a => Fin.ext (by
      match a with
      | ⟨0, _⟩ => show (((((b.val * 4 + h.val) * 128 + d.val) / 512 * 3 + 0) * 4 + ((b.val * 4 + h.val) * 128 + d.val) / 128 % 4) * 128 + ((b.val * 4 + h.val) * 128 + d.val) % 128) / 1536 = b.val; omega
      | ⟨1, _⟩ => show (((((b.val * 4 + h.val) * 128 + d.val) / 512 * 3 + 0) * 4 + ((b.val * 4 + h.val) * 128 + d.val) / 128 % 4) * 128 + ((b.val * 4 + h.val) * 128 + d.val) % 128) % 1536 = 128 * h.val + d.val; omega)

theorem kact_at (b : Fin 32) (h : Fin 4) (d : Fin 128) : (val_main_v47 (F := Ideal) x0 x1 x4 : S32x4x128.Idx → EReal) (ix3 b h d) = (Rw x0 x1 x2 x4 x5 x6 x7 b).act ⟨512 + 128 * h.val + d.val, by omega⟩ := by
  rw [val_main_v47_apply, val_main_v46_apply, val_main_v33_apply]
  refine (congrArg (val_main_v32 (F := Ideal) x0 x1 x4 : S32x1536.Idx → EReal) (?_ : _ = ix2 b ⟨512 + 128 * h.val + d.val, by omega⟩)).trans (act_at x0 x1 x2 x4 x5 x6 x7 b _)
  exact funext fun a => Fin.ext (by
      match a with
      | ⟨0, _⟩ => show (((((b.val * 4 + h.val) * 128 + d.val) / 512 * 3 + 1) * 4 + ((b.val * 4 + h.val) * 128 + d.val) / 128 % 4) * 128 + ((b.val * 4 + h.val) * 128 + d.val) % 128) / 1536 = b.val; omega
      | ⟨1, _⟩ => show (((((b.val * 4 + h.val) * 128 + d.val) / 512 * 3 + 1) * 4 + ((b.val * 4 + h.val) * 128 + d.val) / 128 % 4) * 128 + ((b.val * 4 + h.val) * 128 + d.val) % 128) % 1536 = 512 + 128 * h.val + d.val; omega)

theorem vact_at (b : Fin 32) (h : Fin 4) (d : Fin 128) : (val_main_v57 (F := Ideal) x0 x1 x4 : S32x4x128.Idx → EReal) (ix3 b h d) = (Rw x0 x1 x2 x4 x5 x6 x7 b).act ⟨1024 + 128 * h.val + d.val, by omega⟩ := by
  rw [val_main_v57_apply, val_main_v56_apply, val_main_v33_apply]
  refine (congrArg (val_main_v32 (F := Ideal) x0 x1 x4 : S32x1536.Idx → EReal) (?_ : _ = ix2 b ⟨1024 + 128 * h.val + d.val, by omega⟩)).trans (act_at x0 x1 x2 x4 x5 x6 x7 b _)
  exact funext fun a => Fin.ext (by
      match a with
      | ⟨0, _⟩ => show (((((b.val * 4 + h.val) * 128 + d.val) / 512 * 3 + 2) * 4 + ((b.val * 4 + h.val) * 128 + d.val) / 128 % 4) * 128 + ((b.val * 4 + h.val) * 128 + d.val) % 128) / 1536 = b.val; omega
      | ⟨1, _⟩ => show (((((b.val * 4 + h.val) * 128 + d.val) / 512 * 3 + 2) * 4 + ((b.val * 4 + h.val) * 128 + d.val) / 128 % 4) * 128 + ((b.val * 4 + h.val) * 128 + d.val) % 128) % 1536 = 1024 + 128 * h.val + d.val; omega)

theorem qsq_at (b : Fin 32) (h : Fin 4) : (val_main_v37 (F := Ideal) x0 x1 x4 : S32x4.Idx → EReal) (ix2 b h)
    = ∑ k : Fin 128, (Rw x0 x1 x2 x4 x5 x6 x7 b).act ⟨128 * h.val + k.val, by omega⟩ * (Rw x0 x1 x2 x4 x5 x6 x7 b).act ⟨128 * h.val + k.val, by omega⟩ := by
  rw [val_main_v37_apply, val_main_cst_apply]
  refine (congrArg (fun z : EReal => z + _) Ideal.ofBits_zero_f32).trans ((zero_add _).trans (Finset.sum_congr rfl fun k _ => ?_))
  rw [val_main_v36_apply]
  refine (congrArg (fun i => (val_main_v35 (F := Ideal) x0 x1 x4 : S32x4x128.Idx → EReal) i * (val_main_v35 (F := Ideal) x0 x1 x4 : S32x4x128.Idx → EReal) i) (?_ : _ = ix3 b h k)).trans
    (congrArg (fun z : EReal => z * z) (qact_at x0 x1 x2 x4 x5 x6 x7 b h k))
  exact funext fun a => match a with | ⟨0, _⟩ => rfl | ⟨1, _⟩ => rfl | ⟨2, _⟩ => rfl

theorem ksq_at (b : Fin 32) (h : Fin 4) : (val_main_v49 (F := Ideal) x0 x1 x4 : S32x4.Idx → EReal) (ix2 b h)
    = ∑ k : Fin 128, (Rw x0 x1 x2 x4 x5 x6 x7 b).act ⟨512 + 128 * h.val + k.val, by omega⟩ * (Rw x0 x1 x2 x4 x5 x6 x7 b).act ⟨512 + 128 * h.val + k.val, by omega⟩ := by
  rw [val_main_v49_apply, val_main_cst_2_apply]
  refine (congrArg (fun z : EReal => z + _) Ideal.ofBits_zero_f32).trans ((zero_add _).trans (Finset.sum_congr rfl fun k _ => ?_))
  rw [val_main_v48_apply]
  refine (congrArg (fun i => (val_main_v47 (F := Ideal) x0 x1 x4 : S32x4x128.Idx → EReal) i * (val_main_v47 (F := Ideal) x0 x1 x4 : S32x4x128.Idx → EReal) i) (?_ : _ = ix3 b h k)).trans
    (congrArg (fun z : EReal => z * z) (kact_at x0 x1 x2 x4 x5 x6 x7 b h k))
  exact funext fun a => match a with | ⟨0, _⟩ => rfl | ⟨1, _⟩ => rfl | ⟨2, _⟩ => rfl

theorem q_at (b : Fin 32) (h : Fin 4) (d : Fin 128) : (val_main_v45 (F := Ideal) x0 x1 x4 : S32x4x128.Idx → EReal) (ix3 b h d) = (Rw x0 x1 x2 x4 x5 x6 x7 b).q h d := by
  rw [val_main_v45_apply, val_main_v44_apply, val_main_cst_1_apply, val_main_v43_apply, val_main_v42_apply, val_main_v41_apply, val_main_v40_apply, val_main_v39_apply, val_main_cst_0_apply, val_main_v38_apply]
  refine congrArg₂ (fun a b : EReal => a * Ideal.rsqrt (b + eps) * qscale) (qact_at x0 x1 x2 x4 x5 x6 x7 b h d) ?_
  refine (congrArg (val_main_v37 (F := Ideal) x0 x1 x4 : S32x4.Idx → EReal) (?_ : _ = ix2 b h)).trans (qsq_at x0 x1 x2 x4 x5 x6 x7 b h)
  exact funext fun a => match a with | ⟨0, _⟩ => rfl | ⟨1, _⟩ => rfl

theorem k_at (b : Fin 32) (h : Fin 4) (d : Fin 128) : (val_main_v55 (F := Ideal) x0 x1 x4 : S32x4x128.Idx → EReal) (ix3 b h d) = (Rw x0 x1 x2 x4 x5 x6 x7 b).k h d := by
  rw [val_main_v55_apply, val_main_v54_apply, val_main_v53_apply, val_main_v52_apply, val_main_v51_apply, val_main_cst_3_apply, val_main_v50_apply]
  refine congrArg₂ (fun a b : EReal => a * Ideal.rsqrt (b + eps)) (kact_at x0 x1 x2 x4 x5 x6 x7 b h d) ?_
  refine (congrArg (val_main_v49 (F := Ideal) x0 x1 x4 : S32x4.Idx → EReal) (?_ : _ = ix2 b h)).trans (ksq_at x0 x1 x2 x4 x5 x6 x7 b h)
  exact funext fun a => match a with | ⟨0, _⟩ => rfl | ⟨1, _⟩ => rfl

theorem v_at (b : Fin 32) (h : Fin 4) (d : Fin 128) : (val_main_v57 (F := Ideal) x0 x1 x4 : S32x4x128.Idx → EReal) (ix3 b h d) = (Rw x0 x1 x2 x4 x5 x6 x7 b).v h d :=
  vact_at x0 x1 x2 x4 x5 x6 x7 b h d

/-! ## The gates -/

theorem t_at (b : Fin 32) (h : Fin 4) : (val_main_v67 (F := Ideal) x0 x6 : S32x4.Idx → EReal) (ix2 b h) = (Rw x0 x1 x2 x4 x5 x6 x7 b).za h + (Rw x0 x1 x2 x4 x5 x6 x7 b).db h := by
  rw [val_main_v67_apply, val_main_v62_apply, val_main_v66_apply, val_main_v65_apply, val_main_v64_apply, val_main_v63_apply]
  refine congrArg₂ (fun a b : EReal => a + b) ?_ ?_
  · exact congrArg x0 (funext fun a => match a with | ⟨0, _⟩ => rfl | ⟨1, _⟩ => rfl)
  · exact congrArg x6 (funext fun a => Fin.ext (by
      match a with
      | ⟨0, _⟩ => rfl
      | ⟨1, _⟩ => show h.val % 4 = h.val; omega))

theorem ramp_at (b : Fin 32) (h : Fin 4) : (val_main_v68 (F := Ideal) x0 x6 : S32x4.Idx → EReal) (ix2 b h) = ramp ((Rw x0 x1 x2 x4 x5 x6 x7 b).za h + (Rw x0 x1 x2 x4 x5 x6 x7 b).db h) := by
  rw [val_main_v68_apply, val_main_call1_v4_apply, val_main_call1_v6_apply, val_main_call1_v11_apply, val_main_call1_v1_apply, val_main_call1_v10_apply, val_main_call1_v9_apply, val_main_call1_v8_apply, val_main_call1_v7_apply, val_main_call1_v3_apply, val_main_call1_v0_apply, val_main_call1_v2_apply, val_main_call1_v5_apply, val_main_call1_cst_apply]
  show Scalar.select (Ideal.cmp .une ((val_main_v67 (F := Ideal) x0 x6 : S32x4.Idx → EReal) (ix2 b h) - Ideal.ofBits .f32 0x00000000#32) ((val_main_v67 (F := Ideal) x0 x6 : S32x4.Idx → EReal) (ix2 b h) - Ideal.ofBits .f32 0x00000000#32))
    ((val_main_v67 (F := Ideal) x0 x6 : S32x4.Idx → EReal) (ix2 b h) + Ideal.ofBits .f32 0x00000000#32) (max ((val_main_v67 (F := Ideal) x0 x6 : S32x4.Idx → EReal) (ix2 b h)) (Ideal.ofBits .f32 0x00000000#32)
      + Ideal.log1p (Ideal.exp (-max ((val_main_v67 (F := Ideal) x0 x6 : S32x4.Idx → EReal) (ix2 b h) - Ideal.ofBits .f32 0x00000000#32) (-((val_main_v67 (F := Ideal) x0 x6 : S32x4.Idx → EReal) (ix2 b h) - Ideal.ofBits .f32 0x00000000#32))))) = _
  rw [t_at x0 x1 x2 x4 x5 x6 x7, Ideal.ofBits_zero_f32, show ∀ z : EReal, Ideal.cmp .une z z = 0#1 from fun z => by simp [Ideal.cmp]]
  rfl

theorem decay_at (b : Fin 32) (h : Fin 4) : (val_main_v72 (F := Ideal) x0 x5 x6 : S32x4.Idx → EReal) (ix2 b h) = (Rw x0 x1 x2 x4 x5 x6 x7 b).decay h := by
  rw [val_main_v72_apply, val_main_v71_apply, val_main_v70_apply, val_main_v69_apply, val_main_v61_apply, val_main_v60_apply, val_main_v59_apply, val_main_v58_apply]
  refine congrArg₂ (fun a b : EReal => Ideal.exp (-Ideal.exp a * b)) ?_ (ramp_at x0 x1 x2 x4 x5 x6 x7 b h)
  exact congrArg x5 (funext fun a => Fin.ext (by
      match a with
      | ⟨0, _⟩ => rfl
      | ⟨1, _⟩ => show h.val % 4 = h.val; omega))

theorem beta_at (b : Fin 32) (h : Fin 4) : (val_main_v79 (F := Ideal) x0 : S32x4.Idx → EReal) (ix2 b h) = (Rw x0 x1 x2 x4 x5 x6 x7 b).beta h := by
  rw [val_main_v79_apply, val_main_v78_apply, val_main_v77_apply, val_main_v76_apply, val_main_v75_apply, val_main_v74_apply, val_main_v73_apply, val_main_cst_4_apply, val_main_cst_5_apply]
  show Ideal.div (Ideal.ofBits .f32 0x3F800000#32) (Ideal.ofBits .f32 0x3F800000#32 + Ideal.exp (-x0 _)) = _
  rw [Ideal.ofBits_one_f32]
  refine congrArg (fun i => Ideal.logistic (x0 i)) (funext fun a => match a with | ⟨0, _⟩ => rfl | ⟨1, _⟩ => rfl)

theorem s88 (b : Fin 32) (h : Fin 4) (k d : Fin 128) : (val_main_v88 (F := Ideal) x2 : S32x4x128x128.Idx → EReal) (ix4 b h k d) = (Rw x0 x1 x2 x4 x5 x6 x7 b).s h k d := by
  rw [val_main_v88_apply, val_main_v87_apply]
  exact congrArg x2 (funext fun a => Fin.ext (by
      match a with
      | ⟨0, _⟩ => rfl
      | ⟨1, _⟩ => show (((b.val * 4 + h.val) * 128 + k.val) * 128 + d.val) / 65536 % 32 = b.val; omega
      | ⟨2, _⟩ => show (((b.val * 4 + h.val) * 128 + k.val) * 128 + d.val) / 16384 % 4 = h.val; omega
      | ⟨3, _⟩ => show (((b.val * 4 + h.val) * 128 + k.val) * 128 + d.val) / 128 % 128 = k.val; omega
      | ⟨4, _⟩ => show (((b.val * 4 + h.val) * 128 + k.val) * 128 + d.val) % 128 = d.val; omega))

theorem s95 (b : Fin 32) (h : Fin 4) (k d : Fin 128) : (val_main_v95 (F := Ideal) x2 : S32x4x128x128.Idx → EReal) (ix4 b h k d) = (Rw x0 x1 x2 x4 x5 x6 x7 b).s h k d := by
  rw [val_main_v95_apply, val_main_v94_apply]
  exact congrArg x2 (funext fun a => Fin.ext (by
      match a with
      | ⟨0, _⟩ => rfl
      | ⟨1, _⟩ => show (((b.val * 4 + h.val) * 128 + k.val) * 128 + d.val) / 65536 % 32 = b.val; omega
      | ⟨2, _⟩ => show (((b.val * 4 + h.val) * 128 + k.val) * 128 + d.val) / 16384 % 4 = h.val; omega
      | ⟨3, _⟩ => show (((b.val * 4 + h.val) * 128 + k.val) * 128 + d.val) / 128 % 128 = k.val; omega
      | ⟨4, _⟩ => show (((b.val * 4 + h.val) * 128 + k.val) * 128 + d.val) % 128 = d.val; omega))

theorem s105 (b : Fin 32) (h : Fin 4) (k d : Fin 128) : (val_main_v105 (F := Ideal) x2 : S32x4x128x128.Idx → EReal) (ix4 b h k d) = (Rw x0 x1 x2 x4 x5 x6 x7 b).s h k d := by
  rw [val_main_v105_apply, val_main_v104_apply]
  exact congrArg x2 (funext fun a => Fin.ext (by
      match a with
      | ⟨0, _⟩ => rfl
      | ⟨1, _⟩ => show (((b.val * 4 + h.val) * 128 + k.val) * 128 + d.val) / 65536 % 32 = b.val; omega
      | ⟨2, _⟩ => show (((b.val * 4 + h.val) * 128 + k.val) * 128 + d.val) / 16384 % 4 = h.val; omega
      | ⟨3, _⟩ => show (((b.val * 4 + h.val) * 128 + k.val) * 128 + d.val) / 128 % 128 = k.val; omega
      | ⟨4, _⟩ => show (((b.val * 4 + h.val) * 128 + k.val) * 128 + d.val) % 128 = d.val; omega))

/-! ## The step -/

theorem write_at (b : Fin 32) (h : Fin 4) (k : Fin 128) : (val_main_v86 (F := Ideal) x0 x1 x4 x5 x6 : S32x4x128.Idx → EReal) (ix3 b h k) = (Rw x0 x1 x2 x4 x5 x6 x7 b).beta h * (Rw x0 x1 x2 x4 x5 x6 x7 b).decay h * (Rw x0 x1 x2 x4 x5 x6 x7 b).k h k := by
  rw [val_main_v86_apply, val_main_v85_apply, val_main_v84_apply, val_main_v83_apply]
  refine congrArg₂ (fun a b : EReal => a * b) (congrArg₂ (fun a b : EReal => a * b) ?_ ?_) (k_at x0 x1 x2 x4 x5 x6 x7 b h k)
  · refine (congrArg (val_main_v79 (F := Ideal) x0 : S32x4.Idx → EReal) (?_ : _ = ix2 b h)).trans (beta_at x0 x1 x2 x4 x5 x6 x7 b h)
    exact funext fun a => match a with | ⟨0, _⟩ => rfl | ⟨1, _⟩ => rfl
  · refine (congrArg (val_main_v72 (F := Ideal) x0 x5 x6 : S32x4.Idx → EReal) (?_ : _ = ix2 b h)).trans (decay_at x0 x1 x2 x4 x5 x6 x7 b h)
    exact funext fun a => match a with | ⟨0, _⟩ => rfl | ⟨1, _⟩ => rfl

theorem upd_at (b : Fin 32) (h : Fin 4) (d : Fin 128) : (val_main_v90 (F := Ideal) x0 x1 x2 x4 x5 x6 : S32x4x128.Idx → EReal) (ix3 b h d) = (Rw x0 x1 x2 x4 x5 x6 x7 b).upd h d := by
  rw [val_main_v90_apply, val_main_v82_apply, val_main_v81_apply, val_main_v80_apply, val_main_v89_apply]
  refine congrArg₂ (fun a b : EReal => a - b) (congrArg₂ (fun a b : EReal => a * b) ?_ (v_at x0 x1 x2 x4 x5 x6 x7 b h d))
    (Finset.sum_congr rfl fun k _ => congrArg₂ (fun a b : EReal => a * b) ?_ ?_)
  · refine (congrArg (val_main_v79 (F := Ideal) x0 : S32x4.Idx → EReal) (?_ : _ = ix2 b h)).trans (beta_at x0 x1 x2 x4 x5 x6 x7 b h)
    exact funext fun a => match a with | ⟨0, _⟩ => rfl | ⟨1, _⟩ => rfl
  · refine (congrArg (val_main_v86 (F := Ideal) x0 x1 x4 x5 x6 : S32x4x128.Idx → EReal) (?_ : _ = ix3 b h k)).trans (write_at x0 x1 x2 x4 x5 x6 x7 b h k)
    exact funext fun a => match a with | ⟨0, _⟩ => rfl | ⟨1, _⟩ => rfl | ⟨2, _⟩ => rfl
  · refine (congrArg (val_main_v88 (F := Ideal) x2 : S32x4x128x128.Idx → EReal) (?_ : _ = ix4 b h k d)).trans (s88 x0 x1 x2 x4 x5 x6 x7 b h k d)
    exact funext fun a => match a with | ⟨0, _⟩ => rfl | ⟨1, _⟩ => rfl | ⟨2, _⟩ => rfl | ⟨3, _⟩ => rfl

theorem read_at (b : Fin 32) (h : Fin 4) (k : Fin 128) : (val_main_v93 (F := Ideal) x0 x1 x4 x5 x6 : S32x4x128.Idx → EReal) (ix3 b h k) = (Rw x0 x1 x2 x4 x5 x6 x7 b).q h k * (Rw x0 x1 x2 x4 x5 x6 x7 b).decay h := by
  rw [val_main_v93_apply, val_main_v92_apply, val_main_v91_apply]
  refine congrArg₂ (fun a b : EReal => a * b) (q_at x0 x1 x2 x4 x5 x6 x7 b h k) ?_
  refine (congrArg (val_main_v72 (F := Ideal) x0 x5 x6 : S32x4.Idx → EReal) (?_ : _ = ix2 b h)).trans (decay_at x0 x1 x2 x4 x5 x6 x7 b h)
  exact funext fun a => match a with | ⟨0, _⟩ => rfl | ⟨1, _⟩ => rfl

theorem qk_at (b : Fin 32) (h : Fin 4) : (val_main_v98 (F := Ideal) x0 x1 x4 : S32x4.Idx → EReal) (ix2 b h) = ∑ k : Fin 128, (Rw x0 x1 x2 x4 x5 x6 x7 b).q h k * (Rw x0 x1 x2 x4 x5 x6 x7 b).k h k := by
  rw [val_main_v98_apply, val_main_cst_6_apply]
  refine (congrArg (fun z : EReal => z + _) Ideal.ofBits_zero_f32).trans ((zero_add _).trans (Finset.sum_congr rfl fun k _ => ?_))
  rw [val_main_v97_apply]
  refine (congrArg (fun i => (val_main_v45 (F := Ideal) x0 x1 x4 : S32x4x128.Idx → EReal) i * (val_main_v55 (F := Ideal) x0 x1 x4 : S32x4x128.Idx → EReal) i) (?_ : _ = ix3 b h k)).trans
    (congrArg₂ (fun a b : EReal => a * b) (q_at x0 x1 x2 x4 x5 x6 x7 b h k) (k_at x0 x1 x2 x4 x5 x6 x7 b h k))
  exact funext fun a => match a with | ⟨0, _⟩ => rfl | ⟨1, _⟩ => rfl | ⟨2, _⟩ => rfl

theorem out_at (b : Fin 32) (h : Fin 4) (d : Fin 128) : (val_main_v102 (F := Ideal) x0 x1 x2 x4 x5 x6 : S32x4x128.Idx → EReal) (ix3 b h d) = (Rw x0 x1 x2 x4 x5 x6 x7 b).out h d := by
  rw [val_main_v102_apply, val_main_v96_apply, val_main_v101_apply, val_main_v100_apply, val_main_v99_apply]
  refine congrArg₂ (fun a b : EReal => a + b) (Finset.sum_congr rfl fun k _ => congrArg₂ (fun a b : EReal => a * b) ?_ ?_)
    (congrArg₂ (fun a b : EReal => a * b) ?_ (upd_at x0 x1 x2 x4 x5 x6 x7 b h d))
  · refine (congrArg (val_main_v93 (F := Ideal) x0 x1 x4 x5 x6 : S32x4x128.Idx → EReal) (?_ : _ = ix3 b h k)).trans (read_at x0 x1 x2 x4 x5 x6 x7 b h k)
    exact funext fun a => match a with | ⟨0, _⟩ => rfl | ⟨1, _⟩ => rfl | ⟨2, _⟩ => rfl
  · refine (congrArg (val_main_v95 (F := Ideal) x2 : S32x4x128x128.Idx → EReal) (?_ : _ = ix4 b h k d)).trans (s95 x0 x1 x2 x4 x5 x6 x7 b h k d)
    exact funext fun a => match a with | ⟨0, _⟩ => rfl | ⟨1, _⟩ => rfl | ⟨2, _⟩ => rfl | ⟨3, _⟩ => rfl
  · refine (congrArg (val_main_v98 (F := Ideal) x0 x1 x4 : S32x4.Idx → EReal) (?_ : _ = ix2 b h)).trans (qk_at x0 x1 x2 x4 x5 x6 x7 b h)
    exact funext fun a => match a with | ⟨0, _⟩ => rfl | ⟨1, _⟩ => rfl

theorem new_at (b : Fin 32) (h : Fin 4) (k d : Fin 128) : (val_main_v113 (F := Ideal) x0 x1 x2 x4 x5 x6 : S32x4x128x128.Idx → EReal) (ix4 b h k d) = (Rw x0 x1 x2 x4 x5 x6 x7 b).new h k d := by
  rw [val_main_v113_apply, val_main_v107_apply, val_main_v106_apply, val_main_v103_apply, val_main_v112_apply, val_main_v110_apply, val_main_v108_apply, val_main_v111_apply, val_main_v109_apply]
  refine congrArg₂ (fun a b : EReal => a + b) (congrArg₂ (fun a b : EReal => a * b) ?_ (s105 x0 x1 x2 x4 x5 x6 x7 b h k d))
    (congrArg₂ (fun a b : EReal => a * b) ?_ ?_)
  · refine (congrArg (val_main_v72 (F := Ideal) x0 x5 x6 : S32x4.Idx → EReal) (?_ : _ = ix2 b h)).trans (decay_at x0 x1 x2 x4 x5 x6 x7 b h)
    exact funext fun a => match a with | ⟨0, _⟩ => rfl | ⟨1, _⟩ => rfl
  · refine (congrArg (val_main_v55 (F := Ideal) x0 x1 x4 : S32x4x128.Idx → EReal) (?_ : _ = ix3 b h k)).trans (k_at x0 x1 x2 x4 x5 x6 x7 b h k)
    exact funext fun a => match a with | ⟨0, _⟩ => rfl | ⟨1, _⟩ => rfl | ⟨2, _⟩ => rfl
  · refine (congrArg (val_main_v90 (F := Ideal) x0 x1 x2 x4 x5 x6 : S32x4x128.Idx → EReal) (?_ : _ = ix3 b h d)).trans (upd_at x0 x1 x2 x4 x5 x6 x7 b h d)
    exact funext fun a => match a with | ⟨0, _⟩ => rfl | ⟨1, _⟩ => rfl | ⟨2, _⟩ => rfl

theorem power_at (b : Fin 32) (h : Fin 4) : (val_main_v117 (F := Ideal) x0 x1 x2 x4 x5 x6 : S32x4.Idx → EReal) (ix2 b h) = ∑ k : Fin 128, (Rw x0 x1 x2 x4 x5 x6 x7 b).out h k * (Rw x0 x1 x2 x4 x5 x6 x7 b).out h k := by
  rw [val_main_v117_apply, val_main_cst_7_apply]
  refine (congrArg (fun z : EReal => z + _) Ideal.ofBits_zero_f32).trans ((zero_add _).trans (Finset.sum_congr rfl fun k _ => ?_))
  rw [val_main_v116_apply]
  refine (congrArg (fun i => (val_main_v102 (F := Ideal) x0 x1 x2 x4 x5 x6 : S32x4x128.Idx → EReal) i * (val_main_v102 (F := Ideal) x0 x1 x2 x4 x5 x6 : S32x4x128.Idx → EReal) i) (?_ : _ = ix3 b h k)).trans
    (congrArg (fun z : EReal => z * z) (out_at x0 x1 x2 x4 x5 x6 x7 b h k))
  exact funext fun a => match a with | ⟨0, _⟩ => rfl | ⟨1, _⟩ => rfl | ⟨2, _⟩ => rfl

theorem gate_at (b : Fin 32) (h : Fin 4) (d : Fin 128) : (val_main_v131 (F := Ideal) x0 : S32x4x128.Idx → EReal) (ix3 b h d)
    = (Rw x0 x1 x2 x4 x5 x6 x7 b).zg ⟨128 * h.val + d.val, by omega⟩ * Ideal.logistic ((Rw x0 x1 x2 x4 x5 x6 x7 b).zg ⟨128 * h.val + d.val, by omega⟩) := by
  have e : (val_main_v130 (F := Ideal) x0 : S32x4x128.Idx → EReal) (ix3 b h d) = (Rw x0 x1 x2 x4 x5 x6 x7 b).zg ⟨128 * h.val + d.val, by omega⟩ := by
    rw [val_main_v130_apply, val_main_v129_apply]
    exact congrArg x0 (funext fun a => Fin.ext (by
      match a with
      | ⟨0, _⟩ => show ((b.val * 4 + h.val) * 128 + d.val) / 512 = b.val; omega
      | ⟨1, _⟩ => show 1536 + ((b.val * 4 + h.val) * 128 + d.val) % 512 = 1536 + (128 * h.val + d.val); omega))
  rw [val_main_v131_apply, val_main_call2_v5_apply, val_main_call2_v4_apply, val_main_call2_v3_apply, val_main_call2_v2_apply, val_main_call2_v1_apply, val_main_call2_v0_apply, val_main_call2_cst_apply, val_main_call2_cst_0_apply]
  show (val_main_v130 (F := Ideal) x0 : S32x4x128.Idx → EReal) (ix3 b h d) * Ideal.div (Ideal.ofBits .f32 0x3F800000#32) (Ideal.ofBits .f32 0x3F800000#32 + Ideal.exp (-(val_main_v130 (F := Ideal) x0 : S32x4x128.Idx → EReal) (ix3 b h d))) = _
  rw [e, Ideal.ofBits_one_f32]
  rfl

theorem y_at (b : Fin 32) (h : Fin 4) (d : Fin 128) : (val_main_v132 (F := Ideal) x0 x1 x2 x4 x5 x6 x7 : S32x4x128.Idx → EReal) (ix3 b h d) = (Rw x0 x1 x2 x4 x5 x6 x7 b).y h d := by
  rw [val_main_v132_apply, val_main_v128_apply, val_main_v125_apply, val_main_v124_apply, val_main_v123_apply, val_main_v122_apply, val_main_v121_apply, val_main_cst_9_apply, val_main_v120_apply, val_main_v119_apply, val_main_cst_8_apply, val_main_v118_apply, val_main_v127_apply, val_main_v126_apply, val_main_v115_apply, val_main_v114_apply]
  refine congrArg₂ (fun a b : EReal => a * b) (congrArg₂ (fun a b : EReal => a * b)
    (congrArg₂ (fun a b : EReal => a * Ideal.rsqrt (Ideal.div b width + eps)) (out_at x0 x1 x2 x4 x5 x6 x7 b h d) ?_) ?_) (gate_at x0 x1 x2 x4 x5 x6 x7 b h d)
  · refine (congrArg (val_main_v117 (F := Ideal) x0 x1 x2 x4 x5 x6 : S32x4.Idx → EReal) (?_ : _ = ix2 b h)).trans (power_at x0 x1 x2 x4 x5 x6 x7 b h)
    exact funext fun a => match a with | ⟨0, _⟩ => rfl | ⟨1, _⟩ => rfl
  · exact congrArg x7 (funext fun a => Fin.ext (by
      match a with
      | ⟨0, _⟩ => rfl
      | ⟨1, _⟩ => show d.val % 128 = d.val; omega))

/-! ## The results -/

theorem y_eq : (val_main_v133 (F := Ideal) x0 x1 x2 x4 x5 x6 x7 : S32x512.Idx → EReal) = yA x0 x1 x2 x4 x5 x6 x7 := by
  funext i
  obtain ⟨b, c, rfl⟩ : ∃ (b : Fin 32) (c : Fin 512), i = ix2 b c := ⟨i 0, i 1, eq_ix2 i⟩
  rw [val_main_v133_apply]
  refine (congrArg (val_main_v132 (F := Ideal) x0 x1 x2 x4 x5 x6 x7 : S32x4x128.Idx → EReal) (?_ : _ = ix3 b (head (ix2 b c)) (lane (ix2 b c)))).trans (y_at x0 x1 x2 x4 x5 x6 x7 b _ _)
  exact funext fun a => Fin.ext (by
      match a with
      | ⟨0, _⟩ => show (b.val * 512 + c.val) / 512 = b.val; omega
      | ⟨1, _⟩ => show (b.val * 512 + c.val) / 128 % 4 = c.val / 128; omega
      | ⟨2, _⟩ => show (b.val * 512 + c.val) % 128 = c.val % 128; omega)

/-- A concatenation of one plane, another, and two: read at plane 0, 1, or 2 and 3. -/
theorem planes_apply (hc : Shape.Concatenates [S1x32x4x128x128, S1x32x4x128x128, S2x32x4x128x128] S4x32x4x128x128 0) (u v : S1x32x4x128x128.Idx → EReal) (w : S2x32x4x128x128.Idx → EReal) (i : S4x32x4x128x128.Idx) :
    (concatenate S4x32x4x128x128 0 [⟨S1x32x4x128x128, u⟩, ⟨S1x32x4x128x128, v⟩, ⟨S2x32x4x128x128, w⟩]
      hc : S4x32x4x128x128.Idx → EReal) i
      = if (i 0).val = 0 then u (ix5 0 (i 1) (i 2) (i 3) (i 4)) else if (i 0).val = 1 then v (ix5 0 (i 1) (i 2) (i 3) (i 4))
        else w (ix5 ⟨((i 0).val - 2) % 2, by omega⟩ (i 1) (i 2) (i 3) (i 4)) := by
  have h0 : (i 0).val < 4 := (i 0).isLt
  split
  · rename_i h
    exact
      concatenate_apply_piece (t := S4x32x4x128x128) 0 [⟨S1x32x4x128x128, u⟩, ⟨S1x32x4x128x128, v⟩, ⟨S2x32x4x128x128, w⟩] hc i
        0 (by show 0 < 3; omega) S1x32x4x128x128 u rfl rfl 0 rfl (ix5 0 (i 1) (i 2) (i 3) (i 4))
        (fun b hb => match b, hb with
          | ⟨1, _⟩, _ => rfl
          | ⟨2, _⟩, _ => rfl
          | ⟨3, _⟩, _ => rfl
          | ⟨4, _⟩, _ => rfl
          | ⟨0, _⟩, hb => absurd rfl hb) (by show 0 + 0 = (i 0).val; omega)
  · split
    · rename_i h
      exact
        concatenate_apply_piece (t := S4x32x4x128x128) 0 [⟨S1x32x4x128x128, u⟩, ⟨S1x32x4x128x128, v⟩, ⟨S2x32x4x128x128, w⟩] hc i
          1 (by show 1 < 3; omega) S1x32x4x128x128 v rfl rfl 1 rfl (ix5 0 (i 1) (i 2) (i 3) (i 4))
          (fun b hb => match b, hb with
            | ⟨1, _⟩, _ => rfl
            | ⟨2, _⟩, _ => rfl
            | ⟨3, _⟩, _ => rfl
            | ⟨4, _⟩, _ => rfl
            | ⟨0, _⟩, hb => absurd rfl hb) (by show 1 + 0 = (i 0).val; omega)
    · exact
        concatenate_apply_piece (t := S4x32x4x128x128) 0 [⟨S1x32x4x128x128, u⟩, ⟨S1x32x4x128x128, v⟩, ⟨S2x32x4x128x128, w⟩] hc i
          2 (by show 2 < 3; omega) S2x32x4x128x128 w rfl rfl 2 rfl (ix5 ⟨((i 0).val - 2) % 2, by omega⟩ (i 1) (i 2) (i 3) (i 4))
          (fun b hb => match b, hb with
            | ⟨1, _⟩, _ => rfl
            | ⟨2, _⟩, _ => rfl
            | ⟨3, _⟩, _ => rfl
            | ⟨4, _⟩, _ => rfl
            | ⟨0, _⟩, hb => absurd rfl hb) (by show 2 + ((i 0).val - 2) % 2 = (i 0).val; omega)

theorem st_eq : (val_main_v137 (F := Ideal) x0 x1 x2 x3 x4 x5 x6 : S4x32x4x128x128.Idx → EReal) = stA x0 x1 x2 x3 x4 x5 x6 x7 := by
  funext i
  unfold val_main_v137 stA
  refine (planes_apply _ _ _ _ i).trans ?_
  have h0 : (i 0).val < 4 := (i 0).isLt
  by_cases h : (i 0).val = 1
  · rw [if_neg (by omega), if_pos h, if_pos h, val_main_v135_apply]
    refine (congrArg (val_main_v113 (F := Ideal) x0 x1 x2 x4 x5 x6 : S32x4x128x128.Idx → EReal) (?_ : _ = ix4 (i 1) (i 2) (i 3) (i 4))).trans (new_at x0 x1 x2 x4 x5 x6 x7 (i 1) (i 2) (i 3) (i 4))
    exact funext fun a => match a with | ⟨0, _⟩ => rfl | ⟨1, _⟩ => rfl | ⟨2, _⟩ => rfl | ⟨3, _⟩ => rfl
  · rw [if_neg h, if_neg h]
    split
    · rename_i h'
      rw [val_main_v134_apply]
      exact congrArg x3 (funext fun a => Fin.ext (by
        match a with
        | ⟨0, _⟩ => show 0 = (i 0).val; omega
        | ⟨1, _⟩ => rfl
        | ⟨2, _⟩ => rfl
        | ⟨3, _⟩ => rfl
        | ⟨4, _⟩ => rfl))
    · rename_i h'
      rw [val_main_v136_apply]
      exact congrArg x3 (funext fun a => Fin.ext (by
        match a with
        | ⟨0, _⟩ => show 2 + ((i 0).val - 2) % 2 = (i 0).val; omega
        | ⟨1, _⟩ => rfl
        | ⟨2, _⟩ => rfl
        | ⟨3, _⟩ => rfl
        | ⟨4, _⟩ => rfl))

theorem cv_eq : (val_main_v141 (F := Ideal) x0 x1 : S32x3x1536.Idx → EReal) = cvA x0 x1 x2 x4 x5 x6 x7 := by
  funext i
  unfold val_main_v141 cvA Row.shift
  have h0 : (i 0).val < 32 := (i 0).isLt
  have h1 : (i 1).val < 3 := (i 1).isLt
  have h2 : (i 2).val < 1536 := (i 2).isLt
  split
  · rename_i h
    let j : S32x2x1536.Idx := ix3 (i 0) ⟨(i 1).val, h⟩ (i 2)
    rw [concatenate_pair_apply_left (s₁ := S32x2x1536) (s₂ := S32x1x1536) 1 _ _ _ i rfl j
      (fun a => match a with | ⟨0, _⟩ => rfl | ⟨1, _⟩ => rfl | ⟨2, _⟩ => rfl), val_main_v139_apply, val_main_v138_apply]
    exact congrArg x1 (funext fun a => Fin.ext (by
      match a with
      | ⟨0, _⟩ => rfl
      | ⟨1, _⟩ => show (((i 0).val * 2 + (i 1).val) * 1536 + (i 2).val) / 3072 % 32 = (i 0).val; omega
      | ⟨2, _⟩ => show 1 + (((i 0).val * 2 + (i 1).val) * 1536 + (i 2).val) / 1536 % 2 = (i 1).val + 1; omega
      | ⟨3, _⟩ => show (((i 0).val * 2 + (i 1).val) * 1536 + (i 2).val) % 1536 = (i 2).val; omega))
  · rename_i h
    let j : S32x1x1536.Idx := ix3 (i 0) 0 (i 2)
    rw [concatenate_pair_apply_right (s₁ := S32x2x1536) (s₂ := S32x1x1536) 1 _ _ _ i rfl rfl j
      (fun a => match a with | ⟨0, _⟩ => fun _ => rfl | ⟨1, _⟩ => fun h => absurd rfl h | ⟨2, _⟩ => fun _ => rfl)
      (by show 0 + 2 = (i 1).val; omega), val_main_v140_apply, val_main_v0_apply]
    exact congrArg x0 (funext fun a => match a with | ⟨0, _⟩ => rfl | ⟨1, _⟩ => rfl)

end Cert.Proof.DnRef
-- ==== Proof.DnSample.lean ====
/-
  The delta-rule mixer's call on the sample: one token for each of thirty-two rows, eight rows at a grid point.
  Here: what the host hands the call and what each window's block holds, so that a row of a point's blocks is a row of the batch
  (`DnSpec.Rw`); each result array after the run, index by index; and that the reference computes the same arrays.
-/
module

public import proofs.«01_k».proof.Defs
public import proofs.«01_k».proof.Proof.Gen.DnSample.Frame
public import proofs.«01_k».proof.Proof.Gen.DnSampleIdeal.Value
public import proofs.«01_k».proof.Proof.Gen.DnSampleRefIdeal.Run
public import proofs.«01_k».proof.Proof.Gen.DnSampleRefIdeal.Read
public import proofs.«01_k».proof.Proof.DnBody
public import proofs.«01_k».proof.Proof.DnSpec
public import proofs.«01_k».proof.Proof.DnRef
public import Idealize.ShloMosaic.Lib.ValueIdx
public import Idealize.ShloMosaic.Lib.IdealHost
public import Idealize.ShloMosaic.Lib.KernelVsHost

@[expose] public section

noncomputable section

namespace Cert.Proof.DnSample

open Idealize.ShloMosaic Idealize.ShloMosaic.TcCoe Idealize.SL.Sem Idealize.ShloMosaic.ValueIdx
open Cert.DnSampleIdeal Cert.DnSampleIdeal.Gen
open Idealize.ShloMosaic.Pipeline (Dat Cfg Window)
open Cert.Proof.DnRow (Row)
open Cert.Proof.DnSpec Cert.Proof.DnBody

variable (m : (ℓ : Loc nD τ sig) → Buf (Elt Ideal) ℓ) (ρ : Dev nD → PrngReg)

/-! ## The arguments -/

abbrev A0 (c : Dev nD) : S32x2176.Idx → EReal := m ((c : Thread nD τ).loc main_arg0)
abbrev A1 (c : Dev nD) : S4x32x3x1536.Idx → EReal := m ((c : Thread nD τ).loc main_arg1)
abbrev A2 (c : Dev nD) : S4x32x4x128x128.Idx → EReal := m ((c : Thread nD τ).loc main_arg2)
abbrev A3 (c : Dev nD) : S4x32x4x128x128.Idx → EReal := m ((c : Thread nD τ).loc main_arg3)
abbrev A4 (c : Dev nD) : S4x4x1536.Idx → EReal := m ((c : Thread nD τ).loc main_arg4)
abbrev A5 (c : Dev nD) : S4x4.Idx → EReal := m ((c : Thread nD τ).loc main_arg5)
abbrev A6 (c : Dev nD) : S4x4.Idx → EReal := m ((c : Thread nD τ).loc main_arg6)
abbrev A7 (c : Dev nD) : S4x128.Idx → EReal := m ((c : Thread nD τ).loc main_arg7)

/-! ## What the host hands the call -/

theorem host_conv (c : Dev nD) (b : Fin 32) (j : Fin 3) (k : Fin 1536) :
    (V m c main_v1 : S32x3x1536.Idx → EReal) (ix3 b j k) = A1 m c (ix4 1 b j k) := by
  have e : (V m c main_v1 : S32x3x1536.Idx → EReal) = shapeCast S32x3x1536 (extractStridedSlice S1x32x3x1536 ![1, 0, 0, 0] (A1 m c)
      slices_S4x32x3x1536_S1x32x3x1536_1_0_0_0) shapeCasts_S1x32x3x1536_S32x3x1536 := by
    unfold V; rfl
  rw [e]
  refine (shapeCast_apply (s := S1x32x3x1536) (t := S32x3x1536) _ _ _ (ix4 0 b j k) ?_).trans ?_
  · rw [Shape.rowMajor_val_three, Shape.rowMajor_val_four]
    show ((0 * 32 + b.val) * 3 + j.val) * 1536 + k.val = (b.val * 3 + j.val) * 1536 + k.val
    omega
  · refine extractStridedSlice_apply (s := S4x32x3x1536) (t := S1x32x3x1536) ![1, 0, 0, 0] _ _ _ (ix4 1 b j k) (fun a => ?_)
    match a with
    | ⟨0, _⟩ => rfl
    | ⟨1, _⟩ => show b.val = 0 + b.val; omega
    | ⟨2, _⟩ => show j.val = 0 + j.val; omega
    | ⟨3, _⟩ => show k.val = 0 + k.val; omega

theorem host_w (c : Dev nD) (j : Fin 4) (k : Fin 1536) :
    (V m c main_v3 : S4x1536.Idx → EReal) (ix2 j k) = A4 m c (ix3 1 j k) := by
  have e : (V m c main_v3 : S4x1536.Idx → EReal) = shapeCast S4x1536 (extractStridedSlice S1x4x1536 ![1, 0, 0] (A4 m c)
      slices_S4x4x1536_S1x4x1536_1_0_0) shapeCasts_S1x4x1536_S4x1536 := by
    unfold V; rfl
  rw [e]
  refine (shapeCast_apply (s := S1x4x1536) (t := S4x1536) _ _ _ (ix3 0 j k) ?_).trans ?_
  · rw [Shape.rowMajor_val_two, Shape.rowMajor_val_three]
    show (0 * 4 + j.val) * 1536 + k.val = j.val * 1536 + k.val
    omega
  · refine extractStridedSlice_apply (s := S4x4x1536) (t := S1x4x1536) ![1, 0, 0] _ _ _ (ix3 1 j k) (fun a => ?_)
    match a with
    | ⟨0, _⟩ => rfl
    | ⟨1, _⟩ => show j.val = 0 + j.val; omega
    | ⟨2, _⟩ => show k.val = 0 + k.val; omega

/-- The layer's row of a table of 128 columns. -/
theorem layer_row (x : S4x128.Idx → EReal) (d : Fin 128) :
    (shapeCast S1x128 (extractStridedSlice S1x1x128 ![1, 0, 0] (broadcastInDim S4x1x128 ![0, 2] bcast_S4x128_S4x1x128_0_2 x)
      slices_S4x1x128_S1x1x128_1_0_0) shapeCasts_S1x1x128_S1x128 : S1x128.Idx → EReal) (ix2 0 d) = x (ix2 1 d) := by
  refine (shapeCast_apply (s := S1x1x128) (t := S1x128) _ _ _ (ix3 0 0 d) ?_).trans ?_
  · rw [Shape.rowMajor_val_two, Shape.rowMajor_val_three]
    show (0 * 1 + 0) * 128 + d.val = 0 * 128 + d.val
    omega
  refine (extractStridedSlice_apply (s := S4x1x128) (t := S1x1x128) ![1, 0, 0] _ _ _ (ix3 1 0 d) (fun a => ?_)).trans ?_
  · match a with
    | ⟨0, _⟩ => rfl
    | ⟨1, _⟩ => rfl
    | ⟨2, _⟩ => show d.val = 0 + d.val; omega
  refine broadcastInDim_apply (s := S4x128) (t := S4x1x128) ![0, 2] bcast_S4x128_S4x1x128_0_2 x _ (ix2 1 d) (fun a => ?_)
  match a with
  | ⟨0, _⟩ => rfl
  | ⟨1, _⟩ => rfl

/-- A table of four columns widened to 128 keeps its four. -/
theorem widened (x : S4x4.Idx → EReal) (v : S_.Idx → EReal) (h : Fin 4) :
    (pad S4x128 ![0, 0] ![0, 124] ![0, 0] x v pads_S4x4_S4x128_000_01240 h_S_ : S4x128.Idx → EReal) (ix2 1 ⟨h.val, by omega⟩) = x (ix2 1 h) := by
  refine pad_apply_of_inside (s := S4x4) (t := S4x128) ![0, 0] ![0, 124] ![0, 0] x v _ _ _ (ix2 1 h) (fun a => ?_)
  match a with
  | ⟨0, _⟩ => rfl
  | ⟨1, _⟩ => show h.val = 0 + h.val * (0 + 1); omega

theorem host_al (c : Dev nD) (h : Fin 4) : (V m c main_v7 : S1x128.Idx → EReal) (ix2 0 ⟨h.val, by omega⟩) = A5 m c (ix2 1 h) := by
  have e : (V m c main_v7 : S1x128.Idx → EReal) = shapeCast S1x128 (extractStridedSlice S1x1x128 ![1, 0, 0]
      (broadcastInDim S4x1x128 ![0, 2] bcast_S4x128_S4x1x128_0_2
        (pad S4x128 ![0, 0] ![0, 124] ![0, 0] (A5 m c) (sitofp .f32 (constantI S_ 32 0#32) : FVec Ideal S_ .f32) pads_S4x4_S4x128_000_01240 h_S_ : S4x128.Idx → EReal))
      slices_S4x1x128_S1x1x128_1_0_0) shapeCasts_S1x1x128_S1x128 := by
    unfold V; after_results; rfl
  rw [e]
  exact (layer_row _ _).trans (widened _ _ h)

theorem host_db (c : Dev nD) (h : Fin 4) : (V m c main_v11 : S1x128.Idx → EReal) (ix2 0 ⟨h.val, by omega⟩) = A6 m c (ix2 1 h) := by
  have e : (V m c main_v11 : S1x128.Idx → EReal) = shapeCast S1x128 (extractStridedSlice S1x1x128 ![1, 0, 0]
      (broadcastInDim S4x1x128 ![0, 2] bcast_S4x128_S4x1x128_0_2
        (pad S4x128 ![0, 0] ![0, 124] ![0, 0] (A6 m c) (sitofp .f32 (constantI S_ 32 0#32) : FVec Ideal S_ .f32) pads_S4x4_S4x128_000_01240 h_S_ : S4x128.Idx → EReal))
      slices_S4x1x128_S1x1x128_1_0_0) shapeCasts_S1x1x128_S1x128 := by
    unfold V; after_results; rfl
  rw [e]
  exact (layer_row _ _).trans (widened _ _ h)

theorem host_ng (c : Dev nD) (d : Fin 128) : (V m c main_v14 : S1x128.Idx → EReal) (ix2 0 d) = A7 m c (ix2 1 d) := by
  have e : (V m c main_v14 : S1x128.Idx → EReal) = shapeCast S1x128 (extractStridedSlice S1x1x128 ![1, 0, 0]
      (broadcastInDim S4x1x128 ![0, 2] bcast_S4x128_S4x1x128_0_2 (A7 m c))
      slices_S4x1x128_S1x1x128_1_0_0) shapeCasts_S1x1x128_S1x128 := by
    unfold V; after_results; rfl
  rw [e]
  exact layer_row _ _

theorem host_st (c : Dev nD) : (V m c main_v15_1 : S4x32x4x128x128.Idx → EReal) = A3 m c := by
  unfold V; rfl

/-! ## The blocks of a grid point -/

theorem idx0 : ∀ t : Fin cfg0.N, win0_0.index t = ![t.val, 0] := (by decide +kernel : ∀ t : Fin grid0.N, win0_0.index t = ![t.val, 0])
theorem idx1 : ∀ t : Fin cfg0.N, win0_1.index t = ![t.val, 3] := (by decide +kernel : ∀ t : Fin grid0.N, win0_1.index t = ![t.val, 3])
theorem idx2 : ∀ t : Fin cfg0.N, win0_2.index t = ![t.val, 16] := (by decide +kernel : ∀ t : Fin grid0.N, win0_2.index t = ![t.val, 16])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![1, t.val, 0, 0, 0] := (by decide +kernel : ∀ t : Fin grid0.N, win0_4.index t = ![1, t.val, 0, 0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])
theorem idx10 : ∀ t : Fin cfg0.N, win0_10.index t = ![1, t.val, 0, 0, 0] := (by decide +kernel : ∀ t : Fin grid0.N, win0_10.index t = ![1, t.val, 0, 0, 0])
theorem idx11 : ∀ t : Fin cfg0.N, win0_11.index t = ![t.val, 0, 0] := (by decide +kernel : ∀ t : Fin grid0.N, win0_11.index t = ![t.val, 0, 0])

theorem row_lt (t : Fin cfg0.N) (r : Fin 8) : t.val * 8 + r.val < 32 := by
  have := lt_of_lt_of_eq t.isLt (show cfg0.N = 4 from N_0)
  omega

/-- The row of the batch that row `r` of a point's blocks is. -/
def row (t : Fin cfg0.N) (r : Fin 8) : Fin 32 := ⟨t.val * 8 + r.val, row_lt t r⟩

theorem blk0 (c : Dev nD) (t : Fin cfg0.N) (r : Fin 8) (k : Fin 1536) :
    (X0_0 m c t : S8x1536.Idx → EReal) (ix2 r k) = A0 m c (ix2 (row t r) ⟨k.val, by omega⟩) := by
  unfold X0_0 Pipeline.Window.fill
  rw [dif_pos (moved0_0 t (ix2 r k))]
  unfold iblk
  rw [View.read_apply]
  show (V m c main_arg0 : S32x2176.Idx → EReal) ((win0_0.rect t).emb _) = _
  refine (congrFun (V_main_arg0 m c) _).trans ?_
  refine congrArg (A0 m c) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 1536 + k.val = k.val; omega

theorem blk1 (c : Dev nD) (t : Fin cfg0.N) (r : Fin 8) (k : Fin 512) :
    (X0_1 m c t : S8x512.Idx → EReal) (ix2 r k) = A0 m c (ix2 (row t r) ⟨1536 + k.val, by omega⟩) := by
  unfold X0_1 Pipeline.Window.fill
  rw [dif_pos (moved0_1 t (ix2 r k))]
  unfold iblk
  rw [View.read_apply]
  show (V m c main_arg0 : S32x2176.Idx → EReal) ((win0_1.rect t).emb _) = _
  refine (congrFun (V_main_arg0 m c) _).trans ?_
  refine congrArg (A0 m c) (funext fun a => Fin.ext ?_)
  match a with
  | ⟨0, _⟩ => refine (Window.rect_emb_val win0_1 t _ 0).trans ?_; rw [idx1]; rfl
  | ⟨1, _⟩ => refine (Window.rect_emb_val win0_1 t _ 1).trans ?_; rw [idx1]; show 3 * 512 + k.val = 1536 + k.val; omega

theorem blk2 (c : Dev nD) (t : Fin cfg0.N) (r : Fin 8) (k : Fin 128) :
    (iblk m c 2 t : S8x128.Idx → EReal) (ix2 r k) = A0 m c (ix2 (row t r) ⟨2048 + k.val, by omega⟩) := by
  unfold iblk
  rw [View.read_apply]
  show (V m c main_arg0 : S32x2176.Idx → EReal) ((win0_2.rect t).emb (ix2 r k)) = _
  refine (congrFun (V_main_arg0 m c) _).trans ?_
  refine congrArg (A0 m c) (funext fun a => Fin.ext ?_)
  match a with
  | ⟨0, _⟩ => refine (Window.rect_emb_val win0_2 t _ 0).trans ?_; rw [idx2]; rfl
  | ⟨1, _⟩ => refine (Window.rect_emb_val win0_2 t _ 1).trans ?_; rw [idx2]; show 16 * 128 + k.val = 2048 + k.val; omega

theorem blk3 (c : Dev nD) (t : Fin cfg0.N) (r : Fin 8) (j : Fin 3) (k : Fin 1536) :
    (iblk m c 3 t : S8x3x1536.Idx → EReal) (ix3 r j k) = (V m c main_v1 : S32x3x1536.Idx → EReal) (ix3 (row t r) j k) := by
  unfold iblk
  rw [View.read_apply]
  show (V m c main_v1 : S32x3x1536.Idx → EReal) ((win0_3.rect t).emb (ix3 r j k)) = _
  refine congrArg (V m c main_v1 : S32x3x1536.Idx → EReal) (funext fun a => Fin.ext ?_)
  match a with
  | ⟨0, _⟩ => refine (Window.rect_emb_val win0_3 t _ 0).trans ?_; rw [idx3]; rfl
  | ⟨1, _⟩ => refine (Window.rect_emb_val win0_3 t _ 1).trans ?_; rw [idx3]; show 0 * 3 + j.val = j.val; omega
  | ⟨2, _⟩ => refine (Window.rect_emb_val win0_3 t _ 2).trans ?_; rw [idx3]; show 0 * 1536 + k.val = k.val; omega

theorem blk4 (c : Dev nD) (t : Fin cfg0.N) (r : Fin 8) (h : Fin 4) (k : Fin 128) (d : Fin 128) :
    (iblk m c 4 t : S1x8x4x128x128.Idx → EReal) (ix5 0 r h k d) = A2 m c (ix5 1 (row t r) h k d) := by
  unfold iblk
  rw [View.read_apply]
  show (V m c main_arg2 : S4x32x4x128x128.Idx → EReal) ((win0_4.rect t).emb (ix5 0 r h k d)) = _
  refine (congrFun (V_main_arg2 m c) _).trans ?_
  refine congrArg (A2 m c) (funext fun a => Fin.ext ?_)
  match a with
  | ⟨0, _⟩ => refine (Window.rect_emb_val win0_4 t _ 0).trans ?_; rw [idx4]; rfl
  | ⟨1, _⟩ => refine (Window.rect_emb_val win0_4 t _ 1).trans ?_; rw [idx4]; rfl
  | ⟨2, _⟩ => refine (Window.rect_emb_val win0_4 t _ 2).trans ?_; rw [idx4]; show 0 * 4 + h.val = h.val; omega
  | ⟨3, _⟩ => refine (Window.rect_emb_val win0_4 t _ 3).trans ?_; rw [idx4]; show 0 * 128 + k.val = k.val; omega
  | ⟨4, _⟩ => refine (Window.rect_emb_val win0_4 t _ 4).trans ?_; rw [idx4]; show 0 * 128 + d.val = d.val; omega

theorem blk5 (c : Dev nD) (t : Fin cfg0.N) (j : Fin 4) (k : Fin 1536) :
    (iblk m c 5 t : S4x1536.Idx → EReal) (ix2 j k) = (V m c main_v3 : S4x1536.Idx → EReal) (ix2 j k) := by
  unfold iblk
  rw [View.read_apply]
  show (V m c main_v3 : S4x1536.Idx → EReal) ((win0_5.rect t).emb (ix2 j k)) = _
  refine congrArg (V m c main_v3 : S4x1536.Idx → EReal) (funext fun a => Fin.ext ?_)
  match a with
  | ⟨0, _⟩ => refine (Window.rect_emb_val win0_5 t _ 0).trans ?_; rw [idx5]; show 0 * 4 + j.val = j.val; omega
  | ⟨1, _⟩ => refine (Window.rect_emb_val win0_5 t _ 1).trans ?_; rw [idx5]; show 0 * 1536 + k.val = k.val; omega

theorem blk6 (c : Dev nD) (t : Fin cfg0.N) (k : Fin 128) :
    (iblk m c 6 t : S1x128.Idx → EReal) (ix2 0 k) = (V m c main_v7 : S1x128.Idx → EReal) (ix2 0 k) := by
  unfold iblk
  rw [View.read_apply]
  show (V m c main_v7 : S1x128.Idx → EReal) ((win0_6.rect t).emb (ix2 0 k)) = _
  refine congrArg (V m c main_v7 : S1x128.Idx → EReal) (funext fun a => Fin.ext ?_)
  match a with
  | ⟨0, _⟩ => refine (Window.rect_emb_val win0_6 t _ 0).trans ?_; rw [idx6]; rfl
  | ⟨1, _⟩ => refine (Window.rect_emb_val win0_6 t _ 1).trans ?_; rw [idx6]; show 0 * 128 + k.val = k.val; omega

theorem blk7 (c : Dev nD) (t : Fin cfg0.N) (k : Fin 128) :
    (iblk m c 7 t : S1x128.Idx → EReal) (ix2 0 k) = (V m c main_v11 : S1x128.Idx → EReal) (ix2 0 k) := by
  unfold iblk
  rw [View.read_apply]
  show (V m c main_v11 : S1x128.Idx → EReal) ((win0_7.rect t).emb (ix2 0 k)) = _
  refine congrArg (V m c main_v11 : S1x128.Idx → EReal) (funext fun a => Fin.ext ?_)
  match a with
  | ⟨0, _⟩ => refine (Window.rect_emb_val win0_7 t _ 0).trans ?_; rw [idx7]; rfl
  | ⟨1, _⟩ => refine (Window.rect_emb_val win0_7 t _ 1).trans ?_; rw [idx7]; show 0 * 128 + k.val = k.val; omega

theorem blk8 (c : Dev nD) (t : Fin cfg0.N) (k : Fin 128) :
    (iblk m c 8 t : S1x128.Idx → EReal) (ix2 0 k) = (V m c main_v14 : S1x128.Idx → EReal) (ix2 0 k) := by
  unfold iblk
  rw [View.read_apply]
  show (V m c main_v14 : S1x128.Idx → EReal) ((win0_8.rect t).emb (ix2 0 k)) = _
  refine congrArg (V m c main_v14 : S1x128.Idx → EReal) (funext fun a => Fin.ext ?_)
  match a with
  | ⟨0, _⟩ => refine (Window.rect_emb_val win0_8 t _ 0).trans ?_; rw [idx8]; rfl
  | ⟨1, _⟩ => refine (Window.rect_emb_val win0_8 t _ 1).trans ?_; rw [idx8]; show 0 * 128 + k.val = k.val; omega

/-- A row of a point's blocks is the batch's. -/
theorem row_eq (c : Dev nD) (t : Fin cfg0.N) (r : Fin 8) :
    rowOf (X0_0 m c t) (X0_1 m c t) (iblk m c 2 t) (iblk m c 3 t) (iblk m c 4 t) (iblk m c 5 t) (iblk m c 6 t) (iblk m c 7 t) (iblk m c 8 t) r
      = Rw (A0 m c) (A1 m c) (A2 m c) (A4 m c) (A5 m c) (A6 m c) (A7 m c) (row t r) := by
  unfold rowOf Rw
  rw [Row.mk.injEq]
  refine ⟨funext fun k => blk0 m c t r k, funext fun j => funext fun k => (blk3 m c t r j k).trans (host_conv m c _ j k),
    funext fun j => funext fun k => (blk5 m c t j k).trans (host_w m c j k), funext fun h => ?_, funext fun h => ?_,
    funext fun h => (blk6 m c t _).trans (host_al m c h), funext fun h => (blk7 m c t _).trans (host_db m c h),
    funext fun h => funext fun k => funext fun d => blk4 m c t r h k d, funext fun k => blk1 m c t r k,
    funext fun d => (blk8 m c t d).trans (host_ng m c d)⟩
  · exact (blk2 m c t r _).trans (congrArg (A0 m c) (congrArg (ix2 (row t r)) (Fin.ext rfl)))
  · refine (blk2 m c t r _).trans (congrArg (A0 m c) (congrArg (ix2 (row t r)) (Fin.ext ?_)))
    show 2048 + (4 + h.val) = 2052 + h.val
    omega

/-! ## The results -/

/-- A column is its head's first and its place in the head. -/
theorem col_eq (r : Fin 8) (k : Fin 512) :
    (ix2 r k : S8x512.Idx) = ix2 r ⟨128 * (⟨k.val / 128, by omega⟩ : Fin 4).val + (⟨k.val % 128, by omega⟩ : Fin 128).val, by
      show 128 * (k.val / 128) + k.val % 128 < 512; omega⟩ := by
  refine congrArg (ix2 r) (Fin.ext ?_)
  show k.val = 128 * (k.val / 128) + k.val % 128
  omega

theorem emb9 (t : Fin cfg0.N) (r : Fin 8) (k : Fin 512) : ((win0_9.rect t).emb (ix2 r k) : S32x512.Idx) = ix2 (row t r) k := by
  funext a
  refine Fin.ext ?_
  match a with
  | ⟨0, _⟩ => refine (Window.rect_emb_val win0_9 t _ 0).trans ?_; rw [idx9]; rfl
  | ⟨1, _⟩ => refine (Window.rect_emb_val win0_9 t _ 1).trans ?_; rw [idx9]; show 0 * 512 + k.val = k.val; omega

theorem flushed9_eq (c : Dev nD) (t : Fin cfg0.N) (_ : (cfg0.win 9).flush t = true) :
    (dats m 0 c).flushed 9 t = ((cfg0.win 9).blk t).view.read (Elt Ideal) (yA (A0 m c) (A1 m c) (A2 m c) (A4 m c) (A5 m c) (A6 m c) (A7 m c)) := by
  rw [Value.flushed9_A]
  funext y
  obtain ⟨r, k, rfl⟩ : ∃ (r : Fin 8) (k : Fin 512), y = ix2 r k := ⟨y 0, y 1, eq_ix2 y⟩
  rw [View.read_apply]
  show _ = yA (A0 m c) (A1 m c) (A2 m c) (A4 m c) (A5 m c) (A6 m c) (A7 m c) ((win0_9.rect t).emb (ix2 r k))
  rw [emb9]
  refine (out9_eq _ _ _ _ _ _ _ _ _ _ _ _ _ _ _ _ _ _ _ _ _ _ _ _ _ _ _ _ _ _ _ _ _ _ _ (ix2 r k)).trans ?_
  rw [col_eq]
  refine (bY_eq _ _ _ _ _ _ _ _ _ r _ _).trans ?_
  rw [row_eq]
  rfl

theorem mem_blk9 (t : Fin cfg0.N) (i : S32x512.Idx) :
    i ∈ ((cfg0.win 9).blk t).view.set ↔ ∀ a, win0_9.index t a * win0_9.size a ≤ (i a : Nat)
      ∧ (i a : Nat) < win0_9.index t a * win0_9.size a + win0_9.xsize (grid0.coords t) a := by
  show i ∈ ((View.whole main_v15_0).slice (win0_9.rect t)).set ↔ _
  rw [View.set_slice_whole, Rect.mem_set_unit]

theorem flush9 : ∀ t : Fin cfg0.N, (cfg0.win 9).flush t = true := (by decide +kernel : ∀ t : Fin grid0.N, win0_9.flush t = true)

theorem final9 (c : Dev nD) : (dats m 0 c).arrAt 9 cfg0.N = yA (A0 m c) (A1 m c) (A2 m c) (A4 m c) (A5 m c) (A6 m c) (A7 m c) := by
  funext i
  have h0 : (i 0 : Nat) < 32 := (i 0).isLt
  have h1 : (i 1 : Nat) < 512 := (i 1).isLt
  have hN : cfg0.N = 4 := N_0
  let t : Fin cfg0.N := ⟨(i 0 : Nat) / 8, by rw [hN]; omega⟩
  refine (dats m 0 c).arrAt_apply_of_mem 9 _ (flushed9_eq m c) cfg0.N t i t.isLt (flush9 t) ?_
  rw [mem_blk9]
  intro a
  rw [idx9]
  have q : t.val = (i 0 : Nat) / 8 := rfl
  match a with
  | ⟨0, _⟩ => show t.val * 8 ≤ (i 0 : Nat) ∧ (i 0 : Nat) < t.val * 8 + 8; rw [q]; omega
  | ⟨1, _⟩ => show 0 * 512 ≤ (i 1 : Nat) ∧ (i 1 : Nat) < 0 * 512 + 512; omega

theorem emb10 (t : Fin cfg0.N) (z : Fin 1) (r : Fin 8) (h : Fin 4) (k : Fin 128) (d : Fin 128) : ((win0_10.rect t).emb (ix5 z r h k d) : S4x32x4x128x128.Idx) = ix5 1 (row t r) h k d := by
  funext a
  refine Fin.ext ?_
  match a with
  | ⟨0, _⟩ => refine (Window.rect_emb_val win0_10 t _ 0).trans ?_; rw [idx10]; show 1 * 1 + z.val = 1; omega
  | ⟨1, _⟩ => refine (Window.rect_emb_val win0_10 t _ 1).trans ?_; rw [idx10]; rfl
  | ⟨2, _⟩ => refine (Window.rect_emb_val win0_10 t _ 2).trans ?_; rw [idx10]; show 0 * 4 + h.val = h.val; omega
  | ⟨3, _⟩ => refine (Window.rect_emb_val win0_10 t _ 3).trans ?_; rw [idx10]; show 0 * 128 + k.val = k.val; omega
  | ⟨4, _⟩ => refine (Window.rect_emb_val win0_10 t _ 4).trans ?_; rw [idx10]; show 0 * 128 + d.val = d.val; omega

theorem flushed10_eq (c : Dev nD) (t : Fin cfg0.N) (_ : (cfg0.win 10).flush t = true) :
    (dats m 0 c).flushed 10 t = ((cfg0.win 10).blk t).view.read (Elt Ideal) (stA (A0 m c) (A1 m c) (A2 m c) (A3 m c) (A4 m c) (A5 m c) (A6 m c) (A7 m c)) := by
  rw [Value.flushed10_A]
  funext y
  obtain ⟨z, r, h, k, d, rfl⟩ : ∃ (z : Fin 1) (r : Fin 8) (h : Fin 4) (k : Fin 128) (d : Fin 128), y = ix5 z r h k d := ⟨y 0, y 1, y 2, y 3, y 4, eq_ix5 y⟩
  rw [View.read_apply]
  show _ = stA (A0 m c) (A1 m c) (A2 m c) (A3 m c) (A4 m c) (A5 m c) (A6 m c) (A7 m c) ((win0_10.rect t).emb (ix5 z r h k d))
  rw [emb10]
  refine (out10_eq _ _ _ _ _ _ _ _ _ _ _ _ _ _ _ _ _ _ _ _ _ _ _ _ _ _ _ _ _ _ _ _ _ _ _ (ix5 z r h k d)).trans ?_
  show (rowOf _ _ _ _ _ _ _ _ _ r).new h k d = _
  rw [row_eq]
  exact (if_pos rfl).symm

theorem mem_blk10 (t : Fin cfg0.N) (i : S4x32x4x128x128.Idx) :
    i ∈ ((cfg0.win 10).blk t).view.set ↔ ∀ a, win0_10.index t a * win0_10.size a ≤ (i a : Nat)
      ∧ (i a : Nat) < win0_10.index t a * win0_10.size a + win0_10.xsize (grid0.coords t) a := by
  show i ∈ ((View.whole main_v15_1).slice (win0_10.rect t)).set ↔ _
  rw [View.set_slice_whole, Rect.mem_set_unit]

theorem flush10 : ∀ t : Fin cfg0.N, (cfg0.win 10).flush t = true := (by decide +kernel : ∀ t : Fin grid0.N, win0_10.flush t = true)

theorem final10 (c : Dev nD) : (dats m 0 c).arrAt 10 cfg0.N = stA (A0 m c) (A1 m c) (A2 m c) (A3 m c) (A4 m c) (A5 m c) (A6 m c) (A7 m c) := by
  funext i
  have h0 : (i 0 : Nat) < 4 := (i 0).isLt
  have h1 : (i 1 : Nat) < 32 := (i 1).isLt
  have h2 : (i 2 : Nat) < 4 := (i 2).isLt
  have h3 : (i 3 : Nat) < 128 := (i 3).isLt
  have h4 : (i 4 : Nat) < 128 := (i 4).isLt
  by_cases hp : (i 0 : Nat) = 1
  · have hN : cfg0.N = 4 := N_0
    let t : Fin cfg0.N := ⟨(i 1 : Nat) / 8, by rw [hN]; omega⟩
    refine (dats m 0 c).arrAt_apply_of_mem 10 _ (flushed10_eq m c) cfg0.N t i t.isLt (flush10 t) ?_
    rw [mem_blk10]
    intro a
    rw [idx10]
    have q : t.val = (i 1 : Nat) / 8 := rfl
    match a with
    | ⟨0, _⟩ => show 1 * 1 ≤ (i 0 : Nat) ∧ (i 0 : Nat) < 1 * 1 + 1; omega
    | ⟨1, _⟩ => show t.val * 8 ≤ (i 1 : Nat) ∧ (i 1 : Nat) < t.val * 8 + 8; rw [q]; omega
    | ⟨2, _⟩ => show 0 * 4 ≤ (i 2 : Nat) ∧ (i 2 : Nat) < 0 * 4 + 4; omega
    | ⟨3, _⟩ => show 0 * 128 ≤ (i 3 : Nat) ∧ (i 3 : Nat) < 0 * 128 + 128; omega
    | ⟨4, _⟩ => show 0 * 128 ≤ (i 4 : Nat) ∧ (i 4 : Nat) < 0 * 128 + 128; omega
  · rw [Value.entry10 m c i (fun t _ hi => by
      rw [mem_blk10] at hi
      have := hi 0
      rw [idx10] at this
      have : 1 * 1 ≤ (i 0 : Nat) ∧ (i 0 : Nat) < 1 * 1 + 1 := this
      omega)]
    show (V m c main_v15_1 : S4x32x4x128x128.Idx → EReal) i = _
    rw [host_st]
    exact (if_neg hp).symm

theorem emb11 (t : Fin cfg0.N) (r : Fin 8) (j : Fin 3) (k : Fin 1536) : ((win0_11.rect t).emb (ix3 r j k) : S32x3x1536.Idx) = ix3 (row t r) j k := by
  funext a
  refine Fin.ext ?_
  match a with
  | ⟨0, _⟩ => refine (Window.rect_emb_val win0_11 t _ 0).trans ?_; rw [idx11]; rfl
  | ⟨1, _⟩ => refine (Window.rect_emb_val win0_11 t _ 1).trans ?_; rw [idx11]; show 0 * 3 + j.val = j.val; omega
  | ⟨2, _⟩ => refine (Window.rect_emb_val win0_11 t _ 2).trans ?_; rw [idx11]; show 0 * 1536 + k.val = k.val; omega

theorem flushed11_eq (c : Dev nD) (t : Fin cfg0.N) (_ : (cfg0.win 11).flush t = true) :
    (dats m 0 c).flushed 11 t = ((cfg0.win 11).blk t).view.read (Elt Ideal) (cvA (A0 m c) (A1 m c) (A2 m c) (A4 m c) (A5 m c) (A6 m c) (A7 m c)) := by
  rw [Value.flushed11_A]
  funext y
  obtain ⟨r, j, k, rfl⟩ : ∃ (r : Fin 8) (j : Fin 3) (k : Fin 1536), y = ix3 r j k := ⟨y 0, y 1, y 2, eq_ix3 y⟩
  rw [View.read_apply]
  show _ = cvA (A0 m c) (A1 m c) (A2 m c) (A4 m c) (A5 m c) (A6 m c) (A7 m c) ((win0_11.rect t).emb (ix3 r j k))
  rw [emb11]
  refine (out11_eq _ _ _ _ _ _ _ _ _ _ _ _ _ _ _ _ _ _ _ _ _ _ _ _ _ _ _ _ _ _ _ _ _ _ _ (ix3 r j k)).trans ?_
  show (rowOf _ _ _ _ _ _ _ _ _ r).shift j k = _
  rw [row_eq]
  rfl

theorem mem_blk11 (t : Fin cfg0.N) (i : S32x3x1536.Idx) :
    i ∈ ((cfg0.win 11).blk t).view.set ↔ ∀ a, win0_11.index t a * win0_11.size a ≤ (i a : Nat)
      ∧ (i a : Nat) < win0_11.index t a * win0_11.size a + win0_11.xsize (grid0.coords t) a := by
  show i ∈ ((View.whole main_v15_2).slice (win0_11.rect t)).set ↔ _
  rw [View.set_slice_whole, Rect.mem_set_unit]

theorem flush11 : ∀ t : Fin cfg0.N, (cfg0.win 11).flush t = true := (by decide +kernel : ∀ t : Fin grid0.N, win0_11.flush t = true)

theorem final11 (c : Dev nD) : (dats m 0 c).arrAt 11 cfg0.N = cvA (A0 m c) (A1 m c) (A2 m c) (A4 m c) (A5 m c) (A6 m c) (A7 m c) := by
  funext i
  have h0 : (i 0 : Nat) < 32 := (i 0).isLt
  have h1 : (i 1 : Nat) < 3 := (i 1).isLt
  have h2 : (i 2 : Nat) < 1536 := (i 2).isLt
  have hN : cfg0.N = 4 := N_0
  let t : Fin cfg0.N := ⟨(i 0 : Nat) / 8, by rw [hN]; omega⟩
  refine (dats m 0 c).arrAt_apply_of_mem 11 _ (flushed11_eq m c) cfg0.N t i t.isLt (flush11 t) ?_
  rw [mem_blk11]
  intro a
  rw [idx11]
  have q : t.val = (i 0 : Nat) / 8 := rfl
  match a with
  | ⟨0, _⟩ => show t.val * 8 ≤ (i 0 : Nat) ∧ (i 0 : Nat) < t.val * 8 + 8; rw [q]; omega
  | ⟨1, _⟩ => show 0 * 3 ≤ (i 1 : Nat) ∧ (i 1 : Nat) < 0 * 3 + 3; omega
  | ⟨2, _⟩ => show 0 * 1536 ≤ (i 2 : Nat) ∧ (i 2 : Nat) < 0 * 1536 + 1536; omega

/-- The run: the three results, and the arguments unchanged. -/
theorem run : θ_run (defs (F := Ideal)) (onTc (τ := τ) (main (F := Ideal))) ⟨m, fun _ => 0, ρ⟩ fun r => ∀ c : Dev nD,
      r.2.mem ((c : Thread nD τ).loc main_v15_0) = yA (A0 m c) (A1 m c) (A2 m c) (A4 m c) (A5 m c) (A6 m c) (A7 m c)
      ∧ r.2.mem ((c : Thread nD τ).loc main_v15_1) = stA (A0 m c) (A1 m c) (A2 m c) (A3 m c) (A4 m c) (A5 m c) (A6 m c) (A7 m c)
      ∧ r.2.mem ((c : Thread nD τ).loc main_v15_2) = cvA (A0 m c) (A1 m c) (A2 m c) (A4 m c) (A5 m c) (A6 m c) (A7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final9 m c), (h c).2.1.trans (final10 m c), (h c).2.2.1.trans (final11 m c),
    (h c).2.2.2⟩) (Value.run_blocks m ρ)

end Cert.Proof.DnSample

end
-- ==== Proof.AttnSpec.lean ====
/-
  The key a token adds to the attention's cache: its row of the projection normalised head by head and turned by the rotary angle of its
  position, and the two caches shifted by one.  Also the laws by which a product with a zero-one table over a split square is the
  head's sum of squares.
-/
module

public import proofs.«01_k».proof.Defs
public import proofs.«01_k».proof.Proof.Norm
public import proofs.«01_k».proof.Proof.SsmHost
public import Idealize.ShloMosaic.Lib.ValueIdx
public import Idealize.ShloMosaic.Lib.IdealHost
public import Idealize.ShloMosaic.Lib.KernelVsHost

@[expose] public section

noncomputable section

namespace Cert.Proof.AttnSpec

open Idealize.ShloMosaic Idealize.ShloMosaic.ValueIdx
open Cert.Proof.Norm (normRow scale)
open scoped BigOperators

/-! ## The specification -/

/-- The projections of the rows. -/
abbrev Sz : Shape := ⟨2, ![32, 768]⟩
/-- The caches, with their layers and heads. -/
abbrev Sc : Shape := ⟨5, ![4, 32, 128, 2, 64]⟩
/-- The weights of the norm, one row a layer. -/
abbrev Sw : Shape := ⟨2, ![4, 64]⟩
/-- A layer's cache with its heads side by side. -/
abbrev So : Shape := ⟨3, ![32, 128, 128]⟩

/-- The rotary angle of the new token in frequency `j`. -/
def angle (j : Fin 32) : Ideal .f32 :=
  FloatOps.mulf (F := Ideal) (FloatOps.sitofp .f32 (IntOp.addi 16384#32 (BitVec.ofNat 32 0)))
    (FloatOps.hostPowf (F := Ideal) (FloatOps.ofBits .f32 0x461C4000#32)
      (FloatOps.hostDivf (F := Ideal) (FloatOps.hostNegf (F := Ideal) (FloatOps.sitofp .f32 (BitVec.ofNat 32 j.val))) (FloatOps.ofBits .f32 0x42000000#32)))
def cosA (j : Fin 32) : EReal := FloatOps.hostUnary (F := Ideal) .cos (angle j)
def sinA (j : Fin 32) : EReal := FloatOps.hostUnary (F := Ideal) .sin (angle j)

/-- A head turned by its angles. -/
def rot (v : Fin 64 → EReal) (d : Fin 64) : EReal :=
  if h : d.val < 32 then v d * cosA ⟨d.val, h⟩ - v ⟨d.val + 32, by omega⟩ * sinA ⟨d.val, h⟩
  else v d * cosA ⟨d.val - 32, by omega⟩ + v ⟨d.val - 32, by omega⟩ * sinA ⟨d.val - 32, by omega⟩

/-- The new key of head `h` from a row of keys of both heads. -/
def keyOf (y : Fin 128 → EReal) (g : Fin 64 → EReal) (h : Fin 2) (d : Fin 64) : EReal :=
  rot (normRow 0x42800000#32 (fun k : Fin 64 => y ⟨h.val * 64 + k.val, by omega⟩) g) d

/-- The keys' cache after the token. -/
def keysA (z : Sz.Idx → EReal) (ck : Sc.Idx → EReal) (g : Sw.Idx → EReal) (i : So.Idx) : EReal :=
  if h : (i 1).val < 127 then ck (ix5 0 (i 0) (⟨(i 1).val + 1, by omega⟩ : Fin 128) (⟨(i 2).val / 64, by have : (i 2).val < 128 := (i 2).isLt; omega⟩ : Fin 2) (⟨(i 2).val % 64, by omega⟩ : Fin 64))
  else keyOf (fun k => z (ix2 (i 0) (⟨512 + k.val, by omega⟩ : Fin 768))) (fun d => g (ix2 0 d)) ⟨(i 2).val / 64, by have : (i 2).val < 128 := (i 2).isLt; omega⟩ ⟨(i 2).val % 64, by omega⟩

/-- The values' cache after the token. -/
def valsA (z : Sz.Idx → EReal) (cv : Sc.Idx → EReal) (i : So.Idx) : EReal :=
  if h : (i 1).val < 127 then cv (ix5 0 (i 0) (⟨(i 1).val + 1, by omega⟩ : Fin 128) (⟨(i 2).val / 64, by have : (i 2).val < 128 := (i 2).isLt; omega⟩ : Fin 2) (⟨(i 2).val % 64, by omega⟩ : Fin 64))
  else z (ix2 (i 0) (⟨640 + (i 2).val, by have : (i 2).val < 128 := (i 2).isLt; omega⟩ : Fin 768))

/-! ## The two literals -/

/-- The literal of a sixty-fourth. -/
theorem sixtyfourth : Ideal.ofBits .f32 0x3C800000#32 = (((1 : ℝ) / 64 : ℝ) : EReal) := by
  simp [Ideal.ofBits, Ideal.ieee, -EReal.coe_mul]; norm_num
/-- The literal of sixty-four. -/
theorem sixtyfour : Ideal.ofBits .f32 0x42800000#32 = ((64 : ℝ) : EReal) := by
  simp [Ideal.ofBits, Ideal.ieee, -EReal.coe_mul]; norm_num

/-- A product with a sixty-fourth is a quotient by sixty-four. -/
theorem mul_sixtyfourth (x : EReal) : x * Ideal.ofBits .f32 0x3C800000#32 = Ideal.div x (Ideal.ofBits .f32 0x42800000#32) := by
  rw [sixtyfourth, sixtyfour, Ideal.div_coe (by norm_num)]

/-! ## The split square -/

/-- What rounding leaves over of a number that is not infinite is nothing. -/
theorem left_over (x : EReal) (h1 : x ≠ ⊤) (h2 : x ≠ ⊥) : x * x - x * x = 0 := by
  lift x to ℝ using ⟨h1, h2⟩
  rw [← EReal.coe_mul, ← EReal.coe_sub, sub_self]; rfl

/-- The two products with the table of heads are the head's sum of squares. -/
theorem head_sum (y : Fin 128 → EReal) (e : Fin 128 → EReal) (h : Fin 2) (hy : ∀ k, y k ≠ ⊤ ∧ y k ≠ ⊥)
    (he : ∀ k, e k = if k.val / 64 = h.val then 1 else 0) :
    (∑ k : Fin 128, y k * y k * e k) + (∑ k : Fin 128, (y k * y k - y k * y k) * e k)
      = ∑ k : Fin 64, y ⟨h.val * 64 + k.val, by omega⟩ * y ⟨h.val * 64 + k.val, by omega⟩ := by
  have z : (∑ k : Fin 128, (y k * y k - y k * y k) * e k) = 0 :=
    Finset.sum_eq_zero fun k _ => by rw [left_over _ (hy k).1 (hy k).2, zero_mul]
  rw [z, add_zero]
  refine (Finset.sum_congr rfl fun k _ => ?_).trans
    (Cert.Proof.SsmHost.sum_group (A := 2) (B := 64) (by omega) (fun k : Fin (2 * 64) => y k * y k) h (fun c => by omega))
  rw [he]
  by_cases hk : k.val / 64 = h.val
  · rw [if_pos hk, if_pos hk, mul_one]
  · rw [if_neg hk, if_neg hk, mul_zero]

/-- The mean square as the call computes it. -/
theorem scale_eq (y : Fin 128 → EReal) (e : Fin 128 → EReal) (h : Fin 2) (hy : ∀ k, y k ≠ ⊤ ∧ y k ≠ ⊥)
    (he : ∀ k, e k = if k.val / 64 = h.val then 1 else 0) :
    Ideal.rsqrt (((∑ k : Fin 128, y k * y k * e k) + (∑ k : Fin 128, (y k * y k - y k * y k) * e k)) * Ideal.ofBits .f32 0x3C800000#32 + Ideal.ofBits .f32 0x358637BD#32)
      = scale 0x42800000#32 (fun k : Fin 64 => y ⟨h.val * 64 + k.val, by omega⟩) := by
  rw [head_sum y e h hy he, mul_sixtyfourth]
  rfl

/-- The turned key at lane `n`: the lane's own share and its partner's, the partner's sign in the table. -/
theorem turned (y : Fin 128 → EReal) (g : Fin 64 → EReal) (n : Fin 128) (P : Fin 128 → EReal) (c s : EReal) (q : Fin 128)
    (hP : ∀ m : Fin 128, m.val / 64 = n.val / 64 → P m = y m * scale 0x42800000#32 (fun k : Fin 64 => y ⟨n.val / 64 * 64 + k.val, by omega⟩) * g ⟨m.val % 64, by omega⟩)
    (hc : c = cosA ⟨n.val % 32, by omega⟩) (hs : s = if n.val % 64 < 32 then -sinA ⟨n.val % 32, by omega⟩ else sinA ⟨n.val % 32, by omega⟩)
    (hq : q.val = if n.val % 64 < 32 then n.val + 32 else n.val - 32) :
    P n * c + P q * s = keyOf y g ⟨n.val / 64, by omega⟩ ⟨n.val % 64, by omega⟩ := by
  have key : ∀ (m : Fin 128) (d : Fin 64), m.val / 64 = n.val / 64 → m.val % 64 = d.val →
      P m = normRow 0x42800000#32 (fun k : Fin 64 => y ⟨n.val / 64 * 64 + k.val, by omega⟩) g d := fun m d hm hd => by
    rw [hP m hm]
    unfold normRow
    refine congrArg₂ (fun a b : EReal => a * _ * b) (congrArg y (Fin.ext ?_)) (congrArg g (Fin.ext hd))
    show m.val = n.val / 64 * 64 + d.val
    omega
  unfold keyOf rot
  by_cases h : n.val % 64 < 32
  · rw [if_pos h] at hs hq
    rw [dif_pos (show (⟨n.val % 64, by omega⟩ : Fin 64).val < 32 from h), key n ⟨n.val % 64, by omega⟩ rfl rfl, key q ⟨n.val % 64 + 32, by omega⟩ (by omega) (by show q.val % 64 = n.val % 64 + 32; omega), hc, hs,
      mul_neg, ← sub_eq_add_neg]
    have e : (⟨n.val % 32, by omega⟩ : Fin 32) = ⟨n.val % 64, h⟩ := Fin.ext (by show n.val % 32 = n.val % 64; omega)
    rw [e]
  · rw [if_neg h] at hs hq
    rw [dif_neg (show ¬ (⟨n.val % 64, by omega⟩ : Fin 64).val < 32 from h), key n ⟨n.val % 64, by omega⟩ rfl rfl, key q ⟨n.val % 64 - 32, by omega⟩ (by omega) (by show q.val % 64 = n.val % 64 - 32; omega), hc, hs]
    have e : (⟨n.val % 32, by omega⟩ : Fin 32) = ⟨n.val % 64 - 32, by omega⟩ := Fin.ext (by show n.val % 32 = n.val % 64 - 32; omega)
    rw [e]

/-! ## A number below infinity in size is not infinite -/

theorem finite_of (x : EReal) (h : Ideal.cmp .olt (max x (-x)) (Ideal.ofBits .f32 0x7F800000#32) = 1#1) : x ≠ ⊤ ∧ x ≠ ⊥ := by
  have top : Ideal.ofBits .f32 0x7F800000#32 = ⊤ := by simp [Ideal.ofBits, Ideal.ieee]
  rw [top] at h
  have h : max x (-x) < ⊤ := by
    by_contra hc
    have z : Ideal.cmp .olt (max x (-x)) ⊤ = 0#1 := by
      show BitVec.ofBool (decide (max x (-x) < ⊤)) = 0#1
      rw [decide_eq_false hc]; rfl
    rw [z] at h
    exact absurd h (by decide)
  constructor
  · rintro rfl; simp at h
  · rintro rfl; simp at h

end Cert.Proof.AttnSpec

end
-- ==== Proof.AttnBody.lean ====
/-
  The attention's call on the sample rows, the two blocks of its caches as functions of the blocks it reads: a row keeps its last 127
  tokens, one place earlier, and adds the token's key and value in the last place.
-/
module

public import proofs.«01_k».proof.Defs
public import proofs.«01_k».proof.Proof.Gen.AttnSampleIdeal.Value
public import proofs.«01_k».proof.Proof.AttnSpec
public import Idealize.ShloMosaic.Lib.MatmulPlain
public import Idealize.ShloMosaic.Lib.Pipeline.ValueKit.Tiles

@[expose] public section

noncomputable section

namespace Cert.Proof.AttnBody

open Idealize.ShloMosaic Idealize.ShloMosaic.TcCoe Idealize.SL.Sem Idealize.ShloMosaic.ValueIdx
open Cert.AttnSampleIdeal Cert.AttnSampleIdeal.Gen
open Cert.Proof.AttnSpec
open Cert.Proof.Norm (normRow scale)

theorem at2 {m n m' n' : ℕ} (p : Fin m) (q : Fin n) (a b : ℕ) (p' : Fin m') (q' : Fin n') (hp : p.val = a + p'.val) (hq : q.val = b + q'.val) :
    ∀ i : Fin 2, ((ix2 p q) i : ℕ) = (![a, b] : Fin 2 → Nat) i + (ix2 p' q') i := fun i => match i with
  | ⟨0, _⟩ => hp
  | ⟨1, _⟩ => hq
theorem at3 {m n l m' n' l' : ℕ} (p : Fin m) (q : Fin n) (u : Fin l) (a b c : ℕ) (p' : Fin m') (q' : Fin n') (u' : Fin l')
    (hp : p.val = a + p'.val) (hq : q.val = b + q'.val) (hu : u.val = c + u'.val) :
    ∀ i : Fin 3, ((ix3 p q u) i : ℕ) = (![a, b, c] : Fin 3 → Nat) i + (ix3 p' q' u') i := fun i => match i with
  | ⟨0, _⟩ => hp
  | ⟨1, _⟩ => hq
  | ⟨2, _⟩ => hu

/-! ## The new key -/

/-- The row of keys of both heads in a block's row. -/
def yRow (x0 : Vec Ideal S8x768 .f32) (r : Fin 8) (k : Fin 128) : EReal := x0 (ix2 r ⟨512 + k.val, by omega⟩)

/-- The normalised key, as the call computes it. -/
theorem pay12_apply (x0 : Vec Ideal S8x768 .f32) (g : Vec Ideal S1x128 .f32) (e : Vec Ideal S128x128 .bf16) (r : Fin 8) (n : Fin 128) :
    (k0_pay12 x0 g e (ix2 r n) : EReal) = yRow x0 r n
      * Ideal.rsqrt (((∑ k : Fin 128, yRow x0 r k * yRow x0 r k * e (ix2 k n)) + (∑ k : Fin 128, (yRow x0 r k * yRow x0 r k - yRow x0 r k * yRow x0 r k) * e (ix2 k n)))
          * Ideal.ofBits .f32 0x3C800000#32 + Ideal.ofBits .f32 0x358637BD#32) * g (ix2 0 n) := by
  have hy : ∀ k : Fin 128, (extractStridedSlice S8x128 ![0, 512] x0 slices_S8x768_o0_512_S8x128 (ix2 r k) : EReal) = yRow x0 r k := fun k =>
    extractStridedSlice_apply (s := S8x768) (t := S8x128) ![0, 512] x0 _ (ix2 r k) (ix2 r ⟨512 + k.val, by omega⟩) (fun a => match a with
      | ⟨0, _⟩ => by show r.val = 0 + r.val; omega
      | ⟨1, _⟩ => rfl)
  unfold k0_pay12
  show ((extractStridedSlice S8x128 ![0, 512] x0 slices_S8x768_o0_512_S8x128 (ix2 r n) : EReal)
    * Ideal.rsqrt (((FloatOps.matmul (F := Ideal) (DotDims.plain 8 128 128) none
          (truncf .bf16 (mulf (extractStridedSlice S8x128 ![0, 512] x0 slices_S8x768_o0_512_S8x128) (extractStridedSlice S8x128 ![0, 512] x0 slices_S8x768_o0_512_S8x128) : FVec Ideal S8x128 .f32) bitsLt_bf16_f32 : FVec Ideal S8x128 .bf16)
          (shapeCast S128x128 e shapeCasts_S128x128_S128x128) (constant S8x128 .f32 0x00000000#32) (ix2 r n) : EReal)
        + (FloatOps.matmul (F := Ideal) (DotDims.plain 8 128 128) none
          (truncf .bf16 (subf (mulf (extractStridedSlice S8x128 ![0, 512] x0 slices_S8x768_o0_512_S8x128) (extractStridedSlice S8x128 ![0, 512] x0 slices_S8x768_o0_512_S8x128) : FVec Ideal S8x128 .f32)
            (mulf (extractStridedSlice S8x128 ![0, 512] x0 slices_S8x768_o0_512_S8x128) (extractStridedSlice S8x128 ![0, 512] x0 slices_S8x768_o0_512_S8x128) : FVec Ideal S8x128 .f32)) bitsLt_bf16_f32 : FVec Ideal S8x128 .bf16)
          (shapeCast S128x128 e shapeCasts_S128x128_S128x128) (constant S8x128 .f32 0x00000000#32) (ix2 r n) : EReal))
        * Ideal.ofBits .f32 0x3C800000#32 + Ideal.ofBits .f32 0x358637BD#32)
    * broadcastTo S8x128 (shapeCast S1x128 g shapeCasts_S1x128_S1x128) broadcasts_S1x128_S8x128 (ix2 r n) : EReal) = _
  rw [Ideal.matmul_plain_apply, Ideal.matmul_plain_apply, constant_apply, Ideal.ofBits_zero_f32, zero_add, zero_add, shapeCast_self, shapeCast_self, hy,
    broadcastTo_apply g broadcasts_S1x128_S8x128 (ix2 r n) (ix2 0 n) (fun a => match a with | ⟨0, _⟩ => rfl | ⟨1, _⟩ => rfl)]
  refine congrArg₂ (fun a b : EReal => yRow x0 r n * Ideal.rsqrt ((a + b) * Ideal.ofBits .f32 0x3C800000#32 + Ideal.ofBits .f32 0x358637BD#32) * g (ix2 0 n))
    (Finset.sum_congr rfl fun k _ => ?_) (Finset.sum_congr rfl fun k _ => ?_)
  · exact congrArg (fun z : EReal => z * z * e (ix2 k n)) (hy k)
  · exact congrArg (fun z : EReal => (z * z - z * z) * e (ix2 k n)) (hy k)

/-- A head's width, as the call states it. -/
abbrev wid : BitVec 32 := Scalar.select (Scalar.cmpi .eq 64#32 0#32) 1#32 64#32

/-- The lanes in the first half of their head. -/
def mask : IVec S8x128 1 :=
  cmpi .slt (select (andi (xori (cmpi .slt k0_pay13 (broadcast S8x128 0#32)) (broadcastTo S8x128 (broadcast S8x128 (Scalar.cmpi .slt wid 0#32)) broadcasts_S8x128_S8x128)) k0_pay14)
    (addi k0_pay13 (broadcast S8x128 wid)) k0_pay13) (broadcast S8x128 32#32)

theorem mask_apply : ∀ (r : Fin 8) (n : Fin 128), mask (ix2 r n) = if n.val % 64 < 32 then 1#1 else 0#1 := by
  decide +kernel

/-- The lane a lane is turned with. -/
def mate (n : Fin 128) : Fin 128 := if h : n.val % 64 < 32 then ⟨n.val + 32, by omega⟩ else ⟨n.val - 32, by omega⟩

theorem mate_val (n : Fin 128) : (mate n).val = if n.val % 64 < 32 then n.val + 32 else n.val - 32 := by
  unfold mate
  split <;> rfl

theorem pay15_apply (x3 x4 : Vec Ideal S1x128 .f32) (P : FVec Ideal S8x128 .f32) (r : Fin 8) (n : Fin 128) :
    (k0_pay15 (k0_pay2 x3) (k0_pay3 x4) P wid k0_pay13 k0_pay14 0#32 (ix2 r n) : EReal) = P (ix2 r n) * x3 (ix2 0 n) + P (ix2 r (mate n)) * x4 (ix2 0 n) := by
  unfold k0_pay15 k0_pay2 k0_pay3
  show ((P (ix2 r n) : EReal) * broadcastTo S8x128 (shapeCast S1x128 x3 shapeCasts_S1x128_S1x128) broadcasts_S1x128_S8x128 (ix2 r n)
    + Scalar.select (mask (ix2 r n)) (dynamicRotate 1 96#32 none P rotates_S8x128_d1 (ix2 r n)) (dynamicRotate 1 32#32 none P rotates_S8x128_d1 (ix2 r n))
      * broadcastTo S8x128 (shapeCast S1x128 x4 shapeCasts_S1x128_S1x128) broadcasts_S1x128_S8x128 (ix2 r n) : EReal) = _
  rw [shapeCast_self, shapeCast_self,
    broadcastTo_apply x3 broadcasts_S1x128_S8x128 (ix2 r n) (ix2 0 n) (fun a => match a with | ⟨0, _⟩ => rfl | ⟨1, _⟩ => rfl),
    broadcastTo_apply x4 broadcasts_S1x128_S8x128 (ix2 r n) (ix2 0 n) (fun a => match a with | ⟨0, _⟩ => rfl | ⟨1, _⟩ => rfl), mask_apply]
  refine congrArg (fun z : EReal => (P (ix2 r n) : EReal) * x3 (ix2 0 n) + z * x4 (ix2 0 n)) ?_
  by_cases h : n.val % 64 < 32
  · rw [if_pos h]
    refine dynamicRotate_apply (s := S8x128) 1 96#32 P rotates_S8x128_d1 (ix2 r n) (ix2 r (mate n)) (fun b => ?_)
    match b with
    | ⟨0, _⟩ => rfl
    | ⟨1, _⟩ =>
      show (mate n).val = (n.val + 128 - 96 % 128) % 128
      rw [mate_val, if_pos h]; omega
  · rw [if_neg h]
    refine dynamicRotate_apply (s := S8x128) 1 32#32 P rotates_S8x128_d1 (ix2 r n) (ix2 r (mate n)) (fun b => ?_)
    match b with
    | ⟨0, _⟩ => rfl
    | ⟨1, _⟩ =>
      show (mate n).val = (n.val + 128 - 32 % 128) % 128
      rw [mate_val, if_neg h]; omega

section Blocks
variable (x0 : Vec Ideal S8x768 .f32) (x1 : Vec Ideal S8x128x128 .f32) (x2 : Vec Ideal S8x128x128 .f32) (x3 : Vec Ideal S1x128 .f32) (x4 : Vec Ideal S1x128 .f32) (x5 : Vec Ideal S1x512 .f32) (x6 : Vec Ideal S1x128 .f32) (x7 : Vec Ideal S512x512 .bf16) (x8 : Vec Ideal S8x128 .f32)

/-- The block of new keys. -/
def newK : FVec Ideal S8x128 .f32 :=
  k0_pay15 (k0_pay2 (View.ld x3 (Rect.unit ![0, 0] S1x128.size inb_S1x128_S1x128_0_0))) (k0_pay3 (View.ld x4 (Rect.unit ![0, 0] S1x128.size inb_S1x128_S1x128_0_0)))
    (k0_pay12 (View.ld x0 (Rect.unit ![0, 0] S8x768.size inb_S8x768_S8x768_0_0)) (View.ld x6 (Rect.unit ![0, 0] S1x128.size inb_S1x128_S1x128_0_0))
      (View.ld x7 (Rect.unit ![0, 0] S128x128.size inb_S512x512_S128x128_0_0))) wid k0_pay13 k0_pay14 0#32

/-- The block of new values. -/
def newV : FVec Ideal S8x128 .f32 := k0_pay16 (View.ld x0 (Rect.unit ![0, 0] S8x768.size inb_S8x768_S8x768_0_0))

theorem newV_apply (r : Fin 8) (n : Fin 128) : (newV x0 (ix2 r n) : EReal) = x0 (ix2 r ⟨640 + n.val, by omega⟩) := by
  unfold newV k0_pay16
  refine (extractStridedSlice_apply (s := S8x768) (t := S8x128) ![0, 640] _ slices_S8x768_o0_640_S8x128 (ix2 r n) (ix2 r ⟨640 + n.val, by omega⟩) (fun a => match a with
    | ⟨0, _⟩ => by show r.val = 0 + r.val; omega
    | ⟨1, _⟩ => rfl)).trans ?_
  exact View.ld_unit_apply_of x0 ![0, 0] S8x768.size inb_S8x768_S8x768_0_0 _ _ (at2 _ _ _ _ _ _ (by omega) (by omega))

/-- The new key of a row, its head turned. -/
theorem newK_apply (r : Fin 8) (n : Fin 128) (y : Fin 128 → EReal) (g : Fin 64 → EReal) (hx : ∀ k, yRow x0 r k = y k) (hy : ∀ k, y k ≠ ⊤ ∧ y k ≠ ⊥)
    (hg : ∀ m : Fin 128, (x6 (ix2 0 m) : EReal) = g ⟨m.val % 64, by omega⟩)
    (he : ∀ j m : Fin 128, (x7 (ix2 ⟨j.val, by omega⟩ ⟨m.val, by omega⟩) : EReal) = if j.val / 64 = m.val / 64 then 1 else 0)
    (hc : (x3 (ix2 0 n) : EReal) = cosA ⟨n.val % 32, by omega⟩) (hs : (x4 (ix2 0 n) : EReal) = if n.val % 64 < 32 then -sinA ⟨n.val % 32, by omega⟩ else sinA ⟨n.val % 32, by omega⟩) :
    (newK x0 x3 x4 x6 x7 (ix2 r n) : EReal) = keyOf y g ⟨n.val / 64, by omega⟩ ⟨n.val % 64, by omega⟩ := by
  unfold newK
  rw [pay15_apply]
  have l0 : ∀ k : Fin 128, yRow (View.ld x0 (Rect.unit ![0, 0] S8x768.size inb_S8x768_S8x768_0_0)) r k = y k := fun k =>
    (View.ld_unit_apply_of x0 ![0, 0] S8x768.size inb_S8x768_S8x768_0_0 _ _ (at2 _ _ _ _ _ _ (by omega) (by omega))).trans (hx k)
  refine turned y g n (fun m => (k0_pay12 (View.ld x0 (Rect.unit ![0, 0] S8x768.size inb_S8x768_S8x768_0_0)) (View.ld x6 (Rect.unit ![0, 0] S1x128.size inb_S1x128_S1x128_0_0))
      (View.ld x7 (Rect.unit ![0, 0] S128x128.size inb_S512x512_S128x128_0_0)) (ix2 r m) : EReal)) _ _ (mate n) (fun m hm => ?_)
    ((View.ld_unit_apply_of x3 ![0, 0] S1x128.size inb_S1x128_S1x128_0_0 (ix2 0 n) (ix2 0 n) (at2 _ _ _ _ _ _ rfl (by omega))).trans hc)
    ((View.ld_unit_apply_of x4 ![0, 0] S1x128.size inb_S1x128_S1x128_0_0 (ix2 0 n) (ix2 0 n) (at2 _ _ _ _ _ _ rfl (by omega))).trans hs) (mate_val n)
  beta_reduce
  rw [pay12_apply]
  simp only [l0]
  rw [scale_eq y _ ⟨m.val / 64, by omega⟩ hy (fun k => (View.ld_unit_apply_of x7 ![0, 0] S128x128.size inb_S512x512_S128x128_0_0 (ix2 k m) (ix2 ⟨k.val, by omega⟩ ⟨m.val, by omega⟩)
      (at2 _ _ _ _ _ _ (by show k.val = 0 + k.val; omega) (by show m.val = 0 + m.val; omega))).trans (he k m)),
    View.ld_unit_apply_of x6 ![0, 0] S1x128.size inb_S1x128_S1x128_0_0 (ix2 0 m) (ix2 0 m) (at2 _ _ _ _ _ _ rfl (by omega)), hg]
  simp only [hm]

/-! ## The two caches -/

/-- A row of a block keeps its tokens and adds one. -/
def pushed (x : S8x128x128.Idx → EReal) (v : S8x128.Idx → EReal) (y : S8x128x128.Idx) : EReal :=
  if h : (y 1).val < 127 then x (ix3 (y 0) (⟨(y 1).val + 1, by omega⟩ : Fin 128) (y 2)) else v (ix2 (y 0) (y 2))

theorem kept_inb (i : Fin 8) : ∀ a, (![i.val, 1, 0] : Fin 3 → Nat) a + S1x127x128.size a ≤ S8x128x128.size a := fun a => match a with
  | ⟨0, _⟩ => by show i.val + 1 ≤ 8; omega
  | ⟨1, _⟩ => by show 1 + 127 ≤ 128; omega
  | ⟨2, _⟩ => by show 0 + 128 ≤ 128; omega

theorem row_slices (i : Fin 8) : S8x128.Slices ![i.val, 0] S1x128 := ⟨rfl, fun a => match a with
  | ⟨0, _⟩ => by show i.val + 1 ≤ 8; omega
  | ⟨1, _⟩ => by show 0 + 128 ≤ 128; omega⟩

/-- The tokens a row keeps. -/
def kept (x : Vec Ideal S8x128x128 .f32) (i : Fin 8) : Vec Ideal S1x127x128 .f32 :=
  shapeCast S1x127x128 (shapeCast S127x128 (View.ld x (Rect.unit ![i.val, 1, 0] S1x127x128.size (kept_inb i))) shapeCasts_S1x127x128_S127x128 : FVec Ideal S127x128 .f32)
    shapeCasts_S127x128_S1x127x128
/-- The token a row adds. -/
def added (v : FVec Ideal S8x128 .f32) (i : Fin 8) : Vec Ideal S1x1x128 .f32 :=
  shapeCast S1x1x128 (extractStridedSlice S1x128 ![i.val, 0] v (row_slices i) : FVec Ideal S1x128 .f32) shapeCasts_S1x128_S1x1x128

theorem kept_eq (X : Vec Ideal S8x128x128 .f32) (v : FVec Ideal S8x128 .f32) (r : Fin 8) (x : S1x127x128.Idx) (y : S8x128x128.Idx) (hx : ∀ a, (y a : ℕ) = (![r.val, 0, 0] : Fin 3 → Nat) a + x a) :
    (kept X r x : EReal) = pushed X v y := by
  have e0 : x 0 = (0 : Fin 1) := Subsingleton.elim (α := Fin 1) _ _
  have e : x = ix3 0 (x 1) (x 2) := (eq_ix3 x).trans (by rw [e0]; rfl)
  have h0 : y 0 = r := Fin.ext ((hx 0).trans (by rw [e0]; rfl))
  have h1 : (y 1).val = (x 1).val := (hx 1).trans (Nat.zero_add _)
  have h2 : (y 2).val = (x 2).val := (hx 2).trans (Nat.zero_add _)
  have l1 : (x 1).val < 127 := (x 1).isLt
  rw [e]
  unfold kept pushed
  rw [dif_pos (by omega)]
  refine (shapeCast_apply _ shapeCasts_S127x128_S1x127x128 (ix3 0 (x 1) (x 2)) (ix2 (x 1) (x 2)) (by
    rw [Shape.rowMajor_val_two, Shape.rowMajor_val_three]
    show (x 1).val * 128 + (x 2).val = (0 * 127 + (x 1).val) * 128 + (x 2).val
    omega)).trans ?_
  refine (shapeCast_apply _ shapeCasts_S1x127x128_S127x128 (ix2 (x 1) (x 2)) (ix3 0 (x 1) (x 2)) (by
    rw [Shape.rowMajor_val_two, Shape.rowMajor_val_three]
    show (0 * 127 + (x 1).val) * 128 + (x 2).val = (x 1).val * 128 + (x 2).val
    omega)).trans ?_
  exact View.ld_unit_apply_of X ![r.val, 1, 0] S1x127x128.size (kept_inb r) (ix3 0 (x 1) (x 2)) (ix3 (y 0) ⟨(y 1).val + 1, by omega⟩ (y 2))
    (at3 _ _ _ _ _ _ _ _ _ (by rw [h0]; rfl) (by show (y 1).val + 1 = 1 + (x 1).val; omega) (by omega))

theorem added_eq (X : Vec Ideal S8x128x128 .f32) (v : FVec Ideal S8x128 .f32) (r : Fin 8) (x : S1x1x128.Idx) (y : S8x128x128.Idx) (hx : ∀ a, (y a : ℕ) = (![r.val, 127, 0] : Fin 3 → Nat) a + x a) :
    (added v r x : EReal) = pushed X v y := by
  have e0 : x 0 = (0 : Fin 1) := Subsingleton.elim (α := Fin 1) _ _
  have e1 : x 1 = (0 : Fin 1) := Subsingleton.elim (α := Fin 1) _ _
  have e : x = ix3 0 0 (x 2) := (eq_ix3 x).trans (by rw [e0, e1]; rfl)
  have h0 : y 0 = r := Fin.ext ((hx 0).trans (by rw [e0]; rfl))
  have h1 : (y 1).val = 127 := (hx 1).trans (by rw [e1]; rfl)
  have h2 : (y 2).val = (x 2).val := (hx 2).trans (Nat.zero_add _)
  rw [e]
  unfold added pushed
  rw [dif_neg (by omega)]
  refine (shapeCast_apply _ shapeCasts_S1x128_S1x1x128 (ix3 0 0 (x 2)) (ix2 0 (x 2)) (by
    rw [Shape.rowMajor_val_two, Shape.rowMajor_val_three]
    show 0 * 128 + (x 2).val = (0 * 1 + 0) * 128 + (x 2).val
    omega)).trans ?_
  exact extractStridedSlice_apply (s := S8x128) (t := S1x128) ![r.val, 0] _ (row_slices r) (ix2 0 (x 2)) (ix2 (y 0) (y 2)) (fun a => match a with
    | ⟨0, _⟩ => by rw [h0]; rfl
    | ⟨1, _⟩ => by show (y 2).val = 0 + (x 2).val; omega)

end Blocks

set_option maxRecDepth 16384

/-- The keys' cache, as the call leaves it. -/
theorem out10_eq (c : Dev nD) (i : grid0.Coords) (arg1 : Memref sig .tc .vmem S8x768 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S8x128 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole)
    (x0 : Vec Ideal S8x768 .f32) (x1 : Vec Ideal S8x128x128 .f32) (x2 : Vec Ideal S8x128x128 .f32) (x3 : Vec Ideal S1x128 .f32) (x4 : Vec Ideal S1x128 .f32) (x5 : Vec Ideal S1x512 .f32) (x6 : Vec Ideal S1x128 .f32) (x7 : Vec Ideal S512x512 .bf16) (x8 : Vec Ideal S8x128 .f32) (y : S8x128x128.Idx) :
    (out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y : EReal) = pushed x1 (newK x0 x3 x4 x6 x7) y := by
  unfold out0_A_10
  rw [View.read_writes_eq_canon _ _ _ (cover0_A_10 c i _ _ _ _ _ _ _ _ _ _ _ _ _ _ _ _ _ _ _ _ _ _ _ _ _ _ _ _ _ _ _ _ _)]
  refine View.canon_eq_of_allAt _ y _ (cover0_A_10 c i _ _ _ _ _ _ _ _ _ _ _ _ _ _ _ _ _ _ _ _ _ _ _ _ _ _ _ _ _ _ _ _ _ y) ?_
  unfold kernelRun0_A
  dsimp only
  have a (r : Fin 8) (x : S1x1x128.Idx) (hx : ∀ a, (y a : ℕ) = (![r.val, 127, 0] : Fin 3 → Nat) a + x a) :
      (added (newK (arg1.view.read (Elt Ideal) (harg1.unread x0)) (arg4.view.read (Elt Ideal) (harg4.unread x3)) (arg5.view.read (Elt Ideal) (harg5.unread x4)) (arg7.view.read (Elt Ideal) (harg7.unread x6)) (arg8.view.read (Elt Ideal) (harg8.unread x7))) r x : EReal) = pushed x1 (newK x0 x3 x4 x6 x7) y := by
    rw [harg1.read_unread, harg4.read_unread, harg5.read_unread, harg7.read_unread, harg8.read_unread]
    exact added_eq x1 (newK x0 x3 x4 x6 x7) r x y hx
  have k (r : Fin 8) (x : S1x127x128.Idx) (hx : ∀ a, (y a : ℕ) = (![r.val, 0, 0] : Fin 3 → Nat) a + x a) :
      (kept (arg2.view.read (Elt Ideal) (harg2.unread x1)) r x : EReal) = pushed x1 (newK x0 x3 x4 x6 x7) y := by
    rw [harg2.read_unread]
    exact kept_eq x1 (newK x0 x3 x4 x6 x7) r x y hx
  refine View.allAt_cons_unit (S := S8x128x128) ![7, 127, 0] S1x1x128.size (by decide) _ _ (fun x hx => Eq.trans (by sl_kernel_rfl) (a 7 x hx)) ?_
  refine View.allAt_cons_unit (S := S8x128x128) ![7, 0, 0] S1x127x128.size (by decide) _ _ (fun x hx => Eq.trans (by sl_kernel_rfl) (k 7 x hx)) ?_
  refine View.allAt_cons_unit (S := S8x128x128) ![6, 127, 0] S1x1x128.size (by decide) _ _ (fun x hx => Eq.trans (by sl_kernel_rfl) (a 6 x hx)) ?_
  refine View.allAt_cons_unit (S := S8x128x128) ![6, 0, 0] S1x127x128.size (by decide) _ _ (fun x hx => Eq.trans (by sl_kernel_rfl) (k 6 x hx)) ?_
  refine View.allAt_cons_unit (S := S8x128x128) ![5, 127, 0] S1x1x128.size (by decide) _ _ (fun x hx => Eq.trans (by sl_kernel_rfl) (a 5 x hx)) ?_
  refine View.allAt_cons_unit (S := S8x128x128) ![5, 0, 0] S1x127x128.size (by decide) _ _ (fun x hx => Eq.trans (by sl_kernel_rfl) (k 5 x hx)) ?_
  refine View.allAt_cons_unit (S := S8x128x128) ![4, 127, 0] S1x1x128.size (by decide) _ _ (fun x hx => Eq.trans (by sl_kernel_rfl) (a 4 x hx)) ?_
  refine View.allAt_cons_unit (S := S8x128x128) ![4, 0, 0] S1x127x128.size (by decide) _ _ (fun x hx => Eq.trans (by sl_kernel_rfl) (k 4 x hx)) ?_
  refine View.allAt_cons_unit (S := S8x128x128) ![3, 127, 0] S1x1x128.size (by decide) _ _ (fun x hx => Eq.trans (by sl_kernel_rfl) (a 3 x hx)) ?_
  refine View.allAt_cons_unit (S := S8x128x128) ![3, 0, 0] S1x127x128.size (by decide) _ _ (fun x hx => Eq.trans (by sl_kernel_rfl) (k 3 x hx)) ?_
  refine View.allAt_cons_unit (S := S8x128x128) ![2, 127, 0] S1x1x128.size (by decide) _ _ (fun x hx => Eq.trans (by sl_kernel_rfl) (a 2 x hx)) ?_
  refine View.allAt_cons_unit (S := S8x128x128) ![2, 0, 0] S1x127x128.size (by decide) _ _ (fun x hx => Eq.trans (by sl_kernel_rfl) (k 2 x hx)) ?_
  refine View.allAt_cons_unit (S := S8x128x128) ![1, 127, 0] S1x1x128.size (by decide) _ _ (fun x hx => Eq.trans (by sl_kernel_rfl) (a 1 x hx)) ?_
  refine View.allAt_cons_unit (S := S8x128x128) ![1, 0, 0] S1x127x128.size (by decide) _ _ (fun x hx => Eq.trans (by sl_kernel_rfl) (k 1 x hx)) ?_
  refine View.allAt_cons_unit (S := S8x128x128) ![0, 127, 0] S1x1x128.size (by decide) _ _ (fun x hx => Eq.trans (by sl_kernel_rfl) (a 0 x hx)) ?_
  refine View.allAt_cons_unit (S := S8x128x128) ![0, 0, 0] S1x127x128.size (by decide) _ _ (fun x hx => Eq.trans (by sl_kernel_rfl) (k 0 x hx)) ?_
  exact View.allAt_nil _ _

/-- The values' cache, as the call leaves it. -/
theorem out11_eq (c : Dev nD) (i : grid0.Coords) (arg1 : Memref sig .tc .vmem S8x768 .f32) (harg1 : arg1.IsWhole) (arg2 : Memref sig .tc .vmem S8x128x128 .f32) (harg2 : arg2.IsWhole) (arg3 : Memref sig .tc .vmem S8x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S8x128 .f32) (harg9 : arg9.IsWhole) (arg10 : Memref sig .tc .vmem S8x512 .f32) (harg10 : arg10.IsWhole) (arg11 : Memref sig .tc .vmem S8x128x128 .f32) (harg11 : arg11.IsWhole) (arg12 : Memref sig .tc .vmem S8x128x128 .f32) (harg12 : arg12.IsWhole)
    (x0 : Vec Ideal S8x768 .f32) (x1 : Vec Ideal S8x128x128 .f32) (x2 : Vec Ideal S8x128x128 .f32) (x3 : Vec Ideal S1x128 .f32) (x4 : Vec Ideal S1x128 .f32) (x5 : Vec Ideal S1x512 .f32) (x6 : Vec Ideal S1x128 .f32) (x7 : Vec Ideal S512x512 .bf16) (x8 : Vec Ideal S8x128 .f32) (y : S8x128x128.Idx) :
    (out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y : EReal) = pushed x2 (newV x0) y := by
  unfold out0_A_11
  rw [View.read_writes_eq_canon _ _ _ (cover0_A_11 c i _ _ _ _ _ _ _ _ _ _ _ _ _ _ _ _ _ _ _ _ _ _ _ _ _ _ _ _ _ _ _ _ _)]
  refine View.canon_eq_of_allAt _ y _ (cover0_A_11 c i _ _ _ _ _ _ _ _ _ _ _ _ _ _ _ _ _ _ _ _ _ _ _ _ _ _ _ _ _ _ _ _ _ y) ?_
  unfold kernelRun0_A
  dsimp only
  have a (r : Fin 8) (x : S1x1x128.Idx) (hx : ∀ a, (y a : ℕ) = (![r.val, 127, 0] : Fin 3 → Nat) a + x a) :
      (added (newV (arg1.view.read (Elt Ideal) (harg1.unread x0))) r x : EReal) = pushed x2 (newV x0) y := by
    rw [harg1.read_unread]
    exact added_eq x2 (newV x0) r x y hx
  have k (r : Fin 8) (x : S1x127x128.Idx) (hx : ∀ a, (y a : ℕ) = (![r.val, 0, 0] : Fin 3 → Nat) a + x a) :
      (kept (arg3.view.read (Elt Ideal) (harg3.unread x2)) r x : EReal) = pushed x2 (newV x0) y := by
    rw [harg3.read_unread]
    exact kept_eq x2 (newV x0) r x y hx
  refine View.allAt_cons_unit (S := S8x128x128) ![7, 127, 0] S1x1x128.size (by decide) _ _ (fun x hx => Eq.trans (by sl_kernel_rfl) (a 7 x hx)) ?_
  refine View.allAt_cons_unit (S := S8x128x128) ![7, 0, 0] S1x127x128.size (by decide) _ _ (fun x hx => Eq.trans (by sl_kernel_rfl) (k 7 x hx)) ?_
  refine View.allAt_cons_unit (S := S8x128x128) ![6, 127, 0] S1x1x128.size (by decide) _ _ (fun x hx => Eq.trans (by sl_kernel_rfl) (a 6 x hx)) ?_
  refine View.allAt_cons_unit (S := S8x128x128) ![6, 0, 0] S1x127x128.size (by decide) _ _ (fun x hx => Eq.trans (by sl_kernel_rfl) (k 6 x hx)) ?_
  refine View.allAt_cons_unit (S := S8x128x128) ![5, 127, 0] S1x1x128.size (by decide) _ _ (fun x hx => Eq.trans (by sl_kernel_rfl) (a 5 x hx)) ?_
  refine View.allAt_cons_unit (S := S8x128x128) ![5, 0, 0] S1x127x128.size (by decide) _ _ (fun x hx => Eq.trans (by sl_kernel_rfl) (k 5 x hx)) ?_
  refine View.allAt_cons_unit (S := S8x128x128) ![4, 127, 0] S1x1x128.size (by decide) _ _ (fun x hx => Eq.trans (by sl_kernel_rfl) (a 4 x hx)) ?_
  refine View.allAt_cons_unit (S := S8x128x128) ![4, 0, 0] S1x127x128.size (by decide) _ _ (fun x hx => Eq.trans (by sl_kernel_rfl) (k 4 x hx)) ?_
  refine View.allAt_cons_unit (S := S8x128x128) ![3, 127, 0] S1x1x128.size (by decide) _ _ (fun x hx => Eq.trans (by sl_kernel_rfl) (a 3 x hx)) ?_
  refine View.allAt_cons_unit (S := S8x128x128) ![3, 0, 0] S1x127x128.size (by decide) _ _ (fun x hx => Eq.trans (by sl_kernel_rfl) (k 3 x hx)) ?_
  refine View.allAt_cons_unit (S := S8x128x128) ![2, 127, 0] S1x1x128.size (by decide) _ _ (fun x hx => Eq.trans (by sl_kernel_rfl) (a 2 x hx)) ?_
  refine View.allAt_cons_unit (S := S8x128x128) ![2, 0, 0] S1x127x128.size (by decide) _ _ (fun x hx => Eq.trans (by sl_kernel_rfl) (k 2 x hx)) ?_
  refine View.allAt_cons_unit (S := S8x128x128) ![1, 127, 0] S1x1x128.size (by decide) _ _ (fun x hx => Eq.trans (by sl_kernel_rfl) (a 1 x hx)) ?_
  refine View.allAt_cons_unit (S := S8x128x128) ![1, 0, 0] S1x127x128.size (by decide) _ _ (fun x hx => Eq.trans (by sl_kernel_rfl) (k 1 x hx)) ?_
  refine View.allAt_cons_unit (S := S8x128x128) ![0, 127, 0] S1x1x128.size (by decide) _ _ (fun x hx => Eq.trans (by sl_kernel_rfl) (a 0 x hx)) ?_
  refine View.allAt_cons_unit (S := S8x128x128) ![0, 0, 0] S1x127x128.size (by decide) _ _ (fun x hx => Eq.trans (by sl_kernel_rfl) (k 0 x hx)) ?_
  exact View.allAt_nil _ _

end Cert.Proof.AttnBody

end
-- ==== Proof.AttnRef.lean ====
/-
  The reference of the attention's new key and value, stage by stage: every array it forms, read at an index, is the matching
  expression of the specification.
-/
module

public import proofs.«01_k».proof.Defs
public import proofs.«01_k».proof.Proof.Gen.AttnSampleRefIdeal.Read
public import proofs.«01_k».proof.Proof.AttnSpec

@[expose] public section

noncomputable section

namespace Cert.Proof.AttnRef

open Idealize.ShloMosaic Idealize.ShloMosaic.ValueIdx
open Cert.AttnSampleRefIdeal Cert.AttnSampleRefIdeal.Read
open Cert.Proof.AttnSpec
open Cert.Proof.Norm (normRow scale)

variable (x0 : S32x768.Idx → EReal) (x1 x2 : S4x32x128x2x64.Idx → EReal) (x4 : S4x64.Idx → EReal)

/-- A row of keys of both heads. -/
abbrev yz (b : Fin 32) (k : Fin 128) : EReal := x0 (ix2 b (⟨512 + k.val, by omega⟩ : Fin 768))

/-! ## The normalised key -/

theorem k_at (b : Fin 32) (h : Fin 2) (k : Fin 64) : (val_main_v1 (F := Ideal) x0 : S32x2x64.Idx → EReal) (ix3 b h k) = yz x0 b ⟨h.val * 64 + k.val, by omega⟩ := by
  rw [val_main_v1_apply, val_main_v0_apply]
  exact congrArg x0 (funext fun a => Fin.ext (by
    match a with
    | ⟨0, _⟩ => show ((b.val * 2 + h.val) * 64 + k.val) / 128 = b.val; omega
    | ⟨1, _⟩ => show 512 + ((b.val * 2 + h.val) * 64 + k.val) % 128 = 512 + (h.val * 64 + k.val); omega))

theorem g_at (b : Fin 32) (h : Fin 2) (k : Fin 64) : (val_main_v15 (F := Ideal) x4 : S32x2x64.Idx → EReal) (ix3 b h k) = x4 (ix2 0 k) := by
  rw [val_main_v15_apply, val_main_v14_apply, val_main_v3_apply, val_main_v2_apply]
  exact congrArg x4 (funext fun a => Fin.ext (by
    match a with
    | ⟨0, _⟩ => rfl
    | ⟨1, _⟩ => show k.val % 64 = k.val; omega))

theorem sq_at (b : Fin 32) (h : Fin 2) : (val_main_v5 (F := Ideal) x0 : S32x2.Idx → EReal) (ix2 b h)
    = ∑ k : Fin 64, yz x0 b ⟨h.val * 64 + k.val, by omega⟩ * yz x0 b ⟨h.val * 64 + k.val, by omega⟩ := by
  rw [val_main_v5_apply, val_main_cst_apply]
  refine (congrArg (fun z : EReal => z + _) Ideal.ofBits_zero_f32).trans ((zero_add _).trans (Finset.sum_congr rfl fun k _ => ?_))
  rw [val_main_v4_apply]
  refine (congrArg (fun i => (val_main_v1 (F := Ideal) x0 : S32x2x64.Idx → EReal) i * (val_main_v1 (F := Ideal) x0 : S32x2x64.Idx → EReal) i) (?_ : _ = ix3 b h k)).trans
    (congrArg (fun z : EReal => z * z) (k_at x0 b h k))
  exact funext fun a => match a with | ⟨0, _⟩ => rfl | ⟨1, _⟩ => rfl | ⟨2, _⟩ => rfl

theorem norm_at (b : Fin 32) (h : Fin 2) (d : Fin 64) : (val_main_v16 (F := Ideal) x0 x4 : S32x2x64.Idx → EReal) (ix3 b h d)
    = normRow 0x42800000#32 (fun k : Fin 64 => yz x0 b ⟨h.val * 64 + k.val, by omega⟩) (fun k => x4 (ix2 0 k)) d := by
  rw [val_main_v16_apply, val_main_v13_apply, val_main_v12_apply, val_main_v11_apply, val_main_v10_apply, val_main_v8_apply, val_main_v6_apply,
    val_main_v7_apply, val_main_cst_0_apply, val_main_v9_apply, val_main_cst_1_apply]
  unfold normRow scale
  refine (congrArg₂ (fun a b : EReal => a * b) (congrArg₂ (fun a b : EReal => a * Ideal.rsqrt (Ideal.div b (Ideal.ofBits .f32 0x42800000#32) + Ideal.ofBits .f32 0x358637BD#32))
    (k_at x0 b h d) ?_) (g_at x4 b h d))
  refine (congrArg (val_main_v5 (F := Ideal) x0 : S32x2.Idx → EReal) (?_ : _ = ix2 b h)).trans (sq_at x0 b h)
  exact funext fun a => match a with | ⟨0, _⟩ => rfl | ⟨1, _⟩ => rfl

/-! ## The angles -/

theorem angle_at (j : Fin 32) : (val_main_v30 (F := Ideal) : S1x32.Idx → EReal) (ix2 0 j) = angle j := by
  rw [val_main_v30_apply, val_main_v29_apply, val_main_v27_apply, val_main_v26_apply, val_main_v19_apply, val_main_v18_apply, val_main_v17_apply,
    val_main_c_apply, val_main_v28_apply, val_main_v25_apply, val_main_v24_apply, val_main_cst_3_apply, val_main_v23_apply, val_main_v22_apply,
    val_main_cst_2_apply, val_main_v21_apply]
  rfl

theorem cos_at (j : Fin 32) : (val_main_v31 (F := Ideal) : S1x32.Idx → EReal) (ix2 0 j) = cosA j := by
  rw [val_main_v31_apply]
  exact congrArg (fun z : Ideal .f32 => (FloatOps.hostUnary (F := Ideal) .cos z : EReal)) (angle_at j)
theorem sin_at (j : Fin 32) : (val_main_v33 (F := Ideal) : S1x32.Idx → EReal) (ix2 0 j) = sinA j := by
  rw [val_main_v33_apply]
  exact congrArg (fun z : Ideal .f32 => (FloatOps.hostUnary (F := Ideal) .sin z : EReal)) (angle_at j)

theorem ang_ix (i : S1x32.Idx) (j : Fin 32) (h : (i 1).val = j.val) : i = ix2 0 j := by
  have e0 : i 0 = (0 : Fin 1) := Subsingleton.elim (α := Fin 1) _ _
  have e1 : i 1 = j := Fin.ext h
  exact (eq_ix2 i).trans (by rw [e0, e1]; rfl)

/-! ## The turned key -/

theorem lo_at (b : Fin 32) (h : Fin 2) (j : Fin 32) : (val_main_v35 (F := Ideal) x0 x4 : S32x2x32.Idx → EReal) (ix3 b h j)
    = normRow 0x42800000#32 (fun k : Fin 64 => yz x0 b ⟨h.val * 64 + k.val, by omega⟩) (fun k => x4 (ix2 0 k)) ⟨j.val, by omega⟩ := by
  rw [val_main_v35_apply]
  refine (congrArg (val_main_v16 (F := Ideal) x0 x4 : S32x2x64.Idx → EReal) (?_ : _ = ix3 b h ⟨j.val, by omega⟩)).trans (norm_at x0 x4 b h _)
  exact funext fun a => match a with | ⟨0, _⟩ => rfl | ⟨1, _⟩ => rfl | ⟨2, _⟩ => rfl
theorem hi_at (b : Fin 32) (h : Fin 2) (j : Fin 32) : (val_main_v36 (F := Ideal) x0 x4 : S32x2x32.Idx → EReal) (ix3 b h j)
    = normRow 0x42800000#32 (fun k : Fin 64 => yz x0 b ⟨h.val * 64 + k.val, by omega⟩) (fun k => x4 (ix2 0 k)) ⟨32 + j.val, by omega⟩ := by
  rw [val_main_v36_apply]
  refine (congrArg (val_main_v16 (F := Ideal) x0 x4 : S32x2x64.Idx → EReal) (?_ : _ = ix3 b h ⟨32 + j.val, by omega⟩)).trans (norm_at x0 x4 b h _)
  exact funext fun a => match a with | ⟨0, _⟩ => rfl | ⟨1, _⟩ => rfl | ⟨2, _⟩ => rfl

theorem c37 (b : Fin 32) (h : Fin 2) (j : Fin 32) : (val_main_v37 (F := Ideal) : S32x2x32.Idx → EReal) (ix3 b h j) = cosA j := by
  rw [val_main_v37_apply, val_main_v32_apply]
  exact (congrArg (val_main_v31 (F := Ideal) : S1x32.Idx → EReal) (ang_ix _ j rfl)).trans (cos_at j)
theorem c42 (b : Fin 32) (h : Fin 2) (j : Fin 32) : (val_main_v42 (F := Ideal) : S32x2x32.Idx → EReal) (ix3 b h j) = cosA j := by
  rw [val_main_v42_apply, val_main_v32_apply]
  exact (congrArg (val_main_v31 (F := Ideal) : S1x32.Idx → EReal) (ang_ix _ j rfl)).trans (cos_at j)
theorem s39 (b : Fin 32) (h : Fin 2) (j : Fin 32) : (val_main_v39 (F := Ideal) : S32x2x32.Idx → EReal) (ix3 b h j) = sinA j := by
  rw [val_main_v39_apply, val_main_v34_apply]
  exact (congrArg (val_main_v33 (F := Ideal) : S1x32.Idx → EReal) (ang_ix _ j rfl)).trans (sin_at j)
theorem s44 (b : Fin 32) (h : Fin 2) (j : Fin 32) : (val_main_v44 (F := Ideal) : S32x2x32.Idx → EReal) (ix3 b h j) = sinA j := by
  rw [val_main_v44_apply, val_main_v34_apply]
  exact (congrArg (val_main_v33 (F := Ideal) : S1x32.Idx → EReal) (ang_ix _ j rfl)).trans (sin_at j)

theorem key_at (b : Fin 32) (h : Fin 2) (d : Fin 64) : (val_main_v47 (F := Ideal) x0 x4 : S32x2x64.Idx → EReal) (ix3 b h d)
    = keyOf (yz x0 b) (fun k => x4 (ix2 0 k)) h d := by
  unfold val_main_v47 keyOf rot
  by_cases hd : d.val < 32
  · rw [dif_pos hd]
    refine (concatenate_apply_piece (t := S32x2x64) 2 [⟨S32x2x32, (val_main_v41 (F := Ideal) x0 x4)⟩, ⟨S32x2x32, (val_main_v46 (F := Ideal) x0 x4)⟩] _ (ix3 b h d) 0 (by show 0 < 2; omega) S32x2x32 (val_main_v41 (F := Ideal) x0 x4) rfl rfl 0 rfl
      (ix3 b h ⟨d.val, hd⟩) (fun a ha => match a, ha with
        | ⟨0, _⟩, _ => rfl
        | ⟨1, _⟩, _ => rfl
        | ⟨2, _⟩, ha => absurd (Fin.ext rfl) ha) (by show 0 + d.val = d.val; omega)).trans ?_
    rw [val_main_v41_apply, val_main_v38_apply, val_main_v40_apply]
    refine congrArg₂ (fun a b : EReal => a - b) (congrArg₂ (fun a b : EReal => a * b) (lo_at x0 x4 b h _) (c37 b h _)) (congrArg₂ (fun a b : EReal => a * b) ((hi_at x0 x4 b h _).trans ?_) (s39 b h _))
    exact congrArg _ (Fin.ext (by show 32 + d.val = d.val + 32; omega))
  · rw [dif_neg hd]
    refine (concatenate_apply_piece (t := S32x2x64) 2 [⟨S32x2x32, (val_main_v41 (F := Ideal) x0 x4)⟩, ⟨S32x2x32, (val_main_v46 (F := Ideal) x0 x4)⟩] _ (ix3 b h d) 1 (by show 1 < 2; omega) S32x2x32 (val_main_v46 (F := Ideal) x0 x4) rfl rfl 32 rfl
      (ix3 b h ⟨d.val - 32, by omega⟩) (fun a ha => match a, ha with
        | ⟨0, _⟩, _ => rfl
        | ⟨1, _⟩, _ => rfl
        | ⟨2, _⟩, ha => absurd (Fin.ext rfl) ha) (by show 32 + (d.val - 32) = d.val; omega)).trans ?_
    rw [val_main_v46_apply, val_main_v43_apply, val_main_v45_apply]
    refine congrArg₂ (fun a b : EReal => a + b) (congrArg₂ (fun a b : EReal => a * b) ((hi_at x0 x4 b h _).trans ?_) (c42 b h _)) (congrArg₂ (fun a b : EReal => a * b) (lo_at x0 x4 b h _) (s44 b h _))
    exact congrArg _ (Fin.ext (by show 32 + (d.val - 32) = d.val; omega))

/-! ## The caches -/

theorem ck_at (b : Fin 32) (s : Fin 127) (h : Fin 2) (d : Fin 64) : (val_main_v51 (F := Ideal) x1 : S32x127x2x64.Idx → EReal) (ix4 b s h d) = x1 (ix5 0 b (⟨s.val + 1, by omega⟩ : Fin 128) h d) := by
  rw [val_main_v51_apply, val_main_v50_apply]
  exact congrArg x1 (funext fun a => Fin.ext (by
    match a with
    | ⟨0, _⟩ => rfl
    | ⟨1, _⟩ => show (((b.val * 127 + s.val) * 2 + h.val) * 64 + d.val) / 16256 % 32 = b.val; omega
    | ⟨2, _⟩ => show 1 + (((b.val * 127 + s.val) * 2 + h.val) * 64 + d.val) / 128 % 127 = s.val + 1; omega
    | ⟨3, _⟩ => show (((b.val * 127 + s.val) * 2 + h.val) * 64 + d.val) / 64 % 2 = h.val; omega
    | ⟨4, _⟩ => show (((b.val * 127 + s.val) * 2 + h.val) * 64 + d.val) % 64 = d.val; omega))
theorem cv_at (b : Fin 32) (s : Fin 127) (h : Fin 2) (d : Fin 64) : (val_main_v55 (F := Ideal) x2 : S32x127x2x64.Idx → EReal) (ix4 b s h d) = x2 (ix5 0 b (⟨s.val + 1, by omega⟩ : Fin 128) h d) := by
  rw [val_main_v55_apply, val_main_v54_apply]
  exact congrArg x2 (funext fun a => Fin.ext (by
    match a with
    | ⟨0, _⟩ => rfl
    | ⟨1, _⟩ => show (((b.val * 127 + s.val) * 2 + h.val) * 64 + d.val) / 16256 % 32 = b.val; omega
    | ⟨2, _⟩ => show 1 + (((b.val * 127 + s.val) * 2 + h.val) * 64 + d.val) / 128 % 127 = s.val + 1; omega
    | ⟨3, _⟩ => show (((b.val * 127 + s.val) * 2 + h.val) * 64 + d.val) / 64 % 2 = h.val; omega
    | ⟨4, _⟩ => show (((b.val * 127 + s.val) * 2 + h.val) * 64 + d.val) % 64 = d.val; omega))

theorem val_at (b : Fin 32) (h : Fin 2) (d : Fin 64) : (val_main_v49 (F := Ideal) x0 : S32x2x64.Idx → EReal) (ix3 b h d) = x0 (ix2 b (⟨640 + (h.val * 64 + d.val), by omega⟩ : Fin 768)) := by
  rw [val_main_v49_apply, val_main_v48_apply]
  exact congrArg x0 (funext fun a => Fin.ext (by
    match a with
    | ⟨0, _⟩ => show ((b.val * 2 + h.val) * 64 + d.val) / 128 = b.val; omega
    | ⟨1, _⟩ => show 640 + ((b.val * 2 + h.val) * 64 + d.val) % 128 = 640 + (h.val * 64 + d.val); omega))

/-- A cache of 127 tokens with one more. -/
theorem push_apply (hc : Shape.Concatenates [S32x127x2x64, S32x1x2x64] S32x128x2x64 1) (u : S32x127x2x64.Idx → EReal) (v : S32x1x2x64.Idx → EReal) (b : Fin 32) (s : Fin 128) (h : Fin 2) (d : Fin 64) :
    (concatenate S32x128x2x64 1 [⟨S32x127x2x64, u⟩, ⟨S32x1x2x64, v⟩] hc : S32x128x2x64.Idx → EReal) (ix4 b s h d)
      = if hs : s.val < 127 then u (ix4 b ⟨s.val, hs⟩ h d) else v (ix4 b 0 h d) := by
  by_cases hs : s.val < 127
  · rw [dif_pos hs]
    exact concatenate_apply_piece (t := S32x128x2x64) 1 [⟨S32x127x2x64, u⟩, ⟨S32x1x2x64, v⟩] _ (ix4 b s h d) 0 (by show 0 < 2; omega) S32x127x2x64 u rfl rfl 0 rfl
      (ix4 b ⟨s.val, hs⟩ h d) (fun a ha => match a, ha with
        | ⟨0, _⟩, _ => rfl
        | ⟨1, _⟩, ha => absurd (Fin.ext rfl) ha
        | ⟨2, _⟩, _ => rfl
        | ⟨3, _⟩, _ => rfl) (by show 0 + s.val = s.val; omega)
  · rw [dif_neg hs]
    exact concatenate_apply_piece (t := S32x128x2x64) 1 [⟨S32x127x2x64, u⟩, ⟨S32x1x2x64, v⟩] _ (ix4 b s h d) 1 (by show 1 < 2; omega) S32x1x2x64 v rfl rfl 127 rfl
      (ix4 b 0 h d) (fun a ha => match a, ha with
        | ⟨0, _⟩, _ => rfl
        | ⟨1, _⟩, ha => absurd (Fin.ext rfl) ha
        | ⟨2, _⟩, _ => rfl
        | ⟨3, _⟩, _ => rfl) (by show 127 + 0 = s.val; omega)

theorem heads (b : Fin 32) (s n : Fin 128) (i : S32x128x2x64.Idx) (h0 : (i 0).val = ((b.val * 128 + s.val) * 128 + n.val) / 16384) (h1 : (i 1).val = ((b.val * 128 + s.val) * 128 + n.val) / 128 % 128)
    (h2 : (i 2).val = ((b.val * 128 + s.val) * 128 + n.val) / 64 % 2) (h3 : (i 3).val = ((b.val * 128 + s.val) * 128 + n.val) % 64) :
    i = ix4 b s (⟨n.val / 64, by omega⟩ : Fin 2) (⟨n.val % 64, by omega⟩ : Fin 64) :=
  funext fun a => Fin.ext (by
    match a with
    | ⟨0, _⟩ => exact h0.trans (by show _ = b.val; omega)
    | ⟨1, _⟩ => exact h1.trans (by show _ = s.val; omega)
    | ⟨2, _⟩ => exact h2.trans (by show _ = n.val / 64; omega)
    | ⟨3, _⟩ => exact h3.trans (by show _ = n.val % 64; omega))

theorem keys_eq : (val_main_v58 (F := Ideal) x0 x1 x4 : S32x128x128.Idx → EReal) = keysA x0 x1 x4 := by
  funext i
  obtain ⟨b, s, n, rfl⟩ : ∃ (b : Fin 32) (s n : Fin 128), i = ix3 b s n := ⟨i 0, i 1, i 2, eq_ix3 i⟩
  rw [val_main_v58_apply]
  refine (congrArg (val_main_v53 (F := Ideal) x0 x1 x4 : S32x128x2x64.Idx → EReal) (heads b s n _ rfl rfl rfl rfl)).trans ?_
  unfold val_main_v53 keysA
  rw [push_apply]
  show _ = if h : s.val < 127 then _ else _
  by_cases hs : s.val < 127
  · rw [dif_pos hs, dif_pos hs]
    exact ck_at x1 b ⟨s.val, hs⟩ _ _
  · rw [dif_neg hs, dif_neg hs, val_main_v52_apply]
    refine (congrArg (val_main_v47 (F := Ideal) x0 x4 : S32x2x64.Idx → EReal) (?_ : _ = ix3 b (⟨n.val / 64, by omega⟩ : Fin 2) (⟨n.val % 64, by omega⟩ : Fin 64))).trans (key_at x0 x4 b _ _)
    exact funext fun a => match a with | ⟨0, _⟩ => rfl | ⟨1, _⟩ => rfl | ⟨2, _⟩ => rfl

theorem vals_eq : (val_main_v59 (F := Ideal) x0 x2 : S32x128x128.Idx → EReal) = valsA x0 x2 := by
  funext i
  obtain ⟨b, s, n, rfl⟩ : ∃ (b : Fin 32) (s n : Fin 128), i = ix3 b s n := ⟨i 0, i 1, i 2, eq_ix3 i⟩
  rw [val_main_v59_apply]
  refine (congrArg (val_main_v57 (F := Ideal) x0 x2 : S32x128x2x64.Idx → EReal) (heads b s n _ rfl rfl rfl rfl)).trans ?_
  unfold val_main_v57 valsA
  rw [push_apply]
  show _ = if h : s.val < 127 then _ else _
  by_cases hs : s.val < 127
  · rw [dif_pos hs, dif_pos hs]
    exact cv_at x2 b ⟨s.val, hs⟩ _ _
  · rw [dif_neg hs, dif_neg hs, val_main_v56_apply]
    refine (congrArg (val_main_v49 (F := Ideal) x0 : S32x2x64.Idx → EReal) (?_ : _ = ix3 b (⟨n.val / 64, by omega⟩ : Fin 2) (⟨n.val % 64, by omega⟩ : Fin 64))).trans ((val_at x0 b _ _).trans ?_)
    · exact funext fun a => match a with | ⟨0, _⟩ => rfl | ⟨1, _⟩ => rfl | ⟨2, _⟩ => rfl
    · exact congrArg x0 (congrArg (ix2 b) (Fin.ext (by show 640 + (n.val / 64 * 64 + n.val % 64) = 640 + n.val; omega)))

end Cert.Proof.AttnRef

end
-- ==== Proof.AttnSample.lean ====
/-
  The attention's call on the sample: its two caches, shifted by one token and filled with the new key and the new value.
  Here: what the host hands the call and what each window's block holds; each cache after the run, index by index.
-/
module

public import proofs.«01_k».proof.Defs
public import proofs.«01_k».proof.Proof.Gen.AttnSample.Frame
public import proofs.«01_k».proof.Proof.Gen.AttnSampleIdeal.Value
public import proofs.«01_k».proof.Proof.Gen.AttnSampleRefIdeal.Run
public import proofs.«01_k».proof.Proof.Gen.AttnSampleRefIdeal.Read
public import proofs.«01_k».proof.Proof.AttnSpec
public import proofs.«01_k».proof.Proof.AttnBody
public import proofs.«01_k».proof.Proof.AttnRef

@[expose] public section

noncomputable section

namespace Cert.Proof.AttnSample

open Idealize.ShloMosaic Idealize.ShloMosaic.TcCoe Idealize.SL.Sem Idealize.ShloMosaic.ValueIdx
open Cert.AttnSampleIdeal Cert.AttnSampleIdeal.Gen
open Idealize.ShloMosaic.Pipeline (Dat Cfg Window)
open Cert.Proof.AttnSpec Cert.Proof.AttnBody

/-! ## The host's tables -/

/-- The angles of the new token. -/
def angles : FVec Ideal S1x32 .f32 :=
  mulf (broadcastInDim S1x32 ![0, 1] bcast_S1x1_S1x32_0_1 (broadcastInDim S1x1 ![0] bcast_S1_S1x1_0
      (sitofp .f32 (addi (broadcastInDim S1 ![] bcast_S_S1 (constantI S_ 32 16384#32)) (iotaInDim S1 32 0)) : FVec Ideal S1 .f32)))
    (broadcastInDim S1x32 ![1] bcast_S32_S1x32_1 (Host.powf (broadcastInDim S32 ![] bcast_S_S32 (constant S_ .f32 0x461C4000#32 : FVec Ideal S_ .f32))
      (Host.divf (Host.negf (sitofp .f32 (iotaInDim S32 32 0) : FVec Ideal S32 .f32)) (broadcastInDim S32 ![] bcast_S_S32 (constant S_ .f32 0x42000000#32 : FVec Ideal S_ .f32)))))

theorem angles_at (j : Fin 32) : angles (ix2 0 j) = angle j := by
  unfold angles angle
  refine congrArg₂ (FloatOps.mulf (F := Ideal)) ?_ ?_
  · refine (broadcastInDim_apply (s := S1x1) (t := S1x32) ![0, 1] bcast_S1x1_S1x32_0_1 _ (ix2 0 j) (ix2 0 0) (fun a => ?_)).trans ?_
    · match a with
      | ⟨0, _⟩ => rfl
      | ⟨1, _⟩ => rfl
    · refine (broadcastInDim_apply (s := S1) (t := S1x1) ![0] bcast_S1_S1x1_0 _ (ix2 0 0) (ix1 0) (fun a => ?_)).trans rfl
      match a with
      | ⟨0, _⟩ => rfl
  · refine (broadcastInDim_apply (s := S32) (t := S1x32) ![1] bcast_S32_S1x32_1 _ (ix2 0 j) (ix1 j) (fun a => ?_)).trans rfl
    match a with
    | ⟨0, _⟩ => rfl

/-- Two tables of 32 side by side, once for each head. -/
def both (a b : FVec Ideal S1x32 .f32) : FVec Ideal S1x128 .f32 :=
  shapeCast S1x128 (broadcastInDim S1x1x2x64 ![0, 1, 2, 3] bcast_S1x1x1x64_S1x1x2x64_0_1_2_3
    (shapeCast S1x1x1x64 (concatenate S1x64 1 [⟨S1x32, a⟩, ⟨S1x32, b⟩] concatenates_S1x32_S1x32_S1x64_d1 : FVec Ideal S1x64 .f32) shapeCasts_S1x64_S1x1x1x64 : FVec Ideal S1x1x1x64 .f32))
    shapeCasts_S1x1x2x64_S1x128

theorem both_apply (a b : FVec Ideal S1x32 .f32) (n : Fin 128) : both a b (ix2 0 n) = if n.val % 64 < 32 then a (ix2 0 ⟨n.val % 32, by omega⟩) else b (ix2 0 ⟨n.val % 32, by omega⟩) := by
  unfold both
  refine (shapeCast_apply (s := S1x1x2x64) (t := S1x128) _ _ (ix2 0 n) (ix4 0 0 (⟨n.val / 64, by omega⟩ : Fin 2) (⟨n.val % 64, by omega⟩ : Fin 64)) ?_).trans ?_
  · rw [Shape.rowMajor_val_two, Shape.rowMajor_val_four]
    show ((0 * 1 + 0) * 2 + n.val / 64) * 64 + n.val % 64 = 0 * 128 + n.val
    omega
  refine (broadcastInDim_apply (s := S1x1x1x64) (t := S1x1x2x64) ![0, 1, 2, 3] bcast_S1x1x1x64_S1x1x2x64_0_1_2_3 _ _ (ix4 0 0 0 (⟨n.val % 64, by omega⟩ : Fin 64)) (fun a => ?_)).trans ?_
  · match a with
    | ⟨0, _⟩ => rfl
    | ⟨1, _⟩ => rfl
    | ⟨2, _⟩ => rfl
    | ⟨3, _⟩ => rfl
  refine (shapeCast_apply (s := S1x64) (t := S1x1x1x64) _ _ _ (ix2 0 (⟨n.val % 64, by omega⟩ : Fin 64)) ?_).trans ?_
  · rw [Shape.rowMajor_val_two, Shape.rowMajor_val_four]
    show 0 * 64 + n.val % 64 = ((0 * 1 + 0) * 1 + 0) * 64 + n.val % 64
    omega
  by_cases h : n.val % 64 < 32
  · rw [if_pos h]
    exact concatenate_apply_piece (t := S1x64) 1 [⟨S1x32, a⟩, ⟨S1x32, b⟩] _ (ix2 0 (⟨n.val % 64, by omega⟩ : Fin 64)) 0 (by show 0 < 2; omega) S1x32 a rfl rfl 0 rfl
      (ix2 0 ⟨n.val % 32, by omega⟩) (fun a ha => match a, ha with
        | ⟨0, _⟩, _ => rfl
        | ⟨1, _⟩, ha => absurd (Fin.ext rfl) ha) (by show 0 + n.val % 32 = n.val % 64; omega)
  · rw [if_neg h]
    exact concatenate_apply_piece (t := S1x64) 1 [⟨S1x32, a⟩, ⟨S1x32, b⟩] _ (ix2 0 (⟨n.val % 64, by omega⟩ : Fin 64)) 1 (by show 1 < 2; omega) S1x32 b rfl rfl 32 rfl
      (ix2 0 ⟨n.val % 32, by omega⟩) (fun a ha => match a, ha with
        | ⟨0, _⟩, _ => rfl
        | ⟨1, _⟩, ha => absurd (Fin.ext rfl) ha) (by show 32 + n.val % 32 = n.val % 64; omega)

/-- The head of each of 512 features. -/
def headOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

theorem headOf_at : ∀ k : Fin 512, headOf (ix1 k) = BitVec.ofNat 32 (k.val / 64) := by decide +kernel

/-- Whether two features are of one head. -/
def same : FVec Ideal S512x512 .bf16 :=
  uitofp .bf16 (cmpi .eq (broadcastInDim S512x512 ![0, 1] bcast_S512x1_S512x512_0_1 (broadcastInDim S512x1 ![0] bcast_S512_S512x1_0 headOf))
    (broadcastInDim S512x512 ![0, 1] bcast_S1x512_S512x512_0_1 (broadcastInDim S1x512 ![1] bcast_S512_S1x512_1 headOf)))

theorem same_at (j k : Fin 512) : (same (ix2 j k) : EReal) = if j.val / 64 = k.val / 64 then 1 else 0 := by
  unfold same
  have e1 : (broadcastInDim S512x512 ![0, 1] bcast_S512x1_S512x512_0_1 (broadcastInDim S512x1 ![0] bcast_S512_S512x1_0 headOf) : IVec S512x512 32) (ix2 j k) = BitVec.ofNat 32 (j.val / 64) := by
    refine (broadcastInDim_apply (s := S512x1) (t := S512x512) ![0, 1] bcast_S512x1_S512x512_0_1 _ (ix2 j k) (ix2 j 0) (fun a => ?_)).trans
      ((broadcastInDim_apply (s := S512) (t := S512x1) ![0] bcast_S512_S512x1_0 _ (ix2 j 0) (ix1 j) (fun a => ?_)).trans (headOf_at j))
    · match a with
      | ⟨0, _⟩ => rfl
      | ⟨1, _⟩ => rfl
    · match a with
      | ⟨0, _⟩ => rfl
  have e2 : (broadcastInDim S512x512 ![0, 1] bcast_S1x512_S512x512_0_1 (broadcastInDim S1x512 ![1] bcast_S512_S1x512_1 headOf) : IVec S512x512 32) (ix2 j k) = BitVec.ofNat 32 (k.val / 64) := by
    refine (broadcastInDim_apply (s := S1x512) (t := S512x512) ![0, 1] bcast_S1x512_S512x512_0_1 _ (ix2 j k) (ix2 0 k) (fun a => ?_)).trans
      ((broadcastInDim_apply (s := S512) (t := S1x512) ![1] bcast_S512_S1x512_1 _ (ix2 0 k) (ix1 k) (fun a => ?_)).trans (headOf_at k))
    · match a with
      | ⟨0, _⟩ => rfl
      | ⟨1, _⟩ => rfl
    · match a with
      | ⟨0, _⟩ => rfl
  show (FloatOps.uitofp (F := Ideal) .bf16 (IntOp.cmpi .eq _ _) : EReal) = _
  rw [e1, e2]
  show (((BitVec.ofBool (BitVec.ofNat 32 (j.val / 64) == BitVec.ofNat 32 (k.val / 64))).toNat : ℝ) : EReal) = _
  by_cases h : j.val / 64 = k.val / 64
  · rw [if_pos h, h, beq_self_eq_true]
    simp
  · rw [if_neg h]
    have hne : (BitVec.ofNat 32 (j.val / 64) == BitVec.ofNat 32 (k.val / 64)) = false := by
      rw [beq_eq_false_iff_ne]
      intro hh
      have := congrArg BitVec.toNat hh
      rw [BitVec.toNat_ofNat, BitVec.toNat_ofNat, Nat.mod_eq_of_lt (by omega), Nat.mod_eq_of_lt (by omega)] at this
      exact h this
    rw [hne]
    simp

/-- A layer's cache with its heads side by side. -/
def cache (x : S4x32x128x2x64.Idx → EReal) : S32x128x128.Idx → EReal :=
  shapeCast S32x128x128 (extractStridedSlice S1x32x128x128 ![0, 0, 0, 0] (shapeCast S4x32x128x128 x shapeCasts_S4x32x128x2x64_S4x32x128x128)
    slices_S4x32x128x128_S1x32x128x128_0_0_0_0) shapeCasts_S1x32x128x128_S32x128x128

theorem cache_apply (x : S4x32x128x2x64.Idx → EReal) (b : Fin 32) (s n : Fin 128) :
    cache x (ix3 b s n) = x (ix5 0 b s (⟨n.val / 64, by omega⟩ : Fin 2) (⟨n.val % 64, by omega⟩ : Fin 64)) := by
  unfold cache
  refine (shapeCast_apply (s := S1x32x128x128) (t := S32x128x128) _ _ _ (ix4 0 b s n) ?_).trans ?_
  · rw [Shape.rowMajor_val_three, Shape.rowMajor_val_four]
    show ((0 * 32 + b.val) * 128 + s.val) * 128 + n.val = (b.val * 128 + s.val) * 128 + n.val
    omega
  refine (extractStridedSlice_apply (s := S4x32x128x128) (t := S1x32x128x128) ![0, 0, 0, 0] _ _ _ (ix4 0 b s n) (fun a => ?_)).trans ?_
  · match a with
    | ⟨0, _⟩ => rfl
    | ⟨1, _⟩ => show b.val = 0 + b.val; omega
    | ⟨2, _⟩ => show s.val = 0 + s.val; omega
    | ⟨3, _⟩ => show n.val = 0 + n.val; omega
  refine shapeCast_apply (s := S4x32x128x2x64) (t := S4x32x128x128) _ _ _ (ix5 0 b s (⟨n.val / 64, by omega⟩ : Fin 2) (⟨n.val % 64, by omega⟩ : Fin 64)) ?_
  rw [Shape.rowMajor_val_four, Shape.rowMajor_val_five]
  show (((0 * 32 + b.val) * 128 + s.val) * 2 + n.val / 64) * 64 + n.val % 64 = ((0 * 32 + b.val) * 128 + s.val) * 128 + n.val
  omega

/-- A layer's norm weights, once for each head. -/
def weights (x : S4x64.Idx → EReal) : S1x128.Idx → EReal :=
  shapeCast S1x128 (extractStridedSlice S1x1x128 ![0, 0, 0] (broadcastInDim S4x1x128 ![0, 2] bcast_S4x128_S4x1x128_0_2
    (shapeCast S4x128 (broadcastInDim S1x4x2x64 ![0, 1, 2, 3] bcast_S1x4x1x64_S1x4x2x64_0_1_2_3 (shapeCast S1x4x1x64 x shapeCasts_S4x64_S1x4x1x64))
      shapeCasts_S1x4x2x64_S4x128)) slices_S4x1x128_S1x1x128_0_0_0) shapeCasts_S1x1x128_S1x128

theorem weights_apply (x : S4x64.Idx → EReal) (n : Fin 128) : weights x (ix2 0 n) = x (ix2 0 (⟨n.val % 64, by omega⟩ : Fin 64)) := by
  unfold weights
  refine (shapeCast_apply (s := S1x1x128) (t := S1x128) _ _ _ (ix3 0 0 n) ?_).trans ?_
  · rw [Shape.rowMajor_val_two, Shape.rowMajor_val_three]
    show (0 * 1 + 0) * 128 + n.val = 0 * 128 + n.val
    omega
  refine (extractStridedSlice_apply (s := S4x1x128) (t := S1x1x128) ![0, 0, 0] _ _ _ (ix3 0 0 n) (fun a => ?_)).trans ?_
  · match a with
    | ⟨0, _⟩ => rfl
    | ⟨1, _⟩ => rfl
    | ⟨2, _⟩ => show n.val = 0 + n.val; omega
  refine (broadcastInDim_apply (s := S4x128) (t := S4x1x128) ![0, 2] bcast_S4x128_S4x1x128_0_2 _ _ (ix2 0 n) (fun a => ?_)).trans ?_
  · match a with
    | ⟨0, _⟩ => rfl
    | ⟨1, _⟩ => rfl
  refine (shapeCast_apply (s := S1x4x2x64) (t := S4x128) _ _ _ (ix4 0 0 (⟨n.val / 64, by omega⟩ : Fin 2) (⟨n.val % 64, by omega⟩ : Fin 64)) ?_).trans ?_
  · rw [Shape.rowMajor_val_two, Shape.rowMajor_val_four]
    show ((0 * 4 + 0) * 2 + n.val / 64) * 64 + n.val % 64 = 0 * 128 + n.val
    omega
  refine (broadcastInDim_apply (s := S1x4x1x64) (t := S1x4x2x64) ![0, 1, 2, 3] bcast_S1x4x1x64_S1x4x2x64_0_1_2_3 _ _ (ix4 0 0 0 (⟨n.val % 64, by omega⟩ : Fin 64)) (fun a => ?_)).trans ?_
  · match a with
    | ⟨0, _⟩ => rfl
    | ⟨1, _⟩ => rfl
    | ⟨2, _⟩ => rfl
    | ⟨3, _⟩ => rfl
  refine shapeCast_apply (s := S4x64) (t := S1x4x1x64) _ _ _ (ix2 0 (⟨n.val % 64, by omega⟩ : Fin 64)) ?_
  rw [Shape.rowMajor_val_two, Shape.rowMajor_val_four]
  show 0 * 64 + n.val % 64 = ((0 * 4 + 0) * 1 + 0) * 64 + n.val % 64
  omega

variable (m : (ℓ : Loc nD τ sig) → Buf (Elt Ideal) ℓ) (ρ : Dev nD → PrngReg)

/-! ## The arguments -/

abbrev A0 (c : Dev nD) : S32x768.Idx → EReal := m ((c : Thread nD τ).loc main_arg0)
abbrev A1 (c : Dev nD) : S4x32x128x2x64.Idx → EReal := m ((c : Thread nD τ).loc main_arg1)
abbrev A2 (c : Dev nD) : S4x32x128x2x64.Idx → EReal := m ((c : Thread nD τ).loc main_arg2)
abbrev A4 (c : Dev nD) : S4x64.Idx → EReal := m ((c : Thread nD τ).loc main_arg4)

/-! ## What the host hands the call -/

theorem V_cos (c : Dev nD) : (V m c main_v19 : S1x128.Idx → EReal) = both (Host.cos angles) (Host.cos angles) := by
  unfold V; rfl
theorem V_sin (c : Dev nD) : (V m c main_v24 : S1x128.Idx → EReal) = both (Host.negf (Host.sin angles)) (Host.sin angles) := by
  unfold V; rfl
theorem V_same (c : Dev nD) : (V m c main_v32 : S512x512.Idx → EReal) = same := by
  unfold V; rfl
theorem V_ck (c : Dev nD) : (V m c main_v35 : S32x128x128.Idx → EReal) = cache (A1 m c) := by
  unfold V; rfl
theorem V_cv (c : Dev nD) : (V m c main_v38 : S32x128x128.Idx → EReal) = cache (A2 m c) := by
  unfold V; rfl
theorem V_kg (c : Dev nD) : (V m c main_v50 : S1x128.Idx → EReal) = weights (A4 m c) := by
  unfold V; rfl

theorem host_cos (c : Dev nD) (n : Fin 128) : (V m c main_v19 : S1x128.Idx → EReal) (ix2 0 n) = cosA ⟨n.val % 32, by omega⟩ := by
  rw [V_cos]
  refine (both_apply _ _ n).trans ((ite_self _).trans ?_)
  exact congrArg (fun z : Ideal .f32 => (FloatOps.hostUnary (F := Ideal) .cos z : EReal)) (angles_at _)
theorem host_sin (c : Dev nD) (n : Fin 128) : (V m c main_v24 : S1x128.Idx → EReal) (ix2 0 n)
    = if n.val % 64 < 32 then -sinA ⟨n.val % 32, by omega⟩ else sinA ⟨n.val % 32, by omega⟩ := by
  rw [V_sin]
  refine (both_apply _ _ n).trans ?_
  have e : (Host.sin angles : FVec Ideal S1x32 .f32) (ix2 0 ⟨n.val % 32, by omega⟩) = sinA ⟨n.val % 32, by omega⟩ :=
    congrArg (fun z : Ideal .f32 => (FloatOps.hostUnary (F := Ideal) .sin z : EReal)) (angles_at _)
  exact congrArg₂ (fun a b : EReal => if n.val % 64 < 32 then a else b) (congrArg (fun z : EReal => -z) e) e

/-! ## The blocks -/

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx10 : ∀ t : Fin cfg0.N, win0_10.index t = ![t.val, 0, 0] := (by decide +kernel : ∀ t : Fin grid0.N, win0_10.index t = ![t.val, 0, 0])
theorem idx11 : ∀ t : Fin cfg0.N, win0_11.index t = ![t.val, 0, 0] := (by decide +kernel : ∀ t : Fin grid0.N, win0_11.index t = ![t.val, 0, 0])

theorem row_lt (t : Fin cfg0.N) (r : Fin 8) : t.val * 8 + r.val < 32 := by
  have := lt_of_lt_of_eq t.isLt (show cfg0.N = 4 from N_0)
  omega

/-- The row of the batch that row `r` of a point's blocks is. -/
def row (t : Fin cfg0.N) (r : Fin 8) : Fin 32 := ⟨t.val * 8 + r.val, row_lt t r⟩

theorem blk0 (c : Dev nD) (t : Fin cfg0.N) (r : Fin 8) (k : Fin 768) : (iblk m c 0 t : S8x768.Idx → EReal) (ix2 r k) = A0 m c (ix2 (row t r) k) := by
  unfold iblk
  rw [View.read_apply]
  show (V m c main_arg0 : S32x768.Idx → EReal) ((win0_0.rect t).emb (ix2 r k)) = _
  refine (congrFun (V_main_arg0 m c) _).trans ?_
  refine congrArg (A0 m c) (funext fun a => Fin.ext ?_)
  match a with
  | ⟨0, _⟩ => refine (Window.rect_emb_val win0_0 t _ 0).trans ?_; rw [idx0]; rfl
  | ⟨1, _⟩ => refine (Window.rect_emb_val win0_0 t _ 1).trans ?_; rw [idx0]; show 0 * 768 + k.val = k.val; omega

theorem blk1 (c : Dev nD) (t : Fin cfg0.N) (r : Fin 8) (s n : Fin 128) :
    (iblk m c 1 t : S8x128x128.Idx → EReal) (ix3 r s n) = A1 m c (ix5 0 (row t r) s (⟨n.val / 64, by omega⟩ : Fin 2) (⟨n.val % 64, by omega⟩ : Fin 64)) := by
  unfold iblk
  rw [View.read_apply]
  show (V m c main_v35 : S32x128x128.Idx → EReal) ((win0_1.rect t).emb (ix3 r s n)) = _
  rw [V_ck]
  refine (congrArg (cache (A1 m c)) (funext fun a => Fin.ext ?_ : _ = ix3 (row t r) s n)).trans (cache_apply _ _ _ _)
  match a with
  | ⟨0, _⟩ => refine (Window.rect_emb_val win0_1 t _ 0).trans ?_; rw [idx1]; rfl
  | ⟨1, _⟩ => refine (Window.rect_emb_val win0_1 t _ 1).trans ?_; rw [idx1]; show 0 * 128 + s.val = s.val; omega
  | ⟨2, _⟩ => refine (Window.rect_emb_val win0_1 t _ 2).trans ?_; rw [idx1]; show 0 * 128 + n.val = n.val; omega

theorem blk2 (c : Dev nD) (t : Fin cfg0.N) (r : Fin 8) (s n : Fin 128) :
    (iblk m c 2 t : S8x128x128.Idx → EReal) (ix3 r s n) = A2 m c (ix5 0 (row t r) s (⟨n.val / 64, by omega⟩ : Fin 2) (⟨n.val % 64, by omega⟩ : Fin 64)) := by
  unfold iblk
  rw [View.read_apply]
  show (V m c main_v38 : S32x128x128.Idx → EReal) ((win0_2.rect t).emb (ix3 r s n)) = _
  rw [V_cv]
  refine (congrArg (cache (A2 m c)) (funext fun a => Fin.ext ?_ : _ = ix3 (row t r) s n)).trans (cache_apply _ _ _ _)
  match a with
  | ⟨0, _⟩ => refine (Window.rect_emb_val win0_2 t _ 0).trans ?_; rw [idx2]; rfl
  | ⟨1, _⟩ => refine (Window.rect_emb_val win0_2 t _ 1).trans ?_; rw [idx2]; show 0 * 128 + s.val = s.val; omega
  | ⟨2, _⟩ => refine (Window.rect_emb_val win0_2 t _ 2).trans ?_; rw [idx2]; show 0 * 128 + n.val = n.val; omega

theorem blk3 (c : Dev nD) (t : Fin cfg0.N) (n : Fin 128) : (iblk m c 3 t : S1x128.Idx → EReal) (ix2 0 n) = cosA ⟨n.val % 32, by omega⟩ := by
  unfold iblk
  rw [View.read_apply]
  show (V m c main_v19 : S1x128.Idx → EReal) ((win0_3.rect t).emb (ix2 0 n)) = _
  refine (congrArg (V m c main_v19 : S1x128.Idx → EReal) (funext fun a => Fin.ext ?_ : _ = ix2 0 n)).trans (host_cos m c n)
  match a with
  | ⟨0, _⟩ => refine (Window.rect_emb_val win0_3 t _ 0).trans ?_; rw [idx3]; rfl
  | ⟨1, _⟩ => refine (Window.rect_emb_val win0_3 t _ 1).trans ?_; rw [idx3]; show 0 * 128 + n.val = n.val; omega

theorem blk4 (c : Dev nD) (t : Fin cfg0.N) (n : Fin 128) : (iblk m c 4 t : S1x128.Idx → EReal) (ix2 0 n)
    = if n.val % 64 < 32 then -sinA ⟨n.val % 32, by omega⟩ else sinA ⟨n.val % 32, by omega⟩ := by
  unfold iblk
  rw [View.read_apply]
  show (V m c main_v24 : S1x128.Idx → EReal) ((win0_4.rect t).emb (ix2 0 n)) = _
  refine (congrArg (V m c main_v24 : S1x128.Idx → EReal) (funext fun a => Fin.ext ?_ : _ = ix2 0 n)).trans (host_sin m c n)
  match a with
  | ⟨0, _⟩ => refine (Window.rect_emb_val win0_4 t _ 0).trans ?_; rw [idx4]; rfl
  | ⟨1, _⟩ => refine (Window.rect_emb_val win0_4 t _ 1).trans ?_; rw [idx4]; show 0 * 128 + n.val = n.val; omega

theorem blk6 (c : Dev nD) (t : Fin cfg0.N) (n : Fin 128) : (iblk m c 6 t : S1x128.Idx → EReal) (ix2 0 n) = A4 m c (ix2 0 (⟨n.val % 64, by omega⟩ : Fin 64)) := by
  unfold iblk
  rw [View.read_apply]
  show (V m c main_v50 : S1x128.Idx → EReal) ((win0_6.rect t).emb (ix2 0 n)) = _
  rw [V_kg]
  refine (congrArg (weights (A4 m c)) (funext fun a => Fin.ext ?_ : _ = ix2 0 n)).trans (weights_apply _ n)
  match a with
  | ⟨0, _⟩ => refine (Window.rect_emb_val win0_6 t _ 0).trans ?_; rw [idx6]; rfl
  | ⟨1, _⟩ => refine (Window.rect_emb_val win0_6 t _ 1).trans ?_; rw [idx6]; show 0 * 128 + n.val = n.val; omega

theorem blk7 (c : Dev nD) (t : Fin cfg0.N) (j k : Fin 512) : @Eq EReal ((iblk m c 7 t : Vec Ideal S512x512 .bf16) (ix2 j k)) (if j.val / 64 = k.val / 64 then 1 else 0) := by
  unfold iblk
  rw [View.read_apply]
  show (V m c main_v32 : S512x512.Idx → EReal) ((win0_7.rect t).emb (ix2 j k)) = _
  rw [V_same]
  refine (congrArg (same : S512x512.Idx → EReal) (funext fun a => Fin.ext ?_ : _ = ix2 j k)).trans (same_at j k)
  match a with
  | ⟨0, _⟩ => refine (Window.rect_emb_val win0_7 t _ 0).trans ?_; rw [idx7]; show 0 * 512 + j.val = j.val; omega
  | ⟨1, _⟩ => refine (Window.rect_emb_val win0_7 t _ 1).trans ?_; rw [idx7]; show 0 * 512 + k.val = k.val; omega

/-! ## The caches after the run -/

/-- The rows' keys are numbers. -/
abbrev Fin0 : Prop := ∀ (c : Dev nD) (b : Fin 32) (k : Fin 128), A0 m c (ix2 b (⟨512 + k.val, by omega⟩ : Fin 768)) ≠ ⊤ ∧ A0 m c (ix2 b (⟨512 + k.val, by omega⟩ : Fin 768)) ≠ ⊥

theorem emb10 (t : Fin cfg0.N) (r : Fin 8) (s n : Fin 128) : ((win0_10.rect t).emb (ix3 r s n) : S32x128x128.Idx) = ix3 (row t r) s n := by
  funext a
  refine Fin.ext ?_
  match a with
  | ⟨0, _⟩ => refine (Window.rect_emb_val win0_10 t _ 0).trans ?_; rw [idx10]; rfl
  | ⟨1, _⟩ => refine (Window.rect_emb_val win0_10 t _ 1).trans ?_; rw [idx10]; show 0 * 128 + s.val = s.val; omega
  | ⟨2, _⟩ => refine (Window.rect_emb_val win0_10 t _ 2).trans ?_; rw [idx10]; show 0 * 128 + n.val = n.val; omega
theorem emb11 (t : Fin cfg0.N) (r : Fin 8) (s n : Fin 128) : ((win0_11.rect t).emb (ix3 r s n) : S32x128x128.Idx) = ix3 (row t r) s n := by
  funext a
  refine Fin.ext ?_
  match a with
  | ⟨0, _⟩ => refine (Window.rect_emb_val win0_11 t _ 0).trans ?_; rw [idx11]; rfl
  | ⟨1, _⟩ => refine (Window.rect_emb_val win0_11 t _ 1).trans ?_; rw [idx11]; show 0 * 128 + s.val = s.val; omega
  | ⟨2, _⟩ => refine (Window.rect_emb_val win0_11 t _ 2).trans ?_; rw [idx11]; show 0 * 128 + n.val = n.val; omega

theorem flushed10_eq (hf : Fin0 m) (c : Dev nD) (t : Fin cfg0.N) (_ : (cfg0.win 10).flush t = true) :
    (dats m 0 c).flushed 10 t = ((cfg0.win 10).blk t).view.read (Elt Ideal) (keysA (A0 m c) (A1 m c) (A4 m c)) := by
  rw [Value.flushed10_A]
  funext y
  obtain ⟨r, s, n, rfl⟩ : ∃ (r : Fin 8) (s n : Fin 128), y = ix3 r s n := ⟨y 0, y 1, y 2, eq_ix3 y⟩
  rw [View.read_apply]
  show _ = keysA (A0 m c) (A1 m c) (A4 m c) ((win0_10.rect t).emb (ix3 r s n))
  rw [emb10]
  refine (out10_eq _ _ _ _ _ _ _ _ _ _ _ _ _ _ _ _ _ _ _ _ _ _ _ _ _ _ _ _ _ _ _ _ _ _ _ (ix3 r s n)).trans ?_
  unfold pushed keysA
  show (if h : s.val < 127 then _ else _) = if h : s.val < 127 then _ else _
  by_cases hs : s.val < 127
  · rw [dif_pos hs, dif_pos hs]
    exact blk1 m c t r _ n
  · rw [dif_neg hs, dif_neg hs]
    exact newK_apply _ _ _ _ _ r n _ _ (fun k => blk0 m c t r _) (fun k => hf c (row t r) k) (fun j => blk6 m c t j)
      (fun j k => blk7 m c t _ _) (blk3 m c t n) (blk4 m c t n)

theorem flushed11_eq (c : Dev nD) (t : Fin cfg0.N) (_ : (cfg0.win 11).flush t = true) :
    (dats m 0 c).flushed 11 t = ((cfg0.win 11).blk t).view.read (Elt Ideal) (valsA (A0 m c) (A2 m c)) := by
  rw [Value.flushed11_A]
  funext y
  obtain ⟨r, s, n, rfl⟩ : ∃ (r : Fin 8) (s n : Fin 128), y = ix3 r s n := ⟨y 0, y 1, y 2, eq_ix3 y⟩
  rw [View.read_apply]
  show _ = valsA (A0 m c) (A2 m c) ((win0_11.rect t).emb (ix3 r s n))
  rw [emb11]
  refine (out11_eq _ _ _ _ _ _ _ _ _ _ _ _ _ _ _ _ _ _ _ _ _ _ _ _ _ _ _ _ _ _ _ _ _ _ _ (ix3 r s n)).trans ?_
  unfold pushed valsA
  show (if h : s.val < 127 then _ else _) = if h : s.val < 127 then _ else _
  by_cases hs : s.val < 127
  · rw [dif_pos hs, dif_pos hs]
    exact blk2 m c t r _ n
  · rw [dif_neg hs, dif_neg hs]
    exact (newV_apply _ r n).trans (blk0 m c t r _)

theorem mem_blk10 (t : Fin cfg0.N) (i : S32x128x128.Idx) :
    i ∈ ((cfg0.win 10).blk t).view.set ↔ ∀ a, win0_10.index t a * win0_10.size a ≤ (i a : Nat)
      ∧ (i a : Nat) < win0_10.index t a * win0_10.size a + win0_10.xsize (grid0.coords t) a := by
  show i ∈ ((View.whole main_v55_1).slice (win0_10.rect t)).set ↔ _
  rw [View.set_slice_whole, Rect.mem_set_unit]
theorem mem_blk11 (t : Fin cfg0.N) (i : S32x128x128.Idx) :
    i ∈ ((cfg0.win 11).blk t).view.set ↔ ∀ a, win0_11.index t a * win0_11.size a ≤ (i a : Nat)
      ∧ (i a : Nat) < win0_11.index t a * win0_11.size a + win0_11.xsize (grid0.coords t) a := by
  show i ∈ ((View.whole main_v55_2).slice (win0_11.rect t)).set ↔ _
  rw [View.set_slice_whole, Rect.mem_set_unit]

theorem flush10 : ∀ t : Fin cfg0.N, (cfg0.win 10).flush t = true := (by decide +kernel : ∀ t : Fin grid0.N, win0_10.flush t = true)
theorem flush11 : ∀ t : Fin cfg0.N, (cfg0.win 11).flush t = true := (by decide +kernel : ∀ t : Fin grid0.N, win0_11.flush t = true)

theorem final10 (hf : Fin0 m) (c : Dev nD) : (dats m 0 c).arrAt 10 cfg0.N = keysA (A0 m c) (A1 m c) (A4 m c) := by
  funext i
  have h0 : (i 0 : Nat) < 32 := (i 0).isLt
  have h1 : (i 1 : Nat) < 128 := (i 1).isLt
  have h2 : (i 2 : Nat) < 128 := (i 2).isLt
  have hN : cfg0.N = 4 := N_0
  let t : Fin cfg0.N := ⟨(i 0 : Nat) / 8, by rw [hN]; omega⟩
  refine (dats m 0 c).arrAt_apply_of_mem 10 _ (flushed10_eq m hf c) cfg0.N t i t.isLt (flush10 t) ?_
  rw [mem_blk10]
  intro a
  rw [idx10]
  have q : t.val = (i 0 : Nat) / 8 := rfl
  match a with
  | ⟨0, _⟩ => show t.val * 8 ≤ (i 0 : Nat) ∧ (i 0 : Nat) < t.val * 8 + 8; rw [q]; omega
  | ⟨1, _⟩ => show 0 * 128 ≤ (i 1 : Nat) ∧ (i 1 : Nat) < 0 * 128 + 128; omega
  | ⟨2, _⟩ => show 0 * 128 ≤ (i 2 : Nat) ∧ (i 2 : Nat) < 0 * 128 + 128; omega
theorem final11 (c : Dev nD) : (dats m 0 c).arrAt 11 cfg0.N = valsA (A0 m c) (A2 m c) := by
  funext i
  have h0 : (i 0 : Nat) < 32 := (i 0).isLt
  have h1 : (i 1 : Nat) < 128 := (i 1).isLt
  have h2 : (i 2 : Nat) < 128 := (i 2).isLt
  have hN : cfg0.N = 4 := N_0
  let t : Fin cfg0.N := ⟨(i 0 : Nat) / 8, by rw [hN]; omega⟩
  refine (dats m 0 c).arrAt_apply_of_mem 11 _ (flushed11_eq m c) cfg0.N t i t.isLt (flush11 t) ?_
  rw [mem_blk11]
  intro a
  rw [idx11]
  have q : t.val = (i 0 : Nat) / 8 := rfl
  match a with
  | ⟨0, _⟩ => show t.val * 8 ≤ (i 0 : Nat) ∧ (i 0 : Nat) < t.val * 8 + 8; rw [q]; omega
  | ⟨1, _⟩ => show 0 * 128 ≤ (i 1 : Nat) ∧ (i 1 : Nat) < 0 * 128 + 128; omega
  | ⟨2, _⟩ => show 0 * 128 ≤ (i 2 : Nat) ∧ (i 2 : Nat) < 0 * 128 + 128; omega

/-- The run: the two caches, and the arguments unchanged. -/
theorem run (hf : Fin0 m) : θ_run (defs (F := Ideal)) (onTc (τ := τ) (main (F := Ideal))) ⟨m, fun _ => 0, ρ⟩ fun r => ∀ c : Dev nD,
      r.2.mem ((c : Thread nD τ).loc main_v55_1) = keysA (A0 m c) (A1 m c) (A4 m c)
      ∧ r.2.mem ((c : Thread nD τ).loc main_v55_2) = valsA (A0 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).2.1.trans (final10 m hf c), (h c).2.2.1.trans (final11 m c), (h c).2.2.2⟩) (Value.run_blocks m ρ)

end Cert.Proof.AttnSample

end
-- ==== Proof.DnPrompt.lean ====
/-
  The state a gated delta rule over the prompt leaves for the convolution of the sample: the last three rows of its input's first
  1536 columns, for the two sequences, read off after the last point. Here: that point's two stores index by index, the
  array the call ends with, and that the reference's slices are the same numbers.
-/
module

public import proofs.«01_k».proof.Defs
public import proofs.«01_k».proof.Proof.Gen.DnPrompt.Frame
public import proofs.«01_k».proof.Proof.Gen.DnPromptIdeal.Frame
public import proofs.«01_k».proof.Proof.Gen.DnPromptRefIdeal.Run
public import proofs.«01_k».proof.Proof.Gen.DnPromptRefIdeal.Read
public import Idealize.ShloMosaic.Lib.ValueIdx
public import Idealize.ShloMosaic.Lib.IdealHost
public import Idealize.ShloMosaic.Lib.Pipeline.ValueKit.Tiles

@[expose] public section

noncomputable section

namespace Cert.Proof.DnPrompt

open Idealize.ShloMosaic Idealize.ShloMosaic.TcCoe Idealize.SL.Sem Idealize.ShloMosaic.ValueIdx
open Cert.DnPromptIdeal Cert.DnPromptIdeal.Gen
open Idealize.ShloMosaic.Pipeline (Dat Cfg Window)

/-- The first 1536 columns of the last three rows of each sequence. -/
def lastRows (z : S8192x2176.Idx → EReal) : S2x3x1536.Idx → EReal := fun i =>
  z (ix2 ⟨(i 0 : Nat) * 4096 + 4093 + (i 1 : Nat), by have h0 : (i 0 : Nat) < 2 := (i 0).isLt; have h1 : (i 1 : Nat) < 3 := (i 1).isLt; omega⟩
    ⟨(i 2 : Nat), by have h2 : (i 2 : Nat) < 1536 := (i 2).isLt; omega⟩)

/-! ## The two stores at an index -/

variable (x : Vec Ideal S2x128x1536 .f32)

theorem store_apply (b : Fin 2) (inb) (f : S1x3x1536.Idx → EReal)
    (hf : f = shapeCast S1x3x1536 (shapeCast S3x1536 (View.ld x (Rect.unit ![b.val, 125, 0] S1x3x1536.size inb)) shapeCasts_S1x3x1536_S3x1536) shapeCasts_S3x1536_S1x3x1536)
    (z : Fin 1) (r : Fin 3) (n : Fin 1536) : f (ix3 z r n) = x (ix3 b ⟨125 + r.val, by omega⟩ n) := by
  rw [hf]
  refine (shapeCast_apply _ shapeCasts_S3x1536_S1x3x1536 (ix3 z r n) (ix2 r n) (by
    rw [Shape.rowMajor_val_two, Shape.rowMajor_val_three]
    show r.val * 1536 + n.val = (z.val * 3 + r.val) * 1536 + n.val
    omega)).trans ?_
  refine (shapeCast_apply _ shapeCasts_S1x3x1536_S3x1536 (ix2 r n) (ix3 0 r n) (by
    rw [Shape.rowMajor_val_two, Shape.rowMajor_val_three]
    show (0 * 3 + r.val) * 1536 + n.val = r.val * 1536 + n.val
    omega)).trans ?_
  refine View.ld_unit_apply_of x ![b.val, 125, 0] S1x3x1536.size inb (ix3 0 r n) (ix3 b ⟨125 + r.val, by omega⟩ n) (fun a => ?_)
  match a with
  | ⟨0, _⟩ => rfl
  | ⟨1, _⟩ => rfl
  | ⟨2, _⟩ => show n.val = 0 + n.val; omega

def first : Vec Ideal S1x3x1536 .f32 := k0_pay10 (View.ld x (Rect.unit ![0, 125, 0] S1x3x1536.size inb_S2x128x1536_S1x3x1536_0_125_0))
def second : Vec Ideal S1x3x1536 .f32 := k0_pay21 (View.ld x (Rect.unit ![1, 125, 0] S1x3x1536.size inb_S2x128x1536_S1x3x1536_1_125_0))

/-- What the buffer holds after the last point, which reads `x`. -/
def held : S2x3x1536.Idx → EReal := fun y => x (ix3 (y 0) ⟨125 + (y 1 : Nat), by have h : (y 1 : Nat) < 3 := (y 1).isLt; omega⟩ (y 2))

theorem held_of (f : S1x3x1536.Idx → EReal) (b : Fin 2) (hf : ∀ (z : Fin 1) (r : Fin 3) (n : Fin 1536), f (ix3 z r n) = x (ix3 b ⟨125 + r.val, by omega⟩ n))
    (u : S1x3x1536.Idx) (y : S2x3x1536.Idx) (hy : ∀ a, (y a : ℕ) = (![b.val, 0, 0] : Fin 3 → Nat) a + u a) : f u = held x y := by
  obtain ⟨z, r, n, rfl⟩ : ∃ (z : Fin 1) (r : Fin 3) (n : Fin 1536), u = ix3 z r n := ⟨u 0, u 1, u 2, eq_ix3 u⟩
  have h0 : (y 0 : ℕ) = b.val + z.val := hy 0
  have h1 : (y 1 : ℕ) = 0 + r.val := hy 1
  have h2 : (y 2 : ℕ) = 0 + n.val := hy 2
  rw [hf]
  refine congrArg x (funext fun a => Fin.ext ?_)
  match a with
  | ⟨0, _⟩ => show b.val = (y 0 : ℕ); omega
  | ⟨1, _⟩ => show 125 + r.val = 125 + (y 1 : ℕ); omega
  | ⟨2, _⟩ => show n.val = (y 2 : ℕ); omega

/-! ## The call -/

variable (m : (ℓ : Loc nD τ sig) → Buf (Elt Ideal) ℓ) (ρ : Dev nD → PrngReg)

abbrev A0 (c : Dev nD) : S8192x2176.Idx → EReal := m ((c : Thread nD τ).loc main_arg0)

set_option maxRecDepth 16384

theorem point_eq (c : Dev nD) (t : Fin cfg0.N) (h2 : t.val % 32 = 31) (y : S2x3x1536.Idx) :
    ((outsAt0 m c t.val t.isLt).2.2.1 y : EReal) = held (X0_0 m c t) y := by
  rw [outsAt0_C m c t (by omega) (by omega) h2]
  dsimp only
  unfold out0_C_9
  rw [View.read_writes_eq_canon _ _ _ (cover0_C_9 c (grid0.coords t) _ _ _ _ _ _ _ _ _ _ _ _ _ _ _ _ _ _ _ _ _ _ _ _ _ _ _ _ _ _ _ _ _ _ _ _)]
  refine View.canon_eq_of_allAt _ y _ (cover0_C_9 c (grid0.coords t) _ _ _ _ _ _ _ _ _ _ _ _ _ _ _ _ _ _ _ _ _ _ _ _ _ _ _ _ _ _ _ _ _ _ _ _ y) ?_
  unfold kernelRun0_C
  dsimp only
  have hr := (hs0_0 t).read_unread (X0_0 m c t : Vec Ideal S2x128x1536 .f32)
  refine View.allAt_cons_unit (S := S2x3x1536) ![1, 0, 0] S1x3x1536.size (by decide) _ _ (fun u hu =>
    (Eq.trans (b := (second ((ms0_0 t).view.read (Elt Ideal) ((hs0_0 t).unread (X0_0 m c t))) u : EReal)) (by sl_kernel_rfl)
      (by rw [hr]; exact held_of _ _ 1 (store_apply _ 1 _ _ rfl) u y hu))) ?_
  refine View.allAt_cons_unit (S := S2x3x1536) ![0, 0, 0] S1x3x1536.size (by decide) _ _ (fun u hu =>
    (Eq.trans (b := (first ((ms0_0 t).view.read (Elt Ideal) ((hs0_0 t).unread (X0_0 m c t))) u : EReal)) (by sl_kernel_rfl)
      (by rw [hr]; exact held_of _ _ 0 (store_apply _ 0 _ _ rfl) u y hu))) ?_
  exact View.allAt_nil _ _

theorem idx0 : ∀ t : Fin cfg0.N, win0_0.index t = ![0, t.val, 0] := (by decide +kernel : ∀ t : Fin grid0.N, win0_0.index t = ![0, t.val, 0])
theorem idx9 : ∀ t : Fin cfg0.N, win0_9.index t = ![0, 0, 0] := (by decide +kernel : ∀ t : Fin grid0.N, win0_9.index t = ![0, 0, 0])

theorem V_in (c : Dev nD) : (V m c main_v13 : S2x4096x2176.Idx → EReal) = shapeCast S2x4096x2176 (A0 m c) shapeCasts_S8192x2176_S2x4096x2176 := by
  unfold V; rfl

theorem row_lt (t : Fin cfg0.N) (r : Fin 128) : t.val * 128 + r.val < 4096 := by
  have := lt_of_lt_of_eq t.isLt (show cfg0.N = 32 from N_0)
  omega

theorem blk0 (c : Dev nD) (t : Fin cfg0.N) (b : Fin 2) (r : Fin 128) (k : Fin 1536) :
    (X0_0 m c t : S2x128x1536.Idx → EReal) (ix3 b r k) = A0 m c (ix2 ⟨b.val * 4096 + (t.val * 128 + r.val), by have := row_lt t r; omega⟩ ⟨k.val, by omega⟩) := by
  unfold X0_0 Pipeline.Window.fill
  rw [dif_pos (moved0_0 t (ix3 b r k))]
  unfold iblk
  rw [View.read_apply]
  show (V m c main_v13 : S2x4096x2176.Idx → EReal) ((win0_0.rect t).emb _) = _
  rw [V_in]
  refine (congrArg _ (funext fun a => Fin.ext ?_ : _ = ix3 b ⟨t.val * 128 + r.val, row_lt t r⟩ ⟨k.val, by omega⟩)).trans (shapeCast_apply _ shapeCasts_S8192x2176_S2x4096x2176 _ _ ?_)
  · match a with
    | ⟨0, _⟩ => refine (Window.rect_emb_val win0_0 t _ 0).trans ?_; rw [idx0]; show 0 * 2 + b.val = b.val; omega
    | ⟨1, _⟩ => refine (Window.rect_emb_val win0_0 t _ 1).trans ?_; rw [idx0]; rfl
    | ⟨2, _⟩ => refine (Window.rect_emb_val win0_0 t _ 2).trans ?_; rw [idx0]; show 0 * 1536 + k.val = k.val; omega
  · rw [Shape.rowMajor_val_two, Shape.rowMajor_val_three]
    rfl

/-- The last point, and only it, writes the buffer back. -/
theorem flush9 : ∀ t : Fin cfg0.N, (cfg0.win 9).flush t = decide (t.val = 31) :=
  (by decide +kernel : ∀ t : Fin grid0.N, win0_9.flush t = decide (t.val = 31))

theorem emb9 (t : Fin cfg0.N) (i : S2x3x1536.Idx) : (win0_9.rect t).emb i = i :=
  funext fun a => Fin.ext (by
    refine (Window.rect_emb_val win0_9 t i a).trans ?_
    rw [idx9]
    match a with
    | ⟨0, _⟩ => show 0 * 2 + (i 0 : Nat) = (i 0 : Nat); omega
    | ⟨1, _⟩ => show 0 * 3 + (i 1 : Nat) = (i 1 : Nat); omega
    | ⟨2, _⟩ => show 0 * 1536 + (i 2 : Nat) = (i 2 : Nat); omega)

theorem flushed9_eq (c : Dev nD) (t : Fin cfg0.N) (ht : t.val = 31) :
    (dats m 0 c).flushed 9 t = ((cfg0.win 9).blk t).view.read (Elt Ideal) (lastRows (A0 m c)) := by
  show (cfg0.win 9).cut (grid0.coords t) ((dats m 0 c).after 9 t) = _
  rw [after0_9]
  funext y
  rw [View.read_apply]
  show _ = lastRows (A0 m c) ((win0_9.rect t).emb y)
  rw [emb9]
  refine (point_eq m c t (by omega) y).trans ?_
  unfold held lastRows
  refine (blk0 m c t _ _ _).trans (congrArg (A0 m c) (funext fun a => Fin.ext ?_))
  match a with
  | ⟨0, _⟩ => show (y 0 : Nat) * 4096 + (t.val * 128 + (125 + (y 1 : Nat))) = (y 0 : Nat) * 4096 + 4093 + (y 1 : Nat); omega
  | ⟨1, _⟩ => rfl

theorem mem_blk9 (t : Fin cfg0.N) (i : S2x3x1536.Idx) :
    i ∈ ((cfg0.win 9).blk t).view.set ↔ ∀ a, win0_9.index t a * win0_9.size a ≤ (i a : Nat)
      ∧ (i a : Nat) < win0_9.index t a * win0_9.size a + win0_9.xsize (grid0.coords t) a := by
  show i ∈ ((View.whole main_v15_2).slice (win0_9.rect t)).set ↔ _
  rw [View.set_slice_whole, Rect.mem_set_unit]

theorem final9 (c : Dev nD) : (dats m 0 c).arrAt 9 cfg0.N = lastRows (A0 m c) :=
  (dats m 0 c).arrAt_eq_of_cover 9 _ (fun t ht => flushed9_eq m c t (of_decide_eq_true ((flush9 t).symm.trans ht))) fun (i : S2x3x1536.Idx) => by
    have hi0 : (i 0 : Nat) < 2 := (i 0).isLt
    have hi1 : (i 1 : Nat) < 3 := (i 1).isLt
    have hi2 : (i 2 : Nat) < 1536 := (i 2).isLt
    have hp : 31 < cfg0.N := by rw [show cfg0.N = 32 from N_0]; decide
    refine ⟨⟨31, hp⟩, (flush9 _).trans (decide_eq_true rfl), (mem_blk9 ⟨31, hp⟩ i).mpr fun a => ?_⟩
    rw [idx9]
    match a with
    | ⟨0, _⟩ => show 0 * 2 ≤ (i 0 : Nat) ∧ (i 0 : Nat) < 0 * 2 + 2; omega
    | ⟨1, _⟩ => show 0 * 3 ≤ (i 1 : Nat) ∧ (i 1 : Nat) < 0 * 3 + 3; omega
    | ⟨2, _⟩ => show 0 * 1536 ≤ (i 2 : Nat) ∧ (i 2 : Nat) < 0 * 1536 + 1536; omega

/-- The run: the last rows, the arguments unchanged. -/
theorem run : θ_run (defs (F := Ideal)) (onTc (τ := τ) (main (F := Ideal))) ⟨m, fun _ => 0, ρ⟩ fun r => ∀ c : Dev nD,
      r.2.mem ((c : Thread nD τ).loc main_v15_2) = lastRows (A0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 9).trans (final9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

/-- The reference's slices. -/
theorem ref_eq (z : S8192x2176.Idx → EReal) : (Cert.DnPromptRefIdeal.Read.val_main_v2 (F := Ideal) z : S2x3x1536.Idx → EReal) = lastRows z := by
  funext i
  rw [Cert.DnPromptRefIdeal.Read.val_main_v2_apply, Cert.DnPromptRefIdeal.Read.val_main_v1_apply, Cert.DnPromptRefIdeal.Read.val_main_v0_apply]
  have h0 : (i 0 : Nat) < 2 := (i 0).isLt
  have h1 : (i 1 : Nat) < 3 := (i 1).isLt
  have h2 : (i 2 : Nat) < 1536 := (i 2).isLt
  refine congrArg z (funext fun a => Fin.ext ?_)
  match a with
  | ⟨0, _⟩ => show (((i 0 : Nat) * 4096 + (4093 + (i 1 : Nat))) * 1536 + (i 2 : Nat)) / 1536 = (i 0 : Nat) * 4096 + 4093 + (i 1 : Nat); omega
  | ⟨1, _⟩ => show (((i 0 : Nat) * 4096 + (4093 + (i 1 : Nat))) * 1536 + (i 2 : Nat)) % 1536 = (i 2 : Nat); omega

end Cert.Proof.DnPrompt

end
-- ==== Proof.AttnPrompt.lean ====
/-
  The values an attention call over the prompt leaves for the sample: its last 128 rows of the values' columns, for the
  two sequences. The buffer is written at every point and read off after the last. Here: that point's two stores index
  by index, the array the call ends with, and that the reference's slices are the same numbers.
-/
module

public import proofs.«01_k».proof.Defs
public import proofs.«01_k».proof.Proof.Gen.AttnPrompt.Frame
public import proofs.«01_k».proof.Proof.Gen.AttnPromptIdeal.Frame
public import proofs.«01_k».proof.Proof.Gen.AttnPromptRefIdeal.Run
public import proofs.«01_k».proof.Proof.Gen.AttnPromptRefIdeal.Read
public import Idealize.ShloMosaic.Lib.ValueIdx
public import Idealize.ShloMosaic.Lib.IdealHost
public import Idealize.ShloMosaic.Lib.Pipeline.ValueKit.Tiles

@[expose] public section

noncomputable section

namespace Cert.Proof.AttnPrompt

open Idealize.ShloMosaic Idealize.ShloMosaic.TcCoe Idealize.SL.Sem Idealize.ShloMosaic.ValueIdx
open Cert.AttnPromptIdeal Cert.AttnPromptIdeal.Gen
open Idealize.ShloMosaic.Pipeline (Dat Cfg Window)

/-- The values of the last 128 rows of each sequence. -/
def lastV (z : S8192x768.Idx → EReal) : S2x128x128.Idx → EReal := fun i =>
  z (ix2 ⟨(i 0 : Nat) * 4096 + 3968 + (i 1 : Nat), by have h0 : (i 0 : Nat) < 2 := (i 0).isLt; have h1 : (i 1 : Nat) < 128 := (i 1).isLt; omega⟩
    ⟨640 + (i 2 : Nat), by have h2 : (i 2 : Nat) < 128 := (i 2).isLt; omega⟩)

/-! ## The two stores at an index -/

variable (x : Vec Ideal S2x128x768 .f32)

theorem rows_apply (b : Fin 2) (inb) (r : Fin 128) (n : Fin 768) :
    (shapeCast S128x768 (View.ld x (Rect.unit ![b.val, 0, 0] S1x128x768.size inb)) shapeCasts_S1x128x768_S128x768 (ix2 r n) : EReal) = x (ix3 b r n) := by
  refine (shapeCast_apply _ shapeCasts_S1x128x768_S128x768 (ix2 r n) (ix3 0 r n) (by
    rw [Shape.rowMajor_val_two, Shape.rowMajor_val_three]
    show (0 * 128 + r.val) * 768 + n.val = r.val * 768 + n.val
    omega)).trans ?_
  refine View.ld_unit_apply_of x ![b.val, 0, 0] S1x128x768.size inb (ix3 0 r n) (ix3 b r n) (fun a => ?_)
  match a with
  | ⟨0, _⟩ => rfl
  | ⟨1, _⟩ => show r.val = 0 + r.val; omega
  | ⟨2, _⟩ => show n.val = 0 + n.val; omega

/-- Both sequences' blocks, one under the other. -/
def both : FVec Ideal S256x768 .f32 :=
  k0_pay5 (View.ld x (Rect.unit ![0, 0, 0] S1x128x768.size inb_S2x128x768_S1x128x768_0_0_0)) (View.ld x (Rect.unit ![1, 0, 0] S1x128x768.size inb_S2x128x768_S1x128x768_1_0_0))

theorem both_low (r : Fin 128) (n : Fin 768) : (both x (ix2 ⟨r.val, by omega⟩ n) : EReal) = x (ix3 0 r n) := by
  unfold both k0_pay5
  refine (concatenate_pair_apply_left (t := S256x768) (s₁ := S128x768) (s₂ := S128x768) 0 _ _ _ (ix2 ⟨r.val, by omega⟩ n) rfl (ix2 r n) (fun a => ?_)).trans (rows_apply x 0 _ r n)
  match a with | ⟨0, _⟩ => rfl | ⟨1, _⟩ => rfl

theorem both_high (r : Fin 128) (n : Fin 768) : (both x (ix2 ⟨128 + r.val, by omega⟩ n) : EReal) = x (ix3 1 r n) := by
  unfold both k0_pay5
  refine (concatenate_pair_apply_right (t := S256x768) (s₁ := S128x768) (s₂ := S128x768) 0 _ _ _ (ix2 ⟨128 + r.val, by omega⟩ n) rfl rfl (ix2 r n) (fun a ha => ?_) (Nat.add_comm _ _)).trans (rows_apply x 1 _ r n)
  match a with | ⟨0, _⟩ => exact absurd rfl ha | ⟨1, _⟩ => rfl

theorem vals_apply (R : Fin 256) (n : Fin 128) (w : FVec Ideal S256x768 .f32) : (k0_pay13 w (ix2 R n) : EReal) = w (ix2 R ⟨640 + n.val, by omega⟩) := by
  unfold k0_pay13
  exact extractStridedSlice_apply (s := S256x768) (t := S256x128) ![0, 640] w slices_S256x768_o0_640_S256x128 (ix2 R n) (ix2 R ⟨640 + n.val, by omega⟩) (fun a => match a with
    | ⟨0, _⟩ => by show R.val = 0 + R.val; omega
    | ⟨1, _⟩ => rfl)

theorem up_apply (w : FVec Ideal S128x128 .f32) (z : Fin 1) (r n : Fin 128) : (shapeCast S1x128x128 w shapeCasts_S128x128_S1x128x128 (ix3 z r n) : EReal) = w (ix2 r n) :=
  shapeCast_apply w shapeCasts_S128x128_S1x128x128 (ix3 z r n) (ix2 r n) (by
    rw [Shape.rowMajor_val_two, Shape.rowMajor_val_three]
    show r.val * 128 + n.val = (z.val * 128 + r.val) * 128 + n.val
    omega)

theorem store0 (z : Fin 1) (r n : Fin 128) : (k0_pay18 (both x) (ix3 z r n) : EReal) = x (ix3 0 r ⟨640 + n.val, by omega⟩) := by
  unfold k0_pay18 k0_pay16
  refine (up_apply _ z r n).trans ?_
  refine (extractStridedSlice_apply (s := S256x128) (t := S128x128) ![0, 0] _ slices_S256x128_o0_0_S128x128 (ix2 r n) (ix2 ⟨r.val, by omega⟩ n) (fun a => ?_)).trans
    ((vals_apply _ n _).trans (both_low x r _))
  match a with
  | ⟨0, _⟩ => show r.val = 0 + r.val; omega
  | ⟨1, _⟩ => show n.val = 0 + n.val; omega

theorem store1 (z : Fin 1) (r n : Fin 128) : (k0_pay42 (k0_pay40 (k0_pay13 (both x))) (ix3 z r n) : EReal) = x (ix3 1 r ⟨640 + n.val, by omega⟩) := by
  unfold k0_pay42 k0_pay40
  refine (up_apply _ z r n).trans ?_
  refine (extractStridedSlice_apply (s := S256x128) (t := S128x128) ![128, 0] _ slices_S256x128_o128_0_S128x128 (ix2 r n) (ix2 ⟨128 + r.val, by omega⟩ n) (fun a => ?_)).trans
    ((vals_apply _ n _).trans (both_high x r _))
  match a with
  | ⟨0, _⟩ => rfl
  | ⟨1, _⟩ => show n.val = 0 + n.val; omega

/-- What the buffer holds after a point that read `x`. -/
def held : S2x128x128.Idx → EReal := fun y => x (ix3 (y 0) (y 1) ⟨640 + (y 2 : Nat), by have h : (y 2 : Nat) < 128 := (y 2).isLt; omega⟩)

theorem held_of (f : S1x128x128.Idx → EReal) (b : Fin 2) (hf : ∀ (z : Fin 1) (r n : Fin 128), f (ix3 z r n) = x (ix3 b r ⟨640 + n.val, by omega⟩))
    (u : S1x128x128.Idx) (y : S2x128x128.Idx) (hy : ∀ a, (y a : ℕ) = (![b.val, 0, 0] : Fin 3 → Nat) a + u a) : f u = held x y := by
  obtain ⟨z, r, n, rfl⟩ : ∃ (z : Fin 1) (r n : Fin 128), u = ix3 z r n := ⟨u 0, u 1, u 2, eq_ix3 u⟩
  have h0 : (y 0 : ℕ) = b.val + z.val := hy 0
  have h1 : (y 1 : ℕ) = 0 + r.val := hy 1
  have h2 : (y 2 : ℕ) = 0 + n.val := hy 2
  rw [hf]
  refine congrArg x (funext fun a => Fin.ext ?_)
  match a with
  | ⟨0, _⟩ => show b.val = (y 0 : ℕ); omega
  | ⟨1, _⟩ => show r.val = (y 1 : ℕ); omega
  | ⟨2, _⟩ => show 640 + n.val = 640 + (y 2 : ℕ); omega

/-! ## The call -/

variable (m : (ℓ : Loc nD τ sig) → Buf (Elt Ideal) ℓ) (ρ : Dev nD → PrngReg)

abbrev A0 (c : Dev nD) : S8192x768.Idx → EReal := m ((c : Thread nD τ).loc main_arg0)

set_option maxRecDepth 16384

theorem point_eq (c : Dev nD) (t : Fin cfg0.N) (h0 : ¬t.val % 32 = 0) (y : S2x128x128.Idx) :
    ((outsAt0 m c t.val t.isLt).2.2.1 y : EReal) = held (iblk m c 0 t) y := by
  rw [outsAt0_B m c t h0]
  dsimp only
  unfold out0_B_9
  rw [View.read_writes_eq_canon _ _ _ (cover0_B_9 c (grid0.coords t) _ _ _ _ _ _ _ _ _ _ _ _ _ _ _ _ _ _ _ _ _ _ _ _ _ _ _ _ _ _ _ _ _ _)]
  refine View.canon_eq_of_allAt _ y _ (cover0_B_9 c (grid0.coords t) _ _ _ _ _ _ _ _ _ _ _ _ _ _ _ _ _ _ _ _ _ _ _ _ _ _ _ _ _ _ _ _ _ _ y) ?_
  unfold kernelRun0_B
  dsimp only
  have hr := (hs0_0 t).read_unread (iblk m c 0 t : Vec Ideal S2x128x768 .f32)
  refine View.allAt_cons_unit (S := S2x128x128) ![1, 0, 0] S1x128x128.size (by decide) _ _ (fun u hu =>
    (Eq.trans (b := (k0_pay42 (k0_pay40 (k0_pay13 (both ((ms0_0 t).view.read (Elt Ideal) ((hs0_0 t).unread (iblk m c 0 t)))))) u : EReal)) (by sl_kernel_rfl)
      (by rw [hr]; exact held_of _ _ 1 (store1 _) u y hu))) ?_
  refine View.allAt_cons_unit (S := S2x128x128) ![0, 0, 0] S1x128x128.size (by decide) _ _ (fun u hu =>
    (Eq.trans (b := (k0_pay18 (both ((ms0_0 t).view.read (Elt Ideal) ((hs0_0 t).unread (iblk m c 0 t)))) u : EReal)) (by sl_kernel_rfl)
      (by rw [hr]; exact held_of _ _ 0 (store0 _) u y hu))) ?_
  exact View.allAt_nil _ _

theorem idx0 : ∀ t : Fin cfg0.N, win0_0.index t = ![0, t.val, 0] := (by decide +kernel : ∀ t : Fin grid0.N, win0_0.index t = ![0, t.val, 0])
theorem idx9 : ∀ t : Fin cfg0.N, win0_9.index t = ![0, 0, 0] := (by decide +kernel : ∀ t : Fin grid0.N, win0_9.index t = ![0, 0, 0])

theorem V_in (c : Dev nD) : (V m c main_v46 : S2x4096x768.Idx → EReal) = shapeCast S2x4096x768 (A0 m c) shapeCasts_S8192x768_S2x4096x768 := by
  unfold V; rfl

theorem row_lt (t : Fin cfg0.N) (r : Fin 128) : t.val * 128 + r.val < 4096 := by
  have := lt_of_lt_of_eq t.isLt (show cfg0.N = 32 from N_0)
  omega

theorem blk0 (c : Dev nD) (t : Fin cfg0.N) (b : Fin 2) (r : Fin 128) (k : Fin 768) :
    (iblk m c 0 t : S2x128x768.Idx → EReal) (ix3 b r k) = A0 m c (ix2 ⟨b.val * 4096 + (t.val * 128 + r.val), by have := row_lt t r; omega⟩ k) := by
  unfold iblk
  rw [View.read_apply]
  show (V m c main_v46 : S2x4096x768.Idx → EReal) ((win0_0.rect t).emb (ix3 b r k)) = _
  rw [V_in]
  refine (congrArg _ (funext fun a => Fin.ext ?_ : _ = ix3 b ⟨t.val * 128 + r.val, row_lt t r⟩ k)).trans (shapeCast_apply _ shapeCasts_S8192x768_S2x4096x768 _ _ ?_)
  · match a with
    | ⟨0, _⟩ => refine (Window.rect_emb_val win0_0 t _ 0).trans ?_; rw [idx0]; show 0 * 2 + b.val = b.val; omega
    | ⟨1, _⟩ => refine (Window.rect_emb_val win0_0 t _ 1).trans ?_; rw [idx0]; rfl
    | ⟨2, _⟩ => refine (Window.rect_emb_val win0_0 t _ 2).trans ?_; rw [idx0]; show 0 * 768 + k.val = k.val; omega
  · rw [Shape.rowMajor_val_two, Shape.rowMajor_val_three]
    rfl

/-- The last point, and only it, writes the buffer back. -/
theorem flush9 : ∀ t : Fin cfg0.N, (cfg0.win 9).flush t = decide (t.val = 31) :=
  (by decide +kernel : ∀ t : Fin grid0.N, win0_9.flush t = decide (t.val = 31))

theorem emb9 (t : Fin cfg0.N) (i : S2x128x128.Idx) : (win0_9.rect t).emb i = i :=
  funext fun a => Fin.ext (by
    refine (Window.rect_emb_val win0_9 t i a).trans ?_
    rw [idx9]
    match a with
    | ⟨0, _⟩ => show 0 * 2 + (i 0 : Nat) = (i 0 : Nat); omega
    | ⟨1, _⟩ => show 0 * 128 + (i 1 : Nat) = (i 1 : Nat); omega
    | ⟨2, _⟩ => show 0 * 128 + (i 2 : Nat) = (i 2 : Nat); omega)

theorem flushed9_eq (c : Dev nD) (t : Fin cfg0.N) (ht : t.val = 31) :
    (dats m 0 c).flushed 9 t = ((cfg0.win 9).blk t).view.read (Elt Ideal) (lastV (A0 m c)) := by
  show (cfg0.win 9).cut (grid0.coords t) ((dats m 0 c).after 9 t) = _
  rw [after0_9]
  funext y
  rw [View.read_apply]
  show _ = lastV (A0 m c) ((win0_9.rect t).emb y)
  rw [emb9]
  refine (point_eq m c t (by omega) y).trans ?_
  unfold held lastV
  refine (blk0 m c t _ _ _).trans (congrArg (A0 m c) (funext fun a => Fin.ext ?_))
  match a with
  | ⟨0, _⟩ => show (y 0 : Nat) * 4096 + (t.val * 128 + (y 1 : Nat)) = (y 0 : Nat) * 4096 + 3968 + (y 1 : Nat); omega
  | ⟨1, _⟩ => rfl

theorem mem_blk9 (t : Fin cfg0.N) (i : S2x128x128.Idx) :
    i ∈ ((cfg0.win 9).blk t).view.set ↔ ∀ a, win0_9.index t a * win0_9.size a ≤ (i a : Nat)
      ∧ (i a : Nat) < win0_9.index t a * win0_9.size a + win0_9.xsize (grid0.coords t) a := by
  show i ∈ ((View.whole main_v48_2).slice (win0_9.rect t)).set ↔ _
  rw [View.set_slice_whole, Rect.mem_set_unit]

theorem final9 (c : Dev nD) : (dats m 0 c).arrAt 9 cfg0.N = lastV (A0 m c) :=
  (dats m 0 c).arrAt_eq_of_cover 9 _ (fun t ht => flushed9_eq m c t (of_decide_eq_true ((flush9 t).symm.trans ht))) fun (i : S2x128x128.Idx) => by
    have hi0 : (i 0 : Nat) < 2 := (i 0).isLt
    have hi1 : (i 1 : Nat) < 128 := (i 1).isLt
    have hi2 : (i 2 : Nat) < 128 := (i 2).isLt
    have hp : 31 < cfg0.N := by rw [show cfg0.N = 32 from N_0]; decide
    refine ⟨⟨31, hp⟩, (flush9 _).trans (decide_eq_true rfl), (mem_blk9 ⟨31, hp⟩ i).mpr fun a => ?_⟩
    rw [idx9]
    match a with
    | ⟨0, _⟩ => show 0 * 2 ≤ (i 0 : Nat) ∧ (i 0 : Nat) < 0 * 2 + 2; omega
    | ⟨1, _⟩ => show 0 * 128 ≤ (i 1 : Nat) ∧ (i 1 : Nat) < 0 * 128 + 128; omega
    | ⟨2, _⟩ => show 0 * 128 ≤ (i 2 : Nat) ∧ (i 2 : Nat) < 0 * 128 + 128; omega

/-- The run: the values, the arguments unchanged. -/
theorem run : θ_run (defs (F := Ideal)) (onTc (τ := τ) (main (F := Ideal))) ⟨m, fun _ => 0, ρ⟩ fun r => ∀ c : Dev nD,
      r.2.mem ((c : Thread nD τ).loc main_v48_2) = lastV (A0 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 9).trans (final9 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

/-- The reference's slices. -/
theorem ref_eq (z : S8192x768.Idx → EReal) : (Cert.AttnPromptRefIdeal.Read.val_main_v2 (F := Ideal) z : S2x128x128.Idx → EReal) = lastV z := by
  funext i
  rw [Cert.AttnPromptRefIdeal.Read.val_main_v2_apply, Cert.AttnPromptRefIdeal.Read.val_main_v1_apply, Cert.AttnPromptRefIdeal.Read.val_main_v0_apply]
  have h0 : (i 0 : Nat) < 2 := (i 0).isLt
  have h1 : (i 1 : Nat) < 128 := (i 1).isLt
  have h2 : (i 2 : Nat) < 128 := (i 2).isLt
  refine congrArg z (funext fun a => Fin.ext ?_)
  match a with
  | ⟨0, _⟩ => show (((i 0 : Nat) * 4096 + (3968 + (i 1 : Nat))) * 128 + (i 2 : Nat)) / 128 = (i 0 : Nat) * 4096 + 3968 + (i 1 : Nat); omega
  | ⟨1, _⟩ => show 640 + (((i 0 : Nat) * 4096 + (3968 + (i 1 : Nat))) * 128 + (i 2 : Nat)) % 128 = 640 + (i 2 : Nat); omega

end Cert.Proof.AttnPrompt

end
-- ==== Proof.lean ====
module

public import proofs.«01_k».proof.Defs
public import proofs.«01_k».proof.Proof.Gen.GateLayout.Frame
public import proofs.«01_k».proof.Proof.Gen.Merge.Frame
public import proofs.«01_k».proof.Proof.Gen.OutProj.Frame
public import proofs.«01_k».proof.Proof.Gen.Ffn.Frame
public import proofs.«01_k».proof.Proof.Gen.GateLayout.Value
public import proofs.«01_k».proof.Proof.Gen.GateLayoutRef.Run
public import proofs.«01_k».proof.Proof.Gen.GateLayoutRef.Read
public import proofs.«01_k».proof.Proof.GateLayout
public import proofs.«01_k».proof.Proof.Merge
public import proofs.«01_k».proof.Proof.OutProj
public import proofs.«01_k».proof.Proof.Ffn
public import proofs.«01_k».proof.Proof.Gen.FfnSample.Frame
public import proofs.«01_k».proof.Proof.FfnSample
public import proofs.«01_k».proof.Proof.Gen.InProj.Frame
public import proofs.«01_k».proof.Proof.InProj
public import proofs.«01_k».proof.Proof.Gen.SgSample.Frame
public import proofs.«01_k».proof.Proof.SgSample
public import proofs.«01_k».proof.Proof.Gen.SsmSample.Frame
public import proofs.«01_k».proof.Proof.SsmSample
public import proofs.«01_k».proof.Proof.Gen.DnSample.Frame
public import proofs.«01_k».proof.Proof.DnSample
public import Idealize.ShloMosaic.Lib.Claim
public import Idealize.ShloMosaic.Lib.Quiescent
public import Idealize.ShloMosaic.Adequacy
public import Idealize.ShloMosaic.Init
public import proofs.«01_k».proof.Proof.Gen.AttnSample.Frame
public import proofs.«01_k».proof.Proof.AttnSample
public import proofs.«01_k».proof.Proof.DnPrompt
public import proofs.«01_k».proof.Proof.AttnPrompt

@[expose] public section

noncomputable section

namespace Cert.Proof

open Idealize.ShloMosaic Idealize.SL.Sem

/-- The gate rows, to the bit: the kernel's run read at the machine's own floats, and the reference's. -/
theorem gateLayout_bits : Cert.bitexact_GateLayout_GateLayoutRef
    (hGateLayout := Cert.GateLayout.Gen.facts) (hGateLayoutRef := Cert.GateLayoutRef.Gen.facts) := by
  pair_intro
  · exact GateLayout.run_bits m g
  · refine (θ_run _ _ _).mono (fun r h c => ?_) (Cert.GateLayoutRef.Value.run (F := Bits) m' g')
    refine ⟨(h c).1.trans ?_, (h c).2⟩
    rw [(hagree c).1, (hagree c).2]
    exact GateLayout.ref_eq (F := Bits) _ _

/-- The gate rows over the extended reals. -/
theorem gateLayout_ideal : Cert.algebraic_GateLayoutIdeal_GateLayoutRefIdeal
    (hGateLayoutIdeal := Cert.GateLayoutIdeal.Gen.facts) (hGateLayoutRefIdeal := Cert.GateLayoutRefIdeal.Gen.facts) := by
  pair_intro
  · exact GateLayout.run (F := Ideal) m g
  · refine (θ_run _ _ _).mono (fun r h c => ?_) (Cert.GateLayoutRefIdeal.Value.run (F := Ideal) m' g')
    refine ⟨(h c).1.trans ?_, (h c).2⟩
    rw [(hagree c).1, (hagree c).2]
    exact GateLayout.ref_eq (F := Ideal) _ _

/-- The merge over the extended reals. -/
theorem merge_ideal : Cert.algebraic_MergeIdeal_MergeRefIdeal
    (hMergeIdeal := Cert.MergeIdeal.Gen.facts) (hMergeRefIdeal := Cert.MergeRefIdeal.Gen.facts) := by
  pair_intro
  · exact Merge.run m g
  · refine (θ_run _ _ _).mono (fun r h c => ?_) (Cert.MergeRefIdeal.Value.run (F := Ideal) m' g')
    refine ⟨(h c).1.trans ?_, (h c).2⟩
    rw [(hagree c).1, (hagree c).2.1, (hagree c).2.2.1, (hagree c).2.2.2]
    exact Merge.ref_eq _ _ _ _

/-- The out-projection over the extended reals, both results. -/
theorem outProj_ideal : Cert.algebraic_OutProjIdeal_OutProjRefIdeal
    (hOutProjIdeal := Cert.OutProjIdeal.Gen.facts) (hOutProjRefIdeal := Cert.OutProjRefIdeal.Gen.facts) := by
  pair_intro
  · exact OutProj.run m g
  · refine (θ_run _ _ _).mono (fun r h c => ?_) (Cert.OutProjRefIdeal.Value.run (F := Ideal) m' g')
    refine ⟨(h c).1.trans ?_, (h c).2.1.trans ?_, (h c).2.2⟩
    · rw [(hagree c).1, (hagree c).2.1, (hagree c).2.2.1]
      exact OutProj.ref_eq _ _ _
    · rw [(hagree c).1, (hagree c).2.1, (hagree c).2.2.1, (hagree c).2.2.2]
      exact OutProj.ref_norm_eq _ _ _ _

/-- The feed-forward call over the extended reals, both results. -/
theorem ffn_ideal : Cert.algebraic_FfnIdeal_FfnRefIdeal
    (hFfnIdeal := Cert.FfnIdeal.Gen.facts) (hFfnRefIdeal := Cert.FfnRefIdeal.Gen.facts) := by
  pair_intro
  · exact Ffn.run m g
  · refine (θ_run _ _ _).mono (fun r h c => ?_) (Cert.FfnRefIdeal.Value.run (F := Ideal) m' g')
    refine ⟨(h c).1.trans ?_, (h c).2.1.trans ?_, (h c).2.2⟩
    · rw [(hagree c).1, (hagree c).2.1, (hagree c).2.2.1, (hagree c).2.2.2.1]
      exact Ffn.ref_eq _ _ _ _
    · rw [(hagree c).1, (hagree c).2.1, (hagree c).2.2.1, (hagree c).2.2.2.1, (hagree c).2.2.2.2]
      exact Ffn.ref_norm_eq _ _ _ _ _

/-- The feed-forward call on the sample rows over the extended reals, both results. -/
theorem ffnSample_ideal : Cert.algebraic_FfnSampleIdeal_FfnSampleRefIdeal
    (hFfnSampleIdeal := Cert.FfnSampleIdeal.Gen.facts) (hFfnSampleRefIdeal := Cert.FfnSampleRefIdeal.Gen.facts) := by
  pair_intro
  · exact FfnSample.run m g
  · refine (θ_run _ _ _).mono (fun r h c => ?_) (Cert.FfnSampleRefIdeal.Value.run (F := Ideal) m' g')
    refine ⟨(h c).1.trans ?_, (h c).2.1.trans ?_, (h c).2.2⟩
    · rw [(hagree c).1, (hagree c).2.1, (hagree c).2.2.1, (hagree c).2.2.2.1]
      exact FfnSample.ref_eq _ _ _ _
    · rw [(hagree c).1, (hagree c).2.1, (hagree c).2.2.1, (hagree c).2.2.2.1, (hagree c).2.2.2.2]
      exact FfnSample.ref_norm_eq _ _ _ _ _

/-- The input projection and the chunked spatial gating over the extended reals, all five results. -/
theorem inProj_ideal : Cert.algebraic_InProjIdeal_InProjRefIdeal
    (hInProjIdeal := Cert.InProjIdeal.Gen.facts) (hInProjRefIdeal := Cert.InProjRefIdeal.Gen.facts) := by
  pair_intro
  · exact InProj.run m g
  · refine (θ_run _ _ _).mono (fun r h c => ?_) (Cert.InProjRefIdeal.Value.run (F := Ideal) m' g')
    refine ⟨(h c).1.trans ?_, (h c).2.1.trans ?_, (h c).2.2.1.trans ?_, (h c).2.2.2.1.trans ?_, (h c).2.2.2.2.1.trans ?_, (h c).2.2.2.2.2⟩
    · rw [(hagree c).1, (hagree c).2.1]
      exact InProj.ref_att_eq _ _
    · rw [(hagree c).1, (hagree c).2.1]
      exact InProj.ref_ssm_eq _ _
    · rw [(hagree c).1, (hagree c).2.1]
      exact InProj.ref_dn_eq _ _
    · rw [Cert.InProjRefIdeal.Read.val_main_v54_eq, (hagree c).1, (hagree c).2.1, (hagree c).2.2.1, (hagree c).2.2.2.1, (hagree c).2.2.2.2]
      exact InProj.ref_y_eq _ _ _ _ _
    · rw [Cert.InProjRefIdeal.Read.val_main_v56_eq, (hagree c).1, (hagree c).2.1, (hagree c).2.2.1]
      exact InProj.ref_v_eq _ _ _

/-- The spatial gating of the sample rows over the extended reals, both results. -/
theorem sgSample_ideal : Cert.algebraic_SgSampleIdeal_SgSampleRefIdeal
    (hSgSampleIdeal := Cert.SgSampleIdeal.Gen.facts) (hSgSampleRefIdeal := Cert.SgSampleRefIdeal.Gen.facts) := by
  pair_intro
  · exact SgSample.run m g
  · refine (θ_run _ _ _).mono (fun r h c => ?_) (Cert.SgSampleRefIdeal.Value.run (F := Ideal) m' g')
    refine ⟨(h c).1.trans ?_, (h c).2.1.trans ?_, (h c).2.2⟩
    · rw [Cert.SgSampleRefIdeal.Read.val_main_v47_eq, (hagree c).1, (hagree c).2.1, (hagree c).2.2.1, (hagree c).2.2.2]
      exact SgSample.ref_eq _ _ _ _
    · rw [(hagree c).1, (hagree c).2.1]
      exact SgSample.ref_v_eq _ _

/-- One step of the state-space branch over the extended reals, all three results. -/
theorem ssmSample_ideal : Cert.algebraic_SsmSampleIdeal_SsmSampleRefIdeal
    (hSsmSampleIdeal := Cert.SsmSampleIdeal.Gen.facts) (hSsmSampleRefIdeal := Cert.SsmSampleRefIdeal.Gen.facts) := by
  pair_intro
  · exact SsmSample.run m g
  · refine (θ_run _ _ _).mono (fun r h c => ?_) (Cert.SsmSampleRefIdeal.Value.run (F := Ideal) m' g')
    refine ⟨(h c).1.trans ?_, (h c).2.1.trans ?_, (h c).2.2.1.trans ?_, (h c).2.2.2⟩
    · refine (Cert.SsmSampleRefIdeal.Read.val_main_v129_eq (StableHlo.launchContents m' c)).trans ?_
      show Cert.SsmSampleRefIdeal.Read.val_main_v129 (F := Ideal) (m' (c.tc.loc Cert.SsmSampleRefIdeal.main_arg0)) (m' (c.tc.loc Cert.SsmSampleRefIdeal.main_arg1)) (m' (c.tc.loc Cert.SsmSampleRefIdeal.main_arg2)) (m' (c.tc.loc Cert.SsmSampleRefIdeal.main_arg3)) (m' (c.tc.loc Cert.SsmSampleRefIdeal.main_arg4)) (m' (c.tc.loc Cert.SsmSampleRefIdeal.main_arg5)) (m' (c.tc.loc Cert.SsmSampleRefIdeal.main_arg6)) (m' (c.tc.loc Cert.SsmSampleRefIdeal.main_arg7)) (m' (c.tc.loc Cert.SsmSampleRefIdeal.main_arg8)) (m' (c.tc.loc Cert.SsmSampleRefIdeal.main_arg9)) (m' (c.tc.loc Cert.SsmSampleRefIdeal.main_arg10)) (m' (c.tc.loc Cert.SsmSampleRefIdeal.main_arg11)) (m' (c.tc.loc Cert.SsmSampleRefIdeal.main_arg12)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      exact SsmSample.ref_y_eq _ _ _ _ _ _ _ _ _ _ _ _ _
    · refine (Cert.SsmSampleRefIdeal.Read.val_main_v130_eq (StableHlo.launchContents m' c)).trans ?_
      show Cert.SsmSampleRefIdeal.Read.val_main_v130 (F := Ideal) (m' (c.tc.loc Cert.SsmSampleRefIdeal.main_arg0)) (m' (c.tc.loc Cert.SsmSampleRefIdeal.main_arg1)) (m' (c.tc.loc Cert.SsmSampleRefIdeal.main_arg2)) (m' (c.tc.loc Cert.SsmSampleRefIdeal.main_arg3)) (m' (c.tc.loc Cert.SsmSampleRefIdeal.main_arg4)) (m' (c.tc.loc Cert.SsmSampleRefIdeal.main_arg5)) (m' (c.tc.loc Cert.SsmSampleRefIdeal.main_arg6)) (m' (c.tc.loc Cert.SsmSampleRefIdeal.main_arg7)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact SsmSample.ref_re_eq _ _ _ _ _ _ _ _
    · refine (Cert.SsmSampleRefIdeal.Read.val_main_v131_eq (StableHlo.launchContents m' c)).trans ?_
      show Cert.SsmSampleRefIdeal.Read.val_main_v131 (F := Ideal) (m' (c.tc.loc Cert.SsmSampleRefIdeal.main_arg0)) (m' (c.tc.loc Cert.SsmSampleRefIdeal.main_arg1)) (m' (c.tc.loc Cert.SsmSampleRefIdeal.main_arg2)) (m' (c.tc.loc Cert.SsmSampleRefIdeal.main_arg3)) (m' (c.tc.loc Cert.SsmSampleRefIdeal.main_arg4)) (m' (c.tc.loc Cert.SsmSampleRefIdeal.main_arg5)) (m' (c.tc.loc Cert.SsmSampleRefIdeal.main_arg6)) (m' (c.tc.loc Cert.SsmSampleRefIdeal.main_arg7)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1]
      exact SsmSample.ref_im_eq _ _ _ _ _ _ _ _

/-- One token of the delta-rule branch over the extended reals, all three results. -/
theorem dnSample_ideal : Cert.algebraic_DnSampleIdeal_DnSampleRefIdeal
    (hDnSampleIdeal := Cert.DnSampleIdeal.Gen.facts) (hDnSampleRefIdeal := Cert.DnSampleRefIdeal.Gen.facts) := by
  pair_intro
  · exact DnSample.run m g
  · refine (θ_run _ _ _).mono (fun r h c => ?_) (Cert.DnSampleRefIdeal.Value.run (F := Ideal) m' g')
    refine ⟨(h c).1.trans ?_, (h c).2.1.trans ?_, (h c).2.2.1.trans ?_, (h c).2.2.2⟩
    · refine (Cert.DnSampleRefIdeal.Read.val_main_v133_eq (StableHlo.launchContents m' c)).trans ?_
      show Cert.DnSampleRefIdeal.Read.val_main_v133 (F := Ideal) (m' (c.tc.loc Cert.DnSampleRefIdeal.main_arg0)) (m' (c.tc.loc Cert.DnSampleRefIdeal.main_arg1)) (m' (c.tc.loc Cert.DnSampleRefIdeal.main_arg2)) (m' (c.tc.loc Cert.DnSampleRefIdeal.main_arg4)) (m' (c.tc.loc Cert.DnSampleRefIdeal.main_arg5)) (m' (c.tc.loc Cert.DnSampleRefIdeal.main_arg6)) (m' (c.tc.loc Cert.DnSampleRefIdeal.main_arg7)) = _
      rw [(hagree c).1, (hagree c).2.1, (hagree c).2.2.1, (hagree c).2.2.2.2.1, (hagree c).2.2.2.2.2.1, (hagree c).2.2.2.2.2.2.1, (hagree c).2.2.2.2.2.2.2]
      exact DnRef.y_eq _ _ _ _ _ _ _
    · refine (Cert.DnSampleRefIdeal.Read.val_main_v137_eq (StableHlo.launchContents m' c)).trans ?_
      show Cert.DnSampleRefIdeal.Read.val_main_v137 (F := Ideal) (m' (c.tc.loc Cert.DnSampleRefIdeal.main_arg0)) (m' (c.tc.loc Cert.DnSampleRefIdeal.main_arg1)) (m' (c.tc.loc Cert.DnSampleRefIdeal.main_arg2)) (m' (c.tc.loc Cert.DnSampleRefIdeal.main_arg3)) (m' (c.tc.loc Cert.DnSampleRefIdeal.main_arg4)) (m' (c.tc.loc Cert.DnSampleRefIdeal.main_arg5)) (m' (c.tc.loc Cert.DnSampleRefIdeal.main_arg6)) = _
      rw [(hagree c).1, (hagree c).2.1, (hagree c).2.2.1, (hagree c).2.2.2.1, (hagree c).2.2.2.2.1, (hagree c).2.2.2.2.2.1, (hagree c).2.2.2.2.2.2.1]
      exact DnRef.st_eq _ _ _ _ _ _ _ _
    · refine (Cert.DnSampleRefIdeal.Read.val_main_v141_eq (StableHlo.launchContents m' c)).trans ?_
      show Cert.DnSampleRefIdeal.Read.val_main_v141 (F := Ideal) (m' (c.tc.loc Cert.DnSampleRefIdeal.main_arg0)) (m' (c.tc.loc Cert.DnSampleRefIdeal.main_arg1)) = _
      rw [(hagree c).1, (hagree c).2.1]
      exact DnRef.cv_eq _ _ _ _ _ _ _

/-- The precondition's two shape relations. -/
theorem pre_finite_k_facts : Cert.Pre_finite_k.Facts := ⟨by decide, by decide⟩

/-- The precondition says that every number of the rows' keys is finite. -/
theorem keys_finite (m : (ℓ : Loc Cert.AttnSampleIdeal.nD Cert.AttnSampleIdeal.τ Cert.AttnSampleIdeal.sig) → Buf (Elt Ideal) ℓ)
    (h : Cert.Pre_AttnSampleIdeal_finite_k (hPre_finite_k := pre_finite_k_facts) m) : AttnSample.Fin0 m := fun c b k => by
  refine AttnSpec.finite_of _ (Eq.trans ?_ (congrFun (h c) (ValueIdx.ix2 b k)))
  refine congrArg (fun x : EReal => Ideal.cmp .olt (max x (-x)) (Ideal.ofBits .f32 0x7F800000#32)) (Eq.symm ?_)
  refine extractStridedSlice_apply (s := Cert.Pre_finite_k.S32x768) (t := Cert.Pre_finite_k.S32x128) ![0, 512] _ _ (ValueIdx.ix2 b k) (ValueIdx.ix2 b (⟨512 + k.val, by omega⟩ : Fin 768)) (fun a => ?_)
  match a with
  | ⟨0, _⟩ => show b.val = 0 + b.val; omega
  | ⟨1, _⟩ => rfl

/-- The two caches of the attention on the sample rows over the extended reals, the rows' keys being finite. -/
theorem attnSample_ideal : Cert.algebraic_AttnSampleIdeal_AttnSampleRefIdeal_pre_finite_k
    (hAttnSampleIdeal := Cert.AttnSampleIdeal.Gen.facts) (hAttnSampleRefIdeal := Cert.AttnSampleRefIdeal.Gen.facts) (hPre_finite_k := pre_finite_k_facts) := by
  pair_intro
  · exact AttnSample.run m g (keys_finite m hpre)
  · refine (θ_run _ _ _).mono (fun r h c => ?_) (Cert.AttnSampleRefIdeal.Value.run (F := Ideal) m' g')
    refine ⟨(h c).1.trans ?_, (h c).2.1.trans ?_, (h c).2.2⟩
    · refine (Cert.AttnSampleRefIdeal.Read.val_main_v58_eq m' c).trans ?_
      rw [(hagree c).1, (hagree c).2.1, (hagree c).2.2.2.2.1]
      exact AttnRef.keys_eq _ _ _
    · refine (Cert.AttnSampleRefIdeal.Read.val_main_v59_eq _ _).trans ?_
      rw [(hagree c).1, (hagree c).2.2.1]
      exact AttnRef.vals_eq _ _

/-- The values the attention over the prompt leaves for the sample. -/
theorem attnPrompt_ideal : Cert.algebraic_AttnPromptIdeal_AttnPromptRefIdeal
    (hAttnPromptIdeal := Cert.AttnPromptIdeal.Gen.facts) (hAttnPromptRefIdeal := Cert.AttnPromptRefIdeal.Gen.facts) := by
  pair_intro
  · exact AttnPrompt.run m g
  · refine (θ_run _ _ _).mono (fun r h c => ?_) (Cert.AttnPromptRefIdeal.Value.run (F := Ideal) m' g')
    refine ⟨(h c).1.trans ?_, (h c).2⟩
    rw [(hagree c).1]
    exact AttnPrompt.ref_eq _

/-- The rows the delta rule over the prompt leaves for the sample. -/
theorem dnPrompt_ideal : Cert.algebraic_DnPromptIdeal_DnPromptRefIdeal
    (hDnPromptIdeal := Cert.DnPromptIdeal.Gen.facts) (hDnPromptRefIdeal := Cert.DnPromptRefIdeal.Gen.facts) := by
  pair_intro
  · exact DnPrompt.run m g
  · refine (θ_run _ _ _).mono (fun r h c => ?_) (Cert.DnPromptRefIdeal.Value.run (F := Ideal) m' g')
    refine ⟨(h c).1.trans ?_, (h c).2⟩
    rw [(hagree c).1]
    exact DnPrompt.ref_eq _

theorem claim : Cert.Claim := ⟨
  Cert.GateLayout.Gen.facts, Cert.GateLayoutIdeal.Gen.facts, Cert.GateLayoutRefIdeal.Gen.facts, Cert.GateLayoutRef.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Ffn.Gen.facts, Cert.FfnIdeal.Gen.facts, Cert.FfnRefIdeal.Gen.facts, Cert.FfnSample.Gen.facts, Cert.FfnSampleIdeal.Gen.facts, Cert.FfnSampleRefIdeal.Gen.facts, Cert.InProj.Gen.facts, Cert.InProjIdeal.Gen.facts, Cert.InProjRefIdeal.Gen.facts, Cert.SgSample.Gen.facts, Cert.SgSampleIdeal.Gen.facts, Cert.SgSampleRefIdeal.Gen.facts, Cert.SsmSample.Gen.facts, Cert.SsmSampleIdeal.Gen.facts, Cert.SsmSampleRefIdeal.Gen.facts, Cert.DnSample.Gen.facts, Cert.DnSampleIdeal.Gen.facts, Cert.DnSampleRefIdeal.Gen.facts, Cert.AttnSample.Gen.facts, Cert.AttnSampleIdeal.Gen.facts, Cert.AttnSampleRefIdeal.Gen.facts, Cert.AttnPrompt.Gen.facts, Cert.AttnPromptIdeal.Gen.facts, Cert.AttnPromptRefIdeal.Gen.facts, Cert.DnPrompt.Gen.facts, Cert.DnPromptIdeal.Gen.facts, Cert.DnPromptRefIdeal.Gen.facts, pre_finite_k_facts,
  fun m ρ _ => Cert.GateLayout.Gen.frame m ρ,
  fun m ρ _ => Cert.GateLayoutIdeal.Gen.frame m ρ,
  fun m g _ => (θ_run _ _ _).mono (fun r h => ⟨fun c => (h c).2, sem_eq_zero_of_no_sems rfl r.2⟩) (Cert.GateLayoutRefIdeal.Value.run m g),
  fun m g _ => (θ_run _ _ _).mono (fun r h => ⟨fun c => (h c).2, sem_eq_zero_of_no_sems rfl r.2⟩) (Cert.GateLayoutRef.Value.run m g),
  fun m ρ _ => Cert.Merge.Gen.frame m ρ,
  fun m ρ _ => Cert.MergeIdeal.Gen.frame m ρ,
  fun m g _ => (θ_run _ _ _).mono (fun r h => ⟨fun c => (h c).2, sem_eq_zero_of_no_sems rfl r.2⟩) (Cert.MergeRefIdeal.Value.run m g),
  fun m ρ _ => Cert.OutProj.Gen.frame m ρ,
  fun m ρ _ => Cert.OutProjIdeal.Gen.frame m ρ,
  fun m g _ => (θ_run _ _ _).mono (fun r h => ⟨fun c => (h c).2.2, sem_eq_zero_of_no_sems rfl r.2⟩) (Cert.OutProjRefIdeal.Value.run m g),
  fun m ρ _ => Cert.Ffn.Gen.frame m ρ,
  fun m ρ _ => Cert.FfnIdeal.Gen.frame m ρ,
  fun m g _ => (θ_run _ _ _).mono (fun r h => ⟨fun c => (h c).2.2, sem_eq_zero_of_no_sems rfl r.2⟩) (Cert.FfnRefIdeal.Value.run m g),
  fun m ρ _ => Cert.FfnSample.Gen.frame m ρ,
  fun m ρ _ => Cert.FfnSampleIdeal.Gen.frame m ρ,
  fun m g _ => (θ_run _ _ _).mono (fun r h => ⟨fun c => (h c).2.2, sem_eq_zero_of_no_sems rfl r.2⟩) (Cert.FfnSampleRefIdeal.Value.run m g),
  fun m ρ _ => Cert.InProj.Gen.frame m ρ,
  fun m ρ _ => Cert.InProjIdeal.Gen.frame m ρ,
  fun m g _ => (θ_run _ _ _).mono (fun r h => ⟨fun c => (h c).2.2.2.2.2, sem_eq_zero_of_no_sems rfl r.2⟩) (Cert.InProjRefIdeal.Value.run m g),
  fun m ρ _ => Cert.SgSample.Gen.frame m ρ,
  fun m ρ _ => Cert.SgSampleIdeal.Gen.frame m ρ,
  fun m g _ => (θ_run _ _ _).mono (fun r h => ⟨fun c => (h c).2.2, sem_eq_zero_of_no_sems rfl r.2⟩) (Cert.SgSampleRefIdeal.Value.run m g),
  fun m ρ _ => Cert.SsmSample.Gen.frame m ρ,
  fun m ρ _ => Cert.SsmSampleIdeal.Gen.frame m ρ,
  fun m g _ => (θ_run _ _ _).mono (fun r h => ⟨fun c => (h c).2.2.2, sem_eq_zero_of_no_sems rfl r.2⟩) (Cert.SsmSampleRefIdeal.Value.run m g),
  fun m ρ _ => Cert.DnSample.Gen.frame m ρ,
  fun m ρ _ => Cert.DnSampleIdeal.Gen.frame m ρ,
  fun m g _ => (θ_run _ _ _).mono (fun r h => ⟨fun c => (h c).2.2.2, sem_eq_zero_of_no_sems rfl r.2⟩) (Cert.DnSampleRefIdeal.Value.run m g),
  fun m ρ _ => Cert.AttnSample.Gen.frame m ρ,
  fun m ρ _ => Cert.AttnSampleIdeal.Gen.frame m ρ,
  fun m ρ _ => Cert.AttnSampleIdeal.Gen.frame m ρ,
  fun m g _ => (θ_run _ _ _).mono (fun r h => ⟨fun c => (h c).2.2, sem_eq_zero_of_no_sems rfl r.2⟩) (Cert.AttnSampleRefIdeal.Value.run m g),
  fun m g _ => (θ_run _ _ _).mono (fun r h => ⟨fun c => (h c).2.2, sem_eq_zero_of_no_sems rfl r.2⟩) (Cert.AttnSampleRefIdeal.Value.run m g),
  fun m ρ _ => Cert.AttnPrompt.Gen.frame m ρ,
  fun m ρ _ => Cert.AttnPromptIdeal.Gen.frame m ρ,
  fun m g _ => (θ_run _ _ _).mono (fun r h => ⟨fun c => (h c).2, sem_eq_zero_of_no_sems rfl r.2⟩) (Cert.AttnPromptRefIdeal.Value.run m g),
  fun m ρ _ => Cert.DnPrompt.Gen.frame m ρ,
  fun m ρ _ => Cert.DnPromptIdeal.Gen.frame m ρ,
  fun m g _ => (θ_run _ _ _).mono (fun r h => ⟨fun c => (h c).2, sem_eq_zero_of_no_sems rfl r.2⟩) (Cert.DnPromptRefIdeal.Value.run m g),
  trivial, gateLayout_bits, gateLayout_ideal, trivial, merge_ideal, trivial, outProj_ideal, trivial, ffn_ideal, trivial, ffnSample_ideal, trivial, inProj_ideal, trivial, sgSample_ideal, trivial, ssmSample_ideal, trivial, dnSample_ideal, trivial, attnSample_ideal, trivial, attnPrompt_ideal, trivial, dnPrompt_ideal⟩

end Cert.Proof

end
